-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Dwn (m : (ℓ : Loc Cert.Dwn.nD Cert.Dwn.τ Cert.Dwn.sig) → Buf (Elt Bits) ℓ) : Prop :=
  True

def Pre_DwnIdeal (m : (ℓ : Loc Cert.DwnIdeal.nD Cert.DwnIdeal.τ Cert.DwnIdeal.sig) → Buf (Elt Ideal) ℓ) : Prop :=
  True

def Pre_RefDwnIdeal (m : (ℓ : Loc Cert.RefDwnIdeal.nD Cert.RefDwnIdeal.τ Cert.RefDwnIdeal.sig) → Buf (Elt Ideal) ℓ) : Prop :=
  True

def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_RefDuIdeal (m : (ℓ : Loc Cert.RefDuIdeal.nD Cert.RefDuIdeal.τ Cert.RefDuIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_RefDyIdeal (m : (ℓ : Loc Cert.RefDyIdeal.nD Cert.RefDyIdeal.τ Cert.RefDyIdeal.sig) → Buf (Elt Ideal) ℓ) : Prop :=
  True

def Pre_Dwo (m : (ℓ : Loc Cert.Dwo.nD Cert.Dwo.τ Cert.Dwo.sig) → Buf (Elt Bits) ℓ) : Prop :=
  True

def Pre_DwoIdeal (m : (ℓ : Loc Cert.DwoIdeal.nD Cert.DwoIdeal.τ Cert.DwoIdeal.sig) → Buf (Elt Ideal) ℓ) : Prop :=
  True

def Pre_RefDwoIdeal (m : (ℓ : Loc Cert.RefDwoIdeal.nD Cert.RefDwoIdeal.τ Cert.RefDwoIdeal.sig) → Buf (Elt Ideal) ℓ) : Prop :=
  True

def Pre_Dcq (m : (ℓ : Loc Cert.Dcq.nD Cert.Dcq.τ Cert.Dcq.sig) → Buf (Elt Bits) ℓ) : Prop :=
  True

def Pre_DcqIdeal (m : (ℓ : Loc Cert.DcqIdeal.nD Cert.DcqIdeal.τ Cert.DcqIdeal.sig) → Buf (Elt Ideal) ℓ) : Prop :=
  True

def Pre_RefDcqIdeal (m : (ℓ : Loc Cert.RefDcqIdeal.nD Cert.RefDcqIdeal.τ Cert.RefDcqIdeal.sig) → Buf (Elt Ideal) ℓ) : Prop :=
  True

def Pre_Dwuq (m : (ℓ : Loc Cert.Dwuq.nD Cert.Dwuq.τ Cert.Dwuq.sig) → Buf (Elt Bits) ℓ) : Prop :=
  True

def Pre_DwuqIdeal (m : (ℓ : Loc Cert.DwuqIdeal.nD Cert.DwuqIdeal.τ Cert.DwuqIdeal.sig) → Buf (Elt Ideal) ℓ) : Prop :=
  True

def Pre_RefDwuqIdeal (m : (ℓ : Loc Cert.RefDwuqIdeal.nD Cert.RefDwuqIdeal.τ Cert.RefDwuqIdeal.sig) → Buf (Elt Ideal) ℓ) : Prop :=
  True

def Pre_Dckv (m : (ℓ : Loc Cert.Dckv.nD Cert.Dckv.τ Cert.Dckv.sig) → Buf (Elt Bits) ℓ) : Prop :=
  True

def Pre_DckvIdeal (m : (ℓ : Loc Cert.DckvIdeal.nD Cert.DckvIdeal.τ Cert.DckvIdeal.sig) → Buf (Elt Ideal) ℓ) : Prop :=
  True

def Pre_RefDckvIdeal (m : (ℓ : Loc Cert.RefDckvIdeal.nD Cert.RefDckvIdeal.τ Cert.RefDckvIdeal.sig) → Buf (Elt Ideal) ℓ) : Prop :=
  True

def Pre_Dwukv (m : (ℓ : Loc Cert.Dwukv.nD Cert.Dwukv.τ Cert.Dwukv.sig) → Buf (Elt Bits) ℓ) : Prop :=
  True

def Pre_DwukvIdeal (m : (ℓ : Loc Cert.DwukvIdeal.nD Cert.DwukvIdeal.τ Cert.DwukvIdeal.sig) → Buf (Elt Ideal) ℓ) : Prop :=
  True

def Pre_RefDwukvIdeal (m : (ℓ : Loc Cert.RefDwukvIdeal.nD Cert.RefDwukvIdeal.τ Cert.RefDwukvIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_UpQ (m : (ℓ : Loc Cert.UpQ.nD Cert.UpQ.τ Cert.UpQ.sig) → Buf (Elt Bits) ℓ) : Prop :=
  True

def Pre_UpQIdeal (m : (ℓ : Loc Cert.UpQIdeal.nD Cert.UpQIdeal.τ Cert.UpQIdeal.sig) → Buf (Elt Ideal) ℓ) : Prop :=
  True

def Pre_RefUpQIdeal (m : (ℓ : Loc Cert.RefUpQIdeal.nD Cert.RefUpQIdeal.τ Cert.RefUpQIdeal.sig) → Buf (Elt Ideal) ℓ) : Prop :=
  True

def Pre_UpKv (m : (ℓ : Loc Cert.UpKv.nD Cert.UpKv.τ Cert.UpKv.sig) → Buf (Elt Bits) ℓ) : Prop :=
  True

def Pre_UpKvIdeal (m : (ℓ : Loc Cert.UpKvIdeal.nD Cert.UpKvIdeal.τ Cert.UpKvIdeal.sig) → Buf (Elt Ideal) ℓ) : Prop :=
  True

def Pre_RefUpKvIdeal (m : (ℓ : Loc Cert.RefUpKvIdeal.nD Cert.RefUpKvIdeal.τ Cert.RefUpKvIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_RefOutProjIdeal (m : (ℓ : Loc Cert.RefOutProjIdeal.nD Cert.RefOutProjIdeal.τ Cert.RefOutProjIdeal.sig) → Buf (Elt Ideal) ℓ) : Prop :=
  True

def Pre_MlaBwd (m : (ℓ : Loc Cert.MlaBwd.nD Cert.MlaBwd.τ Cert.MlaBwd.sig) → Buf (Elt Bits) ℓ) : Prop :=
  True

def Pre_MlaBwdIdeal (m : (ℓ : Loc Cert.MlaBwdIdeal.nD Cert.MlaBwdIdeal.τ Cert.MlaBwdIdeal.sig) → Buf (Elt Ideal) ℓ) : Prop :=
  True

def Pre_MlaBwdIdeal_finite_mla [hPre_finite_mla : Cert.Pre_finite_mla.Facts] (m : (ℓ : Loc Cert.MlaBwdIdeal.nD Cert.MlaBwdIdeal.τ Cert.MlaBwdIdeal.sig) → Buf (Elt Ideal) ℓ) : Prop :=
  ∀ c : Dev Cert.MlaBwdIdeal.nD,
    (Cert.Pre_finite_mla.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3))) = (fun _ => 1#1)

def Pre_RefMlaBwdIdeal (m : (ℓ : Loc Cert.RefMlaBwdIdeal.nD Cert.RefMlaBwdIdeal.τ Cert.RefMlaBwdIdeal.sig) → Buf (Elt Ideal) ℓ) : Prop :=
  True

def Pre_RefMlaBwdIdeal_finite_mla [hPre_finite_mla : Cert.Pre_finite_mla.Facts] (m : (ℓ : Loc Cert.RefMlaBwdIdeal.nD Cert.RefMlaBwdIdeal.τ Cert.RefMlaBwdIdeal.sig) → Buf (Elt Ideal) ℓ) : Prop :=
  ∀ c : Dev Cert.RefMlaBwdIdeal.nD,
    (Cert.Pre_finite_mla.fn (F := Ideal) (m ((c.tc : Thread Cert.RefMlaBwdIdeal.nD Cert.RefMlaBwdIdeal.τ).loc Cert.RefMlaBwdIdeal.main_arg0)) (m ((c.tc : Thread Cert.RefMlaBwdIdeal.nD Cert.RefMlaBwdIdeal.τ).loc Cert.RefMlaBwdIdeal.main_arg1)) (m ((c.tc : Thread Cert.RefMlaBwdIdeal.nD Cert.RefMlaBwdIdeal.τ).loc Cert.RefMlaBwdIdeal.main_arg2)) (m ((c.tc : Thread Cert.RefMlaBwdIdeal.nD Cert.RefMlaBwdIdeal.τ).loc Cert.RefMlaBwdIdeal.main_arg3))) = (fun _ => 1#1)

def Pre_AdamMeta (m : (ℓ : Loc Cert.AdamMeta.nD Cert.AdamMeta.τ Cert.AdamMeta.sig) → Buf (Elt Bits) ℓ) : Prop :=
  True

def Pre_AdamMetaIdeal (m : (ℓ : Loc Cert.AdamMetaIdeal.nD Cert.AdamMetaIdeal.τ Cert.AdamMetaIdeal.sig) → Buf (Elt Ideal) ℓ) : Prop :=
  True

def Pre_RefAdamMetaIdeal (m : (ℓ : Loc Cert.RefAdamMetaIdeal.nD Cert.RefAdamMetaIdeal.τ Cert.RefAdamMetaIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_RefAdamSmallIdeal (m : (ℓ : Loc Cert.RefAdamSmallIdeal.nD Cert.RefAdamSmallIdeal.τ Cert.RefAdamSmallIdeal.sig) → Buf (Elt Ideal) ℓ) : Prop :=
  True

def Pre_SumA (m : (ℓ : Loc Cert.SumA.nD Cert.SumA.τ Cert.SumA.sig) → Buf (Elt Bits) ℓ) : Prop :=
  True

def Pre_SumAIdeal (m : (ℓ : Loc Cert.SumAIdeal.nD Cert.SumAIdeal.τ Cert.SumAIdeal.sig) → Buf (Elt Ideal) ℓ) : Prop :=
  True

def Pre_RefSumAIdeal (m : (ℓ : Loc Cert.RefSumAIdeal.nD Cert.RefSumAIdeal.τ Cert.RefSumAIdeal.sig) → Buf (Elt Ideal) ℓ) : Prop :=
  True

def Pre_SumB (m : (ℓ : Loc Cert.SumB.nD Cert.SumB.τ Cert.SumB.sig) → Buf (Elt Bits) ℓ) : Prop :=
  True

def Pre_SumBIdeal (m : (ℓ : Loc Cert.SumBIdeal.nD Cert.SumBIdeal.τ Cert.SumBIdeal.sig) → Buf (Elt Ideal) ℓ) : Prop :=
  True

def Pre_RefSumBIdeal (m : (ℓ : Loc Cert.RefSumBIdeal.nD Cert.RefSumBIdeal.τ Cert.RefSumBIdeal.sig) → Buf (Elt Ideal) ℓ) : Prop :=
  True

def Pre_AdamO (m : (ℓ : Loc Cert.AdamO.nD Cert.AdamO.τ Cert.AdamO.sig) → Buf (Elt Bits) ℓ) : Prop :=
  True

def Pre_AdamOIdeal (m : (ℓ : Loc Cert.AdamOIdeal.nD Cert.AdamOIdeal.τ Cert.AdamOIdeal.sig) → Buf (Elt Ideal) ℓ) : Prop :=
  True

def Pre_RefAdamOIdeal (m : (ℓ : Loc Cert.RefAdamOIdeal.nD Cert.RefAdamOIdeal.τ Cert.RefAdamOIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_RefAdamInIdeal (m : (ℓ : Loc Cert.RefAdamInIdeal.nD Cert.RefAdamInIdeal.τ Cert.RefAdamInIdeal.sig) → Buf (Elt Ideal) ℓ) : Prop :=
  True

def Pre_AdamUq (m : (ℓ : Loc Cert.AdamUq.nD Cert.AdamUq.τ Cert.AdamUq.sig) → Buf (Elt Bits) ℓ) : Prop :=
  True

def Pre_AdamUqIdeal (m : (ℓ : Loc Cert.AdamUqIdeal.nD Cert.AdamUqIdeal.τ Cert.AdamUqIdeal.sig) → Buf (Elt Ideal) ℓ) : Prop :=
  True

def Pre_RefAdamUqIdeal (m : (ℓ : Loc Cert.RefAdamUqIdeal.nD Cert.RefAdamUqIdeal.τ Cert.RefAdamUqIdeal.sig) → Buf (Elt Ideal) ℓ) : Prop :=
  True

def Pre_AdamUkv (m : (ℓ : Loc Cert.AdamUkv.nD Cert.AdamUkv.τ Cert.AdamUkv.sig) → Buf (Elt Bits) ℓ) : Prop :=
  True

def Pre_AdamUkvIdeal (m : (ℓ : Loc Cert.AdamUkvIdeal.nD Cert.AdamUkvIdeal.τ Cert.AdamUkvIdeal.sig) → Buf (Elt Ideal) ℓ) : Prop :=
  True

def Pre_RefAdamUkvIdeal (m : (ℓ : Loc Cert.RefAdamUkvIdeal.nD Cert.RefAdamUkvIdeal.τ Cert.RefAdamUkvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Dwn [hDwn : Cert.Dwn.Facts] : Prop :=
  ∀ (m : (ℓ : Loc Cert.Dwn.nD Cert.Dwn.τ Cert.Dwn.sig) → Buf (Elt Bits) ℓ) (g : Dev Cert.Dwn.nD → PrngReg), Pre_Dwn m →
    θ_run (Cert.Dwn.defs (F := Bits)) (onTc (τ := Cert.Dwn.τ) (Cert.Dwn.main (F := Bits))) ⟨m, fun _ => 0, g⟩ (fun r => (∀ c : Dev Cert.Dwn.nD,
      r.2.mem ((c.tc : Thread Cert.Dwn.nD Cert.Dwn.τ).loc Cert.Dwn.main_arg0) = m ((c.tc : Thread Cert.Dwn.nD Cert.Dwn.τ).loc Cert.Dwn.main_arg0)
      ∧ r.2.mem ((c.tc : Thread Cert.Dwn.nD Cert.Dwn.τ).loc Cert.Dwn.main_arg1) = m ((c.tc : Thread Cert.Dwn.nD Cert.Dwn.τ).loc Cert.Dwn.main_arg1))
      ∧ r.2.sem = fun _ => 0)

def quiescent_DwnIdeal [hDwnIdeal : Cert.DwnIdeal.Facts] : Prop :=
  ∀ (m : (ℓ : Loc Cert.DwnIdeal.nD Cert.DwnIdeal.τ Cert.DwnIdeal.sig) → Buf (Elt Ideal) ℓ) (g : Dev Cert.DwnIdeal.nD → PrngReg), Pre_DwnIdeal m →
    θ_run (Cert.DwnIdeal.defs (F := Ideal)) (onTc (τ := Cert.DwnIdeal.τ) (Cert.DwnIdeal.main (F := Ideal))) ⟨m, fun _ => 0, g⟩ (fun r => (∀ c : Dev Cert.DwnIdeal.nD,
      r.2.mem ((c.tc : Thread Cert.DwnIdeal.nD Cert.DwnIdeal.τ).loc Cert.DwnIdeal.main_arg0) = m ((c.tc : Thread Cert.DwnIdeal.nD Cert.DwnIdeal.τ).loc Cert.DwnIdeal.main_arg0)
      ∧ r.2.mem ((c.tc : Thread Cert.DwnIdeal.nD Cert.DwnIdeal.τ).loc Cert.DwnIdeal.main_arg1) = m ((c.tc : Thread Cert.DwnIdeal.nD Cert.DwnIdeal.τ).loc Cert.DwnIdeal.main_arg1))
      ∧ r.2.sem = fun _ => 0)

def quiescent_RefDwnIdeal [hRefDwnIdeal : Cert.RefDwnIdeal.Facts] : Prop :=
  ∀ (m : (ℓ : Loc Cert.RefDwnIdeal.nD Cert.RefDwnIdeal.τ Cert.RefDwnIdeal.sig) → Buf (Elt Ideal) ℓ) (g : Dev Cert.RefDwnIdeal.nD → PrngReg), Pre_RefDwnIdeal m →
    θ_run (Cert.RefDwnIdeal.defs (F := Ideal)) (onTc (τ := Cert.RefDwnIdeal.τ) (Cert.RefDwnIdeal.main (F := Ideal))) ⟨m, fun _ => 0, g⟩ (fun r => (∀ c : Dev Cert.RefDwnIdeal.nD,
      r.2.mem ((c.tc : Thread Cert.RefDwnIdeal.nD Cert.RefDwnIdeal.τ).loc Cert.RefDwnIdeal.main_arg0) = m ((c.tc : Thread Cert.RefDwnIdeal.nD Cert.RefDwnIdeal.τ).loc Cert.RefDwnIdeal.main_arg0)
      ∧ r.2.mem ((c.tc : Thread Cert.RefDwnIdeal.nD Cert.RefDwnIdeal.τ).loc Cert.RefDwnIdeal.main_arg1) = m ((c.tc : Thread Cert.RefDwnIdeal.nD Cert.RefDwnIdeal.τ).loc Cert.RefDwnIdeal.main_arg1))
      ∧ r.2.sem = fun _ => 0)

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1))
      ∧ r.2.sem = fun _ => 0)

def quiescent_RefDuIdeal [hRefDuIdeal : Cert.RefDuIdeal.Facts] : Prop :=
  ∀ (m : (ℓ : Loc Cert.RefDuIdeal.nD Cert.RefDuIdeal.τ Cert.RefDuIdeal.sig) → Buf (Elt Ideal) ℓ) (g : Dev Cert.RefDuIdeal.nD → PrngReg), Pre_RefDuIdeal m →
    θ_run (Cert.RefDuIdeal.defs (F := Ideal)) (onTc (τ := Cert.RefDuIdeal.τ) (Cert.RefDuIdeal.main (F := Ideal))) ⟨m, fun _ => 0, g⟩ (fun r => (∀ c : Dev Cert.RefDuIdeal.nD,
      r.2.mem ((c.tc : Thread Cert.RefDuIdeal.nD Cert.RefDuIdeal.τ).loc Cert.RefDuIdeal.main_arg0) = m ((c.tc : Thread Cert.RefDuIdeal.nD Cert.RefDuIdeal.τ).loc Cert.RefDuIdeal.main_arg0)
      ∧ r.2.mem ((c.tc : Thread Cert.RefDuIdeal.nD Cert.RefDuIdeal.τ).loc Cert.RefDuIdeal.main_arg1) = m ((c.tc : Thread Cert.RefDuIdeal.nD Cert.RefDuIdeal.τ).loc Cert.RefDuIdeal.main_arg1))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ r.2.sem = fun _ => 0)

def quiescent_RefDyIdeal [hRefDyIdeal : Cert.RefDyIdeal.Facts] : Prop :=
  ∀ (m : (ℓ : Loc Cert.RefDyIdeal.nD Cert.RefDyIdeal.τ Cert.RefDyIdeal.sig) → Buf (Elt Ideal) ℓ) (g : Dev Cert.RefDyIdeal.nD → PrngReg), Pre_RefDyIdeal m →
    θ_run (Cert.RefDyIdeal.defs (F := Ideal)) (onTc (τ := Cert.RefDyIdeal.τ) (Cert.RefDyIdeal.main (F := Ideal))) ⟨m, fun _ => 0, g⟩ (fun r => (∀ c : Dev Cert.RefDyIdeal.nD,
      r.2.mem ((c.tc : Thread Cert.RefDyIdeal.nD Cert.RefDyIdeal.τ).loc Cert.RefDyIdeal.main_arg0) = m ((c.tc : Thread Cert.RefDyIdeal.nD Cert.RefDyIdeal.τ).loc Cert.RefDyIdeal.main_arg0)
      ∧ r.2.mem ((c.tc : Thread Cert.RefDyIdeal.nD Cert.RefDyIdeal.τ).loc Cert.RefDyIdeal.main_arg1) = m ((c.tc : Thread Cert.RefDyIdeal.nD Cert.RefDyIdeal.τ).loc Cert.RefDyIdeal.main_arg1))
      ∧ r.2.sem = fun _ => 0)

def quiescent_Dwo [hDwo : Cert.Dwo.Facts] : Prop :=
  ∀ (m : (ℓ : Loc Cert.Dwo.nD Cert.Dwo.τ Cert.Dwo.sig) → Buf (Elt Bits) ℓ) (g : Dev Cert.Dwo.nD → PrngReg), Pre_Dwo m →
    θ_run (Cert.Dwo.defs (F := Bits)) (onTc (τ := Cert.Dwo.τ) (Cert.Dwo.main (F := Bits))) ⟨m, fun _ => 0, g⟩ (fun r => (∀ c : Dev Cert.Dwo.nD,
      r.2.mem ((c.tc : Thread Cert.Dwo.nD Cert.Dwo.τ).loc Cert.Dwo.main_arg0) = m ((c.tc : Thread Cert.Dwo.nD Cert.Dwo.τ).loc Cert.Dwo.main_arg0)
      ∧ r.2.mem ((c.tc : Thread Cert.Dwo.nD Cert.Dwo.τ).loc Cert.Dwo.main_arg1) = m ((c.tc : Thread Cert.Dwo.nD Cert.Dwo.τ).loc Cert.Dwo.main_arg1))
      ∧ r.2.sem = fun _ => 0)

def quiescent_DwoIdeal [hDwoIdeal : Cert.DwoIdeal.Facts] : Prop :=
  ∀ (m : (ℓ : Loc Cert.DwoIdeal.nD Cert.DwoIdeal.τ Cert.DwoIdeal.sig) → Buf (Elt Ideal) ℓ) (g : Dev Cert.DwoIdeal.nD → PrngReg), Pre_DwoIdeal m →
    θ_run (Cert.DwoIdeal.defs (F := Ideal)) (onTc (τ := Cert.DwoIdeal.τ) (Cert.DwoIdeal.main (F := Ideal))) ⟨m, fun _ => 0, g⟩ (fun r => (∀ c : Dev Cert.DwoIdeal.nD,
      r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
      ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ r.2.sem = fun _ => 0)

def quiescent_RefDwoIdeal [hRefDwoIdeal : Cert.RefDwoIdeal.Facts] : Prop :=
  ∀ (m : (ℓ : Loc Cert.RefDwoIdeal.nD Cert.RefDwoIdeal.τ Cert.RefDwoIdeal.sig) → Buf (Elt Ideal) ℓ) (g : Dev Cert.RefDwoIdeal.nD → PrngReg), Pre_RefDwoIdeal m →
    θ_run (Cert.RefDwoIdeal.defs (F := Ideal)) (onTc (τ := Cert.RefDwoIdeal.τ) (Cert.RefDwoIdeal.main (F := Ideal))) ⟨m, fun _ => 0, g⟩ (fun r => (∀ c : Dev Cert.RefDwoIdeal.nD,
      r.2.mem ((c.tc : Thread Cert.RefDwoIdeal.nD Cert.RefDwoIdeal.τ).loc Cert.RefDwoIdeal.main_arg0) = m ((c.tc : Thread Cert.RefDwoIdeal.nD Cert.RefDwoIdeal.τ).loc Cert.RefDwoIdeal.main_arg0)
      ∧ r.2.mem ((c.tc : Thread Cert.RefDwoIdeal.nD Cert.RefDwoIdeal.τ).loc Cert.RefDwoIdeal.main_arg1) = m ((c.tc : Thread Cert.RefDwoIdeal.nD Cert.RefDwoIdeal.τ).loc Cert.RefDwoIdeal.main_arg1))
      ∧ r.2.sem = fun _ => 0)

def quiescent_Dcq [hDcq : Cert.Dcq.Facts] : Prop :=
  ∀ (m : (ℓ : Loc Cert.Dcq.nD Cert.Dcq.τ Cert.Dcq.sig) → Buf (Elt Bits) ℓ) (g : Dev Cert.Dcq.nD → PrngReg), Pre_Dcq m →
    θ_run (Cert.Dcq.defs (F := Bits)) (onTc (τ := Cert.Dcq.τ) (Cert.Dcq.main (F := Bits))) ⟨m, fun _ => 0, g⟩ (fun r => (∀ c : Dev Cert.Dcq.nD,
      r.2.mem ((c.tc : Thread Cert.Dcq.nD Cert.Dcq.τ).loc Cert.Dcq.main_arg0) = m ((c.tc : Thread Cert.Dcq.nD Cert.Dcq.τ).loc Cert.Dcq.main_arg0)
      ∧ r.2.mem ((c.tc : Thread Cert.Dcq.nD Cert.Dcq.τ).loc Cert.Dcq.main_arg1) = m ((c.tc : Thread Cert.Dcq.nD Cert.Dcq.τ).loc Cert.Dcq.main_arg1))
      ∧ r.2.sem = fun _ => 0)

def quiescent_DcqIdeal [hDcqIdeal : Cert.DcqIdeal.Facts] : Prop :=
  ∀ (m : (ℓ : Loc Cert.DcqIdeal.nD Cert.DcqIdeal.τ Cert.DcqIdeal.sig) → Buf (Elt Ideal) ℓ) (g : Dev Cert.DcqIdeal.nD → PrngReg), Pre_DcqIdeal m →
    θ_run (Cert.DcqIdeal.defs (F := Ideal)) (onTc (τ := Cert.DcqIdeal.τ) (Cert.DcqIdeal.main (F := Ideal))) ⟨m, fun _ => 0, g⟩ (fun r => (∀ c : Dev Cert.DcqIdeal.nD,
      r.2.mem ((c.tc : Thread Cert.DcqIdeal.nD Cert.DcqIdeal.τ).loc Cert.DcqIdeal.main_arg0) = m ((c.tc : Thread Cert.DcqIdeal.nD Cert.DcqIdeal.τ).loc Cert.DcqIdeal.main_arg0)
      ∧ r.2.mem ((c.tc : Thread Cert.DcqIdeal.nD Cert.DcqIdeal.τ).loc Cert.DcqIdeal.main_arg1) = m ((c.tc : Thread Cert.DcqIdeal.nD Cert.DcqIdeal.τ).loc Cert.DcqIdeal.main_arg1))
      ∧ r.2.sem = fun _ => 0)

def quiescent_RefDcqIdeal [hRefDcqIdeal : Cert.RefDcqIdeal.Facts] : Prop :=
  ∀ (m : (ℓ : Loc Cert.RefDcqIdeal.nD Cert.RefDcqIdeal.τ Cert.RefDcqIdeal.sig) → Buf (Elt Ideal) ℓ) (g : Dev Cert.RefDcqIdeal.nD → PrngReg), Pre_RefDcqIdeal m →
    θ_run (Cert.RefDcqIdeal.defs (F := Ideal)) (onTc (τ := Cert.RefDcqIdeal.τ) (Cert.RefDcqIdeal.main (F := Ideal))) ⟨m, fun _ => 0, g⟩ (fun r => (∀ c : Dev Cert.RefDcqIdeal.nD,
      r.2.mem ((c.tc : Thread Cert.RefDcqIdeal.nD Cert.RefDcqIdeal.τ).loc Cert.RefDcqIdeal.main_arg0) = m ((c.tc : Thread Cert.RefDcqIdeal.nD Cert.RefDcqIdeal.τ).loc Cert.RefDcqIdeal.main_arg0)
      ∧ r.2.mem ((c.tc : Thread Cert.RefDcqIdeal.nD Cert.RefDcqIdeal.τ).loc Cert.RefDcqIdeal.main_arg1) = m ((c.tc : Thread Cert.RefDcqIdeal.nD Cert.RefDcqIdeal.τ).loc Cert.RefDcqIdeal.main_arg1))
      ∧ r.2.sem = fun _ => 0)

def quiescent_Dwuq [hDwuq : Cert.Dwuq.Facts] : Prop :=
  ∀ (m : (ℓ : Loc Cert.Dwuq.nD Cert.Dwuq.τ Cert.Dwuq.sig) → Buf (Elt Bits) ℓ) (g : Dev Cert.Dwuq.nD → PrngReg), Pre_Dwuq m →
    θ_run (Cert.Dwuq.defs (F := Bits)) (onTc (τ := Cert.Dwuq.τ) (Cert.Dwuq.main (F := Bits))) ⟨m, fun _ => 0, g⟩ (fun r => (∀ c : Dev Cert.Dwuq.nD,
      r.2.mem ((c.tc : Thread Cert.Dwuq.nD Cert.Dwuq.τ).loc Cert.Dwuq.main_arg0) = m ((c.tc : Thread Cert.Dwuq.nD Cert.Dwuq.τ).loc Cert.Dwuq.main_arg0)
      ∧ r.2.mem ((c.tc : Thread Cert.Dwuq.nD Cert.Dwuq.τ).loc Cert.Dwuq.main_arg1) = m ((c.tc : Thread Cert.Dwuq.nD Cert.Dwuq.τ).loc Cert.Dwuq.main_arg1))
      ∧ r.2.sem = fun _ => 0)

def quiescent_DwuqIdeal [hDwuqIdeal : Cert.DwuqIdeal.Facts] : Prop :=
  ∀ (m : (ℓ : Loc Cert.DwuqIdeal.nD Cert.DwuqIdeal.τ Cert.DwuqIdeal.sig) → Buf (Elt Ideal) ℓ) (g : Dev Cert.DwuqIdeal.nD → PrngReg), Pre_DwuqIdeal m →
    θ_run (Cert.DwuqIdeal.defs (F := Ideal)) (onTc (τ := Cert.DwuqIdeal.τ) (Cert.DwuqIdeal.main (F := Ideal))) ⟨m, fun _ => 0, g⟩ (fun r => (∀ c : Dev Cert.DwuqIdeal.nD,
      r.2.mem ((c.tc : Thread Cert.DwuqIdeal.nD Cert.DwuqIdeal.τ).loc Cert.DwuqIdeal.main_arg0) = m ((c.tc : Thread Cert.DwuqIdeal.nD Cert.DwuqIdeal.τ).loc Cert.DwuqIdeal.main_arg0)
      ∧ r.2.mem ((c.tc : Thread Cert.DwuqIdeal.nD Cert.DwuqIdeal.τ).loc Cert.DwuqIdeal.main_arg1) = m ((c.tc : Thread Cert.DwuqIdeal.nD Cert.DwuqIdeal.τ).loc Cert.DwuqIdeal.main_arg1))
      ∧ r.2.sem = fun _ => 0)

def quiescent_RefDwuqIdeal [hRefDwuqIdeal : Cert.RefDwuqIdeal.Facts] : Prop :=
  ∀ (m : (ℓ : Loc Cert.RefDwuqIdeal.nD Cert.RefDwuqIdeal.τ Cert.RefDwuqIdeal.sig) → Buf (Elt Ideal) ℓ) (g : Dev Cert.RefDwuqIdeal.nD → PrngReg), Pre_RefDwuqIdeal m →
    θ_run (Cert.RefDwuqIdeal.defs (F := Ideal)) (onTc (τ := Cert.RefDwuqIdeal.τ) (Cert.RefDwuqIdeal.main (F := Ideal))) ⟨m, fun _ => 0, g⟩ (fun r => (∀ c : Dev Cert.RefDwuqIdeal.nD,
      r.2.mem ((c.tc : Thread Cert.RefDwuqIdeal.nD Cert.RefDwuqIdeal.τ).loc Cert.RefDwuqIdeal.main_arg0) = m ((c.tc : Thread Cert.RefDwuqIdeal.nD Cert.RefDwuqIdeal.τ).loc Cert.RefDwuqIdeal.main_arg0)
      ∧ r.2.mem ((c.tc : Thread Cert.RefDwuqIdeal.nD Cert.RefDwuqIdeal.τ).loc Cert.RefDwuqIdeal.main_arg1) = m ((c.tc : Thread Cert.RefDwuqIdeal.nD Cert.RefDwuqIdeal.τ).loc Cert.RefDwuqIdeal.main_arg1))
      ∧ r.2.sem = fun _ => 0)

def quiescent_Dckv [hDckv : Cert.Dckv.Facts] : Prop :=
  ∀ (m : (ℓ : Loc Cert.Dckv.nD Cert.Dckv.τ Cert.Dckv.sig) → Buf (Elt Bits) ℓ) (g : Dev Cert.Dckv.nD → PrngReg), Pre_Dckv m →
    θ_run (Cert.Dckv.defs (F := Bits)) (onTc (τ := Cert.Dckv.τ) (Cert.Dckv.main (F := Bits))) ⟨m, fun _ => 0, g⟩ (fun r => (∀ c : Dev Cert.Dckv.nD,
      r.2.mem ((c.tc : Thread Cert.Dckv.nD Cert.Dckv.τ).loc Cert.Dckv.main_arg0) = m ((c.tc : Thread Cert.Dckv.nD Cert.Dckv.τ).loc Cert.Dckv.main_arg0)
      ∧ r.2.mem ((c.tc : Thread Cert.Dckv.nD Cert.Dckv.τ).loc Cert.Dckv.main_arg1) = m ((c.tc : Thread Cert.Dckv.nD Cert.Dckv.τ).loc Cert.Dckv.main_arg1))
      ∧ r.2.sem = fun _ => 0)

def quiescent_DckvIdeal [hDckvIdeal : Cert.DckvIdeal.Facts] : Prop :=
  ∀ (m : (ℓ : Loc Cert.DckvIdeal.nD Cert.DckvIdeal.τ Cert.DckvIdeal.sig) → Buf (Elt Ideal) ℓ) (g : Dev Cert.DckvIdeal.nD → PrngReg), Pre_DckvIdeal m →
    θ_run (Cert.DckvIdeal.defs (F := Ideal)) (onTc (τ := Cert.DckvIdeal.τ) (Cert.DckvIdeal.main (F := Ideal))) ⟨m, fun _ => 0, g⟩ (fun r => (∀ c : Dev Cert.DckvIdeal.nD,
      r.2.mem ((c.tc : Thread Cert.DckvIdeal.nD Cert.DckvIdeal.τ).loc Cert.DckvIdeal.main_arg0) = m ((c.tc : Thread Cert.DckvIdeal.nD Cert.DckvIdeal.τ).loc Cert.DckvIdeal.main_arg0)
      ∧ r.2.mem ((c.tc : Thread Cert.DckvIdeal.nD Cert.DckvIdeal.τ).loc Cert.DckvIdeal.main_arg1) = m ((c.tc : Thread Cert.DckvIdeal.nD Cert.DckvIdeal.τ).loc Cert.DckvIdeal.main_arg1))
      ∧ r.2.sem = fun _ => 0)

def quiescent_RefDckvIdeal [hRefDckvIdeal : Cert.RefDckvIdeal.Facts] : Prop :=
  ∀ (m : (ℓ : Loc Cert.RefDckvIdeal.nD Cert.RefDckvIdeal.τ Cert.RefDckvIdeal.sig) → Buf (Elt Ideal) ℓ) (g : Dev Cert.RefDckvIdeal.nD → PrngReg), Pre_RefDckvIdeal m →
    θ_run (Cert.RefDckvIdeal.defs (F := Ideal)) (onTc (τ := Cert.RefDckvIdeal.τ) (Cert.RefDckvIdeal.main (F := Ideal))) ⟨m, fun _ => 0, g⟩ (fun r => (∀ c : Dev Cert.RefDckvIdeal.nD,
      r.2.mem ((c.tc : Thread Cert.RefDckvIdeal.nD Cert.RefDckvIdeal.τ).loc Cert.RefDckvIdeal.main_arg0) = m ((c.tc : Thread Cert.RefDckvIdeal.nD Cert.RefDckvIdeal.τ).loc Cert.RefDckvIdeal.main_arg0)
      ∧ r.2.mem ((c.tc : Thread Cert.RefDckvIdeal.nD Cert.RefDckvIdeal.τ).loc Cert.RefDckvIdeal.main_arg1) = m ((c.tc : Thread Cert.RefDckvIdeal.nD Cert.RefDckvIdeal.τ).loc Cert.RefDckvIdeal.main_arg1))
      ∧ r.2.sem = fun _ => 0)

def quiescent_Dwukv [hDwukv : Cert.Dwukv.Facts] : Prop :=
  ∀ (m : (ℓ : Loc Cert.Dwukv.nD Cert.Dwukv.τ Cert.Dwukv.sig) → Buf (Elt Bits) ℓ) (g : Dev Cert.Dwukv.nD → PrngReg), Pre_Dwukv m →
    θ_run (Cert.Dwukv.defs (F := Bits)) (onTc (τ := Cert.Dwukv.τ) (Cert.Dwukv.main (F := Bits))) ⟨m, fun _ => 0, g⟩ (fun r => (∀ c : Dev Cert.Dwukv.nD,
      r.2.mem ((c.tc : Thread Cert.Dwukv.nD Cert.Dwukv.τ).loc Cert.Dwukv.main_arg0) = m ((c.tc : Thread Cert.Dwukv.nD Cert.Dwukv.τ).loc Cert.Dwukv.main_arg0)
      ∧ r.2.mem ((c.tc : Thread Cert.Dwukv.nD Cert.Dwukv.τ).loc Cert.Dwukv.main_arg1) = m ((c.tc : Thread Cert.Dwukv.nD Cert.Dwukv.τ).loc Cert.Dwukv.main_arg1))
      ∧ r.2.sem = fun _ => 0)

def quiescent_DwukvIdeal [hDwukvIdeal : Cert.DwukvIdeal.Facts] : Prop :=
  ∀ (m : (ℓ : Loc Cert.DwukvIdeal.nD Cert.DwukvIdeal.τ Cert.DwukvIdeal.sig) → Buf (Elt Ideal) ℓ) (g : Dev Cert.DwukvIdeal.nD → PrngReg), Pre_DwukvIdeal m →
    θ_run (Cert.DwukvIdeal.defs (F := Ideal)) (onTc (τ := Cert.DwukvIdeal.τ) (Cert.DwukvIdeal.main (F := Ideal))) ⟨m, fun _ => 0, g⟩ (fun r => (∀ c : Dev Cert.DwukvIdeal.nD,
      r.2.mem ((c.tc : Thread Cert.DwukvIdeal.nD Cert.DwukvIdeal.τ).loc Cert.DwukvIdeal.main_arg0) = m ((c.tc : Thread Cert.DwukvIdeal.nD Cert.DwukvIdeal.τ).loc Cert.DwukvIdeal.main_arg0)
      ∧ r.2.mem ((c.tc : Thread Cert.DwukvIdeal.nD Cert.DwukvIdeal.τ).loc Cert.DwukvIdeal.main_arg1) = m ((c.tc : Thread Cert.DwukvIdeal.nD Cert.DwukvIdeal.τ).loc Cert.DwukvIdeal.main_arg1))
      ∧ r.2.sem = fun _ => 0)

def quiescent_RefDwukvIdeal [hRefDwukvIdeal : Cert.RefDwukvIdeal.Facts] : Prop :=
  ∀ (m : (ℓ : Loc Cert.RefDwukvIdeal.nD Cert.RefDwukvIdeal.τ Cert.RefDwukvIdeal.sig) → Buf (Elt Ideal) ℓ) (g : Dev Cert.RefDwukvIdeal.nD → PrngReg), Pre_RefDwukvIdeal m →
    θ_run (Cert.RefDwukvIdeal.defs (F := Ideal)) (onTc (τ := Cert.RefDwukvIdeal.τ) (Cert.RefDwukvIdeal.main (F := Ideal))) ⟨m, fun _ => 0, g⟩ (fun r => (∀ c : Dev Cert.RefDwukvIdeal.nD,
      r.2.mem ((c.tc : Thread Cert.RefDwukvIdeal.nD Cert.RefDwukvIdeal.τ).loc Cert.RefDwukvIdeal.main_arg0) = m ((c.tc : Thread Cert.RefDwukvIdeal.nD Cert.RefDwukvIdeal.τ).loc Cert.RefDwukvIdeal.main_arg0)
      ∧ r.2.mem ((c.tc : Thread Cert.RefDwukvIdeal.nD Cert.RefDwukvIdeal.τ).loc Cert.RefDwukvIdeal.main_arg1) = m ((c.tc : Thread Cert.RefDwukvIdeal.nD Cert.RefDwukvIdeal.τ).loc Cert.RefDwukvIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1))
      ∧ r.2.sem = fun _ => 0)

def quiescent_UpQ [hUpQ : Cert.UpQ.Facts] : Prop :=
  ∀ (m : (ℓ : Loc Cert.UpQ.nD Cert.UpQ.τ Cert.UpQ.sig) → Buf (Elt Bits) ℓ) (g : Dev Cert.UpQ.nD → PrngReg), Pre_UpQ m →
    θ_run (Cert.UpQ.defs (F := Bits)) (onTc (τ := Cert.UpQ.τ) (Cert.UpQ.main (F := Bits))) ⟨m, fun _ => 0, g⟩ (fun r => (∀ c : Dev Cert.UpQ.nD,
      r.2.mem ((c.tc : Thread Cert.UpQ.nD Cert.UpQ.τ).loc Cert.UpQ.main_arg0) = m ((c.tc : Thread Cert.UpQ.nD Cert.UpQ.τ).loc Cert.UpQ.main_arg0)
      ∧ r.2.mem ((c.tc : Thread Cert.UpQ.nD Cert.UpQ.τ).loc Cert.UpQ.main_arg1) = m ((c.tc : Thread Cert.UpQ.nD Cert.UpQ.τ).loc Cert.UpQ.main_arg1))
      ∧ r.2.sem = fun _ => 0)

def quiescent_UpQIdeal [hUpQIdeal : Cert.UpQIdeal.Facts] : Prop :=
  ∀ (m : (ℓ : Loc Cert.UpQIdeal.nD Cert.UpQIdeal.τ Cert.UpQIdeal.sig) → Buf (Elt Ideal) ℓ) (g : Dev Cert.UpQIdeal.nD → PrngReg), Pre_UpQIdeal m →
    θ_run (Cert.UpQIdeal.defs (F := Ideal)) (onTc (τ := Cert.UpQIdeal.τ) (Cert.UpQIdeal.main (F := Ideal))) ⟨m, fun _ => 0, g⟩ (fun r => (∀ c : Dev Cert.UpQIdeal.nD,
      r.2.mem ((c.tc : Thread Cert.UpQIdeal.nD Cert.UpQIdeal.τ).loc Cert.UpQIdeal.main_arg0) = m ((c.tc : Thread Cert.UpQIdeal.nD Cert.UpQIdeal.τ).loc Cert.UpQIdeal.main_arg0)
      ∧ r.2.mem ((c.tc : Thread Cert.UpQIdeal.nD Cert.UpQIdeal.τ).loc Cert.UpQIdeal.main_arg1) = m ((c.tc : Thread Cert.UpQIdeal.nD Cert.UpQIdeal.τ).loc Cert.UpQIdeal.main_arg1))
      ∧ r.2.sem = fun _ => 0)

def quiescent_RefUpQIdeal [hRefUpQIdeal : Cert.RefUpQIdeal.Facts] : Prop :=
  ∀ (m : (ℓ : Loc Cert.RefUpQIdeal.nD Cert.RefUpQIdeal.τ Cert.RefUpQIdeal.sig) → Buf (Elt Ideal) ℓ) (g : Dev Cert.RefUpQIdeal.nD → PrngReg), Pre_RefUpQIdeal m →
    θ_run (Cert.RefUpQIdeal.defs (F := Ideal)) (onTc (τ := Cert.RefUpQIdeal.τ) (Cert.RefUpQIdeal.main (F := Ideal))) ⟨m, fun _ => 0, g⟩ (fun r => (∀ c : Dev Cert.RefUpQIdeal.nD,
      r.2.mem ((c.tc : Thread Cert.RefUpQIdeal.nD Cert.RefUpQIdeal.τ).loc Cert.RefUpQIdeal.main_arg0) = m ((c.tc : Thread Cert.RefUpQIdeal.nD Cert.RefUpQIdeal.τ).loc Cert.RefUpQIdeal.main_arg0)
      ∧ r.2.mem ((c.tc : Thread Cert.RefUpQIdeal.nD Cert.RefUpQIdeal.τ).loc Cert.RefUpQIdeal.main_arg1) = m ((c.tc : Thread Cert.RefUpQIdeal.nD Cert.RefUpQIdeal.τ).loc Cert.RefUpQIdeal.main_arg1))
      ∧ r.2.sem = fun _ => 0)

def quiescent_UpKv [hUpKv : Cert.UpKv.Facts] : Prop :=
  ∀ (m : (ℓ : Loc Cert.UpKv.nD Cert.UpKv.τ Cert.UpKv.sig) → Buf (Elt Bits) ℓ) (g : Dev Cert.UpKv.nD → PrngReg), Pre_UpKv m →
    θ_run (Cert.UpKv.defs (F := Bits)) (onTc (τ := Cert.UpKv.τ) (Cert.UpKv.main (F := Bits))) ⟨m, fun _ => 0, g⟩ (fun r => (∀ c : Dev Cert.UpKv.nD,
      r.2.mem ((c.tc : Thread Cert.UpKv.nD Cert.UpKv.τ).loc Cert.UpKv.main_arg0) = m ((c.tc : Thread Cert.UpKv.nD Cert.UpKv.τ).loc Cert.UpKv.main_arg0)
      ∧ r.2.mem ((c.tc : Thread Cert.UpKv.nD Cert.UpKv.τ).loc Cert.UpKv.main_arg1) = m ((c.tc : Thread Cert.UpKv.nD Cert.UpKv.τ).loc Cert.UpKv.main_arg1))
      ∧ r.2.sem = fun _ => 0)

def quiescent_UpKvIdeal [hUpKvIdeal : Cert.UpKvIdeal.Facts] : Prop :=
  ∀ (m : (ℓ : Loc Cert.UpKvIdeal.nD Cert.UpKvIdeal.τ Cert.UpKvIdeal.sig) → Buf (Elt Ideal) ℓ) (g : Dev Cert.UpKvIdeal.nD → PrngReg), Pre_UpKvIdeal m →
    θ_run (Cert.UpKvIdeal.defs (F := Ideal)) (onTc (τ := Cert.UpKvIdeal.τ) (Cert.UpKvIdeal.main (F := Ideal))) ⟨m, fun _ => 0, g⟩ (fun r => (∀ c : Dev Cert.UpKvIdeal.nD,
      r.2.mem ((c.tc : Thread Cert.UpKvIdeal.nD Cert.UpKvIdeal.τ).loc Cert.UpKvIdeal.main_arg0) = m ((c.tc : Thread Cert.UpKvIdeal.nD Cert.UpKvIdeal.τ).loc Cert.UpKvIdeal.main_arg0)
      ∧ r.2.mem ((c.tc : Thread Cert.UpKvIdeal.nD Cert.UpKvIdeal.τ).loc Cert.UpKvIdeal.main_arg1) = m ((c.tc : Thread Cert.UpKvIdeal.nD Cert.UpKvIdeal.τ).loc Cert.UpKvIdeal.main_arg1))
      ∧ r.2.sem = fun _ => 0)

def quiescent_RefUpKvIdeal [hRefUpKvIdeal : Cert.RefUpKvIdeal.Facts] : Prop :=
  ∀ (m : (ℓ : Loc Cert.RefUpKvIdeal.nD Cert.RefUpKvIdeal.τ Cert.RefUpKvIdeal.sig) → Buf (Elt Ideal) ℓ) (g : Dev Cert.RefUpKvIdeal.nD → PrngReg), Pre_RefUpKvIdeal m →
    θ_run (Cert.RefUpKvIdeal.defs (F := Ideal)) (onTc (τ := Cert.RefUpKvIdeal.τ) (Cert.RefUpKvIdeal.main (F := Ideal))) ⟨m, fun _ => 0, g⟩ (fun r => (∀ c : Dev Cert.RefUpKvIdeal.nD,
      r.2.mem ((c.tc : Thread Cert.RefUpKvIdeal.nD Cert.RefUpKvIdeal.τ).loc Cert.RefUpKvIdeal.main_arg0) = m ((c.tc : Thread Cert.RefUpKvIdeal.nD Cert.RefUpKvIdeal.τ).loc Cert.RefUpKvIdeal.main_arg0)
      ∧ r.2.mem ((c.tc : Thread Cert.RefUpKvIdeal.nD Cert.RefUpKvIdeal.τ).loc Cert.RefUpKvIdeal.main_arg1) = m ((c.tc : Thread Cert.RefUpKvIdeal.nD Cert.RefUpKvIdeal.τ).loc Cert.RefUpKvIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_RefOutProjIdeal [hRefOutProjIdeal : Cert.RefOutProjIdeal.Facts] : Prop :=
  ∀ (m : (ℓ : Loc Cert.RefOutProjIdeal.nD Cert.RefOutProjIdeal.τ Cert.RefOutProjIdeal.sig) → Buf (Elt Ideal) ℓ) (g : Dev Cert.RefOutProjIdeal.nD → PrngReg), Pre_RefOutProjIdeal m →
    θ_run (Cert.RefOutProjIdeal.defs (F := Ideal)) (onTc (τ := Cert.RefOutProjIdeal.τ) (Cert.RefOutProjIdeal.main (F := Ideal))) ⟨m, fun _ => 0, g⟩ (fun r => (∀ c : Dev Cert.RefOutProjIdeal.nD,
      r.2.mem ((c.tc : Thread Cert.RefOutProjIdeal.nD Cert.RefOutProjIdeal.τ).loc Cert.RefOutProjIdeal.main_arg0) = m ((c.tc : Thread Cert.RefOutProjIdeal.nD Cert.RefOutProjIdeal.τ).loc Cert.RefOutProjIdeal.main_arg0)
      ∧ r.2.mem ((c.tc : Thread Cert.RefOutProjIdeal.nD Cert.RefOutProjIdeal.τ).loc Cert.RefOutProjIdeal.main_arg1) = m ((c.tc : Thread Cert.RefOutProjIdeal.nD Cert.RefOutProjIdeal.τ).loc Cert.RefOutProjIdeal.main_arg1)
      ∧ r.2.mem ((c.tc : Thread Cert.RefOutProjIdeal.nD Cert.RefOutProjIdeal.τ).loc Cert.RefOutProjIdeal.main_arg2) = m ((c.tc : Thread Cert.RefOutProjIdeal.nD Cert.RefOutProjIdeal.τ).loc Cert.RefOutProjIdeal.main_arg2))
      ∧ r.2.sem = fun _ => 0)

def quiescent_MlaBwd [hMlaBwd : Cert.MlaBwd.Facts] : Prop :=
  ∀ (m : (ℓ : Loc Cert.MlaBwd.nD Cert.MlaBwd.τ Cert.MlaBwd.sig) → Buf (Elt Bits) ℓ) (g : Dev Cert.MlaBwd.nD → PrngReg), Pre_MlaBwd m →
    θ_run (Cert.MlaBwd.defs (F := Bits)) (onTc (τ := Cert.MlaBwd.τ) (Cert.MlaBwd.main (F := Bits))) ⟨m, fun _ => 0, g⟩ (fun r => (∀ c : Dev Cert.MlaBwd.nD,
      r.2.mem ((c.tc : Thread Cert.MlaBwd.nD Cert.MlaBwd.τ).loc Cert.MlaBwd.main_arg0) = m ((c.tc : Thread Cert.MlaBwd.nD Cert.MlaBwd.τ).loc Cert.MlaBwd.main_arg0)
      ∧ r.2.mem ((c.tc : Thread Cert.MlaBwd.nD Cert.MlaBwd.τ).loc Cert.MlaBwd.main_arg1) = m ((c.tc : Thread Cert.MlaBwd.nD Cert.MlaBwd.τ).loc Cert.MlaBwd.main_arg1)
      ∧ r.2.mem ((c.tc : Thread Cert.MlaBwd.nD Cert.MlaBwd.τ).loc Cert.MlaBwd.main_arg2) = m ((c.tc : Thread Cert.MlaBwd.nD Cert.MlaBwd.τ).loc Cert.MlaBwd.main_arg2)
      ∧ r.2.mem ((c.tc : Thread Cert.MlaBwd.nD Cert.MlaBwd.τ).loc Cert.MlaBwd.main_arg3) = m ((c.tc : Thread Cert.MlaBwd.nD Cert.MlaBwd.τ).loc Cert.MlaBwd.main_arg3))
      ∧ r.2.sem = fun _ => 0)

def quiescent_MlaBwdIdeal [hMlaBwdIdeal : Cert.MlaBwdIdeal.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3))
      ∧ r.2.sem = fun _ => 0)

def quiescent_MlaBwdIdeal_pre_finite_mla [hMlaBwdIdeal : Cert.MlaBwdIdeal.Facts] [hPre_finite_mla : Cert.Pre_finite_mla.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal_finite_mla m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3))
      ∧ r.2.sem = fun _ => 0)

def quiescent_RefMlaBwdIdeal [hRefMlaBwdIdeal : Cert.RefMlaBwdIdeal.Facts] : Prop :=
  ∀ (m : (ℓ : Loc Cert.RefMlaBwdIdeal.nD Cert.RefMlaBwdIdeal.τ Cert.RefMlaBwdIdeal.sig) → Buf (Elt Ideal) ℓ) (g : Dev Cert.RefMlaBwdIdeal.nD → PrngReg), Pre_RefMlaBwdIdeal m →
    θ_run (Cert.RefMlaBwdIdeal.defs (F := Ideal)) (onTc (τ := Cert.RefMlaBwdIdeal.τ) (Cert.RefMlaBwdIdeal.main (F := Ideal))) ⟨m, fun _ => 0, g⟩ (fun r => (∀ c : Dev Cert.RefMlaBwdIdeal.nD,
      r.2.mem ((c.tc : Thread Cert.RefMlaBwdIdeal.nD Cert.RefMlaBwdIdeal.τ).loc Cert.RefMlaBwdIdeal.main_arg0) = m ((c.tc : Thread Cert.RefMlaBwdIdeal.nD Cert.RefMlaBwdIdeal.τ).loc Cert.RefMlaBwdIdeal.main_arg0)
      ∧ r.2.mem ((c.tc : Thread Cert.RefMlaBwdIdeal.nD Cert.RefMlaBwdIdeal.τ).loc Cert.RefMlaBwdIdeal.main_arg1) = m ((c.tc : Thread Cert.RefMlaBwdIdeal.nD Cert.RefMlaBwdIdeal.τ).loc Cert.RefMlaBwdIdeal.main_arg1)
      ∧ r.2.mem ((c.tc : Thread Cert.RefMlaBwdIdeal.nD Cert.RefMlaBwdIdeal.τ).loc Cert.RefMlaBwdIdeal.main_arg2) = m ((c.tc : Thread Cert.RefMlaBwdIdeal.nD Cert.RefMlaBwdIdeal.τ).loc Cert.RefMlaBwdIdeal.main_arg2)
      ∧ r.2.mem ((c.tc : Thread Cert.RefMlaBwdIdeal.nD Cert.RefMlaBwdIdeal.τ).loc Cert.RefMlaBwdIdeal.main_arg3) = m ((c.tc : Thread Cert.RefMlaBwdIdeal.nD Cert.RefMlaBwdIdeal.τ).loc Cert.RefMlaBwdIdeal.main_arg3))
      ∧ r.2.sem = fun _ => 0)

def quiescent_RefMlaBwdIdeal_pre_finite_mla [hRefMlaBwdIdeal : Cert.RefMlaBwdIdeal.Facts] [hPre_finite_mla : Cert.Pre_finite_mla.Facts] : Prop :=
  ∀ (m : (ℓ : Loc Cert.RefMlaBwdIdeal.nD Cert.RefMlaBwdIdeal.τ Cert.RefMlaBwdIdeal.sig) → Buf (Elt Ideal) ℓ) (g : Dev Cert.RefMlaBwdIdeal.nD → PrngReg), Pre_RefMlaBwdIdeal_finite_mla m →
    θ_run (Cert.RefMlaBwdIdeal.defs (F := Ideal)) (onTc (τ := Cert.RefMlaBwdIdeal.τ) (Cert.RefMlaBwdIdeal.main (F := Ideal))) ⟨m, fun _ => 0, g⟩ (fun r => (∀ c : Dev Cert.RefMlaBwdIdeal.nD,
      r.2.mem ((c.tc : Thread Cert.RefMlaBwdIdeal.nD Cert.RefMlaBwdIdeal.τ).loc Cert.RefMlaBwdIdeal.main_arg0) = m ((c.tc : Thread Cert.RefMlaBwdIdeal.nD Cert.RefMlaBwdIdeal.τ).loc Cert.RefMlaBwdIdeal.main_arg0)
      ∧ r.2.mem ((c.tc : Thread Cert.RefMlaBwdIdeal.nD Cert.RefMlaBwdIdeal.τ).loc Cert.RefMlaBwdIdeal.main_arg1) = m ((c.tc : Thread Cert.RefMlaBwdIdeal.nD Cert.RefMlaBwdIdeal.τ).loc Cert.RefMlaBwdIdeal.main_arg1)
      ∧ r.2.mem ((c.tc : Thread Cert.RefMlaBwdIdeal.nD Cert.RefMlaBwdIdeal.τ).loc Cert.RefMlaBwdIdeal.main_arg2) = m ((c.tc : Thread Cert.RefMlaBwdIdeal.nD Cert.RefMlaBwdIdeal.τ).loc Cert.RefMlaBwdIdeal.main_arg2)
      ∧ r.2.mem ((c.tc : Thread Cert.RefMlaBwdIdeal.nD Cert.RefMlaBwdIdeal.τ).loc Cert.RefMlaBwdIdeal.main_arg3) = m ((c.tc : Thread Cert.RefMlaBwdIdeal.nD Cert.RefMlaBwdIdeal.τ).loc Cert.RefMlaBwdIdeal.main_arg3))
      ∧ r.2.sem = fun _ => 0)

def quiescent_AdamMeta [hAdamMeta : Cert.AdamMeta.Facts] : Prop :=
  ∀ (m : (ℓ : Loc Cert.AdamMeta.nD Cert.AdamMeta.τ Cert.AdamMeta.sig) → Buf (Elt Bits) ℓ) (g : Dev Cert.AdamMeta.nD → PrngReg), Pre_AdamMeta m →
    θ_run (Cert.AdamMeta.defs (F := Bits)) (onTc (τ := Cert.AdamMeta.τ) (Cert.AdamMeta.main (F := Bits))) ⟨m, fun _ => 0, g⟩ (fun r => (∀ c : Dev Cert.AdamMeta.nD,
      r.2.mem ((c.tc : Thread Cert.AdamMeta.nD Cert.AdamMeta.τ).loc Cert.AdamMeta.main_arg0) = m ((c.tc : Thread Cert.AdamMeta.nD Cert.AdamMeta.τ).loc Cert.AdamMeta.main_arg0)
      ∧ r.2.mem ((c.tc : Thread Cert.AdamMeta.nD Cert.AdamMeta.τ).loc Cert.AdamMeta.main_arg1) = m ((c.tc : Thread Cert.AdamMeta.nD Cert.AdamMeta.τ).loc Cert.AdamMeta.main_arg1)
      ∧ r.2.mem ((c.tc : Thread Cert.AdamMeta.nD Cert.AdamMeta.τ).loc Cert.AdamMeta.main_arg2) = m ((c.tc : Thread Cert.AdamMeta.nD Cert.AdamMeta.τ).loc Cert.AdamMeta.main_arg2)
      ∧ r.2.mem ((c.tc : Thread Cert.AdamMeta.nD Cert.AdamMeta.τ).loc Cert.AdamMeta.main_arg3) = m ((c.tc : Thread Cert.AdamMeta.nD Cert.AdamMeta.τ).loc Cert.AdamMeta.main_arg3))
      ∧ r.2.sem = fun _ => 0)

def quiescent_AdamMetaIdeal [hAdamMetaIdeal : Cert.AdamMetaIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg), Pre_AdamMetaIdeal m →
    θ_run (Cert.AdamMetaIdeal.defs (F := Ideal)) (onTc (τ := Cert.AdamMetaIdeal.τ) (Cert.AdamMetaIdeal.main (F := Ideal))) ⟨m, fun _ => 0, g⟩ (fun r => (∀ c : Dev Cert.AdamMetaIdeal.nD,
      r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
      ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
      ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
      ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3))
      ∧ r.2.sem = fun _ => 0)

def quiescent_RefAdamMetaIdeal [hRefAdamMetaIdeal : Cert.RefAdamMetaIdeal.Facts] : Prop :=
  ∀ (m : (ℓ : Loc Cert.RefAdamMetaIdeal.nD Cert.RefAdamMetaIdeal.τ Cert.RefAdamMetaIdeal.sig) → Buf (Elt Ideal) ℓ) (g : Dev Cert.RefAdamMetaIdeal.nD → PrngReg), Pre_RefAdamMetaIdeal m →
    θ_run (Cert.RefAdamMetaIdeal.defs (F := Ideal)) (onTc (τ := Cert.RefAdamMetaIdeal.τ) (Cert.RefAdamMetaIdeal.main (F := Ideal))) ⟨m, fun _ => 0, g⟩ (fun r => (∀ c : Dev Cert.RefAdamMetaIdeal.nD,
      r.2.mem ((c.tc : Thread Cert.RefAdamMetaIdeal.nD Cert.RefAdamMetaIdeal.τ).loc Cert.RefAdamMetaIdeal.main_arg0) = m ((c.tc : Thread Cert.RefAdamMetaIdeal.nD Cert.RefAdamMetaIdeal.τ).loc Cert.RefAdamMetaIdeal.main_arg0)
      ∧ r.2.mem ((c.tc : Thread Cert.RefAdamMetaIdeal.nD Cert.RefAdamMetaIdeal.τ).loc Cert.RefAdamMetaIdeal.main_arg1) = m ((c.tc : Thread Cert.RefAdamMetaIdeal.nD Cert.RefAdamMetaIdeal.τ).loc Cert.RefAdamMetaIdeal.main_arg1)
      ∧ r.2.mem ((c.tc : Thread Cert.RefAdamMetaIdeal.nD Cert.RefAdamMetaIdeal.τ).loc Cert.RefAdamMetaIdeal.main_arg2) = m ((c.tc : Thread Cert.RefAdamMetaIdeal.nD Cert.RefAdamMetaIdeal.τ).loc Cert.RefAdamMetaIdeal.main_arg2)
      ∧ r.2.mem ((c.tc : Thread Cert.RefAdamMetaIdeal.nD Cert.RefAdamMetaIdeal.τ).loc Cert.RefAdamMetaIdeal.main_arg3) = m ((c.tc : Thread Cert.RefAdamMetaIdeal.nD Cert.RefAdamMetaIdeal.τ).loc Cert.RefAdamMetaIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_RefAdamSmallIdeal [hRefAdamSmallIdeal : Cert.RefAdamSmallIdeal.Facts] : Prop :=
  ∀ (m : (ℓ : Loc Cert.RefAdamSmallIdeal.nD Cert.RefAdamSmallIdeal.τ Cert.RefAdamSmallIdeal.sig) → Buf (Elt Ideal) ℓ) (g : Dev Cert.RefAdamSmallIdeal.nD → PrngReg), Pre_RefAdamSmallIdeal m →
    θ_run (Cert.RefAdamSmallIdeal.defs (F := Ideal)) (onTc (τ := Cert.RefAdamSmallIdeal.τ) (Cert.RefAdamSmallIdeal.main (F := Ideal))) ⟨m, fun _ => 0, g⟩ (fun r => (∀ c : Dev Cert.RefAdamSmallIdeal.nD,
      r.2.mem ((c.tc : Thread Cert.RefAdamSmallIdeal.nD Cert.RefAdamSmallIdeal.τ).loc Cert.RefAdamSmallIdeal.main_arg0) = m ((c.tc : Thread Cert.RefAdamSmallIdeal.nD Cert.RefAdamSmallIdeal.τ).loc Cert.RefAdamSmallIdeal.main_arg0)
      ∧ r.2.mem ((c.tc : Thread Cert.RefAdamSmallIdeal.nD Cert.RefAdamSmallIdeal.τ).loc Cert.RefAdamSmallIdeal.main_arg1) = m ((c.tc : Thread Cert.RefAdamSmallIdeal.nD Cert.RefAdamSmallIdeal.τ).loc Cert.RefAdamSmallIdeal.main_arg1)
      ∧ r.2.mem ((c.tc : Thread Cert.RefAdamSmallIdeal.nD Cert.RefAdamSmallIdeal.τ).loc Cert.RefAdamSmallIdeal.main_arg2) = m ((c.tc : Thread Cert.RefAdamSmallIdeal.nD Cert.RefAdamSmallIdeal.τ).loc Cert.RefAdamSmallIdeal.main_arg2)
      ∧ r.2.mem ((c.tc : Thread Cert.RefAdamSmallIdeal.nD Cert.RefAdamSmallIdeal.τ).loc Cert.RefAdamSmallIdeal.main_arg3) = m ((c.tc : Thread Cert.RefAdamSmallIdeal.nD Cert.RefAdamSmallIdeal.τ).loc Cert.RefAdamSmallIdeal.main_arg3))
      ∧ r.2.sem = fun _ => 0)

def quiescent_SumA [hSumA : Cert.SumA.Facts] : Prop :=
  ∀ (m : (ℓ : Loc Cert.SumA.nD Cert.SumA.τ Cert.SumA.sig) → Buf (Elt Bits) ℓ) (g : Dev Cert.SumA.nD → PrngReg), Pre_SumA m →
    θ_run (Cert.SumA.defs (F := Bits)) (onTc (τ := Cert.SumA.τ) (Cert.SumA.main (F := Bits))) ⟨m, fun _ => 0, g⟩ (fun r => (∀ c : Dev Cert.SumA.nD,
      r.2.mem ((c.tc : Thread Cert.SumA.nD Cert.SumA.τ).loc Cert.SumA.main_arg0) = m ((c.tc : Thread Cert.SumA.nD Cert.SumA.τ).loc Cert.SumA.main_arg0))
      ∧ r.2.sem = fun _ => 0)

def quiescent_SumAIdeal [hSumAIdeal : Cert.SumAIdeal.Facts] : Prop :=
  ∀ (m : (ℓ : Loc Cert.SumAIdeal.nD Cert.SumAIdeal.τ Cert.SumAIdeal.sig) → Buf (Elt Ideal) ℓ) (g : Dev Cert.SumAIdeal.nD → PrngReg), Pre_SumAIdeal m →
    θ_run (Cert.SumAIdeal.defs (F := Ideal)) (onTc (τ := Cert.SumAIdeal.τ) (Cert.SumAIdeal.main (F := Ideal))) ⟨m, fun _ => 0, g⟩ (fun r => (∀ c : Dev Cert.SumAIdeal.nD,
      r.2.mem ((c.tc : Thread Cert.SumAIdeal.nD Cert.SumAIdeal.τ).loc Cert.SumAIdeal.main_arg0) = m ((c.tc : Thread Cert.SumAIdeal.nD Cert.SumAIdeal.τ).loc Cert.SumAIdeal.main_arg0))
      ∧ r.2.sem = fun _ => 0)

def quiescent_RefSumAIdeal [hRefSumAIdeal : Cert.RefSumAIdeal.Facts] : Prop :=
  ∀ (m : (ℓ : Loc Cert.RefSumAIdeal.nD Cert.RefSumAIdeal.τ Cert.RefSumAIdeal.sig) → Buf (Elt Ideal) ℓ) (g : Dev Cert.RefSumAIdeal.nD → PrngReg), Pre_RefSumAIdeal m →
    θ_run (Cert.RefSumAIdeal.defs (F := Ideal)) (onTc (τ := Cert.RefSumAIdeal.τ) (Cert.RefSumAIdeal.main (F := Ideal))) ⟨m, fun _ => 0, g⟩ (fun r => (∀ c : Dev Cert.RefSumAIdeal.nD,
      r.2.mem ((c.tc : Thread Cert.RefSumAIdeal.nD Cert.RefSumAIdeal.τ).loc Cert.RefSumAIdeal.main_arg0) = m ((c.tc : Thread Cert.RefSumAIdeal.nD Cert.RefSumAIdeal.τ).loc Cert.RefSumAIdeal.main_arg0))
      ∧ r.2.sem = fun _ => 0)

def quiescent_SumB [hSumB : Cert.SumB.Facts] : Prop :=
  ∀ (m : (ℓ : Loc Cert.SumB.nD Cert.SumB.τ Cert.SumB.sig) → Buf (Elt Bits) ℓ) (g : Dev Cert.SumB.nD → PrngReg), Pre_SumB m →
    θ_run (Cert.SumB.defs (F := Bits)) (onTc (τ := Cert.SumB.τ) (Cert.SumB.main (F := Bits))) ⟨m, fun _ => 0, g⟩ (fun r => (∀ c : Dev Cert.SumB.nD,
      r.2.mem ((c.tc : Thread Cert.SumB.nD Cert.SumB.τ).loc Cert.SumB.main_arg0) = m ((c.tc : Thread Cert.SumB.nD Cert.SumB.τ).loc Cert.SumB.main_arg0))
      ∧ r.2.sem = fun _ => 0)

def quiescent_SumBIdeal [hSumBIdeal : Cert.SumBIdeal.Facts] : Prop :=
  ∀ (m : (ℓ : Loc Cert.SumBIdeal.nD Cert.SumBIdeal.τ Cert.SumBIdeal.sig) → Buf (Elt Ideal) ℓ) (g : Dev Cert.SumBIdeal.nD → PrngReg), Pre_SumBIdeal m →
    θ_run (Cert.SumBIdeal.defs (F := Ideal)) (onTc (τ := Cert.SumBIdeal.τ) (Cert.SumBIdeal.main (F := Ideal))) ⟨m, fun _ => 0, g⟩ (fun r => (∀ c : Dev Cert.SumBIdeal.nD,
      r.2.mem ((c.tc : Thread Cert.SumBIdeal.nD Cert.SumBIdeal.τ).loc Cert.SumBIdeal.main_arg0) = m ((c.tc : Thread Cert.SumBIdeal.nD Cert.SumBIdeal.τ).loc Cert.SumBIdeal.main_arg0))
      ∧ r.2.sem = fun _ => 0)

def quiescent_RefSumBIdeal [hRefSumBIdeal : Cert.RefSumBIdeal.Facts] : Prop :=
  ∀ (m : (ℓ : Loc Cert.RefSumBIdeal.nD Cert.RefSumBIdeal.τ Cert.RefSumBIdeal.sig) → Buf (Elt Ideal) ℓ) (g : Dev Cert.RefSumBIdeal.nD → PrngReg), Pre_RefSumBIdeal m →
    θ_run (Cert.RefSumBIdeal.defs (F := Ideal)) (onTc (τ := Cert.RefSumBIdeal.τ) (Cert.RefSumBIdeal.main (F := Ideal))) ⟨m, fun _ => 0, g⟩ (fun r => (∀ c : Dev Cert.RefSumBIdeal.nD,
      r.2.mem ((c.tc : Thread Cert.RefSumBIdeal.nD Cert.RefSumBIdeal.τ).loc Cert.RefSumBIdeal.main_arg0) = m ((c.tc : Thread Cert.RefSumBIdeal.nD Cert.RefSumBIdeal.τ).loc Cert.RefSumBIdeal.main_arg0))
      ∧ r.2.sem = fun _ => 0)

def quiescent_AdamO [hAdamO : Cert.AdamO.Facts] : Prop :=
  ∀ (m : (ℓ : Loc Cert.AdamO.nD Cert.AdamO.τ Cert.AdamO.sig) → Buf (Elt Bits) ℓ) (g : Dev Cert.AdamO.nD → PrngReg), Pre_AdamO m →
    θ_run (Cert.AdamO.defs (F := Bits)) (onTc (τ := Cert.AdamO.τ) (Cert.AdamO.main (F := Bits))) ⟨m, fun _ => 0, g⟩ (fun r => (∀ c : Dev Cert.AdamO.nD,
      r.2.mem ((c.tc : Thread Cert.AdamO.nD Cert.AdamO.τ).loc Cert.AdamO.main_arg0) = m ((c.tc : Thread Cert.AdamO.nD Cert.AdamO.τ).loc Cert.AdamO.main_arg0)
      ∧ r.2.mem ((c.tc : Thread Cert.AdamO.nD Cert.AdamO.τ).loc Cert.AdamO.main_arg1) = m ((c.tc : Thread Cert.AdamO.nD Cert.AdamO.τ).loc Cert.AdamO.main_arg1)
      ∧ r.2.mem ((c.tc : Thread Cert.AdamO.nD Cert.AdamO.τ).loc Cert.AdamO.main_arg2) = m ((c.tc : Thread Cert.AdamO.nD Cert.AdamO.τ).loc Cert.AdamO.main_arg2)
      ∧ r.2.mem ((c.tc : Thread Cert.AdamO.nD Cert.AdamO.τ).loc Cert.AdamO.main_arg3) = m ((c.tc : Thread Cert.AdamO.nD Cert.AdamO.τ).loc Cert.AdamO.main_arg3)
      ∧ r.2.mem ((c.tc : Thread Cert.AdamO.nD Cert.AdamO.τ).loc Cert.AdamO.main_arg4) = m ((c.tc : Thread Cert.AdamO.nD Cert.AdamO.τ).loc Cert.AdamO.main_arg4)
      ∧ r.2.mem ((c.tc : Thread Cert.AdamO.nD Cert.AdamO.τ).loc Cert.AdamO.main_arg5) = m ((c.tc : Thread Cert.AdamO.nD Cert.AdamO.τ).loc Cert.AdamO.main_arg5)
      ∧ r.2.mem ((c.tc : Thread Cert.AdamO.nD Cert.AdamO.τ).loc Cert.AdamO.main_arg6) = m ((c.tc : Thread Cert.AdamO.nD Cert.AdamO.τ).loc Cert.AdamO.main_arg6)
      ∧ r.2.mem ((c.tc : Thread Cert.AdamO.nD Cert.AdamO.τ).loc Cert.AdamO.main_arg7) = m ((c.tc : Thread Cert.AdamO.nD Cert.AdamO.τ).loc Cert.AdamO.main_arg7))
      ∧ r.2.sem = fun _ => 0)

def quiescent_AdamOIdeal [hAdamOIdeal : Cert.AdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg), Pre_AdamOIdeal m →
    θ_run (Cert.AdamOIdeal.defs (F := Ideal)) (onTc (τ := Cert.AdamOIdeal.τ) (Cert.AdamOIdeal.main (F := Ideal))) ⟨m, fun _ => 0, g⟩ (fun r => (∀ c : Dev Cert.AdamOIdeal.nD,
      r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
      ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
      ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
      ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3)
      ∧ r.2.mem ((c.tc : Thread Cert.AdamOIdeal.nD Cert.AdamOIdeal.τ).loc Cert.AdamOIdeal.main_arg4) = m ((c.tc : Thread Cert.AdamOIdeal.nD Cert.AdamOIdeal.τ).loc Cert.AdamOIdeal.main_arg4)
      ∧ r.2.mem ((c.tc : Thread Cert.AdamOIdeal.nD Cert.AdamOIdeal.τ).loc Cert.AdamOIdeal.main_arg5) = m ((c.tc : Thread Cert.AdamOIdeal.nD Cert.AdamOIdeal.τ).loc Cert.AdamOIdeal.main_arg5)
      ∧ r.2.mem ((c.tc : Thread Cert.AdamOIdeal.nD Cert.AdamOIdeal.τ).loc Cert.AdamOIdeal.main_arg6) = m ((c.tc : Thread Cert.AdamOIdeal.nD Cert.AdamOIdeal.τ).loc Cert.AdamOIdeal.main_arg6)
      ∧ r.2.mem ((c.tc : Thread Cert.AdamOIdeal.nD Cert.AdamOIdeal.τ).loc Cert.AdamOIdeal.main_arg7) = m ((c.tc : Thread Cert.AdamOIdeal.nD Cert.AdamOIdeal.τ).loc Cert.AdamOIdeal.main_arg7))
      ∧ r.2.sem = fun _ => 0)

def quiescent_RefAdamOIdeal [hRefAdamOIdeal : Cert.RefAdamOIdeal.Facts] : Prop :=
  ∀ (m : (ℓ : Loc Cert.RefAdamOIdeal.nD Cert.RefAdamOIdeal.τ Cert.RefAdamOIdeal.sig) → Buf (Elt Ideal) ℓ) (g : Dev Cert.RefAdamOIdeal.nD → PrngReg), Pre_RefAdamOIdeal m →
    θ_run (Cert.RefAdamOIdeal.defs (F := Ideal)) (onTc (τ := Cert.RefAdamOIdeal.τ) (Cert.RefAdamOIdeal.main (F := Ideal))) ⟨m, fun _ => 0, g⟩ (fun r => (∀ c : Dev Cert.RefAdamOIdeal.nD,
      r.2.mem ((c.tc : Thread Cert.RefAdamOIdeal.nD Cert.RefAdamOIdeal.τ).loc Cert.RefAdamOIdeal.main_arg0) = m ((c.tc : Thread Cert.RefAdamOIdeal.nD Cert.RefAdamOIdeal.τ).loc Cert.RefAdamOIdeal.main_arg0)
      ∧ r.2.mem ((c.tc : Thread Cert.RefAdamOIdeal.nD Cert.RefAdamOIdeal.τ).loc Cert.RefAdamOIdeal.main_arg1) = m ((c.tc : Thread Cert.RefAdamOIdeal.nD Cert.RefAdamOIdeal.τ).loc Cert.RefAdamOIdeal.main_arg1)
      ∧ r.2.mem ((c.tc : Thread Cert.RefAdamOIdeal.nD Cert.RefAdamOIdeal.τ).loc Cert.RefAdamOIdeal.main_arg2) = m ((c.tc : Thread Cert.RefAdamOIdeal.nD Cert.RefAdamOIdeal.τ).loc Cert.RefAdamOIdeal.main_arg2)
      ∧ r.2.mem ((c.tc : Thread Cert.RefAdamOIdeal.nD Cert.RefAdamOIdeal.τ).loc Cert.RefAdamOIdeal.main_arg3) = m ((c.tc : Thread Cert.RefAdamOIdeal.nD Cert.RefAdamOIdeal.τ).loc Cert.RefAdamOIdeal.main_arg3)
      ∧ r.2.mem ((c.tc : Thread Cert.RefAdamOIdeal.nD Cert.RefAdamOIdeal.τ).loc Cert.RefAdamOIdeal.main_arg4) = m ((c.tc : Thread Cert.RefAdamOIdeal.nD Cert.RefAdamOIdeal.τ).loc Cert.RefAdamOIdeal.main_arg4)
      ∧ r.2.mem ((c.tc : Thread Cert.RefAdamOIdeal.nD Cert.RefAdamOIdeal.τ).loc Cert.RefAdamOIdeal.main_arg5) = m ((c.tc : Thread Cert.RefAdamOIdeal.nD Cert.RefAdamOIdeal.τ).loc Cert.RefAdamOIdeal.main_arg5)
      ∧ r.2.mem ((c.tc : Thread Cert.RefAdamOIdeal.nD Cert.RefAdamOIdeal.τ).loc Cert.RefAdamOIdeal.main_arg6) = m ((c.tc : Thread Cert.RefAdamOIdeal.nD Cert.RefAdamOIdeal.τ).loc Cert.RefAdamOIdeal.main_arg6)
      ∧ r.2.mem ((c.tc : Thread Cert.RefAdamOIdeal.nD Cert.RefAdamOIdeal.τ).loc Cert.RefAdamOIdeal.main_arg7) = m ((c.tc : Thread Cert.RefAdamOIdeal.nD Cert.RefAdamOIdeal.τ).loc Cert.RefAdamOIdeal.main_arg7))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6)
      ∧ r.2.mem ((c.tc : Thread Cert.AdamIn.nD Cert.AdamIn.τ).loc Cert.AdamIn.main_arg7) = m ((c.tc : Thread Cert.AdamIn.nD Cert.AdamIn.τ).loc Cert.AdamIn.main_arg7))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
      ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7))
      ∧ r.2.sem = fun _ => 0)

def quiescent_RefAdamInIdeal [hRefAdamInIdeal : Cert.RefAdamInIdeal.Facts] : Prop :=
  ∀ (m : (ℓ : Loc Cert.RefAdamInIdeal.nD Cert.RefAdamInIdeal.τ Cert.RefAdamInIdeal.sig) → Buf (Elt Ideal) ℓ) (g : Dev Cert.RefAdamInIdeal.nD → PrngReg), Pre_RefAdamInIdeal m →
    θ_run (Cert.RefAdamInIdeal.defs (F := Ideal)) (onTc (τ := Cert.RefAdamInIdeal.τ) (Cert.RefAdamInIdeal.main (F := Ideal))) ⟨m, fun _ => 0, g⟩ (fun r => (∀ c : Dev Cert.RefAdamInIdeal.nD,
      r.2.mem ((c.tc : Thread Cert.RefAdamInIdeal.nD Cert.RefAdamInIdeal.τ).loc Cert.RefAdamInIdeal.main_arg0) = m ((c.tc : Thread Cert.RefAdamInIdeal.nD Cert.RefAdamInIdeal.τ).loc Cert.RefAdamInIdeal.main_arg0)
      ∧ r.2.mem ((c.tc : Thread Cert.RefAdamInIdeal.nD Cert.RefAdamInIdeal.τ).loc Cert.RefAdamInIdeal.main_arg1) = m ((c.tc : Thread Cert.RefAdamInIdeal.nD Cert.RefAdamInIdeal.τ).loc Cert.RefAdamInIdeal.main_arg1)
      ∧ r.2.mem ((c.tc : Thread Cert.RefAdamInIdeal.nD Cert.RefAdamInIdeal.τ).loc Cert.RefAdamInIdeal.main_arg2) = m ((c.tc : Thread Cert.RefAdamInIdeal.nD Cert.RefAdamInIdeal.τ).loc Cert.RefAdamInIdeal.main_arg2)
      ∧ r.2.mem ((c.tc : Thread Cert.RefAdamInIdeal.nD Cert.RefAdamInIdeal.τ).loc Cert.RefAdamInIdeal.main_arg3) = m ((c.tc : Thread Cert.RefAdamInIdeal.nD Cert.RefAdamInIdeal.τ).loc Cert.RefAdamInIdeal.main_arg3)
      ∧ r.2.mem ((c.tc : Thread Cert.RefAdamInIdeal.nD Cert.RefAdamInIdeal.τ).loc Cert.RefAdamInIdeal.main_arg4) = m ((c.tc : Thread Cert.RefAdamInIdeal.nD Cert.RefAdamInIdeal.τ).loc Cert.RefAdamInIdeal.main_arg4)
      ∧ r.2.mem ((c.tc : Thread Cert.RefAdamInIdeal.nD Cert.RefAdamInIdeal.τ).loc Cert.RefAdamInIdeal.main_arg5) = m ((c.tc : Thread Cert.RefAdamInIdeal.nD Cert.RefAdamInIdeal.τ).loc Cert.RefAdamInIdeal.main_arg5)
      ∧ r.2.mem ((c.tc : Thread Cert.RefAdamInIdeal.nD Cert.RefAdamInIdeal.τ).loc Cert.RefAdamInIdeal.main_arg6) = m ((c.tc : Thread Cert.RefAdamInIdeal.nD Cert.RefAdamInIdeal.τ).loc Cert.RefAdamInIdeal.main_arg6)
      ∧ r.2.mem ((c.tc : Thread Cert.RefAdamInIdeal.nD Cert.RefAdamInIdeal.τ).loc Cert.RefAdamInIdeal.main_arg7) = m ((c.tc : Thread Cert.RefAdamInIdeal.nD Cert.RefAdamInIdeal.τ).loc Cert.RefAdamInIdeal.main_arg7))
      ∧ r.2.sem = fun _ => 0)

def quiescent_AdamUq [hAdamUq : Cert.AdamUq.Facts] : Prop :=
  ∀ (m : (ℓ : Loc Cert.AdamUq.nD Cert.AdamUq.τ Cert.AdamUq.sig) → Buf (Elt Bits) ℓ) (g : Dev Cert.AdamUq.nD → PrngReg), Pre_AdamUq m →
    θ_run (Cert.AdamUq.defs (F := Bits)) (onTc (τ := Cert.AdamUq.τ) (Cert.AdamUq.main (F := Bits))) ⟨m, fun _ => 0, g⟩ (fun r => (∀ c : Dev Cert.AdamUq.nD,
      r.2.mem ((c.tc : Thread Cert.AdamUq.nD Cert.AdamUq.τ).loc Cert.AdamUq.main_arg0) = m ((c.tc : Thread Cert.AdamUq.nD Cert.AdamUq.τ).loc Cert.AdamUq.main_arg0)
      ∧ r.2.mem ((c.tc : Thread Cert.AdamUq.nD Cert.AdamUq.τ).loc Cert.AdamUq.main_arg1) = m ((c.tc : Thread Cert.AdamUq.nD Cert.AdamUq.τ).loc Cert.AdamUq.main_arg1)
      ∧ r.2.mem ((c.tc : Thread Cert.AdamUq.nD Cert.AdamUq.τ).loc Cert.AdamUq.main_arg2) = m ((c.tc : Thread Cert.AdamUq.nD Cert.AdamUq.τ).loc Cert.AdamUq.main_arg2)
      ∧ r.2.mem ((c.tc : Thread Cert.AdamUq.nD Cert.AdamUq.τ).loc Cert.AdamUq.main_arg3) = m ((c.tc : Thread Cert.AdamUq.nD Cert.AdamUq.τ).loc Cert.AdamUq.main_arg3)
      ∧ r.2.mem ((c.tc : Thread Cert.AdamUq.nD Cert.AdamUq.τ).loc Cert.AdamUq.main_arg4) = m ((c.tc : Thread Cert.AdamUq.nD Cert.AdamUq.τ).loc Cert.AdamUq.main_arg4)
      ∧ r.2.mem ((c.tc : Thread Cert.AdamUq.nD Cert.AdamUq.τ).loc Cert.AdamUq.main_arg5) = m ((c.tc : Thread Cert.AdamUq.nD Cert.AdamUq.τ).loc Cert.AdamUq.main_arg5)
      ∧ r.2.mem ((c.tc : Thread Cert.AdamUq.nD Cert.AdamUq.τ).loc Cert.AdamUq.main_arg6) = m ((c.tc : Thread Cert.AdamUq.nD Cert.AdamUq.τ).loc Cert.AdamUq.main_arg6)
      ∧ r.2.mem ((c.tc : Thread Cert.AdamUq.nD Cert.AdamUq.τ).loc Cert.AdamUq.main_arg7) = m ((c.tc : Thread Cert.AdamUq.nD Cert.AdamUq.τ).loc Cert.AdamUq.main_arg7))
      ∧ r.2.sem = fun _ => 0)

def quiescent_AdamUqIdeal [hAdamUqIdeal : Cert.AdamUqIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg), Pre_AdamUqIdeal m →
    θ_run (Cert.AdamUqIdeal.defs (F := Ideal)) (onTc (τ := Cert.AdamUqIdeal.τ) (Cert.AdamUqIdeal.main (F := Ideal))) ⟨m, fun _ => 0, g⟩ (fun r => (∀ c : Dev Cert.AdamUqIdeal.nD,
      r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
      ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
      ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
      ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3)
      ∧ r.2.mem ((c.tc : Thread Cert.AdamUqIdeal.nD Cert.AdamUqIdeal.τ).loc Cert.AdamUqIdeal.main_arg4) = m ((c.tc : Thread Cert.AdamUqIdeal.nD Cert.AdamUqIdeal.τ).loc Cert.AdamUqIdeal.main_arg4)
      ∧ r.2.mem ((c.tc : Thread Cert.AdamUqIdeal.nD Cert.AdamUqIdeal.τ).loc Cert.AdamUqIdeal.main_arg5) = m ((c.tc : Thread Cert.AdamUqIdeal.nD Cert.AdamUqIdeal.τ).loc Cert.AdamUqIdeal.main_arg5)
      ∧ r.2.mem ((c.tc : Thread Cert.AdamUqIdeal.nD Cert.AdamUqIdeal.τ).loc Cert.AdamUqIdeal.main_arg6) = m ((c.tc : Thread Cert.AdamUqIdeal.nD Cert.AdamUqIdeal.τ).loc Cert.AdamUqIdeal.main_arg6)
      ∧ r.2.mem ((c.tc : Thread Cert.AdamUqIdeal.nD Cert.AdamUqIdeal.τ).loc Cert.AdamUqIdeal.main_arg7) = m ((c.tc : Thread Cert.AdamUqIdeal.nD Cert.AdamUqIdeal.τ).loc Cert.AdamUqIdeal.main_arg7))
      ∧ r.2.sem = fun _ => 0)

def quiescent_RefAdamUqIdeal [hRefAdamUqIdeal : Cert.RefAdamUqIdeal.Facts] : Prop :=
  ∀ (m : (ℓ : Loc Cert.RefAdamUqIdeal.nD Cert.RefAdamUqIdeal.τ Cert.RefAdamUqIdeal.sig) → Buf (Elt Ideal) ℓ) (g : Dev Cert.RefAdamUqIdeal.nD → PrngReg), Pre_RefAdamUqIdeal m →
    θ_run (Cert.RefAdamUqIdeal.defs (F := Ideal)) (onTc (τ := Cert.RefAdamUqIdeal.τ) (Cert.RefAdamUqIdeal.main (F := Ideal))) ⟨m, fun _ => 0, g⟩ (fun r => (∀ c : Dev Cert.RefAdamUqIdeal.nD,
      r.2.mem ((c.tc : Thread Cert.RefAdamUqIdeal.nD Cert.RefAdamUqIdeal.τ).loc Cert.RefAdamUqIdeal.main_arg0) = m ((c.tc : Thread Cert.RefAdamUqIdeal.nD Cert.RefAdamUqIdeal.τ).loc Cert.RefAdamUqIdeal.main_arg0)
      ∧ r.2.mem ((c.tc : Thread Cert.RefAdamUqIdeal.nD Cert.RefAdamUqIdeal.τ).loc Cert.RefAdamUqIdeal.main_arg1) = m ((c.tc : Thread Cert.RefAdamUqIdeal.nD Cert.RefAdamUqIdeal.τ).loc Cert.RefAdamUqIdeal.main_arg1)
      ∧ r.2.mem ((c.tc : Thread Cert.RefAdamUqIdeal.nD Cert.RefAdamUqIdeal.τ).loc Cert.RefAdamUqIdeal.main_arg2) = m ((c.tc : Thread Cert.RefAdamUqIdeal.nD Cert.RefAdamUqIdeal.τ).loc Cert.RefAdamUqIdeal.main_arg2)
      ∧ r.2.mem ((c.tc : Thread Cert.RefAdamUqIdeal.nD Cert.RefAdamUqIdeal.τ).loc Cert.RefAdamUqIdeal.main_arg3) = m ((c.tc : Thread Cert.RefAdamUqIdeal.nD Cert.RefAdamUqIdeal.τ).loc Cert.RefAdamUqIdeal.main_arg3)
      ∧ r.2.mem ((c.tc : Thread Cert.RefAdamUqIdeal.nD Cert.RefAdamUqIdeal.τ).loc Cert.RefAdamUqIdeal.main_arg4) = m ((c.tc : Thread Cert.RefAdamUqIdeal.nD Cert.RefAdamUqIdeal.τ).loc Cert.RefAdamUqIdeal.main_arg4)
      ∧ r.2.mem ((c.tc : Thread Cert.RefAdamUqIdeal.nD Cert.RefAdamUqIdeal.τ).loc Cert.RefAdamUqIdeal.main_arg5) = m ((c.tc : Thread Cert.RefAdamUqIdeal.nD Cert.RefAdamUqIdeal.τ).loc Cert.RefAdamUqIdeal.main_arg5)
      ∧ r.2.mem ((c.tc : Thread Cert.RefAdamUqIdeal.nD Cert.RefAdamUqIdeal.τ).loc Cert.RefAdamUqIdeal.main_arg6) = m ((c.tc : Thread Cert.RefAdamUqIdeal.nD Cert.RefAdamUqIdeal.τ).loc Cert.RefAdamUqIdeal.main_arg6)
      ∧ r.2.mem ((c.tc : Thread Cert.RefAdamUqIdeal.nD Cert.RefAdamUqIdeal.τ).loc Cert.RefAdamUqIdeal.main_arg7) = m ((c.tc : Thread Cert.RefAdamUqIdeal.nD Cert.RefAdamUqIdeal.τ).loc Cert.RefAdamUqIdeal.main_arg7))
      ∧ r.2.sem = fun _ => 0)

def quiescent_AdamUkv [hAdamUkv : Cert.AdamUkv.Facts] : Prop :=
  ∀ (m : (ℓ : Loc Cert.AdamUkv.nD Cert.AdamUkv.τ Cert.AdamUkv.sig) → Buf (Elt Bits) ℓ) (g : Dev Cert.AdamUkv.nD → PrngReg), Pre_AdamUkv m →
    θ_run (Cert.AdamUkv.defs (F := Bits)) (onTc (τ := Cert.AdamUkv.τ) (Cert.AdamUkv.main (F := Bits))) ⟨m, fun _ => 0, g⟩ (fun r => (∀ c : Dev Cert.AdamUkv.nD,
      r.2.mem ((c.tc : Thread Cert.AdamUkv.nD Cert.AdamUkv.τ).loc Cert.AdamUkv.main_arg0) = m ((c.tc : Thread Cert.AdamUkv.nD Cert.AdamUkv.τ).loc Cert.AdamUkv.main_arg0)
      ∧ r.2.mem ((c.tc : Thread Cert.AdamUkv.nD Cert.AdamUkv.τ).loc Cert.AdamUkv.main_arg1) = m ((c.tc : Thread Cert.AdamUkv.nD Cert.AdamUkv.τ).loc Cert.AdamUkv.main_arg1)
      ∧ r.2.mem ((c.tc : Thread Cert.AdamUkv.nD Cert.AdamUkv.τ).loc Cert.AdamUkv.main_arg2) = m ((c.tc : Thread Cert.AdamUkv.nD Cert.AdamUkv.τ).loc Cert.AdamUkv.main_arg2)
      ∧ r.2.mem ((c.tc : Thread Cert.AdamUkv.nD Cert.AdamUkv.τ).loc Cert.AdamUkv.main_arg3) = m ((c.tc : Thread Cert.AdamUkv.nD Cert.AdamUkv.τ).loc Cert.AdamUkv.main_arg3)
      ∧ r.2.mem ((c.tc : Thread Cert.AdamUkv.nD Cert.AdamUkv.τ).loc Cert.AdamUkv.main_arg4) = m ((c.tc : Thread Cert.AdamUkv.nD Cert.AdamUkv.τ).loc Cert.AdamUkv.main_arg4)
      ∧ r.2.mem ((c.tc : Thread Cert.AdamUkv.nD Cert.AdamUkv.τ).loc Cert.AdamUkv.main_arg5) = m ((c.tc : Thread Cert.AdamUkv.nD Cert.AdamUkv.τ).loc Cert.AdamUkv.main_arg5)
      ∧ r.2.mem ((c.tc : Thread Cert.AdamUkv.nD Cert.AdamUkv.τ).loc Cert.AdamUkv.main_arg6) = m ((c.tc : Thread Cert.AdamUkv.nD Cert.AdamUkv.τ).loc Cert.AdamUkv.main_arg6)
      ∧ r.2.mem ((c.tc : Thread Cert.AdamUkv.nD Cert.AdamUkv.τ).loc Cert.AdamUkv.main_arg7) = m ((c.tc : Thread Cert.AdamUkv.nD Cert.AdamUkv.τ).loc Cert.AdamUkv.main_arg7))
      ∧ r.2.sem = fun _ => 0)

def quiescent_AdamUkvIdeal [hAdamUkvIdeal : Cert.AdamUkvIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg), Pre_AdamUkvIdeal m →
    θ_run (Cert.AdamUkvIdeal.defs (F := Ideal)) (onTc (τ := Cert.AdamUkvIdeal.τ) (Cert.AdamUkvIdeal.main (F := Ideal))) ⟨m, fun _ => 0, g⟩ (fun r => (∀ c : Dev Cert.AdamUkvIdeal.nD,
      r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
      ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
      ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
      ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3)
      ∧ r.2.mem ((c.tc : Thread Cert.AdamUkvIdeal.nD Cert.AdamUkvIdeal.τ).loc Cert.AdamUkvIdeal.main_arg4) = m ((c.tc : Thread Cert.AdamUkvIdeal.nD Cert.AdamUkvIdeal.τ).loc Cert.AdamUkvIdeal.main_arg4)
      ∧ r.2.mem ((c.tc : Thread Cert.AdamUkvIdeal.nD Cert.AdamUkvIdeal.τ).loc Cert.AdamUkvIdeal.main_arg5) = m ((c.tc : Thread Cert.AdamUkvIdeal.nD Cert.AdamUkvIdeal.τ).loc Cert.AdamUkvIdeal.main_arg5)
      ∧ r.2.mem ((c.tc : Thread Cert.AdamUkvIdeal.nD Cert.AdamUkvIdeal.τ).loc Cert.AdamUkvIdeal.main_arg6) = m ((c.tc : Thread Cert.AdamUkvIdeal.nD Cert.AdamUkvIdeal.τ).loc Cert.AdamUkvIdeal.main_arg6)
      ∧ r.2.mem ((c.tc : Thread Cert.AdamUkvIdeal.nD Cert.AdamUkvIdeal.τ).loc Cert.AdamUkvIdeal.main_arg7) = m ((c.tc : Thread Cert.AdamUkvIdeal.nD Cert.AdamUkvIdeal.τ).loc Cert.AdamUkvIdeal.main_arg7))
      ∧ r.2.sem = fun _ => 0)

def quiescent_RefAdamUkvIdeal [hRefAdamUkvIdeal : Cert.RefAdamUkvIdeal.Facts] : Prop :=
  ∀ (m : (ℓ : Loc Cert.RefAdamUkvIdeal.nD Cert.RefAdamUkvIdeal.τ Cert.RefAdamUkvIdeal.sig) → Buf (Elt Ideal) ℓ) (g : Dev Cert.RefAdamUkvIdeal.nD → PrngReg), Pre_RefAdamUkvIdeal m →
    θ_run (Cert.RefAdamUkvIdeal.defs (F := Ideal)) (onTc (τ := Cert.RefAdamUkvIdeal.τ) (Cert.RefAdamUkvIdeal.main (F := Ideal))) ⟨m, fun _ => 0, g⟩ (fun r => (∀ c : Dev Cert.RefAdamUkvIdeal.nD,
      r.2.mem ((c.tc : Thread Cert.RefAdamUkvIdeal.nD Cert.RefAdamUkvIdeal.τ).loc Cert.RefAdamUkvIdeal.main_arg0) = m ((c.tc : Thread Cert.RefAdamUkvIdeal.nD Cert.RefAdamUkvIdeal.τ).loc Cert.RefAdamUkvIdeal.main_arg0)
      ∧ r.2.mem ((c.tc : Thread Cert.RefAdamUkvIdeal.nD Cert.RefAdamUkvIdeal.τ).loc Cert.RefAdamUkvIdeal.main_arg1) = m ((c.tc : Thread Cert.RefAdamUkvIdeal.nD Cert.RefAdamUkvIdeal.τ).loc Cert.RefAdamUkvIdeal.main_arg1)
      ∧ r.2.mem ((c.tc : Thread Cert.RefAdamUkvIdeal.nD Cert.RefAdamUkvIdeal.τ).loc Cert.RefAdamUkvIdeal.main_arg2) = m ((c.tc : Thread Cert.RefAdamUkvIdeal.nD Cert.RefAdamUkvIdeal.τ).loc Cert.RefAdamUkvIdeal.main_arg2)
      ∧ r.2.mem ((c.tc : Thread Cert.RefAdamUkvIdeal.nD Cert.RefAdamUkvIdeal.τ).loc Cert.RefAdamUkvIdeal.main_arg3) = m ((c.tc : Thread Cert.RefAdamUkvIdeal.nD Cert.RefAdamUkvIdeal.τ).loc Cert.RefAdamUkvIdeal.main_arg3)
      ∧ r.2.mem ((c.tc : Thread Cert.RefAdamUkvIdeal.nD Cert.RefAdamUkvIdeal.τ).loc Cert.RefAdamUkvIdeal.main_arg4) = m ((c.tc : Thread Cert.RefAdamUkvIdeal.nD Cert.RefAdamUkvIdeal.τ).loc Cert.RefAdamUkvIdeal.main_arg4)
      ∧ r.2.mem ((c.tc : Thread Cert.RefAdamUkvIdeal.nD Cert.RefAdamUkvIdeal.τ).loc Cert.RefAdamUkvIdeal.main_arg5) = m ((c.tc : Thread Cert.RefAdamUkvIdeal.nD Cert.RefAdamUkvIdeal.τ).loc Cert.RefAdamUkvIdeal.main_arg5)
      ∧ r.2.mem ((c.tc : Thread Cert.RefAdamUkvIdeal.nD Cert.RefAdamUkvIdeal.τ).loc Cert.RefAdamUkvIdeal.main_arg6) = m ((c.tc : Thread Cert.RefAdamUkvIdeal.nD Cert.RefAdamUkvIdeal.τ).loc Cert.RefAdamUkvIdeal.main_arg6)
      ∧ r.2.mem ((c.tc : Thread Cert.RefAdamUkvIdeal.nD Cert.RefAdamUkvIdeal.τ).loc Cert.RefAdamUkvIdeal.main_arg7) = m ((c.tc : Thread Cert.RefAdamUkvIdeal.nD Cert.RefAdamUkvIdeal.τ).loc Cert.RefAdamUkvIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Dwn_DwnIdeal : Prop :=
  True

def algebraic_DwnIdeal_RefDwnIdeal [hDwnIdeal : Cert.DwnIdeal.Facts] [hRefDwnIdeal : Cert.RefDwnIdeal.Facts] : Prop :=
  ∀ (m : (ℓ : Loc Cert.DwnIdeal.nD Cert.DwnIdeal.τ Cert.DwnIdeal.sig) → Buf (Elt Ideal) ℓ) (g : Dev Cert.DwnIdeal.nD → PrngReg)
    (m' : (ℓ : Loc Cert.RefDwnIdeal.nD Cert.RefDwnIdeal.τ Cert.RefDwnIdeal.sig) → Buf (Elt Ideal) ℓ) (g' : Dev Cert.RefDwnIdeal.nD → PrngReg), Pre_DwnIdeal m →
    (∀ c : Dev Cert.DwnIdeal.nD,
      m' ((c.tc : Thread Cert.RefDwnIdeal.nD Cert.RefDwnIdeal.τ).loc Cert.RefDwnIdeal.main_arg0) = m ((c.tc : Thread Cert.DwnIdeal.nD Cert.DwnIdeal.τ).loc Cert.DwnIdeal.main_arg0)
      ∧ m' ((c.tc : Thread Cert.RefDwnIdeal.nD Cert.RefDwnIdeal.τ).loc Cert.RefDwnIdeal.main_arg1) = m ((c.tc : Thread Cert.DwnIdeal.nD Cert.DwnIdeal.τ).loc Cert.DwnIdeal.main_arg1)) →
    ∃ (v0 : (c : Dev Cert.DwnIdeal.nD) → Buf (Elt Ideal) ((c.tc : Thread Cert.DwnIdeal.nD Cert.DwnIdeal.τ).loc Cert.DwnIdeal.main_v0)),
      θ_run (Cert.DwnIdeal.defs (F := Ideal)) (onTc (τ := Cert.DwnIdeal.τ) (Cert.DwnIdeal.main (F := Ideal))) ⟨m, fun _ => 0, g⟩ (fun r => ∀ c : Dev Cert.DwnIdeal.nD,
          r.2.mem ((c.tc : Thread Cert.DwnIdeal.nD Cert.DwnIdeal.τ).loc Cert.DwnIdeal.main_v0) = v0 c
          ∧ r.2.mem ((c.tc : Thread Cert.DwnIdeal.nD Cert.DwnIdeal.τ).loc Cert.DwnIdeal.main_arg0) = m ((c.tc : Thread Cert.DwnIdeal.nD Cert.DwnIdeal.τ).loc Cert.DwnIdeal.main_arg0)
          ∧ r.2.mem ((c.tc : Thread Cert.DwnIdeal.nD Cert.DwnIdeal.τ).loc Cert.DwnIdeal.main_arg1) = m ((c.tc : Thread Cert.DwnIdeal.nD Cert.DwnIdeal.τ).loc Cert.DwnIdeal.main_arg1))
      ∧ θ_run (Cert.RefDwnIdeal.defs (F := Ideal)) (onTc (τ := Cert.RefDwnIdeal.τ) (Cert.RefDwnIdeal.main (F := Ideal))) ⟨m', fun _ => 0, g'⟩ (fun r => ∀ c : Dev Cert.RefDwnIdeal.nD,
          r.2.mem ((c.tc : Thread Cert.RefDwnIdeal.nD Cert.RefDwnIdeal.τ).loc Cert.RefDwnIdeal.main_v7) = v0 c
          ∧ r.2.mem ((c.tc : Thread Cert.RefDwnIdeal.nD Cert.RefDwnIdeal.τ).loc Cert.RefDwnIdeal.main_arg0) = m' ((c.tc : Thread Cert.RefDwnIdeal.nD Cert.RefDwnIdeal.τ).loc Cert.RefDwnIdeal.main_arg0)
          ∧ r.2.mem ((c.tc : Thread Cert.RefDwnIdeal.nD Cert.RefDwnIdeal.τ).loc Cert.RefDwnIdeal.main_arg1) = m' ((c.tc : Thread Cert.RefDwnIdeal.nD Cert.RefDwnIdeal.τ).loc Cert.RefDwnIdeal.main_arg1))

def preserves_Du_DuIdeal : Prop :=
  True

def algebraic_DuIdeal_RefDuIdeal [hDuIdeal : Cert.DuIdeal.Facts] [hRefDuIdeal : Cert.RefDuIdeal.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.RefDuIdeal.nD Cert.RefDuIdeal.τ Cert.RefDuIdeal.sig) → Buf (Elt Ideal) ℓ) (g' : Dev Cert.RefDuIdeal.nD → PrngReg), Pre_DuIdeal m →
    (∀ c : Dev Cert.DuIdeal.nD,
      m' ((c.tc : Thread Cert.RefDuIdeal.nD Cert.RefDuIdeal.τ).loc Cert.RefDuIdeal.main_arg0) = m ((c.tc : Thread Cert.DuIdeal.nD Cert.DuIdeal.τ).loc Cert.DuIdeal.main_arg0)
      ∧ m' ((c.tc : Thread Cert.RefDuIdeal.nD Cert.RefDuIdeal.τ).loc Cert.RefDuIdeal.main_arg1) = m ((c.tc : Thread Cert.DuIdeal.nD Cert.DuIdeal.τ).loc Cert.DuIdeal.main_arg1)) →
    ∃ (v0 : (c : Dev Cert.DuIdeal.nD) → Buf (Elt Ideal) ((c.tc : Thread Cert.DuIdeal.nD Cert.DuIdeal.τ).loc Cert.DuIdeal.main_v0)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v0) = v0 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1))
      ∧ θ_run (Cert.RefDuIdeal.defs (F := Ideal)) (onTc (τ := Cert.RefDuIdeal.τ) (Cert.RefDuIdeal.main (F := Ideal))) ⟨m', fun _ => 0, g'⟩ (fun r => ∀ c : Dev Cert.RefDuIdeal.nD,
          r.2.mem ((c.tc : Thread Cert.RefDuIdeal.nD Cert.RefDuIdeal.τ).loc Cert.RefDuIdeal.main_v6) = v0 c
          ∧ r.2.mem ((c.tc : Thread Cert.RefDuIdeal.nD Cert.RefDuIdeal.τ).loc Cert.RefDuIdeal.main_arg0) = m' ((c.tc : Thread Cert.RefDuIdeal.nD Cert.RefDuIdeal.τ).loc Cert.RefDuIdeal.main_arg0)
          ∧ r.2.mem ((c.tc : Thread Cert.RefDuIdeal.nD Cert.RefDuIdeal.τ).loc Cert.RefDuIdeal.main_arg1) = m' ((c.tc : Thread Cert.RefDuIdeal.nD Cert.RefDuIdeal.τ).loc Cert.RefDuIdeal.main_arg1))

def preserves_Dy_DyIdeal : Prop :=
  True

def algebraic_DyIdeal_RefDyIdeal [hDyIdeal : Cert.DyIdeal.Facts] [hRefDyIdeal : Cert.RefDyIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.RefDyIdeal.nD Cert.RefDyIdeal.τ Cert.RefDyIdeal.sig) → Buf (Elt Ideal) ℓ) (g' : Dev Cert.RefDyIdeal.nD → PrngReg), Pre_DyIdeal m →
    (∀ c : Dev Cert.DyIdeal.nD,
      m' ((c.tc : Thread Cert.RefDyIdeal.nD Cert.RefDyIdeal.τ).loc Cert.RefDyIdeal.main_arg0) = m ((c.tc : Thread Cert.DyIdeal.nD Cert.DyIdeal.τ).loc Cert.DyIdeal.main_arg0)
      ∧ m' ((c.tc : Thread Cert.RefDyIdeal.nD Cert.RefDyIdeal.τ).loc Cert.RefDyIdeal.main_arg1) = m ((c.tc : Thread Cert.DyIdeal.nD Cert.DyIdeal.τ).loc Cert.DyIdeal.main_arg1)) →
    ∃ (v0 : (c : Dev Cert.DyIdeal.nD) → Buf (Elt Ideal) ((c.tc : Thread Cert.DyIdeal.nD Cert.DyIdeal.τ).loc Cert.DyIdeal.main_v0)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v0) = v0 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ θ_run (Cert.RefDyIdeal.defs (F := Ideal)) (onTc (τ := Cert.RefDyIdeal.τ) (Cert.RefDyIdeal.main (F := Ideal))) ⟨m', fun _ => 0, g'⟩ (fun r => ∀ c : Dev Cert.RefDyIdeal.nD,
          r.2.mem ((c.tc : Thread Cert.RefDyIdeal.nD Cert.RefDyIdeal.τ).loc Cert.RefDyIdeal.main_v4) = v0 c
          ∧ r.2.mem ((c.tc : Thread Cert.RefDyIdeal.nD Cert.RefDyIdeal.τ).loc Cert.RefDyIdeal.main_arg0) = m' ((c.tc : Thread Cert.RefDyIdeal.nD Cert.RefDyIdeal.τ).loc Cert.RefDyIdeal.main_arg0)
          ∧ r.2.mem ((c.tc : Thread Cert.RefDyIdeal.nD Cert.RefDyIdeal.τ).loc Cert.RefDyIdeal.main_arg1) = m' ((c.tc : Thread Cert.RefDyIdeal.nD Cert.RefDyIdeal.τ).loc Cert.RefDyIdeal.main_arg1))

def preserves_Dwo_DwoIdeal : Prop :=
  True

def algebraic_DwoIdeal_RefDwoIdeal [hDwoIdeal : Cert.DwoIdeal.Facts] [hRefDwoIdeal : Cert.RefDwoIdeal.Facts] : Prop :=
  ∀ (m : (ℓ : Loc Cert.DwoIdeal.nD Cert.DwoIdeal.τ Cert.DwoIdeal.sig) → Buf (Elt Ideal) ℓ) (g : Dev Cert.DwoIdeal.nD → PrngReg)
    (m' : (ℓ : Loc Cert.RefDwoIdeal.nD Cert.RefDwoIdeal.τ Cert.RefDwoIdeal.sig) → Buf (Elt Ideal) ℓ) (g' : Dev Cert.RefDwoIdeal.nD → PrngReg), Pre_DwoIdeal m →
    (∀ c : Dev Cert.DwoIdeal.nD,
      m' ((c.tc : Thread Cert.RefDwoIdeal.nD Cert.RefDwoIdeal.τ).loc Cert.RefDwoIdeal.main_arg0) = m ((c.tc : Thread Cert.DwoIdeal.nD Cert.DwoIdeal.τ).loc Cert.DwoIdeal.main_arg0)
      ∧ m' ((c.tc : Thread Cert.RefDwoIdeal.nD Cert.RefDwoIdeal.τ).loc Cert.RefDwoIdeal.main_arg1) = m ((c.tc : Thread Cert.DwoIdeal.nD Cert.DwoIdeal.τ).loc Cert.DwoIdeal.main_arg1)) →
    ∃ (v0 : (c : Dev Cert.DwoIdeal.nD) → Buf (Elt Ideal) ((c.tc : Thread Cert.DwoIdeal.nD Cert.DwoIdeal.τ).loc Cert.DwoIdeal.main_v0)),
      θ_run (Cert.DwoIdeal.defs (F := Ideal)) (onTc (τ := Cert.DwoIdeal.τ) (Cert.DwoIdeal.main (F := Ideal))) ⟨m, fun _ => 0, g⟩ (fun r => ∀ c : Dev Cert.DwoIdeal.nD,
          r.2.mem ((c.tc : Thread Cert.DwoIdeal.nD Cert.DwoIdeal.τ).loc Cert.DwoIdeal.main_v0) = v0 c
          ∧ r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
          ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ θ_run (Cert.RefDwoIdeal.defs (F := Ideal)) (onTc (τ := Cert.RefDwoIdeal.τ) (Cert.RefDwoIdeal.main (F := Ideal))) ⟨m', fun _ => 0, g'⟩ (fun r => ∀ c : Dev Cert.RefDwoIdeal.nD,
          r.2.mem ((c.tc : Thread Cert.RefDwoIdeal.nD Cert.RefDwoIdeal.τ).loc Cert.RefDwoIdeal.main_v5) = v0 c
          ∧ r.2.mem ((c.tc : Thread Cert.RefDwoIdeal.nD Cert.RefDwoIdeal.τ).loc Cert.RefDwoIdeal.main_arg0) = m' ((c.tc : Thread Cert.RefDwoIdeal.nD Cert.RefDwoIdeal.τ).loc Cert.RefDwoIdeal.main_arg0)
          ∧ r.2.mem ((c.tc : Thread Cert.RefDwoIdeal.nD Cert.RefDwoIdeal.τ).loc Cert.RefDwoIdeal.main_arg1) = m' ((c.tc : Thread Cert.RefDwoIdeal.nD Cert.RefDwoIdeal.τ).loc Cert.RefDwoIdeal.main_arg1))

def preserves_Dcq_DcqIdeal : Prop :=
  True

def algebraic_DcqIdeal_RefDcqIdeal [hDcqIdeal : Cert.DcqIdeal.Facts] [hRefDcqIdeal : Cert.RefDcqIdeal.Facts] : Prop :=
  ∀ (m : (ℓ : Loc Cert.DcqIdeal.nD Cert.DcqIdeal.τ Cert.DcqIdeal.sig) → Buf (Elt Ideal) ℓ) (g : Dev Cert.DcqIdeal.nD → PrngReg)
    (m' : (ℓ : Loc Cert.RefDcqIdeal.nD Cert.RefDcqIdeal.τ Cert.RefDcqIdeal.sig) → Buf (Elt Ideal) ℓ) (g' : Dev Cert.RefDcqIdeal.nD → PrngReg), Pre_DcqIdeal m →
    (∀ c : Dev Cert.DcqIdeal.nD,
      m' ((c.tc : Thread Cert.RefDcqIdeal.nD Cert.RefDcqIdeal.τ).loc Cert.RefDcqIdeal.main_arg0) = m ((c.tc : Thread Cert.DcqIdeal.nD Cert.DcqIdeal.τ).loc Cert.DcqIdeal.main_arg0)
      ∧ m' ((c.tc : Thread Cert.RefDcqIdeal.nD Cert.RefDcqIdeal.τ).loc Cert.RefDcqIdeal.main_arg1) = m ((c.tc : Thread Cert.DcqIdeal.nD Cert.DcqIdeal.τ).loc Cert.DcqIdeal.main_arg1)) →
    ∃ (v0 : (c : Dev Cert.DcqIdeal.nD) → Buf (Elt Ideal) ((c.tc : Thread Cert.DcqIdeal.nD Cert.DcqIdeal.τ).loc Cert.DcqIdeal.main_v0)),
      θ_run (Cert.DcqIdeal.defs (F := Ideal)) (onTc (τ := Cert.DcqIdeal.τ) (Cert.DcqIdeal.main (F := Ideal))) ⟨m, fun _ => 0, g⟩ (fun r => ∀ c : Dev Cert.DcqIdeal.nD,
          r.2.mem ((c.tc : Thread Cert.DcqIdeal.nD Cert.DcqIdeal.τ).loc Cert.DcqIdeal.main_v0) = v0 c
          ∧ r.2.mem ((c.tc : Thread Cert.DcqIdeal.nD Cert.DcqIdeal.τ).loc Cert.DcqIdeal.main_arg0) = m ((c.tc : Thread Cert.DcqIdeal.nD Cert.DcqIdeal.τ).loc Cert.DcqIdeal.main_arg0)
          ∧ r.2.mem ((c.tc : Thread Cert.DcqIdeal.nD Cert.DcqIdeal.τ).loc Cert.DcqIdeal.main_arg1) = m ((c.tc : Thread Cert.DcqIdeal.nD Cert.DcqIdeal.τ).loc Cert.DcqIdeal.main_arg1))
      ∧ θ_run (Cert.RefDcqIdeal.defs (F := Ideal)) (onTc (τ := Cert.RefDcqIdeal.τ) (Cert.RefDcqIdeal.main (F := Ideal))) ⟨m', fun _ => 0, g'⟩ (fun r => ∀ c : Dev Cert.RefDcqIdeal.nD,
          r.2.mem ((c.tc : Thread Cert.RefDcqIdeal.nD Cert.RefDcqIdeal.τ).loc Cert.RefDcqIdeal.main_v5) = v0 c
          ∧ r.2.mem ((c.tc : Thread Cert.RefDcqIdeal.nD Cert.RefDcqIdeal.τ).loc Cert.RefDcqIdeal.main_arg0) = m' ((c.tc : Thread Cert.RefDcqIdeal.nD Cert.RefDcqIdeal.τ).loc Cert.RefDcqIdeal.main_arg0)
          ∧ r.2.mem ((c.tc : Thread Cert.RefDcqIdeal.nD Cert.RefDcqIdeal.τ).loc Cert.RefDcqIdeal.main_arg1) = m' ((c.tc : Thread Cert.RefDcqIdeal.nD Cert.RefDcqIdeal.τ).loc Cert.RefDcqIdeal.main_arg1))

def preserves_Dwuq_DwuqIdeal : Prop :=
  True

def algebraic_DwuqIdeal_RefDwuqIdeal [hDwuqIdeal : Cert.DwuqIdeal.Facts] [hRefDwuqIdeal : Cert.RefDwuqIdeal.Facts] : Prop :=
  ∀ (m : (ℓ : Loc Cert.DwuqIdeal.nD Cert.DwuqIdeal.τ Cert.DwuqIdeal.sig) → Buf (Elt Ideal) ℓ) (g : Dev Cert.DwuqIdeal.nD → PrngReg)
    (m' : (ℓ : Loc Cert.RefDwuqIdeal.nD Cert.RefDwuqIdeal.τ Cert.RefDwuqIdeal.sig) → Buf (Elt Ideal) ℓ) (g' : Dev Cert.RefDwuqIdeal.nD → PrngReg), Pre_DwuqIdeal m →
    (∀ c : Dev Cert.DwuqIdeal.nD,
      m' ((c.tc : Thread Cert.RefDwuqIdeal.nD Cert.RefDwuqIdeal.τ).loc Cert.RefDwuqIdeal.main_arg0) = m ((c.tc : Thread Cert.DwuqIdeal.nD Cert.DwuqIdeal.τ).loc Cert.DwuqIdeal.main_arg0)
      ∧ m' ((c.tc : Thread Cert.RefDwuqIdeal.nD Cert.RefDwuqIdeal.τ).loc Cert.RefDwuqIdeal.main_arg1) = m ((c.tc : Thread Cert.DwuqIdeal.nD Cert.DwuqIdeal.τ).loc Cert.DwuqIdeal.main_arg1)) →
    ∃ (v0 : (c : Dev Cert.DwuqIdeal.nD) → Buf (Elt Ideal) ((c.tc : Thread Cert.DwuqIdeal.nD Cert.DwuqIdeal.τ).loc Cert.DwuqIdeal.main_v0)),
      θ_run (Cert.DwuqIdeal.defs (F := Ideal)) (onTc (τ := Cert.DwuqIdeal.τ) (Cert.DwuqIdeal.main (F := Ideal))) ⟨m, fun _ => 0, g⟩ (fun r => ∀ c : Dev Cert.DwuqIdeal.nD,
          r.2.mem ((c.tc : Thread Cert.DwuqIdeal.nD Cert.DwuqIdeal.τ).loc Cert.DwuqIdeal.main_v0) = v0 c
          ∧ r.2.mem ((c.tc : Thread Cert.DwuqIdeal.nD Cert.DwuqIdeal.τ).loc Cert.DwuqIdeal.main_arg0) = m ((c.tc : Thread Cert.DwuqIdeal.nD Cert.DwuqIdeal.τ).loc Cert.DwuqIdeal.main_arg0)
          ∧ r.2.mem ((c.tc : Thread Cert.DwuqIdeal.nD Cert.DwuqIdeal.τ).loc Cert.DwuqIdeal.main_arg1) = m ((c.tc : Thread Cert.DwuqIdeal.nD Cert.DwuqIdeal.τ).loc Cert.DwuqIdeal.main_arg1))
      ∧ θ_run (Cert.RefDwuqIdeal.defs (F := Ideal)) (onTc (τ := Cert.RefDwuqIdeal.τ) (Cert.RefDwuqIdeal.main (F := Ideal))) ⟨m', fun _ => 0, g'⟩ (fun r => ∀ c : Dev Cert.RefDwuqIdeal.nD,
          r.2.mem ((c.tc : Thread Cert.RefDwuqIdeal.nD Cert.RefDwuqIdeal.τ).loc Cert.RefDwuqIdeal.main_v6) = v0 c
          ∧ r.2.mem ((c.tc : Thread Cert.RefDwuqIdeal.nD Cert.RefDwuqIdeal.τ).loc Cert.RefDwuqIdeal.main_arg0) = m' ((c.tc : Thread Cert.RefDwuqIdeal.nD Cert.RefDwuqIdeal.τ).loc Cert.RefDwuqIdeal.main_arg0)
          ∧ r.2.mem ((c.tc : Thread Cert.RefDwuqIdeal.nD Cert.RefDwuqIdeal.τ).loc Cert.RefDwuqIdeal.main_arg1) = m' ((c.tc : Thread Cert.RefDwuqIdeal.nD Cert.RefDwuqIdeal.τ).loc Cert.RefDwuqIdeal.main_arg1))

def preserves_Dckv_DckvIdeal : Prop :=
  True

def algebraic_DckvIdeal_RefDckvIdeal [hDckvIdeal : Cert.DckvIdeal.Facts] [hRefDckvIdeal : Cert.RefDckvIdeal.Facts] : Prop :=
  ∀ (m : (ℓ : Loc Cert.DckvIdeal.nD Cert.DckvIdeal.τ Cert.DckvIdeal.sig) → Buf (Elt Ideal) ℓ) (g : Dev Cert.DckvIdeal.nD → PrngReg)
    (m' : (ℓ : Loc Cert.RefDckvIdeal.nD Cert.RefDckvIdeal.τ Cert.RefDckvIdeal.sig) → Buf (Elt Ideal) ℓ) (g' : Dev Cert.RefDckvIdeal.nD → PrngReg), Pre_DckvIdeal m →
    (∀ c : Dev Cert.DckvIdeal.nD,
      m' ((c.tc : Thread Cert.RefDckvIdeal.nD Cert.RefDckvIdeal.τ).loc Cert.RefDckvIdeal.main_arg0) = m ((c.tc : Thread Cert.DckvIdeal.nD Cert.DckvIdeal.τ).loc Cert.DckvIdeal.main_arg0)
      ∧ m' ((c.tc : Thread Cert.RefDckvIdeal.nD Cert.RefDckvIdeal.τ).loc Cert.RefDckvIdeal.main_arg1) = m ((c.tc : Thread Cert.DckvIdeal.nD Cert.DckvIdeal.τ).loc Cert.DckvIdeal.main_arg1)) →
    ∃ (v0 : (c : Dev Cert.DckvIdeal.nD) → Buf (Elt Ideal) ((c.tc : Thread Cert.DckvIdeal.nD Cert.DckvIdeal.τ).loc Cert.DckvIdeal.main_v0)),
      θ_run (Cert.DckvIdeal.defs (F := Ideal)) (onTc (τ := Cert.DckvIdeal.τ) (Cert.DckvIdeal.main (F := Ideal))) ⟨m, fun _ => 0, g⟩ (fun r => ∀ c : Dev Cert.DckvIdeal.nD,
          r.2.mem ((c.tc : Thread Cert.DckvIdeal.nD Cert.DckvIdeal.τ).loc Cert.DckvIdeal.main_v0) = v0 c
          ∧ r.2.mem ((c.tc : Thread Cert.DckvIdeal.nD Cert.DckvIdeal.τ).loc Cert.DckvIdeal.main_arg0) = m ((c.tc : Thread Cert.DckvIdeal.nD Cert.DckvIdeal.τ).loc Cert.DckvIdeal.main_arg0)
          ∧ r.2.mem ((c.tc : Thread Cert.DckvIdeal.nD Cert.DckvIdeal.τ).loc Cert.DckvIdeal.main_arg1) = m ((c.tc : Thread Cert.DckvIdeal.nD Cert.DckvIdeal.τ).loc Cert.DckvIdeal.main_arg1))
      ∧ θ_run (Cert.RefDckvIdeal.defs (F := Ideal)) (onTc (τ := Cert.RefDckvIdeal.τ) (Cert.RefDckvIdeal.main (F := Ideal))) ⟨m', fun _ => 0, g'⟩ (fun r => ∀ c : Dev Cert.RefDckvIdeal.nD,
          r.2.mem ((c.tc : Thread Cert.RefDckvIdeal.nD Cert.RefDckvIdeal.τ).loc Cert.RefDckvIdeal.main_v5) = v0 c
          ∧ r.2.mem ((c.tc : Thread Cert.RefDckvIdeal.nD Cert.RefDckvIdeal.τ).loc Cert.RefDckvIdeal.main_arg0) = m' ((c.tc : Thread Cert.RefDckvIdeal.nD Cert.RefDckvIdeal.τ).loc Cert.RefDckvIdeal.main_arg0)
          ∧ r.2.mem ((c.tc : Thread Cert.RefDckvIdeal.nD Cert.RefDckvIdeal.τ).loc Cert.RefDckvIdeal.main_arg1) = m' ((c.tc : Thread Cert.RefDckvIdeal.nD Cert.RefDckvIdeal.τ).loc Cert.RefDckvIdeal.main_arg1))

def preserves_Dwukv_DwukvIdeal : Prop :=
  True

def algebraic_DwukvIdeal_RefDwukvIdeal [hDwukvIdeal : Cert.DwukvIdeal.Facts] [hRefDwukvIdeal : Cert.RefDwukvIdeal.Facts] : Prop :=
  ∀ (m : (ℓ : Loc Cert.DwukvIdeal.nD Cert.DwukvIdeal.τ Cert.DwukvIdeal.sig) → Buf (Elt Ideal) ℓ) (g : Dev Cert.DwukvIdeal.nD → PrngReg)
    (m' : (ℓ : Loc Cert.RefDwukvIdeal.nD Cert.RefDwukvIdeal.τ Cert.RefDwukvIdeal.sig) → Buf (Elt Ideal) ℓ) (g' : Dev Cert.RefDwukvIdeal.nD → PrngReg), Pre_DwukvIdeal m →
    (∀ c : Dev Cert.DwukvIdeal.nD,
      m' ((c.tc : Thread Cert.RefDwukvIdeal.nD Cert.RefDwukvIdeal.τ).loc Cert.RefDwukvIdeal.main_arg0) = m ((c.tc : Thread Cert.DwukvIdeal.nD Cert.DwukvIdeal.τ).loc Cert.DwukvIdeal.main_arg0)
      ∧ m' ((c.tc : Thread Cert.RefDwukvIdeal.nD Cert.RefDwukvIdeal.τ).loc Cert.RefDwukvIdeal.main_arg1) = m ((c.tc : Thread Cert.DwukvIdeal.nD Cert.DwukvIdeal.τ).loc Cert.DwukvIdeal.main_arg1)) →
    ∃ (v0 : (c : Dev Cert.DwukvIdeal.nD) → Buf (Elt Ideal) ((c.tc : Thread Cert.DwukvIdeal.nD Cert.DwukvIdeal.τ).loc Cert.DwukvIdeal.main_v0)),
      θ_run (Cert.DwukvIdeal.defs (F := Ideal)) (onTc (τ := Cert.DwukvIdeal.τ) (Cert.DwukvIdeal.main (F := Ideal))) ⟨m, fun _ => 0, g⟩ (fun r => ∀ c : Dev Cert.DwukvIdeal.nD,
          r.2.mem ((c.tc : Thread Cert.DwukvIdeal.nD Cert.DwukvIdeal.τ).loc Cert.DwukvIdeal.main_v0) = v0 c
          ∧ r.2.mem ((c.tc : Thread Cert.DwukvIdeal.nD Cert.DwukvIdeal.τ).loc Cert.DwukvIdeal.main_arg0) = m ((c.tc : Thread Cert.DwukvIdeal.nD Cert.DwukvIdeal.τ).loc Cert.DwukvIdeal.main_arg0)
          ∧ r.2.mem ((c.tc : Thread Cert.DwukvIdeal.nD Cert.DwukvIdeal.τ).loc Cert.DwukvIdeal.main_arg1) = m ((c.tc : Thread Cert.DwukvIdeal.nD Cert.DwukvIdeal.τ).loc Cert.DwukvIdeal.main_arg1))
      ∧ θ_run (Cert.RefDwukvIdeal.defs (F := Ideal)) (onTc (τ := Cert.RefDwukvIdeal.τ) (Cert.RefDwukvIdeal.main (F := Ideal))) ⟨m', fun _ => 0, g'⟩ (fun r => ∀ c : Dev Cert.RefDwukvIdeal.nD,
          r.2.mem ((c.tc : Thread Cert.RefDwukvIdeal.nD Cert.RefDwukvIdeal.τ).loc Cert.RefDwukvIdeal.main_v6) = v0 c
          ∧ r.2.mem ((c.tc : Thread Cert.RefDwukvIdeal.nD Cert.RefDwukvIdeal.τ).loc Cert.RefDwukvIdeal.main_arg0) = m' ((c.tc : Thread Cert.RefDwukvIdeal.nD Cert.RefDwukvIdeal.τ).loc Cert.RefDwukvIdeal.main_arg0)
          ∧ r.2.mem ((c.tc : Thread Cert.RefDwukvIdeal.nD Cert.RefDwukvIdeal.τ).loc Cert.RefDwukvIdeal.main_arg1) = m' ((c.tc : Thread Cert.RefDwukvIdeal.nD Cert.RefDwukvIdeal.τ).loc Cert.RefDwukvIdeal.main_arg1))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v4) = v0 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1))

def preserves_UpQ_UpQIdeal : Prop :=
  True

def algebraic_UpQIdeal_RefUpQIdeal [hUpQIdeal : Cert.UpQIdeal.Facts] [hRefUpQIdeal : Cert.RefUpQIdeal.Facts] : Prop :=
  ∀ (m : (ℓ : Loc Cert.UpQIdeal.nD Cert.UpQIdeal.τ Cert.UpQIdeal.sig) → Buf (Elt Ideal) ℓ) (g : Dev Cert.UpQIdeal.nD → PrngReg)
    (m' : (ℓ : Loc Cert.RefUpQIdeal.nD Cert.RefUpQIdeal.τ Cert.RefUpQIdeal.sig) → Buf (Elt Ideal) ℓ) (g' : Dev Cert.RefUpQIdeal.nD → PrngReg), Pre_UpQIdeal m →
    (∀ c : Dev Cert.UpQIdeal.nD,
      m' ((c.tc : Thread Cert.RefUpQIdeal.nD Cert.RefUpQIdeal.τ).loc Cert.RefUpQIdeal.main_arg0) = m ((c.tc : Thread Cert.UpQIdeal.nD Cert.UpQIdeal.τ).loc Cert.UpQIdeal.main_arg0)
      ∧ m' ((c.tc : Thread Cert.RefUpQIdeal.nD Cert.RefUpQIdeal.τ).loc Cert.RefUpQIdeal.main_arg1) = m ((c.tc : Thread Cert.UpQIdeal.nD Cert.UpQIdeal.τ).loc Cert.UpQIdeal.main_arg1)) →
    ∃ (v0 : (c : Dev Cert.UpQIdeal.nD) → Buf (Elt Ideal) ((c.tc : Thread Cert.UpQIdeal.nD Cert.UpQIdeal.τ).loc Cert.UpQIdeal.main_v0)),
      θ_run (Cert.UpQIdeal.defs (F := Ideal)) (onTc (τ := Cert.UpQIdeal.τ) (Cert.UpQIdeal.main (F := Ideal))) ⟨m, fun _ => 0, g⟩ (fun r => ∀ c : Dev Cert.UpQIdeal.nD,
          r.2.mem ((c.tc : Thread Cert.UpQIdeal.nD Cert.UpQIdeal.τ).loc Cert.UpQIdeal.main_v0) = v0 c
          ∧ r.2.mem ((c.tc : Thread Cert.UpQIdeal.nD Cert.UpQIdeal.τ).loc Cert.UpQIdeal.main_arg0) = m ((c.tc : Thread Cert.UpQIdeal.nD Cert.UpQIdeal.τ).loc Cert.UpQIdeal.main_arg0)
          ∧ r.2.mem ((c.tc : Thread Cert.UpQIdeal.nD Cert.UpQIdeal.τ).loc Cert.UpQIdeal.main_arg1) = m ((c.tc : Thread Cert.UpQIdeal.nD Cert.UpQIdeal.τ).loc Cert.UpQIdeal.main_arg1))
      ∧ θ_run (Cert.RefUpQIdeal.defs (F := Ideal)) (onTc (τ := Cert.RefUpQIdeal.τ) (Cert.RefUpQIdeal.main (F := Ideal))) ⟨m', fun _ => 0, g'⟩ (fun r => ∀ c : Dev Cert.RefUpQIdeal.nD,
          r.2.mem ((c.tc : Thread Cert.RefUpQIdeal.nD Cert.RefUpQIdeal.τ).loc Cert.RefUpQIdeal.main_v2) = v0 c
          ∧ r.2.mem ((c.tc : Thread Cert.RefUpQIdeal.nD Cert.RefUpQIdeal.τ).loc Cert.RefUpQIdeal.main_arg0) = m' ((c.tc : Thread Cert.RefUpQIdeal.nD Cert.RefUpQIdeal.τ).loc Cert.RefUpQIdeal.main_arg0)
          ∧ r.2.mem ((c.tc : Thread Cert.RefUpQIdeal.nD Cert.RefUpQIdeal.τ).loc Cert.RefUpQIdeal.main_arg1) = m' ((c.tc : Thread Cert.RefUpQIdeal.nD Cert.RefUpQIdeal.τ).loc Cert.RefUpQIdeal.main_arg1))

def preserves_UpKv_UpKvIdeal : Prop :=
  True

def algebraic_UpKvIdeal_RefUpKvIdeal [hUpKvIdeal : Cert.UpKvIdeal.Facts] [hRefUpKvIdeal : Cert.RefUpKvIdeal.Facts] : Prop :=
  ∀ (m : (ℓ : Loc Cert.UpKvIdeal.nD Cert.UpKvIdeal.τ Cert.UpKvIdeal.sig) → Buf (Elt Ideal) ℓ) (g : Dev Cert.UpKvIdeal.nD → PrngReg)
    (m' : (ℓ : Loc Cert.RefUpKvIdeal.nD Cert.RefUpKvIdeal.τ Cert.RefUpKvIdeal.sig) → Buf (Elt Ideal) ℓ) (g' : Dev Cert.RefUpKvIdeal.nD → PrngReg), Pre_UpKvIdeal m →
    (∀ c : Dev Cert.UpKvIdeal.nD,
      m' ((c.tc : Thread Cert.RefUpKvIdeal.nD Cert.RefUpKvIdeal.τ).loc Cert.RefUpKvIdeal.main_arg0) = m ((c.tc : Thread Cert.UpKvIdeal.nD Cert.UpKvIdeal.τ).loc Cert.UpKvIdeal.main_arg0)
      ∧ m' ((c.tc : Thread Cert.RefUpKvIdeal.nD Cert.RefUpKvIdeal.τ).loc Cert.RefUpKvIdeal.main_arg1) = m ((c.tc : Thread Cert.UpKvIdeal.nD Cert.UpKvIdeal.τ).loc Cert.UpKvIdeal.main_arg1)) →
    ∃ (v0 : (c : Dev Cert.UpKvIdeal.nD) → Buf (Elt Ideal) ((c.tc : Thread Cert.UpKvIdeal.nD Cert.UpKvIdeal.τ).loc Cert.UpKvIdeal.main_v0)),
      θ_run (Cert.UpKvIdeal.defs (F := Ideal)) (onTc (τ := Cert.UpKvIdeal.τ) (Cert.UpKvIdeal.main (F := Ideal))) ⟨m, fun _ => 0, g⟩ (fun r => ∀ c : Dev Cert.UpKvIdeal.nD,
          r.2.mem ((c.tc : Thread Cert.UpKvIdeal.nD Cert.UpKvIdeal.τ).loc Cert.UpKvIdeal.main_v0) = v0 c
          ∧ r.2.mem ((c.tc : Thread Cert.UpKvIdeal.nD Cert.UpKvIdeal.τ).loc Cert.UpKvIdeal.main_arg0) = m ((c.tc : Thread Cert.UpKvIdeal.nD Cert.UpKvIdeal.τ).loc Cert.UpKvIdeal.main_arg0)
          ∧ r.2.mem ((c.tc : Thread Cert.UpKvIdeal.nD Cert.UpKvIdeal.τ).loc Cert.UpKvIdeal.main_arg1) = m ((c.tc : Thread Cert.UpKvIdeal.nD Cert.UpKvIdeal.τ).loc Cert.UpKvIdeal.main_arg1))
      ∧ θ_run (Cert.RefUpKvIdeal.defs (F := Ideal)) (onTc (τ := Cert.RefUpKvIdeal.τ) (Cert.RefUpKvIdeal.main (F := Ideal))) ⟨m', fun _ => 0, g'⟩ (fun r => ∀ c : Dev Cert.RefUpKvIdeal.nD,
          r.2.mem ((c.tc : Thread Cert.RefUpKvIdeal.nD Cert.RefUpKvIdeal.τ).loc Cert.RefUpKvIdeal.main_v3) = v0 c
          ∧ r.2.mem ((c.tc : Thread Cert.RefUpKvIdeal.nD Cert.RefUpKvIdeal.τ).loc Cert.RefUpKvIdeal.main_arg0) = m' ((c.tc : Thread Cert.RefUpKvIdeal.nD Cert.RefUpKvIdeal.τ).loc Cert.RefUpKvIdeal.main_arg0)
          ∧ r.2.mem ((c.tc : Thread Cert.RefUpKvIdeal.nD Cert.RefUpKvIdeal.τ).loc Cert.RefUpKvIdeal.main_arg1) = m' ((c.tc : Thread Cert.RefUpKvIdeal.nD Cert.RefUpKvIdeal.τ).loc Cert.RefUpKvIdeal.main_arg1))

def preserves_OutProj_OutProjIdeal : Prop :=
  True

def algebraic_OutProjIdeal_RefOutProjIdeal [hOutProjIdeal : Cert.OutProjIdeal.Facts] [hRefOutProjIdeal : Cert.RefOutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.RefOutProjIdeal.nD Cert.RefOutProjIdeal.τ Cert.RefOutProjIdeal.sig) → Buf (Elt Ideal) ℓ) (g' : Dev Cert.RefOutProjIdeal.nD → PrngReg), Pre_OutProjIdeal m →
    (∀ c : Dev Cert.OutProjIdeal.nD,
      m' ((c.tc : Thread Cert.RefOutProjIdeal.nD Cert.RefOutProjIdeal.τ).loc Cert.RefOutProjIdeal.main_arg0) = m ((c.tc : Thread Cert.OutProjIdeal.nD Cert.OutProjIdeal.τ).loc Cert.OutProjIdeal.main_arg0)
      ∧ m' ((c.tc : Thread Cert.RefOutProjIdeal.nD Cert.RefOutProjIdeal.τ).loc Cert.RefOutProjIdeal.main_arg1) = m ((c.tc : Thread Cert.OutProjIdeal.nD Cert.OutProjIdeal.τ).loc Cert.OutProjIdeal.main_arg1)
      ∧ m' ((c.tc : Thread Cert.RefOutProjIdeal.nD Cert.RefOutProjIdeal.τ).loc Cert.RefOutProjIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.RefOutProjIdeal.defs (F := Ideal)) (onTc (τ := Cert.RefOutProjIdeal.τ) (Cert.RefOutProjIdeal.main (F := Ideal))) ⟨m', fun _ => 0, g'⟩ (fun r => ∀ c : Dev Cert.RefOutProjIdeal.nD,
          r.2.mem ((c.tc : Thread Cert.RefOutProjIdeal.nD Cert.RefOutProjIdeal.τ).loc Cert.RefOutProjIdeal.main_v3) = v0 c
          ∧ r.2.mem ((c.tc : Thread Cert.RefOutProjIdeal.nD Cert.RefOutProjIdeal.τ).loc Cert.RefOutProjIdeal.main_arg0) = m' ((c.tc : Thread Cert.RefOutProjIdeal.nD Cert.RefOutProjIdeal.τ).loc Cert.RefOutProjIdeal.main_arg0)
          ∧ r.2.mem ((c.tc : Thread Cert.RefOutProjIdeal.nD Cert.RefOutProjIdeal.τ).loc Cert.RefOutProjIdeal.main_arg1) = m' ((c.tc : Thread Cert.RefOutProjIdeal.nD Cert.RefOutProjIdeal.τ).loc Cert.RefOutProjIdeal.main_arg1)
          ∧ r.2.mem ((c.tc : Thread Cert.RefOutProjIdeal.nD Cert.RefOutProjIdeal.τ).loc Cert.RefOutProjIdeal.main_arg2) = m' ((c.tc : Thread Cert.RefOutProjIdeal.nD Cert.RefOutProjIdeal.τ).loc Cert.RefOutProjIdeal.main_arg2))

def preserves_MlaBwd_MlaBwdIdeal : Prop :=
  True

def algebraic_MlaBwdIdeal_RefMlaBwdIdeal_pre_finite_mla [hMlaBwdIdeal : Cert.MlaBwdIdeal.Facts] [hRefMlaBwdIdeal : Cert.RefMlaBwdIdeal.Facts] [hPre_finite_mla : Cert.Pre_finite_mla.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg)
    (m' : (ℓ : Loc Cert.RefMlaBwdIdeal.nD Cert.RefMlaBwdIdeal.τ Cert.RefMlaBwdIdeal.sig) → Buf (Elt Ideal) ℓ) (g' : Dev Cert.RefMlaBwdIdeal.nD → PrngReg), Pre_MlaBwdIdeal_finite_mla m →
    (∀ c : Dev Cert.MlaBwdIdeal.nD,
      m' ((c.tc : Thread Cert.RefMlaBwdIdeal.nD Cert.RefMlaBwdIdeal.τ).loc Cert.RefMlaBwdIdeal.main_arg0) = m ((c.tc : Thread Cert.MlaBwdIdeal.nD Cert.MlaBwdIdeal.τ).loc Cert.MlaBwdIdeal.main_arg0)
      ∧ m' ((c.tc : Thread Cert.RefMlaBwdIdeal.nD Cert.RefMlaBwdIdeal.τ).loc Cert.RefMlaBwdIdeal.main_arg1) = m ((c.tc : Thread Cert.MlaBwdIdeal.nD Cert.MlaBwdIdeal.τ).loc Cert.MlaBwdIdeal.main_arg1)
      ∧ m' ((c.tc : Thread Cert.RefMlaBwdIdeal.nD Cert.RefMlaBwdIdeal.τ).loc Cert.RefMlaBwdIdeal.main_arg2) = m ((c.tc : Thread Cert.MlaBwdIdeal.nD Cert.MlaBwdIdeal.τ).loc Cert.MlaBwdIdeal.main_arg2)
      ∧ m' ((c.tc : Thread Cert.RefMlaBwdIdeal.nD Cert.RefMlaBwdIdeal.τ).loc Cert.RefMlaBwdIdeal.main_arg3) = m ((c.tc : Thread Cert.MlaBwdIdeal.nD Cert.MlaBwdIdeal.τ).loc Cert.MlaBwdIdeal.main_arg3)) →
    ∃ (v0 : (c : Dev Cert.MlaBwdIdeal.nD) → Buf (Elt Ideal) ((c.tc : Thread Cert.MlaBwdIdeal.nD Cert.MlaBwdIdeal.τ).loc Cert.MlaBwdIdeal.main_v59_0)) (v1 : (c : Dev Cert.MlaBwdIdeal.nD) → Buf (Elt Ideal) ((c.tc : Thread Cert.MlaBwdIdeal.nD Cert.MlaBwdIdeal.τ).loc Cert.MlaBwdIdeal.main_v59_1)) (v2 : (c : Dev Cert.MlaBwdIdeal.nD) → Buf (Elt Ideal) ((c.tc : Thread Cert.MlaBwdIdeal.nD Cert.MlaBwdIdeal.τ).loc Cert.MlaBwdIdeal.main_v59_2)),
      θ_run (Cert.MlaBwdIdeal.defs (F := Ideal)) (onTc (τ := Cert.MlaBwdIdeal.τ) (Cert.MlaBwdIdeal.main (F := Ideal))) ⟨m, fun _ => 0, g⟩ (fun r => ∀ c : Dev Cert.MlaBwdIdeal.nD,
          r.2.mem ((c.tc : Thread Cert.MlaBwdIdeal.nD Cert.MlaBwdIdeal.τ).loc Cert.MlaBwdIdeal.main_v59_0) = v0 c
          ∧ r.2.mem ((c.tc : Thread Cert.MlaBwdIdeal.nD Cert.MlaBwdIdeal.τ).loc Cert.MlaBwdIdeal.main_v59_1) = v1 c
          ∧ r.2.mem ((c.tc : Thread Cert.MlaBwdIdeal.nD Cert.MlaBwdIdeal.τ).loc Cert.MlaBwdIdeal.main_v59_2) = v2 c
          ∧ r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
          ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
          ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
          ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3))
      ∧ θ_run (Cert.RefMlaBwdIdeal.defs (F := Ideal)) (onTc (τ := Cert.RefMlaBwdIdeal.τ) (Cert.RefMlaBwdIdeal.main (F := Ideal))) ⟨m', fun _ => 0, g'⟩ (fun r => ∀ c : Dev Cert.RefMlaBwdIdeal.nD,
          r.2.mem ((c.tc : Thread Cert.RefMlaBwdIdeal.nD Cert.RefMlaBwdIdeal.τ).loc Cert.RefMlaBwdIdeal.main_v85) = v0 c
          ∧ r.2.mem ((c.tc : Thread Cert.RefMlaBwdIdeal.nD Cert.RefMlaBwdIdeal.τ).loc Cert.RefMlaBwdIdeal.main_v86) = v1 c
          ∧ r.2.mem ((c.tc : Thread Cert.RefMlaBwdIdeal.nD Cert.RefMlaBwdIdeal.τ).loc Cert.RefMlaBwdIdeal.main_v87) = v2 c
          ∧ r.2.mem ((c.tc : Thread Cert.RefMlaBwdIdeal.nD Cert.RefMlaBwdIdeal.τ).loc Cert.RefMlaBwdIdeal.main_arg0) = m' ((c.tc : Thread Cert.RefMlaBwdIdeal.nD Cert.RefMlaBwdIdeal.τ).loc Cert.RefMlaBwdIdeal.main_arg0)
          ∧ r.2.mem ((c.tc : Thread Cert.RefMlaBwdIdeal.nD Cert.RefMlaBwdIdeal.τ).loc Cert.RefMlaBwdIdeal.main_arg1) = m' ((c.tc : Thread Cert.RefMlaBwdIdeal.nD Cert.RefMlaBwdIdeal.τ).loc Cert.RefMlaBwdIdeal.main_arg1)
          ∧ r.2.mem ((c.tc : Thread Cert.RefMlaBwdIdeal.nD Cert.RefMlaBwdIdeal.τ).loc Cert.RefMlaBwdIdeal.main_arg2) = m' ((c.tc : Thread Cert.RefMlaBwdIdeal.nD Cert.RefMlaBwdIdeal.τ).loc Cert.RefMlaBwdIdeal.main_arg2)
          ∧ r.2.mem ((c.tc : Thread Cert.RefMlaBwdIdeal.nD Cert.RefMlaBwdIdeal.τ).loc Cert.RefMlaBwdIdeal.main_arg3) = m' ((c.tc : Thread Cert.RefMlaBwdIdeal.nD Cert.RefMlaBwdIdeal.τ).loc Cert.RefMlaBwdIdeal.main_arg3))

def preserves_AdamMeta_AdamMetaIdeal : Prop :=
  True

def algebraic_AdamMetaIdeal_RefAdamMetaIdeal [hAdamMetaIdeal : Cert.AdamMetaIdeal.Facts] [hRefAdamMetaIdeal : Cert.RefAdamMetaIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg)
    (m' : (ℓ : Loc Cert.RefAdamMetaIdeal.nD Cert.RefAdamMetaIdeal.τ Cert.RefAdamMetaIdeal.sig) → Buf (Elt Ideal) ℓ) (g' : Dev Cert.RefAdamMetaIdeal.nD → PrngReg), Pre_AdamMetaIdeal m →
    (∀ c : Dev Cert.AdamMetaIdeal.nD,
      m' ((c.tc : Thread Cert.RefAdamMetaIdeal.nD Cert.RefAdamMetaIdeal.τ).loc Cert.RefAdamMetaIdeal.main_arg0) = m ((c.tc : Thread Cert.AdamMetaIdeal.nD Cert.AdamMetaIdeal.τ).loc Cert.AdamMetaIdeal.main_arg0)
      ∧ m' ((c.tc : Thread Cert.RefAdamMetaIdeal.nD Cert.RefAdamMetaIdeal.τ).loc Cert.RefAdamMetaIdeal.main_arg1) = m ((c.tc : Thread Cert.AdamMetaIdeal.nD Cert.AdamMetaIdeal.τ).loc Cert.AdamMetaIdeal.main_arg1)
      ∧ m' ((c.tc : Thread Cert.RefAdamMetaIdeal.nD Cert.RefAdamMetaIdeal.τ).loc Cert.RefAdamMetaIdeal.main_arg2) = m ((c.tc : Thread Cert.AdamMetaIdeal.nD Cert.AdamMetaIdeal.τ).loc Cert.AdamMetaIdeal.main_arg2)
      ∧ m' ((c.tc : Thread Cert.RefAdamMetaIdeal.nD Cert.RefAdamMetaIdeal.τ).loc Cert.RefAdamMetaIdeal.main_arg3) = m ((c.tc : Thread Cert.AdamMetaIdeal.nD Cert.AdamMetaIdeal.τ).loc Cert.AdamMetaIdeal.main_arg3)) →
    ∃ (v0 : (c : Dev Cert.AdamMetaIdeal.nD) → Buf (Elt Ideal) ((c.tc : Thread Cert.AdamMetaIdeal.nD Cert.AdamMetaIdeal.τ).loc Cert.AdamMetaIdeal.main_v0_0)) (v1 : (c : Dev Cert.AdamMetaIdeal.nD) → Buf (Elt Ideal) ((c.tc : Thread Cert.AdamMetaIdeal.nD Cert.AdamMetaIdeal.τ).loc Cert.AdamMetaIdeal.main_v0_1)) (v2 : (c : Dev Cert.AdamMetaIdeal.nD) → Buf (Elt Ideal) ((c.tc : Thread Cert.AdamMetaIdeal.nD Cert.AdamMetaIdeal.τ).loc Cert.AdamMetaIdeal.main_v0_2)),
      θ_run (Cert.AdamMetaIdeal.defs (F := Ideal)) (onTc (τ := Cert.AdamMetaIdeal.τ) (Cert.AdamMetaIdeal.main (F := Ideal))) ⟨m, fun _ => 0, g⟩ (fun r => ∀ c : Dev Cert.AdamMetaIdeal.nD,
          r.2.mem ((c.tc : Thread Cert.AdamMetaIdeal.nD Cert.AdamMetaIdeal.τ).loc Cert.AdamMetaIdeal.main_v0_0) = v0 c
          ∧ r.2.mem ((c.tc : Thread Cert.AdamMetaIdeal.nD Cert.AdamMetaIdeal.τ).loc Cert.AdamMetaIdeal.main_v0_1) = v1 c
          ∧ r.2.mem ((c.tc : Thread Cert.AdamMetaIdeal.nD Cert.AdamMetaIdeal.τ).loc Cert.AdamMetaIdeal.main_v0_2) = v2 c
          ∧ r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
          ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
          ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
          ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3))
      ∧ θ_run (Cert.RefAdamMetaIdeal.defs (F := Ideal)) (onTc (τ := Cert.RefAdamMetaIdeal.τ) (Cert.RefAdamMetaIdeal.main (F := Ideal))) ⟨m', fun _ => 0, g'⟩ (fun r => ∀ c : Dev Cert.RefAdamMetaIdeal.nD,
          r.2.mem ((c.tc : Thread Cert.RefAdamMetaIdeal.nD Cert.RefAdamMetaIdeal.τ).loc Cert.RefAdamMetaIdeal.main_v23) = v0 c
          ∧ r.2.mem ((c.tc : Thread Cert.RefAdamMetaIdeal.nD Cert.RefAdamMetaIdeal.τ).loc Cert.RefAdamMetaIdeal.main_v4) = v1 c
          ∧ r.2.mem ((c.tc : Thread Cert.RefAdamMetaIdeal.nD Cert.RefAdamMetaIdeal.τ).loc Cert.RefAdamMetaIdeal.main_v10) = v2 c
          ∧ r.2.mem ((c.tc : Thread Cert.RefAdamMetaIdeal.nD Cert.RefAdamMetaIdeal.τ).loc Cert.RefAdamMetaIdeal.main_arg0) = m' ((c.tc : Thread Cert.RefAdamMetaIdeal.nD Cert.RefAdamMetaIdeal.τ).loc Cert.RefAdamMetaIdeal.main_arg0)
          ∧ r.2.mem ((c.tc : Thread Cert.RefAdamMetaIdeal.nD Cert.RefAdamMetaIdeal.τ).loc Cert.RefAdamMetaIdeal.main_arg1) = m' ((c.tc : Thread Cert.RefAdamMetaIdeal.nD Cert.RefAdamMetaIdeal.τ).loc Cert.RefAdamMetaIdeal.main_arg1)
          ∧ r.2.mem ((c.tc : Thread Cert.RefAdamMetaIdeal.nD Cert.RefAdamMetaIdeal.τ).loc Cert.RefAdamMetaIdeal.main_arg2) = m' ((c.tc : Thread Cert.RefAdamMetaIdeal.nD Cert.RefAdamMetaIdeal.τ).loc Cert.RefAdamMetaIdeal.main_arg2)
          ∧ r.2.mem ((c.tc : Thread Cert.RefAdamMetaIdeal.nD Cert.RefAdamMetaIdeal.τ).loc Cert.RefAdamMetaIdeal.main_arg3) = m' ((c.tc : Thread Cert.RefAdamMetaIdeal.nD Cert.RefAdamMetaIdeal.τ).loc Cert.RefAdamMetaIdeal.main_arg3))

def preserves_AdamSmall_AdamSmallIdeal : Prop :=
  True

def algebraic_AdamSmallIdeal_RefAdamSmallIdeal [hAdamSmallIdeal : Cert.AdamSmallIdeal.Facts] [hRefAdamSmallIdeal : Cert.RefAdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.RefAdamSmallIdeal.nD Cert.RefAdamSmallIdeal.τ Cert.RefAdamSmallIdeal.sig) → Buf (Elt Ideal) ℓ) (g' : Dev Cert.RefAdamSmallIdeal.nD → PrngReg), Pre_AdamSmallIdeal m →
    (∀ c : Dev Cert.AdamSmallIdeal.nD,
      m' ((c.tc : Thread Cert.RefAdamSmallIdeal.nD Cert.RefAdamSmallIdeal.τ).loc Cert.RefAdamSmallIdeal.main_arg0) = m ((c.tc : Thread Cert.AdamSmallIdeal.nD Cert.AdamSmallIdeal.τ).loc Cert.AdamSmallIdeal.main_arg0)
      ∧ m' ((c.tc : Thread Cert.RefAdamSmallIdeal.nD Cert.RefAdamSmallIdeal.τ).loc Cert.RefAdamSmallIdeal.main_arg1) = m ((c.tc : Thread Cert.AdamSmallIdeal.nD Cert.AdamSmallIdeal.τ).loc Cert.AdamSmallIdeal.main_arg1)
      ∧ m' ((c.tc : Thread Cert.RefAdamSmallIdeal.nD Cert.RefAdamSmallIdeal.τ).loc Cert.RefAdamSmallIdeal.main_arg2) = m ((c.tc : Thread Cert.AdamSmallIdeal.nD Cert.AdamSmallIdeal.τ).loc Cert.AdamSmallIdeal.main_arg2)
      ∧ m' ((c.tc : Thread Cert.RefAdamSmallIdeal.nD Cert.RefAdamSmallIdeal.τ).loc Cert.RefAdamSmallIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.RefAdamSmallIdeal.defs (F := Ideal)) (onTc (τ := Cert.RefAdamSmallIdeal.τ) (Cert.RefAdamSmallIdeal.main (F := Ideal))) ⟨m', fun _ => 0, g'⟩ (fun r => ∀ c : Dev Cert.RefAdamSmallIdeal.nD,
          r.2.mem ((c.tc : Thread Cert.RefAdamSmallIdeal.nD Cert.RefAdamSmallIdeal.τ).loc Cert.RefAdamSmallIdeal.main_v23) = v0 c
          ∧ r.2.mem ((c.tc : Thread Cert.RefAdamSmallIdeal.nD Cert.RefAdamSmallIdeal.τ).loc Cert.RefAdamSmallIdeal.main_v4) = v1 c
          ∧ r.2.mem ((c.tc : Thread Cert.RefAdamSmallIdeal.nD Cert.RefAdamSmallIdeal.τ).loc Cert.RefAdamSmallIdeal.main_v10) = v2 c
          ∧ r.2.mem ((c.tc : Thread Cert.RefAdamSmallIdeal.nD Cert.RefAdamSmallIdeal.τ).loc Cert.RefAdamSmallIdeal.main_arg0) = m' ((c.tc : Thread Cert.RefAdamSmallIdeal.nD Cert.RefAdamSmallIdeal.τ).loc Cert.RefAdamSmallIdeal.main_arg0)
          ∧ r.2.mem ((c.tc : Thread Cert.RefAdamSmallIdeal.nD Cert.RefAdamSmallIdeal.τ).loc Cert.RefAdamSmallIdeal.main_arg1) = m' ((c.tc : Thread Cert.RefAdamSmallIdeal.nD Cert.RefAdamSmallIdeal.τ).loc Cert.RefAdamSmallIdeal.main_arg1)
          ∧ r.2.mem ((c.tc : Thread Cert.RefAdamSmallIdeal.nD Cert.RefAdamSmallIdeal.τ).loc Cert.RefAdamSmallIdeal.main_arg2) = m' ((c.tc : Thread Cert.RefAdamSmallIdeal.nD Cert.RefAdamSmallIdeal.τ).loc Cert.RefAdamSmallIdeal.main_arg2)
          ∧ r.2.mem ((c.tc : Thread Cert.RefAdamSmallIdeal.nD Cert.RefAdamSmallIdeal.τ).loc Cert.RefAdamSmallIdeal.main_arg3) = m' ((c.tc : Thread Cert.RefAdamSmallIdeal.nD Cert.RefAdamSmallIdeal.τ).loc Cert.RefAdamSmallIdeal.main_arg3))

def preserves_SumA_SumAIdeal : Prop :=
  True

def algebraic_SumAIdeal_RefSumAIdeal [hSumAIdeal : Cert.SumAIdeal.Facts] [hRefSumAIdeal : Cert.RefSumAIdeal.Facts] : Prop :=
  ∀ (m : (ℓ : Loc Cert.SumAIdeal.nD Cert.SumAIdeal.τ Cert.SumAIdeal.sig) → Buf (Elt Ideal) ℓ) (g : Dev Cert.SumAIdeal.nD → PrngReg)
    (m' : (ℓ : Loc Cert.RefSumAIdeal.nD Cert.RefSumAIdeal.τ Cert.RefSumAIdeal.sig) → Buf (Elt Ideal) ℓ) (g' : Dev Cert.RefSumAIdeal.nD → PrngReg), Pre_SumAIdeal m →
    (∀ c : Dev Cert.SumAIdeal.nD,
      m' ((c.tc : Thread Cert.RefSumAIdeal.nD Cert.RefSumAIdeal.τ).loc Cert.RefSumAIdeal.main_arg0) = m ((c.tc : Thread Cert.SumAIdeal.nD Cert.SumAIdeal.τ).loc Cert.SumAIdeal.main_arg0)) →
    ∃ (v0 : (c : Dev Cert.SumAIdeal.nD) → Buf (Elt Ideal) ((c.tc : Thread Cert.SumAIdeal.nD Cert.SumAIdeal.τ).loc Cert.SumAIdeal.main_v0)),
      θ_run (Cert.SumAIdeal.defs (F := Ideal)) (onTc (τ := Cert.SumAIdeal.τ) (Cert.SumAIdeal.main (F := Ideal))) ⟨m, fun _ => 0, g⟩ (fun r => ∀ c : Dev Cert.SumAIdeal.nD,
          r.2.mem ((c.tc : Thread Cert.SumAIdeal.nD Cert.SumAIdeal.τ).loc Cert.SumAIdeal.main_v0) = v0 c
          ∧ r.2.mem ((c.tc : Thread Cert.SumAIdeal.nD Cert.SumAIdeal.τ).loc Cert.SumAIdeal.main_arg0) = m ((c.tc : Thread Cert.SumAIdeal.nD Cert.SumAIdeal.τ).loc Cert.SumAIdeal.main_arg0))
      ∧ θ_run (Cert.RefSumAIdeal.defs (F := Ideal)) (onTc (τ := Cert.RefSumAIdeal.τ) (Cert.RefSumAIdeal.main (F := Ideal))) ⟨m', fun _ => 0, g'⟩ (fun r => ∀ c : Dev Cert.RefSumAIdeal.nD,
          r.2.mem ((c.tc : Thread Cert.RefSumAIdeal.nD Cert.RefSumAIdeal.τ).loc Cert.RefSumAIdeal.main_v0) = v0 c
          ∧ r.2.mem ((c.tc : Thread Cert.RefSumAIdeal.nD Cert.RefSumAIdeal.τ).loc Cert.RefSumAIdeal.main_arg0) = m' ((c.tc : Thread Cert.RefSumAIdeal.nD Cert.RefSumAIdeal.τ).loc Cert.RefSumAIdeal.main_arg0))

def preserves_SumB_SumBIdeal : Prop :=
  True

def algebraic_SumBIdeal_RefSumBIdeal [hSumBIdeal : Cert.SumBIdeal.Facts] [hRefSumBIdeal : Cert.RefSumBIdeal.Facts] : Prop :=
  ∀ (m : (ℓ : Loc Cert.SumBIdeal.nD Cert.SumBIdeal.τ Cert.SumBIdeal.sig) → Buf (Elt Ideal) ℓ) (g : Dev Cert.SumBIdeal.nD → PrngReg)
    (m' : (ℓ : Loc Cert.RefSumBIdeal.nD Cert.RefSumBIdeal.τ Cert.RefSumBIdeal.sig) → Buf (Elt Ideal) ℓ) (g' : Dev Cert.RefSumBIdeal.nD → PrngReg), Pre_SumBIdeal m →
    (∀ c : Dev Cert.SumBIdeal.nD,
      m' ((c.tc : Thread Cert.RefSumBIdeal.nD Cert.RefSumBIdeal.τ).loc Cert.RefSumBIdeal.main_arg0) = m ((c.tc : Thread Cert.SumBIdeal.nD Cert.SumBIdeal.τ).loc Cert.SumBIdeal.main_arg0)) →
    ∃ (v0 : (c : Dev Cert.SumBIdeal.nD) → Buf (Elt Ideal) ((c.tc : Thread Cert.SumBIdeal.nD Cert.SumBIdeal.τ).loc Cert.SumBIdeal.main_v0)),
      θ_run (Cert.SumBIdeal.defs (F := Ideal)) (onTc (τ := Cert.SumBIdeal.τ) (Cert.SumBIdeal.main (F := Ideal))) ⟨m, fun _ => 0, g⟩ (fun r => ∀ c : Dev Cert.SumBIdeal.nD,
          r.2.mem ((c.tc : Thread Cert.SumBIdeal.nD Cert.SumBIdeal.τ).loc Cert.SumBIdeal.main_v0) = v0 c
          ∧ r.2.mem ((c.tc : Thread Cert.SumBIdeal.nD Cert.SumBIdeal.τ).loc Cert.SumBIdeal.main_arg0) = m ((c.tc : Thread Cert.SumBIdeal.nD Cert.SumBIdeal.τ).loc Cert.SumBIdeal.main_arg0))
      ∧ θ_run (Cert.RefSumBIdeal.defs (F := Ideal)) (onTc (τ := Cert.RefSumBIdeal.τ) (Cert.RefSumBIdeal.main (F := Ideal))) ⟨m', fun _ => 0, g'⟩ (fun r => ∀ c : Dev Cert.RefSumBIdeal.nD,
          r.2.mem ((c.tc : Thread Cert.RefSumBIdeal.nD Cert.RefSumBIdeal.τ).loc Cert.RefSumBIdeal.main_v0) = v0 c
          ∧ r.2.mem ((c.tc : Thread Cert.RefSumBIdeal.nD Cert.RefSumBIdeal.τ).loc Cert.RefSumBIdeal.main_arg0) = m' ((c.tc : Thread Cert.RefSumBIdeal.nD Cert.RefSumBIdeal.τ).loc Cert.RefSumBIdeal.main_arg0))

def preserves_AdamO_AdamOIdeal : Prop :=
  True

def algebraic_AdamOIdeal_RefAdamOIdeal [hAdamOIdeal : Cert.AdamOIdeal.Facts] [hRefAdamOIdeal : Cert.RefAdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg)
    (m' : (ℓ : Loc Cert.RefAdamOIdeal.nD Cert.RefAdamOIdeal.τ Cert.RefAdamOIdeal.sig) → Buf (Elt Ideal) ℓ) (g' : Dev Cert.RefAdamOIdeal.nD → PrngReg), Pre_AdamOIdeal m →
    (∀ c : Dev Cert.AdamOIdeal.nD,
      m' ((c.tc : Thread Cert.RefAdamOIdeal.nD Cert.RefAdamOIdeal.τ).loc Cert.RefAdamOIdeal.main_arg0) = m ((c.tc : Thread Cert.AdamOIdeal.nD Cert.AdamOIdeal.τ).loc Cert.AdamOIdeal.main_arg0)
      ∧ m' ((c.tc : Thread Cert.RefAdamOIdeal.nD Cert.RefAdamOIdeal.τ).loc Cert.RefAdamOIdeal.main_arg1) = m ((c.tc : Thread Cert.AdamOIdeal.nD Cert.AdamOIdeal.τ).loc Cert.AdamOIdeal.main_arg1)
      ∧ m' ((c.tc : Thread Cert.RefAdamOIdeal.nD Cert.RefAdamOIdeal.τ).loc Cert.RefAdamOIdeal.main_arg2) = m ((c.tc : Thread Cert.AdamOIdeal.nD Cert.AdamOIdeal.τ).loc Cert.AdamOIdeal.main_arg2)
      ∧ m' ((c.tc : Thread Cert.RefAdamOIdeal.nD Cert.RefAdamOIdeal.τ).loc Cert.RefAdamOIdeal.main_arg3) = m ((c.tc : Thread Cert.AdamOIdeal.nD Cert.AdamOIdeal.τ).loc Cert.AdamOIdeal.main_arg3)
      ∧ m' ((c.tc : Thread Cert.RefAdamOIdeal.nD Cert.RefAdamOIdeal.τ).loc Cert.RefAdamOIdeal.main_arg4) = m ((c.tc : Thread Cert.AdamOIdeal.nD Cert.AdamOIdeal.τ).loc Cert.AdamOIdeal.main_arg4)
      ∧ m' ((c.tc : Thread Cert.RefAdamOIdeal.nD Cert.RefAdamOIdeal.τ).loc Cert.RefAdamOIdeal.main_arg5) = m ((c.tc : Thread Cert.AdamOIdeal.nD Cert.AdamOIdeal.τ).loc Cert.AdamOIdeal.main_arg5)
      ∧ m' ((c.tc : Thread Cert.RefAdamOIdeal.nD Cert.RefAdamOIdeal.τ).loc Cert.RefAdamOIdeal.main_arg6) = m ((c.tc : Thread Cert.AdamOIdeal.nD Cert.AdamOIdeal.τ).loc Cert.AdamOIdeal.main_arg6)
      ∧ m' ((c.tc : Thread Cert.RefAdamOIdeal.nD Cert.RefAdamOIdeal.τ).loc Cert.RefAdamOIdeal.main_arg7) = m ((c.tc : Thread Cert.AdamOIdeal.nD Cert.AdamOIdeal.τ).loc Cert.AdamOIdeal.main_arg7)) →
    ∃ (v0 : (c : Dev Cert.AdamOIdeal.nD) → Buf (Elt Ideal) ((c.tc : Thread Cert.AdamOIdeal.nD Cert.AdamOIdeal.τ).loc Cert.AdamOIdeal.main_v0_0)) (v1 : (c : Dev Cert.AdamOIdeal.nD) → Buf (Elt Ideal) ((c.tc : Thread Cert.AdamOIdeal.nD Cert.AdamOIdeal.τ).loc Cert.AdamOIdeal.main_v0_1)) (v2 : (c : Dev Cert.AdamOIdeal.nD) → Buf (Elt Ideal) ((c.tc : Thread Cert.AdamOIdeal.nD Cert.AdamOIdeal.τ).loc Cert.AdamOIdeal.main_v0_2)) (v3 : (c : Dev Cert.AdamOIdeal.nD) → Buf (Elt Ideal) ((c.tc : Thread Cert.AdamOIdeal.nD Cert.AdamOIdeal.τ).loc Cert.AdamOIdeal.main_v0_3)),
      θ_run (Cert.AdamOIdeal.defs (F := Ideal)) (onTc (τ := Cert.AdamOIdeal.τ) (Cert.AdamOIdeal.main (F := Ideal))) ⟨m, fun _ => 0, g⟩ (fun r => ∀ c : Dev Cert.AdamOIdeal.nD,
          r.2.mem ((c.tc : Thread Cert.AdamOIdeal.nD Cert.AdamOIdeal.τ).loc Cert.AdamOIdeal.main_v0_0) = v0 c
          ∧ r.2.mem ((c.tc : Thread Cert.AdamOIdeal.nD Cert.AdamOIdeal.τ).loc Cert.AdamOIdeal.main_v0_1) = v1 c
          ∧ r.2.mem ((c.tc : Thread Cert.AdamOIdeal.nD Cert.AdamOIdeal.τ).loc Cert.AdamOIdeal.main_v0_2) = v2 c
          ∧ r.2.mem ((c.tc : Thread Cert.AdamOIdeal.nD Cert.AdamOIdeal.τ).loc Cert.AdamOIdeal.main_v0_3) = v3 c
          ∧ r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
          ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
          ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
          ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3)
          ∧ r.2.mem ((c.tc : Thread Cert.AdamOIdeal.nD Cert.AdamOIdeal.τ).loc Cert.AdamOIdeal.main_arg4) = m ((c.tc : Thread Cert.AdamOIdeal.nD Cert.AdamOIdeal.τ).loc Cert.AdamOIdeal.main_arg4)
          ∧ r.2.mem ((c.tc : Thread Cert.AdamOIdeal.nD Cert.AdamOIdeal.τ).loc Cert.AdamOIdeal.main_arg5) = m ((c.tc : Thread Cert.AdamOIdeal.nD Cert.AdamOIdeal.τ).loc Cert.AdamOIdeal.main_arg5)
          ∧ r.2.mem ((c.tc : Thread Cert.AdamOIdeal.nD Cert.AdamOIdeal.τ).loc Cert.AdamOIdeal.main_arg6) = m ((c.tc : Thread Cert.AdamOIdeal.nD Cert.AdamOIdeal.τ).loc Cert.AdamOIdeal.main_arg6)
          ∧ r.2.mem ((c.tc : Thread Cert.AdamOIdeal.nD Cert.AdamOIdeal.τ).loc Cert.AdamOIdeal.main_arg7) = m ((c.tc : Thread Cert.AdamOIdeal.nD Cert.AdamOIdeal.τ).loc Cert.AdamOIdeal.main_arg7))
      ∧ θ_run (Cert.RefAdamOIdeal.defs (F := Ideal)) (onTc (τ := Cert.RefAdamOIdeal.τ) (Cert.RefAdamOIdeal.main (F := Ideal))) ⟨m', fun _ => 0, g'⟩ (fun r => ∀ c : Dev Cert.RefAdamOIdeal.nD,
          r.2.mem ((c.tc : Thread Cert.RefAdamOIdeal.nD Cert.RefAdamOIdeal.τ).loc Cert.RefAdamOIdeal.main_v34) = v0 c
          ∧ r.2.mem ((c.tc : Thread Cert.RefAdamOIdeal.nD Cert.RefAdamOIdeal.τ).loc Cert.RefAdamOIdeal.main_v37) = v1 c
          ∧ r.2.mem ((c.tc : Thread Cert.RefAdamOIdeal.nD Cert.RefAdamOIdeal.τ).loc Cert.RefAdamOIdeal.main_v40) = v2 c
          ∧ r.2.mem ((c.tc : Thread Cert.RefAdamOIdeal.nD Cert.RefAdamOIdeal.τ).loc Cert.RefAdamOIdeal.main_v43) = v3 c
          ∧ r.2.mem ((c.tc : Thread Cert.RefAdamOIdeal.nD Cert.RefAdamOIdeal.τ).loc Cert.RefAdamOIdeal.main_arg0) = m' ((c.tc : Thread Cert.RefAdamOIdeal.nD Cert.RefAdamOIdeal.τ).loc Cert.RefAdamOIdeal.main_arg0)
          ∧ r.2.mem ((c.tc : Thread Cert.RefAdamOIdeal.nD Cert.RefAdamOIdeal.τ).loc Cert.RefAdamOIdeal.main_arg1) = m' ((c.tc : Thread Cert.RefAdamOIdeal.nD Cert.RefAdamOIdeal.τ).loc Cert.RefAdamOIdeal.main_arg1)
          ∧ r.2.mem ((c.tc : Thread Cert.RefAdamOIdeal.nD Cert.RefAdamOIdeal.τ).loc Cert.RefAdamOIdeal.main_arg2) = m' ((c.tc : Thread Cert.RefAdamOIdeal.nD Cert.RefAdamOIdeal.τ).loc Cert.RefAdamOIdeal.main_arg2)
          ∧ r.2.mem ((c.tc : Thread Cert.RefAdamOIdeal.nD Cert.RefAdamOIdeal.τ).loc Cert.RefAdamOIdeal.main_arg3) = m' ((c.tc : Thread Cert.RefAdamOIdeal.nD Cert.RefAdamOIdeal.τ).loc Cert.RefAdamOIdeal.main_arg3)
          ∧ r.2.mem ((c.tc : Thread Cert.RefAdamOIdeal.nD Cert.RefAdamOIdeal.τ).loc Cert.RefAdamOIdeal.main_arg4) = m' ((c.tc : Thread Cert.RefAdamOIdeal.nD Cert.RefAdamOIdeal.τ).loc Cert.RefAdamOIdeal.main_arg4)
          ∧ r.2.mem ((c.tc : Thread Cert.RefAdamOIdeal.nD Cert.RefAdamOIdeal.τ).loc Cert.RefAdamOIdeal.main_arg5) = m' ((c.tc : Thread Cert.RefAdamOIdeal.nD Cert.RefAdamOIdeal.τ).loc Cert.RefAdamOIdeal.main_arg5)
          ∧ r.2.mem ((c.tc : Thread Cert.RefAdamOIdeal.nD Cert.RefAdamOIdeal.τ).loc Cert.RefAdamOIdeal.main_arg6) = m' ((c.tc : Thread Cert.RefAdamOIdeal.nD Cert.RefAdamOIdeal.τ).loc Cert.RefAdamOIdeal.main_arg6)
          ∧ r.2.mem ((c.tc : Thread Cert.RefAdamOIdeal.nD Cert.RefAdamOIdeal.τ).loc Cert.RefAdamOIdeal.main_arg7) = m' ((c.tc : Thread Cert.RefAdamOIdeal.nD Cert.RefAdamOIdeal.τ).loc Cert.RefAdamOIdeal.main_arg7))

def preserves_AdamIn_AdamInIdeal : Prop :=
  True

def algebraic_AdamInIdeal_RefAdamInIdeal [hAdamInIdeal : Cert.AdamInIdeal.Facts] [hRefAdamInIdeal : Cert.RefAdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.RefAdamInIdeal.nD Cert.RefAdamInIdeal.τ Cert.RefAdamInIdeal.sig) → Buf (Elt Ideal) ℓ) (g' : Dev Cert.RefAdamInIdeal.nD → PrngReg), Pre_AdamInIdeal m →
    (∀ c : Dev Cert.AdamInIdeal.nD,
      m' ((c.tc : Thread Cert.RefAdamInIdeal.nD Cert.RefAdamInIdeal.τ).loc Cert.RefAdamInIdeal.main_arg0) = m ((c.tc : Thread Cert.AdamInIdeal.nD Cert.AdamInIdeal.τ).loc Cert.AdamInIdeal.main_arg0)
      ∧ m' ((c.tc : Thread Cert.RefAdamInIdeal.nD Cert.RefAdamInIdeal.τ).loc Cert.RefAdamInIdeal.main_arg1) = m ((c.tc : Thread Cert.AdamInIdeal.nD Cert.AdamInIdeal.τ).loc Cert.AdamInIdeal.main_arg1)
      ∧ m' ((c.tc : Thread Cert.RefAdamInIdeal.nD Cert.RefAdamInIdeal.τ).loc Cert.RefAdamInIdeal.main_arg2) = m ((c.tc : Thread Cert.AdamInIdeal.nD Cert.AdamInIdeal.τ).loc Cert.AdamInIdeal.main_arg2)
      ∧ m' ((c.tc : Thread Cert.RefAdamInIdeal.nD Cert.RefAdamInIdeal.τ).loc Cert.RefAdamInIdeal.main_arg3) = m ((c.tc : Thread Cert.AdamInIdeal.nD Cert.AdamInIdeal.τ).loc Cert.AdamInIdeal.main_arg3)
      ∧ m' ((c.tc : Thread Cert.RefAdamInIdeal.nD Cert.RefAdamInIdeal.τ).loc Cert.RefAdamInIdeal.main_arg4) = m ((c.tc : Thread Cert.AdamInIdeal.nD Cert.AdamInIdeal.τ).loc Cert.AdamInIdeal.main_arg4)
      ∧ m' ((c.tc : Thread Cert.RefAdamInIdeal.nD Cert.RefAdamInIdeal.τ).loc Cert.RefAdamInIdeal.main_arg5) = m ((c.tc : Thread Cert.AdamInIdeal.nD Cert.AdamInIdeal.τ).loc Cert.AdamInIdeal.main_arg5)
      ∧ m' ((c.tc : Thread Cert.RefAdamInIdeal.nD Cert.RefAdamInIdeal.τ).loc Cert.RefAdamInIdeal.main_arg6) = m ((c.tc : Thread Cert.AdamInIdeal.nD Cert.AdamInIdeal.τ).loc Cert.AdamInIdeal.main_arg6)
      ∧ m' ((c.tc : Thread Cert.RefAdamInIdeal.nD Cert.RefAdamInIdeal.τ).loc Cert.RefAdamInIdeal.main_arg7) = m ((c.tc : Thread Cert.AdamInIdeal.nD Cert.AdamInIdeal.τ).loc Cert.AdamInIdeal.main_arg7)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
          ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7))
      ∧ θ_run (Cert.RefAdamInIdeal.defs (F := Ideal)) (onTc (τ := Cert.RefAdamInIdeal.τ) (Cert.RefAdamInIdeal.main (F := Ideal))) ⟨m', fun _ => 0, g'⟩ (fun r => ∀ c : Dev Cert.RefAdamInIdeal.nD,
          r.2.mem ((c.tc : Thread Cert.RefAdamInIdeal.nD Cert.RefAdamInIdeal.τ).loc Cert.RefAdamInIdeal.main_v34) = v0 c
          ∧ r.2.mem ((c.tc : Thread Cert.RefAdamInIdeal.nD Cert.RefAdamInIdeal.τ).loc Cert.RefAdamInIdeal.main_v37) = v1 c
          ∧ r.2.mem ((c.tc : Thread Cert.RefAdamInIdeal.nD Cert.RefAdamInIdeal.τ).loc Cert.RefAdamInIdeal.main_v40) = v2 c
          ∧ r.2.mem ((c.tc : Thread Cert.RefAdamInIdeal.nD Cert.RefAdamInIdeal.τ).loc Cert.RefAdamInIdeal.main_v43) = v3 c
          ∧ r.2.mem ((c.tc : Thread Cert.RefAdamInIdeal.nD Cert.RefAdamInIdeal.τ).loc Cert.RefAdamInIdeal.main_arg0) = m' ((c.tc : Thread Cert.RefAdamInIdeal.nD Cert.RefAdamInIdeal.τ).loc Cert.RefAdamInIdeal.main_arg0)
          ∧ r.2.mem ((c.tc : Thread Cert.RefAdamInIdeal.nD Cert.RefAdamInIdeal.τ).loc Cert.RefAdamInIdeal.main_arg1) = m' ((c.tc : Thread Cert.RefAdamInIdeal.nD Cert.RefAdamInIdeal.τ).loc Cert.RefAdamInIdeal.main_arg1)
          ∧ r.2.mem ((c.tc : Thread Cert.RefAdamInIdeal.nD Cert.RefAdamInIdeal.τ).loc Cert.RefAdamInIdeal.main_arg2) = m' ((c.tc : Thread Cert.RefAdamInIdeal.nD Cert.RefAdamInIdeal.τ).loc Cert.RefAdamInIdeal.main_arg2)
          ∧ r.2.mem ((c.tc : Thread Cert.RefAdamInIdeal.nD Cert.RefAdamInIdeal.τ).loc Cert.RefAdamInIdeal.main_arg3) = m' ((c.tc : Thread Cert.RefAdamInIdeal.nD Cert.RefAdamInIdeal.τ).loc Cert.RefAdamInIdeal.main_arg3)
          ∧ r.2.mem ((c.tc : Thread Cert.RefAdamInIdeal.nD Cert.RefAdamInIdeal.τ).loc Cert.RefAdamInIdeal.main_arg4) = m' ((c.tc : Thread Cert.RefAdamInIdeal.nD Cert.RefAdamInIdeal.τ).loc Cert.RefAdamInIdeal.main_arg4)
          ∧ r.2.mem ((c.tc : Thread Cert.RefAdamInIdeal.nD Cert.RefAdamInIdeal.τ).loc Cert.RefAdamInIdeal.main_arg5) = m' ((c.tc : Thread Cert.RefAdamInIdeal.nD Cert.RefAdamInIdeal.τ).loc Cert.RefAdamInIdeal.main_arg5)
          ∧ r.2.mem ((c.tc : Thread Cert.RefAdamInIdeal.nD Cert.RefAdamInIdeal.τ).loc Cert.RefAdamInIdeal.main_arg6) = m' ((c.tc : Thread Cert.RefAdamInIdeal.nD Cert.RefAdamInIdeal.τ).loc Cert.RefAdamInIdeal.main_arg6)
          ∧ r.2.mem ((c.tc : Thread Cert.RefAdamInIdeal.nD Cert.RefAdamInIdeal.τ).loc Cert.RefAdamInIdeal.main_arg7) = m' ((c.tc : Thread Cert.RefAdamInIdeal.nD Cert.RefAdamInIdeal.τ).loc Cert.RefAdamInIdeal.main_arg7))

def preserves_AdamUq_AdamUqIdeal : Prop :=
  True

def algebraic_AdamUqIdeal_RefAdamUqIdeal [hAdamUqIdeal : Cert.AdamUqIdeal.Facts] [hRefAdamUqIdeal : Cert.RefAdamUqIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg)
    (m' : (ℓ : Loc Cert.RefAdamUqIdeal.nD Cert.RefAdamUqIdeal.τ Cert.RefAdamUqIdeal.sig) → Buf (Elt Ideal) ℓ) (g' : Dev Cert.RefAdamUqIdeal.nD → PrngReg), Pre_AdamUqIdeal m →
    (∀ c : Dev Cert.AdamUqIdeal.nD,
      m' ((c.tc : Thread Cert.RefAdamUqIdeal.nD Cert.RefAdamUqIdeal.τ).loc Cert.RefAdamUqIdeal.main_arg0) = m ((c.tc : Thread Cert.AdamUqIdeal.nD Cert.AdamUqIdeal.τ).loc Cert.AdamUqIdeal.main_arg0)
      ∧ m' ((c.tc : Thread Cert.RefAdamUqIdeal.nD Cert.RefAdamUqIdeal.τ).loc Cert.RefAdamUqIdeal.main_arg1) = m ((c.tc : Thread Cert.AdamUqIdeal.nD Cert.AdamUqIdeal.τ).loc Cert.AdamUqIdeal.main_arg1)
      ∧ m' ((c.tc : Thread Cert.RefAdamUqIdeal.nD Cert.RefAdamUqIdeal.τ).loc Cert.RefAdamUqIdeal.main_arg2) = m ((c.tc : Thread Cert.AdamUqIdeal.nD Cert.AdamUqIdeal.τ).loc Cert.AdamUqIdeal.main_arg2)
      ∧ m' ((c.tc : Thread Cert.RefAdamUqIdeal.nD Cert.RefAdamUqIdeal.τ).loc Cert.RefAdamUqIdeal.main_arg3) = m ((c.tc : Thread Cert.AdamUqIdeal.nD Cert.AdamUqIdeal.τ).loc Cert.AdamUqIdeal.main_arg3)
      ∧ m' ((c.tc : Thread Cert.RefAdamUqIdeal.nD Cert.RefAdamUqIdeal.τ).loc Cert.RefAdamUqIdeal.main_arg4) = m ((c.tc : Thread Cert.AdamUqIdeal.nD Cert.AdamUqIdeal.τ).loc Cert.AdamUqIdeal.main_arg4)
      ∧ m' ((c.tc : Thread Cert.RefAdamUqIdeal.nD Cert.RefAdamUqIdeal.τ).loc Cert.RefAdamUqIdeal.main_arg5) = m ((c.tc : Thread Cert.AdamUqIdeal.nD Cert.AdamUqIdeal.τ).loc Cert.AdamUqIdeal.main_arg5)
      ∧ m' ((c.tc : Thread Cert.RefAdamUqIdeal.nD Cert.RefAdamUqIdeal.τ).loc Cert.RefAdamUqIdeal.main_arg6) = m ((c.tc : Thread Cert.AdamUqIdeal.nD Cert.AdamUqIdeal.τ).loc Cert.AdamUqIdeal.main_arg6)
      ∧ m' ((c.tc : Thread Cert.RefAdamUqIdeal.nD Cert.RefAdamUqIdeal.τ).loc Cert.RefAdamUqIdeal.main_arg7) = m ((c.tc : Thread Cert.AdamUqIdeal.nD Cert.AdamUqIdeal.τ).loc Cert.AdamUqIdeal.main_arg7)) →
    ∃ (v0 : (c : Dev Cert.AdamUqIdeal.nD) → Buf (Elt Ideal) ((c.tc : Thread Cert.AdamUqIdeal.nD Cert.AdamUqIdeal.τ).loc Cert.AdamUqIdeal.main_v0_0)) (v1 : (c : Dev Cert.AdamUqIdeal.nD) → Buf (Elt Ideal) ((c.tc : Thread Cert.AdamUqIdeal.nD Cert.AdamUqIdeal.τ).loc Cert.AdamUqIdeal.main_v0_1)) (v2 : (c : Dev Cert.AdamUqIdeal.nD) → Buf (Elt Ideal) ((c.tc : Thread Cert.AdamUqIdeal.nD Cert.AdamUqIdeal.τ).loc Cert.AdamUqIdeal.main_v0_2)) (v3 : (c : Dev Cert.AdamUqIdeal.nD) → Buf (Elt Ideal) ((c.tc : Thread Cert.AdamUqIdeal.nD Cert.AdamUqIdeal.τ).loc Cert.AdamUqIdeal.main_v0_3)),
      θ_run (Cert.AdamUqIdeal.defs (F := Ideal)) (onTc (τ := Cert.AdamUqIdeal.τ) (Cert.AdamUqIdeal.main (F := Ideal))) ⟨m, fun _ => 0, g⟩ (fun r => ∀ c : Dev Cert.AdamUqIdeal.nD,
          r.2.mem ((c.tc : Thread Cert.AdamUqIdeal.nD Cert.AdamUqIdeal.τ).loc Cert.AdamUqIdeal.main_v0_0) = v0 c
          ∧ r.2.mem ((c.tc : Thread Cert.AdamUqIdeal.nD Cert.AdamUqIdeal.τ).loc Cert.AdamUqIdeal.main_v0_1) = v1 c
          ∧ r.2.mem ((c.tc : Thread Cert.AdamUqIdeal.nD Cert.AdamUqIdeal.τ).loc Cert.AdamUqIdeal.main_v0_2) = v2 c
          ∧ r.2.mem ((c.tc : Thread Cert.AdamUqIdeal.nD Cert.AdamUqIdeal.τ).loc Cert.AdamUqIdeal.main_v0_3) = v3 c
          ∧ r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
          ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
          ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
          ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3)
          ∧ r.2.mem ((c.tc : Thread Cert.AdamUqIdeal.nD Cert.AdamUqIdeal.τ).loc Cert.AdamUqIdeal.main_arg4) = m ((c.tc : Thread Cert.AdamUqIdeal.nD Cert.AdamUqIdeal.τ).loc Cert.AdamUqIdeal.main_arg4)
          ∧ r.2.mem ((c.tc : Thread Cert.AdamUqIdeal.nD Cert.AdamUqIdeal.τ).loc Cert.AdamUqIdeal.main_arg5) = m ((c.tc : Thread Cert.AdamUqIdeal.nD Cert.AdamUqIdeal.τ).loc Cert.AdamUqIdeal.main_arg5)
          ∧ r.2.mem ((c.tc : Thread Cert.AdamUqIdeal.nD Cert.AdamUqIdeal.τ).loc Cert.AdamUqIdeal.main_arg6) = m ((c.tc : Thread Cert.AdamUqIdeal.nD Cert.AdamUqIdeal.τ).loc Cert.AdamUqIdeal.main_arg6)
          ∧ r.2.mem ((c.tc : Thread Cert.AdamUqIdeal.nD Cert.AdamUqIdeal.τ).loc Cert.AdamUqIdeal.main_arg7) = m ((c.tc : Thread Cert.AdamUqIdeal.nD Cert.AdamUqIdeal.τ).loc Cert.AdamUqIdeal.main_arg7))
      ∧ θ_run (Cert.RefAdamUqIdeal.defs (F := Ideal)) (onTc (τ := Cert.RefAdamUqIdeal.τ) (Cert.RefAdamUqIdeal.main (F := Ideal))) ⟨m', fun _ => 0, g'⟩ (fun r => ∀ c : Dev Cert.RefAdamUqIdeal.nD,
          r.2.mem ((c.tc : Thread Cert.RefAdamUqIdeal.nD Cert.RefAdamUqIdeal.τ).loc Cert.RefAdamUqIdeal.main_v34) = v0 c
          ∧ r.2.mem ((c.tc : Thread Cert.RefAdamUqIdeal.nD Cert.RefAdamUqIdeal.τ).loc Cert.RefAdamUqIdeal.main_v37) = v1 c
          ∧ r.2.mem ((c.tc : Thread Cert.RefAdamUqIdeal.nD Cert.RefAdamUqIdeal.τ).loc Cert.RefAdamUqIdeal.main_v40) = v2 c
          ∧ r.2.mem ((c.tc : Thread Cert.RefAdamUqIdeal.nD Cert.RefAdamUqIdeal.τ).loc Cert.RefAdamUqIdeal.main_v43) = v3 c
          ∧ r.2.mem ((c.tc : Thread Cert.RefAdamUqIdeal.nD Cert.RefAdamUqIdeal.τ).loc Cert.RefAdamUqIdeal.main_arg0) = m' ((c.tc : Thread Cert.RefAdamUqIdeal.nD Cert.RefAdamUqIdeal.τ).loc Cert.RefAdamUqIdeal.main_arg0)
          ∧ r.2.mem ((c.tc : Thread Cert.RefAdamUqIdeal.nD Cert.RefAdamUqIdeal.τ).loc Cert.RefAdamUqIdeal.main_arg1) = m' ((c.tc : Thread Cert.RefAdamUqIdeal.nD Cert.RefAdamUqIdeal.τ).loc Cert.RefAdamUqIdeal.main_arg1)
          ∧ r.2.mem ((c.tc : Thread Cert.RefAdamUqIdeal.nD Cert.RefAdamUqIdeal.τ).loc Cert.RefAdamUqIdeal.main_arg2) = m' ((c.tc : Thread Cert.RefAdamUqIdeal.nD Cert.RefAdamUqIdeal.τ).loc Cert.RefAdamUqIdeal.main_arg2)
          ∧ r.2.mem ((c.tc : Thread Cert.RefAdamUqIdeal.nD Cert.RefAdamUqIdeal.τ).loc Cert.RefAdamUqIdeal.main_arg3) = m' ((c.tc : Thread Cert.RefAdamUqIdeal.nD Cert.RefAdamUqIdeal.τ).loc Cert.RefAdamUqIdeal.main_arg3)
          ∧ r.2.mem ((c.tc : Thread Cert.RefAdamUqIdeal.nD Cert.RefAdamUqIdeal.τ).loc Cert.RefAdamUqIdeal.main_arg4) = m' ((c.tc : Thread Cert.RefAdamUqIdeal.nD Cert.RefAdamUqIdeal.τ).loc Cert.RefAdamUqIdeal.main_arg4)
          ∧ r.2.mem ((c.tc : Thread Cert.RefAdamUqIdeal.nD Cert.RefAdamUqIdeal.τ).loc Cert.RefAdamUqIdeal.main_arg5) = m' ((c.tc : Thread Cert.RefAdamUqIdeal.nD Cert.RefAdamUqIdeal.τ).loc Cert.RefAdamUqIdeal.main_arg5)
          ∧ r.2.mem ((c.tc : Thread Cert.RefAdamUqIdeal.nD Cert.RefAdamUqIdeal.τ).loc Cert.RefAdamUqIdeal.main_arg6) = m' ((c.tc : Thread Cert.RefAdamUqIdeal.nD Cert.RefAdamUqIdeal.τ).loc Cert.RefAdamUqIdeal.main_arg6)
          ∧ r.2.mem ((c.tc : Thread Cert.RefAdamUqIdeal.nD Cert.RefAdamUqIdeal.τ).loc Cert.RefAdamUqIdeal.main_arg7) = m' ((c.tc : Thread Cert.RefAdamUqIdeal.nD Cert.RefAdamUqIdeal.τ).loc Cert.RefAdamUqIdeal.main_arg7))

def preserves_AdamUkv_AdamUkvIdeal : Prop :=
  True

def algebraic_AdamUkvIdeal_RefAdamUkvIdeal [hAdamUkvIdeal : Cert.AdamUkvIdeal.Facts] [hRefAdamUkvIdeal : Cert.RefAdamUkvIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg)
    (m' : (ℓ : Loc Cert.RefAdamUkvIdeal.nD Cert.RefAdamUkvIdeal.τ Cert.RefAdamUkvIdeal.sig) → Buf (Elt Ideal) ℓ) (g' : Dev Cert.RefAdamUkvIdeal.nD → PrngReg), Pre_AdamUkvIdeal m →
    (∀ c : Dev Cert.AdamUkvIdeal.nD,
      m' ((c.tc : Thread Cert.RefAdamUkvIdeal.nD Cert.RefAdamUkvIdeal.τ).loc Cert.RefAdamUkvIdeal.main_arg0) = m ((c.tc : Thread Cert.AdamUkvIdeal.nD Cert.AdamUkvIdeal.τ).loc Cert.AdamUkvIdeal.main_arg0)
      ∧ m' ((c.tc : Thread Cert.RefAdamUkvIdeal.nD Cert.RefAdamUkvIdeal.τ).loc Cert.RefAdamUkvIdeal.main_arg1) = m ((c.tc : Thread Cert.AdamUkvIdeal.nD Cert.AdamUkvIdeal.τ).loc Cert.AdamUkvIdeal.main_arg1)
      ∧ m' ((c.tc : Thread Cert.RefAdamUkvIdeal.nD Cert.RefAdamUkvIdeal.τ).loc Cert.RefAdamUkvIdeal.main_arg2) = m ((c.tc : Thread Cert.AdamUkvIdeal.nD Cert.AdamUkvIdeal.τ).loc Cert.AdamUkvIdeal.main_arg2)
      ∧ m' ((c.tc : Thread Cert.RefAdamUkvIdeal.nD Cert.RefAdamUkvIdeal.τ).loc Cert.RefAdamUkvIdeal.main_arg3) = m ((c.tc : Thread Cert.AdamUkvIdeal.nD Cert.AdamUkvIdeal.τ).loc Cert.AdamUkvIdeal.main_arg3)
      ∧ m' ((c.tc : Thread Cert.RefAdamUkvIdeal.nD Cert.RefAdamUkvIdeal.τ).loc Cert.RefAdamUkvIdeal.main_arg4) = m ((c.tc : Thread Cert.AdamUkvIdeal.nD Cert.AdamUkvIdeal.τ).loc Cert.AdamUkvIdeal.main_arg4)
      ∧ m' ((c.tc : Thread Cert.RefAdamUkvIdeal.nD Cert.RefAdamUkvIdeal.τ).loc Cert.RefAdamUkvIdeal.main_arg5) = m ((c.tc : Thread Cert.AdamUkvIdeal.nD Cert.AdamUkvIdeal.τ).loc Cert.AdamUkvIdeal.main_arg5)
      ∧ m' ((c.tc : Thread Cert.RefAdamUkvIdeal.nD Cert.RefAdamUkvIdeal.τ).loc Cert.RefAdamUkvIdeal.main_arg6) = m ((c.tc : Thread Cert.AdamUkvIdeal.nD Cert.AdamUkvIdeal.τ).loc Cert.AdamUkvIdeal.main_arg6)
      ∧ m' ((c.tc : Thread Cert.RefAdamUkvIdeal.nD Cert.RefAdamUkvIdeal.τ).loc Cert.RefAdamUkvIdeal.main_arg7) = m ((c.tc : Thread Cert.AdamUkvIdeal.nD Cert.AdamUkvIdeal.τ).loc Cert.AdamUkvIdeal.main_arg7)) →
    ∃ (v0 : (c : Dev Cert.AdamUkvIdeal.nD) → Buf (Elt Ideal) ((c.tc : Thread Cert.AdamUkvIdeal.nD Cert.AdamUkvIdeal.τ).loc Cert.AdamUkvIdeal.main_v0_0)) (v1 : (c : Dev Cert.AdamUkvIdeal.nD) → Buf (Elt Ideal) ((c.tc : Thread Cert.AdamUkvIdeal.nD Cert.AdamUkvIdeal.τ).loc Cert.AdamUkvIdeal.main_v0_1)) (v2 : (c : Dev Cert.AdamUkvIdeal.nD) → Buf (Elt Ideal) ((c.tc : Thread Cert.AdamUkvIdeal.nD Cert.AdamUkvIdeal.τ).loc Cert.AdamUkvIdeal.main_v0_2)) (v3 : (c : Dev Cert.AdamUkvIdeal.nD) → Buf (Elt Ideal) ((c.tc : Thread Cert.AdamUkvIdeal.nD Cert.AdamUkvIdeal.τ).loc Cert.AdamUkvIdeal.main_v0_3)),
      θ_run (Cert.AdamUkvIdeal.defs (F := Ideal)) (onTc (τ := Cert.AdamUkvIdeal.τ) (Cert.AdamUkvIdeal.main (F := Ideal))) ⟨m, fun _ => 0, g⟩ (fun r => ∀ c : Dev Cert.AdamUkvIdeal.nD,
          r.2.mem ((c.tc : Thread Cert.AdamUkvIdeal.nD Cert.AdamUkvIdeal.τ).loc Cert.AdamUkvIdeal.main_v0_0) = v0 c
          ∧ r.2.mem ((c.tc : Thread Cert.AdamUkvIdeal.nD Cert.AdamUkvIdeal.τ).loc Cert.AdamUkvIdeal.main_v0_1) = v1 c
          ∧ r.2.mem ((c.tc : Thread Cert.AdamUkvIdeal.nD Cert.AdamUkvIdeal.τ).loc Cert.AdamUkvIdeal.main_v0_2) = v2 c
          ∧ r.2.mem ((c.tc : Thread Cert.AdamUkvIdeal.nD Cert.AdamUkvIdeal.τ).loc Cert.AdamUkvIdeal.main_v0_3) = v3 c
          ∧ r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
          ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
          ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
          ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3)
          ∧ r.2.mem ((c.tc : Thread Cert.AdamUkvIdeal.nD Cert.AdamUkvIdeal.τ).loc Cert.AdamUkvIdeal.main_arg4) = m ((c.tc : Thread Cert.AdamUkvIdeal.nD Cert.AdamUkvIdeal.τ).loc Cert.AdamUkvIdeal.main_arg4)
          ∧ r.2.mem ((c.tc : Thread Cert.AdamUkvIdeal.nD Cert.AdamUkvIdeal.τ).loc Cert.AdamUkvIdeal.main_arg5) = m ((c.tc : Thread Cert.AdamUkvIdeal.nD Cert.AdamUkvIdeal.τ).loc Cert.AdamUkvIdeal.main_arg5)
          ∧ r.2.mem ((c.tc : Thread Cert.AdamUkvIdeal.nD Cert.AdamUkvIdeal.τ).loc Cert.AdamUkvIdeal.main_arg6) = m ((c.tc : Thread Cert.AdamUkvIdeal.nD Cert.AdamUkvIdeal.τ).loc Cert.AdamUkvIdeal.main_arg6)
          ∧ r.2.mem ((c.tc : Thread Cert.AdamUkvIdeal.nD Cert.AdamUkvIdeal.τ).loc Cert.AdamUkvIdeal.main_arg7) = m ((c.tc : Thread Cert.AdamUkvIdeal.nD Cert.AdamUkvIdeal.τ).loc Cert.AdamUkvIdeal.main_arg7))
      ∧ θ_run (Cert.RefAdamUkvIdeal.defs (F := Ideal)) (onTc (τ := Cert.RefAdamUkvIdeal.τ) (Cert.RefAdamUkvIdeal.main (F := Ideal))) ⟨m', fun _ => 0, g'⟩ (fun r => ∀ c : Dev Cert.RefAdamUkvIdeal.nD,
          r.2.mem ((c.tc : Thread Cert.RefAdamUkvIdeal.nD Cert.RefAdamUkvIdeal.τ).loc Cert.RefAdamUkvIdeal.main_v34) = v0 c
          ∧ r.2.mem ((c.tc : Thread Cert.RefAdamUkvIdeal.nD Cert.RefAdamUkvIdeal.τ).loc Cert.RefAdamUkvIdeal.main_v37) = v1 c
          ∧ r.2.mem ((c.tc : Thread Cert.RefAdamUkvIdeal.nD Cert.RefAdamUkvIdeal.τ).loc Cert.RefAdamUkvIdeal.main_v40) = v2 c
          ∧ r.2.mem ((c.tc : Thread Cert.RefAdamUkvIdeal.nD Cert.RefAdamUkvIdeal.τ).loc Cert.RefAdamUkvIdeal.main_v43) = v3 c
          ∧ r.2.mem ((c.tc : Thread Cert.RefAdamUkvIdeal.nD Cert.RefAdamUkvIdeal.τ).loc Cert.RefAdamUkvIdeal.main_arg0) = m' ((c.tc : Thread Cert.RefAdamUkvIdeal.nD Cert.RefAdamUkvIdeal.τ).loc Cert.RefAdamUkvIdeal.main_arg0)
          ∧ r.2.mem ((c.tc : Thread Cert.RefAdamUkvIdeal.nD Cert.RefAdamUkvIdeal.τ).loc Cert.RefAdamUkvIdeal.main_arg1) = m' ((c.tc : Thread Cert.RefAdamUkvIdeal.nD Cert.RefAdamUkvIdeal.τ).loc Cert.RefAdamUkvIdeal.main_arg1)
          ∧ r.2.mem ((c.tc : Thread Cert.RefAdamUkvIdeal.nD Cert.RefAdamUkvIdeal.τ).loc Cert.RefAdamUkvIdeal.main_arg2) = m' ((c.tc : Thread Cert.RefAdamUkvIdeal.nD Cert.RefAdamUkvIdeal.τ).loc Cert.RefAdamUkvIdeal.main_arg2)
          ∧ r.2.mem ((c.tc : Thread Cert.RefAdamUkvIdeal.nD Cert.RefAdamUkvIdeal.τ).loc Cert.RefAdamUkvIdeal.main_arg3) = m' ((c.tc : Thread Cert.RefAdamUkvIdeal.nD Cert.RefAdamUkvIdeal.τ).loc Cert.RefAdamUkvIdeal.main_arg3)
          ∧ r.2.mem ((c.tc : Thread Cert.RefAdamUkvIdeal.nD Cert.RefAdamUkvIdeal.τ).loc Cert.RefAdamUkvIdeal.main_arg4) = m' ((c.tc : Thread Cert.RefAdamUkvIdeal.nD Cert.RefAdamUkvIdeal.τ).loc Cert.RefAdamUkvIdeal.main_arg4)
          ∧ r.2.mem ((c.tc : Thread Cert.RefAdamUkvIdeal.nD Cert.RefAdamUkvIdeal.τ).loc Cert.RefAdamUkvIdeal.main_arg5) = m' ((c.tc : Thread Cert.RefAdamUkvIdeal.nD Cert.RefAdamUkvIdeal.τ).loc Cert.RefAdamUkvIdeal.main_arg5)
          ∧ r.2.mem ((c.tc : Thread Cert.RefAdamUkvIdeal.nD Cert.RefAdamUkvIdeal.τ).loc Cert.RefAdamUkvIdeal.main_arg6) = m' ((c.tc : Thread Cert.RefAdamUkvIdeal.nD Cert.RefAdamUkvIdeal.τ).loc Cert.RefAdamUkvIdeal.main_arg6)
          ∧ r.2.mem ((c.tc : Thread Cert.RefAdamUkvIdeal.nD Cert.RefAdamUkvIdeal.τ).loc Cert.RefAdamUkvIdeal.main_arg7) = m' ((c.tc : Thread Cert.RefAdamUkvIdeal.nD Cert.RefAdamUkvIdeal.τ).loc Cert.RefAdamUkvIdeal.main_arg7))

def Claim : Prop :=
  ∃ (hKernel : Cert.Kernel.Facts) (hKernelIdeal : Cert.KernelIdeal.Facts) (hReferenceIdeal : Cert.ReferenceIdeal.Facts) (hDwn : Cert.Dwn.Facts) (hDwnIdeal : Cert.DwnIdeal.Facts) (hRefDwnIdeal : Cert.RefDwnIdeal.Facts) (hDu : Cert.Du.Facts) (hDuIdeal : Cert.DuIdeal.Facts) (hRefDuIdeal : Cert.RefDuIdeal.Facts) (hDy : Cert.Dy.Facts) (hDyIdeal : Cert.DyIdeal.Facts) (hRefDyIdeal : Cert.RefDyIdeal.Facts) (hDwo : Cert.Dwo.Facts) (hDwoIdeal : Cert.DwoIdeal.Facts) (hRefDwoIdeal : Cert.RefDwoIdeal.Facts) (hDcq : Cert.Dcq.Facts) (hDcqIdeal : Cert.DcqIdeal.Facts) (hRefDcqIdeal : Cert.RefDcqIdeal.Facts) (hDwuq : Cert.Dwuq.Facts) (hDwuqIdeal : Cert.DwuqIdeal.Facts) (hRefDwuqIdeal : Cert.RefDwuqIdeal.Facts) (hDckv : Cert.Dckv.Facts) (hDckvIdeal : Cert.DckvIdeal.Facts) (hRefDckvIdeal : Cert.RefDckvIdeal.Facts) (hDwukv : Cert.Dwukv.Facts) (hDwukvIdeal : Cert.DwukvIdeal.Facts) (hRefDwukvIdeal : Cert.RefDwukvIdeal.Facts) (hProj : Cert.Proj.Facts) (hProjIdeal : Cert.ProjIdeal.Facts) (hRefProjIdeal : Cert.RefProjIdeal.Facts) (hUpQ : Cert.UpQ.Facts) (hUpQIdeal : Cert.UpQIdeal.Facts) (hRefUpQIdeal : Cert.RefUpQIdeal.Facts) (hUpKv : Cert.UpKv.Facts) (hUpKvIdeal : Cert.UpKvIdeal.Facts) (hRefUpKvIdeal : Cert.RefUpKvIdeal.Facts) (hOutProj : Cert.OutProj.Facts) (hOutProjIdeal : Cert.OutProjIdeal.Facts) (hRefOutProjIdeal : Cert.RefOutProjIdeal.Facts) (hMlaBwd : Cert.MlaBwd.Facts) (hMlaBwdIdeal : Cert.MlaBwdIdeal.Facts) (hRefMlaBwdIdeal : Cert.RefMlaBwdIdeal.Facts) (hAdamMeta : Cert.AdamMeta.Facts) (hAdamMetaIdeal : Cert.AdamMetaIdeal.Facts) (hRefAdamMetaIdeal : Cert.RefAdamMetaIdeal.Facts) (hAdamSmall : Cert.AdamSmall.Facts) (hAdamSmallIdeal : Cert.AdamSmallIdeal.Facts) (hRefAdamSmallIdeal : Cert.RefAdamSmallIdeal.Facts) (hSumA : Cert.SumA.Facts) (hSumAIdeal : Cert.SumAIdeal.Facts) (hRefSumAIdeal : Cert.RefSumAIdeal.Facts) (hSumB : Cert.SumB.Facts) (hSumBIdeal : Cert.SumBIdeal.Facts) (hRefSumBIdeal : Cert.RefSumBIdeal.Facts) (hAdamO : Cert.AdamO.Facts) (hAdamOIdeal : Cert.AdamOIdeal.Facts) (hRefAdamOIdeal : Cert.RefAdamOIdeal.Facts) (hAdamIn : Cert.AdamIn.Facts) (hAdamInIdeal : Cert.AdamInIdeal.Facts) (hRefAdamInIdeal : Cert.RefAdamInIdeal.Facts) (hAdamUq : Cert.AdamUq.Facts) (hAdamUqIdeal : Cert.AdamUqIdeal.Facts) (hRefAdamUqIdeal : Cert.RefAdamUqIdeal.Facts) (hAdamUkv : Cert.AdamUkv.Facts) (hAdamUkvIdeal : Cert.AdamUkvIdeal.Facts) (hRefAdamUkvIdeal : Cert.RefAdamUkvIdeal.Facts) (hPre_finite : Cert.Pre_finite.Facts) (hPre_finite_mla : Cert.Pre_finite_mla.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dwn (hDwn := hDwn)
    ∧ quiescent_DwnIdeal (hDwnIdeal := hDwnIdeal)
    ∧ quiescent_RefDwnIdeal (hRefDwnIdeal := hRefDwnIdeal)
    ∧ quiescent_Du (hDu := hDu)
    ∧ quiescent_DuIdeal (hDuIdeal := hDuIdeal)
    ∧ quiescent_RefDuIdeal (hRefDuIdeal := hRefDuIdeal)
    ∧ quiescent_Dy (hDy := hDy)
    ∧ quiescent_DyIdeal (hDyIdeal := hDyIdeal)
    ∧ quiescent_RefDyIdeal (hRefDyIdeal := hRefDyIdeal)
    ∧ quiescent_Dwo (hDwo := hDwo)
    ∧ quiescent_DwoIdeal (hDwoIdeal := hDwoIdeal)
    ∧ quiescent_RefDwoIdeal (hRefDwoIdeal := hRefDwoIdeal)
    ∧ quiescent_Dcq (hDcq := hDcq)
    ∧ quiescent_DcqIdeal (hDcqIdeal := hDcqIdeal)
    ∧ quiescent_RefDcqIdeal (hRefDcqIdeal := hRefDcqIdeal)
    ∧ quiescent_Dwuq (hDwuq := hDwuq)
    ∧ quiescent_DwuqIdeal (hDwuqIdeal := hDwuqIdeal)
    ∧ quiescent_RefDwuqIdeal (hRefDwuqIdeal := hRefDwuqIdeal)
    ∧ quiescent_Dckv (hDckv := hDckv)
    ∧ quiescent_DckvIdeal (hDckvIdeal := hDckvIdeal)
    ∧ quiescent_RefDckvIdeal (hRefDckvIdeal := hRefDckvIdeal)
    ∧ quiescent_Dwukv (hDwukv := hDwukv)
    ∧ quiescent_DwukvIdeal (hDwukvIdeal := hDwukvIdeal)
    ∧ quiescent_RefDwukvIdeal (hRefDwukvIdeal := hRefDwukvIdeal)
    ∧ quiescent_Proj (hProj := hProj)
    ∧ quiescent_ProjIdeal (hProjIdeal := hProjIdeal)
    ∧ quiescent_RefProjIdeal (hRefProjIdeal := hRefProjIdeal)
    ∧ quiescent_UpQ (hUpQ := hUpQ)
    ∧ quiescent_UpQIdeal (hUpQIdeal := hUpQIdeal)
    ∧ quiescent_RefUpQIdeal (hRefUpQIdeal := hRefUpQIdeal)
    ∧ quiescent_UpKv (hUpKv := hUpKv)
    ∧ quiescent_UpKvIdeal (hUpKvIdeal := hUpKvIdeal)
    ∧ quiescent_RefUpKvIdeal (hRefUpKvIdeal := hRefUpKvIdeal)
    ∧ quiescent_OutProj (hOutProj := hOutProj)
    ∧ quiescent_OutProjIdeal (hOutProjIdeal := hOutProjIdeal)
    ∧ quiescent_RefOutProjIdeal (hRefOutProjIdeal := hRefOutProjIdeal)
    ∧ quiescent_MlaBwd (hMlaBwd := hMlaBwd)
    ∧ quiescent_MlaBwdIdeal (hMlaBwdIdeal := hMlaBwdIdeal)
    ∧ quiescent_MlaBwdIdeal_pre_finite_mla (hMlaBwdIdeal := hMlaBwdIdeal) (hPre_finite_mla := hPre_finite_mla)
    ∧ quiescent_RefMlaBwdIdeal (hRefMlaBwdIdeal := hRefMlaBwdIdeal)
    ∧ quiescent_RefMlaBwdIdeal_pre_finite_mla (hRefMlaBwdIdeal := hRefMlaBwdIdeal) (hPre_finite_mla := hPre_finite_mla)
    ∧ quiescent_AdamMeta (hAdamMeta := hAdamMeta)
    ∧ quiescent_AdamMetaIdeal (hAdamMetaIdeal := hAdamMetaIdeal)
    ∧ quiescent_RefAdamMetaIdeal (hRefAdamMetaIdeal := hRefAdamMetaIdeal)
    ∧ quiescent_AdamSmall (hAdamSmall := hAdamSmall)
    ∧ quiescent_AdamSmallIdeal (hAdamSmallIdeal := hAdamSmallIdeal)
    ∧ quiescent_RefAdamSmallIdeal (hRefAdamSmallIdeal := hRefAdamSmallIdeal)
    ∧ quiescent_SumA (hSumA := hSumA)
    ∧ quiescent_SumAIdeal (hSumAIdeal := hSumAIdeal)
    ∧ quiescent_RefSumAIdeal (hRefSumAIdeal := hRefSumAIdeal)
    ∧ quiescent_SumB (hSumB := hSumB)
    ∧ quiescent_SumBIdeal (hSumBIdeal := hSumBIdeal)
    ∧ quiescent_RefSumBIdeal (hRefSumBIdeal := hRefSumBIdeal)
    ∧ quiescent_AdamO (hAdamO := hAdamO)
    ∧ quiescent_AdamOIdeal (hAdamOIdeal := hAdamOIdeal)
    ∧ quiescent_RefAdamOIdeal (hRefAdamOIdeal := hRefAdamOIdeal)
    ∧ quiescent_AdamIn (hAdamIn := hAdamIn)
    ∧ quiescent_AdamInIdeal (hAdamInIdeal := hAdamInIdeal)
    ∧ quiescent_RefAdamInIdeal (hRefAdamInIdeal := hRefAdamInIdeal)
    ∧ quiescent_AdamUq (hAdamUq := hAdamUq)
    ∧ quiescent_AdamUqIdeal (hAdamUqIdeal := hAdamUqIdeal)
    ∧ quiescent_RefAdamUqIdeal (hRefAdamUqIdeal := hRefAdamUqIdeal)
    ∧ quiescent_AdamUkv (hAdamUkv := hAdamUkv)
    ∧ quiescent_AdamUkvIdeal (hAdamUkvIdeal := hAdamUkvIdeal)
    ∧ quiescent_RefAdamUkvIdeal (hRefAdamUkvIdeal := hRefAdamUkvIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dwn_DwnIdeal
    ∧ algebraic_DwnIdeal_RefDwnIdeal (hDwnIdeal := hDwnIdeal) (hRefDwnIdeal := hRefDwnIdeal)
    ∧ preserves_Du_DuIdeal
    ∧ algebraic_DuIdeal_RefDuIdeal (hDuIdeal := hDuIdeal) (hRefDuIdeal := hRefDuIdeal)
    ∧ preserves_Dy_DyIdeal
    ∧ algebraic_DyIdeal_RefDyIdeal (hDyIdeal := hDyIdeal) (hRefDyIdeal := hRefDyIdeal)
    ∧ preserves_Dwo_DwoIdeal
    ∧ algebraic_DwoIdeal_RefDwoIdeal (hDwoIdeal := hDwoIdeal) (hRefDwoIdeal := hRefDwoIdeal)
    ∧ preserves_Dcq_DcqIdeal
    ∧ algebraic_DcqIdeal_RefDcqIdeal (hDcqIdeal := hDcqIdeal) (hRefDcqIdeal := hRefDcqIdeal)
    ∧ preserves_Dwuq_DwuqIdeal
    ∧ algebraic_DwuqIdeal_RefDwuqIdeal (hDwuqIdeal := hDwuqIdeal) (hRefDwuqIdeal := hRefDwuqIdeal)
    ∧ preserves_Dckv_DckvIdeal
    ∧ algebraic_DckvIdeal_RefDckvIdeal (hDckvIdeal := hDckvIdeal) (hRefDckvIdeal := hRefDckvIdeal)
    ∧ preserves_Dwukv_DwukvIdeal
    ∧ algebraic_DwukvIdeal_RefDwukvIdeal (hDwukvIdeal := hDwukvIdeal) (hRefDwukvIdeal := hRefDwukvIdeal)
    ∧ preserves_Proj_ProjIdeal
    ∧ algebraic_ProjIdeal_RefProjIdeal (hProjIdeal := hProjIdeal) (hRefProjIdeal := hRefProjIdeal)
    ∧ preserves_UpQ_UpQIdeal
    ∧ algebraic_UpQIdeal_RefUpQIdeal (hUpQIdeal := hUpQIdeal) (hRefUpQIdeal := hRefUpQIdeal)
    ∧ preserves_UpKv_UpKvIdeal
    ∧ algebraic_UpKvIdeal_RefUpKvIdeal (hUpKvIdeal := hUpKvIdeal) (hRefUpKvIdeal := hRefUpKvIdeal)
    ∧ preserves_OutProj_OutProjIdeal
    ∧ algebraic_OutProjIdeal_RefOutProjIdeal (hOutProjIdeal := hOutProjIdeal) (hRefOutProjIdeal := hRefOutProjIdeal)
    ∧ preserves_MlaBwd_MlaBwdIdeal
    ∧ algebraic_MlaBwdIdeal_RefMlaBwdIdeal_pre_finite_mla (hMlaBwdIdeal := hMlaBwdIdeal) (hRefMlaBwdIdeal := hRefMlaBwdIdeal) (hPre_finite_mla := hPre_finite_mla)
    ∧ preserves_AdamMeta_AdamMetaIdeal
    ∧ algebraic_AdamMetaIdeal_RefAdamMetaIdeal (hAdamMetaIdeal := hAdamMetaIdeal) (hRefAdamMetaIdeal := hRefAdamMetaIdeal)
    ∧ preserves_AdamSmall_AdamSmallIdeal
    ∧ algebraic_AdamSmallIdeal_RefAdamSmallIdeal (hAdamSmallIdeal := hAdamSmallIdeal) (hRefAdamSmallIdeal := hRefAdamSmallIdeal)
    ∧ preserves_SumA_SumAIdeal
    ∧ algebraic_SumAIdeal_RefSumAIdeal (hSumAIdeal := hSumAIdeal) (hRefSumAIdeal := hRefSumAIdeal)
    ∧ preserves_SumB_SumBIdeal
    ∧ algebraic_SumBIdeal_RefSumBIdeal (hSumBIdeal := hSumBIdeal) (hRefSumBIdeal := hRefSumBIdeal)
    ∧ preserves_AdamO_AdamOIdeal
    ∧ algebraic_AdamOIdeal_RefAdamOIdeal (hAdamOIdeal := hAdamOIdeal) (hRefAdamOIdeal := hRefAdamOIdeal)
    ∧ preserves_AdamIn_AdamInIdeal
    ∧ algebraic_AdamInIdeal_RefAdamInIdeal (hAdamInIdeal := hAdamInIdeal) (hRefAdamInIdeal := hRefAdamInIdeal)
    ∧ preserves_AdamUq_AdamUqIdeal
    ∧ algebraic_AdamUqIdeal_RefAdamUqIdeal (hAdamUqIdeal := hAdamUqIdeal) (hRefAdamUqIdeal := hRefAdamUqIdeal)
    ∧ preserves_AdamUkv_AdamUkvIdeal
    ∧ algebraic_AdamUkvIdeal_RefAdamUkvIdeal (hAdamUkvIdeal := hAdamUkvIdeal) (hRefAdamUkvIdeal := hRefAdamUkvIdeal)
-- ==== Pre_finite.lean ====
abbrev S4224x12288 : Shape := ⟨2, ![4224, 12288]⟩
abbrev S4224x2048 : Shape := ⟨2, ![4224, 2048]⟩
abbrev S_ : Shape := ⟨0, ![]⟩

class Facts : Prop where
  bitsLt_bf16_f32 : FTy.bits .bf16 < FTy.bits .f32
  bcast_S_S4224x12288 : S_.BroadcastsInDim S4224x12288 (![] : Fin 0 → Fin S4224x12288.rank)
  reducesTo_S4224x12288_S_d0_1 : S4224x12288.ReducesTo [0, 1] S_
  h_S_ : 0 < S_.numel
  bcast_S_S4224x2048 : S_.BroadcastsInDim S4224x2048 (![] : Fin 0 → Fin S4224x2048.rank)
  reducesTo_S4224x2048_S_d0_1 : S4224x2048.ReducesTo [0, 1] S_

variable [Facts]

def fn {F : FTy → Type} [FloatOps F] (main_arg0 : FVec F S4224x12288 .bf16) (main_arg1 : FVec F S4224x2048 .bf16) : IVec S_ 1 :=
  let main_v0 : FVec F S4224x12288 .f32 := (extf .f32 · bitsLt_bf16_f32) main_arg0
  let main_v1 : FVec F S4224x12288 .f32 := Host.absf main_v0
  let main_cst : FVec F S_ .f32 := constant S_ .f32 0x7F800000#32
  let main_v2 : FVec F S4224x12288 .f32 := broadcastInDim S4224x12288 ![] bcast_S_S4224x12288 main_cst
  let main_v3 : IVec S4224x12288 1 := cmpf .olt main_v1 main_v2
  let main_c : IVec S_ 1 := constantI S_ 1 1#1
  let main_v4 : IVec S_ 1 := (fun x v => Host.reduce IntOp.andi x v reducesTo_S4224x12288_S_d0_1 h_S_) main_v3 main_c
  let main_v5 : FVec F S4224x2048 .f32 := (extf .f32 · bitsLt_bf16_f32) main_arg1
  let main_v6 : FVec F S4224x2048 .f32 := Host.absf main_v5
  let main_cst_0 : FVec F S_ .f32 := constant S_ .f32 0x7F800000#32
  let main_v7 : FVec F S4224x2048 .f32 := broadcastInDim S4224x2048 ![] bcast_S_S4224x2048 main_cst_0
  let main_v8 : IVec S4224x2048 1 := cmpf .olt main_v6 main_v7
  let main_c_1 : IVec S_ 1 := constantI S_ 1 1#1
  let main_v9 : IVec S_ 1 := (fun x v => Host.reduce IntOp.andi x v reducesTo_S4224x2048_S_d0_1 h_S_) main_v8 main_c_1
  let main_v10 : IVec S_ 1 := andi main_v4 main_v9
  main_v10
-- ==== Pre_finite_mla.lean ====
abbrev S4224x4096 : Shape := ⟨2, ![4224, 4096]⟩
abbrev S4224x2048 : Shape := ⟨2, ![4224, 2048]⟩
abbrev S_ : Shape := ⟨0, ![]⟩

class Facts : Prop where
  bitsLt_bf16_f32 : FTy.bits .bf16 < FTy.bits .f32
  bcast_S_S4224x4096 : S_.BroadcastsInDim S4224x4096 (![] : Fin 0 → Fin S4224x4096.rank)
  reducesTo_S4224x4096_S_d0_1 : S4224x4096.ReducesTo [0, 1] S_
  h_S_ : 0 < S_.numel
  bcast_S_S4224x2048 : S_.BroadcastsInDim S4224x2048 (![] : Fin 0 → Fin S4224x2048.rank)
  reducesTo_S4224x2048_S_d0_1 : S4224x2048.ReducesTo [0, 1] S_

variable [Facts]

def fn_part1 {F : FTy → Type} [FloatOps F] (main_v16 : IVec S_ 1) (main_v17 : FVec F S4224x2048 .f32) : IVec S_ 1 :=
  let main_v18 : FVec F S4224x2048 .f32 := Host.absf main_v17
  let main_cst_4 : FVec F S_ .f32 := constant S_ .f32 0x7F800000#32
  let main_v19 : FVec F S4224x2048 .f32 := broadcastInDim S4224x2048 ![] bcast_S_S4224x2048 main_cst_4
  let main_v20 : IVec S4224x2048 1 := cmpf .olt main_v18 main_v19
  let main_c_5 : IVec S_ 1 := constantI S_ 1 1#1
  let main_v21 : IVec S_ 1 := (fun x v => Host.reduce IntOp.andi x v reducesTo_S4224x2048_S_d0_1 h_S_) main_v20 main_c_5
  let main_v22 : IVec S_ 1 := andi main_v16 main_v21
  main_v22

def fn {F : FTy → Type} [FloatOps F] (main_arg0 : FVec F S4224x4096 .bf16) (main_arg1 : FVec F S4224x4096 .bf16) (main_arg2 : FVec F S4224x4096 .bf16) (main_arg3 : FVec F S4224x2048 .bf16) : IVec S_ 1 :=
  let main_v0 : FVec F S4224x4096 .f32 := (extf .f32 · bitsLt_bf16_f32) main_arg0
  let main_v1 : FVec F S4224x4096 .f32 := Host.absf main_v0
  let main_cst : FVec F S_ .f32 := constant S_ .f32 0x7F800000#32
  let main_v2 : FVec F S4224x4096 .f32 := broadcastInDim S4224x4096 ![] bcast_S_S4224x4096 main_cst
  let main_v3 : IVec S4224x4096 1 := cmpf .olt main_v1 main_v2
  let main_c : IVec S_ 1 := constantI S_ 1 1#1
  let main_v4 : IVec S_ 1 := (fun x v => Host.reduce IntOp.andi x v reducesTo_S4224x4096_S_d0_1 h_S_) main_v3 main_c
  let main_v5 : FVec F S4224x4096 .f32 := (extf .f32 · bitsLt_bf16_f32) main_arg1
  let main_v6 : FVec F S4224x4096 .f32 := Host.absf main_v5
  let main_cst_0 : FVec F S_ .f32 := constant S_ .f32 0x7F800000#32
  let main_v7 : FVec F S4224x4096 .f32 := broadcastInDim S4224x4096 ![] bcast_S_S4224x4096 main_cst_0
  let main_v8 : IVec S4224x4096 1 := cmpf .olt main_v6 main_v7
  let main_c_1 : IVec S_ 1 := constantI S_ 1 1#1
  let main_v9 : IVec S_ 1 := (fun x v => Host.reduce IntOp.andi x v reducesTo_S4224x4096_S_d0_1 h_S_) main_v8 main_c_1
  let main_v10 : IVec S_ 1 := andi main_v4 main_v9
  let main_v11 : FVec F S4224x4096 .f32 := (extf .f32 · bitsLt_bf16_f32) main_arg2
  let main_v12 : FVec F S4224x4096 .f32 := Host.absf main_v11
  let main_cst_2 : FVec F S_ .f32 := constant S_ .f32 0x7F800000#32
  let main_v13 : FVec F S4224x4096 .f32 := broadcastInDim S4224x4096 ![] bcast_S_S4224x4096 main_cst_2
  let main_v14 : IVec S4224x4096 1 := cmpf .olt main_v12 main_v13
  let main_c_3 : IVec S_ 1 := constantI S_ 1 1#1
  let main_v15 : IVec S_ 1 := (fun x v => Host.reduce IntOp.andi x v reducesTo_S4224x4096_S_d0_1 h_S_) main_v14 main_c_3
  let main_v16 : IVec S_ 1 := andi main_v10 main_v15
  let main_v17 : FVec F S4224x2048 .f32 := (extf .f32 · bitsLt_bf16_f32) main_arg3
  fn_part1 (F := F) main_v16 main_v17
-- ==== Kernel.lean ====
abbrev S4224x12288 : Shape := ⟨2, ![4224, 12288]⟩
abbrev S4224x2048 : Shape := ⟨2, ![4224, 2048]⟩
abbrev S256x128 : Shape := ⟨2, ![256, 128]⟩
abbrev S128x128 : Shape := ⟨2, ![128, 128]⟩
abbrev S4224 : Shape := ⟨1, ![4224]⟩
abbrev S4224x16x128 : Shape := ⟨3, ![4224, 16, 128]⟩
abbrev S16x4224x4224 : Shape := ⟨3, ![16, 4224, 4224]⟩
abbrev S_ : Shape := ⟨0, ![]⟩
abbrev S1x4224 : Shape := ⟨2, ![1, 4224]⟩
abbrev S4224x1 : Shape := ⟨2, ![4224, 1]⟩
abbrev S4224x4224 : Shape := ⟨2, ![4224, 4224]⟩
abbrev S16x4224 : Shape := ⟨2, ![16, 4224]⟩
abbrev S16x4224x1 : Shape := ⟨3, ![16, 4224, 1]⟩
abbrev S384x256 : Shape := ⟨2, ![384, 256]⟩
abbrev S4224x256 : Shape := ⟨2, ![4224, 256]⟩
abbrev S2x384x1 : Shape := ⟨3, ![2, 384, 1]⟩
abbrev S384x384 : Shape := ⟨2, ![384, 384]⟩
abbrev S384x1 : Shape := ⟨2, ![384, 1]⟩
abbrev S384x128 : Shape := ⟨2, ![384, 128]⟩
abbrev S1x384x1 : Shape := ⟨3, ![1, 384, 1]⟩

abbrev nBuf : Space → Nat
  | .hbm => 47
  | .vmem => 18
  | .smem => 0
  | _ => 0

abbrev bufTy : (tb : Table) → Fin (tcTables nBuf tb) → BufTy
  | .hbm, ⟨0, _⟩ => ⟨S4224x12288, .bf16⟩
  | .hbm, ⟨1, _⟩ => ⟨S4224x2048, .bf16⟩
  | .hbm, ⟨2, _⟩ => ⟨S256x128, .bf16⟩
  | .hbm, ⟨3, _⟩ => ⟨S128x128, .bf16⟩
  | .hbm, ⟨4, _⟩ => ⟨S4224x12288, .f32⟩
  | .hbm, ⟨5, _⟩ => ⟨S4224, .i32⟩
  | .hbm, ⟨6, _⟩ => ⟨S4224x2048, .f32⟩
  | .hbm, ⟨7, _⟩ => ⟨S4224x16x128, .f32⟩
  | .hbm, ⟨8, _⟩ => ⟨S4224x2048, .f32⟩
  | .hbm, ⟨9, _⟩ => ⟨S4224x16x128, .f32⟩
  | .hbm, ⟨10, _⟩ => ⟨S16x4224x4224, .f32⟩
  | .hbm, ⟨11, _⟩ => ⟨S_, .f32⟩
  | .hbm, ⟨12, _⟩ => ⟨S16x4224x4224, .f32⟩
  | .hbm, ⟨13, _⟩ => ⟨S16x4224x4224, .f32⟩
  | .hbm, ⟨14, _⟩ => ⟨S1x4224, .i32⟩
  | .hbm, ⟨15, _⟩ => ⟨S4224x1, .i32⟩
  | .hbm, ⟨16, _⟩ => ⟨S4224x4224, .i32⟩
  | .hbm, ⟨17, _⟩ => ⟨S4224x4224, .i32⟩
  | .hbm, ⟨18, _⟩ => ⟨S4224x4224, .i1⟩
  | .hbm, ⟨19, _⟩ => ⟨S16x4224x4224, .f32⟩
  | .hbm, ⟨20, _⟩ => ⟨S16x4224x4224, .f32⟩
  | .hbm, ⟨21, _⟩ => ⟨S_, .f32⟩
  | .hbm, ⟨22, _⟩ => ⟨S16x4224x4224, .f32⟩
  | .hbm, ⟨23, _⟩ => ⟨S16x4224x4224, .f32⟩
  | .hbm, ⟨24, _⟩ => ⟨S16x4224x4224, .f32⟩
  | .hbm, ⟨25, _⟩ => ⟨S16x4224x4224, .f32⟩
  | .hbm, ⟨26, _⟩ => ⟨S16x4224x4224, .i1⟩
  | .hbm, ⟨27, _⟩ => ⟨S16x4224x4224, .f32⟩
  | .hbm, ⟨28, _⟩ => ⟨S16x4224x4224, .f32⟩
  | .hbm, ⟨29, _⟩ => ⟨S16x4224x4224, .f32⟩
  | .hbm, ⟨30, _⟩ => ⟨S16x4224x4224, .f32⟩
  | .hbm, ⟨31, _⟩ => ⟨S16x4224x4224, .f32⟩
  | .hbm, ⟨32, _⟩ => ⟨S16x4224x4224, .f32⟩
  | .hbm, ⟨33, _⟩ => ⟨S16x4224x4224, .f32⟩
  | .hbm, ⟨34, _⟩ => ⟨S16x4224x4224, .f32⟩
  | .hbm, ⟨35, _⟩ => ⟨S16x4224x4224, .f32⟩
  | .hbm, ⟨36, _⟩ => ⟨S_, .f32⟩
  | .hbm, ⟨37, _⟩ => ⟨S_, .f32⟩
  | .hbm, ⟨38, _⟩ => ⟨S16x4224x4224, .i1⟩
  | .hbm, ⟨39, _⟩ => ⟨S16x4224x4224, .f32⟩
  | .hbm, ⟨40, _⟩ => ⟨S16x4224x4224, .f32⟩
  | .hbm, ⟨41, _⟩ => ⟨S_, .f32⟩
  | .hbm, ⟨42, _⟩ => ⟨S16x4224, .f32⟩
  | .hbm, ⟨43, _⟩ => ⟨S16x4224x1, .f32⟩
  | .hbm, ⟨44, _⟩ => ⟨S4224x2048, .bf16⟩
  | .hbm, ⟨45, _⟩ => ⟨S4224x2048, .f32⟩
  | .hbm, ⟨46, _⟩ => ⟨S4224x2048, .f32⟩
  | .local _ .vmem, ⟨0, _⟩ => ⟨S384x256, .bf16⟩
  | .local _ .vmem, ⟨1, _⟩ => ⟨S384x256, .bf16⟩
  | .local _ .vmem, ⟨2, _⟩ => ⟨S4224x256, .bf16⟩
  | .local _ .vmem, ⟨3, _⟩ => ⟨S4224x256, .bf16⟩
  | .local _ .vmem, ⟨4, _⟩ => ⟨S4224x256, .bf16⟩
  | .local _ .vmem, ⟨5, _⟩ => ⟨S4224x256, .bf16⟩
  | .local _ .vmem, ⟨6, _⟩ => ⟨S384x256, .bf16⟩
  | .local _ .vmem, ⟨7, _⟩ => ⟨S384x256, .bf16⟩
  | .local _ .vmem, ⟨8, _⟩ => ⟨S2x384x1, .f32⟩
  | .local _ .vmem, ⟨9, _⟩ => ⟨S2x384x1, .f32⟩
  | .local _ .vmem, ⟨10, _⟩ => ⟨S256x128, .bf16⟩
  | .local _ .vmem, ⟨11, _⟩ => ⟨S128x128, .bf16⟩
  | .local _ .vmem, ⟨12, _⟩ => ⟨S384x256, .bf16⟩
  | .local _ .vmem, ⟨13, _⟩ => ⟨S384x256, .bf16⟩
  | .local _ .vmem, ⟨14, _⟩ => ⟨S4224x256, .f32⟩
  | .local _ .vmem, ⟨15, _⟩ => ⟨S4224x256, .f32⟩
  | .local _ .vmem, ⟨16, _⟩ => ⟨S4224x256, .f32⟩
  | .local _ .vmem, ⟨17, _⟩ => ⟨S4224x256, .f32⟩
  | _, _ => ⟨S4224x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v15 : Ref sig .tc := ⟨.hbm, 35, rfl⟩
abbrev main_cst_2 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v16 : Ref sig .tc := ⟨.hbm, 40, rfl⟩
abbrev main_cst_3 : Ref sig .tc := ⟨.hbm, 41, rfl⟩
abbrev main_v17 : Ref sig .tc := ⟨.hbm, 42, rfl⟩
abbrev main_v18 : Ref sig .tc := ⟨.hbm, 43, rfl⟩
abbrev main_v19_0 : Ref sig .tc := ⟨.hbm, 44, rfl⟩
abbrev main_v19_1 : Ref sig .tc := ⟨.hbm, 45, rfl⟩
abbrev main_v19_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 11], ![false, false]⟩

@[reducible] def k0_t1_loop (i : grid0.Coords) : Scf.Loop 32 :=
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_10 : BitVec 32 := 1#32
  ⟨c0_i32_9, v18, c1_i32_10⟩
def k0_mult1 (i : grid0.Coords) (k0_t1 : Fin (k0_t1_loop i).trips) : BitVec 32 :=
  let c0_i32_9 : BitVec 32 := 0#32
  let c1_i32_10 : BitVec 32 := 1#32
  let arg12 : BitVec 32 := Scf.iv c0_i32_9 c1_i32_10 k0_t1
  let c384_i32_80 : BitVec 32 := 384#32
  let v275 : BitVec 32 := Scalar.muli arg12 c384_i32_80
  v275
def k0_off1 (i : grid0.Coords) (k0_t1 : Fin (k0_t1_loop i).trips) : Fin 2 → Nat :=
  let c0_i32_9 : BitVec 32 := 0#32
  let c1_i32_10 : BitVec 32 := 1#32
  let arg12 : BitVec 32 := Scf.iv c0_i32_9 c1_i32_10 k0_t1
  let c384_i32_80 : BitVec 32 := 384#32
  let v275 : BitVec 32 := Scalar.muli arg12 c384_i32_80
  let v276 : BitVec 32 := v275
  let v281 : Index := Scalar.indexCast v276
  let c0_88 : Index := 0#32
  ![v281.toNat, 0]
def k0_off2 (i : grid0.Coords) (k0_t1 : Fin (k0_t1_loop i).trips) : Fin 2 → Nat :=
  let c0_i32_9 : BitVec 32 := 0#32
  let c1_i32_10 : BitVec 32 := 1#32
  let arg12 : BitVec 32 := Scf.iv c0_i32_9 c1_i32_10 k0_t1
  let c384_i32_80 : BitVec 32 := 384#32
  let v275 : BitVec 32 := Scalar.muli arg12 c384_i32_80
  let v276 : BitVec 32 := v275
  let v407 : Index := Scalar.indexCast v276
  let c128_118 : Index := 128#32
  ![v407.toNat, 128]
@[reducible] def k0_t2_loop (i : grid0.Coords) : Scf.Loop 32 :=
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let v15 : BitVec 32 := Scalar.addi c0_i32_9 v14
  let c1_i32_11 : BitVec 32 := 1#32
  ⟨v18, v15, c1_i32_11⟩
def k0_mult2 (i : grid0.Coords) (k0_t2 : Fin (k0_t2_loop i).trips) : BitVec 32 :=
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg12 : BitVec 32 := Scf.iv v18 c1_i32_11 k0_t2
  let c384_i32_80 : BitVec 32 := 384#32
  let v275 : BitVec 32 := Scalar.muli arg12 c384_i32_80
  v275
def k0_off3 (i : grid0.Coords) (k0_t2 : Fin (k0_t2_loop i).trips) : Fin 2 → Nat :=
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg12 : BitVec 32 := Scf.iv v18 c1_i32_11 k0_t2
  let c384_i32_80 : BitVec 32 := 384#32
  let v275 : BitVec 32 := Scalar.muli arg12 c384_i32_80
  let v276 : BitVec 32 := v275
  let v281 : Index := Scalar.indexCast v276
  let c0_88 : Index := 0#32
  ![v281.toNat, 0]
def k0_off4 (i : grid0.Coords) (k0_t2 : Fin (k0_t2_loop i).trips) : Fin 2 → Nat :=
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg12 : BitVec 32 := Scf.iv v18 c1_i32_11 k0_t2
  let c384_i32_80 : BitVec 32 := 384#32
  let v275 : BitVec 32 := Scalar.muli arg12 c384_i32_80
  let v276 : BitVec 32 := v275
  let v407 : Index := Scalar.indexCast v276
  let c128_118 : Index := 128#32
  ![v407.toNat, 128]
def k0_mult3 (i : grid0.Coords) : BitVec 32 :=
  let arg1 : BitVec 32 := BitVec.ofNat 32 (i 1).val
  let c384_i32 : BitVec 32 := 384#32
  let v21 : BitVec 32 := Scalar.muli arg1 c384_i32
  v21
def k0_off5 (i : grid0.Coords) : Fin 2 → Nat :=
  let arg1 : BitVec 32 := BitVec.ofNat 32 (i 1).val
  let c384_i32 : BitVec 32 := 384#32
  let v21 : BitVec 32 := Scalar.muli arg1 c384_i32
  let v22 : BitVec 32 := v21
  let v27 : Index := Scalar.indexCast v22
  let c0_19 : Index := 0#32
  ![v27.toNat, 0]
def k0_off6 (i : grid0.Coords) : Fin 2 → Nat :=
  let arg1 : BitVec 32 := BitVec.ofNat 32 (i 1).val
  let c384_i32 : BitVec 32 := 384#32
  let v21 : BitVec 32 := Scalar.muli arg1 c384_i32
  let v22 : BitVec 32 := v21
  let v151 : Index := Scalar.indexCast v22
  let c128_50 : Index := 128#32
  ![v151.toNat, 128]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S384x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4224x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4224x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x384x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S384x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4224x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4224x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4224x12288 : Shape := ⟨2, ![4224, 12288]⟩
abbrev S4224x2048 : Shape := ⟨2, ![4224, 2048]⟩
abbrev S4224x16x128 : Shape := ⟨3, ![4224, 16, 128]⟩
abbrev S4224 : Shape := ⟨1, ![4224]⟩
abbrev S16x4224x4224 : Shape := ⟨3, ![16, 4224, 4224]⟩
abbrev S_ : Shape := ⟨0, ![]⟩
abbrev S1x4224 : Shape := ⟨2, ![1, 4224]⟩
abbrev S4224x1 : Shape := ⟨2, ![4224, 1]⟩
abbrev S4224x4224 : Shape := ⟨2, ![4224, 4224]⟩
abbrev S16x128x4224 : Shape := ⟨3, ![16, 128, 4224]⟩
abbrev S16x4224x128 : Shape := ⟨3, ![16, 4224, 128]⟩

abbrev nBuf : Space → Nat
  | .hbm => 175
  | .vmem => 0
  | .smem => 0
  | _ => 0

abbrev hbmTy0_0 (i : Nat) : BufTy := match i % 128 with
  | 0 => ⟨S4224x12288, .bf16⟩
  | 1 => ⟨S4224x2048, .bf16⟩
  | 2 => ⟨S4224x12288, .f32⟩
  | 3 => ⟨S4224x2048, .f32⟩
  | 4 => ⟨S4224x16x128, .f32⟩
  | 5 => ⟨S4224x2048, .f32⟩
  | 6 => ⟨S4224x16x128, .f32⟩
  | 7 => ⟨S4224x2048, .f32⟩
  | 8 => ⟨S4224x16x128, .f32⟩
  | 9 => ⟨S4224, .i32⟩
  | 10 => ⟨S16x4224x4224, .f32⟩
  | 11 => ⟨S_, .f32⟩
  | 12 => ⟨S16x4224x4224, .f32⟩
  | 13 => ⟨S16x4224x4224, .f32⟩
  | 14 => ⟨S1x4224, .i32⟩
  | 15 => ⟨S4224x1, .i32⟩
  | 16 => ⟨S4224x4224, .i32⟩
  | 17 => ⟨S4224x4224, .i32⟩
  | 18 => ⟨S4224x4224, .i1⟩
  | 19 => ⟨S16x4224x4224, .f32⟩
  | 20 => ⟨S_, .f32⟩
  | 21 => ⟨S16x4224x4224, .f32⟩
  | 22 => ⟨S16x4224x4224, .f32⟩
  | 23 => ⟨S16x4224x4224, .f32⟩
  | 24 => ⟨S16x4224x4224, .f32⟩
  | 25 => ⟨S16x4224x4224, .i1⟩
  | 26 => ⟨S16x4224x4224, .f32⟩
  | 27 => ⟨S16x4224x4224, .f32⟩
  | 28 => ⟨S16x4224x4224, .f32⟩
  | 29 => ⟨S16x4224x4224, .f32⟩
  | 30 => ⟨S16x4224x4224, .f32⟩
  | 31 => ⟨S16x4224x4224, .f32⟩
  | 32 => ⟨S16x4224x4224, .f32⟩
  | 33 => ⟨S16x4224x4224, .f32⟩
  | 34 => ⟨S_, .f32⟩
  | 35 => ⟨S16x4224x4224, .f32⟩
  | 36 => ⟨S16x4224x4224, .i1⟩
  | 37 => ⟨S_, .f32⟩
  | 38 => ⟨S16x4224x4224, .f32⟩
  | 39 => ⟨S16x4224x4224, .f32⟩
  | 40 => ⟨S_, .f32⟩
  | 41 => ⟨S16x4224x4224, .f32⟩
  | 42 => ⟨S16x4224x4224, .i1⟩
  | 43 => ⟨S_, .f32⟩
  | 44 => ⟨S16x4224x4224, .f32⟩
  | 45 => ⟨S16x4224x4224, .f32⟩
  | 46 => ⟨S16x4224x4224, .f32⟩
  | 47 => ⟨S16x4224x4224, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S16x4224x4224, .f32⟩
  | 56 => ⟨S16x4224x4224, .i1⟩
  | 57 => ⟨S_, .f32⟩
  | 58 => ⟨S16x4224x4224, .f32⟩
  | 59 => ⟨S16x4224x4224, .f32⟩
  | 60 => ⟨S16x4224x4224, .f32⟩
  | 61 => ⟨S16x4224x4224, .f32⟩
  | 62 => ⟨S16x4224x4224, .f32⟩
  | 63 => ⟨S_, .f32⟩
  | 64 => ⟨S16x4224x4224, .f32⟩
  | 65 => ⟨S16x4224x4224, .f32⟩
  | 66 => ⟨S16x4224x4224, .f32⟩
  | 67 => ⟨S16x4224x4224, .f32⟩
  | 68 => ⟨S16x4224x4224, .f32⟩
  | 69 => ⟨S_, .f32⟩
  | 70 => ⟨S16x4224x4224, .f32⟩
  | 71 => ⟨S16x4224x4224, .f32⟩
  | 72 => ⟨S16x4224x4224, .f32⟩
  | 73 => ⟨S16x4224x4224, .f32⟩
  | 74 => ⟨S16x4224x4224, .i1⟩
  | 75 => ⟨S16x4224x4224, .f32⟩
  | 76 => ⟨S16x4224x4224, .f32⟩
  | 77 => ⟨S16x4224x4224, .f32⟩
  | 78 => ⟨S16x4224x4224, .f32⟩
  | 79 => ⟨S16x4224x4224, .f32⟩
  | 80 => ⟨S16x4224x4224, .f32⟩
  | 81 => ⟨S16x4224x4224, .f32⟩
  | 82 => ⟨S16x4224x4224, .f32⟩
  | 83 => ⟨S_, .f32⟩
  | 84 => ⟨S16x4224x4224, .f32⟩
  | 85 => ⟨S16x4224x4224, .i1⟩
  | 86 => ⟨S_, .f32⟩
  | 87 => ⟨S16x4224x4224, .f32⟩
  | 88 => ⟨S16x4224x4224, .f32⟩
  | 89 => ⟨S_, .f32⟩
  | 90 => ⟨S16x4224x4224, .f32⟩
  | 91 => ⟨S16x4224x4224, .i1⟩
  | 92 => ⟨S_, .f32⟩
  | 93 => ⟨S16x4224x4224, .f32⟩
  | 94 => ⟨S16x4224x4224, .f32⟩
  | 95 => ⟨S16x4224x4224, .f32⟩
  | 96 => ⟨S16x4224x4224, .f32⟩
  | 97 => ⟨S_, .f32⟩
  | 98 => ⟨S_, .f32⟩
  | 99 => ⟨S_, .i1⟩
  | 100 => ⟨S_, .f32⟩
  | 101 => ⟨S_, .f32⟩
  | 102 => ⟨S_, .f32⟩
  | 103 => ⟨S_, .f32⟩
  | 104 => ⟨S16x4224x4224, .f32⟩
  | 105 => ⟨S16x4224x4224, .i1⟩
  | 106 => ⟨S_, .f32⟩
  | 107 => ⟨S16x4224x4224, .f32⟩
  | 108 => ⟨S16x4224x4224, .f32⟩
  | 109 => ⟨S16x4224x4224, .f32⟩
  | 110 => ⟨S16x4224x4224, .f32⟩
  | 111 => ⟨S16x4224x4224, .f32⟩
  | 112 => ⟨S_, .f32⟩
  | 113 => ⟨S16x4224x4224, .f32⟩
  | 114 => ⟨S16x4224x4224, .f32⟩
  | 115 => ⟨S16x4224x4224, .f32⟩
  | 116 => ⟨S_, .f32⟩
  | 117 => ⟨S_, .f32⟩
  | 118 => ⟨S16x4224x4224, .i1⟩
  | 119 => ⟨S16x4224x4224, .f32⟩
  | 120 => ⟨S16x4224x4224, .f32⟩
  | 121 => ⟨S_, .f32⟩
  | 122 => ⟨S16x4224x4224, .f32⟩
  | 123 => ⟨S_, .f32⟩
  | 124 => ⟨S_, .f32⟩
  | 125 => ⟨S16x4224x4224, .f32⟩
  | 126 => ⟨S16x4224x4224, .f32⟩
  | 127 => ⟨S16x4224x4224, .f32⟩
  | _ => ⟨S4224x12288, .bf16⟩

abbrev hbmTy0_1 (i : Nat) : BufTy := match i % 128 with
  | 0 => ⟨S16x4224x4224, .f32⟩
  | 1 => ⟨S_, .f32⟩
  | 2 => ⟨S_, .f32⟩
  | 3 => ⟨S16x4224x4224, .i1⟩
  | 4 => ⟨S16x4224x4224, .f32⟩
  | 5 => ⟨S16x4224x4224, .f32⟩
  | 6 => ⟨S_, .f32⟩
  | 7 => ⟨S16x4224x4224, .f32⟩
  | 8 => ⟨S16x128x4224, .f32⟩
  | 9 => ⟨S4224x16x128, .f32⟩
  | 10 => ⟨S4224x2048, .f32⟩
  | 11 => ⟨S4224x16x128, .f32⟩
  | 12 => ⟨S16x128x4224, .f32⟩
  | 13 => ⟨S16x4224x4224, .f32⟩
  | 14 => ⟨S16x128x4224, .f32⟩
  | 15 => ⟨S4224x16x128, .f32⟩
  | 16 => ⟨S_, .f32⟩
  | 17 => ⟨S16x4224x4224, .f32⟩
  | 18 => ⟨S16x4224x4224, .f32⟩
  | 19 => ⟨S16x4224x4224, .f32⟩
  | 20 => ⟨S16x4224x4224, .f32⟩
  | 21 => ⟨S_, .f32⟩
  | 22 => ⟨S_, .f32⟩
  | 23 => ⟨S16x4224x4224, .f32⟩
  | 24 => ⟨S16x4224x4224, .f32⟩
  | 25 => ⟨S_, .f32⟩
  | 26 => ⟨S16x4224x4224, .f32⟩
  | 27 => ⟨S16x4224x4224, .f32⟩
  | 28 => ⟨S16x4224x4224, .f32⟩
  | 29 => ⟨S16x4224x4224, .f32⟩
  | 30 => ⟨S16x4224x4224, .f32⟩
  | 31 => ⟨S16x4224x4224, .f32⟩
  | 32 => ⟨S16x4224x4224, .f32⟩
  | 33 => ⟨S16x4224x4224, .f32⟩
  | 34 => ⟨S16x4224x4224, .f32⟩
  | 35 => ⟨S16x4224x4224, .f32⟩
  | 36 => ⟨S_, .f32⟩
  | 37 => ⟨S16x4224x4224, .f32⟩
  | 38 => ⟨S16x4224x4224, .f32⟩
  | 39 => ⟨S16x4224x128, .f32⟩
  | 40 => ⟨S4224x16x128, .f32⟩
  | 41 => ⟨S16x4224x128, .f32⟩
  | 42 => ⟨S4224x16x128, .f32⟩
  | 43 => ⟨S4224x2048, .f32⟩
  | 44 => ⟨S4224x2048, .bf16⟩
  | 45 => ⟨S4224x2048, .f32⟩
  | 46 => ⟨S4224x2048, .f32⟩
  | _ => ⟨S4224x12288, .bf16⟩

abbrev hbmTy (i : Nat) : BufTy := match i / 128 with
  | 0 => hbmTy0_0 i
  | 1 => hbmTy0_1 i
  | _ => ⟨S4224x12288, .bf16⟩

abbrev bufTy : (tb : Table) → Fin (tcTables nBuf tb) → BufTy
  | .hbm, ⟨i, _⟩ => hbmTy i
  | _, _ => ⟨S4224x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v16_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v16_2 : Ref sig .tc := ⟨.hbm, 65, rfl⟩
abbrev main_v16_0 : Ref sig .tc := ⟨.hbm, 66, rfl⟩
abbrev main_v17 : Ref sig .tc := ⟨.hbm, 67, rfl⟩
abbrev main_call1_v0 : Ref sig .tc := ⟨.hbm, 68, rfl⟩
abbrev main_call1_call0_cst : Ref sig .tc := ⟨.hbm, 69, rfl⟩
abbrev main_call1_call0_v0 : Ref sig .tc := ⟨.hbm, 70, rfl⟩
abbrev main_call1_call0_v1 : Ref sig .tc := ⟨.hbm, 71, rfl⟩
abbrev main_call1_call0_v2 : Ref sig .tc := ⟨.hbm, 72, rfl⟩
abbrev main_call1_call0_v3 : Ref sig .tc := ⟨.hbm, 73, rfl⟩
abbrev main_call1_call0_v4 : Ref sig .tc := ⟨.hbm, 74, rfl⟩
abbrev main_call1_call0_v5 : Ref sig .tc := ⟨.hbm, 75, rfl⟩
abbrev main_call1_call0_v6 : Ref sig .tc := ⟨.hbm, 76, rfl⟩
abbrev main_call1_call0_v7 : Ref sig .tc := ⟨.hbm, 77, rfl⟩
abbrev main_call1_call0_v8 : Ref sig .tc := ⟨.hbm, 78, rfl⟩
abbrev main_call1_call0_v9 : Ref sig .tc := ⟨.hbm, 79, rfl⟩
abbrev main_call1_call0_v10 : Ref sig .tc := ⟨.hbm, 80, rfl⟩
abbrev main_call1_call0_v11 : Ref sig .tc := ⟨.hbm, 81, rfl⟩
abbrev main_call1_v1_0 : Ref sig .tc := ⟨.hbm, 82, rfl⟩
abbrev main_call1_call0_cst_0 : Ref sig .tc := ⟨.hbm, 83, rfl⟩
abbrev main_call1_call0_v13 : Ref sig .tc := ⟨.hbm, 84, rfl⟩
abbrev main_call1_call0_v14 : Ref sig .tc := ⟨.hbm, 85, rfl⟩
abbrev main_call1_call0_cst_1 : Ref sig .tc := ⟨.hbm, 86, rfl⟩
abbrev main_call1_call0_v15 : Ref sig .tc := ⟨.hbm, 87, rfl⟩
abbrev main_call1_call0_v16 : Ref sig .tc := ⟨.hbm, 88, rfl⟩
abbrev main_call1_call0_cst_2 : Ref sig .tc := ⟨.hbm, 89, rfl⟩
abbrev main_call1_call0_v17 : Ref sig .tc := ⟨.hbm, 90, rfl⟩
abbrev main_call1_call0_v18 : Ref sig .tc := ⟨.hbm, 91, rfl⟩
abbrev main_call1_call0_cst_3 : Ref sig .tc := ⟨.hbm, 92, rfl⟩
abbrev main_call1_call0_v19 : Ref sig .tc := ⟨.hbm, 93, rfl⟩
abbrev main_call1_call0_v20 : Ref sig .tc := ⟨.hbm, 94, rfl⟩
abbrev main_call1_call0_v21 : Ref sig .tc := ⟨.hbm, 95, rfl⟩
abbrev main_v18_1 : Ref sig .tc := ⟨.hbm, 96, rfl⟩
abbrev main_call1_call0_cst_4 : Ref sig .tc := ⟨.hbm, 97, rfl⟩
abbrev main_call1_call0_cst_5 : Ref sig .tc := ⟨.hbm, 98, rfl⟩
abbrev main_call1_call0_v23 : Ref sig .tc := ⟨.hbm, 99, rfl⟩
abbrev main_call1_call0_cst_6 : Ref sig .tc := ⟨.hbm, 100, rfl⟩
abbrev main_call1_call0_cst_7 : Ref sig .tc := ⟨.hbm, 101, rfl⟩
abbrev main_call1_call0_v24 : Ref sig .tc := ⟨.hbm, 102, rfl⟩
abbrev main_call1_call0_cst_8 : Ref sig .tc := ⟨.hbm, 103, rfl⟩
abbrev main_call1_call0_v25 : Ref sig .tc := ⟨.hbm, 104, rfl⟩
abbrev main_call1_call0_v26 : Ref sig .tc := ⟨.hbm, 105, rfl⟩
abbrev main_call1_call0_cst_9 : Ref sig .tc := ⟨.hbm, 106, rfl⟩
abbrev main_call1_call0_v27 : Ref sig .tc := ⟨.hbm, 107, rfl⟩
abbrev main_call1_call0_v28 : Ref sig .tc := ⟨.hbm, 108, rfl⟩
abbrev main_call1_call0_v29 : Ref sig .tc := ⟨.hbm, 109, rfl⟩
abbrev main_call1_call0_v30 : Ref sig .tc := ⟨.hbm, 110, rfl⟩
abbrev main_call1_call0_v31 : Ref sig .tc := ⟨.hbm, 111, rfl⟩
abbrev main_call1_call0_cst_10 : Ref sig .tc := ⟨.hbm, 112, rfl⟩
abbrev main_call1_call0_v32 : Ref sig .tc := ⟨.hbm, 113, rfl⟩
abbrev main_v18_2 : Ref sig .tc := ⟨.hbm, 114, rfl⟩
abbrev main_v18_0 : Ref sig .tc := ⟨.hbm, 115, rfl⟩
abbrev main_cst_0 : Ref sig .tc := ⟨.hbm, 116, rfl⟩
abbrev main_call2_v0 : Ref sig .tc := ⟨.hbm, 117, rfl⟩
abbrev main_v19_1 : Ref sig .tc := ⟨.hbm, 118, rfl⟩
abbrev main_call2_v2 : Ref sig .tc := ⟨.hbm, 119, rfl⟩
abbrev main_v19_0 : Ref sig .tc := ⟨.hbm, 120, rfl⟩
abbrev main_call2_cst : Ref sig .tc := ⟨.hbm, 121, rfl⟩
abbrev main_v19_2 : Ref sig .tc := ⟨.hbm, 122, rfl⟩
abbrev main_call3_cst : Ref sig .tc := ⟨.hbm, 123, rfl⟩
abbrev main_call3_v0 : Ref sig .tc := ⟨.hbm, 124, rfl⟩
abbrev main_v20 : Ref sig .tc := ⟨.hbm, 125, rfl⟩
abbrev main_v21 : Ref sig .tc := ⟨.hbm, 126, rfl⟩
abbrev main_v22 : Ref sig .tc := ⟨.hbm, 127, rfl⟩
abbrev main_v23 : Ref sig .tc := ⟨.hbm, 128, rfl⟩
abbrev main_cst_1 : Ref sig .tc := ⟨.hbm, 129, rfl⟩
abbrev main_call4_v0 : Ref sig .tc := ⟨.hbm, 130, rfl⟩
abbrev main_v24_1 : Ref sig .tc := ⟨.hbm, 131, rfl⟩
abbrev main_call4_v2 : Ref sig .tc := ⟨.hbm, 132, rfl⟩
abbrev main_v24_0 : Ref sig .tc := ⟨.hbm, 133, rfl⟩
abbrev main_call4_cst : Ref sig .tc := ⟨.hbm, 134, rfl⟩
abbrev main_v24_2 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_call5_cst : Ref sig .tc := ⟨.hbm, 144, rfl⟩
abbrev main_call5_v0 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_call6_cst : Ref sig .tc := ⟨.hbm, 149, rfl⟩
abbrev main_call6_v0 : Ref sig .tc := ⟨.hbm, 150, rfl⟩
abbrev main_v36 : Ref sig .tc := ⟨.hbm, 151, rfl⟩
abbrev main_v37 : Ref sig .tc := ⟨.hbm, 152, rfl⟩
abbrev main_call7_cst : Ref sig .tc := ⟨.hbm, 153, rfl⟩
abbrev main_call7_v0 : Ref sig .tc := ⟨.hbm, 154, rfl⟩
abbrev main_v38 : Ref sig .tc := ⟨.hbm, 155, rfl⟩
abbrev main_call8_v0 : Ref sig .tc := ⟨.hbm, 156, rfl⟩
abbrev main_call8_v1 : Ref sig .tc := ⟨.hbm, 157, rfl⟩
abbrev main_v39 : Ref sig .tc := ⟨.hbm, 158, rfl⟩
abbrev main_v40 : Ref sig .tc := ⟨.hbm, 159, rfl⟩
abbrev main_call9_v0 : Ref sig .tc := ⟨.hbm, 160, rfl⟩
abbrev main_call9_v1 : Ref sig .tc := ⟨.hbm, 161, rfl⟩
abbrev main_v41 : Ref sig .tc := ⟨.hbm, 162, rfl⟩
abbrev main_v42 : Ref sig .tc := ⟨.hbm, 163, rfl⟩
abbrev main_cst_2 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩

abbrev nD : Nat := 1
abbrev τ : Topo := Topo.v7x

variable {F : FTy → Type} [FloatOps F]
-- ==== Dwn.lean ====
abbrev S4224x12288 : Shape := ⟨2, ![4224, 12288]⟩
abbrev S4224x4096 : Shape := ⟨2, ![4224, 4096]⟩
abbrev S12288x4096 : Shape := ⟨2, ![12288, 4096]⟩
abbrev S4224x1024 : Shape := ⟨2, ![4224, 1024]⟩
abbrev S4224x512 : Shape := ⟨2, ![4224, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x12288, .bf16⟩
  | .hbm, ⟨1, _⟩ => ⟨S4224x4096, .bf16⟩
  | .hbm, ⟨2, _⟩ => ⟨S12288x4096, .bf16⟩
  | .local _ .vmem, ⟨0, _⟩ => ⟨S4224x1024, .bf16⟩
  | .local _ .vmem, ⟨1, _⟩ => ⟨S4224x1024, .bf16⟩
  | .local _ .vmem, ⟨2, _⟩ => ⟨S4224x512, .bf16⟩
  | .local _ .vmem, ⟨3, _⟩ => ⟨S4224x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4224x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwnIdeal.lean ====
abbrev S4224x12288 : Shape := ⟨2, ![4224, 12288]⟩
abbrev S4224x4096 : Shape := ⟨2, ![4224, 4096]⟩
abbrev S_ : Shape := ⟨0, ![]⟩
abbrev S4096x12288 : Shape := ⟨2, ![4096, 12288]⟩
abbrev S12288x4096 : Shape := ⟨2, ![12288, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4224x12288, .bf16⟩
  | .hbm, ⟨1, _⟩ => ⟨S4224x4096, .bf16⟩
  | .hbm, ⟨2, _⟩ => ⟨S_, .f32⟩
  | .hbm, ⟨3, _⟩ => ⟨S4096x12288, .f32⟩
  | .hbm, ⟨4, _⟩ => ⟨S4224x4096, .f32⟩
  | .hbm, ⟨5, _⟩ => ⟨S4224x12288, .f32⟩
  | .hbm, ⟨6, _⟩ => ⟨S4224x12288, .f32⟩
  | .hbm, ⟨7, _⟩ => ⟨S12288x4096, .f32⟩
  | .hbm, ⟨8, _⟩ => ⟨S4096x12288, .f32⟩
  | .hbm, ⟨9, _⟩ => ⟨S12288x4096, .f32⟩
  | .hbm, ⟨10, _⟩ => ⟨S12288x4096, .bf16⟩
  | _, _ => ⟨S4224x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Du.lean ====
abbrev S4224x12288 : Shape := ⟨2, ![4224, 12288]⟩
abbrev S12288x4096 : Shape := ⟨2, ![12288, 4096]⟩
abbrev S4224x4096 : Shape := ⟨2, ![4224, 4096]⟩
abbrev S1056x2048 : Shape := ⟨2, ![1056, 2048]⟩
abbrev S2048x1024 : Shape := ⟨2, ![2048, 1024]⟩
abbrev S1056x1024 : Shape := ⟨2, ![1056, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x12288, .bf16⟩
  | .hbm, ⟨1, _⟩ => ⟨S12288x4096, .bf16⟩
  | .hbm, ⟨2, _⟩ => ⟨S4224x4096, .bf16⟩
  | .local _ .vmem, ⟨0, _⟩ => ⟨S1056x2048, .bf16⟩
  | .local _ .vmem, ⟨1, _⟩ => ⟨S1056x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1056x1024, .bf16⟩
  | .local _ .vmem, ⟨5, _⟩ => ⟨S1056x1024, .bf16⟩
  | .local _ .vmem, ⟨6, _⟩ => ⟨S1056x1024, .f32⟩
  | _, _ => ⟨S4224x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDuIdeal.lean ====
abbrev S4224x12288 : Shape := ⟨2, ![4224, 12288]⟩
abbrev S12288x4096 : Shape := ⟨2, ![12288, 4096]⟩
abbrev S_ : Shape := ⟨0, ![]⟩
abbrev S4224x4096 : Shape := ⟨2, ![4224, 4096]⟩
abbrev S4096x12288 : Shape := ⟨2, ![4096, 12288]⟩

abbrev nBuf : Space → Nat
  | .hbm => 10
  | .vmem => 0
  | .smem => 0
  | _ => 0

abbrev bufTy : (tb : Table) → Fin (tcTables nBuf tb) → BufTy
  | .hbm, ⟨0, _⟩ => ⟨S4224x12288, .bf16⟩
  | .hbm, ⟨1, _⟩ => ⟨S12288x4096, .bf16⟩
  | .hbm, ⟨2, _⟩ => ⟨S_, .f32⟩
  | .hbm, ⟨3, _⟩ => ⟨S4224x4096, .f32⟩
  | .hbm, ⟨4, _⟩ => ⟨S12288x4096, .f32⟩
  | .hbm, ⟨5, _⟩ => ⟨S4096x12288, .f32⟩
  | .hbm, ⟨6, _⟩ => ⟨S4224x12288, .f32⟩
  | .hbm, ⟨7, _⟩ => ⟨S4224x12288, .f32⟩
  | .hbm, ⟨8, _⟩ => ⟨S4224x4096, .f32⟩
  | .hbm, ⟨9, _⟩ => ⟨S4224x4096, .bf16⟩
  | _, _ => ⟨S4224x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dy.lean ====
abbrev S4224x4096 : Shape := ⟨2, ![4224, 4096]⟩
abbrev S4096x4096 : Shape := ⟨2, ![4096, 4096]⟩
abbrev S1056x2048 : Shape := ⟨2, ![1056, 2048]⟩
abbrev S1024x2048 : Shape := ⟨2, ![1024, 2048]⟩
abbrev S1056x1024 : Shape := ⟨2, ![1056, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x4096, .f32⟩
  | .hbm, ⟨1, _⟩ => ⟨S4096x4096, .bf16⟩
  | .hbm, ⟨2, _⟩ => ⟨S4224x4096, .bf16⟩
  | .local _ .vmem, ⟨0, _⟩ => ⟨S1056x2048, .f32⟩
  | .local _ .vmem, ⟨1, _⟩ => ⟨S1056x2048, .f32⟩
  | .local _ .vmem, ⟨2, _⟩ => ⟨S1024x2048, .bf16⟩
  | .local _ .vmem, ⟨3, _⟩ => ⟨S1024x2048, .bf16⟩
  | .local _ .vmem, ⟨4, _⟩ => ⟨S1056x1024, .bf16⟩
  | .local _ .vmem, ⟨5, _⟩ => ⟨S1056x1024, .bf16⟩
  | .local _ .vmem, ⟨6, _⟩ => ⟨S1056x1024, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDyIdeal.lean ====
abbrev S4224x4096 : Shape := ⟨2, ![4224, 4096]⟩
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4096x4096, .bf16⟩
  | .hbm, ⟨2, _⟩ => ⟨S_, .f32⟩
  | .hbm, ⟨3, _⟩ => ⟨S4224x4096, .f32⟩
  | .hbm, ⟨4, _⟩ => ⟨S4096x4096, .f32⟩
  | .hbm, ⟨5, _⟩ => ⟨S4224x4096, .f32⟩
  | .hbm, ⟨6, _⟩ => ⟨S4224x4096, .f32⟩
  | .hbm, ⟨7, _⟩ => ⟨S4224x4096, .bf16⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dwo.lean ====
abbrev S4224x4096 : Shape := ⟨2, ![4224, 4096]⟩
abbrev S4096x4096 : Shape := ⟨2, ![4096, 4096]⟩
abbrev S4224x1024 : Shape := ⟨2, ![4224, 1024]⟩
abbrev S4224x512 : Shape := ⟨2, ![4224, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x4096, .bf16⟩
  | .hbm, ⟨1, _⟩ => ⟨S4224x4096, .f32⟩
  | .hbm, ⟨2, _⟩ => ⟨S4096x4096, .bf16⟩
  | .local _ .vmem, ⟨0, _⟩ => ⟨S4224x1024, .bf16⟩
  | .local _ .vmem, ⟨1, _⟩ => ⟨S4224x1024, .bf16⟩
  | .local _ .vmem, ⟨2, _⟩ => ⟨S4224x512, .f32⟩
  | .local _ .vmem, ⟨3, _⟩ => ⟨S4224x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwoIdeal.lean ====
abbrev S4224x4096 : Shape := ⟨2, ![4224, 4096]⟩
abbrev S_ : Shape := ⟨0, ![]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4224x4096, .f32⟩
  | .hbm, ⟨2, _⟩ => ⟨S_, .f32⟩
  | .hbm, ⟨3, _⟩ => ⟨S4096x4096, .f32⟩
  | .hbm, ⟨4, _⟩ => ⟨S4224x4096, .f32⟩
  | .hbm, ⟨5, _⟩ => ⟨S4224x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dcq.lean ====
abbrev S4224x4096 : Shape := ⟨2, ![4224, 4096]⟩
abbrev S1024x4096 : Shape := ⟨2, ![1024, 4096]⟩
abbrev S4224x1024 : Shape := ⟨2, ![4224, 1024]⟩
abbrev S1056x4096 : Shape := ⟨2, ![1056, 4096]⟩
abbrev S512x4096 : Shape := ⟨2, ![512, 4096]⟩
abbrev S1056x512 : Shape := ⟨2, ![1056, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x4096, .bf16⟩
  | .hbm, ⟨1, _⟩ => ⟨S1024x4096, .bf16⟩
  | .hbm, ⟨2, _⟩ => ⟨S4224x1024, .bf16⟩
  | .local _ .vmem, ⟨0, _⟩ => ⟨S1056x4096, .bf16⟩
  | .local _ .vmem, ⟨1, _⟩ => ⟨S1056x4096, .bf16⟩
  | .local _ .vmem, ⟨2, _⟩ => ⟨S512x4096, .bf16⟩
  | .local _ .vmem, ⟨3, _⟩ => ⟨S512x4096, .bf16⟩
  | .local _ .vmem, ⟨4, _⟩ => ⟨S1056x512, .bf16⟩
  | .local _ .vmem, ⟨5, _⟩ => ⟨S1056x512, .bf16⟩
  | .local _ .vmem, ⟨6, _⟩ => ⟨S1056x512, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDcqIdeal.lean ====
abbrev S4224x4096 : Shape := ⟨2, ![4224, 4096]⟩
abbrev S1024x4096 : Shape := ⟨2, ![1024, 4096]⟩
abbrev S_ : Shape := ⟨0, ![]⟩
abbrev S4224x1024 : Shape := ⟨2, ![4224, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S1024x4096, .bf16⟩
  | .hbm, ⟨2, _⟩ => ⟨S_, .f32⟩
  | .hbm, ⟨3, _⟩ => ⟨S4224x1024, .f32⟩
  | .hbm, ⟨4, _⟩ => ⟨S1024x4096, .f32⟩
  | .hbm, ⟨5, _⟩ => ⟨S4224x4096, .f32⟩
  | .hbm, ⟨6, _⟩ => ⟨S4224x4096, .f32⟩
  | .hbm, ⟨7, _⟩ => ⟨S4224x1024, .f32⟩
  | .hbm, ⟨8, _⟩ => ⟨S4224x1024, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwuq.lean ====
abbrev S4224x1024 : Shape := ⟨2, ![4224, 1024]⟩
abbrev S4224x4096 : Shape := ⟨2, ![4224, 4096]⟩
abbrev S1024x4096 : Shape := ⟨2, ![1024, 4096]⟩
abbrev S4224x512 : Shape := ⟨2, ![4224, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x4096, .bf16⟩
  | .hbm, ⟨2, _⟩ => ⟨S1024x4096, .bf16⟩
  | .local _ .vmem, ⟨0, _⟩ => ⟨S4224x1024, .bf16⟩
  | .local _ .vmem, ⟨1, _⟩ => ⟨S4224x512, .bf16⟩
  | .local _ .vmem, ⟨2, _⟩ => ⟨S4224x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4224x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwuqIdeal.lean ====
abbrev S4224x1024 : Shape := ⟨2, ![4224, 1024]⟩
abbrev S4224x4096 : Shape := ⟨2, ![4224, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x4096, .bf16⟩
  | .hbm, ⟨2, _⟩ => ⟨S_, .f32⟩
  | .hbm, ⟨3, _⟩ => ⟨S1024x4096, .f32⟩
  | .hbm, ⟨4, _⟩ => ⟨S4224x1024, .f32⟩
  | .hbm, ⟨5, _⟩ => ⟨S4224x4096, .f32⟩
  | .hbm, ⟨6, _⟩ => ⟨S4224x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dckv.lean ====
abbrev S4224x4096 : Shape := ⟨2, ![4224, 4096]⟩
abbrev S512x4096 : Shape := ⟨2, ![512, 4096]⟩
abbrev S4224x512 : Shape := ⟨2, ![4224, 512]⟩
abbrev S1056x4096 : Shape := ⟨2, ![1056, 4096]⟩
abbrev S1056x512 : Shape := ⟨2, ![1056, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x4096, .bf16⟩
  | .hbm, ⟨1, _⟩ => ⟨S512x4096, .bf16⟩
  | .hbm, ⟨2, _⟩ => ⟨S4224x512, .bf16⟩
  | .local _ .vmem, ⟨0, _⟩ => ⟨S1056x4096, .bf16⟩
  | .local _ .vmem, ⟨1, _⟩ => ⟨S1056x4096, .bf16⟩
  | .local _ .vmem, ⟨2, _⟩ => ⟨S512x4096, .bf16⟩
  | .local _ .vmem, ⟨3, _⟩ => ⟨S1056x512, .bf16⟩
  | .local _ .vmem, ⟨4, _⟩ => ⟨S1056x512, .bf16⟩
  | .local _ .vmem, ⟨5, _⟩ => ⟨S1056x512, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDckvIdeal.lean ====
abbrev S4224x4096 : Shape := ⟨2, ![4224, 4096]⟩
abbrev S512x4096 : Shape := ⟨2, ![512, 4096]⟩
abbrev S_ : Shape := ⟨0, ![]⟩
abbrev S4224x512 : Shape := ⟨2, ![4224, 512]⟩

abbrev nBuf : Space → Nat
  | .hbm => 9
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S512x4096, .bf16⟩
  | .hbm, ⟨2, _⟩ => ⟨S_, .f32⟩
  | .hbm, ⟨3, _⟩ => ⟨S4224x512, .f32⟩
  | .hbm, ⟨4, _⟩ => ⟨S512x4096, .f32⟩
  | .hbm, ⟨5, _⟩ => ⟨S4224x4096, .f32⟩
  | .hbm, ⟨6, _⟩ => ⟨S4224x4096, .f32⟩
  | .hbm, ⟨7, _⟩ => ⟨S4224x512, .f32⟩
  | .hbm, ⟨8, _⟩ => ⟨S4224x512, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwukv.lean ====
abbrev S4224x512 : Shape := ⟨2, ![4224, 512]⟩
abbrev S4224x4096 : Shape := ⟨2, ![4224, 4096]⟩
abbrev S512x4096 : Shape := ⟨2, ![512, 4096]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x512, .bf16⟩
  | .hbm, ⟨1, _⟩ => ⟨S4224x4096, .bf16⟩
  | .hbm, ⟨2, _⟩ => ⟨S512x4096, .bf16⟩
  | .local _ .vmem, ⟨0, _⟩ => ⟨S4224x512, .bf16⟩
  | .local _ .vmem, ⟨1, _⟩ => ⟨S4224x512, .bf16⟩
  | .local _ .vmem, ⟨2, _⟩ => ⟨S4224x512, .bf16⟩
  | .local _ .vmem, ⟨3, _⟩ => ⟨S512x512, .bf16⟩
  | .local _ .vmem, ⟨4, _⟩ => ⟨S512x512, .bf16⟩
  | .local _ .vmem, ⟨5, _⟩ => ⟨S512x512, .f32⟩
  | _, _ => ⟨S4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4224x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwukvIdeal.lean ====
abbrev S4224x512 : Shape := ⟨2, ![4224, 512]⟩
abbrev S4224x4096 : Shape := ⟨2, ![4224, 4096]⟩
abbrev S_ : Shape := ⟨0, ![]⟩
abbrev S512x4096 : Shape := ⟨2, ![512, 4096]⟩
abbrev S4096x512 : Shape := ⟨2, ![4096, 512]⟩

abbrev nBuf : Space → Nat
  | .hbm => 10
  | .vmem => 0
  | .smem => 0
  | _ => 0

abbrev bufTy : (tb : Table) → Fin (tcTables nBuf tb) → BufTy
  | .hbm, ⟨0, _⟩ => ⟨S4224x512, .bf16⟩
  | .hbm, ⟨1, _⟩ => ⟨S4224x4096, .bf16⟩
  | .hbm, ⟨2, _⟩ => ⟨S_, .f32⟩
  | .hbm, ⟨3, _⟩ => ⟨S512x4096, .f32⟩
  | .hbm, ⟨4, _⟩ => ⟨S4224x512, .f32⟩
  | .hbm, ⟨5, _⟩ => ⟨S4224x4096, .f32⟩
  | .hbm, ⟨6, _⟩ => ⟨S4224x4096, .f32⟩
  | .hbm, ⟨7, _⟩ => ⟨S4096x512, .f32⟩
  | .hbm, ⟨8, _⟩ => ⟨S512x4096, .f32⟩
  | .hbm, ⟨9, _⟩ => ⟨S512x4096, .bf16⟩
  | _, _ => ⟨S4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proj.lean ====
abbrev S4224x4096 : Shape := ⟨2, ![4224, 4096]⟩
abbrev S12288x4096 : Shape := ⟨2, ![12288, 4096]⟩
abbrev S4224x12288 : Shape := ⟨2, ![4224, 12288]⟩
abbrev S1056x4096 : Shape := ⟨2, ![1056, 4096]⟩
abbrev S512x4096 : Shape := ⟨2, ![512, 4096]⟩
abbrev S1056x512 : Shape := ⟨2, ![1056, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x4096, .bf16⟩
  | .hbm, ⟨1, _⟩ => ⟨S12288x4096, .bf16⟩
  | .hbm, ⟨2, _⟩ => ⟨S4224x12288, .bf16⟩
  | .local _ .vmem, ⟨0, _⟩ => ⟨S1056x4096, .bf16⟩
  | .local _ .vmem, ⟨1, _⟩ => ⟨S1056x4096, .bf16⟩
  | .local _ .vmem, ⟨2, _⟩ => ⟨S512x4096, .bf16⟩
  | .local _ .vmem, ⟨3, _⟩ => ⟨S512x4096, .bf16⟩
  | .local _ .vmem, ⟨4, _⟩ => ⟨S1056x512, .bf16⟩
  | .local _ .vmem, ⟨5, _⟩ => ⟨S1056x512, .bf16⟩
  | .local _ .vmem, ⟨6, _⟩ => ⟨S1056x512, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 24, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefProjIdeal.lean ====
abbrev S4224x4096 : Shape := ⟨2, ![4224, 4096]⟩
abbrev S12288x4096 : Shape := ⟨2, ![12288, 4096]⟩
abbrev S4096x12288 : Shape := ⟨2, ![4096, 12288]⟩
abbrev S4224x12288 : Shape := ⟨2, ![4224, 12288]⟩

abbrev nBuf : Space → Nat
  | .hbm => 7
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S12288x4096, .bf16⟩
  | .hbm, ⟨2, _⟩ => ⟨S4224x4096, .f32⟩
  | .hbm, ⟨3, _⟩ => ⟨S12288x4096, .f32⟩
  | .hbm, ⟨4, _⟩ => ⟨S4096x12288, .f32⟩
  | .hbm, ⟨5, _⟩ => ⟨S4224x12288, .f32⟩
  | .hbm, ⟨6, _⟩ => ⟨S4224x12288, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UpQ.lean ====
abbrev S4224x1024 : Shape := ⟨2, ![4224, 1024]⟩
abbrev S1024x4096 : Shape := ⟨2, ![1024, 4096]⟩
abbrev S4224x4096 : Shape := ⟨2, ![4224, 4096]⟩
abbrev S1056x1024 : Shape := ⟨2, ![1056, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S1024x4096, .bf16⟩
  | .hbm, ⟨2, _⟩ => ⟨S4224x4096, .f32⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpQIdeal.lean ====
abbrev S4224x1024 : Shape := ⟨2, ![4224, 1024]⟩
abbrev S1024x4096 : Shape := ⟨2, ![1024, 4096]⟩
abbrev S4224x4096 : Shape := ⟨2, ![4224, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x4096, .bf16⟩
  | .hbm, ⟨2, _⟩ => ⟨S4224x1024, .f32⟩
  | .hbm, ⟨3, _⟩ => ⟨S1024x4096, .f32⟩
  | .hbm, ⟨4, _⟩ => ⟨S4224x4096, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpKv.lean ====
abbrev S4224x512 : Shape := ⟨2, ![4224, 512]⟩
abbrev S512x4096 : Shape := ⟨2, ![512, 4096]⟩
abbrev S4224x4096 : Shape := ⟨2, ![4224, 4096]⟩
abbrev S1056x512 : Shape := ⟨2, ![1056, 512]⟩
abbrev S512x1024 : Shape := ⟨2, ![512, 1024]⟩
abbrev S1056x1024 : Shape := ⟨2, ![1056, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x512, .bf16⟩
  | .hbm, ⟨1, _⟩ => ⟨S512x4096, .bf16⟩
  | .hbm, ⟨2, _⟩ => ⟨S4224x4096, .bf16⟩
  | .local _ .vmem, ⟨0, _⟩ => ⟨S1056x512, .bf16⟩
  | .local _ .vmem, ⟨1, _⟩ => ⟨S1056x512, .bf16⟩
  | .local _ .vmem, ⟨2, _⟩ => ⟨S512x1024, .bf16⟩
  | .local _ .vmem, ⟨3, _⟩ => ⟨S512x1024, .bf16⟩
  | .local _ .vmem, ⟨4, _⟩ => ⟨S1056x1024, .bf16⟩
  | .local _ .vmem, ⟨5, _⟩ => ⟨S1056x1024, .bf16⟩
  | .local _ .vmem, ⟨6, _⟩ => ⟨S1056x1024, .f32⟩
  | _, _ => ⟨S4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpKvIdeal.lean ====
abbrev S4224x512 : Shape := ⟨2, ![4224, 512]⟩
abbrev S512x4096 : Shape := ⟨2, ![512, 4096]⟩
abbrev S4224x4096 : Shape := ⟨2, ![4224, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4224x512, .bf16⟩
  | .hbm, ⟨1, _⟩ => ⟨S512x4096, .bf16⟩
  | .hbm, ⟨2, _⟩ => ⟨S4224x512, .f32⟩
  | .hbm, ⟨3, _⟩ => ⟨S512x4096, .f32⟩
  | .hbm, ⟨4, _⟩ => ⟨S4224x4096, .f32⟩
  | .hbm, ⟨5, _⟩ => ⟨S4224x4096, .bf16⟩
  | _, _ => ⟨S4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S4224x4096 : Shape := ⟨2, ![4224, 4096]⟩
abbrev S4096x4096 : Shape := ⟨2, ![4096, 4096]⟩
abbrev S1056x4096 : Shape := ⟨2, ![1056, 4096]⟩
abbrev S4096x512 : Shape := ⟨2, ![4096, 512]⟩
abbrev S1056x512 : Shape := ⟨2, ![1056, 512]⟩

abbrev nBuf : Space → Nat
  | .hbm => 4
  | .vmem => 9
  | .smem => 0
  | _ => 0

abbrev bufTy : (tb : Table) → Fin (tcTables nBuf tb) → BufTy
  | .hbm, ⟨0, _⟩ => ⟨S4224x4096, .bf16⟩
  | .hbm, ⟨1, _⟩ => ⟨S4096x4096, .bf16⟩
  | .hbm, ⟨2, _⟩ => ⟨S4224x4096, .f32⟩
  | .hbm, ⟨3, _⟩ => ⟨S4224x4096, .f32⟩
  | .local _ .vmem, ⟨0, _⟩ => ⟨S1056x4096, .bf16⟩
  | .local _ .vmem, ⟨1, _⟩ => ⟨S1056x4096, .bf16⟩
  | .local _ .vmem, ⟨2, _⟩ => ⟨S4096x512, .bf16⟩
  | .local _ .vmem, ⟨3, _⟩ => ⟨S4096x512, .bf16⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | .local _ .vmem, ⟨7, _⟩ => ⟨S1056x512, .f32⟩
  | .local _ .vmem, ⟨8, _⟩ => ⟨S1056x512, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefOutProjIdeal.lean ====
abbrev S4224x4096 : Shape := ⟨2, ![4224, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4096x4096, .bf16⟩
  | .hbm, ⟨2, _⟩ => ⟨S4224x4096, .f32⟩
  | .hbm, ⟨3, _⟩ => ⟨S4224x4096, .f32⟩
  | .hbm, ⟨4, _⟩ => ⟨S4096x4096, .f32⟩
  | .hbm, ⟨5, _⟩ => ⟨S4224x4096, .f32⟩
  | .hbm, ⟨6, _⟩ => ⟨S4224x4096, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MlaBwd.lean ====
abbrev S4224x4096 : Shape := ⟨2, ![4224, 4096]⟩
abbrev S4224x2048 : Shape := ⟨2, ![4224, 2048]⟩
abbrev S4224x16x256 : Shape := ⟨3, ![4224, 16, 256]⟩
abbrev S4224x16x128 : Shape := ⟨3, ![4224, 16, 128]⟩
abbrev S4224 : Shape := ⟨1, ![4224]⟩
abbrev S16x4224x4224 : Shape := ⟨3, ![16, 4224, 4224]⟩
abbrev S_ : Shape := ⟨0, ![]⟩
abbrev S1x4224 : Shape := ⟨2, ![1, 4224]⟩
abbrev S4224x1 : Shape := ⟨2, ![4224, 1]⟩
abbrev S4224x4224 : Shape := ⟨2, ![4224, 4224]⟩
abbrev S16x4224 : Shape := ⟨2, ![16, 4224]⟩
abbrev S16x4224x1 : Shape := ⟨3, ![16, 4224, 1]⟩
abbrev S16x128x4224 : Shape := ⟨3, ![16, 128, 4224]⟩
abbrev S384x512 : Shape := ⟨2, ![384, 512]⟩
abbrev S4224x512 : Shape := ⟨2, ![4224, 512]⟩
abbrev S4224x256 : Shape := ⟨2, ![4224, 256]⟩
abbrev S384x256 : Shape := ⟨2, ![384, 256]⟩
abbrev S2x384x1 : Shape := ⟨3, ![2, 384, 1]⟩
abbrev S384x384 : Shape := ⟨2, ![384, 384]⟩
abbrev S384x128 : Shape := ⟨2, ![384, 128]⟩
abbrev S384 : Shape := ⟨1, ![384]⟩
abbrev S384x1 : Shape := ⟨2, ![384, 1]⟩
abbrev S1x384x1 : Shape := ⟨3, ![1, 384, 1]⟩

abbrev nBuf : Space → Nat
  | .hbm => 81
  | .vmem => 18
  | .smem => 0
  | _ => 0

abbrev bufTy : (tb : Table) → Fin (tcTables nBuf tb) → BufTy
  | .hbm, ⟨0, _⟩ => ⟨S4224x4096, .bf16⟩
  | .hbm, ⟨1, _⟩ => ⟨S4224x4096, .bf16⟩
  | .hbm, ⟨2, _⟩ => ⟨S4224x4096, .bf16⟩
  | .hbm, ⟨3, _⟩ => ⟨S4224x2048, .bf16⟩
  | .hbm, ⟨4, _⟩ => ⟨S4224x4096, .f32⟩
  | .hbm, ⟨5, _⟩ => ⟨S4224x16x256, .f32⟩
  | .hbm, ⟨6, _⟩ => ⟨S4224x4096, .f32⟩
  | .hbm, ⟨7, _⟩ => ⟨S4224x16x256, .f32⟩
  | .hbm, ⟨8, _⟩ => ⟨S4224x4096, .f32⟩
  | .hbm, ⟨9, _⟩ => ⟨S4224x2048, .f32⟩
  | .hbm, ⟨10, _⟩ => ⟨S4224x16x128, .f32⟩
  | .hbm, ⟨11, _⟩ => ⟨S4224x16x128, .f32⟩
  | .hbm, ⟨12, _⟩ => ⟨S4224x16x128, .f32⟩
  | .hbm, ⟨13, _⟩ => ⟨S4224x16x128, .f32⟩
  | .hbm, ⟨14, _⟩ => ⟨S4224x16x128, .f32⟩
  | .hbm, ⟨15, _⟩ => ⟨S4224, .i32⟩
  | .hbm, ⟨16, _⟩ => ⟨S16x4224x4224, .f32⟩
  | .hbm, ⟨17, _⟩ => ⟨S16x4224x4224, .f32⟩
  | .hbm, ⟨18, _⟩ => ⟨S16x4224x4224, .f32⟩
  | .hbm, ⟨19, _⟩ => ⟨S_, .f32⟩
  | .hbm, ⟨20, _⟩ => ⟨S16x4224x4224, .f32⟩
  | .hbm, ⟨21, _⟩ => ⟨S16x4224x4224, .f32⟩
  | .hbm, ⟨22, _⟩ => ⟨S1x4224, .i32⟩
  | .hbm, ⟨23, _⟩ => ⟨S4224x1, .i32⟩
  | .hbm, ⟨24, _⟩ => ⟨S4224x4224, .i32⟩
  | .hbm, ⟨25, _⟩ => ⟨S4224x4224, .i32⟩
  | .hbm, ⟨26, _⟩ => ⟨S4224x4224, .i1⟩
  | .hbm, ⟨27, _⟩ => ⟨S_, .f32⟩
  | .hbm, ⟨28, _⟩ => ⟨S_, .f32⟩
  | .hbm, ⟨29, _⟩ => ⟨S16x4224x4224, .i1⟩
  | .hbm, ⟨30, _⟩ => ⟨S16x4224x4224, .f32⟩
  | .hbm, ⟨31, _⟩ => ⟨S16x4224x4224, .f32⟩
  | .hbm, ⟨32, _⟩ => ⟨S_, .f32⟩
  | .hbm, ⟨33, _⟩ => ⟨S16x4224, .f32⟩
  | .hbm, ⟨34, _⟩ => ⟨S_, .f32⟩
  | .hbm, ⟨35, _⟩ => ⟨S16x4224, .f32⟩
  | .hbm, ⟨36, _⟩ => ⟨S16x4224, .f32⟩
  | .hbm, ⟨37, _⟩ => ⟨S16x4224x1, .f32⟩
  | .hbm, ⟨38, _⟩ => ⟨S16x4224x4224, .f32⟩
  | .hbm, ⟨39, _⟩ => ⟨S16x4224x4224, .f32⟩
  | .hbm, ⟨40, _⟩ => ⟨S16x4224x4224, .f32⟩
  | .hbm, ⟨41, _⟩ => ⟨S_, .f32⟩
  | .hbm, ⟨42, _⟩ => ⟨S16x4224, .f32⟩
  | .hbm, ⟨43, _⟩ => ⟨S16x4224x1, .f32⟩
  | .hbm, ⟨44, _⟩ => ⟨S16x4224x4224, .f32⟩
  | .hbm, ⟨45, _⟩ => ⟨S16x4224x4224, .f32⟩
  | .hbm, ⟨46, _⟩ => ⟨S16x128x4224, .f32⟩
  | .hbm, ⟨47, _⟩ => ⟨S4224x16x128, .f32⟩
  | .hbm, ⟨48, _⟩ => ⟨S4224x2048, .f32⟩
  | .hbm, ⟨49, _⟩ => ⟨S4224x2048, .bf16⟩
  | .hbm, ⟨50, _⟩ => ⟨S4224, .i32⟩
  | .hbm, ⟨51, _⟩ => ⟨S16x4224x4224, .f32⟩
  | .hbm, ⟨52, _⟩ => ⟨S16x4224x4224, .f32⟩
  | .hbm, ⟨53, _⟩ => ⟨S16x4224x4224, .f32⟩
  | .hbm, ⟨54, _⟩ => ⟨S_, .f32⟩
  | .hbm, ⟨55, _⟩ => ⟨S16x4224x4224, .f32⟩
  | .hbm, ⟨56, _⟩ => ⟨S16x4224x4224, .f32⟩
  | .hbm, ⟨57, _⟩ => ⟨S1x4224, .i32⟩
  | .hbm, ⟨58, _⟩ => ⟨S4224x1, .i32⟩
  | .hbm, ⟨59, _⟩ => ⟨S4224x4224, .i32⟩
  | .hbm, ⟨60, _⟩ => ⟨S4224x4224, .i32⟩
  | .hbm, ⟨61, _⟩ => ⟨S4224x4224, .i1⟩
  | .hbm, ⟨62, _⟩ => ⟨S_, .f32⟩
  | .hbm, ⟨63, _⟩ => ⟨S_, .f32⟩
  | .hbm, ⟨64, _⟩ => ⟨S16x4224x4224, .i1⟩
  | .hbm, ⟨65, _⟩ => ⟨S16x4224x4224, .f32⟩
  | .hbm, ⟨66, _⟩ => ⟨S16x4224x4224, .f32⟩
  | .hbm, ⟨67, _⟩ => ⟨S_, .f32⟩
  | .hbm, ⟨68, _⟩ => ⟨S16x4224, .f32⟩
  | .hbm, ⟨69, _⟩ => ⟨S16x4224x1, .f32⟩
  | .hbm, ⟨70, _⟩ => ⟨S16x4224x4224, .f32⟩
  | .hbm, ⟨71, _⟩ => ⟨S16x4224x4224, .f32⟩
  | .hbm, ⟨72, _⟩ => ⟨S16x4224x4224, .f32⟩
  | .hbm, ⟨73, _⟩ => ⟨S_, .f32⟩
  | .hbm, ⟨74, _⟩ => ⟨S16x4224, .f32⟩
  | .hbm, ⟨75, _⟩ => ⟨S16x4224x1, .f32⟩
  | .hbm, ⟨76, _⟩ => ⟨S16x4224x1, .f32⟩
  | .hbm, ⟨77, _⟩ => ⟨S16x4224x1, .f32⟩
  | .hbm, ⟨78, _⟩ => ⟨S4224x4096, .bf16⟩
  | .hbm, ⟨79, _⟩ => ⟨S4224x4096, .f32⟩
  | .hbm, ⟨80, _⟩ => ⟨S4224x2048, .f32⟩
  | .local _ .vmem, ⟨0, _⟩ => ⟨S384x512, .bf16⟩
  | .local _ .vmem, ⟨1, _⟩ => ⟨S384x512, .bf16⟩
  | .local _ .vmem, ⟨2, _⟩ => ⟨S4224x512, .bf16⟩
  | .local _ .vmem, ⟨3, _⟩ => ⟨S4224x512, .bf16⟩
  | .local _ .vmem, ⟨4, _⟩ => ⟨S4224x256, .bf16⟩
  | .local _ .vmem, ⟨5, _⟩ => ⟨S4224x256, .bf16⟩
  | .local _ .vmem, ⟨6, _⟩ => ⟨S384x256, .bf16⟩
  | .local _ .vmem, ⟨7, _⟩ => ⟨S384x256, .bf16⟩
  | .local _ .vmem, ⟨8, _⟩ => ⟨S384x256, .bf16⟩
  | .local _ .vmem, ⟨9, _⟩ => ⟨S384x256, .bf16⟩
  | .local _ .vmem, ⟨10, _⟩ => ⟨S2x384x1, .f32⟩
  | .local _ .vmem, ⟨11, _⟩ => ⟨S2x384x1, .f32⟩
  | .local _ .vmem, ⟨12, _⟩ => ⟨S384x512, .bf16⟩
  | .local _ .vmem, ⟨13, _⟩ => ⟨S384x512, .bf16⟩
  | .local _ .vmem, ⟨14, _⟩ => ⟨S4224x512, .f32⟩
  | .local _ .vmem, ⟨15, _⟩ => ⟨S4224x512, .f32⟩
  | .local _ .vmem, ⟨16, _⟩ => ⟨S4224x256, .f32⟩
  | .local _ .vmem, ⟨17, _⟩ => ⟨S4224x256, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59_0 : Ref sig .tc := ⟨.hbm, 78, rfl⟩
abbrev main_v59_1 : Ref sig .tc := ⟨.hbm, 79, rfl⟩
abbrev main_v59_2 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 11], ![false, false]⟩

@[reducible] def k0_t1_loop (i : grid0.Coords) : Scf.Loop 32 :=
  let c0_i32_10 : BitVec 32 := 0#32
  let arg1 : BitVec 32 := BitVec.ofNat 32 (i 1).val
  let v24 : BitVec 32 := Scalar.subi arg1 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let c1_i32_11 : BitVec 32 := 1#32
  ⟨c0_i32_10, v28, c1_i32_11⟩
def k0_mult1 (i : grid0.Coords) (k0_t1 : Fin (k0_t1_loop i).trips) : BitVec 32 :=
  let c0_i32_10 : BitVec 32 := 0#32
  let c1_i32_11 : BitVec 32 := 1#32
  let arg11 : BitVec 32 := Scf.iv c0_i32_10 c1_i32_11 k0_t1
  let c384_i32_57 : BitVec 32 := 384#32
  let v117 : BitVec 32 := Scalar.muli arg11 c384_i32_57
  v117
def k0_off1 (i : grid0.Coords) (k0_t1 : Fin (k0_t1_loop i).trips) : Fin 2 → Nat :=
  let c0_i32_10 : BitVec 32 := 0#32
  let c1_i32_11 : BitVec 32 := 1#32
  let arg11 : BitVec 32 := Scf.iv c0_i32_10 c1_i32_11 k0_t1
  let c384_i32_57 : BitVec 32 := 384#32
  let v117 : BitVec 32 := Scalar.muli arg11 c384_i32_57
  let v118 : BitVec 32 := v117
  let v121 : Index := Scalar.indexCast v118
  let c0_62 : Index := 0#32
  ![v121.toNat, 0]
def k0_off2 (i : grid0.Coords) (k0_t1 : Fin (k0_t1_loop i).trips) : Fin 2 → Nat :=
  let c0_i32_10 : BitVec 32 := 0#32
  let c1_i32_11 : BitVec 32 := 1#32
  let arg11 : BitVec 32 := Scf.iv c0_i32_10 c1_i32_11 k0_t1
  let c384_i32_57 : BitVec 32 := 384#32
  let v117 : BitVec 32 := Scalar.muli arg11 c384_i32_57
  let v118 : BitVec 32 := v117
  let v123 : Index := Scalar.indexCast v118
  let c0_63 : Index := 0#32
  ![v123.toNat, 0]
def k0_off3 (i : grid0.Coords) (k0_t1 : Fin (k0_t1_loop i).trips) : Fin 2 → Nat :=
  let c0_i32_10 : BitVec 32 := 0#32
  let c1_i32_11 : BitVec 32 := 1#32
  let arg11 : BitVec 32 := Scf.iv c0_i32_10 c1_i32_11 k0_t1
  let c384_i32_57 : BitVec 32 := 384#32
  let v117 : BitVec 32 := Scalar.muli arg11 c384_i32_57
  let v118 : BitVec 32 := v117
  let v159 : Index := Scalar.indexCast v118
  let c256_82 : Index := 256#32
  ![v159.toNat, 256]
def k0_off4 (i : grid0.Coords) (k0_t1 : Fin (k0_t1_loop i).trips) : Fin 2 → Nat :=
  let c0_i32_10 : BitVec 32 := 0#32
  let c1_i32_11 : BitVec 32 := 1#32
  let arg11 : BitVec 32 := Scf.iv c0_i32_10 c1_i32_11 k0_t1
  let c384_i32_57 : BitVec 32 := 384#32
  let v117 : BitVec 32 := Scalar.muli arg11 c384_i32_57
  let v118 : BitVec 32 := v117
  let v161 : Index := Scalar.indexCast v118
  let c128_83 : Index := 128#32
  ![v161.toNat, 128]
@[reducible] def k0_t2_loop (i : grid0.Coords) : Scf.Loop 32 :=
  let c0_i32_10 : BitVec 32 := 0#32
  let arg1 : BitVec 32 := BitVec.ofNat 32 (i 1).val
  let v24 : BitVec 32 := Scalar.subi arg1 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let v25 : BitVec 32 := Scalar.addi c0_i32_10 v24
  let c1_i32_12 : BitVec 32 := 1#32
  ⟨v28, v25, c1_i32_12⟩
def k0_mult2 (i : grid0.Coords) (k0_t2 : Fin (k0_t2_loop i).trips) : BitVec 32 :=
  let c0_i32_10 : BitVec 32 := 0#32
  let arg1 : BitVec 32 := BitVec.ofNat 32 (i 1).val
  let v24 : BitVec 32 := Scalar.subi arg1 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let c1_i32_12 : BitVec 32 := 1#32
  let arg11 : BitVec 32 := Scf.iv v28 c1_i32_12 k0_t2
  let c384_i32_57 : BitVec 32 := 384#32
  let v117 : BitVec 32 := Scalar.muli arg11 c384_i32_57
  v117
def k0_off5 (i : grid0.Coords) (k0_t2 : Fin (k0_t2_loop i).trips) : Fin 2 → Nat :=
  let c0_i32_10 : BitVec 32 := 0#32
  let arg1 : BitVec 32 := BitVec.ofNat 32 (i 1).val
  let v24 : BitVec 32 := Scalar.subi arg1 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let c1_i32_12 : BitVec 32 := 1#32
  let arg11 : BitVec 32 := Scf.iv v28 c1_i32_12 k0_t2
  let c384_i32_57 : BitVec 32 := 384#32
  let v117 : BitVec 32 := Scalar.muli arg11 c384_i32_57
  let v118 : BitVec 32 := v117
  let v121 : Index := Scalar.indexCast v118
  let c0_62 : Index := 0#32
  ![v121.toNat, 0]
def k0_off6 (i : grid0.Coords) (k0_t2 : Fin (k0_t2_loop i).trips) : Fin 2 → Nat :=
  let c0_i32_10 : BitVec 32 := 0#32
  let arg1 : BitVec 32 := BitVec.ofNat 32 (i 1).val
  let v24 : BitVec 32 := Scalar.subi arg1 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let c1_i32_12 : BitVec 32 := 1#32
  let arg11 : BitVec 32 := Scf.iv v28 c1_i32_12 k0_t2
  let c384_i32_57 : BitVec 32 := 384#32
  let v117 : BitVec 32 := Scalar.muli arg11 c384_i32_57
  let v118 : BitVec 32 := v117
  let v123 : Index := Scalar.indexCast v118
  let c0_63 : Index := 0#32
  ![v123.toNat, 0]
def k0_off7 (i : grid0.Coords) (k0_t2 : Fin (k0_t2_loop i).trips) : Fin 2 → Nat :=
  let c0_i32_10 : BitVec 32 := 0#32
  let arg1 : BitVec 32 := BitVec.ofNat 32 (i 1).val
  let v24 : BitVec 32 := Scalar.subi arg1 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let c1_i32_12 : BitVec 32 := 1#32
  let arg11 : BitVec 32 := Scf.iv v28 c1_i32_12 k0_t2
  let c384_i32_57 : BitVec 32 := 384#32
  let v117 : BitVec 32 := Scalar.muli arg11 c384_i32_57
  let v118 : BitVec 32 := v117
  let v159 : Index := Scalar.indexCast v118
  let c256_82 : Index := 256#32
  ![v159.toNat, 256]
def k0_off8 (i : grid0.Coords) (k0_t2 : Fin (k0_t2_loop i).trips) : Fin 2 → Nat :=
  let c0_i32_10 : BitVec 32 := 0#32
  let arg1 : BitVec 32 := BitVec.ofNat 32 (i 1).val
  let v24 : BitVec 32 := Scalar.subi arg1 c0_i32_10
  let c1_i32 : BitVec 32 := 1#32
  let v26 : BitVec 32 := Scalar.divsi v24 c1_i32
  let v27 : BitVec 32 := Scalar.muli v26 c1_i32
  let v28 : BitVec 32 := Scalar.addi c0_i32_10 v27
  let c1_i32_12 : BitVec 32 := 1#32
  let arg11 : BitVec 32 := Scf.iv v28 c1_i32_12 k0_t2
  let c384_i32_57 : BitVec 32 := 384#32
  let v117 : BitVec 32 := Scalar.muli arg11 c384_i32_57
  let v118 : BitVec 32 := v117
  let v161 : Index := Scalar.indexCast v118
  let c128_83 : Index := 128#32
  ![v161.toNat, 128]
def k0_mult3 (i : grid0.Coords) : BitVec 32 :=
  let arg1 : BitVec 32 := BitVec.ofNat 32 (i 1).val
  let c384_i32 : BitVec 32 := 384#32
  let v31 : BitVec 32 := Scalar.muli arg1 c384_i32
  v31
def k0_off9 (i : grid0.Coords) : Fin 2 → Nat :=
  let arg1 : BitVec 32 := BitVec.ofNat 32 (i 1).val
  let c384_i32 : BitVec 32 := 384#32
  let v31 : BitVec 32 := Scalar.muli arg1 c384_i32
  let v32 : BitVec 32 := v31
  let v35 : Index := Scalar.indexCast v32
  let c0_17 : Index := 0#32
  ![v35.toNat, 0]
def k0_off10 (i : grid0.Coords) : Fin 2 → Nat :=
  let arg1 : BitVec 32 := BitVec.ofNat 32 (i 1).val
  let c384_i32 : BitVec 32 := 384#32
  let v31 : BitVec 32 := Scalar.muli arg1 c384_i32
  let v32 : BitVec 32 := v31
  let v37 : Index := Scalar.indexCast v32
  let c0_18 : Index := 0#32
  ![v37.toNat, 0]
def k0_off11 (i : grid0.Coords) : Fin 2 → Nat :=
  let arg1 : BitVec 32 := BitVec.ofNat 32 (i 1).val
  let c384_i32 : BitVec 32 := 384#32
  let v31 : BitVec 32 := Scalar.muli arg1 c384_i32
  let v32 : BitVec 32 := v31
  let v75 : Index := Scalar.indexCast v32
  let c256_37 : Index := 256#32
  ![v75.toNat, 256]
def k0_off12 (i : grid0.Coords) : Fin 2 → Nat :=
  let arg1 : BitVec 32 := BitVec.ofNat 32 (i 1).val
  let c384_i32 : BitVec 32 := 384#32
  let v31 : BitVec 32 := Scalar.muli arg1 c384_i32
  let v32 : BitVec 32 := v31
  let v77 : Index := Scalar.indexCast v32
  let c128_38 : Index := 128#32
  ![v77.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4224x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x384x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S384x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4224x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4224x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== RefMlaBwdIdeal.lean ====
abbrev S4224x4096 : Shape := ⟨2, ![4224, 4096]⟩
abbrev S4224x2048 : Shape := ⟨2, ![4224, 2048]⟩
abbrev S4224x16x256 : Shape := ⟨3, ![4224, 16, 256]⟩
abbrev S4224x16x128 : Shape := ⟨3, ![4224, 16, 128]⟩
abbrev S4224 : Shape := ⟨1, ![4224]⟩
abbrev S16x4224x4224 : Shape := ⟨3, ![16, 4224, 4224]⟩
abbrev S_ : Shape := ⟨0, ![]⟩
abbrev S1x4224 : Shape := ⟨2, ![1, 4224]⟩
abbrev S4224x1 : Shape := ⟨2, ![4224, 1]⟩
abbrev S4224x4224 : Shape := ⟨2, ![4224, 4224]⟩
abbrev S16x4224 : Shape := ⟨2, ![16, 4224]⟩
abbrev S16x4224x1 : Shape := ⟨3, ![16, 4224, 1]⟩
abbrev S16x128x4224 : Shape := ⟨3, ![16, 128, 4224]⟩
abbrev S16x4224x128 : Shape := ⟨3, ![16, 4224, 128]⟩

abbrev nBuf : Space → Nat
  | .hbm => 114
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4224x4096, .bf16⟩
  | .hbm, ⟨2, _⟩ => ⟨S4224x4096, .bf16⟩
  | .hbm, ⟨3, _⟩ => ⟨S4224x2048, .bf16⟩
  | .hbm, ⟨4, _⟩ => ⟨S4224x4096, .f32⟩
  | .hbm, ⟨5, _⟩ => ⟨S4224x16x256, .f32⟩
  | .hbm, ⟨6, _⟩ => ⟨S4224x4096, .f32⟩
  | .hbm, ⟨7, _⟩ => ⟨S4224x16x256, .f32⟩
  | .hbm, ⟨8, _⟩ => ⟨S4224x4096, .f32⟩
  | .hbm, ⟨9, _⟩ => ⟨S4224x2048, .f32⟩
  | .hbm, ⟨10, _⟩ => ⟨S4224x16x128, .f32⟩
  | .hbm, ⟨11, _⟩ => ⟨S4224x16x128, .f32⟩
  | .hbm, ⟨12, _⟩ => ⟨S4224x16x128, .f32⟩
  | .hbm, ⟨13, _⟩ => ⟨S4224x16x128, .f32⟩
  | .hbm, ⟨14, _⟩ => ⟨S4224x16x128, .f32⟩
  | .hbm, ⟨15, _⟩ => ⟨S4224, .i32⟩
  | .hbm, ⟨16, _⟩ => ⟨S16x4224x4224, .f32⟩
  | .hbm, ⟨17, _⟩ => ⟨S16x4224x4224, .f32⟩
  | .hbm, ⟨18, _⟩ => ⟨S16x4224x4224, .f32⟩
  | .hbm, ⟨19, _⟩ => ⟨S_, .f32⟩
  | .hbm, ⟨20, _⟩ => ⟨S16x4224x4224, .f32⟩
  | .hbm, ⟨21, _⟩ => ⟨S16x4224x4224, .f32⟩
  | .hbm, ⟨22, _⟩ => ⟨S1x4224, .i32⟩
  | .hbm, ⟨23, _⟩ => ⟨S4224x1, .i32⟩
  | .hbm, ⟨24, _⟩ => ⟨S4224x4224, .i32⟩
  | .hbm, ⟨25, _⟩ => ⟨S4224x4224, .i32⟩
  | .hbm, ⟨26, _⟩ => ⟨S4224x4224, .i1⟩
  | .hbm, ⟨27, _⟩ => ⟨S_, .f32⟩
  | .hbm, ⟨28, _⟩ => ⟨S_, .f32⟩
  | .hbm, ⟨29, _⟩ => ⟨S16x4224x4224, .i1⟩
  | .hbm, ⟨30, _⟩ => ⟨S16x4224x4224, .f32⟩
  | .hbm, ⟨31, _⟩ => ⟨S16x4224x4224, .f32⟩
  | .hbm, ⟨32, _⟩ => ⟨S_, .f32⟩
  | .hbm, ⟨33, _⟩ => ⟨S16x4224x4224, .f32⟩
  | .hbm, ⟨34, _⟩ => ⟨S_, .f32⟩
  | .hbm, ⟨35, _⟩ => ⟨S16x4224, .f32⟩
  | .hbm, ⟨36, _⟩ => ⟨S16x4224x1, .f32⟩
  | .hbm, ⟨37, _⟩ => ⟨S16x4224x4224, .f32⟩
  | .hbm, ⟨38, _⟩ => ⟨S16x4224x4224, .i1⟩
  | .hbm, ⟨39, _⟩ => ⟨S16x4224x4224, .f32⟩
  | .hbm, ⟨40, _⟩ => ⟨S_, .f32⟩
  | .hbm, ⟨41, _⟩ => ⟨S16x4224, .f32⟩
  | .hbm, ⟨42, _⟩ => ⟨S_, .f32⟩
  | .hbm, ⟨43, _⟩ => ⟨S16x4224, .f32⟩
  | .hbm, ⟨44, _⟩ => ⟨S16x4224, .f32⟩
  | .hbm, ⟨45, _⟩ => ⟨S_, .f32⟩
  | .hbm, ⟨46, _⟩ => ⟨S16x4224, .f32⟩
  | .hbm, ⟨47, _⟩ => ⟨S16x4224, .i1⟩
  | .hbm, ⟨48, _⟩ => ⟨S_, .f32⟩
  | .hbm, ⟨49, _⟩ => ⟨S16x4224, .f32⟩
  | .hbm, ⟨50, _⟩ => ⟨S16x4224, .i1⟩
  | .hbm, ⟨51, _⟩ => ⟨S_, .f32⟩
  | .hbm, ⟨52, _⟩ => ⟨S16x4224, .f32⟩
  | .hbm, ⟨53, _⟩ => ⟨S_, .f32⟩
  | .hbm, ⟨54, _⟩ => ⟨S16x4224, .f32⟩
  | .hbm, ⟨55, _⟩ => ⟨S_, .f32⟩
  | .hbm, ⟨56, _⟩ => ⟨S16x4224, .f32⟩
  | .hbm, ⟨57, _⟩ => ⟨S16x4224, .f32⟩
  | .hbm, ⟨58, _⟩ => ⟨S16x4224, .f32⟩
  | .hbm, ⟨59, _⟩ => ⟨S16x4224x1, .f32⟩
  | .hbm, ⟨60, _⟩ => ⟨S16x4224x4224, .f32⟩
  | .hbm, ⟨61, _⟩ => ⟨S16x4224x4224, .f32⟩
  | .hbm, ⟨62, _⟩ => ⟨S16x4224x4224, .f32⟩
  | .hbm, ⟨63, _⟩ => ⟨S_, .f32⟩
  | .hbm, ⟨64, _⟩ => ⟨S16x4224, .f32⟩
  | .hbm, ⟨65, _⟩ => ⟨S16x4224x1, .f32⟩
  | .hbm, ⟨66, _⟩ => ⟨S16x4224x4224, .f32⟩
  | .hbm, ⟨67, _⟩ => ⟨S16x4224x4224, .f32⟩
  | .hbm, ⟨68, _⟩ => ⟨S16x4224x1, .f32⟩
  | .hbm, ⟨69, _⟩ => ⟨S_, .f32⟩
  | .hbm, ⟨70, _⟩ => ⟨S16x4224x1, .f32⟩
  | .hbm, ⟨71, _⟩ => ⟨S16x4224x1, .f32⟩
  | .hbm, ⟨72, _⟩ => ⟨S16x128x4224, .f32⟩
  | .hbm, ⟨73, _⟩ => ⟨S4224x16x128, .f32⟩
  | .hbm, ⟨74, _⟩ => ⟨S4224x2048, .f32⟩
  | .hbm, ⟨75, _⟩ => ⟨S4224x16x128, .f32⟩
  | .hbm, ⟨76, _⟩ => ⟨S16x128x4224, .f32⟩
  | .hbm, ⟨77, _⟩ => ⟨S16x4224x4224, .f32⟩
  | .hbm, ⟨78, _⟩ => ⟨S16x128x4224, .f32⟩
  | .hbm, ⟨79, _⟩ => ⟨S4224x16x128, .f32⟩
  | .hbm, ⟨80, _⟩ => ⟨S16x4224x4224, .f32⟩
  | .hbm, ⟨81, _⟩ => ⟨S16x4224x4224, .f32⟩
  | .hbm, ⟨82, _⟩ => ⟨S16x4224x4224, .f32⟩
  | .hbm, ⟨83, _⟩ => ⟨S_, .f32⟩
  | .hbm, ⟨84, _⟩ => ⟨S16x4224, .f32⟩
  | .hbm, ⟨85, _⟩ => ⟨S16x4224x1, .f32⟩
  | .hbm, ⟨86, _⟩ => ⟨S16x4224x1, .f32⟩
  | .hbm, ⟨87, _⟩ => ⟨S16x4224x4224, .f32⟩
  | .hbm, ⟨88, _⟩ => ⟨S16x4224x4224, .f32⟩
  | .hbm, ⟨89, _⟩ => ⟨S_, .f32⟩
  | .hbm, ⟨90, _⟩ => ⟨S16x4224, .f32⟩
  | .hbm, ⟨91, _⟩ => ⟨S16x4224x4224, .f32⟩
  | .hbm, ⟨92, _⟩ => ⟨S16x4224x4224, .f32⟩
  | .hbm, ⟨93, _⟩ => ⟨S16x4224x4224, .f32⟩
  | .hbm, ⟨94, _⟩ => ⟨S_, .f32⟩
  | .hbm, ⟨95, _⟩ => ⟨S16x4224x4224, .f32⟩
  | .hbm, ⟨96, _⟩ => ⟨S16x4224x4224, .f32⟩
  | .hbm, ⟨97, _⟩ => ⟨S_, .f32⟩
  | .hbm, ⟨98, _⟩ => ⟨S16x4224x4224, .f32⟩
  | .hbm, ⟨99, _⟩ => ⟨S16x4224x4224, .f32⟩
  | .hbm, ⟨100, _⟩ => ⟨S16x4224x128, .f32⟩
  | .hbm, ⟨101, _⟩ => ⟨S4224x16x128, .f32⟩
  | .hbm, ⟨102, _⟩ => ⟨S16x4224x128, .f32⟩
  | .hbm, ⟨103, _⟩ => ⟨S4224x16x128, .f32⟩
  | .hbm, ⟨104, _⟩ => ⟨S16x4224x128, .f32⟩
  | .hbm, ⟨105, _⟩ => ⟨S4224x16x128, .f32⟩
  | .hbm, ⟨106, _⟩ => ⟨S16x4224x128, .f32⟩
  | .hbm, ⟨107, _⟩ => ⟨S4224x16x128, .f32⟩
  | .hbm, ⟨108, _⟩ => ⟨S4224x16x256, .f32⟩
  | .hbm, ⟨109, _⟩ => ⟨S4224x16x256, .f32⟩
  | .hbm, ⟨110, _⟩ => ⟨S4224x4096, .f32⟩
  | .hbm, ⟨111, _⟩ => ⟨S4224x4096, .bf16⟩
  | .hbm, ⟨112, _⟩ => ⟨S4224x4096, .f32⟩
  | .hbm, ⟨113, _⟩ => ⟨S4224x2048, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_v22_1 : Ref sig .tc := ⟨.hbm, 29, rfl⟩
abbrev main_call0_v2 : Ref sig .tc := ⟨.hbm, 30, rfl⟩
abbrev main_v22_0 : Ref sig .tc := ⟨.hbm, 31, rfl⟩
abbrev main_call0_cst : Ref sig .tc := ⟨.hbm, 32, rfl⟩
abbrev main_v22_2 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_call1_cst : Ref sig .tc := ⟨.hbm, 94, rfl⟩
abbrev main_call1_v0 : Ref sig .tc := ⟨.hbm, 95, rfl⟩
abbrev main_v71 : Ref sig .tc := ⟨.hbm, 96, rfl⟩
abbrev main_cst_13 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩

abbrev nD : Nat := 1
abbrev τ : Topo := Topo.v7x

variable {F : FTy → Type} [FloatOps F]
-- ==== AdamMeta.lean ====
abbrev S16x512 : Shape := ⟨2, ![16, 512]⟩

abbrev nBuf : Space → Nat
  | .hbm => 7
  | .vmem => 7
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RefAdamMetaIdeal.lean ====
abbrev S16x512 : Shape := ⟨2, ![16, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S_, .f32⟩
  | .hbm, ⟨5, _⟩ => ⟨S16x512, .f32⟩
  | .hbm, ⟨6, _⟩ => ⟨S16x512, .f32⟩
  | .hbm, ⟨7, _⟩ => ⟨S_, .f32⟩
  | .hbm, ⟨8, _⟩ => ⟨S16x512, .f32⟩
  | .hbm, ⟨9, _⟩ => ⟨S16x512, .f32⟩
  | .hbm, ⟨10, _⟩ => ⟨S16x512, .f32⟩
  | .hbm, ⟨11, _⟩ => ⟨S_, .f32⟩
  | .hbm, ⟨12, _⟩ => ⟨S16x512, .f32⟩
  | .hbm, ⟨13, _⟩ => ⟨S16x512, .f32⟩
  | .hbm, ⟨14, _⟩ => ⟨S16x512, .f32⟩
  | .hbm, ⟨15, _⟩ => ⟨S_, .f32⟩
  | .hbm, ⟨16, _⟩ => ⟨S16x512, .f32⟩
  | .hbm, ⟨17, _⟩ => ⟨S16x512, .f32⟩
  | .hbm, ⟨18, _⟩ => ⟨S16x512, .f32⟩
  | .hbm, ⟨19, _⟩ => ⟨S_, .f32⟩
  | .hbm, ⟨20, _⟩ => ⟨S16x512, .f32⟩
  | .hbm, ⟨21, _⟩ => ⟨S16x512, .f32⟩
  | .hbm, ⟨22, _⟩ => ⟨S_, .f32⟩
  | .hbm, ⟨23, _⟩ => ⟨S16x512, .f32⟩
  | .hbm, ⟨24, _⟩ => ⟨S16x512, .f32⟩
  | .hbm, ⟨25, _⟩ => ⟨S16x512, .f32⟩
  | .hbm, ⟨26, _⟩ => ⟨S_, .f32⟩
  | .hbm, ⟨27, _⟩ => ⟨S16x512, .f32⟩
  | .hbm, ⟨28, _⟩ => ⟨S16x512, .f32⟩
  | .hbm, ⟨29, _⟩ => ⟨S16x512, .f32⟩
  | .hbm, ⟨30, _⟩ => ⟨S_, .f32⟩
  | .hbm, ⟨31, _⟩ => ⟨S16x512, .f32⟩
  | .hbm, ⟨32, _⟩ => ⟨S16x512, .f32⟩
  | .hbm, ⟨33, _⟩ => ⟨S16x512, .f32⟩
  | .hbm, ⟨34, _⟩ => ⟨S_, .f32⟩
  | .hbm, ⟨35, _⟩ => ⟨S16x512, .f32⟩
  | .hbm, ⟨36, _⟩ => ⟨S16x512, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S48x1024 : Shape := ⟨2, ![48, 1024]⟩

abbrev nBuf : Space → Nat
  | .hbm => 7
  | .vmem => 7
  | .smem => 0
  | _ => 0

abbrev bufTy : (tb : Table) → Fin (tcTables nBuf tb) → BufTy
  | .hbm, ⟨0, _⟩ => ⟨S48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S48x1024, .f32⟩
  | .hbm, ⟨5, _⟩ => ⟨S48x1024, .f32⟩
  | .hbm, ⟨6, _⟩ => ⟨S48x1024, .f32⟩
  | .local _ .vmem, ⟨0, _⟩ => ⟨S48x1024, .f32⟩
  | .local _ .vmem, ⟨1, _⟩ => ⟨S48x1024, .f32⟩
  | .local _ .vmem, ⟨2, _⟩ => ⟨S48x1024, .f32⟩
  | .local _ .vmem, ⟨3, _⟩ => ⟨S48x1024, .f32⟩
  | .local _ .vmem, ⟨4, _⟩ => ⟨S48x1024, .f32⟩
  | .local _ .vmem, ⟨5, _⟩ => ⟨S48x1024, .f32⟩
  | .local _ .vmem, ⟨6, _⟩ => ⟨S48x1024, .f32⟩
  | _, _ => ⟨S48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S48x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S48x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RefAdamSmallIdeal.lean ====
abbrev S48x1024 : Shape := ⟨2, ![48, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S_, .f32⟩
  | .hbm, ⟨5, _⟩ => ⟨S48x1024, .f32⟩
  | .hbm, ⟨6, _⟩ => ⟨S48x1024, .f32⟩
  | .hbm, ⟨7, _⟩ => ⟨S_, .f32⟩
  | .hbm, ⟨8, _⟩ => ⟨S48x1024, .f32⟩
  | .hbm, ⟨9, _⟩ => ⟨S48x1024, .f32⟩
  | .hbm, ⟨10, _⟩ => ⟨S48x1024, .f32⟩
  | .hbm, ⟨11, _⟩ => ⟨S_, .f32⟩
  | .hbm, ⟨12, _⟩ => ⟨S48x1024, .f32⟩
  | .hbm, ⟨13, _⟩ => ⟨S48x1024, .f32⟩
  | .hbm, ⟨14, _⟩ => ⟨S48x1024, .f32⟩
  | .hbm, ⟨15, _⟩ => ⟨S_, .f32⟩
  | .hbm, ⟨16, _⟩ => ⟨S48x1024, .f32⟩
  | .hbm, ⟨17, _⟩ => ⟨S48x1024, .f32⟩
  | .hbm, ⟨18, _⟩ => ⟨S48x1024, .f32⟩
  | .hbm, ⟨19, _⟩ => ⟨S_, .f32⟩
  | .hbm, ⟨20, _⟩ => ⟨S48x1024, .f32⟩
  | .hbm, ⟨21, _⟩ => ⟨S48x1024, .f32⟩
  | .hbm, ⟨22, _⟩ => ⟨S_, .f32⟩
  | .hbm, ⟨23, _⟩ => ⟨S48x1024, .f32⟩
  | .hbm, ⟨24, _⟩ => ⟨S48x1024, .f32⟩
  | .hbm, ⟨25, _⟩ => ⟨S48x1024, .f32⟩
  | .hbm, ⟨26, _⟩ => ⟨S_, .f32⟩
  | .hbm, ⟨27, _⟩ => ⟨S48x1024, .f32⟩
  | .hbm, ⟨28, _⟩ => ⟨S48x1024, .f32⟩
  | .hbm, ⟨29, _⟩ => ⟨S48x1024, .f32⟩
  | .hbm, ⟨30, _⟩ => ⟨S_, .f32⟩
  | .hbm, ⟨31, _⟩ => ⟨S48x1024, .f32⟩
  | .hbm, ⟨32, _⟩ => ⟨S48x1024, .f32⟩
  | .hbm, ⟨33, _⟩ => ⟨S48x1024, .f32⟩
  | .hbm, ⟨34, _⟩ => ⟨S_, .f32⟩
  | .hbm, ⟨35, _⟩ => ⟨S48x1024, .f32⟩
  | .hbm, ⟨36, _⟩ => ⟨S48x1024, .f32⟩
  | _, _ => ⟨S48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumA.lean ====
abbrev S8x40x1024 : Shape := ⟨3, ![8, 40, 1024]⟩
abbrev S40x1024 : Shape := ⟨2, ![40, 1024]⟩
abbrev S1x40x1024 : Shape := ⟨3, ![1, 40, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x40x1024, .f32⟩
  | .hbm, ⟨1, _⟩ => ⟨S40x1024, .f32⟩
  | .local _ .vmem, ⟨0, _⟩ => ⟨S8x40x1024, .f32⟩
  | .local _ .vmem, ⟨1, _⟩ => ⟨S40x1024, .f32⟩
  | _, _ => ⟨S8x40x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== RefSumAIdeal.lean ====
abbrev S8x40x1024 : Shape := ⟨3, ![8, 40, 1024]⟩
abbrev S_ : Shape := ⟨0, ![]⟩
abbrev S40x1024 : Shape := ⟨2, ![40, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x40x1024, .f32⟩
  | .hbm, ⟨1, _⟩ => ⟨S_, .f32⟩
  | .hbm, ⟨2, _⟩ => ⟨S40x1024, .f32⟩
  | _, _ => ⟨S8x40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumB.lean ====
abbrev S8x72x1024 : Shape := ⟨3, ![8, 72, 1024]⟩
abbrev S72x1024 : Shape := ⟨2, ![72, 1024]⟩
abbrev S1x72x1024 : Shape := ⟨3, ![1, 72, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x72x1024, .f32⟩
  | .hbm, ⟨1, _⟩ => ⟨S72x1024, .f32⟩
  | .local _ .vmem, ⟨0, _⟩ => ⟨S8x72x1024, .f32⟩
  | .local _ .vmem, ⟨1, _⟩ => ⟨S72x1024, .f32⟩
  | _, _ => ⟨S8x72x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x72x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== RefSumBIdeal.lean ====
abbrev S8x72x1024 : Shape := ⟨3, ![8, 72, 1024]⟩
abbrev S_ : Shape := ⟨0, ![]⟩
abbrev S72x1024 : Shape := ⟨2, ![72, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x72x1024, .f32⟩
  | .hbm, ⟨1, _⟩ => ⟨S_, .f32⟩
  | .hbm, ⟨2, _⟩ => ⟨S72x1024, .f32⟩
  | _, _ => ⟨S8x72x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamO.lean ====
abbrev S8x512x4096 : Shape := ⟨3, ![8, 512, 4096]⟩
abbrev S4x512x4096 : Shape := ⟨3, ![4, 512, 4096]⟩
abbrev S8x64x4096 : Shape := ⟨3, ![8, 64, 4096]⟩
abbrev S1x64x4096 : Shape := ⟨3, ![1, 64, 4096]⟩
abbrev S64x4096 : Shape := ⟨2, ![64, 4096]⟩

abbrev nBuf : Space → Nat
  | .hbm => 12
  | .vmem => 16
  | .smem => 0
  | _ => 0

abbrev bufTy : (tb : Table) → Fin (tcTables nBuf tb) → BufTy
  | .hbm, ⟨0, _⟩ => ⟨S8x512x4096, .bf16⟩
  | .hbm, ⟨1, _⟩ => ⟨S4x512x4096, .f32⟩
  | .hbm, ⟨2, _⟩ => ⟨S4x512x4096, .f32⟩
  | .hbm, ⟨3, _⟩ => ⟨S4x512x4096, .f32⟩
  | .hbm, ⟨4, _⟩ => ⟨S4x512x4096, .f32⟩
  | .hbm, ⟨5, _⟩ => ⟨S4x512x4096, .f32⟩
  | .hbm, ⟨6, _⟩ => ⟨S4x512x4096, .f32⟩
  | .hbm, ⟨7, _⟩ => ⟨S4x512x4096, .f32⟩
  | .hbm, ⟨8, _⟩ => ⟨S4x512x4096, .f32⟩
  | .hbm, ⟨9, _⟩ => ⟨S4x512x4096, .f32⟩
  | .hbm, ⟨10, _⟩ => ⟨S4x512x4096, .f32⟩
  | .hbm, ⟨11, _⟩ => ⟨S4x512x4096, .f32⟩
  | .local _ .vmem, ⟨0, _⟩ => ⟨S8x64x4096, .bf16⟩
  | .local _ .vmem, ⟨1, _⟩ => ⟨S8x64x4096, .bf16⟩
  | .local _ .vmem, ⟨2, _⟩ => ⟨S1x64x4096, .f32⟩
  | .local _ .vmem, ⟨3, _⟩ => ⟨S1x64x4096, .f32⟩
  | .local _ .vmem, ⟨4, _⟩ => ⟨S1x64x4096, .f32⟩
  | .local _ .vmem, ⟨5, _⟩ => ⟨S1x64x4096, .f32⟩
  | .local _ .vmem, ⟨6, _⟩ => ⟨S1x64x4096, .f32⟩
  | .local _ .vmem, ⟨7, _⟩ => ⟨S1x64x4096, .f32⟩
  | .local _ .vmem, ⟨8, _⟩ => ⟨S1x64x4096, .f32⟩
  | .local _ .vmem, ⟨9, _⟩ => ⟨S1x64x4096, .f32⟩
  | .local _ .vmem, ⟨10, _⟩ => ⟨S1x64x4096, .f32⟩
  | .local _ .vmem, ⟨11, _⟩ => ⟨S1x64x4096, .f32⟩
  | .local _ .vmem, ⟨12, _⟩ => ⟨S1x64x4096, .f32⟩
  | .local _ .vmem, ⟨13, _⟩ => ⟨S1x64x4096, .f32⟩
  | .local _ .vmem, ⟨14, _⟩ => ⟨S1x64x4096, .f32⟩
  | .local _ .vmem, ⟨15, _⟩ => ⟨S1x64x4096, .f32⟩
  | _, _ => ⟨S8x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefAdamOIdeal.lean ====
abbrev S8x512x4096 : Shape := ⟨3, ![8, 512, 4096]⟩
abbrev S4x512x4096 : Shape := ⟨3, ![4, 512, 4096]⟩
abbrev S_ : Shape := ⟨0, ![]⟩
abbrev S512x4096 : Shape := ⟨2, ![512, 4096]⟩
abbrev S1x512x4096 : Shape := ⟨3, ![1, 512, 4096]⟩
abbrev S3x512x4096 : Shape := ⟨3, ![3, 512, 4096]⟩

abbrev nBuf : Space → Nat
  | .hbm => 62
  | .vmem => 0
  | .smem => 0
  | _ => 0

abbrev bufTy : (tb : Table) → Fin (tcTables nBuf tb) → BufTy
  | .hbm, ⟨0, _⟩ => ⟨S8x512x4096, .bf16⟩
  | .hbm, ⟨1, _⟩ => ⟨S4x512x4096, .f32⟩
  | .hbm, ⟨2, _⟩ => ⟨S4x512x4096, .f32⟩
  | .hbm, ⟨3, _⟩ => ⟨S4x512x4096, .f32⟩
  | .hbm, ⟨4, _⟩ => ⟨S4x512x4096, .f32⟩
  | .hbm, ⟨5, _⟩ => ⟨S4x512x4096, .f32⟩
  | .hbm, ⟨6, _⟩ => ⟨S4x512x4096, .f32⟩
  | .hbm, ⟨7, _⟩ => ⟨S4x512x4096, .f32⟩
  | .hbm, ⟨8, _⟩ => ⟨S8x512x4096, .f32⟩
  | .hbm, ⟨9, _⟩ => ⟨S_, .f32⟩
  | .hbm, ⟨10, _⟩ => ⟨S512x4096, .f32⟩
  | .hbm, ⟨11, _⟩ => ⟨S1x512x4096, .f32⟩
  | .hbm, ⟨12, _⟩ => ⟨S512x4096, .f32⟩
  | .hbm, ⟨13, _⟩ => ⟨S1x512x4096, .f32⟩
  | .hbm, ⟨14, _⟩ => ⟨S512x4096, .f32⟩
  | .hbm, ⟨15, _⟩ => ⟨S1x512x4096, .f32⟩
  | .hbm, ⟨16, _⟩ => ⟨S512x4096, .f32⟩
  | .hbm, ⟨17, _⟩ => ⟨S_, .f32⟩
  | .hbm, ⟨18, _⟩ => ⟨S512x4096, .f32⟩
  | .hbm, ⟨19, _⟩ => ⟨S512x4096, .f32⟩
  | .hbm, ⟨20, _⟩ => ⟨S_, .f32⟩
  | .hbm, ⟨21, _⟩ => ⟨S512x4096, .f32⟩
  | .hbm, ⟨22, _⟩ => ⟨S512x4096, .f32⟩
  | .hbm, ⟨23, _⟩ => ⟨S512x4096, .f32⟩
  | .hbm, ⟨24, _⟩ => ⟨S_, .f32⟩
  | .hbm, ⟨25, _⟩ => ⟨S512x4096, .f32⟩
  | .hbm, ⟨26, _⟩ => ⟨S512x4096, .f32⟩
  | .hbm, ⟨27, _⟩ => ⟨S512x4096, .f32⟩
  | .hbm, ⟨28, _⟩ => ⟨S_, .f32⟩
  | .hbm, ⟨29, _⟩ => ⟨S512x4096, .f32⟩
  | .hbm, ⟨30, _⟩ => ⟨S512x4096, .f32⟩
  | .hbm, ⟨31, _⟩ => ⟨S512x4096, .f32⟩
  | .hbm, ⟨32, _⟩ => ⟨S_, .f32⟩
  | .hbm, ⟨33, _⟩ => ⟨S512x4096, .f32⟩
  | .hbm, ⟨34, _⟩ => ⟨S512x4096, .f32⟩
  | .hbm, ⟨35, _⟩ => ⟨S_, .f32⟩
  | .hbm, ⟨36, _⟩ => ⟨S512x4096, .f32⟩
  | .hbm, ⟨37, _⟩ => ⟨S512x4096, .f32⟩
  | .hbm, ⟨38, _⟩ => ⟨S512x4096, .f32⟩
  | .hbm, ⟨39, _⟩ => ⟨S_, .f32⟩
  | .hbm, ⟨40, _⟩ => ⟨S512x4096, .f32⟩
  | .hbm, ⟨41, _⟩ => ⟨S512x4096, .f32⟩
  | .hbm, ⟨42, _⟩ => ⟨S512x4096, .f32⟩
  | .hbm, ⟨43, _⟩ => ⟨S_, .f32⟩
  | .hbm, ⟨44, _⟩ => ⟨S512x4096, .f32⟩
  | .hbm, ⟨45, _⟩ => ⟨S512x4096, .f32⟩
  | .hbm, ⟨46, _⟩ => ⟨S512x4096, .f32⟩
  | .hbm, ⟨47, _⟩ => ⟨S_, .f32⟩
  | .hbm, ⟨48, _⟩ => ⟨S512x4096, .f32⟩
  | .hbm, ⟨49, _⟩ => ⟨S512x4096, .f32⟩
  | .hbm, ⟨50, _⟩ => ⟨S1x512x4096, .f32⟩
  | .hbm, ⟨51, _⟩ => ⟨S3x512x4096, .f32⟩
  | .hbm, ⟨52, _⟩ => ⟨S4x512x4096, .f32⟩
  | .hbm, ⟨53, _⟩ => ⟨S1x512x4096, .f32⟩
  | .hbm, ⟨54, _⟩ => ⟨S3x512x4096, .f32⟩
  | .hbm, ⟨55, _⟩ => ⟨S4x512x4096, .f32⟩
  | .hbm, ⟨56, _⟩ => ⟨S1x512x4096, .f32⟩
  | .hbm, ⟨57, _⟩ => ⟨S3x512x4096, .f32⟩
  | .hbm, ⟨58, _⟩ => ⟨S4x512x4096, .f32⟩
  | .hbm, ⟨59, _⟩ => ⟨S1x512x4096, .f32⟩
  | .hbm, ⟨60, _⟩ => ⟨S3x512x4096, .f32⟩
  | .hbm, ⟨61, _⟩ => ⟨S4x512x4096, .f32⟩
  | _, _ => ⟨S8x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== AdamIn.lean ====
abbrev S8x1480x4096 : Shape := ⟨3, ![8, 1480, 4096]⟩
abbrev S4x1480x4096 : Shape := ⟨3, ![4, 1480, 4096]⟩
abbrev S8x1480x256 : Shape := ⟨3, ![8, 1480, 256]⟩
abbrev S1x1480x256 : Shape := ⟨3, ![1, 1480, 256]⟩
abbrev S1480x256 : Shape := ⟨2, ![1480, 256]⟩

abbrev nBuf : Space → Nat
  | .hbm => 12
  | .vmem => 16
  | .smem => 0
  | _ => 0

abbrev bufTy : (tb : Table) → Fin (tcTables nBuf tb) → BufTy
  | .hbm, ⟨0, _⟩ => ⟨S8x1480x4096, .bf16⟩
  | .hbm, ⟨1, _⟩ => ⟨S4x1480x4096, .f32⟩
  | .hbm, ⟨2, _⟩ => ⟨S4x1480x4096, .f32⟩
  | .hbm, ⟨3, _⟩ => ⟨S4x1480x4096, .f32⟩
  | .hbm, ⟨4, _⟩ => ⟨S4x1480x4096, .f32⟩
  | .hbm, ⟨5, _⟩ => ⟨S4x1480x4096, .f32⟩
  | .hbm, ⟨6, _⟩ => ⟨S4x1480x4096, .f32⟩
  | .hbm, ⟨7, _⟩ => ⟨S4x1480x4096, .f32⟩
  | .hbm, ⟨8, _⟩ => ⟨S4x1480x4096, .f32⟩
  | .hbm, ⟨9, _⟩ => ⟨S4x1480x4096, .f32⟩
  | .hbm, ⟨10, _⟩ => ⟨S4x1480x4096, .f32⟩
  | .hbm, ⟨11, _⟩ => ⟨S4x1480x4096, .f32⟩
  | .local _ .vmem, ⟨0, _⟩ => ⟨S8x1480x256, .bf16⟩
  | .local _ .vmem, ⟨1, _⟩ => ⟨S8x1480x256, .bf16⟩
  | .local _ .vmem, ⟨2, _⟩ => ⟨S1x1480x256, .f32⟩
  | .local _ .vmem, ⟨3, _⟩ => ⟨S1x1480x256, .f32⟩
  | .local _ .vmem, ⟨4, _⟩ => ⟨S1x1480x256, .f32⟩
  | .local _ .vmem, ⟨5, _⟩ => ⟨S1x1480x256, .f32⟩
  | .local _ .vmem, ⟨6, _⟩ => ⟨S1x1480x256, .f32⟩
  | .local _ .vmem, ⟨7, _⟩ => ⟨S1x1480x256, .f32⟩
  | .local _ .vmem, ⟨8, _⟩ => ⟨S1x1480x256, .f32⟩
  | .local _ .vmem, ⟨9, _⟩ => ⟨S1x1480x256, .f32⟩
  | .local _ .vmem, ⟨10, _⟩ => ⟨S1x1480x256, .f32⟩
  | .local _ .vmem, ⟨11, _⟩ => ⟨S1x1480x256, .f32⟩
  | .local _ .vmem, ⟨12, _⟩ => ⟨S1x1480x256, .f32⟩
  | .local _ .vmem, ⟨13, _⟩ => ⟨S1x1480x256, .f32⟩
  | .local _ .vmem, ⟨14, _⟩ => ⟨S1x1480x256, .f32⟩
  | .local _ .vmem, ⟨15, _⟩ => ⟨S1x1480x256, .f32⟩
  | _, _ => ⟨S8x1480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x1480x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1480x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1480x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1480x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1480x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1480x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1480x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1480x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefAdamInIdeal.lean ====
abbrev S8x1480x4096 : Shape := ⟨3, ![8, 1480, 4096]⟩
abbrev S4x1480x4096 : Shape := ⟨3, ![4, 1480, 4096]⟩
abbrev S_ : Shape := ⟨0, ![]⟩
abbrev S1480x4096 : Shape := ⟨2, ![1480, 4096]⟩
abbrev S1x1480x4096 : Shape := ⟨3, ![1, 1480, 4096]⟩
abbrev S3x1480x4096 : Shape := ⟨3, ![3, 1480, 4096]⟩

abbrev nBuf : Space → Nat
  | .hbm => 62
  | .vmem => 0
  | .smem => 0
  | _ => 0

abbrev bufTy : (tb : Table) → Fin (tcTables nBuf tb) → BufTy
  | .hbm, ⟨0, _⟩ => ⟨S8x1480x4096, .bf16⟩
  | .hbm, ⟨1, _⟩ => ⟨S4x1480x4096, .f32⟩
  | .hbm, ⟨2, _⟩ => ⟨S4x1480x4096, .f32⟩
  | .hbm, ⟨3, _⟩ => ⟨S4x1480x4096, .f32⟩
  | .hbm, ⟨4, _⟩ => ⟨S4x1480x4096, .f32⟩
  | .hbm, ⟨5, _⟩ => ⟨S4x1480x4096, .f32⟩
  | .hbm, ⟨6, _⟩ => ⟨S4x1480x4096, .f32⟩
  | .hbm, ⟨7, _⟩ => ⟨S4x1480x4096, .f32⟩
  | .hbm, ⟨8, _⟩ => ⟨S8x1480x4096, .f32⟩
  | .hbm, ⟨9, _⟩ => ⟨S_, .f32⟩
  | .hbm, ⟨10, _⟩ => ⟨S1480x4096, .f32⟩
  | .hbm, ⟨11, _⟩ => ⟨S1x1480x4096, .f32⟩
  | .hbm, ⟨12, _⟩ => ⟨S1480x4096, .f32⟩
  | .hbm, ⟨13, _⟩ => ⟨S1x1480x4096, .f32⟩
  | .hbm, ⟨14, _⟩ => ⟨S1480x4096, .f32⟩
  | .hbm, ⟨15, _⟩ => ⟨S1x1480x4096, .f32⟩
  | .hbm, ⟨16, _⟩ => ⟨S1480x4096, .f32⟩
  | .hbm, ⟨17, _⟩ => ⟨S_, .f32⟩
  | .hbm, ⟨18, _⟩ => ⟨S1480x4096, .f32⟩
  | .hbm, ⟨19, _⟩ => ⟨S1480x4096, .f32⟩
  | .hbm, ⟨20, _⟩ => ⟨S_, .f32⟩
  | .hbm, ⟨21, _⟩ => ⟨S1480x4096, .f32⟩
  | .hbm, ⟨22, _⟩ => ⟨S1480x4096, .f32⟩
  | .hbm, ⟨23, _⟩ => ⟨S1480x4096, .f32⟩
  | .hbm, ⟨24, _⟩ => ⟨S_, .f32⟩
  | .hbm, ⟨25, _⟩ => ⟨S1480x4096, .f32⟩
  | .hbm, ⟨26, _⟩ => ⟨S1480x4096, .f32⟩
  | .hbm, ⟨27, _⟩ => ⟨S1480x4096, .f32⟩
  | .hbm, ⟨28, _⟩ => ⟨S_, .f32⟩
  | .hbm, ⟨29, _⟩ => ⟨S1480x4096, .f32⟩
  | .hbm, ⟨30, _⟩ => ⟨S1480x4096, .f32⟩
  | .hbm, ⟨31, _⟩ => ⟨S1480x4096, .f32⟩
  | .hbm, ⟨32, _⟩ => ⟨S_, .f32⟩
  | .hbm, ⟨33, _⟩ => ⟨S1480x4096, .f32⟩
  | .hbm, ⟨34, _⟩ => ⟨S1480x4096, .f32⟩
  | .hbm, ⟨35, _⟩ => ⟨S_, .f32⟩
  | .hbm, ⟨36, _⟩ => ⟨S1480x4096, .f32⟩
  | .hbm, ⟨37, _⟩ => ⟨S1480x4096, .f32⟩
  | .hbm, ⟨38, _⟩ => ⟨S1480x4096, .f32⟩
  | .hbm, ⟨39, _⟩ => ⟨S_, .f32⟩
  | .hbm, ⟨40, _⟩ => ⟨S1480x4096, .f32⟩
  | .hbm, ⟨41, _⟩ => ⟨S1480x4096, .f32⟩
  | .hbm, ⟨42, _⟩ => ⟨S1480x4096, .f32⟩
  | .hbm, ⟨43, _⟩ => ⟨S_, .f32⟩
  | .hbm, ⟨44, _⟩ => ⟨S1480x4096, .f32⟩
  | .hbm, ⟨45, _⟩ => ⟨S1480x4096, .f32⟩
  | .hbm, ⟨46, _⟩ => ⟨S1480x4096, .f32⟩
  | .hbm, ⟨47, _⟩ => ⟨S_, .f32⟩
  | .hbm, ⟨48, _⟩ => ⟨S1480x4096, .f32⟩
  | .hbm, ⟨49, _⟩ => ⟨S1480x4096, .f32⟩
  | .hbm, ⟨50, _⟩ => ⟨S1x1480x4096, .f32⟩
  | .hbm, ⟨51, _⟩ => ⟨S3x1480x4096, .f32⟩
  | .hbm, ⟨52, _⟩ => ⟨S4x1480x4096, .f32⟩
  | .hbm, ⟨53, _⟩ => ⟨S1x1480x4096, .f32⟩
  | .hbm, ⟨54, _⟩ => ⟨S3x1480x4096, .f32⟩
  | .hbm, ⟨55, _⟩ => ⟨S4x1480x4096, .f32⟩
  | .hbm, ⟨56, _⟩ => ⟨S1x1480x4096, .f32⟩
  | .hbm, ⟨57, _⟩ => ⟨S3x1480x4096, .f32⟩
  | .hbm, ⟨58, _⟩ => ⟨S4x1480x4096, .f32⟩
  | .hbm, ⟨59, _⟩ => ⟨S1x1480x4096, .f32⟩
  | .hbm, ⟨60, _⟩ => ⟨S3x1480x4096, .f32⟩
  | .hbm, ⟨61, _⟩ => ⟨S4x1480x4096, .f32⟩
  | _, _ => ⟨S8x1480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== AdamUq.lean ====
abbrev S8x1024x384 : Shape := ⟨3, ![8, 1024, 384]⟩
abbrev S4x1024x384 : Shape := ⟨3, ![4, 1024, 384]⟩
abbrev S8x512x384 : Shape := ⟨3, ![8, 512, 384]⟩
abbrev S1x512x384 : Shape := ⟨3, ![1, 512, 384]⟩
abbrev S512x384 : Shape := ⟨2, ![512, 384]⟩

abbrev nBuf : Space → Nat
  | .hbm => 12
  | .vmem => 16
  | .smem => 0
  | _ => 0

abbrev bufTy : (tb : Table) → Fin (tcTables nBuf tb) → BufTy
  | .hbm, ⟨0, _⟩ => ⟨S8x1024x384, .bf16⟩
  | .hbm, ⟨1, _⟩ => ⟨S4x1024x384, .f32⟩
  | .hbm, ⟨2, _⟩ => ⟨S4x1024x384, .f32⟩
  | .hbm, ⟨3, _⟩ => ⟨S4x1024x384, .f32⟩
  | .hbm, ⟨4, _⟩ => ⟨S4x1024x384, .f32⟩
  | .hbm, ⟨5, _⟩ => ⟨S4x1024x384, .f32⟩
  | .hbm, ⟨6, _⟩ => ⟨S4x1024x384, .f32⟩
  | .hbm, ⟨7, _⟩ => ⟨S4x1024x384, .f32⟩
  | .hbm, ⟨8, _⟩ => ⟨S4x1024x384, .f32⟩
  | .hbm, ⟨9, _⟩ => ⟨S4x1024x384, .f32⟩
  | .hbm, ⟨10, _⟩ => ⟨S4x1024x384, .f32⟩
  | .hbm, ⟨11, _⟩ => ⟨S4x1024x384, .f32⟩
  | .local _ .vmem, ⟨0, _⟩ => ⟨S8x512x384, .bf16⟩
  | .local _ .vmem, ⟨1, _⟩ => ⟨S8x512x384, .bf16⟩
  | .local _ .vmem, ⟨2, _⟩ => ⟨S1x512x384, .f32⟩
  | .local _ .vmem, ⟨3, _⟩ => ⟨S1x512x384, .f32⟩
  | .local _ .vmem, ⟨4, _⟩ => ⟨S1x512x384, .f32⟩
  | .local _ .vmem, ⟨5, _⟩ => ⟨S1x512x384, .f32⟩
  | .local _ .vmem, ⟨6, _⟩ => ⟨S1x512x384, .f32⟩
  | .local _ .vmem, ⟨7, _⟩ => ⟨S1x512x384, .f32⟩
  | .local _ .vmem, ⟨8, _⟩ => ⟨S1x512x384, .f32⟩
  | .local _ .vmem, ⟨9, _⟩ => ⟨S1x512x384, .f32⟩
  | .local _ .vmem, ⟨10, _⟩ => ⟨S1x512x384, .f32⟩
  | .local _ .vmem, ⟨11, _⟩ => ⟨S1x512x384, .f32⟩
  | .local _ .vmem, ⟨12, _⟩ => ⟨S1x512x384, .f32⟩
  | .local _ .vmem, ⟨13, _⟩ => ⟨S1x512x384, .f32⟩
  | .local _ .vmem, ⟨14, _⟩ => ⟨S1x512x384, .f32⟩
  | .local _ .vmem, ⟨15, _⟩ => ⟨S1x512x384, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefAdamUqIdeal.lean ====
abbrev S8x1024x384 : Shape := ⟨3, ![8, 1024, 384]⟩
abbrev S4x1024x384 : Shape := ⟨3, ![4, 1024, 384]⟩
abbrev S_ : Shape := ⟨0, ![]⟩
abbrev S1024x384 : Shape := ⟨2, ![1024, 384]⟩
abbrev S1x1024x384 : Shape := ⟨3, ![1, 1024, 384]⟩
abbrev S3x1024x384 : Shape := ⟨3, ![3, 1024, 384]⟩

abbrev nBuf : Space → Nat
  | .hbm => 62
  | .vmem => 0
  | .smem => 0
  | _ => 0

abbrev bufTy : (tb : Table) → Fin (tcTables nBuf tb) → BufTy
  | .hbm, ⟨0, _⟩ => ⟨S8x1024x384, .bf16⟩
  | .hbm, ⟨1, _⟩ => ⟨S4x1024x384, .f32⟩
  | .hbm, ⟨2, _⟩ => ⟨S4x1024x384, .f32⟩
  | .hbm, ⟨3, _⟩ => ⟨S4x1024x384, .f32⟩
  | .hbm, ⟨4, _⟩ => ⟨S4x1024x384, .f32⟩
  | .hbm, ⟨5, _⟩ => ⟨S4x1024x384, .f32⟩
  | .hbm, ⟨6, _⟩ => ⟨S4x1024x384, .f32⟩
  | .hbm, ⟨7, _⟩ => ⟨S4x1024x384, .f32⟩
  | .hbm, ⟨8, _⟩ => ⟨S8x1024x384, .f32⟩
  | .hbm, ⟨9, _⟩ => ⟨S_, .f32⟩
  | .hbm, ⟨10, _⟩ => ⟨S1024x384, .f32⟩
  | .hbm, ⟨11, _⟩ => ⟨S1x1024x384, .f32⟩
  | .hbm, ⟨12, _⟩ => ⟨S1024x384, .f32⟩
  | .hbm, ⟨13, _⟩ => ⟨S1x1024x384, .f32⟩
  | .hbm, ⟨14, _⟩ => ⟨S1024x384, .f32⟩
  | .hbm, ⟨15, _⟩ => ⟨S1x1024x384, .f32⟩
  | .hbm, ⟨16, _⟩ => ⟨S1024x384, .f32⟩
  | .hbm, ⟨17, _⟩ => ⟨S_, .f32⟩
  | .hbm, ⟨18, _⟩ => ⟨S1024x384, .f32⟩
  | .hbm, ⟨19, _⟩ => ⟨S1024x384, .f32⟩
  | .hbm, ⟨20, _⟩ => ⟨S_, .f32⟩
  | .hbm, ⟨21, _⟩ => ⟨S1024x384, .f32⟩
  | .hbm, ⟨22, _⟩ => ⟨S1024x384, .f32⟩
  | .hbm, ⟨23, _⟩ => ⟨S1024x384, .f32⟩
  | .hbm, ⟨24, _⟩ => ⟨S_, .f32⟩
  | .hbm, ⟨25, _⟩ => ⟨S1024x384, .f32⟩
  | .hbm, ⟨26, _⟩ => ⟨S1024x384, .f32⟩
  | .hbm, ⟨27, _⟩ => ⟨S1024x384, .f32⟩
  | .hbm, ⟨28, _⟩ => ⟨S_, .f32⟩
  | .hbm, ⟨29, _⟩ => ⟨S1024x384, .f32⟩
  | .hbm, ⟨30, _⟩ => ⟨S1024x384, .f32⟩
  | .hbm, ⟨31, _⟩ => ⟨S1024x384, .f32⟩
  | .hbm, ⟨32, _⟩ => ⟨S_, .f32⟩
  | .hbm, ⟨33, _⟩ => ⟨S1024x384, .f32⟩
  | .hbm, ⟨34, _⟩ => ⟨S1024x384, .f32⟩
  | .hbm, ⟨35, _⟩ => ⟨S_, .f32⟩
  | .hbm, ⟨36, _⟩ => ⟨S1024x384, .f32⟩
  | .hbm, ⟨37, _⟩ => ⟨S1024x384, .f32⟩
  | .hbm, ⟨38, _⟩ => ⟨S1024x384, .f32⟩
  | .hbm, ⟨39, _⟩ => ⟨S_, .f32⟩
  | .hbm, ⟨40, _⟩ => ⟨S1024x384, .f32⟩
  | .hbm, ⟨41, _⟩ => ⟨S1024x384, .f32⟩
  | .hbm, ⟨42, _⟩ => ⟨S1024x384, .f32⟩
  | .hbm, ⟨43, _⟩ => ⟨S_, .f32⟩
  | .hbm, ⟨44, _⟩ => ⟨S1024x384, .f32⟩
  | .hbm, ⟨45, _⟩ => ⟨S1024x384, .f32⟩
  | .hbm, ⟨46, _⟩ => ⟨S1024x384, .f32⟩
  | .hbm, ⟨47, _⟩ => ⟨S_, .f32⟩
  | .hbm, ⟨48, _⟩ => ⟨S1024x384, .f32⟩
  | .hbm, ⟨49, _⟩ => ⟨S1024x384, .f32⟩
  | .hbm, ⟨50, _⟩ => ⟨S1x1024x384, .f32⟩
  | .hbm, ⟨51, _⟩ => ⟨S3x1024x384, .f32⟩
  | .hbm, ⟨52, _⟩ => ⟨S4x1024x384, .f32⟩
  | .hbm, ⟨53, _⟩ => ⟨S1x1024x384, .f32⟩
  | .hbm, ⟨54, _⟩ => ⟨S3x1024x384, .f32⟩
  | .hbm, ⟨55, _⟩ => ⟨S4x1024x384, .f32⟩
  | .hbm, ⟨56, _⟩ => ⟨S1x1024x384, .f32⟩
  | .hbm, ⟨57, _⟩ => ⟨S3x1024x384, .f32⟩
  | .hbm, ⟨58, _⟩ => ⟨S4x1024x384, .f32⟩
  | .hbm, ⟨59, _⟩ => ⟨S1x1024x384, .f32⟩
  | .hbm, ⟨60, _⟩ => ⟨S3x1024x384, .f32⟩
  | .hbm, ⟨61, _⟩ => ⟨S4x1024x384, .f32⟩
  | _, _ => ⟨S8x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== AdamUkv.lean ====
abbrev S8x512x512 : Shape := ⟨3, ![8, 512, 512]⟩
abbrev S4x512x512 : Shape := ⟨3, ![4, 512, 512]⟩
abbrev S1x512x512 : Shape := ⟨3, ![1, 512, 512]⟩
abbrev S512x512 : Shape := ⟨2, ![512, 512]⟩

abbrev nBuf : Space → Nat
  | .hbm => 12
  | .vmem => 8
  | .smem => 0
  | _ => 0

abbrev bufTy : (tb : Table) → Fin (tcTables nBuf tb) → BufTy
  | .hbm, ⟨0, _⟩ => ⟨S8x512x512, .bf16⟩
  | .hbm, ⟨1, _⟩ => ⟨S4x512x512, .f32⟩
  | .hbm, ⟨2, _⟩ => ⟨S4x512x512, .f32⟩
  | .hbm, ⟨3, _⟩ => ⟨S4x512x512, .f32⟩
  | .hbm, ⟨4, _⟩ => ⟨S4x512x512, .f32⟩
  | .hbm, ⟨5, _⟩ => ⟨S4x512x512, .f32⟩
  | .hbm, ⟨6, _⟩ => ⟨S4x512x512, .f32⟩
  | .hbm, ⟨7, _⟩ => ⟨S4x512x512, .f32⟩
  | .hbm, ⟨8, _⟩ => ⟨S4x512x512, .f32⟩
  | .hbm, ⟨9, _⟩ => ⟨S4x512x512, .f32⟩
  | .hbm, ⟨10, _⟩ => ⟨S4x512x512, .f32⟩
  | .hbm, ⟨11, _⟩ => ⟨S4x512x512, .f32⟩
  | .local _ .vmem, ⟨0, _⟩ => ⟨S8x512x512, .bf16⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | _, _ => ⟨S8x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S8x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== RefAdamUkvIdeal.lean ====
abbrev S8x512x512 : Shape := ⟨3, ![8, 512, 512]⟩
abbrev S4x512x512 : Shape := ⟨3, ![4, 512, 512]⟩
abbrev S_ : Shape := ⟨0, ![]⟩
abbrev S512x512 : Shape := ⟨2, ![512, 512]⟩
abbrev S1x512x512 : Shape := ⟨3, ![1, 512, 512]⟩
abbrev S3x512x512 : Shape := ⟨3, ![3, 512, 512]⟩

abbrev nBuf : Space → Nat
  | .hbm => 62
  | .vmem => 0
  | .smem => 0
  | _ => 0

abbrev bufTy : (tb : Table) → Fin (tcTables nBuf tb) → BufTy
  | .hbm, ⟨0, _⟩ => ⟨S8x512x512, .bf16⟩
  | .hbm, ⟨1, _⟩ => ⟨S4x512x512, .f32⟩
  | .hbm, ⟨2, _⟩ => ⟨S4x512x512, .f32⟩
  | .hbm, ⟨3, _⟩ => ⟨S4x512x512, .f32⟩
  | .hbm, ⟨4, _⟩ => ⟨S4x512x512, .f32⟩
  | .hbm, ⟨5, _⟩ => ⟨S4x512x512, .f32⟩
  | .hbm, ⟨6, _⟩ => ⟨S4x512x512, .f32⟩
  | .hbm, ⟨7, _⟩ => ⟨S4x512x512, .f32⟩
  | .hbm, ⟨8, _⟩ => ⟨S8x512x512, .f32⟩
  | .hbm, ⟨9, _⟩ => ⟨S_, .f32⟩
  | .hbm, ⟨10, _⟩ => ⟨S512x512, .f32⟩
  | .hbm, ⟨11, _⟩ => ⟨S1x512x512, .f32⟩
  | .hbm, ⟨12, _⟩ => ⟨S512x512, .f32⟩
  | .hbm, ⟨13, _⟩ => ⟨S1x512x512, .f32⟩
  | .hbm, ⟨14, _⟩ => ⟨S512x512, .f32⟩
  | .hbm, ⟨15, _⟩ => ⟨S1x512x512, .f32⟩
  | .hbm, ⟨16, _⟩ => ⟨S512x512, .f32⟩
  | .hbm, ⟨17, _⟩ => ⟨S_, .f32⟩
  | .hbm, ⟨18, _⟩ => ⟨S512x512, .f32⟩
  | .hbm, ⟨19, _⟩ => ⟨S512x512, .f32⟩
  | .hbm, ⟨20, _⟩ => ⟨S_, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S_, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S_, .f32⟩
  | .hbm, ⟨29, _⟩ => ⟨S512x512, .f32⟩
  | .hbm, ⟨30, _⟩ => ⟨S512x512, .f32⟩
  | .hbm, ⟨31, _⟩ => ⟨S512x512, .f32⟩
  | .hbm, ⟨32, _⟩ => ⟨S_, .f32⟩
  | .hbm, ⟨33, _⟩ => ⟨S512x512, .f32⟩
  | .hbm, ⟨34, _⟩ => ⟨S512x512, .f32⟩
  | .hbm, ⟨35, _⟩ => ⟨S_, .f32⟩
  | .hbm, ⟨36, _⟩ => ⟨S512x512, .f32⟩
  | .hbm, ⟨37, _⟩ => ⟨S512x512, .f32⟩
  | .hbm, ⟨38, _⟩ => ⟨S512x512, .f32⟩
  | .hbm, ⟨39, _⟩ => ⟨S_, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S_, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S_, .f32⟩
  | .hbm, ⟨48, _⟩ => ⟨S512x512, .f32⟩
  | .hbm, ⟨49, _⟩ => ⟨S512x512, .f32⟩
  | .hbm, ⟨50, _⟩ => ⟨S1x512x512, .f32⟩
  | .hbm, ⟨51, _⟩ => ⟨S3x512x512, .f32⟩
  | .hbm, ⟨52, _⟩ => ⟨S4x512x512, .f32⟩
  | .hbm, ⟨53, _⟩ => ⟨S1x512x512, .f32⟩
  | .hbm, ⟨54, _⟩ => ⟨S3x512x512, .f32⟩
  | .hbm, ⟨55, _⟩ => ⟨S4x512x512, .f32⟩
  | .hbm, ⟨56, _⟩ => ⟨S1x512x512, .f32⟩
  | .hbm, ⟨57, _⟩ => ⟨S3x512x512, .f32⟩
  | .hbm, ⟨58, _⟩ => ⟨S4x512x512, .f32⟩
  | .hbm, ⟨59, _⟩ => ⟨S1x512x512, .f32⟩
  | .hbm, ⟨60, _⟩ => ⟨S3x512x512, .f32⟩
  | .hbm, ⟨61, _⟩ => ⟨S4x512x512, .f32⟩
  | _, _ => ⟨S8x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Proof.Block.lean ====
module

public import proofs.«01_k».proof.Proof.Gen.KernelIdeal.Frame

/-! One block of the backward pass of stick breaking attention, for one head: the query rows of one
row block against the key rows of one block. Every definition is the text of the kernel's body over
the values it loads; `msk` is the identity below the diagonal and the strict mask on it. -/

@[expose] public section

set_option maxRecDepth 16384

noncomputable section

namespace Cert.Stick

open Idealize.ShloMosaic Cert.KernelIdeal Cert.KernelIdeal.Gen
variable {F : FTy → Type} [FloatOps F]

/-- A block of `384 × 384` scores. -/
abbrev Sq (F : FTy → Type) := FVec F S384x384 .f32
/-- A block of `384` rows of one head's width. -/
abbrev Hd (F : FTy → Type) := FVec F S384x128 .f32
/-- A block of `384` rows of one head's width, in the narrow format. -/
abbrev Hb (F : FTy → Type) := FVec F S384x128 .bf16
/-- One number per query row. -/
abbrev Col (F : FTy → Type) := FVec F S384x1 .f32

/-- The scaled scores. -/
def bZ (q k : Hb F) : Sq F :=
  mulf (matmul dot_S384x128_S384x128_S384x384_1_1_0_0_n_n none q k (constant S384x384 .f32 0x00000000#32))
    (broadcast S384x384 (Scalar.ofBits .f32 0x3DB504F3#32))

/-- The logarithm of the sigmoid of the scores. -/
def bLb (z : Sq F) : Sq F :=
  subf (minimumf z (broadcast S384x384 (Scalar.ofBits .f32 0x00000000#32)))
    (log (addf (broadcast S384x384 (Scalar.ofBits .f32 0x3F800000#32))
      (exp (subf (broadcast S384x384 (Scalar.ofBits .f32 0x00000000#32)) (absf z)))))

/-- The running sum within 128 columns, of the sum of the two narrow halves of `l`. -/
def bPin (v3 : Vec F S256x128 .bf16) (l : Sq F) (off : Fin 2 → ℕ) (h : S384x384.Slices off S384x128) : Hd F :=
  matmul dot_S384x256_S256x128_S384x128_1_0_0_1_n_n none
    (concatenate S384x256 1
      [⟨S384x128, extractStridedSlice S384x128 off (truncf .bf16 l bitsLt_bf16_f32) h⟩,
       ⟨S384x128, extractStridedSlice S384x128 off
          (truncf .bf16 (subf l (extf .f32 (truncf .bf16 l bitsLt_bf16_f32) bitsLt_bf16_f32)) bitsLt_bf16_f32) h⟩]
      concatenates_S384x128_S384x128_S384x256_d1)
    v3 (constant S384x128 .f32 0x00000000#32)

/-- The last column of 128. -/
def bLast (x : Hd F) : Col F := extractStridedSlice S384x1 ![0, 127] x slices_S384x128_o0_127_S384x1

/-- The attention weights of 128 columns. -/
def bPart (lb : Sq F) (tot pc : Col F) (pin : Hd F) (off : Fin 2 → ℕ) (h : S384x384.Slices off S384x128) : Hd F :=
  exp (addf (extractStridedSlice S384x128 off lb h)
    (subf (broadcastTo S384x128 tot broadcasts_S384x1_S384x128) (addf (broadcastTo S384x128 pc broadcasts_S384x1_S384x128) pin)))

/-- The running sum after the first 128 columns. -/
def bPc1 (v3 : Vec F S256x128 .bf16) (l : Sq F) (pc : Col F) : Col F :=
  addf pc (bLast (bPin v3 l ![0, 0] slices_S384x384_o0_0_S384x128))
/-- The running sum after 256 columns. -/
def bPc2 (v3 : Vec F S256x128 .bf16) (l : Sq F) (pc : Col F) : Col F :=
  addf (bPc1 v3 l pc) (bLast (bPin v3 l ![0, 128] slices_S384x384_o0_128_S384x128))
/-- The running sum after the block. -/
def bPc3 (v3 : Vec F S256x128 .bf16) (l : Sq F) (pc : Col F) : Col F :=
  addf (bPc2 v3 l pc) (bLast (bPin v3 l ![0, 256] slices_S384x384_o0_256_S384x128))

/-- The attention weights of the block. -/
def bAtt (msk : Sq F → Sq F) (v3 : Vec F S256x128 .bf16) (lb l : Sq F) (tot pc : Col F) : Sq F :=
  msk (concatenate S384x384 1
    [⟨S384x128, bPart lb tot pc (bPin v3 l ![0, 0] slices_S384x384_o0_0_S384x128) ![0, 0] slices_S384x384_o0_0_S384x128⟩,
     ⟨S384x128, bPart lb tot (bPc1 v3 l pc) (bPin v3 l ![0, 128] slices_S384x384_o0_128_S384x128) ![0, 128] slices_S384x384_o0_128_S384x128⟩,
     ⟨S384x128, bPart lb tot (bPc2 v3 l pc) (bPin v3 l ![0, 256] slices_S384x384_o0_256_S384x128) ![0, 256] slices_S384x384_o0_256_S384x128⟩]
    concatenates_S384x128_S384x128_S384x128_S384x384_d1)

/-- The weights times their cotangents. -/
def bG (a : Sq F) (d v : Hb F) : Sq F :=
  mulf a (matmul dot_S384x128_S384x128_S384x384_1_1_0_0_n_n none d v (constant S384x384 .f32 0x00000000#32))

/-- The sum of the earlier of 128 columns. -/
def bGin (v4 : Vec F S128x128 .bf16) (g : Sq F) (off : Fin 2 → ℕ) (h : S384x384.Slices off S384x128) : Hd F :=
  matmul dot_S384x128_S128x128_S384x128_1_0_0_1_n_n none
    (extractStridedSlice S384x128 off (truncf .bf16 g bitsLt_bf16_f32) h) v4 (constant S384x128 .f32 0x00000000#32)

/-- One column of the block. -/
def bAt (g : Sq F) (off : Fin 2 → ℕ) (h : S384x384.Slices off S384x1) : Col F :=
  extf .f32 (truncf .bf16 (extractStridedSlice S384x1 off g h) bitsLt_bf16_f32) bitsLt_bf16_f32

/-- The running sum of `g` after 128 columns. -/
def bGc1 (v4 : Vec F S128x128 .bf16) (g : Sq F) (gc : Col F) : Col F :=
  addf (addf gc (bLast (bGin v4 g ![0, 0] slices_S384x384_o0_0_S384x128))) (bAt g ![0, 127] slices_S384x384_o0_127_S384x1)
/-- The running sum of `g` after 256 columns. -/
def bGc2 (v4 : Vec F S128x128 .bf16) (g : Sq F) (gc : Col F) : Col F :=
  addf (addf (bGc1 v4 g gc) (bLast (bGin v4 g ![0, 128] slices_S384x384_o0_128_S384x128))) (bAt g ![0, 255] slices_S384x384_o0_255_S384x1)
/-- The running sum of `g` after the block. -/
def bGc3 (v4 : Vec F S128x128 .bf16) (g : Sq F) (gc : Col F) : Col F :=
  addf (addf (bGc2 v4 g gc) (bLast (bGin v4 g ![0, 256] slices_S384x384_o0_256_S384x128))) (bAt g ![0, 383] slices_S384x384_o0_383_S384x1)

/-- The running sum of `g` before each column. -/
def bBig (v4 : Vec F S128x128 .bf16) (g : Sq F) (gc : Col F) : Sq F :=
  concatenate S384x384 1
    [⟨S384x128, addf (broadcastTo S384x128 gc broadcasts_S384x1_S384x128) (bGin v4 g ![0, 0] slices_S384x384_o0_0_S384x128)⟩,
     ⟨S384x128, addf (broadcastTo S384x128 (bGc1 v4 g gc) broadcasts_S384x1_S384x128) (bGin v4 g ![0, 128] slices_S384x384_o0_128_S384x128)⟩,
     ⟨S384x128, addf (broadcastTo S384x128 (bGc2 v4 g gc) broadcasts_S384x1_S384x128) (bGin v4 g ![0, 256] slices_S384x384_o0_256_S384x128)⟩]
    concatenates_S384x128_S384x128_S384x128_S384x384_d1

/-- The cotangent of the scores before the scale. -/
def bDz (msk : Sq F → Sq F) (lb g big : Sq F) : FVec F S384x384 .bf16 :=
  truncf .bf16 (msk (mulf (subf (mulf g (subf (broadcast S384x384 (Scalar.ofBits .f32 0x3F800000#32)) (exp lb))) (mulf big (exp lb)))
    (broadcast S384x384 (Scalar.ofBits .f32 0x3DB504F3#32)))) bitsLt_bf16_f32

/-- Rows of `x` gathered by the columns of `a`. -/
def bTn (a : FVec F S384x384 .bf16) (x : Hb F) : Hd F :=
  matmul dot_S384x384_S384x128_S384x128_0_0_1_1_n_n none a x (constant S384x128 .f32 0x00000000#32)
/-- Rows of `x` gathered by the rows of `a`. -/
def bNn (a : FVec F S384x384 .bf16) (x : Hb F) : Hd F :=
  matmul dot_S384x384_S384x128_S384x128_1_0_0_1_n_n none a x (constant S384x128 .f32 0x00000000#32)

section Head
variable (msk : Sq F → Sq F) (v3 : Vec F S256x128 .bf16) (v4 : Vec F S128x128 .bf16) (q k v d : Hb F) (tot pc gc : Col F)

/-- The logarithm of the complement, masked. -/
def hLom : Sq F := msk (subf (bLb (bZ q k)) (bZ q k))
/-- The block's weights. -/
def hAtt : Sq F := bAtt msk v3 (bLb (bZ q k)) (hLom msk q k) tot pc
/-- The block's weighted cotangents. -/
def hG : Sq F := bG (hAtt msk v3 q k tot pc) d v
/-- The block's cotangent of the scores. -/
def hDz : FVec F S384x384 .bf16 :=
  bDz msk (bLb (bZ q k)) (hG msk v3 q k v d tot pc) (bBig v4 (hG msk v3 q k v d tot pc) gc)
/-- The running sum of the logarithms after the block. -/
def hPc : Col F := bPc3 v3 (hLom msk q k) pc
/-- The running sum of the weighted cotangents after the block. -/
def hGc : Col F := bGc3 v4 (hG msk v3 q k v d tot pc) gc
/-- What the block adds to the queries' cotangent. -/
def hDq (dq : Hd F) : Hd F := addf dq (bNn (hDz msk v3 v4 q k v d tot pc gc) k)
/-- What the block leaves in the keys' cotangent. -/
def hDk (old : Vec F S384x128 .f32) : Hd F :=
  addf (shapeCast S384x128 old shapeCasts_S384x128_S384x128) (bTn (hDz msk v3 v4 q k v d tot pc gc) q)
/-- What the block leaves in the values' cotangent. -/
def hDv (old : Vec F S384x128 .f32) : Hd F :=
  addf (shapeCast S384x128 old shapeCasts_S384x128_S384x128) (bTn (truncf .bf16 (hAtt msk v3 q k tot pc) bitsLt_bf16_f32) d)
end Head

/-- The row sums of one head, as loaded. -/
def colOf (x : Vec F S1x384x1 .f32) : Col F := shapeCast S384x1 x shapeCasts_S1x384x1_S384x1

end Cert.Stick
-- ==== Proof.Trip.lean ====
module

public import proofs.«01_k».proof.Proof.Block
public import Idealize.ShloMosaic.Lib.VecWindow

/-! One trip of the loop over the earlier key blocks, as the block functions of what it loads. -/

@[expose] public section

set_option maxRecDepth 16384

noncomputable section

namespace Cert.Stick

open Idealize.ShloMosaic Cert.KernelIdeal Cert.KernelIdeal.Gen
variable {F : FTy → Type} [FloatOps F]

/-- The carried values: running sums and queries' cotangent of the two heads. -/
abbrev Carry (F : FTy → Type) := FVec F S384x1 .f32 × FVec F S384x1 .f32 × FVec F S384x128 .f32 × FVec F S384x1 .f32 × FVec F S384x1 .f32 × FVec F S384x128 .f32

section
variable (𝒱 : Variants) (c : Dev nD) (bd : Option 𝒱.V) (i : grid0.Coords) (arg2 : Memref sig .tc .vmem S384x256 .bf16) (harg2 : arg2.IsWhole) (arg3 : Memref sig .tc .vmem S4224x256 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S2x384x1 .f32) (harg6 : arg6.IsWhole) (arg7 : Memref sig .tc .vmem S256x128 .bf16) (harg7 : arg7.IsWhole) (arg8 : Memref sig .tc .vmem S128x128 .bf16) (harg8 : arg8.IsWhole) (arg9 : Memref sig .tc .vmem S384x256 .bf16) (harg9 : arg9.IsWhole) (arg10 : Memref sig .tc .vmem S4224x256 .f32) (harg10 : arg10.IsWhole) (arg11 : Memref sig .tc .vmem S4224x256 .f32) (harg11 : arg11.IsWhole) (v3 : Vec F S256x128 .bf16) (v4 : Vec F S128x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin (k0_t1_loop i).trips)
variable (acc : Carry F) (f10 : BufTy.Contents (Elt F) arg10.view.ty) (f11 : BufTy.Contents (Elt F) arg11.view.ty)

/-- The queries of a head. -/
abbrev ldQ0 : Hb F := View.readAt (Elt F) arg2.view (Rect.unit (s := S384x256) ![0, 0] S384x128.size inb_S384x256_S384x128_0_0).toLoadRect X_arg2
abbrev ldQ1 : Hb F := View.readAt (Elt F) arg2.view (Rect.unit (s := S384x256) ![0, 128] S384x128.size inb_S384x256_S384x128_0_128).toLoadRect X_arg2
/-- The cotangents of a head. -/
abbrev ldD0 : Hb F := View.readAt (Elt F) arg5.view (Rect.unit (s := S384x256) ![0, 0] S384x128.size inb_S384x256_S384x128_0_0).toLoadRect X_arg5
abbrev ldD1 : Hb F := View.readAt (Elt F) arg5.view (Rect.unit (s := S384x256) ![0, 128] S384x128.size inb_S384x256_S384x128_0_128).toLoadRect X_arg5
/-- The row sums of a head. -/
abbrev ldT0 : Col F := colOf (View.readAt (Elt F) arg6.view (Rect.unit (s := S2x384x1) ![0, 0, 0] S1x384x1.size inb_S2x384x1_S1x384x1_0_0_0).toLoadRect X_arg6)
abbrev ldT1 : Col F := colOf (View.readAt (Elt F) arg6.view (Rect.unit (s := S2x384x1) ![1, 0, 0] S1x384x1.size inb_S2x384x1_S1x384x1_1_0_0).toLoadRect X_arg6)
/-- The trip's keys of a head. -/
abbrev ldK0 : Hb F := View.readAt (Elt F) arg3.view (Rect.unit (s := S4224x256) (k0_off1 i k) S384x128.size (k0_off1_inb i k)).toLoadRect X_arg3
abbrev ldK1 : Hb F := View.readAt (Elt F) arg3.view (Rect.unit (s := S4224x256) (k0_off2 i k) S384x128.size (k0_off2_inb i k)).toLoadRect X_arg3
/-- The trip's values of a head. -/
abbrev ldV0 : Hb F := View.readAt (Elt F) arg4.view (Rect.unit (s := S4224x256) (k0_off1 i k) S384x128.size (k0_off1_inb i k)).toLoadRect X_arg4
abbrev ldV1 : Hb F := View.readAt (Elt F) arg4.view (Rect.unit (s := S4224x256) (k0_off2 i k) S384x128.size (k0_off2_inb i k)).toLoadRect X_arg4

/-- What a trip hands on. -/
theorem trip_carry : (trip_k0_t1 (F := F) 𝒱 c bd i arg2 harg2 arg3 harg3 arg4 harg4 arg5 harg5 arg6 harg6 arg7 harg7 arg8 harg8 arg9 harg9 arg10 harg10 arg11 harg11 v3 v4 X_arg2 X_arg3 X_arg4 X_arg5 X_arg6 k).1 acc f10 f11 =
    (hPc id v3 (ldQ0 arg2 X_arg2) (ldK0 i arg3 X_arg3 k) acc.1,
     hGc id v3 v4 (ldQ0 arg2 X_arg2) (ldK0 i arg3 X_arg3 k) (ldV0 i arg4 X_arg4 k) (ldD0 arg5 X_arg5) (ldT0 arg6 X_arg6) acc.1 acc.2.1,
     hDq id v3 v4 (ldQ0 arg2 X_arg2) (ldK0 i arg3 X_arg3 k) (ldV0 i arg4 X_arg4 k) (ldD0 arg5 X_arg5) (ldT0 arg6 X_arg6) acc.1 acc.2.1 acc.2.2.1,
     hPc id v3 (ldQ1 arg2 X_arg2) (ldK1 i arg3 X_arg3 k) acc.2.2.2.1,
     hGc id v3 v4 (ldQ1 arg2 X_arg2) (ldK1 i arg3 X_arg3 k) (ldV1 i arg4 X_arg4 k) (ldD1 arg5 X_arg5) (ldT1 arg6 X_arg6) acc.2.2.2.1 acc.2.2.2.2.1,
     hDq id v3 v4 (ldQ1 arg2 X_arg2) (ldK1 i arg3 X_arg3 k) (ldV1 i arg4 X_arg4 k) (ldD1 arg5 X_arg5) (ldT1 arg6 X_arg6) acc.2.2.2.1 acc.2.2.2.2.1 acc.2.2.2.2.2) := by
  unfold trip_k0_t1
  rfl

/-- What a trip stores in the keys' cotangent. -/
theorem trip_dk : (trip_k0_t1 (F := F) 𝒱 c bd i arg2 harg2 arg3 harg3 arg4 harg4 arg5 harg5 arg6 harg6 arg7 harg7 arg8 harg8 arg9 harg9 arg10 harg10 arg11 harg11 v3 v4 X_arg2 X_arg3 X_arg4 X_arg5 X_arg6 k).2.1 acc f10 f11 =
    ([⟨Rect.unit (s := S4224x256) (k0_off2 i k) ![384, 128] (k0_off2_inb i k),
       hDk (F := F) id v3 v4 (ldQ1 arg2 X_arg2) (ldK1 i arg3 X_arg3 k) (ldV1 i arg4 X_arg4 k) (ldD1 arg5 X_arg5) (ldT1 arg6 X_arg6) acc.2.2.2.1 acc.2.2.2.2.1
        (View.readAt (Elt F) arg10.view (Rect.unit (s := S4224x256) (k0_off2 i k) S384x128.size (k0_off2_inb i k)).toLoadRect f10)⟩,
     ⟨Rect.unit (s := S4224x256) (k0_off1 i k) ![384, 128] (k0_off1_inb i k),
       hDk (F := F) id v3 v4 (ldQ0 arg2 X_arg2) (ldK0 i arg3 X_arg3 k) (ldV0 i arg4 X_arg4 k) (ldD0 arg5 X_arg5) (ldT0 arg6 X_arg6) acc.1 acc.2.1
        (View.readAt (Elt F) arg10.view (Rect.unit (s := S4224x256) (k0_off1 i k) S384x128.size (k0_off1_inb i k)).toLoadRect f10)⟩] : List (View.Piece (Elt F) S4224x256 .f32)) := by
  unfold trip_k0_t1
  rfl

/-- What a trip stores in the values' cotangent. -/
theorem trip_dv : (trip_k0_t1 (F := F) 𝒱 c bd i arg2 harg2 arg3 harg3 arg4 harg4 arg5 harg5 arg6 harg6 arg7 harg7 arg8 harg8 arg9 harg9 arg10 harg10 arg11 harg11 v3 v4 X_arg2 X_arg3 X_arg4 X_arg5 X_arg6 k).2.2.1 acc f10 f11 =
    ([⟨Rect.unit (s := S4224x256) (k0_off2 i k) ![384, 128] (k0_off2_inb i k),
       hDv (F := F) id v3 (ldQ1 arg2 X_arg2) (ldK1 i arg3 X_arg3 k) (ldD1 arg5 X_arg5) (ldT1 arg6 X_arg6) acc.2.2.2.1
        (View.readAt (Elt F) arg11.view (Rect.unit (s := S4224x256) (k0_off2 i k) S384x128.size (k0_off2_inb i k)).toLoadRect f11)⟩,
     ⟨Rect.unit (s := S4224x256) (k0_off1 i k) ![384, 128] (k0_off1_inb i k),
       hDv (F := F) id v3 (ldQ0 arg2 X_arg2) (ldK0 i arg3 X_arg3 k) (ldD0 arg5 X_arg5) (ldT0 arg6 X_arg6) acc.1
        (View.readAt (Elt F) arg11.view (Rect.unit (s := S4224x256) (k0_off1 i k) S384x128.size (k0_off1_inb i k)).toLoadRect f11)⟩] : List (View.Piece (Elt F) S4224x256 .f32)) := by
  unfold trip_k0_t1
  rfl
end

end Cert.Stick
-- ==== Proof.Body.lean ====
module

public import proofs.«01_k».proof.Proof.Trip

/-! What the body stores at one grid point, as the block functions of the blocks it is given: the
state after the loop over the earlier key blocks, then the block on the diagonal. -/

@[expose] public section

set_option maxRecDepth 16384

noncomputable section

namespace Cert.Stick

open Idealize.ShloMosaic Cert.KernelIdeal Cert.KernelIdeal.Gen
variable {F : FTy → Type} [FloatOps F]

/-- The carried values before the first trip. -/
def init0 : Carry F := (k0_pay126, k0_pay127, k0_pay128, k0_pay129, k0_pay130, k0_pay131)

/-- The strict mask of the block on the diagonal. -/
def dmask : Sq F → Sq F := fun x => select k0_pay125 x (broadcast S384x384 (Scalar.ofBits .f32 0x00000000#32))

section
variable (c : Dev nD) (i : grid0.Coords) (arg2 : Memref sig .tc .vmem S384x256 .bf16) (harg2 : arg2.IsWhole) (arg3 : Memref sig .tc .vmem S4224x256 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S2x384x1 .f32) (harg6 : arg6.IsWhole) (arg7 : Memref sig .tc .vmem S256x128 .bf16) (harg7 : arg7.IsWhole) (arg8 : Memref sig .tc .vmem S128x128 .bf16) (harg8 : arg8.IsWhole) (arg9 : Memref sig .tc .vmem S384x256 .bf16) (harg9 : arg9.IsWhole) (arg10 : Memref sig .tc .vmem S4224x256 .f32) (harg10 : arg10.IsWhole) (arg11 : Memref sig .tc .vmem S4224x256 .f32) (harg11 : arg11.IsWhole)
    (x0 : Vec F S384x256 .bf16) (x1 : Vec F S4224x256 .bf16) (x2 : Vec F S4224x256 .bf16) (x3 : Vec F S384x256 .bf16) (x4 : Vec F S2x384x1 .f32) (x5 : Vec F S256x128 .bf16) (x6 : Vec F S128x128 .bf16)
    (G10 : BufTy.Contents (Elt F) arg10.view.ty) (G11 : BufTy.Contents (Elt F) arg11.view.ty) (H10 : BufTy.Contents (Elt F) arg10.view.ty) (H11 : BufTy.Contents (Elt F) arg11.view.ty) (v18 : BitVec 32)

/-- The triangle of the running sums, as loaded. -/
abbrev ldV3 : Vec F S256x128 .bf16 := View.readAt (Elt F) arg7.view (Rect.unit (s := S256x128) ![0, 0] S256x128.size inb_S256x128_S256x128_0_0).toLoadRect (harg7.unread x5)
/-- The strict triangle, as loaded. -/
abbrev ldV4 : Vec F S128x128 .bf16 := View.readAt (Elt F) arg8.view (Rect.unit (s := S128x128) ![0, 0] S128x128.size inb_S128x128_S128x128_0_0).toLoadRect (harg8.unread x6)

/-- The state after `n` earlier key blocks. -/
abbrev stA (n : ℕ) : Carry F × List (View.Piece (Elt F) S4224x256 .f32) × List (View.Piece (Elt F) S4224x256 .f32) :=
  st_k0_t1 (F := F) Variants.none c none i arg2 harg2 arg3 harg3 arg4 harg4 arg5 harg5 arg6 harg6 arg7 harg7 arg8 harg8 arg9 harg9 arg10 harg10 arg11 harg11 (ldV3 arg7 harg7 x5) (ldV4 arg8 harg8 x6)
    (harg2.unread x0) (harg3.unread x1) (harg4.unread x2) (harg5.unread x3) (harg6.unread x4) G10 G11 init0 n

/-- The state after the loop. -/
abbrev stB : Carry F × List (View.Piece (Elt F) S4224x256 .f32) × List (View.Piece (Elt F) S4224x256 .f32) :=
  st_k0_t2 (F := F) Variants.none c none i arg2 harg2 arg3 harg3 arg4 harg4 arg5 harg5 arg6 harg6 arg7 harg7 arg8 harg8 arg9 harg9 arg10 harg10 arg11 harg11 (ldV3 arg7 harg7 x5) (ldV4 arg8 harg8 x6)
    v18
    (harg2.unread x0) (harg3.unread x1) (harg4.unread x2) (harg5.unread x3) (harg6.unread x4)
    H10 H11
    (stA c i arg2 harg2 arg3 harg3 arg4 harg4 arg5 harg5 arg6 harg6 arg7 harg7 arg8 harg8 arg9 harg9 arg10 harg10 arg11 harg11 x0 x1 x2 x3 x4 x5 x6 G10 G11 (Scf.trips (k0_t1_loop i).lb (k0_t1_loop i).ub (k0_t1_loop i).st)).1 (Scf.trips (k0_t2_loop i).lb (k0_t2_loop i).ub (k0_t2_loop i).st)
end

section
variable (c : Dev nD) (i : grid0.Coords) (arg2 : Memref sig .tc .vmem S384x256 .bf16) (harg2 : arg2.IsWhole) (arg3 : Memref sig .tc .vmem S4224x256 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S2x384x1 .f32) (harg6 : arg6.IsWhole) (arg7 : Memref sig .tc .vmem S256x128 .bf16) (harg7 : arg7.IsWhole) (arg8 : Memref sig .tc .vmem S128x128 .bf16) (harg8 : arg8.IsWhole) (arg9 : Memref sig .tc .vmem S384x256 .bf16) (harg9 : arg9.IsWhole) (arg10 : Memref sig .tc .vmem S4224x256 .f32) (harg10 : arg10.IsWhole) (arg11 : Memref sig .tc .vmem S4224x256 .f32) (harg11 : arg11.IsWhole) (hc0 : cond0_0 i)
    (x0 : Vec F S384x256 .bf16) (x1 : Vec F S4224x256 .bf16) (x2 : Vec F S4224x256 .bf16) (x3 : Vec F S384x256 .bf16) (x4 : Vec F S2x384x1 .f32) (x5 : Vec F S256x128 .bf16) (x6 : Vec F S128x128 .bf16)

/-- The keys' stores of case A up to the first head's block on the diagonal. -/
abbrev preDkA : List (View.Piece (Elt F) S4224x256 .f32) :=
  (⟨Rect.unit (s := S4224x256) (k0_off5 i) ![384, 128] (k0_off5_inb i), hDk (F := F) dmask (ldV3 arg7 harg7 x5) (ldV4 arg8 harg8 x6) (ldQ0 arg2 (harg2.unread x0)) (View.readAt (Elt F) arg3.view (Rect.unit (s := S4224x256) (k0_off5 i) S384x128.size (k0_off5_inb i)).toLoadRect (harg3.unread x1)) (View.readAt (Elt F) arg4.view (Rect.unit (s := S4224x256) (k0_off5 i) S384x128.size (k0_off5_inb i)).toLoadRect (harg4.unread x2)) (ldD0 arg5 (harg5.unread x3)) (ldT0 arg6 (harg6.unread x4)) (stB c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (arg10.view.writes (Elt F) arg10.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.1 ++ [(⟨Rect.unit (s := S4224x256) ![0, 0] S4224x256.size inb_S4224x256_S4224x256_0_0, k0_pay123⟩ : View.Piece (Elt F) S4224x256 .f32)])) (arg11.view.writes (Elt F) arg11.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.2 ++ [(⟨Rect.unit (s := S4224x256) ![0, 0] S4224x256.size inb_S4224x256_S4224x256_0_0, k0_pay124⟩ : View.Piece (Elt F) S4224x256 .f32)])) (kernelRun0_A.sl.v18 i)).1.1 (stB c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (arg10.view.writes (Elt F) arg10.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.1 ++ [(⟨Rect.unit (s := S4224x256) ![0, 0] S4224x256.size inb_S4224x256_S4224x256_0_0, k0_pay123⟩ : View.Piece (Elt F) S4224x256 .f32)])) (arg11.view.writes (Elt F) arg11.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.2 ++ [(⟨Rect.unit (s := S4224x256) ![0, 0] S4224x256.size inb_S4224x256_S4224x256_0_0, k0_pay124⟩ : View.Piece (Elt F) S4224x256 .f32)])) (kernelRun0_A.sl.v18 i)).1.2.1
    (View.readAt (Elt F) arg10.view (Rect.unit (s := S4224x256) (k0_off5 i) S384x128.size (k0_off5_inb i)).toLoadRect
      (arg10.view.writes (Elt F) arg10.view.junk ((stB c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (arg10.view.writes (Elt F) arg10.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.1 ++ [(⟨Rect.unit (s := S4224x256) ![0, 0] S4224x256.size inb_S4224x256_S4224x256_0_0, k0_pay123⟩ : View.Piece (Elt F) S4224x256 .f32)])) (arg11.view.writes (Elt F) arg11.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.2 ++ [(⟨Rect.unit (s := S4224x256) ![0, 0] S4224x256.size inb_S4224x256_S4224x256_0_0, k0_pay124⟩ : View.Piece (Elt F) S4224x256 .f32)])) (kernelRun0_A.sl.v18 i)).2.1 ++ ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.1 ++ [(⟨Rect.unit (s := S4224x256) ![0, 0] S4224x256.size inb_S4224x256_S4224x256_0_0, k0_pay123⟩ : View.Piece (Elt F) S4224x256 .f32)]))))⟩ : View.Piece (Elt F) S4224x256 .f32) :: ((stB c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (arg10.view.writes (Elt F) arg10.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.1 ++ [(⟨Rect.unit (s := S4224x256) ![0, 0] S4224x256.size inb_S4224x256_S4224x256_0_0, k0_pay123⟩ : View.Piece (Elt F) S4224x256 .f32)])) (arg11.view.writes (Elt F) arg11.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.2 ++ [(⟨Rect.unit (s := S4224x256) ![0, 0] S4224x256.size inb_S4224x256_S4224x256_0_0, k0_pay124⟩ : View.Piece (Elt F) S4224x256 .f32)])) (kernelRun0_A.sl.v18 i)).2.1 ++ ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.1 ++ [(⟨Rect.unit (s := S4224x256) ![0, 0] S4224x256.size inb_S4224x256_S4224x256_0_0, k0_pay123⟩ : View.Piece (Elt F) S4224x256 .f32)]))

/-- The values' stores of case A up to the first head's block on the diagonal. -/
abbrev preDvA : List (View.Piece (Elt F) S4224x256 .f32) :=
  (⟨Rect.unit (s := S4224x256) (k0_off5 i) ![384, 128] (k0_off5_inb i), hDv (F := F) dmask (ldV3 arg7 harg7 x5) (ldQ0 arg2 (harg2.unread x0)) (View.readAt (Elt F) arg3.view (Rect.unit (s := S4224x256) (k0_off5 i) S384x128.size (k0_off5_inb i)).toLoadRect (harg3.unread x1)) (ldD0 arg5 (harg5.unread x3)) (ldT0 arg6 (harg6.unread x4)) (stB c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (arg10.view.writes (Elt F) arg10.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.1 ++ [(⟨Rect.unit (s := S4224x256) ![0, 0] S4224x256.size inb_S4224x256_S4224x256_0_0, k0_pay123⟩ : View.Piece (Elt F) S4224x256 .f32)])) (arg11.view.writes (Elt F) arg11.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.2 ++ [(⟨Rect.unit (s := S4224x256) ![0, 0] S4224x256.size inb_S4224x256_S4224x256_0_0, k0_pay124⟩ : View.Piece (Elt F) S4224x256 .f32)])) (kernelRun0_A.sl.v18 i)).1.1
    (View.readAt (Elt F) arg11.view (Rect.unit (s := S4224x256) (k0_off5 i) S384x128.size (k0_off5_inb i)).toLoadRect
      (arg11.view.writes (Elt F) arg11.view.junk ((stB c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (arg10.view.writes (Elt F) arg10.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.1 ++ [(⟨Rect.unit (s := S4224x256) ![0, 0] S4224x256.size inb_S4224x256_S4224x256_0_0, k0_pay123⟩ : View.Piece (Elt F) S4224x256 .f32)])) (arg11.view.writes (Elt F) arg11.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.2 ++ [(⟨Rect.unit (s := S4224x256) ![0, 0] S4224x256.size inb_S4224x256_S4224x256_0_0, k0_pay124⟩ : View.Piece (Elt F) S4224x256 .f32)])) (kernelRun0_A.sl.v18 i)).2.2 ++ ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.2 ++ [(⟨Rect.unit (s := S4224x256) ![0, 0] S4224x256.size inb_S4224x256_S4224x256_0_0, k0_pay124⟩ : View.Piece (Elt F) S4224x256 .f32)]))))⟩ : View.Piece (Elt F) S4224x256 .f32) :: ((stB c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (arg10.view.writes (Elt F) arg10.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.1 ++ [(⟨Rect.unit (s := S4224x256) ![0, 0] S4224x256.size inb_S4224x256_S4224x256_0_0, k0_pay123⟩ : View.Piece (Elt F) S4224x256 .f32)])) (arg11.view.writes (Elt F) arg11.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.2 ++ [(⟨Rect.unit (s := S4224x256) ![0, 0] S4224x256.size inb_S4224x256_S4224x256_0_0, k0_pay124⟩ : View.Piece (Elt F) S4224x256 .f32)])) (kernelRun0_A.sl.v18 i)).2.2 ++ ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.2 ++ [(⟨Rect.unit (s := S4224x256) ![0, 0] S4224x256.size inb_S4224x256_S4224x256_0_0, k0_pay124⟩ : View.Piece (Elt F) S4224x256 .f32)]))

/-- The keys' stores of case A. -/
theorem body_dkA : (kernelRun0_A (F := F) c i arg2 harg2 arg3 harg3 arg4 harg4 arg5 harg5 arg6 harg6 arg7 harg7 arg8 harg8 arg9 harg9 arg10 harg10 arg11 harg11 hc0 x0 x1 x2 x3 x4 x5 x6).2.1 =
    (⟨Rect.unit (s := S4224x256) (k0_off6 i) ![384, 128] (k0_off6_inb i), hDk (F := F) dmask (ldV3 arg7 harg7 x5) (ldV4 arg8 harg8 x6) (ldQ1 arg2 (harg2.unread x0)) (View.readAt (Elt F) arg3.view (Rect.unit (s := S4224x256) (k0_off6 i) S384x128.size (k0_off6_inb i)).toLoadRect (harg3.unread x1)) (View.readAt (Elt F) arg4.view (Rect.unit (s := S4224x256) (k0_off6 i) S384x128.size (k0_off6_inb i)).toLoadRect (harg4.unread x2)) (ldD1 arg5 (harg5.unread x3)) (ldT1 arg6 (harg6.unread x4)) (stB c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (arg10.view.writes (Elt F) arg10.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.1 ++ [(⟨Rect.unit (s := S4224x256) ![0, 0] S4224x256.size inb_S4224x256_S4224x256_0_0, k0_pay123⟩ : View.Piece (Elt F) S4224x256 .f32)])) (arg11.view.writes (Elt F) arg11.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.2 ++ [(⟨Rect.unit (s := S4224x256) ![0, 0] S4224x256.size inb_S4224x256_S4224x256_0_0, k0_pay124⟩ : View.Piece (Elt F) S4224x256 .f32)])) (kernelRun0_A.sl.v18 i)).1.2.2.2.1 (stB c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (arg10.view.writes (Elt F) arg10.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.1 ++ [(⟨Rect.unit (s := S4224x256) ![0, 0] S4224x256.size inb_S4224x256_S4224x256_0_0, k0_pay123⟩ : View.Piece (Elt F) S4224x256 .f32)])) (arg11.view.writes (Elt F) arg11.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.2 ++ [(⟨Rect.unit (s := S4224x256) ![0, 0] S4224x256.size inb_S4224x256_S4224x256_0_0, k0_pay124⟩ : View.Piece (Elt F) S4224x256 .f32)])) (kernelRun0_A.sl.v18 i)).1.2.2.2.2.1
      (View.readAt (Elt F) arg10.view (Rect.unit (s := S4224x256) (k0_off6 i) S384x128.size (k0_off6_inb i)).toLoadRect
        (arg10.view.writes (Elt F) arg10.view.junk (preDkA c i arg2 harg2 arg3 harg3 arg4 harg4 arg5 harg5 arg6 harg6 arg7 harg7 arg8 harg8 arg9 harg9 arg10 harg10 arg11 harg11 x0 x1 x2 x3 x4 x5 x6)))⟩ : View.Piece (Elt F) S4224x256 .f32) :: (preDkA c i arg2 harg2 arg3 harg3 arg4 harg4 arg5 harg5 arg6 harg6 arg7 harg7 arg8 harg8 arg9 harg9 arg10 harg10 arg11 harg11 x0 x1 x2 x3 x4 x5 x6) := by
  unfold kernelRun0_A
  rfl

/-- The values' stores of case A. -/
theorem body_dvA : (kernelRun0_A (F := F) c i arg2 harg2 arg3 harg3 arg4 harg4 arg5 harg5 arg6 harg6 arg7 harg7 arg8 harg8 arg9 harg9 arg10 harg10 arg11 harg11 hc0 x0 x1 x2 x3 x4 x5 x6).2.2.1 =
    (⟨Rect.unit (s := S4224x256) (k0_off6 i) ![384, 128] (k0_off6_inb i), hDv (F := F) dmask (ldV3 arg7 harg7 x5) (ldQ1 arg2 (harg2.unread x0)) (View.readAt (Elt F) arg3.view (Rect.unit (s := S4224x256) (k0_off6 i) S384x128.size (k0_off6_inb i)).toLoadRect (harg3.unread x1)) (ldD1 arg5 (harg5.unread x3)) (ldT1 arg6 (harg6.unread x4)) (stB c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (arg10.view.writes (Elt F) arg10.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.1 ++ [(⟨Rect.unit (s := S4224x256) ![0, 0] S4224x256.size inb_S4224x256_S4224x256_0_0, k0_pay123⟩ : View.Piece (Elt F) S4224x256 .f32)])) (arg11.view.writes (Elt F) arg11.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.2 ++ [(⟨Rect.unit (s := S4224x256) ![0, 0] S4224x256.size inb_S4224x256_S4224x256_0_0, k0_pay124⟩ : View.Piece (Elt F) S4224x256 .f32)])) (kernelRun0_A.sl.v18 i)).1.2.2.2.1
      (View.readAt (Elt F) arg11.view (Rect.unit (s := S4224x256) (k0_off6 i) S384x128.size (k0_off6_inb i)).toLoadRect
        (arg11.view.writes (Elt F) arg11.view.junk (preDvA c i arg2 harg2 arg3 harg3 arg4 harg4 arg5 harg5 arg6 harg6 arg7 harg7 arg8 harg8 arg9 harg9 arg10 harg10 arg11 harg11 x0 x1 x2 x3 x4 x5 x6)))⟩ : View.Piece (Elt F) S4224x256 .f32) :: (preDvA c i arg2 harg2 arg3 harg3 arg4 harg4 arg5 harg5 arg6 harg6 arg7 harg7 arg8 harg8 arg9 harg9 arg10 harg10 arg11 harg11 x0 x1 x2 x3 x4 x5 x6) := by
  unfold kernelRun0_A
  rfl

/-- The queries' stores of case A. -/
theorem body_dqA : (kernelRun0_A (F := F) c i arg2 harg2 arg3 harg3 arg4 harg4 arg5 harg5 arg6 harg6 arg7 harg7 arg8 harg8 arg9 harg9 arg10 harg10 arg11 harg11 hc0 x0 x1 x2 x3 x4 x5 x6).1 =
    ([⟨Rect.unit (s := S384x256) ![0, 128] ![384, 128] inb_S384x256_S384x128_0_128,
        truncf .bf16 (hDq (F := F) dmask (ldV3 arg7 harg7 x5) (ldV4 arg8 harg8 x6) (ldQ1 arg2 (harg2.unread x0)) (View.readAt (Elt F) arg3.view (Rect.unit (s := S4224x256) (k0_off6 i) S384x128.size (k0_off6_inb i)).toLoadRect (harg3.unread x1)) (View.readAt (Elt F) arg4.view (Rect.unit (s := S4224x256) (k0_off6 i) S384x128.size (k0_off6_inb i)).toLoadRect (harg4.unread x2)) (ldD1 arg5 (harg5.unread x3)) (ldT1 arg6 (harg6.unread x4)) (stB c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (arg10.view.writes (Elt F) arg10.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.1 ++ [(⟨Rect.unit (s := S4224x256) ![0, 0] S4224x256.size inb_S4224x256_S4224x256_0_0, k0_pay123⟩ : View.Piece (Elt F) S4224x256 .f32)])) (arg11.view.writes (Elt F) arg11.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.2 ++ [(⟨Rect.unit (s := S4224x256) ![0, 0] S4224x256.size inb_S4224x256_S4224x256_0_0, k0_pay124⟩ : View.Piece (Elt F) S4224x256 .f32)])) (kernelRun0_A.sl.v18 i)).1.2.2.2.1 (stB c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (arg10.view.writes (Elt F) arg10.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.1 ++ [(⟨Rect.unit (s := S4224x256) ![0, 0] S4224x256.size inb_S4224x256_S4224x256_0_0, k0_pay123⟩ : View.Piece (Elt F) S4224x256 .f32)])) (arg11.view.writes (Elt F) arg11.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.2 ++ [(⟨Rect.unit (s := S4224x256) ![0, 0] S4224x256.size inb_S4224x256_S4224x256_0_0, k0_pay124⟩ : View.Piece (Elt F) S4224x256 .f32)])) (kernelRun0_A.sl.v18 i)).1.2.2.2.2.1 (stB c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (arg10.view.writes (Elt F) arg10.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.1 ++ [(⟨Rect.unit (s := S4224x256) ![0, 0] S4224x256.size inb_S4224x256_S4224x256_0_0, k0_pay123⟩ : View.Piece (Elt F) S4224x256 .f32)])) (arg11.view.writes (Elt F) arg11.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.2 ++ [(⟨Rect.unit (s := S4224x256) ![0, 0] S4224x256.size inb_S4224x256_S4224x256_0_0, k0_pay124⟩ : View.Piece (Elt F) S4224x256 .f32)])) (kernelRun0_A.sl.v18 i)).1.2.2.2.2.2) bitsLt_bf16_f32⟩,
      ⟨Rect.unit (s := S384x256) ![0, 0] ![384, 128] inb_S384x256_S384x128_0_0,
        truncf .bf16 (hDq (F := F) dmask (ldV3 arg7 harg7 x5) (ldV4 arg8 harg8 x6) (ldQ0 arg2 (harg2.unread x0)) (View.readAt (Elt F) arg3.view (Rect.unit (s := S4224x256) (k0_off5 i) S384x128.size (k0_off5_inb i)).toLoadRect (harg3.unread x1)) (View.readAt (Elt F) arg4.view (Rect.unit (s := S4224x256) (k0_off5 i) S384x128.size (k0_off5_inb i)).toLoadRect (harg4.unread x2)) (ldD0 arg5 (harg5.unread x3)) (ldT0 arg6 (harg6.unread x4)) (stB c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (arg10.view.writes (Elt F) arg10.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.1 ++ [(⟨Rect.unit (s := S4224x256) ![0, 0] S4224x256.size inb_S4224x256_S4224x256_0_0, k0_pay123⟩ : View.Piece (Elt F) S4224x256 .f32)])) (arg11.view.writes (Elt F) arg11.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.2 ++ [(⟨Rect.unit (s := S4224x256) ![0, 0] S4224x256.size inb_S4224x256_S4224x256_0_0, k0_pay124⟩ : View.Piece (Elt F) S4224x256 .f32)])) (kernelRun0_A.sl.v18 i)).1.1 (stB c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (arg10.view.writes (Elt F) arg10.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.1 ++ [(⟨Rect.unit (s := S4224x256) ![0, 0] S4224x256.size inb_S4224x256_S4224x256_0_0, k0_pay123⟩ : View.Piece (Elt F) S4224x256 .f32)])) (arg11.view.writes (Elt F) arg11.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.2 ++ [(⟨Rect.unit (s := S4224x256) ![0, 0] S4224x256.size inb_S4224x256_S4224x256_0_0, k0_pay124⟩ : View.Piece (Elt F) S4224x256 .f32)])) (kernelRun0_A.sl.v18 i)).1.2.1 (stB c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (arg10.view.writes (Elt F) arg10.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.1 ++ [(⟨Rect.unit (s := S4224x256) ![0, 0] S4224x256.size inb_S4224x256_S4224x256_0_0, k0_pay123⟩ : View.Piece (Elt F) S4224x256 .f32)])) (arg11.view.writes (Elt F) arg11.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S4224x256) ![0, 0] S4224x256.size inb_S4224x256_S4224x256_0_0, k0_pay123⟩]) (arg11.view.writes (Elt F) arg11.view.junk [⟨Rect.unit (s := S4224x256) ![0, 0] S4224x256.size inb_S4224x256_S4224x256_0_0, k0_pay124⟩]) (Scf.trips (k0_t1_loop i).lb (k0_t1_loop i).ub (k0_t1_loop i).st)).2.2 ++ [(⟨Rect.unit (s := S4224x256) ![0, 0] S4224x256.size inb_S4224x256_S4224x256_0_0, k0_pay124⟩ : View.Piece (Elt F) S4224x256 .f32)])) (kernelRun0_A.sl.v18 i)).1.2.2.1) bitsLt_bf16_f32⟩] : List (View.Piece (Elt F) S384x256 .bf16)) := by
  unfold kernelRun0_A
  rfl
end
section
variable (c : Dev nD) (i : grid0.Coords) (arg2 : Memref sig .tc .vmem S384x256 .bf16) (harg2 : arg2.IsWhole) (arg3 : Memref sig .tc .vmem S4224x256 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S2x384x1 .f32) (harg6 : arg6.IsWhole) (arg7 : Memref sig .tc .vmem S256x128 .bf16) (harg7 : arg7.IsWhole) (arg8 : Memref sig .tc .vmem S128x128 .bf16) (harg8 : arg8.IsWhole) (arg9 : Memref sig .tc .vmem S384x256 .bf16) (harg9 : arg9.IsWhole) (arg10 : Memref sig .tc .vmem S4224x256 .f32) (harg10 : arg10.IsWhole) (arg11 : Memref sig .tc .vmem S4224x256 .f32) (harg11 : arg11.IsWhole) (hc0 : ¬cond0_0 i)
    (x0 : Vec F S384x256 .bf16) (x1 : Vec F S4224x256 .bf16) (x2 : Vec F S4224x256 .bf16) (x3 : Vec F S384x256 .bf16) (x4 : Vec F S2x384x1 .f32) (x5 : Vec F S256x128 .bf16) (x6 : Vec F S128x128 .bf16) (xo8 : Vec F S4224x256 .f32) (xo9 : Vec F S4224x256 .f32)

/-- The keys' stores of case B up to the first head's block on the diagonal. -/
abbrev preDkB : List (View.Piece (Elt F) S4224x256 .f32) :=
  (⟨Rect.unit (s := S4224x256) (k0_off5 i) ![384, 128] (k0_off5_inb i), hDk (F := F) dmask (ldV3 arg7 harg7 x5) (ldV4 arg8 harg8 x6) (ldQ0 arg2 (harg2.unread x0)) (View.readAt (Elt F) arg3.view (Rect.unit (s := S4224x256) (k0_off5 i) S384x128.size (k0_off5_inb i)).toLoadRect (harg3.unread x1)) (View.readAt (Elt F) arg4.view (Rect.unit (s := S4224x256) (k0_off5 i) S384x128.size (k0_off5_inb i)).toLoadRect (harg4.unread x2)) (ldD0 arg5 (harg5.unread x3)) (ldT0 arg6 (harg6.unread x4)) (stB c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt F) (harg10.unread xo8) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.1) (arg11.view.writes (Elt F) (harg11.unread xo9) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.2) (kernelRun0_B.sl.v18 i)).1.1 (stB c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt F) (harg10.unread xo8) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.1) (arg11.view.writes (Elt F) (harg11.unread xo9) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.2) (kernelRun0_B.sl.v18 i)).1.2.1
    (View.readAt (Elt F) arg10.view (Rect.unit (s := S4224x256) (k0_off5 i) S384x128.size (k0_off5_inb i)).toLoadRect
      (arg10.view.writes (Elt F) (harg10.unread xo8) ((stB c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt F) (harg10.unread xo8) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.1) (arg11.view.writes (Elt F) (harg11.unread xo9) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.2) (kernelRun0_B.sl.v18 i)).2.1 ++ (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.1)))⟩ : View.Piece (Elt F) S4224x256 .f32) :: ((stB c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt F) (harg10.unread xo8) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.1) (arg11.view.writes (Elt F) (harg11.unread xo9) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.2) (kernelRun0_B.sl.v18 i)).2.1 ++ (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.1)

/-- The values' stores of case B up to the first head's block on the diagonal. -/
abbrev preDvB : List (View.Piece (Elt F) S4224x256 .f32) :=
  (⟨Rect.unit (s := S4224x256) (k0_off5 i) ![384, 128] (k0_off5_inb i), hDv (F := F) dmask (ldV3 arg7 harg7 x5) (ldQ0 arg2 (harg2.unread x0)) (View.readAt (Elt F) arg3.view (Rect.unit (s := S4224x256) (k0_off5 i) S384x128.size (k0_off5_inb i)).toLoadRect (harg3.unread x1)) (ldD0 arg5 (harg5.unread x3)) (ldT0 arg6 (harg6.unread x4)) (stB c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt F) (harg10.unread xo8) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.1) (arg11.view.writes (Elt F) (harg11.unread xo9) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.2) (kernelRun0_B.sl.v18 i)).1.1
    (View.readAt (Elt F) arg11.view (Rect.unit (s := S4224x256) (k0_off5 i) S384x128.size (k0_off5_inb i)).toLoadRect
      (arg11.view.writes (Elt F) (harg11.unread xo9) ((stB c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt F) (harg10.unread xo8) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.1) (arg11.view.writes (Elt F) (harg11.unread xo9) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.2) (kernelRun0_B.sl.v18 i)).2.2 ++ (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.2)))⟩ : View.Piece (Elt F) S4224x256 .f32) :: ((stB c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt F) (harg10.unread xo8) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.1) (arg11.view.writes (Elt F) (harg11.unread xo9) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.2) (kernelRun0_B.sl.v18 i)).2.2 ++ (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.2)

/-- The keys' stores of case B. -/
theorem body_dkB : (kernelRun0_B (F := F) c i arg2 harg2 arg3 harg3 arg4 harg4 arg5 harg5 arg6 harg6 arg7 harg7 arg8 harg8 arg9 harg9 arg10 harg10 arg11 harg11 hc0 x0 x1 x2 x3 x4 x5 x6 xo8 xo9).2.1 =
    (⟨Rect.unit (s := S4224x256) (k0_off6 i) ![384, 128] (k0_off6_inb i), hDk (F := F) dmask (ldV3 arg7 harg7 x5) (ldV4 arg8 harg8 x6) (ldQ1 arg2 (harg2.unread x0)) (View.readAt (Elt F) arg3.view (Rect.unit (s := S4224x256) (k0_off6 i) S384x128.size (k0_off6_inb i)).toLoadRect (harg3.unread x1)) (View.readAt (Elt F) arg4.view (Rect.unit (s := S4224x256) (k0_off6 i) S384x128.size (k0_off6_inb i)).toLoadRect (harg4.unread x2)) (ldD1 arg5 (harg5.unread x3)) (ldT1 arg6 (harg6.unread x4)) (stB c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt F) (harg10.unread xo8) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.1) (arg11.view.writes (Elt F) (harg11.unread xo9) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.2) (kernelRun0_B.sl.v18 i)).1.2.2.2.1 (stB c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt F) (harg10.unread xo8) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.1) (arg11.view.writes (Elt F) (harg11.unread xo9) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.2) (kernelRun0_B.sl.v18 i)).1.2.2.2.2.1
      (View.readAt (Elt F) arg10.view (Rect.unit (s := S4224x256) (k0_off6 i) S384x128.size (k0_off6_inb i)).toLoadRect
        (arg10.view.writes (Elt F) (harg10.unread xo8) (preDkB c i arg2 harg2 arg3 harg3 arg4 harg4 arg5 harg5 arg6 harg6 arg7 harg7 arg8 harg8 arg9 harg9 arg10 harg10 arg11 harg11 x0 x1 x2 x3 x4 x5 x6 xo8 xo9)))⟩ : View.Piece (Elt F) S4224x256 .f32) :: (preDkB c i arg2 harg2 arg3 harg3 arg4 harg4 arg5 harg5 arg6 harg6 arg7 harg7 arg8 harg8 arg9 harg9 arg10 harg10 arg11 harg11 x0 x1 x2 x3 x4 x5 x6 xo8 xo9) := by
  unfold kernelRun0_B
  rfl

/-- The values' stores of case B. -/
theorem body_dvB : (kernelRun0_B (F := F) c i arg2 harg2 arg3 harg3 arg4 harg4 arg5 harg5 arg6 harg6 arg7 harg7 arg8 harg8 arg9 harg9 arg10 harg10 arg11 harg11 hc0 x0 x1 x2 x3 x4 x5 x6 xo8 xo9).2.2.1 =
    (⟨Rect.unit (s := S4224x256) (k0_off6 i) ![384, 128] (k0_off6_inb i), hDv (F := F) dmask (ldV3 arg7 harg7 x5) (ldQ1 arg2 (harg2.unread x0)) (View.readAt (Elt F) arg3.view (Rect.unit (s := S4224x256) (k0_off6 i) S384x128.size (k0_off6_inb i)).toLoadRect (harg3.unread x1)) (ldD1 arg5 (harg5.unread x3)) (ldT1 arg6 (harg6.unread x4)) (stB c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt F) (harg10.unread xo8) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.1) (arg11.view.writes (Elt F) (harg11.unread xo9) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.2) (kernelRun0_B.sl.v18 i)).1.2.2.2.1
      (View.readAt (Elt F) arg11.view (Rect.unit (s := S4224x256) (k0_off6 i) S384x128.size (k0_off6_inb i)).toLoadRect
        (arg11.view.writes (Elt F) (harg11.unread xo9) (preDvB c i arg2 harg2 arg3 harg3 arg4 harg4 arg5 harg5 arg6 harg6 arg7 harg7 arg8 harg8 arg9 harg9 arg10 harg10 arg11 harg11 x0 x1 x2 x3 x4 x5 x6 xo8 xo9)))⟩ : View.Piece (Elt F) S4224x256 .f32) :: (preDvB c i arg2 harg2 arg3 harg3 arg4 harg4 arg5 harg5 arg6 harg6 arg7 harg7 arg8 harg8 arg9 harg9 arg10 harg10 arg11 harg11 x0 x1 x2 x3 x4 x5 x6 xo8 xo9) := by
  unfold kernelRun0_B
  rfl

/-- The queries' stores of case B. -/
theorem body_dqB : (kernelRun0_B (F := F) c i arg2 harg2 arg3 harg3 arg4 harg4 arg5 harg5 arg6 harg6 arg7 harg7 arg8 harg8 arg9 harg9 arg10 harg10 arg11 harg11 hc0 x0 x1 x2 x3 x4 x5 x6 xo8 xo9).1 =
    ([⟨Rect.unit (s := S384x256) ![0, 128] ![384, 128] inb_S384x256_S384x128_0_128,
        truncf .bf16 (hDq (F := F) dmask (ldV3 arg7 harg7 x5) (ldV4 arg8 harg8 x6) (ldQ1 arg2 (harg2.unread x0)) (View.readAt (Elt F) arg3.view (Rect.unit (s := S4224x256) (k0_off6 i) S384x128.size (k0_off6_inb i)).toLoadRect (harg3.unread x1)) (View.readAt (Elt F) arg4.view (Rect.unit (s := S4224x256) (k0_off6 i) S384x128.size (k0_off6_inb i)).toLoadRect (harg4.unread x2)) (ldD1 arg5 (harg5.unread x3)) (ldT1 arg6 (harg6.unread x4)) (stB c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt F) (harg10.unread xo8) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.1) (arg11.view.writes (Elt F) (harg11.unread xo9) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.2) (kernelRun0_B.sl.v18 i)).1.2.2.2.1 (stB c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt F) (harg10.unread xo8) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.1) (arg11.view.writes (Elt F) (harg11.unread xo9) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.2) (kernelRun0_B.sl.v18 i)).1.2.2.2.2.1 (stB c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt F) (harg10.unread xo8) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.1) (arg11.view.writes (Elt F) (harg11.unread xo9) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.2) (kernelRun0_B.sl.v18 i)).1.2.2.2.2.2) bitsLt_bf16_f32⟩,
      ⟨Rect.unit (s := S384x256) ![0, 0] ![384, 128] inb_S384x256_S384x128_0_0,
        truncf .bf16 (hDq (F := F) dmask (ldV3 arg7 harg7 x5) (ldV4 arg8 harg8 x6) (ldQ0 arg2 (harg2.unread x0)) (View.readAt (Elt F) arg3.view (Rect.unit (s := S4224x256) (k0_off5 i) S384x128.size (k0_off5_inb i)).toLoadRect (harg3.unread x1)) (View.readAt (Elt F) arg4.view (Rect.unit (s := S4224x256) (k0_off5 i) S384x128.size (k0_off5_inb i)).toLoadRect (harg4.unread x2)) (ldD0 arg5 (harg5.unread x3)) (ldT0 arg6 (harg6.unread x4)) (stB c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt F) (harg10.unread xo8) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.1) (arg11.view.writes (Elt F) (harg11.unread xo9) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.2) (kernelRun0_B.sl.v18 i)).1.1 (stB c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt F) (harg10.unread xo8) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.1) (arg11.view.writes (Elt F) (harg11.unread xo9) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.2) (kernelRun0_B.sl.v18 i)).1.2.1 (stB c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (arg10.view.writes (Elt F) (harg10.unread xo8) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.1) (arg11.view.writes (Elt F) (harg11.unread xo9) (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.2) (kernelRun0_B.sl.v18 i)).1.2.2.1) bitsLt_bf16_f32⟩] : List (View.Piece (Elt F) S384x256 .bf16)) := by
  unfold kernelRun0_B
  rfl
end

end Cert.Stick
-- ==== Proof.Real.lean ====
module

public import proofs.«01_k».proof.Proof.Body
public import Idealize.ShloMosaic.Lib.Pointwise
public import Idealize.ShloMosaic.Lib.IdealHost

/-! The block functions on arrays of real numbers. An array of reals is given by a function of two
numbers; each block function of such arrays is such an array, with a closed form. -/

@[expose] public section

set_option maxRecDepth 16384

noncomputable section

namespace Cert.Stick

open Idealize.ShloMosaic Cert.KernelIdeal Cert.KernelIdeal.Gen

/-- A matrix of reals, indexed by numbers, as an array of extended reals. -/
def up2 {a b : ℕ} (A : ℕ → ℕ → ℝ) : (⟨2, ![a, b]⟩ : Shape).Idx → EReal := fun j => ((A (j 0).val (j 1).val : ℝ) : EReal)

/-- Such an array at an index. -/
theorem up2_ix2 {a b : ℕ} (A : ℕ → ℕ → ℝ) (r : Fin a) (c : Fin b) : up2 A (ix2 r c) = ((A r.val c.val : ℝ) : EReal) := rfl

/-- Functions that agree inside the shape give the same array. -/
theorem up2_congr {a b : ℕ} {A B : ℕ → ℕ → ℝ} (h : ∀ r < a, ∀ c < b, A r c = B r c) :
    (up2 A : (⟨2, ![a, b]⟩ : Shape).Idx → EReal) = up2 B :=
  funext fun j => congrArg Real.toEReal (h _ (j 0).isLt _ (j 1).isLt)

/-- A finite sum of reals is the same sum of extended reals. -/
theorem coe_sum {ι : Type*} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A sum of products of reals over the first `n` numbers. -/
theorem sum_coe_mul (n : ℕ) (f g : ℕ → ℝ) :
    (∑ k : Fin n, (f k.val : EReal) * (g k.val : EReal)) = ((∑ k ∈ Finset.range n, f k * g k : ℝ) : EReal) := by
  rw [Finset.sum_range, coe_sum]
  exact Finset.sum_congr rfl fun k _ => (EReal.coe_mul _ _).symm

/-- The sum of the first `n` values. -/
def cs (f : ℕ → ℝ) (n : ℕ) : ℝ := ∑ k ∈ Finset.range n, f k

/-- A sum of the first `a + b` values in two parts. -/
theorem cs_add (f : ℕ → ℝ) (a b : ℕ) : cs f (a + b) = cs f a + cs (fun k => f (a + k)) b := by
  unfold cs; exact Finset.sum_range_add f a b

/-- One more value. -/
theorem cs_succ (f : ℕ → ℝ) (a : ℕ) : cs f (a + 1) = cs f a + f a := Finset.sum_range_succ f a

/-- No value. -/
theorem cs_zero (f : ℕ → ℝ) : cs f 0 = 0 := Finset.sum_range_zero f

/-- Sums of values that agree. -/
theorem cs_congr {f g : ℕ → ℝ} {n : ℕ} (h : ∀ k < n, f k = g k) : cs f n = cs g n :=
  Finset.sum_congr rfl fun k hk => h k (Finset.mem_range.mp hk)

/-- A sum over the first `n` values that keeps the first `m`. -/
theorem cs_ite_lt (f : ℕ → ℝ) {m n : ℕ} (h : m ≤ n) : cs (fun k => if k < m then f k else 0) n = cs f m := by
  unfold cs
  rw [← Finset.sum_filter]
  congr 1
  ext k
  simp only [Finset.mem_filter, Finset.mem_range]
  omega

/-- The scale of the scores. -/
def sc : ℝ := (Ideal.ofBits .f32 0x3DB504F3#32).toReal

/-- The scale is a real number. -/
theorem sc_eq : Ideal.ofBits .f32 0x3DB504F3#32 = (sc : EReal) := by
  have h : ∃ r : ℝ, Ideal.ofBits .f32 0x3DB504F3#32 = (r : EReal) := by
    unfold Ideal.ofBits Ideal.ieee
    exact ⟨_, by simp; rfl⟩
  obtain ⟨r, h⟩ := h
  unfold sc
  rw [h, EReal.toReal_coe]

/-- The logarithm of the sigmoid, as the kernel writes it. -/
def lsg (z : ℝ) : ℝ := min z 0 - Real.log (1 + Real.exp (-|z|))

theorem coe_max' (x y : ℝ) : max (x : EReal) (y : EReal) = ((max x y : ℝ) : EReal) :=
  (EReal.coe_strictMono.monotone.map_max).symm

theorem coe_min' (x y : ℝ) : min (x : EReal) (y : EReal) = ((min x y : ℝ) : EReal) :=
  (EReal.coe_strictMono.monotone.map_min).symm

/-- The absolute value of a real. -/
theorem absf_coe (z : ℝ) : FloatOps.absf (F := Ideal) (φ := .f32) (z : EReal) = ((|z| : ℝ) : EReal) := by
  show max (z : EReal) (-(z : EReal)) = _
  rw [← EReal.coe_neg, coe_max']; rfl

/-- The logarithm of a positive real. -/
theorem log_coe_pos {x : ℝ} (h : 0 < x) : Ideal.log ((x : ℝ) : EReal) = ((Real.log x : ℝ) : EReal) := by
  show (if x ≤ 0 then (⊥ : EReal) else ((Real.log x : ℝ) : EReal)) = _
  rw [if_neg (not_le.mpr h)]

/-- The scaled scores of real rows. -/
theorem bZ_up (Q K : ℕ → ℕ → ℝ) : bZ (F := Ideal) (up2 Q) (up2 K) = up2 fun r c => (∑ d ∈ Finset.range 128, Q r d * K c d) * sc := by
  unfold bZ
  funext j; idx_vars j; pointwise; simp only [up2_ix2]
  rw [sum_coe_mul 128 (fun d => Q j0.val d) (fun d => K j1.val d), sc_eq, EReal.coe_mul]

/-- The logarithm of the sigmoid of real scores. -/
theorem bLb_up (Z : ℕ → ℕ → ℝ) : bLb (F := Ideal) (up2 Z) = up2 fun r c => lsg (Z r c) := by
  unfold bLb
  funext j; idx_vars j; pointwise; simp only [up2_ix2]
  rw [absf_coe, ← EReal.coe_zero, ← EReal.coe_sub, zero_sub, Ideal.exp_coe, ← EReal.coe_one, ← EReal.coe_add,
    log_coe_pos (by positivity), coe_min', ← EReal.coe_sub]
  rfl

/-- The triangle of ones on and above the diagonal, twice. -/
def tri3 (k c : ℕ) : ℝ := if k % 128 ≤ c then 1 else 0
/-- The triangle of ones above the diagonal. -/
def tri4 (k c : ℕ) : ℝ := if k < c then 1 else 0

/-- A sum against a triangle keeps the first values. -/
theorem sum_tri (f : ℕ → ℝ) (g : ℕ → ℝ) {m n : ℕ} (h : m ≤ n) (hg : ∀ k < n, g k = if k < m then 1 else 0) :
    ∑ k ∈ Finset.range n, f k * g k = cs f m := by
  rw [← cs_ite_lt f h]
  refine Finset.sum_congr rfl fun k hk => ?_
  rw [hg k (Finset.mem_range.mp hk)]
  by_cases hm : k < m
  · rw [if_pos hm, mul_one]; exact (if_pos hm).symm
  · rw [if_neg hm, mul_zero]; exact (if_neg hm).symm

/-- The running sum within 128 columns starting at `o`. -/
theorem bPin_up (L : ℕ → ℕ → ℝ) (o : ℕ) (h : S384x384.Slices ![0, o] S384x128) :
    bPin (F := Ideal) (up2 tri3) (up2 L) ![0, o] h = up2 fun r c => cs (fun k => L r (o + k)) (c + 1) := by
  unfold bPin
  funext j; idx_vars j; pointwise; simp only [up2_ix2]
  have h2 : ∀ x : ℝ, (x : EReal) - (x : EReal) = 0 := fun x => by rw [← EReal.coe_sub, sub_self, EReal.coe_zero]
  simp only [h2, zero_mul, Finset.sum_const_zero, add_zero]
  rw [sum_coe_mul 128 (fun k => L j0.val (o + k)) (fun k => tri3 k j1.val)]
  refine congrArg Real.toEReal (sum_tri _ _ (by omega) fun k hk => ?_)
  unfold tri3
  rw [Nat.mod_eq_of_lt hk]
  simp only [Nat.lt_succ_iff]

/-- The last column of 128 columns of reals. -/
theorem bLast_up (X : ℕ → ℕ → ℝ) : bLast (F := Ideal) (up2 X) = up2 fun r _ => X r 127 := by
  unfold bLast
  funext j; idx_vars j; pointwise; simp only [up2_ix2]
  rfl

/-- A sum of real columns. -/
theorem addf_up {a b : ℕ} (X Y : ℕ → ℕ → ℝ) :
    addf (F := Ideal) (φ := .f32) (up2 X : (⟨2, ![a, b]⟩ : Shape).Idx → EReal) (up2 Y) = up2 fun r c => X r c + Y r c := by
  funext j
  exact (EReal.coe_add _ _).symm

/-- The weights of 128 columns of reals. -/
theorem bPart_up (LB T P X : ℕ → ℕ → ℝ) (o : ℕ) (h : S384x384.Slices ![0, o] S384x128) :
    bPart (F := Ideal) (up2 LB) (up2 T) (up2 P) (up2 X) ![0, o] h =
      up2 fun r c => Real.exp (LB r (o + c) + (T r 0 - (P r 0 + X r c))) := by
  unfold bPart
  funext j; idx_vars j; pointwise; simp only [up2_ix2]
  rw [← EReal.coe_add, ← EReal.coe_sub, ← EReal.coe_add, Ideal.exp_coe]
  rfl

/-- Three blocks of 128 columns of reals side by side. -/
theorem cat_up (A B C D : ℕ → ℕ → ℝ) (hA : ∀ r < 384, ∀ c < 128, A r c = D r c) (hB : ∀ r < 384, ∀ c < 128, B r c = D r (128 + c))
    (hC : ∀ r < 384, ∀ c < 128, C r c = D r (256 + c)) :
    (concatenate S384x384 1 [⟨S384x128, up2 A⟩, ⟨S384x128, up2 B⟩, ⟨S384x128, up2 C⟩]
      concatenates_S384x128_S384x128_S384x128_S384x384_d1 : FVec Ideal S384x384 .f32) = up2 D := by
  funext j; idx_vars j; pointwise; simp only [up2_ix2]
  have h0 := j0.isLt
  have h1 := j1.isLt
  split
  · rename_i h; exact congrArg Real.toEReal (hA _ h0 _ h)
  · split
    · rename_i h h'
      refine congrArg Real.toEReal ((hB _ h0 _ h').trans ?_)
      congr 1; omega
    · rename_i h h'
      refine congrArg Real.toEReal ((hC _ h0 _ (by omega)).trans ?_)
      congr 1; omega

/-- The running sum after 128 columns. -/
theorem bPc1_up (L P : ℕ → ℕ → ℝ) : bPc1 (F := Ideal) (up2 tri3) (up2 L) (up2 P) = up2 fun r c => P r c + cs (L r) 128 := by
  unfold bPc1
  rw [bPin_up, bLast_up, addf_up]
  simp only [Nat.zero_add, Nat.reduceAdd]

/-- The running sum after 256 columns. -/
theorem bPc2_up (L P : ℕ → ℕ → ℝ) : bPc2 (F := Ideal) (up2 tri3) (up2 L) (up2 P) = up2 fun r c => P r c + cs (L r) 256 := by
  unfold bPc2
  rw [bPin_up, bLast_up, bPc1_up, addf_up]
  refine up2_congr fun r _ c _ => ?_
  have h : cs (L r) 256 = cs (L r) 128 + cs (fun k => L r (128 + k)) (127 + 1) := cs_add (L r) 128 128
  rw [h, add_assoc]

/-- The running sum after the block. -/
theorem bPc3_up (L P : ℕ → ℕ → ℝ) : bPc3 (F := Ideal) (up2 tri3) (up2 L) (up2 P) = up2 fun r c => P r c + cs (L r) 384 := by
  unfold bPc3
  rw [bPin_up, bLast_up, bPc2_up, addf_up]
  refine up2_congr fun r _ c _ => ?_
  have h : cs (L r) 384 = cs (L r) 256 + cs (fun k => L r (256 + k)) (127 + 1) := cs_add (L r) 256 128
  rw [h, add_assoc]

/-- What it is to mask a block of reals by the columns in `M`. -/
def Masks (msk : Sq Ideal → Sq Ideal) (M : ℕ → ℕ → Prop) [∀ r c, Decidable (M r c)] : Prop :=
  ∀ X : ℕ → ℕ → ℝ, msk (up2 X) = up2 fun r c => if M r c then X r c else 0

section
variable {msk : Sq Ideal → Sq Ideal} {M : ℕ → ℕ → Prop} [∀ r c, Decidable (M r c)] (hm : Masks msk M)

include hm in
/-- The weights of a block of reals. -/
theorem bAtt_up (LB L T P : ℕ → ℕ → ℝ) :
    bAtt (F := Ideal) msk (up2 tri3) (up2 LB) (up2 L) (up2 T) (up2 P) =
      up2 fun r c => if M r c then Real.exp (LB r c + (T r 0 - (P r 0 + cs (L r) (c + 1)))) else 0 := by
  unfold bAtt
  rw [bPc1_up, bPc2_up, bPin_up, bPin_up, bPin_up, bPart_up, bPart_up, bPart_up, cat_up, hm]
  · intro r _ c _; simp only [Nat.zero_add]
  · intro r _ c _; simp only [Nat.add_assoc, cs_add _ 128 (c + 1), add_assoc]
  · intro r _ c _; simp only [Nat.add_assoc, cs_add _ 256 (c + 1), add_assoc]

/-- The weighted cotangents of a block of reals. -/
theorem bG_up (A D V : ℕ → ℕ → ℝ) :
    bG (F := Ideal) (up2 A) (up2 D) (up2 V) = up2 fun r c => A r c * ∑ d ∈ Finset.range 128, D r d * V c d := by
  unfold bG
  funext j; idx_vars j; pointwise; simp only [up2_ix2]
  rw [sum_coe_mul 128 (fun d => D j0.val d) (fun d => V j1.val d), EReal.coe_mul]

/-- The sum of the earlier of 128 columns of reals. -/
theorem bGin_up (G : ℕ → ℕ → ℝ) (o : ℕ) (h : S384x384.Slices ![0, o] S384x128) :
    bGin (F := Ideal) (up2 tri4) (up2 G) ![0, o] h = up2 fun r c => cs (fun k => G r (o + k)) c := by
  unfold bGin
  funext j; idx_vars j; pointwise; simp only [up2_ix2]
  rw [sum_coe_mul 128 (fun k => G j0.val (o + k)) (fun k => tri4 k j1.val)]
  exact congrArg Real.toEReal (sum_tri _ _ (by omega) fun k hk => rfl)

/-- One column of a block of reals. -/
theorem bAt_up (G : ℕ → ℕ → ℝ) (o : ℕ) (h : S384x384.Slices ![0, o] S384x1) :
    bAt (F := Ideal) (up2 G) ![0, o] h = up2 fun r _ => G r o := by
  unfold bAt
  funext j; idx_vars j; pointwise; simp only [up2_ix2]

/-- The running sum of weighted cotangents after 128 columns. -/
theorem bGc1_up (G C : ℕ → ℕ → ℝ) : bGc1 (F := Ideal) (up2 tri4) (up2 G) (up2 C) = up2 fun r c => C r c + cs (G r) 128 := by
  unfold bGc1
  rw [bGin_up, bLast_up, bAt_up, addf_up, addf_up]
  refine up2_congr fun r _ c _ => ?_
  have h : cs (G r) 128 = cs (G r) 127 + G r 127 := cs_succ (G r) 127
  rw [h]
  simp only [Nat.zero_add, add_assoc]

/-- The running sum of weighted cotangents after 256 columns. -/
theorem bGc2_up (G C : ℕ → ℕ → ℝ) : bGc2 (F := Ideal) (up2 tri4) (up2 G) (up2 C) = up2 fun r c => C r c + cs (G r) 256 := by
  unfold bGc2
  rw [bGin_up, bLast_up, bAt_up, bGc1_up, addf_up, addf_up]
  refine up2_congr fun r _ c _ => ?_
  have h : cs (G r) 256 = cs (G r) 128 + cs (fun k => G r (128 + k)) (127 + 1) := cs_add (G r) 128 128
  rw [h, cs_succ (fun k => G r (128 + k)) 127]
  simp only [add_assoc, Nat.reduceAdd]

/-- The running sum of weighted cotangents after the block. -/
theorem bGc3_up (G C : ℕ → ℕ → ℝ) : bGc3 (F := Ideal) (up2 tri4) (up2 G) (up2 C) = up2 fun r c => C r c + cs (G r) 384 := by
  unfold bGc3
  rw [bGin_up, bLast_up, bAt_up, bGc2_up, addf_up, addf_up]
  refine up2_congr fun r _ c _ => ?_
  have h : cs (G r) 384 = cs (G r) 256 + cs (fun k => G r (256 + k)) (127 + 1) := cs_add (G r) 256 128
  rw [h, cs_succ (fun k => G r (256 + k)) 127]
  simp only [add_assoc, Nat.reduceAdd]

/-- One real per row beside 128 columns of reals. -/
theorem addcol_up (X Y : ℕ → ℕ → ℝ) :
    addf (F := Ideal) (φ := .f32) (broadcastTo S384x128 (up2 X : Col Ideal) broadcasts_S384x1_S384x128) (up2 Y) = up2 fun r c => X r 0 + Y r c := by
  funext j; idx_vars j; pointwise; simp only [up2_ix2]
  rw [← EReal.coe_add]
  rfl

/-- The running sum of weighted cotangents before each column. -/
theorem bBig_up (G C : ℕ → ℕ → ℝ) : bBig (F := Ideal) (up2 tri4) (up2 G) (up2 C) = up2 fun r c => C r 0 + cs (G r) c := by
  unfold bBig
  rw [bGin_up, bGin_up, bGin_up, bGc1_up, bGc2_up, addcol_up, addcol_up, addcol_up]
  refine cat_up _ _ _ _ ?_ ?_ ?_
  · intro r _ c _; simp only [Nat.zero_add]
  · intro r _ c _; simp only [cs_add _ 128 c, add_assoc]
  · intro r _ c _; simp only [cs_add _ 256 c, add_assoc]

include hm in
/-- The cotangents of a block of real scores. -/
theorem bDz_up (LB G B : ℕ → ℕ → ℝ) :
    bDz (F := Ideal) msk (up2 LB) (up2 G) (up2 B) =
      up2 fun r c => if M r c then (G r c * (1 - Real.exp (LB r c)) - B r c * Real.exp (LB r c)) * sc else 0 := by
  unfold bDz
  rw [show (mulf (F := Ideal) (φ := .f32) (subf (mulf (up2 G) (subf (broadcast S384x384 (Scalar.ofBits .f32 0x3F800000#32)) (exp (up2 LB)))) (mulf (up2 B) (exp (up2 LB))))
    (broadcast S384x384 (Scalar.ofBits .f32 0x3DB504F3#32))) = (up2 fun r c => (G r c * (1 - Real.exp (LB r c)) - B r c * Real.exp (LB r c)) * sc : Sq Ideal) from ?_, hm]
  · rfl
  · funext j; idx_vars j; pointwise; simp only [up2_ix2]
    rw [sc_eq, Ideal.exp_coe, ← EReal.coe_one, ← EReal.coe_sub, ← EReal.coe_mul, ← EReal.coe_mul, ← EReal.coe_sub, ← EReal.coe_mul]

/-- Rows of reals gathered by columns. -/
theorem bTn_up (A X : ℕ → ℕ → ℝ) : bTn (F := Ideal) (up2 A) (up2 X) = up2 fun r c => ∑ k ∈ Finset.range 384, A k r * X k c := by
  unfold bTn
  funext j; idx_vars j; pointwise; simp only [up2_ix2]
  rw [sum_coe_mul 384 (fun k => A k j0.val) (fun k => X k j1.val)]

/-- Rows of reals gathered by rows. -/
theorem bNn_up (A X : ℕ → ℕ → ℝ) : bNn (F := Ideal) (up2 A) (up2 X) = up2 fun r c => ∑ k ∈ Finset.range 384, A r k * X k c := by
  unfold bNn
  funext j; idx_vars j; pointwise; simp only [up2_ix2]
  rw [sum_coe_mul 384 (fun k => A j0.val k) (fun k => X k j1.val)]
end

/-- The mask that keeps everything. -/
theorem masks_id : Masks id fun _ _ => True := fun X => by
  simp only [id, if_true]

/-- Small numbers compare as words as they compare as numbers. -/
theorem slt_ofNat {a b : ℕ} (ha : a < 2 ^ 31) (hb : b < 2 ^ 31) : IntOp.cmpi .slt (BitVec.ofNat 32 a) (BitVec.ofNat 32 b) = 1#1 ↔ a < b := by
  have ha' : (BitVec.ofNat 32 a).toNat = a := by rw [BitVec.toNat_ofNat, Nat.mod_eq_of_lt (by omega)]
  have hb' : (BitVec.ofNat 32 b).toNat = b := by rw [BitVec.toNat_ofNat, Nat.mod_eq_of_lt (by omega)]
  rw [IntOp.cmpi_slt, BitVec.toInt_eq_toNat_of_lt (by omega), BitVec.toInt_eq_toNat_of_lt (by omega), ha', hb']
  omega

/-- The mask of the diagonal block keeps the earlier columns. -/
theorem masks_dmask : Masks (dmask (F := Ideal)) fun r c => c < r := by
  intro X
  unfold dmask k0_pay125
  funext j; idx_vars j; pointwise; simp only [up2_ix2]
  have h := slt_ofNat (a := j1.val) (b := j0.val) (by omega) (by omega)
  show (if _ = 1#1 then _ else _) = _
  by_cases hc : j1.val < j0.val
  · rw [if_pos (h.mpr hc), if_pos hc]
  · rw [if_neg (fun e => hc (h.mp e)), if_neg hc]; rfl

section Heads
variable {msk : Sq Ideal → Sq Ideal} {M : ℕ → ℕ → Prop} [∀ r c, Decidable (M r c)] (hm : Masks msk M)
variable (M) (Q K V D T P C X : ℕ → ℕ → ℝ)

/-- The scaled scores of two real rows. -/
def rZ (r c : ℕ) : ℝ := (∑ d ∈ Finset.range 128, Q r d * K c d) * sc
/-- The masked logarithms of the complements. -/
def rL (r c : ℕ) : ℝ := if M r c then lsg (rZ Q K r c) - rZ Q K r c else 0
/-- The weights. -/
def rA (r c : ℕ) : ℝ := if M r c then Real.exp (lsg (rZ Q K r c) + (T r 0 - (P r 0 + cs (rL M Q K r) (c + 1)))) else 0
/-- The weighted cotangents. -/
def rG (r c : ℕ) : ℝ := rA M Q K T P r c * ∑ d ∈ Finset.range 128, D r d * V c d
/-- The cotangents of the scores. -/
def rDz (r c : ℕ) : ℝ :=
  if M r c then (rG M Q K V D T P r c * (1 - Real.exp (lsg (rZ Q K r c))) - (C r 0 + cs (rG M Q K V D T P r) c) * Real.exp (lsg (rZ Q K r c))) * sc else 0

include hm
variable {M}
theorem hLom_up : hLom (F := Ideal) msk (up2 Q) (up2 K) = up2 (rL M Q K) := by
  unfold hLom
  rw [bZ_up, bLb_up, show (up2 (rL M Q K) : Sq Ideal) = _ from (hm fun r c => lsg (rZ Q K r c) - rZ Q K r c).symm]
  refine congrArg msk (funext fun j => ?_)
  exact (EReal.coe_sub _ _).symm
theorem hAtt_up : hAtt (F := Ideal) msk (up2 tri3) (up2 Q) (up2 K) (up2 T) (up2 P) = up2 (rA M Q K T P) := by
  unfold hAtt
  rw [hLom_up hm, bZ_up, bLb_up, bAtt_up hm]
  rfl
theorem hG_up : hG (F := Ideal) msk (up2 tri3) (up2 Q) (up2 K) (up2 V) (up2 D) (up2 T) (up2 P) = up2 (rG M Q K V D T P) := by
  unfold hG
  rw [hAtt_up hm, bG_up]
  rfl
theorem hDz_up : hDz (F := Ideal) msk (up2 tri3) (up2 tri4) (up2 Q) (up2 K) (up2 V) (up2 D) (up2 T) (up2 P) (up2 C) = up2 (rDz M Q K V D T P C) := by
  unfold hDz
  rw [hG_up hm, bBig_up, bZ_up, bLb_up, bDz_up hm]
  rfl
theorem hPc_up : hPc (F := Ideal) msk (up2 tri3) (up2 Q) (up2 K) (up2 P) = up2 fun r c => P r c + cs (rL M Q K r) 384 := by
  unfold hPc
  rw [hLom_up hm, bPc3_up]
theorem hGc_up : hGc (F := Ideal) msk (up2 tri3) (up2 tri4) (up2 Q) (up2 K) (up2 V) (up2 D) (up2 T) (up2 P) (up2 C) =
    up2 fun r c => C r c + cs (rG M Q K V D T P r) 384 := by
  unfold hGc
  rw [hG_up hm, bGc3_up]
theorem hDq_up : hDq (F := Ideal) msk (up2 tri3) (up2 tri4) (up2 Q) (up2 K) (up2 V) (up2 D) (up2 T) (up2 P) (up2 C) (up2 X) =
    up2 fun r c => X r c + ∑ k ∈ Finset.range 384, rDz M Q K V D T P C r k * K k c := by
  unfold hDq
  rw [hDz_up hm, bNn_up, addf_up]
theorem hDk_up : hDk (F := Ideal) msk (up2 tri3) (up2 tri4) (up2 Q) (up2 K) (up2 V) (up2 D) (up2 T) (up2 P) (up2 C) (up2 X) =
    up2 fun r c => X r c + ∑ k ∈ Finset.range 384, rDz M Q K V D T P C k r * Q k c := by
  unfold hDk
  rw [hDz_up hm, bTn_up, shapeCast_self, addf_up]
theorem hDv_up : hDv (F := Ideal) msk (up2 tri3) (up2 Q) (up2 K) (up2 D) (up2 T) (up2 P) (up2 X) =
    up2 fun r c => X r c + ∑ k ∈ Finset.range 384, rA M Q K T P k r * D k c := by
  unfold hDv
  rw [hAtt_up hm, shapeCast_self]
  refine Eq.trans (congrArg (addf (up2 X)) (bTn_up _ _)) ?_
  rw [addf_up]
end Heads

end Cert.Stick
-- ==== Proof.Model.lean ====
module

public import proofs.«01_k».proof.Proof.Real

/-! The stick-breaking gradient of one head over whole sequences of real numbers, and what one block
of 384 queries and 384 keys contributes to it. -/

@[expose] public section

set_option maxRecDepth 16384

noncomputable section

namespace Cert.Stick

/-- A function of the rows and columns of a block, as of the whole. -/
def blk (i : ℕ) (X : ℕ → ℕ → ℝ) (r c : ℕ) : ℝ := X (384 * i + r) c

section
variable (Q K V D : ℕ → ℕ → ℝ) (T : ℕ → ℝ)

/-- The logarithm of the complement at an earlier key. -/
def gL (t s : ℕ) : ℝ := if s < t then lsg (rZ Q K t s) - rZ Q K t s else 0
/-- The attention weight of an earlier key. -/
def gA (t s : ℕ) : ℝ := if s < t then Real.exp (lsg (rZ Q K t s) + (T t - cs (gL Q K t) (s + 1))) else 0
/-- The weight times its cotangent. -/
def gG (t s : ℕ) : ℝ := gA Q K T t s * ∑ d ∈ Finset.range 128, D t d * V s d
/-- The cotangent of the score. -/
def gDz (t s : ℕ) : ℝ :=
  if s < t then (gG Q K V D T t s * (1 - Real.exp (lsg (rZ Q K t s))) - cs (gG Q K V D T t) s * Real.exp (lsg (rZ Q K t s))) * sc else 0

/-- The running sum of the logarithms before key block `k`. -/
def cP (i k : ℕ) (r : ℕ) (_ : ℕ) : ℝ := cs (gL Q K (384 * i + r)) (384 * k)
/-- The running sum of the weighted cotangents before key block `k`. -/
def cC (i k : ℕ) (r : ℕ) (_ : ℕ) : ℝ := cs (gG Q K V D T (384 * i + r)) (384 * k)
/-- The queries' cotangent before key block `k`. -/
def cQ (i k : ℕ) (r d : ℕ) : ℝ := cs (fun s => gDz Q K V D T (384 * i + r) s * K s d) (384 * k)
/-- The keys' cotangent before query block `i`. -/
def cK (i : ℕ) (s d : ℕ) : ℝ := cs (fun t => gDz Q K V D T t s * Q t d) (384 * i)
/-- The values' cotangent before query block `i`. -/
def cV (i : ℕ) (s d : ℕ) : ℝ := cs (fun t => gA Q K T t s * D t d) (384 * i)

variable (M : ℕ → ℕ → Prop) [∀ r c, Decidable (M r c)] (i k : ℕ) (hM : ∀ r < 384, ∀ c < 384, (M r c ↔ 384 * k + c < 384 * i + r))

theorem rZ_blk (r c : ℕ) : rZ (blk i Q) (blk k K) r c = rZ Q K (384 * i + r) (384 * k + c) := rfl

include hM
theorem rL_blk (r : ℕ) (hr : r < 384) (c : ℕ) (hc : c < 384) :
    rL M (blk i Q) (blk k K) r c = gL Q K (384 * i + r) (384 * k + c) := by
  unfold rL gL
  rw [rZ_blk]
  exact if_congr (hM r hr c hc) rfl rfl

theorem cs_rL_blk (r : ℕ) (hr : r < 384) (n : ℕ) (hn : n ≤ 384) :
    cP Q K i k r 0 + cs (rL M (blk i Q) (blk k K) r) n = cs (gL Q K (384 * i + r)) (384 * k + n) := by
  unfold cP
  rw [cs_add]
  congr 1
  exact cs_congr fun c hc => rL_blk Q K M i k hM r hr c (by omega)

theorem rA_blk (r : ℕ) (hr : r < 384) (c : ℕ) (hc : c < 384) :
    rA M (blk i Q) (blk k K) (fun r _ => T (384 * i + r)) (cP Q K i k) r c = gA Q K T (384 * i + r) (384 * k + c) := by
  unfold rA gA
  rw [rZ_blk, cs_rL_blk Q K M i k hM r hr (c + 1) (by omega)]
  exact if_congr (hM r hr c hc) rfl rfl

theorem rG_blk (r : ℕ) (hr : r < 384) (c : ℕ) (hc : c < 384) :
    rG M (blk i Q) (blk k K) (blk k V) (blk i D) (fun r _ => T (384 * i + r)) (cP Q K i k) r c = gG Q K V D T (384 * i + r) (384 * k + c) := by
  unfold rG gG
  rw [rA_blk Q K T M i k hM r hr c hc]
  rfl

theorem cs_rG_blk (r : ℕ) (hr : r < 384) (n : ℕ) (hn : n ≤ 384) :
    cC Q K V D T i k r 0 + cs (rG M (blk i Q) (blk k K) (blk k V) (blk i D) (fun r _ => T (384 * i + r)) (cP Q K i k) r) n =
      cs (gG Q K V D T (384 * i + r)) (384 * k + n) := by
  unfold cC
  rw [cs_add]
  congr 1
  exact cs_congr fun c hc => rG_blk Q K V D T M i k hM r hr c (by omega)

theorem rDz_blk (r : ℕ) (hr : r < 384) (c : ℕ) (hc : c < 384) :
    rDz M (blk i Q) (blk k K) (blk k V) (blk i D) (fun r _ => T (384 * i + r)) (cP Q K i k) (cC Q K V D T i k) r c =
      gDz Q K V D T (384 * i + r) (384 * k + c) := by
  unfold rDz gDz
  rw [rZ_blk, cs_rG_blk Q K V D T M i k hM r hr c (by omega), rG_blk Q K V D T M i k hM r hr c hc]
  exact if_congr (hM r hr c hc) rfl rfl
end

section
variable {msk : Sq Idealize.ShloMosaic.Ideal → Sq Idealize.ShloMosaic.Ideal} {M : ℕ → ℕ → Prop} [∀ r c, Decidable (M r c)] (hm : Masks msk M)
variable (Q K V D : ℕ → ℕ → ℝ) (T : ℕ → ℝ)
variable (i k : ℕ) (hM : ∀ r < 384, ∀ c < 384, (M r c ↔ 384 * k + c < 384 * i + r))

/-- The row sums of a query block. -/
def tb (i : ℕ) (r : ℕ) (_ : ℕ) : ℝ := T (384 * i + r)

include hm hM
/-- The running sum of the logarithms after a block. -/
theorem hPc_blk : hPc (F := Idealize.ShloMosaic.Ideal) msk (up2 tri3) (up2 (blk i Q)) (up2 (blk k K)) (up2 (cP Q K i k)) = up2 (cP Q K i (k + 1)) := by
  rw [hPc_up hm]
  refine up2_congr fun r hr _ _ => ?_
  exact cs_rL_blk Q K M i k hM r hr 384 (by omega)

/-- The running sum of the weighted cotangents after a block. -/
theorem hGc_blk : hGc (F := Idealize.ShloMosaic.Ideal) msk (up2 tri3) (up2 tri4) (up2 (blk i Q)) (up2 (blk k K)) (up2 (blk k V)) (up2 (blk i D)) (up2 (tb T i))
    (up2 (cP Q K i k)) (up2 (cC Q K V D T i k)) = up2 (cC Q K V D T i (k + 1)) := by
  rw [hGc_up hm]
  refine up2_congr fun r hr _ _ => ?_
  exact cs_rG_blk Q K V D T M i k hM r hr 384 (by omega)

/-- The queries' cotangent after a block. -/
theorem hDq_blk : hDq (F := Idealize.ShloMosaic.Ideal) msk (up2 tri3) (up2 tri4) (up2 (blk i Q)) (up2 (blk k K)) (up2 (blk k V)) (up2 (blk i D)) (up2 (tb T i))
    (up2 (cP Q K i k)) (up2 (cC Q K V D T i k)) (up2 (cQ Q K V D T i k)) = up2 (cQ Q K V D T i (k + 1)) := by
  rw [hDq_up hm]
  refine up2_congr fun r hr d _ => ?_
  unfold cQ
  rw [Nat.mul_succ, cs_add]
  congr 1
  refine Finset.sum_congr rfl fun c hc => ?_
  have := rDz_blk Q K V D T M i k hM r hr c (Finset.mem_range.mp hc)
  unfold tb
  rw [this]
  rfl

/-- The keys' cotangent after a block. -/
theorem hDk_blk : hDk (F := Idealize.ShloMosaic.Ideal) msk (up2 tri3) (up2 tri4) (up2 (blk i Q)) (up2 (blk k K)) (up2 (blk k V)) (up2 (blk i D)) (up2 (tb T i))
    (up2 (cP Q K i k)) (up2 (cC Q K V D T i k)) (up2 (blk k (cK Q K V D T i))) = up2 (blk k (cK Q K V D T (i + 1))) := by
  rw [hDk_up hm]
  refine up2_congr fun c hc d _ => ?_
  unfold blk cK
  rw [Nat.mul_succ, cs_add]
  congr 1
  refine Finset.sum_congr rfl fun r hr => ?_
  have := rDz_blk Q K V D T M i k hM r (Finset.mem_range.mp hr) c hc
  unfold tb
  exact congrArg (· * _) this

/-- The values' cotangent after a block. -/
theorem hDv_blk : hDv (F := Idealize.ShloMosaic.Ideal) msk (up2 tri3) (up2 (blk i Q)) (up2 (blk k K)) (up2 (blk i D)) (up2 (tb T i))
    (up2 (cP Q K i k)) (up2 (blk k (cV Q K D T i))) = up2 (blk k (cV Q K D T (i + 1))) := by
  rw [hDv_up hm]
  refine up2_congr fun c hc d _ => ?_
  unfold blk cV
  rw [Nat.mul_succ, cs_add]
  congr 1
  refine Finset.sum_congr rfl fun r hr => ?_
  have := rA_blk Q K T M i k hM r (Finset.mem_range.mp hr) c hc
  unfold tb
  exact congrArg (· * _) this
end

/-- Later queries than the block's last leave a key's cotangent alone. -/
theorem cK_late (Q K V D : ℕ → ℕ → ℝ) (T : ℕ → ℝ) (i s d : ℕ) (h : 384 * (i + 1) ≤ s) : cK Q K V D T i s d = cK Q K V D T (i + 1) s d := by
  unfold cK
  rw [Nat.mul_succ, cs_add]
  refine (add_eq_left.mpr ?_).symm
  refine Finset.sum_eq_zero fun r hr => ?_
  have := Finset.mem_range.mp hr
  unfold gDz
  rw [if_neg (by omega), zero_mul]

/-- Later queries than the block's last leave a value's cotangent alone. -/
theorem cV_late (Q K D : ℕ → ℕ → ℝ) (T : ℕ → ℝ) (i s d : ℕ) (h : 384 * (i + 1) ≤ s) : cV Q K D T i s d = cV Q K D T (i + 1) s d := by
  unfold cV
  rw [Nat.mul_succ, cs_add]
  refine (add_eq_left.mpr ?_).symm
  refine Finset.sum_eq_zero fun r hr => ?_
  have := Finset.mem_range.mp hr
  unfold gA
  rw [if_neg (by omega), zero_mul]

end Cert.Stick
-- ==== Proof.Host3.lean ====
module

public import proofs.«01_k».proof.Proof.Model

/-! Host operations on three-axis arrays of real numbers: an array of reals is given by a function of
three numbers, and each operation of such arrays is such an array, with a closed form. -/

@[expose] public section

set_option maxRecDepth 16384

noncomputable section

namespace Cert.Stick

open Idealize.ShloMosaic

/-- The array of three axes whose entries are the values of a function of three numbers. -/
def up3 {a b c : ℕ} (A : ℕ → ℕ → ℕ → ℝ) : (⟨3, ![a, b, c]⟩ : Shape).Idx → EReal := fun j => ((A (j 0).val (j 1).val (j 2).val : ℝ) : EReal)

/-- Such an array at an index. -/
theorem up3_ix3 {a b c : ℕ} (A : ℕ → ℕ → ℕ → ℝ) (x : Fin a) (y : Fin b) (z : Fin c) : up3 A (ix3 x y z) = ((A x.val y.val z.val : ℝ) : EReal) := rfl

/-- Functions that agree inside the shape give the same array. -/
theorem up3_congr {a b c : ℕ} {A B : ℕ → ℕ → ℕ → ℝ} (h : ∀ x < a, ∀ y < b, ∀ z < c, A x y z = B x y z) :
    (up3 A : (⟨3, ![a, b, c]⟩ : Shape).Idx → EReal) = up3 B := by
  funext j; unfold up3
  rw [h _ (j 0).isLt _ (j 1).isLt _ (j 2).isLt]

section
variable {a b c : ℕ} (X Y : ℕ → ℕ → ℕ → ℝ)

theorem h_mulf : mulf (F := Ideal) (φ := .f32) (up3 X : (⟨3, ![a, b, c]⟩ : Shape).Idx → EReal) (up3 Y) = up3 fun x y z => X x y z * Y x y z := by
  funext j; exact (EReal.coe_mul _ _).symm
theorem h_addf : addf (F := Ideal) (φ := .f32) (up3 X : (⟨3, ![a, b, c]⟩ : Shape).Idx → EReal) (up3 Y) = up3 fun x y z => X x y z + Y x y z := by
  funext j; exact (EReal.coe_add _ _).symm
theorem h_subf : subf (F := Ideal) (φ := .f32) (up3 X : (⟨3, ![a, b, c]⟩ : Shape).Idx → EReal) (up3 Y) = up3 fun x y z => X x y z - Y x y z := by
  funext j; exact (EReal.coe_sub _ _).symm
theorem h_negf : Host.negf (F := Ideal) (φ := .f32) (up3 X : (⟨3, ![a, b, c]⟩ : Shape).Idx → EReal) = up3 fun x y z => - X x y z := by
  funext j; exact (EReal.coe_neg _).symm
theorem h_max : maximumf (F := Ideal) (φ := .f32) (up3 X : (⟨3, ![a, b, c]⟩ : Shape).Idx → EReal) (up3 Y) = up3 fun x y z => max (X x y z) (Y x y z) := by
  funext j; exact coe_max' _ _
theorem h_exp : Host.exp (F := Ideal) (φ := .f32) (up3 X : (⟨3, ![a, b, c]⟩ : Shape).Idx → EReal) = up3 fun x y z => Real.exp (X x y z) := by
  funext j; exact Ideal.exp_coe _
theorem h_abs : Host.absf (F := Ideal) (φ := .f32) (up3 X : (⟨3, ![a, b, c]⟩ : Shape).Idx → EReal) = up3 fun x y z => |X x y z| := by
  funext j; exact absf_coe _
theorem h_log1p : Host.log1p (F := Ideal) (φ := .f32) (up3 fun x y z => Real.exp (X x y z) : (⟨3, ![a, b, c]⟩ : Shape).Idx → EReal) = up3 fun x y z => Real.log (1 + Real.exp (X x y z)) := by
  funext j
  show Ideal.log (1 + ((Real.exp (X (j 0).val (j 1).val (j 2).val) : ℝ) : EReal)) = _
  rw [← EReal.coe_one, ← EReal.coe_add, log_coe_pos (by positivity)]
  rfl

/-- No real number differs from itself. -/
theorem h_une (A B : (⟨3, ![a, b, c]⟩ : Shape).Idx → EReal) :
    select (cmpf (F := Ideal) (φ := .f32) .une (up3 X : (⟨3, ![a, b, c]⟩ : Shape).Idx → EReal) (up3 X)) A B = B := by
  funext j
  show (if Ideal.cmp .une (up3 X j) (up3 X j) = 1 then A j else B j) = B j
  rw [if_neg]
  unfold Ideal.cmp
  simp

/-- The word of the infinity. -/
theorem inf_bits : Ideal.ofBits .f32 0x7F800000#32 = ⊤ := by
  unfold Ideal.ofBits Ideal.ieee
  simp

/-- No real number is the infinity. -/
theorem h_oeq (h) (A B : (⟨3, ![a, b, c]⟩ : Shape).Idx → EReal) :
    select (cmpf (F := Ideal) (φ := .f32) .oeq (up3 X : (⟨3, ![a, b, c]⟩ : Shape).Idx → EReal)
      (broadcastInDim ⟨3, ![a, b, c]⟩ ![] h (constant (F := Ideal) ⟨0, ![]⟩ .f32 0x7F800000#32))) A B = B := by
  funext j
  show (if Ideal.cmp .oeq (up3 X j) (Ideal.ofBits .f32 0x7F800000#32) = 1 then A j else B j) = B j
  rw [if_neg]
  rw [inf_bits]
  unfold Ideal.cmp up3
  simp

/-- The array of zeros. -/
theorem h_zero (h) : broadcastInDim ⟨3, ![a, b, c]⟩ ![] h (constant (F := Ideal) ⟨0, ![]⟩ .f32 0x00000000#32) = up3 fun _ _ _ => 0 := by
  funext j
  exact Ideal.ofBits_zero_f32
/-- The array of the scale. -/
theorem h_sc (h) : broadcastInDim ⟨3, ![a, b, c]⟩ ![] h (constant (F := Ideal) ⟨0, ![]⟩ .f32 0x3DB504F3#32) = up3 fun _ _ _ => sc := by
  funext j
  exact sc_eq

/-- A select by a mask that a relation of the places describes. -/
theorem h_sel (M : IVec ⟨3, ![a, b, c]⟩ 1) (R : ℕ → ℕ → Prop) [∀ y z, Decidable (R y z)]
    (hM : ∀ j : (⟨3, ![a, b, c]⟩ : Shape).Idx, M j = 1#1 ↔ R (j 1).val (j 2).val) :
    select M (up3 X : (⟨3, ![a, b, c]⟩ : Shape).Idx → EReal) (up3 Y) = up3 fun x y z => if R y z then X x y z else Y x y z := by
  funext j
  show (if M j = 1#1 then up3 X j else up3 Y j) = ((if R (j 1).val (j 2).val then _ else _ : ℝ) : EReal)
  by_cases hr : R (j 1).val (j 2).val
  · rw [if_pos ((hM j).mpr hr), if_pos hr]; rfl
  · rw [if_neg fun e => hr ((hM j).mp e), if_neg hr]; rfl
end

/-- A sum over a shape of one long axis, in the order of its places. -/
theorem fold_window {n : ℕ} (f : (⟨3, ![1, 1, n]⟩ : Shape).Idx → EReal) :
    (List.finRange (⟨3, ![1, 1, n]⟩ : Shape).numel).foldl (fun r q => r + f ((⟨3, ![1, 1, n]⟩ : Shape).rowMajor.symm q)) 0
      = ∑ w : Fin n, f (ix3 0 0 w) := by
  rw [← List.foldl_map (f := fun q => f ((⟨3, ![1, 1, n]⟩ : Shape).rowMajor.symm q)) (g := fun r x => r + x), ← List.sum_eq_foldl, ← List.ofFn_eq_map, List.sum_ofFn]
  rw [Equiv.sum_comp (⟨3, ![1, 1, n]⟩ : Shape).rowMajor.symm f]
  rw [sum_idx3, Fin.sum_univ_one, Fin.sum_univ_one]

attribute [-instance] FinRange.decidableForall in
/-- A running sum along the last axis, as a window as long as the axis. -/
theorem h_window {a b n : ℕ} (X : ℕ → ℕ → ℕ → ℝ) (l u : ℕ) (init : (⟨0, ![]⟩ : Shape).Idx → EReal) (h hu) (h0 : init = fun _ => 0) :
    Host.reduceWindowAdd (F := Ideal) (φ := .f32) (s := ⟨3, ![a, b, n]⟩) (t := ⟨3, ![a, b, n]⟩) (u := ⟨0, ![]⟩) ![1, 1, n] ![1, 1, 1] ![0, 0, l] ![0, 0, u]
      (up3 X) init h hu = up3 fun x y z => ∑ w ∈ Finset.range n, if l ≤ z + w ∧ z + w - l < n then X x y (z + w - l) else 0 := by
  subst h0
  funext j
  show (List.finRange (⟨3, ![1, 1, n]⟩ : Shape).numel).foldl (fun r q => r + _) 0 = _
  refine (fold_window (fun i : (⟨3, ![1, 1, n]⟩ : Shape).Idx =>
    if hin : ∀ a' : Fin 3, (![0, 0, l] : Fin 3 → ℕ) a' ≤ (j a').val * (![1, 1, 1] : Fin 3 → ℕ) a' + (i a').val
        ∧ (j a').val * (![1, 1, 1] : Fin 3 → ℕ) a' + (i a').val - (![0, 0, l] : Fin 3 → ℕ) a' < (![a, b, n] : Fin 3 → ℕ) a' then
      up3 X (fun a' => ⟨(j a').val * (![1, 1, 1] : Fin 3 → ℕ) a' + (i a').val - (![0, 0, l] : Fin 3 → ℕ) a', (hin a').2⟩) else 0)).trans ?_
  have e : ∀ w : Fin n, (if hin : ∀ a' : Fin 3, (![0, 0, l] : Fin 3 → ℕ) a' ≤ (j a').val * (![1, 1, 1] : Fin 3 → ℕ) a' + ((ix3 (0 : Fin 1) (0 : Fin 1) w) a').val
        ∧ (j a').val * (![1, 1, 1] : Fin 3 → ℕ) a' + ((ix3 (0 : Fin 1) (0 : Fin 1) w) a').val - (![0, 0, l] : Fin 3 → ℕ) a' < (![a, b, n] : Fin 3 → ℕ) a' then
      (up3 X : (⟨3, ![a, b, n]⟩ : Shape).Idx → EReal) (fun a' => ⟨(j a').val * (![1, 1, 1] : Fin 3 → ℕ) a' + ((ix3 (0 : Fin 1) (0 : Fin 1) w) a').val - (![0, 0, l] : Fin 3 → ℕ) a', (hin a').2⟩) else 0)
      = (((if l ≤ (j 2).val + w.val ∧ (j 2).val + w.val - l < n then X (j 0).val (j 1).val ((j 2).val + w.val - l) else 0 : ℝ)) : EReal) := by
    intro w
    by_cases hc : l ≤ (j 2).val + w.val ∧ (j 2).val + w.val - l < n
    · have h0 := (j 0).isLt
      have h1 := (j 1).isLt
      rw [if_pos hc, dif_pos]
      · unfold up3
        simp
      · intro a'
        fin_cases a'
        · simpa using h0
        · simpa using h1
        · simpa using hc
    · rw [if_neg hc, dif_neg]
      · rfl
      · intro hin
        exact hc (by simpa using hin 2)
  refine (Finset.sum_congr rfl fun w _ => e w).trans ?_
  unfold up3
  rw [coe_sum, ← Fin.sum_univ_eq_sum_range (fun w => ((if l ≤ (j 2).val + w ∧ (j 2).val + w - l < n then X (j 0).val (j 1).val ((j 2).val + w - l) else 0 : ℝ) : EReal)) n]

/-- The reversed running sum in terms of the running sum. -/
theorem rev_sum (f : ℕ → ℝ) {z n : ℕ} (hz : z ≤ n) :
    (∑ w ∈ Finset.range n, if 0 ≤ z + w ∧ z + w - 0 < n then f (z + w - 0) else 0) = cs f n - cs f z := by
  obtain ⟨m, rfl⟩ := Nat.exists_eq_add_of_le hz
  rw [cs_add, add_sub_cancel_left, add_comm z m, Finset.sum_range_add]
  refine (congrArg₂ (· + ·) (Finset.sum_congr (g := fun w => f (z + w)) rfl fun w hw => ?_)
    (Finset.sum_congr (g := fun _ => (0 : ℝ)) rfl fun w hw => if_neg (by omega))).trans ?_
  · have := Finset.mem_range.mp hw
    exact if_pos ⟨Nat.zero_le _, by omega⟩
  · simp [cs]

/-- The running sum. -/
theorem fwd_sum (f : ℕ → ℝ) {z n : ℕ} (hz : z ≤ n) :
    (∑ w ∈ Finset.range (n + 1), if n ≤ z + w ∧ z + w - n < n + 1 then f (z + w - n) else 0) = cs f (z + 1) := by
  obtain ⟨m, rfl⟩ := Nat.exists_eq_add_of_le hz
  rw [show z + m + 1 = m + (z + 1) by omega, Finset.sum_range_add]
  refine (congrArg₂ (· + ·) (Finset.sum_congr (g := fun _ => (0 : ℝ)) rfl fun w hw => if_neg ?_)
    (Finset.sum_congr (g := f) rfl fun w hw => ?_)).trans ?_
  · have := Finset.mem_range.mp hw
    omega
  · have := Finset.mem_range.mp hw
    rw [if_pos (by omega)]
    congr 1
    omega
  · simp [cs]

/-- The reversed running sum of an array of reals. -/
theorem h_rev {a b n : ℕ} (X : ℕ → ℕ → ℕ → ℝ) (u : ℕ) (init : (⟨0, ![]⟩ : Shape).Idx → EReal) (h hu) (h0 : init = fun _ => 0) :
    Host.reduceWindowAdd (F := Ideal) (φ := .f32) (s := ⟨3, ![a, b, n]⟩) (t := ⟨3, ![a, b, n]⟩) (u := ⟨0, ![]⟩) ![1, 1, n] ![1, 1, 1] ![0, 0, 0] ![0, 0, u]
      (up3 X) init h hu = up3 fun x y z => cs (X x y) n - cs (X x y) z := by
  rw [h_window X 0 u init h hu h0]
  exact up3_congr fun x _ y _ z hz => rev_sum (X x y) hz.le

/-- The running sum of an array of reals. -/
theorem h_fwd {a b n : ℕ} (X : ℕ → ℕ → ℕ → ℝ) (u : ℕ) (init : (⟨0, ![]⟩ : Shape).Idx → EReal) (h hu) (h0 : init = fun _ => 0) :
    Host.reduceWindowAdd (F := Ideal) (φ := .f32) (s := ⟨3, ![a, b, n + 1]⟩) (t := ⟨3, ![a, b, n + 1]⟩) (u := ⟨0, ![]⟩) ![1, 1, n + 1] ![1, 1, 1] ![0, 0, n] ![0, 0, u]
      (up3 X) init h hu = up3 fun x y z => cs (X x y) (z + 1) := by
  rw [h_window X n u init h hu h0]
  exact up3_congr fun x _ y _ z hz => fwd_sum (X x y) (by omega)

/-- The scale's logarithms: of the sigmoid and of its complement, as the softplus gives them. -/
theorem lsg_sp (z : ℝ) : -(max (-z) 0 + Real.log (1 + Real.exp (-|-z - 0|))) = lsg z := by
  unfold lsg
  rw [sub_zero, abs_neg, neg_add, ← min_neg_neg, neg_neg, neg_zero]
  ring

theorem lsg_sub (z : ℝ) : -(max (- -z) 0 + Real.log (1 + Real.exp (-|- -z - 0|))) = lsg z - z := by
  unfold lsg
  rw [sub_zero, neg_neg]
  rcases le_total z 0 with h | h
  · rw [max_eq_right h, min_eq_left h]; ring
  · rw [max_eq_left h, min_eq_right h]; ring

/-- The sigmoid from the softplus. -/
theorem sig_sp (z : ℝ) : - -z - (max (- -z) 0 + Real.log (1 + Real.exp (-|- -z - 0|))) = lsg z := by
  have := lsg_sub z
  linarith

/-- The sigmoid's complement from the softplus. -/
theorem one_sub_sig (z : ℝ) : Real.exp (-z - (max (-z) 0 + Real.log (1 + Real.exp (-|-z - 0|)))) = 1 - Real.exp (lsg z) := by
  have e1 : -z - (max (-z) 0 + Real.log (1 + Real.exp (-|-z - 0|))) = lsg z - z := by
    have := lsg_sp z
    linarith
  rw [e1, Real.exp_sub, div_eq_iff (Real.exp_pos z).ne']
  have e2 : Real.exp (lsg z) * (1 + Real.exp z) = Real.exp z := by
    unfold lsg
    rw [Real.exp_sub, Real.exp_log (by positivity), div_mul_eq_mul_div, div_eq_iff (by positivity)]
    rcases le_total z 0 with h | h
    · rw [min_eq_left h, abs_of_nonpos h, neg_neg]
    · rw [min_eq_right h, abs_of_nonneg h, Real.exp_zero, mul_add (Real.exp z), ← Real.exp_add, add_neg_cancel, Real.exp_zero]; ring
  linear_combination e2

end Cert.Stick
-- ==== Proof.Pre.lean ====
module

public import proofs.«01_k».proof.Defs
public import proofs.«01_k».proof.Proof.Host3
public import Idealize.ShloMosaic.Lib.ReduceAll

/-! The precondition: every entry of the arguments is a real number. -/

@[expose] public section

set_option maxRecDepth 16384

noncomputable section

namespace Cert.Stick

open Idealize.ShloMosaic Idealize.ShloMosaic.TcCoe Cert.Pre_finite

instance : Subsingleton (Shape.Idx S_) := ⟨fun a b => funext fun i => i.elim0⟩

/-- A value whose absolute value is below infinity is a real number. -/
theorem real_of_abs (x : EReal) (h : Ideal.cmp .olt (FloatOps.absf (F := Ideal) (φ := .f32) x) (Ideal.ofBits .f32 0x7F800000#32) = 1#1) :
    x = ((x.toReal : ℝ) : EReal) := by
  rw [inf_bits] at h
  have h : max x (-x) < ⊤ := by
    by_contra hn
    have : (BitVec.ofBool (decide (max x (-x) < ⊤))) = 1#1 := h
    rw [decide_eq_false hn] at this
    exact absurd this (by decide)
  induction x using EReal.rec with
  | bot => exact absurd h (by simp)
  | top => exact absurd h (by simp)
  | coe x => rfl

/-- A matrix of real numbers is one given by real numbers. -/
theorem up_of_real {a b : ℕ} (X : (⟨2, ![a, b]⟩ : Shape).Idx → EReal) (h : ∀ i, X i = (((X i).toReal : ℝ) : EReal)) :
    ∃ A : ℕ → ℕ → ℝ, X = up2 A := by
  refine ⟨fun r c => if hr : r < a then if hc : c < b then (X (ix2 ⟨r, hr⟩ ⟨c, hc⟩)).toReal else 0 else 0, ?_⟩
  funext j
  show X j = (((if hr : (j 0).val < a then if hc : (j 1).val < b then (X (ix2 ⟨(j 0).val, hr⟩ ⟨(j 1).val, hc⟩)).toReal else 0 else 0 : ℝ)) : EReal)
  have b0 : (j 0).val < a := (j 0).isLt
  have b1 : (j 1).val < b := (j 1).isLt
  have e : j = ix2 ⟨(j 0).val, b0⟩ ⟨(j 1).val, b1⟩ := by funext k; fin_cases k <;> rfl
  rw [dif_pos b0, dif_pos b1, ← e]
  exact h j

/-- A conjunction of two bits. -/
theorem bits_and : ∀ a b : BitVec 1, IntOp.andi a b = 1#1 → a = 1#1 ∧ b = 1#1 := by decide

/-- The arguments are real under the precondition. -/
theorem reals [Cert.Pre_finite.Facts] (X : S4224x12288.Idx → EReal) (Y : S4224x2048.Idx → EReal)
    (h : fn (F := Ideal) X Y = fun _ => 1#1) : (∃ PR, X = up2 PR) ∧ ∃ DR, Y = up2 DR := by
  have h := congrFun h (fun i => i.elim0)
  obtain ⟨hx, hy⟩ := bits_and _ _ h
  exact ⟨up_of_real X fun i => real_of_abs _ (Host.reduce_andi_all _ _ _ _ _ hx i),
    up_of_real Y fun i => real_of_abs _ (Host.reduce_andi_all _ _ _ _ _ hy i)⟩

end Cert.Stick

end
-- ==== Proof.Store.lean ====
module

public import proofs.«01_k».proof.Proof.Model

/-! Loads and stores of blocks of real numbers: a load reads the block's rows and columns, and the two
stores of a trip, one per head, move the rows of one key block of an accumulated cotangent on. -/

@[expose] public section

set_option maxRecDepth 16384

noncomputable section

namespace Cert.Stick

open Idealize.ShloMosaic Cert.KernelIdeal Cert.KernelIdeal.Gen

/-- Two neighbouring heads: their queries, keys, values and cotangents side by side, and their row sums. -/
structure Pair where
  Q : ℕ → ℕ → ℝ
  K : ℕ → ℕ → ℝ
  V : ℕ → ℕ → ℝ
  D : ℕ → ℕ → ℝ
  T : ℕ → ℕ → ℝ

/-- One head's columns. -/
def hd (e : ℕ) (X : ℕ → ℕ → ℝ) (t d : ℕ) : ℝ := X t (128 * e + d)

/-- A load of real rows. -/
theorem window_up {m n a b : ℕ} (X Y : ℕ → ℕ → ℝ) (off : Fin 2 → ℕ) (x y : ℕ) (ho : off = ![x, y])
    (inb : ∀ j, (![x, y] : Fin 2 → ℕ) j + (![a, b] : Fin 2 → ℕ) j ≤ (⟨2, ![m, n]⟩ : Shape).size j)
    (h : ∀ r < a, ∀ c < b, X (x + r) (y + c) = Y r c) :
    VecWindow.window (s := ⟨2, ![m, n]⟩) (up2 X) ![x, y] ![a, b] inb = (up2 Y : (⟨2, ![a, b]⟩ : Shape).Idx → EReal) := by
  funext j
  refine congrArg Real.toEReal ?_
  refine Eq.trans ?_ (h _ (j 0).isLt _ (j 1).isLt)
  show X (x + 1 * (j 0).val) (y + 1 * (j 1).val) = _
  rw [one_mul, one_mul]

/-- A store of real rows. -/
theorem put_up {m n a b : ℕ} (X Y W : ℕ → ℕ → ℝ) (x y : ℕ)
    (h1 : ∀ r < a, ∀ c < b, Y (x + r) (y + c) = W r c)
    (h2 : ∀ r < m, ∀ c < n, ¬(x ≤ r ∧ r < x + a ∧ y ≤ c ∧ c < y + b) → Y r c = X r c) :
    VecWindow.put (s := ⟨2, ![m, n]⟩) (up2 X) ![x, y] ![a, b] (up2 W : (⟨2, ![a, b]⟩ : Shape).Idx → EReal) = up2 Y := by
  funext j
  unfold VecWindow.put
  split
  · rename_i h
    have e0 : x ≤ (j 0).val ∧ (j 0).val < x + a := h 0
    have e1 : y ≤ (j 1).val ∧ (j 1).val < y + b := h 1
    refine congrArg Real.toEReal ?_
    show W ((j 0).val - x) ((j 1).val - y) = Y (j 0).val (j 1).val
    rw [← h1 _ (by omega) _ (by omega)]
    congr 1 <;> omega
  · rename_i h
    refine congrArg Real.toEReal (h2 _ (j 0).isLt _ (j 1).isLt fun hh => h ?_).symm
    intro a
    match a with
    | 0 => exact ⟨hh.1, hh.2.1⟩
    | 1 => exact hh.2.2

/-- An accumulated cotangent, whose first `n0` key blocks in the first head and `n1` in the second have seen query block `I`. -/
def buf (f : ℕ → ℕ → ℕ → ℝ) (I n0 n1 s c : ℕ) : ℝ := if s < 384 * (if c < 128 then n0 else n1) then f (I + 1) s c else f I s c

section
variable (f : ℕ → ℕ → ℕ → ℝ) (I n : ℕ)

theorem win_buf0 (n1 : ℕ) (inb : ∀ j, (![384 * n, 0] : Fin 2 → ℕ) j + (![384, 128] : Fin 2 → ℕ) j ≤ S4224x256.size j) :
    VecWindow.window (s := S4224x256) (up2 (buf f I n n1)) ![384 * n, 0] ![384, 128] inb = (up2 (blk n (hd 0 (f I))) : S384x128.Idx → EReal) := by
  refine window_up _ _ _ _ _ rfl inb fun r _ c hc => ?_
  unfold buf blk hd
  rw [if_pos (by omega : 0 + c < 128), if_neg (by omega)]

theorem win_buf1 (n0 : ℕ) (inb : ∀ j, (![384 * n, 128] : Fin 2 → ℕ) j + (![384, 128] : Fin 2 → ℕ) j ≤ S4224x256.size j) :
    VecWindow.window (s := S4224x256) (up2 (buf f I n0 n)) ![384 * n, 128] ![384, 128] inb = (up2 (blk n (hd 1 (f I))) : S384x128.Idx → EReal) := by
  refine window_up _ _ _ _ _ rfl inb fun r _ c hc => ?_
  unfold buf blk hd
  rw [if_neg (by omega : ¬128 + c < 128), if_neg (by omega)]

theorem put_buf0 (n1 : ℕ) : VecWindow.put (s := S4224x256) (up2 (buf f I n n1)) ![384 * n, 0] ![384, 128] (up2 (blk n (hd 0 (f (I + 1)))) : S384x128.Idx → EReal) = up2 (buf f I (n + 1) n1) := by
  refine put_up _ _ _ _ _ (fun r _ c _ => ?_) fun r _ c _ h => ?_
  · unfold buf blk hd
    rw [if_pos (by omega : 0 + c < 128), if_pos (by omega)]
  · unfold buf
    split <;> split <;> first | rfl | (split <;> first | rfl | omega)

theorem put_buf1 (n0 : ℕ) : VecWindow.put (s := S4224x256) (up2 (buf f I n0 n)) ![384 * n, 128] ![384, 128] (up2 (blk n (hd 1 (f (I + 1)))) : S384x128.Idx → EReal) = up2 (buf f I n0 (n + 1)) := by
  refine put_up _ _ _ _ _ (fun r _ c _ => ?_) fun r _ c _ h => ?_
  · unfold buf blk hd
    rw [if_neg (by omega : ¬128 + c < 128), if_pos (by omega)]
  · unfold buf
    split <;> split <;> first | rfl | (split <;> first | rfl | omega)
end

section
variable (v : View sig .tc .vmem S4224x256 .f32) (G : v.ty.Contents (Elt Ideal)) (L : List (View.Piece (Elt Ideal) S4224x256 .f32)) (f : ℕ → ℕ → ℕ → ℝ) (I n : ℕ)
variable {off0 off1 : Fin 2 → ℕ} (h0 : off0 = ![384 * n, 0]) (h1 : off1 = ![384 * n, 128])
  (inb0 : ∀ j, off0 j + (![384, 128] : Fin 2 → ℕ) j ≤ S4224x256.size j) (inb1 : ∀ j, off1 j + (![384, 128] : Fin 2 → ℕ) j ≤ S4224x256.size j)

include h0 in
/-- The first head's load. -/
theorem rd0 (n1 : ℕ) (hG : v.read (Elt Ideal) G = up2 (buf f I n n1)) :
    v.readAt (Elt Ideal) (Rect.unit off0 ![384, 128] inb0).toLoadRect G = (up2 (blk n (hd 0 (f I))) : S384x128.Idx → EReal) := by
  subst h0
  rw [View.readAt_unit v G inb0 rfl inb0, hG]
  exact win_buf0 f I n n1 inb0

include h1 in
/-- The second head's load. -/
theorem rd1 (n0 : ℕ) (hG : v.read (Elt Ideal) G = up2 (buf f I n0 n)) :
    v.readAt (Elt Ideal) (Rect.unit off1 ![384, 128] inb1).toLoadRect G = (up2 (blk n (hd 1 (f I))) : S384x128.Idx → EReal) := by
  subst h1
  rw [View.readAt_unit v G inb1 rfl inb1, hG]
  exact win_buf1 f I n n0 inb1

include h0 in
/-- The first head's store. -/
theorem wr0 (n1 : ℕ) (hG : v.read (Elt Ideal) (v.writes (Elt Ideal) G L) = up2 (buf f I n n1)) (w : S384x128.Idx → EReal) (hw : w = up2 (blk n (hd 0 (f (I + 1))))) :
    v.read (Elt Ideal) (v.writes (Elt Ideal) G (⟨Rect.unit off0 ![384, 128] inb0, w⟩ :: L)) = up2 (buf f I (n + 1) n1) := by
  subst hw
  rw [View.read_writes_cons_put v G inb0 _ L h0, hG]
  exact put_buf0 f I n n1

include h1 in
/-- The second head's store. -/
theorem wr1 (n0 : ℕ) (hG : v.read (Elt Ideal) (v.writes (Elt Ideal) G L) = up2 (buf f I n0 n)) (w : S384x128.Idx → EReal) (hw : w = up2 (blk n (hd 1 (f (I + 1))))) :
    v.read (Elt Ideal) (v.writes (Elt Ideal) G (⟨Rect.unit off1 ![384, 128] inb1, w⟩ :: L)) = up2 (buf f I n0 (n + 1)) := by
  subst hw
  rw [View.read_writes_cons_put v G inb1 _ L h1, hG]
  exact put_buf1 f I n n0
end

end Cert.Stick
-- ==== Proof.Ref.lean ====
module

public import proofs.«01_k».proof.Proof.Host3
public import proofs.«01_k».proof.Proof.Store
public import proofs.«01_k».proof.Proof.Gen.ReferenceIdeal.Run

/-! What the reference computes of real arguments, in closed form. -/

@[expose] public section

set_option maxRecDepth 16384

noncomputable section

namespace Cert.Stick

open Idealize.ShloMosaic Cert.ReferenceIdeal Cert.ReferenceIdeal.Gen

/-- The columns of one head, of those that begin at `o`. -/
def col (o : ℕ) (X : ℕ → ℕ → ℝ) (h t d : ℕ) : ℝ := X t (o + (128 * h + d))

theorem r_extf {a b : ℕ} (X : ℕ → ℕ → ℝ) (h) : extf (F := Ideal) (φ := .bf16) .f32 (up2 X : (⟨2, ![a, b]⟩ : Shape).Idx → EReal) h = up2 X := rfl
theorem r_truncf {a b : ℕ} (X : ℕ → ℕ → ℝ) (h) : truncf (F := Ideal) (φ := .f32) .bf16 (up2 X : (⟨2, ![a, b]⟩ : Shape).Idx → EReal) h = up2 X := rfl

/-- A slice of the columns, split into heads. -/
theorem r_head (X : ℕ → ℕ → ℝ) (o : ℕ) (ho : o + 2048 ≤ 12288) (h) (h') :
    shapeCast S4224x16x128 (extractStridedSlice S4224x2048 ![0, o] (up2 X : S4224x12288.Idx → EReal) h) h' = up3 fun t e d => col o X e t d := by
  funext j; idx_vars j; pointwise; simp only [up3_ix3]
  rw [up2_ix2]; unfold col; rw [mul_comm 128]

theorem r_heads (X : ℕ → ℕ → ℝ) (h') :
    shapeCast S4224x16x128 (up2 X : S4224x2048.Idx → EReal) h' = up3 fun t e d => hd e X t d := by
  funext j; idx_vars j; pointwise; simp only [up3_ix3]
  rw [up2_ix2]; unfold hd; rw [mul_comm 128]

theorem r_unheads (X : ℕ → ℕ → ℕ → ℝ) (h') :
    shapeCast S4224x2048 (up3 X : S4224x16x128.Idx → EReal) h' = up2 fun t c => X t (c / 128) (c % 128) := by
  funext j; idx_vars j; pointwise; rfl

theorem r_t120 (X : ℕ → ℕ → ℕ → ℝ) (h) :
    transpose S16x128x4224 [1, 2, 0] (up3 X : S4224x16x128.Idx → EReal) h = up3 fun e d t => X t e d := by
  funext j; idx_vars j; pointwise; simp only [up3_ix3]
theorem r_t201 (X : ℕ → ℕ → ℕ → ℝ) (h) :
    transpose S4224x16x128 [2, 0, 1] (up3 X : S16x128x4224.Idx → EReal) h = up3 fun t e d => X e d t := by
  funext j; idx_vars j; pointwise; simp only [up3_ix3]
theorem r_t102 (X : ℕ → ℕ → ℕ → ℝ) (h) :
    transpose S4224x16x128 [1, 0, 2] (up3 X : S16x4224x128.Idx → EReal) h = up3 fun t e d => X e t d := by
  funext j; idx_vars j; pointwise; simp only [up3_ix3]

theorem r_dot_qk (X Y : ℕ → ℕ → ℕ → ℝ) :
    Host.dotGeneral (F := Ideal) (φ₁ := .f32) (φ₂ := .f32) dot_S4224x16x128_S4224x16x128_S16x4224x4224_2_2_0_0_1_1 none (up3 X) (up3 Y)
      = up3 fun h t s => ∑ d ∈ Finset.range 128, X t h d * Y s h d := by
  funext j; idx_vars j; pointwise; simp only [up3_ix3]
  rw [sum_coe_mul 128 (fun d => X j1.val j0.val d) (fun d => Y j2.val j0.val d)]
theorem r_dot_dv (X Y : ℕ → ℕ → ℕ → ℝ) :
    Host.dotGeneral (F := Ideal) (φ₁ := .f32) (φ₂ := .f32) dot_S16x128x4224_S4224x16x128_S16x4224x4224_1_2_2_0_0_1 none (up3 X) (up3 Y)
      = up3 fun h t s => ∑ d ∈ Finset.range 128, X h d t * Y s h d := by
  funext j; idx_vars j; pointwise; simp only [up3_ix3]
  rw [sum_coe_mul 128 (fun d => X j0.val d j1.val) (fun d => Y j2.val j0.val d)]
theorem r_dot_da (X Y : ℕ → ℕ → ℕ → ℝ) :
    Host.dotGeneral (F := Ideal) (φ₁ := .f32) (φ₂ := .f32) dot_S16x128x4224_S16x4224x4224_S16x128x4224_2_1_1_2_0_0 none (up3 X) (up3 Y)
      = up3 fun h d s => ∑ t ∈ Finset.range 4224, X h d t * Y h t s := by
  funext j; idx_vars j; pointwise; simp only [up3_ix3]
  rw [sum_coe_mul 4224 (fun t => X j0.val j1.val t) (fun t => Y j0.val t j2.val)]
theorem r_dot_zq (X Y : ℕ → ℕ → ℕ → ℝ) :
    Host.dotGeneral (F := Ideal) (φ₁ := .f32) (φ₂ := .f32) dot_S16x4224x4224_S4224x16x128_S16x4224x128_1_0_2_2_0_1 none (up3 X) (up3 Y)
      = up3 fun h s d => ∑ t ∈ Finset.range 4224, X h t s * Y t h d := by
  funext j; idx_vars j; pointwise; simp only [up3_ix3]
  rw [sum_coe_mul 4224 (fun t => X j0.val t j1.val) (fun t => Y t j0.val j2.val)]
theorem r_dot_zk (X Y : ℕ → ℕ → ℕ → ℝ) :
    Host.dotGeneral (F := Ideal) (φ₁ := .f32) (φ₂ := .f32) dot_S16x4224x4224_S4224x16x128_S16x4224x128_2_0_1_2_0_1 none (up3 X) (up3 Y)
      = up3 fun h t d => ∑ s ∈ Finset.range 4224, X h t s * Y s h d := by
  funext j; idx_vars j; pointwise; simp only [up3_ix3]
  rw [sum_coe_mul 4224 (fun s => X j0.val j1.val s) (fun s => Y s j0.val j2.val)]

/-- The mask keeps the earlier keys. -/
theorem r_mask (X Y : ℕ → ℕ → ℕ → ℝ) (h1 h2 h3 h4 h5) :
    select (broadcastInDim S16x4224x4224 ![1, 2] h1 (cmpi .slt (broadcastInDim S4224x4224 ![0, 1] h2 (broadcastInDim S1x4224 ![1] h3 (iotaInDim S4224 32 0)))
      (broadcastInDim S4224x4224 ![0, 1] h4 (broadcastInDim S4224x1 ![0] h5 (iotaInDim S4224 32 0))))) (up3 X) (up3 Y)
      = up3 fun x y z => if z < y then X x y z else Y x y z := by
  refine h_sel X Y _ (fun y z => z < y) fun j => ?_
  have h := slt_ofNat (a := (j 2).val) (b := (j 1).val) (by have := (j 2).isLt; simp at this; omega) (by have := (j 1).isLt; simp at this; omega)
  exact h

theorem r_init (h) : broadcastInDim S_ ![] h (constant (F := Ideal) S_ .f32 0x00000000#32) = fun _ => (0 : EReal) := by
  funext j
  exact Ideal.ofBits_zero_f32

/-- Arrays over heads, queries and keys. -/
local notation "H3" => FVec Ideal S16x4224x4224 FTy.f32

/-- The array of zeros. -/
def qO : H3 := broadcastInDim S16x4224x4224 ![] bcast_S_S16x4224x4224 (constant S_ .f32 0x00000000#32)
/-- The array of infinities. -/
def qI : H3 := broadcastInDim S16x4224x4224 ![] bcast_S_S16x4224x4224 (constant S_ .f32 0x7F800000#32)
/-- The array of the scale. -/
def qS : H3 := broadcastInDim S16x4224x4224 ![] bcast_S_S16x4224x4224 (constant S_ .f32 0x3DB504F3#32)
/-- The mask of the earlier keys. -/
def qM : IVec S16x4224x4224 1 :=
  broadcastInDim S16x4224x4224 ![1, 2] bcast_S4224x4224_S16x4224x4224_1_2 (cmpi .slt (broadcastInDim S4224x4224 ![0, 1] bcast_S1x4224_S4224x4224_0_1 (broadcastInDim S1x4224 ![1] bcast_S4224_S1x4224_1 (iotaInDim S4224 32 0)))
    (broadcastInDim S4224x4224 ![0, 1] bcast_S4224x1_S4224x4224_0_1 (broadcastInDim S4224x1 ![0] bcast_S4224_S4224x1_0 (iotaInDim S4224 32 0))))
/-- The softplus. -/
def qSp (x : H3) : H3 := select (cmpf .une (subf x qO) (subf x qO)) (addf x qO) (addf (maximumf x qO) (Host.log1p (Host.exp (Host.negf (Host.absf (subf x qO))))))
/-- The softplus' derivative. -/
def qSg (x : H3) : H3 := Host.exp (subf (select (cmpf .oeq x qI) qO x) (select (cmpf .oeq (qSp x) qI) qO (qSp x)))
/-- The queries, keys and values of all heads. -/
def qQ (A : FVec Ideal S4224x12288 .bf16) : FVec Ideal S4224x16x128 .f32 :=
  shapeCast S4224x16x128 (extractStridedSlice S4224x2048 ![0, 4096] (extf .f32 A bitsLt_bf16_f32) slices_S4224x12288_S4224x2048_0_4096) shapeCasts_S4224x2048_S4224x16x128
def qK (A : FVec Ideal S4224x12288 .bf16) : FVec Ideal S4224x16x128 .f32 :=
  shapeCast S4224x16x128 (extractStridedSlice S4224x2048 ![0, 6144] (extf .f32 A bitsLt_bf16_f32) slices_S4224x12288_S4224x2048_0_6144) shapeCasts_S4224x2048_S4224x16x128
def qV (A : FVec Ideal S4224x12288 .bf16) : FVec Ideal S4224x16x128 .f32 :=
  shapeCast S4224x16x128 (extractStridedSlice S4224x2048 ![0, 8192] (extf .f32 A bitsLt_bf16_f32) slices_S4224x12288_S4224x2048_0_8192) shapeCasts_S4224x2048_S4224x16x128
/-- The cotangents of all heads. -/
def qD (B : FVec Ideal S4224x2048 .bf16) : FVec Ideal S16x128x4224 .f32 :=
  transpose S16x128x4224 [1, 2, 0] (shapeCast S4224x16x128 (extf .f32 B bitsLt_bf16_f32) shapeCasts_S4224x2048_S4224x16x128) transposes_S4224x16x128_S16x128x4224_1_2_0
/-- The scores. -/
def qZ (A : FVec Ideal S4224x12288 .bf16) : H3 := mulf (Host.dotGeneral dot_S4224x16x128_S4224x16x128_S16x4224x4224_2_2_0_0_1_1 none (qQ A) (qK A)) qS
/-- The masked logarithms of the complements. -/
def qL (z : H3) : H3 := select qM (Host.negf (qSp (Host.negf (Host.negf z)))) qO
/-- The weights before masking. -/
def qU (z : H3) : H3 :=
  Host.exp (addf (Host.negf (qSp (Host.negf z))) (subf (Host.reduceWindowAdd ![1, 1, 4224] ![1, 1, 1] ![0, 0, 0] ![0, 0, 4223] (qL z) (broadcastInDim S_ ![] bcast_S_S_ (constant S_ .f32 0x00000000#32)) reduceWindows_S16x4224x4224_S16x4224x4224_w1s1p0_0_w1s1p0_0_w4224s1p0_4223 h_S_) (qL z)))
/-- The weighted cotangents. -/
def qG (A : FVec Ideal S4224x12288 .bf16) (B : FVec Ideal S4224x2048 .bf16) : H3 :=
  mulf (select qM (Host.dotGeneral dot_S16x128x4224_S4224x16x128_S16x4224x4224_1_2_2_0_0_1 none (qD B) (qV A)) qO) (qU (qZ A))
/-- Their masked running sum. -/
def qC (g : H3) : H3 :=
  select qM (addf (Host.negf g) (Host.reduceWindowAdd ![1, 1, 4224] ![1, 1, 1] ![0, 0, 4223] ![0, 0, 0] g (broadcastInDim S_ ![] bcast_S_S_ (constant S_ .f32 0x00000000#32)) reduceWindows_S16x4224x4224_S16x4224x4224_w1s1p0_0_w1s1p0_0_w4224s1p4223_0 h_S_)) qO
/-- The cotangents of the scores before scaling. -/
def qW (z g : H3) : H3 :=
  mulf (addf (Host.negf (Host.negf (mulf (Host.negf (qC g)) (qSg (Host.negf (Host.negf z)))))) (Host.negf (mulf (Host.negf g) (qSg (Host.negf z))))) qS
/-- The three results. -/
def qDv (A : FVec Ideal S4224x12288 .bf16) (B : FVec Ideal S4224x2048 .bf16) : FVec Ideal S4224x2048 .f32 :=
  shapeCast S4224x2048 (transpose S4224x16x128 [2, 0, 1] (Host.dotGeneral dot_S16x128x4224_S16x4224x4224_S16x128x4224_2_1_1_2_0_0 none (qD B) (select qM (qU (qZ A)) qO)) transposes_S16x128x4224_S4224x16x128_2_0_1) shapeCasts_S4224x16x128_S4224x2048
def qDk (A : FVec Ideal S4224x12288 .bf16) (B : FVec Ideal S4224x2048 .bf16) : FVec Ideal S4224x2048 .f32 :=
  shapeCast S4224x2048 (transpose S4224x16x128 [1, 0, 2] (Host.dotGeneral (φ₁ := .f32) (φ₂ := .f32) dot_S16x4224x4224_S4224x16x128_S16x4224x128_1_0_2_2_0_1 none (qW (qZ A) (qG A B)) (qQ A)) transposes_S16x4224x128_S4224x16x128_1_0_2) shapeCasts_S4224x16x128_S4224x2048
def qDq (A : FVec Ideal S4224x12288 .bf16) (B : FVec Ideal S4224x2048 .bf16) : FVec Ideal S4224x2048 .bf16 :=
  truncf .bf16 (shapeCast S4224x2048 (transpose S4224x16x128 [1, 0, 2] (Host.dotGeneral (φ₁ := .f32) (φ₂ := .f32) dot_S16x4224x4224_S4224x16x128_S16x4224x128_2_0_1_2_0_1 none (qW (qZ A) (qG A B)) (qK A)) transposes_S16x4224x128_S4224x16x128_1_0_2) shapeCasts_S4224x16x128_S4224x2048) bitsLt_bf16_f32

section
variable (m : (ℓ : Loc nD τ sig) → Buf (Elt Ideal) ℓ) (c : Dev nD)
/-- What the reference returns, by the names above. -/
theorem res_dv : Cert.ReferenceIdeal.Value.res_out2 (F := Ideal) m c = qDv (m ((c.tc : Thread nD τ).loc main_arg0)) (m ((c.tc : Thread nD τ).loc main_arg1)) := rfl
theorem res_dk : Cert.ReferenceIdeal.Value.res_out1 (F := Ideal) m c = qDk (m ((c.tc : Thread nD τ).loc main_arg0)) (m ((c.tc : Thread nD τ).loc main_arg1)) := rfl
theorem res_dq : Cert.ReferenceIdeal.Value.res_out0 (F := Ideal) m c = qDq (m ((c.tc : Thread nD τ).loc main_arg0)) (m ((c.tc : Thread nD τ).loc main_arg1)) := rfl
end

theorem qO_up : qO = up3 fun _ _ _ => 0 := by
  funext j; exact Ideal.ofBits_zero_f32
theorem qS_up : qS = up3 fun _ _ _ => sc := by
  funext j; exact sc_eq
theorem qM_sel (X Y : ℕ → ℕ → ℕ → ℝ) : select qM (up3 X) (up3 Y) = (up3 fun x y z => if z < y then X x y z else Y x y z : S16x4224x4224.Idx → EReal) :=
  r_mask X Y _ _ _ _ _
theorem qI_sel (X Y Z : ℕ → ℕ → ℕ → ℝ) : select (cmpf (F := Ideal) (φ := .f32) .oeq (up3 X) qI) (up3 Y) (up3 Z) = (up3 Z : S16x4224x4224.Idx → EReal) :=
  h_oeq X _ _ _

/-- The softplus of reals. -/
def rsp (x : ℝ) : ℝ := max x 0 + Real.log (1 + Real.exp (-|x - 0|))

theorem qSp_up (X : ℕ → ℕ → ℕ → ℝ) : qSp (up3 X) = up3 fun x y z => rsp (X x y z) := by
  unfold qSp
  simp only [qO_up, h_subf, h_addf, h_max, h_abs, h_negf, h_exp, h_log1p, h_une]
  rfl
theorem qSg_up (X : ℕ → ℕ → ℕ → ℝ) : qSg (up3 X) = up3 fun x y z => Real.exp (X x y z - rsp (X x y z)) := by
  unfold qSg
  rw [qSp_up, qO_up, qI_sel, qI_sel, h_subf, h_exp]

theorem qQ_up (PR : ℕ → ℕ → ℝ) : qQ (up2 PR) = up3 fun t e d => col 4096 PR e t d := by
  unfold qQ; rw [r_extf, r_head _ 4096 (by norm_num)]
theorem qK_up (PR : ℕ → ℕ → ℝ) : qK (up2 PR) = up3 fun t e d => col 6144 PR e t d := by
  unfold qK; rw [r_extf, r_head _ 6144 (by norm_num)]
theorem qV_up (PR : ℕ → ℕ → ℝ) : qV (up2 PR) = up3 fun t e d => col 8192 PR e t d := by
  unfold qV; rw [r_extf, r_head _ 8192 (by norm_num)]
theorem qD_up (DR : ℕ → ℕ → ℝ) : qD (up2 DR) = up3 fun e d t => hd e DR t d := by
  unfold qD; rw [r_extf, r_heads, r_t120]

theorem qZ_up (PR : ℕ → ℕ → ℝ) : qZ (up2 PR) = up3 fun h t s => rZ (col 4096 PR h) (col 6144 PR h) t s := by
  unfold qZ
  rw [qQ_up, qK_up, r_dot_qk, qS_up, h_mulf]
  rfl

variable (PR DR : ℕ → ℕ → ℝ)

/-- The logarithms' sum over the keys before a query. -/
def tot (h t : ℕ) : ℝ := cs (gL (col 4096 PR h) (col 6144 PR h) t) 4224
/-- One head's masked logarithms, weights, weighted cotangents and scores' cotangents. -/
def wL (h t s : ℕ) : ℝ := gL (col 4096 PR h) (col 6144 PR h) t s
def wA (h t s : ℕ) : ℝ := gA (col 4096 PR h) (col 6144 PR h) (tot PR h) t s
def wG (h t s : ℕ) : ℝ := gG (col 4096 PR h) (col 6144 PR h) (col 8192 PR h) (hd h DR) (tot PR h) t s
def wDz (h t s : ℕ) : ℝ := gDz (col 4096 PR h) (col 6144 PR h) (col 8192 PR h) (hd h DR) (tot PR h) t s

theorem qL_up : qL (qZ (up2 PR)) = up3 (wL PR) := by
  unfold qL
  rw [qZ_up, h_negf, h_negf, qSp_up, h_negf, qO_up, qM_sel]
  refine up3_congr fun x _ y _ z _ => ?_
  unfold wL gL
  exact if_congr Iff.rfl (lsg_sub _) rfl

theorem qU_up : qU (qZ (up2 PR)) = up3 fun h t s => Real.exp (lsg (rZ (col 4096 PR h) (col 6144 PR h) t s) + (tot PR h t - cs (wL PR h t) (s + 1))) := by
  unfold qU
  rw [qL_up, h_rev _ _ _ _ _ (r_init _), qZ_up, h_negf, qSp_up, h_negf, h_subf, h_addf, h_exp]
  refine up3_congr fun x _ y _ z _ => ?_
  rw [cs_add _ z 1]
  congr 1
  refine congrArg₂ (· + ·) (lsg_sp _) ?_
  unfold tot
  simp only [cs, Finset.sum_range_one, add_zero, wL]
  ring

theorem qA_up : select qM (qU (qZ (up2 PR))) qO = up3 (wA PR) := by
  rw [qU_up, qO_up, qM_sel]
  rfl

theorem qG_up : qG (up2 PR) (up2 DR) = up3 (wG PR DR) := by
  unfold qG
  rw [qD_up, qV_up, r_dot_dv, qO_up, qM_sel, qU_up, h_mulf]
  refine up3_congr fun x _ y _ z _ => ?_
  unfold wG gG gA
  split_ifs with h
  · rw [mul_comm]; rfl
  · rw [zero_mul, zero_mul]

theorem qC_up (G : ℕ → ℕ → ℕ → ℝ) : qC (up3 G) = up3 fun h t s => if s < t then cs (G h t) s else 0 := by
  unfold qC
  rw [h_fwd _ _ _ _ _ (r_init _), h_negf, h_addf, qO_up, qM_sel]
  refine up3_congr fun x _ y _ z _ => if_congr Iff.rfl ?_ rfl
  rw [cs_add _ z 1]
  simp [cs]

theorem qW_up : qW (qZ (up2 PR)) (qG (up2 PR) (up2 DR)) = up3 (wDz PR DR) := by
  unfold qW
  rw [qG_up, qC_up, qZ_up]
  simp only [h_negf, qSg_up, h_mulf, h_addf, qS_up]
  refine up3_congr fun x _ y _ z _ => ?_
  have e1 := one_sub_sig (rZ (col 4096 PR x) (col 6144 PR x) y z)
  have e2 := sig_sp (rZ (col 4096 PR x) (col 6144 PR x) y z)
  unfold rsp
  rw [e1, e2]
  unfold wDz gDz
  split_ifs with h
  · unfold wG; ring
  · unfold wG gG gA; rw [if_neg h]; ring

/-- The reference's results on reals. -/
theorem qDv_up : qDv (up2 PR) (up2 DR) = up2 fun s c => cs (fun t => wA PR (c / 128) t s * hd (c / 128) DR t (c % 128)) 4224 := by
  unfold qDv
  rw [qA_up, qD_up, r_dot_da, r_t201, r_unheads]
  refine up2_congr fun s _ c _ => ?_
  unfold cs
  exact Finset.sum_congr rfl fun t _ => mul_comm _ _
theorem qDk_up : qDk (up2 PR) (up2 DR) = up2 fun s c => cs (fun t => wDz PR DR (c / 128) t s * col 4096 PR (c / 128) t (c % 128)) 4224 := by
  unfold qDk
  rw [qW_up, qQ_up, r_dot_zq, r_t102, r_unheads]
  rfl
theorem qDq_up : qDq (up2 PR) (up2 DR) = up2 fun t c => cs (fun s => wDz PR DR (c / 128) t s * col 6144 PR (c / 128) s (c % 128)) 4224 := by
  unfold qDq
  rw [qW_up, qK_up, r_dot_zk, r_t102, r_unheads]
  rfl

end Cert.Stick
-- ==== Proof.Prefix.lean ====
module

public import proofs.«01_k».proof.Proof.Ref
public import proofs.«01_k».proof.Proof.Gen.KernelIdeal.Value
public import Idealize.ShloMosaic.Lib.Claim

/-! What the host code before the call leaves: two constant tables, and the sum of each query's logarithms. -/

@[expose] public section

set_option maxRecDepth 16384

noncomputable section

namespace Cert.Stick

open Idealize.ShloMosaic Idealize.ShloMosaic.TcCoe Cert.KernelIdeal Cert.KernelIdeal.Gen

variable (m : (ℓ : Loc nD τ sig) → Buf (Elt Ideal) ℓ) (c : Dev nD)

/-- The first table, by its words. -/
theorem V_cst : V m c main_cst = fun i => FloatOps.ofBits (F := Ideal) .bf16 (lit0 (S256x128.rowMajor i)) := by
  show StableHlo.after _ _ _ = _
  simp only [V, hostOps0, hostOps0_1, hostOps0_2, hostOps0_3, hostOps0_4, List.flatten_cons, List.flatten_nil, List.append_nil, List.cons_append, List.nil_append]
  entry_read
  rfl

/-- The second table, by its words. -/
theorem V_cst0 : V m c main_cst_0 = fun i => FloatOps.ofBits (F := Ideal) .bf16 (lit1 (S128x128.rowMajor i)) := by
  show StableHlo.after _ _ _ = _
  simp only [V, hostOps0, hostOps0_1, hostOps0_2, hostOps0_3, hostOps0_4, List.flatten_cons, List.flatten_nil, List.append_nil, List.cons_append, List.nil_append]
  entry_read
  rfl

/-- The sums of the masked logarithms, as the host code computes them. -/
theorem V_tot : V m c main_v18 = broadcastInDim S16x4224x1 ![0, 1] bcast_S16x4224_S16x4224x1_0_1
    (Host.reduceAdd (F := Ideal) (φ := .f32) (qL (qZ (m ((c.tc : Thread nD τ).loc main_arg0)))) (constant S_ .f32 0x00000000#32) reducesTo_S16x4224x4224_S16x4224_d2 h_S_) := by
  show StableHlo.after _ _ _ = _
  simp only [V, hostOps0, hostOps0_1, hostOps0_2, hostOps0_3, hostOps0_4, List.flatten_cons, List.flatten_nil, List.append_nil, List.cons_append, List.nil_append]
  entry_read
  rfl

/-- The sums on reals. -/
theorem V_tot_up (PR : ℕ → ℕ → ℝ) (h0 : m ((c.tc : Thread nD τ).loc main_arg0) = (up2 PR : S4224x12288.Idx → EReal)) :
    V m c main_v18 = (up3 fun h t _ => tot PR h t : S16x4224x1.Idx → EReal) := by
  rw [V_tot, h0, qL_up]
  funext j; idx_vars j; pointwise; simp only [up3_ix3]
  unfold tot cs
  rw [Finset.sum_range, coe_sum]
  rfl

end Cert.Stick
-- ==== Proof.Loop.lean ====
module

public import proofs.«01_k».proof.Proof.Store

/-! The loop over the earlier key blocks on real numbers, by induction on the trips. -/

@[expose] public section

set_option maxRecDepth 16384

noncomputable section

namespace Cert.Stick

open Idealize.ShloMosaic Cert.KernelIdeal Cert.KernelIdeal.Gen

namespace Pair
variable (p : Pair) (e : ℕ)
/-- The keys' cotangent of both heads before query block `i`. -/
def fK (i s c : ℕ) : ℝ := cK (hd (c / 128) p.Q) (hd (c / 128) p.K) (hd (c / 128) p.V) (hd (c / 128) p.D) (p.T (c / 128)) i s (c % 128)
/-- The values' cotangent of both heads before query block `i`. -/
def fV (i s c : ℕ) : ℝ := cV (hd (c / 128) p.Q) (hd (c / 128) p.K) (hd (c / 128) p.D) (p.T (c / 128)) i s (c % 128)
/-- The queries' cotangent of both heads in block `i` before key block `n`. -/
def fQ (i n r c : ℕ) : ℝ := cQ (hd (c / 128) p.Q) (hd (c / 128) p.K) (hd (c / 128) p.V) (hd (c / 128) p.D) (p.T (c / 128)) i n r (c % 128)

/-- The carried values in block `i` before key block `n`. -/
def car (i n : ℕ) : Carry Ideal :=
  (up2 (cP (hd 0 p.Q) (hd 0 p.K) i n), up2 (cC (hd 0 p.Q) (hd 0 p.K) (hd 0 p.V) (hd 0 p.D) (p.T 0) i n), up2 (cQ (hd 0 p.Q) (hd 0 p.K) (hd 0 p.V) (hd 0 p.D) (p.T 0) i n),
   up2 (cP (hd 1 p.Q) (hd 1 p.K) i n), up2 (cC (hd 1 p.Q) (hd 1 p.K) (hd 1 p.V) (hd 1 p.D) (p.T 1) i n), up2 (cQ (hd 1 p.Q) (hd 1 p.K) (hd 1 p.V) (hd 1 p.D) (p.T 1) i n))
end Pair

/-- One head of the two, in a block. -/
theorem blk_hd0 (n : ℕ) (f g : ℕ → ℕ → ℝ) (h : ∀ s, ∀ d < 128, f s d = g s d) :
    (up2 (blk n (hd 0 f)) : S384x128.Idx → EReal) = up2 (blk n g) :=
  up2_congr fun r _ c hc => by
    unfold blk hd
    rw [show 128 * 0 + c = c from by omega]
    exact h _ c hc

theorem blk_hd1 (n : ℕ) (f g : ℕ → ℕ → ℝ) (h : ∀ s, ∀ d < 128, f s (128 + d) = g s d) :
    (up2 (blk n (hd 1 f)) : S384x128.Idx → EReal) = up2 (blk n g) :=
  up2_congr fun r _ c hc => by
    unfold blk hd
    rw [show 128 * 1 + c = 128 + c from by omega]
    exact h _ c hc

theorem fK0 (p : Pair) (n i : ℕ) : (up2 (blk n (hd 0 (p.fK i))) : S384x128.Idx → EReal) = up2 (blk n (cK (hd 0 p.Q) (hd 0 p.K) (hd 0 p.V) (hd 0 p.D) (p.T 0) i)) :=
  blk_hd0 n _ _ fun s d hd => by
    unfold Pair.fK
    rw [Nat.div_eq_of_lt hd, Nat.mod_eq_of_lt hd]

theorem fK1 (p : Pair) (n i : ℕ) : (up2 (blk n (hd 1 (p.fK i))) : S384x128.Idx → EReal) = up2 (blk n (cK (hd 1 p.Q) (hd 1 p.K) (hd 1 p.V) (hd 1 p.D) (p.T 1) i)) :=
  blk_hd1 n _ _ fun s d hd => by
    unfold Pair.fK
    rw [show (128 + d) / 128 = 1 by omega, show (128 + d) % 128 = d by omega]

theorem fV0 (p : Pair) (n i : ℕ) : (up2 (blk n (hd 0 (p.fV i))) : S384x128.Idx → EReal) = up2 (blk n (cV (hd 0 p.Q) (hd 0 p.K) (hd 0 p.D) (p.T 0) i)) :=
  blk_hd0 n _ _ fun s d hd => by
    unfold Pair.fV
    rw [Nat.div_eq_of_lt hd, Nat.mod_eq_of_lt hd]

theorem fV1 (p : Pair) (n i : ℕ) : (up2 (blk n (hd 1 (p.fV i))) : S384x128.Idx → EReal) = up2 (blk n (cV (hd 1 p.Q) (hd 1 p.K) (hd 1 p.D) (p.T 1) i)) :=
  blk_hd1 n _ _ fun s d hd => by
    unfold Pair.fV
    rw [show (128 + d) / 128 = 1 by omega, show (128 + d) % 128 = d by omega]

/-- The loop makes as many trips as there are earlier blocks. -/
theorem trips1 (i : grid0.Coords) : (k0_t1_loop i).trips = (i 1).val := by
  have h_c0 : Affine.IsInt 0#32 (0) := Affine.ofNat _ (by omega)
  have r_i1 : (i 1).val < 11 := (i 1).isLt
  have h_arg1 : Affine.IsInt (BitVec.ofNat 32 (i 1).val) (((i 1).val : Int)) := Affine.ofNat _ (by omega)
  have h_v14 : Affine.IsInt _ (((i 1).val : Int)) := Affine.subi h_arg1 h_c0 (by omega)
  have h_c1 : Affine.IsInt 1#32 (1) := Affine.ofNat _ (by omega)
  have h_v16 : Affine.IsInt _ (((i 1).val : Int)) := Affine.divsi h_v14 h_c1 (by omega)
  have h_v17 : Affine.IsInt _ (((i 1).val : Int)) := Affine.muli h_v16 h_c1 (by omega)
  have h_v18 : Affine.IsInt _ (((i 1).val : Int)) := Affine.addi h_c0 h_v17 (by omega)
  exact Affine.trips_eq h_c0 h_v18 h_c1 _ (by omega)

/-- The second loop makes no trip. -/
theorem trips2 (i : grid0.Coords) : (k0_t2_loop i).trips = 0 := Nat.le_zero.mp (k0_t2_abs i).2.1

/-- The carried values before the first trip are zero. -/
theorem init0_up (p : Pair) (i : ℕ) : init0 (F := Ideal) = p.car i 0 := by
  have h : ∀ {a b : ℕ} (X : ℕ → ℕ → ℝ) (_ : ∀ r c, X r c = 0),
      (broadcast ⟨2, ![a, b]⟩ (Scalar.ofBits (F := Ideal) .f32 0x00000000#32) : (⟨2, ![a, b]⟩ : Shape).Idx → EReal) = up2 X := by
    intro a b X hX
    funext j
    show Ideal.ofBits .f32 0x00000000#32 = _
    rw [Ideal.ofBits_zero_f32]
    unfold up2
    rw [hX]; rfl
  unfold init0 Pair.car k0_pay126 k0_pay127 k0_pay128 k0_pay129 k0_pay130 k0_pay131
  refine Prod.ext (h _ fun _ _ => ?_) (Prod.ext (h _ fun _ _ => ?_) (Prod.ext (h _ fun _ _ => ?_) (Prod.ext (h _ fun _ _ => ?_) (Prod.ext (h _ fun _ _ => ?_) (h _ fun _ _ => ?_)))))
  all_goals
    first
    | unfold cP
    | unfold cC
    | unfold cQ
    exact cs_zero _

section
variable {msk : Sq Ideal → Sq Ideal} {M : ℕ → ℕ → Prop} [∀ r c, Decidable (M r c)] (hm : Masks msk M)
variable {p : Pair} {i n : ℕ} (hM : ∀ r < 384, ∀ c < 384, (M r c ↔ 384 * n + c < 384 * i + r))
variable {v3 : Vec Ideal S256x128 .bf16} {v4 : Vec Ideal S128x128 .bf16} (hv3 : v3 = (up2 tri3 : S256x128.Idx → EReal)) (hv4 : v4 = (up2 tri4 : S128x128.Idx → EReal))
variable {q k v d q' k' v' d' : Hb Ideal} {t t' : Col Ideal} {c : Carry Ideal} {old : Hd Ideal} (hc : c = p.car i n)
variable (hq : q = up2 (blk i (hd 0 p.Q))) (hk : k = up2 (blk n (hd 0 p.K))) (hv : v = up2 (blk n (hd 0 p.V))) (hd' : d = up2 (blk i (hd 0 p.D))) (ht : t = up2 (tb (p.T 0) i))
variable (hq' : q' = up2 (blk i (hd 1 p.Q))) (hk' : k' = up2 (blk n (hd 1 p.K))) (hv' : v' = up2 (blk n (hd 1 p.V))) (hd'' : d' = up2 (blk i (hd 1 p.D))) (ht' : t' = up2 (tb (p.T 1) i))

include hm hM hv3 hv4 hc hq hk hv hd' ht in
/-- One block's keys' cotangent, first head. -/
theorem dk0 (ho : old = up2 (blk n (hd 0 (p.fK i)))) : hDk msk v3 v4 q k v d t c.1 c.2.1 old = up2 (blk n (hd 0 (p.fK (i + 1)))) := by
  subst hv3 hv4 hc hq hk hv hd' ht ho
  rw [fK0, fK0]
  exact hDk_blk hm _ _ _ _ _ _ _ hM

include hm hM hv3 hc hq hk hd' ht in
/-- One block's values' cotangent, first head. -/
theorem dv0 (ho : old = up2 (blk n (hd 0 (p.fV i)))) : hDv msk v3 q k d t c.1 old = up2 (blk n (hd 0 (p.fV (i + 1)))) := by
  subst hv3 hc hq hk hd' ht ho
  rw [fV0, fV0]
  exact hDv_blk hm _ _ _ _ _ _ hM

include hm hM hv3 hv4 hc hq' hk' hv' hd'' ht' in
/-- One block's keys' cotangent, second head. -/
theorem dk1 (ho : old = up2 (blk n (hd 1 (p.fK i)))) : hDk msk v3 v4 q' k' v' d' t' c.2.2.2.1 c.2.2.2.2.1 old = up2 (blk n (hd 1 (p.fK (i + 1)))) := by
  subst hv3 hv4 hc hq' hk' hv' hd'' ht' ho
  rw [fK1, fK1]
  exact hDk_blk hm _ _ _ _ _ _ _ hM

include hm hM hv3 hc hq' hk' hd'' ht' in
/-- One block's values' cotangent, second head. -/
theorem dv1 (ho : old = up2 (blk n (hd 1 (p.fV i)))) : hDv msk v3 q' k' d' t' c.2.2.2.1 old = up2 (blk n (hd 1 (p.fV (i + 1)))) := by
  subst hv3 hc hq' hk' hd'' ht' ho
  rw [fV1, fV1]
  exact hDv_blk hm _ _ _ _ _ _ hM

include hm hM hv3 hv4 hc hq hk hv hd' ht in
/-- One block's queries' cotangent, first head. -/
theorem dq0 : hDq msk v3 v4 q k v d t c.1 c.2.1 c.2.2.1 = (p.car i (n + 1)).2.2.1 := by
  subst hv3 hv4 hc hq hk hv hd' ht
  exact hDq_blk hm _ _ _ _ _ _ _ hM

include hm hM hv3 hv4 hc hq' hk' hv' hd'' ht' in
/-- One block's queries' cotangent, second head. -/
theorem dq1 : hDq msk v3 v4 q' k' v' d' t' c.2.2.2.1 c.2.2.2.2.1 c.2.2.2.2.2 = (p.car i (n + 1)).2.2.2.2.2 := by
  subst hv3 hv4 hc hq' hk' hv' hd'' ht'
  exact hDq_blk hm _ _ _ _ _ _ _ hM

include hm hM hv3 hv4 hc hq hk hv hd' ht hq' hk' hv' hd'' ht' in
/-- What one block hands on. -/
theorem car_succ : ((hPc msk v3 q k c.1, hGc msk v3 v4 q k v d t c.1 c.2.1, hDq msk v3 v4 q k v d t c.1 c.2.1 c.2.2.1,
    hPc msk v3 q' k' c.2.2.2.1, hGc msk v3 v4 q' k' v' d' t' c.2.2.2.1 c.2.2.2.2.1, hDq msk v3 v4 q' k' v' d' t' c.2.2.2.1 c.2.2.2.2.1 c.2.2.2.2.2) : Carry Ideal) = p.car i (n + 1) := by
  subst hv3 hv4 hc hq hk hv hd' ht hq' hk' hv' hd'' ht'
  exact Prod.ext (hPc_blk hm _ _ _ _ hM) (Prod.ext (hGc_blk hm _ _ _ _ _ _ _ hM) (Prod.ext (hDq_blk hm _ _ _ _ _ _ _ hM)
    (Prod.ext (hPc_blk hm _ _ _ _ hM) (Prod.ext (hGc_blk hm _ _ _ _ _ _ _ hM) (hDq_blk hm _ _ _ _ _ _ _ hM)))))
end

section
variable (𝒱 : Variants) (c : Dev nD) (bd : Option 𝒱.V) (i : grid0.Coords) (arg2 : Memref sig .tc .vmem S384x256 .bf16) (harg2 : arg2.IsWhole) (arg3 : Memref sig .tc .vmem S4224x256 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S2x384x1 .f32) (harg6 : arg6.IsWhole) (arg7 : Memref sig .tc .vmem S256x128 .bf16) (harg7 : arg7.IsWhole) (arg8 : Memref sig .tc .vmem S128x128 .bf16) (harg8 : arg8.IsWhole) (arg9 : Memref sig .tc .vmem S384x256 .bf16) (harg9 : arg9.IsWhole) (arg10 : Memref sig .tc .vmem S4224x256 .f32) (harg10 : arg10.IsWhole) (arg11 : Memref sig .tc .vmem S4224x256 .f32) (harg11 : arg11.IsWhole) (v3 : Vec Ideal S256x128 .bf16) (v4 : Vec Ideal S128x128 .bf16) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (G_arg10 : BufTy.Contents (Elt Ideal) arg10.view.ty) (G_arg11 : BufTy.Contents (Elt Ideal) arg11.view.ty)
variable (p : Pair)
/-- What the body finds in its operands at query block `(i 1)`. -/
structure Ops : Prop where
  h2 : arg2.view.read (Elt Ideal) X_arg2 = up2 (blk (i 1).val p.Q)
  h3 : arg3.view.read (Elt Ideal) X_arg3 = up2 p.K
  h4 : arg4.view.read (Elt Ideal) X_arg4 = up2 p.V
  h5 : arg5.view.read (Elt Ideal) X_arg5 = up2 (blk (i 1).val p.D)
  h6 : arg6.view.read (Elt Ideal) X_arg6 = fun j : S2x384x1.Idx => ((p.T (j 0).val (384 * (i 1).val + (j 1).val) : ℝ) : EReal)
end

section
variable (𝒱 : Variants) (c : Dev nD) (bd : Option 𝒱.V) (i : grid0.Coords) (arg2 : Memref sig .tc .vmem S384x256 .bf16) (harg2 : arg2.IsWhole) (arg3 : Memref sig .tc .vmem S4224x256 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S2x384x1 .f32) (harg6 : arg6.IsWhole) (arg7 : Memref sig .tc .vmem S256x128 .bf16) (harg7 : arg7.IsWhole) (arg8 : Memref sig .tc .vmem S128x128 .bf16) (harg8 : arg8.IsWhole) (arg9 : Memref sig .tc .vmem S384x256 .bf16) (harg9 : arg9.IsWhole) (arg10 : Memref sig .tc .vmem S4224x256 .f32) (harg10 : arg10.IsWhole) (arg11 : Memref sig .tc .vmem S4224x256 .f32) (harg11 : arg11.IsWhole) (v3 : Vec Ideal S256x128 .bf16) (v4 : Vec Ideal S128x128 .bf16) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (G_arg10 : BufTy.Contents (Elt Ideal) arg10.view.ty) (G_arg11 : BufTy.Contents (Elt Ideal) arg11.view.ty)
variable (p : Pair) (ho : Ops i arg2 arg3 arg4 arg5 arg6 X_arg2 X_arg3 X_arg4 X_arg5 X_arg6 p)
include ho

theorem ldQ0_up : ldQ0 (F := Ideal) arg2 X_arg2 = up2 (blk (i 1).val (hd 0 p.Q)) := by
  unfold ldQ0
  rw [View.readAt_unit _ _ _ rfl inb_S384x256_S384x128_0_0, ho.h2]
  exact window_up _ _ _ _ _ rfl _ fun r _ c _ => by unfold blk hd; congr 1 <;> omega
theorem ldQ1_up : ldQ1 (F := Ideal) arg2 X_arg2 = up2 (blk (i 1).val (hd 1 p.Q)) := by
  unfold ldQ1
  rw [View.readAt_unit _ _ _ rfl inb_S384x256_S384x128_0_128, ho.h2]
  exact window_up _ _ _ _ _ rfl _ fun r _ c _ => by unfold blk hd; congr 1 <;> omega
theorem ldD0_up : ldD0 (F := Ideal) arg5 X_arg5 = up2 (blk (i 1).val (hd 0 p.D)) := by
  unfold ldD0
  rw [View.readAt_unit _ _ _ rfl inb_S384x256_S384x128_0_0, ho.h5]
  exact window_up _ _ _ _ _ rfl _ fun r _ c _ => by unfold blk hd; congr 1 <;> omega
theorem ldD1_up : ldD1 (F := Ideal) arg5 X_arg5 = up2 (blk (i 1).val (hd 1 p.D)) := by
  unfold ldD1
  rw [View.readAt_unit _ _ _ rfl inb_S384x256_S384x128_0_128, ho.h5]
  exact window_up _ _ _ _ _ rfl _ fun r _ c _ => by unfold blk hd; congr 1 <;> omega
theorem ldT0_up : ldT0 (F := Ideal) arg6 X_arg6 = up2 (tb (p.T 0) (i 1).val) := by
  unfold ldT0 colOf
  rw [View.readAt_unit _ _ _ rfl inb_S2x384x1_S1x384x1_0_0_0, ho.h6]
  funext j; idx_vars j; pointwise
  refine congrArg Real.toEReal ?_
  show p.T 0 (384 * (i 1).val + (0 + 1 * j0.val)) = p.T 0 (384 * (i 1).val + j0.val)
  rw [Nat.zero_add, Nat.one_mul]
theorem ldT1_up : ldT1 (F := Ideal) arg6 X_arg6 = up2 (tb (p.T 1) (i 1).val) := by
  unfold ldT1 colOf
  rw [View.readAt_unit _ _ _ rfl inb_S2x384x1_S1x384x1_1_0_0, ho.h6]
  funext j; idx_vars j; pointwise
  refine congrArg Real.toEReal ?_
  show p.T 1 (384 * (i 1).val + (0 + 1 * j0.val)) = p.T 1 (384 * (i 1).val + j0.val)
  rw [Nat.zero_add, Nat.one_mul]

section
variable {off : Fin 2 → ℕ} (n : ℕ)
theorem ldK_up (e : ℕ) (he : off = ![384 * n, 128 * e]) (inb : ∀ j, off j + (![384, 128] : Fin 2 → ℕ) j ≤ S4224x256.size j) :
    View.readAt (Elt Ideal) arg3.view (Rect.unit (s := S4224x256) off ![384, 128] inb).toLoadRect X_arg3 = (up2 (blk n (hd e p.K)) : S384x128.Idx → EReal) := by
  subst he
  rw [View.readAt_unit _ _ _ rfl inb, ho.h3]
  exact window_up _ _ _ _ _ rfl _ fun r _ c _ => rfl
theorem ldV_up (e : ℕ) (he : off = ![384 * n, 128 * e]) (inb : ∀ j, off j + (![384, 128] : Fin 2 → ℕ) j ≤ S4224x256.size j) :
    View.readAt (Elt Ideal) arg4.view (Rect.unit (s := S4224x256) off ![384, 128] inb).toLoadRect X_arg4 = (up2 (blk n (hd e p.V)) : S384x128.Idx → EReal) := by
  subst he
  rw [View.readAt_unit _ _ _ rfl inb, ho.h4]
  exact window_up _ _ _ _ _ rfl _ fun r _ c _ => rfl
end

/-- The state after `n` trips: the carried values, and the accumulated cotangents moved on in the first `n` key blocks. -/
theorem loop_up (hv3 : v3 = (up2 tri3 : S256x128.Idx → EReal)) (hv4 : v4 = (up2 tri4 : S128x128.Idx → EReal))
    (hG10 : arg10.view.read (Elt Ideal) G_arg10 = up2 (buf p.fK (i 1).val 0 0)) (hG11 : arg11.view.read (Elt Ideal) G_arg11 = up2 (buf p.fV (i 1).val 0 0))
    (n : ℕ) (hn : n ≤ (k0_t1_loop i).trips) :
    (st_k0_t1 (F := Ideal) 𝒱 c bd i arg2 harg2 arg3 harg3 arg4 harg4 arg5 harg5 arg6 harg6 arg7 harg7 arg8 harg8 arg9 harg9 arg10 harg10 arg11 harg11 v3 v4 X_arg2 X_arg3 X_arg4 X_arg5 X_arg6 G_arg10 G_arg11 init0 n).1 = p.car (i 1).val n ∧
    arg10.view.read (Elt Ideal) (arg10.view.writes (Elt Ideal) G_arg10 (st_k0_t1 (F := Ideal) 𝒱 c bd i arg2 harg2 arg3 harg3 arg4 harg4 arg5 harg5 arg6 harg6 arg7 harg7 arg8 harg8 arg9 harg9 arg10 harg10 arg11 harg11 v3 v4 X_arg2 X_arg3 X_arg4 X_arg5 X_arg6 G_arg10 G_arg11 init0 n).2.1) = up2 (buf p.fK (i 1).val n n) ∧
    arg11.view.read (Elt Ideal) (arg11.view.writes (Elt Ideal) G_arg11 (st_k0_t1 (F := Ideal) 𝒱 c bd i arg2 harg2 arg3 harg3 arg4 harg4 arg5 harg5 arg6 harg6 arg7 harg7 arg8 harg8 arg9 harg9 arg10 harg10 arg11 harg11 v3 v4 X_arg2 X_arg3 X_arg4 X_arg5 X_arg6 G_arg10 G_arg11 init0 n).2.2) = up2 (buf p.fV (i 1).val n n) := by
  induction n with
  | zero => exact ⟨init0_up p _, hG10, hG11⟩
  | succ n ih =>
    have hk : n < (k0_t1_loop i).trips := hn
    have hlt : n < (i 1).val := trips1 i ▸ hk
    have hM : ∀ r < 384, ∀ c < 384, (True ↔ 384 * n + c < 384 * (i 1).val + r) := fun r _ c hc => ⟨fun _ => by omega, fun _ => trivial⟩
    obtain ⟨ih1, ih2, ih3⟩ := ih (le_of_lt hk)
    have hs := st_k0_t1_succ (F := Ideal) 𝒱 c bd i arg2 harg2 arg3 harg3 arg4 harg4 arg5 harg5 arg6 harg6 arg7 harg7 arg8 harg8 arg9 harg9 arg10 harg10 arg11 harg11 v3 v4 X_arg2 X_arg3 X_arg4 X_arg5 X_arg6 G_arg10 G_arg11 init0 ⟨n, hk⟩
    rw [show n + 1 = (⟨n, hk⟩ : Fin _).val + 1 from rfl, hs]
    have o1 := k0_off1_eq i ⟨n, hk⟩
    have o2 := k0_off2_eq i ⟨n, hk⟩
    have K0 := ldK_up i arg2 arg3 arg4 arg5 arg6 X_arg2 X_arg3 X_arg4 X_arg5 X_arg6 p ho n 0 o1 (k0_off1_inb i ⟨n, hk⟩)
    have K1 := ldK_up i arg2 arg3 arg4 arg5 arg6 X_arg2 X_arg3 X_arg4 X_arg5 X_arg6 p ho n 1 o2 (k0_off2_inb i ⟨n, hk⟩)
    have V0 := ldV_up i arg2 arg3 arg4 arg5 arg6 X_arg2 X_arg3 X_arg4 X_arg5 X_arg6 p ho n 0 o1 (k0_off1_inb i ⟨n, hk⟩)
    have V1 := ldV_up i arg2 arg3 arg4 arg5 arg6 X_arg2 X_arg3 X_arg4 X_arg5 X_arg6 p ho n 1 o2 (k0_off2_inb i ⟨n, hk⟩)
    have Q0 := ldQ0_up i arg2 arg3 arg4 arg5 arg6 X_arg2 X_arg3 X_arg4 X_arg5 X_arg6 p ho
    have Q1 := ldQ1_up i arg2 arg3 arg4 arg5 arg6 X_arg2 X_arg3 X_arg4 X_arg5 X_arg6 p ho
    have D0 := ldD0_up i arg2 arg3 arg4 arg5 arg6 X_arg2 X_arg3 X_arg4 X_arg5 X_arg6 p ho
    have D1 := ldD1_up i arg2 arg3 arg4 arg5 arg6 X_arg2 X_arg3 X_arg4 X_arg5 X_arg6 p ho
    have T0 := ldT0_up i arg2 arg3 arg4 arg5 arg6 X_arg2 X_arg3 X_arg4 X_arg5 X_arg6 p ho
    have T1 := ldT1_up i arg2 arg3 arg4 arg5 arg6 X_arg2 X_arg3 X_arg4 X_arg5 X_arg6 p ho
    refine ⟨?_, ?_, ?_⟩
    · refine (trip_carry 𝒱 c bd i arg2 harg2 arg3 harg3 arg4 harg4 arg5 harg5 arg6 harg6 arg7 harg7 arg8 harg8 arg9 harg9 arg10 harg10 arg11 harg11 v3 v4 X_arg2 X_arg3 X_arg4 X_arg5 X_arg6 ⟨n, hk⟩ _ _ _).trans ?_
      exact car_succ masks_id hM hv3 hv4 ih1 Q0 K0 V0 D0 T0 Q1 K1 V1 D1 T1
    · refine (congrArg (fun L => arg10.view.read (Elt Ideal) (arg10.view.writes (Elt Ideal) G_arg10 (L ++ _))) (trip_dk 𝒱 c bd i arg2 harg2 arg3 harg3 arg4 harg4 arg5 harg5 arg6 harg6 arg7 harg7 arg8 harg8 arg9 harg9 arg10 harg10 arg11 harg11 v3 v4 X_arg2 X_arg3 X_arg4 X_arg5 X_arg6 ⟨n, hk⟩ _ _ _)).trans ?_
      exact wr1 _ _ _ _ _ _ o2 _ _ (wr0 _ _ _ _ _ _ o1 _ _ ih2 _
        (dk0 masks_id hM hv3 hv4 ih1 Q0 K0 V0 D0 T0 (rd0 _ _ _ _ _ o1 _ _ ih2))) _
        (dk1 masks_id hM hv3 hv4 ih1 Q1 K1 V1 D1 T1 (rd1 _ _ _ _ _ o2 _ _ ih2))
    · refine (congrArg (fun L => arg11.view.read (Elt Ideal) (arg11.view.writes (Elt Ideal) G_arg11 (L ++ _))) (trip_dv 𝒱 c bd i arg2 harg2 arg3 harg3 arg4 harg4 arg5 harg5 arg6 harg6 arg7 harg7 arg8 harg8 arg9 harg9 arg10 harg10 arg11 harg11 v3 v4 X_arg2 X_arg3 X_arg4 X_arg5 X_arg6 ⟨n, hk⟩ _ _ _)).trans ?_
      exact wr1 _ _ _ _ _ _ o2 _ _ (wr0 _ _ _ _ _ _ o1 _ _ ih3 _
        (dv0 masks_id hM hv3 ih1 Q0 K0 D0 T0 (rd0 _ _ _ _ _ o1 _ _ ih3))) _
        (dv1 masks_id hM hv3 ih1 Q1 K1 D1 T1 (rd1 _ _ _ _ _ o2 _ _ ih3))
end

end Cert.Stick
-- ==== Proof.Out.lean ====
module

public import proofs.«01_k».proof.Proof.Loop
public import Idealize.ShloMosaic.Lib.Pipeline.FrameBody

/-! What the body leaves at one grid point, on real numbers: the accumulated cotangents of the keys and
values of two heads moved on by one query block, and the block's queries' cotangent. -/

@[expose] public section

set_option maxRecDepth 16384
set_option maxHeartbeats 1000000

noncomputable section

namespace Cert.Stick

open Idealize.ShloMosaic Cert.KernelIdeal Cert.KernelIdeal.Gen

/-- Two stores side by side fill a block of two heads. -/
theorem two_up (v : View sig .tc .vmem S384x256 .bf16) (G : v.ty.Contents (Elt Ideal)) (f : ℕ → ℕ → ℝ) (w0 w1 : S384x128.Idx → EReal)
    (inb0 : ∀ j, (![0, 0] : Fin 2 → ℕ) j + (![384, 128] : Fin 2 → ℕ) j ≤ S384x256.size j) (inb1 : ∀ j, (![0, 128] : Fin 2 → ℕ) j + (![384, 128] : Fin 2 → ℕ) j ≤ S384x256.size j)
    (h0 : w0 = up2 (hd 0 f)) (h1 : w1 = up2 (hd 1 f)) :
    v.read (Elt Ideal) (v.writes (Elt Ideal) G [⟨Rect.unit ![0, 128] ![384, 128] inb1, w1⟩, ⟨Rect.unit ![0, 0] ![384, 128] inb0, w0⟩]) = up2 f := by
  subst h0 h1
  rw [View.read_writes_cons_put v G inb1 _ _ rfl, View.read_writes_cons_put v G inb0 _ _ rfl]
  funext j
  have b0 : (j 0).val < 384 := (j 0).isLt
  have b1 : (j 1).val < 256 := (j 1).isLt
  unfold VecWindow.put
  split
  · rename_i h
    have e1 : 128 ≤ (j 1).val ∧ (j 1).val < 128 + 128 := h 1
    refine congrArg Real.toEReal ?_
    show f ((j 0).val - 0) (128 * 1 + ((j 1).val - 128)) = f (j 0).val (j 1).val
    congr 1; omega
  · rename_i h
    have e1 : (j 1).val < 128 := by
      by_contra hh
      exact h fun a => by
        match a with
        | 0 => exact ⟨Nat.zero_le _, by show (j 0).val < 0 + 384; omega⟩
        | 1 => exact ⟨by show 128 ≤ (j 1).val; omega, by show (j 1).val < 128 + 128; omega⟩
    rw [dif_pos fun a => by
        match a with
        | 0 => exact ⟨Nat.zero_le _, by show (j 0).val < 0 + 384; omega⟩
        | 1 => exact ⟨Nat.zero_le _, by show (j 1).val < 0 + 128; omega⟩]
    refine congrArg Real.toEReal ?_
    show f ((j 0).val - 0) (128 * 0 + ((j 1).val - 0)) = f (j 0).val (j 1).val
    congr 1; omega

theorem buf_start (f : ℕ → ℕ → ℕ → ℝ) (I : ℕ) : (up2 (buf f I 0 0) : S4224x256.Idx → EReal) = up2 (f I) :=
  up2_congr fun s _ c _ => by unfold buf; rw [if_neg]; split <;> omega

theorem buf_endK (p : Pair) (I : ℕ) : (up2 (buf p.fK I (I + 1) (I + 1)) : S4224x256.Idx → EReal) = up2 (p.fK (I + 1)) :=
  up2_congr fun s _ c _ => by
    unfold buf
    rw [ite_self]
    split
    · rfl
    · exact cK_late _ _ _ _ _ _ _ _ (by omega)

theorem buf_endV (p : Pair) (I : ℕ) : (up2 (buf p.fV I (I + 1) (I + 1)) : S4224x256.Idx → EReal) = up2 (p.fV (I + 1)) :=
  up2_congr fun s _ c _ => by
    unfold buf
    rw [ite_self]
    split
    · rfl
    · exact cV_late _ _ _ _ _ _ _ (by omega)

theorem zero_K (p : Pair) : (up2 (p.fK 0) : S4224x256.Idx → EReal) = k0_pay123 (F := Ideal) := by
  funext j
  show _ = Ideal.ofBits .f32 0x00000000#32
  rw [Ideal.ofBits_zero_f32]
  exact congrArg Real.toEReal (cs_zero (fun t => gDz (hd ((j 1).val / 128) p.Q) (hd ((j 1).val / 128) p.K) (hd ((j 1).val / 128) p.V) (hd ((j 1).val / 128) p.D) (p.T ((j 1).val / 128)) t (j 0).val * hd ((j 1).val / 128) p.Q t ((j 1).val % 128)))

theorem zero_V (p : Pair) : (up2 (p.fV 0) : S4224x256.Idx → EReal) = k0_pay124 (F := Ideal) := by
  funext j
  show _ = Ideal.ofBits .f32 0x00000000#32
  rw [Ideal.ofBits_zero_f32]
  exact congrArg Real.toEReal (cs_zero (fun t => gA (hd ((j 1).val / 128) p.Q) (hd ((j 1).val / 128) p.K) (p.T ((j 1).val / 128)) t (j 0).val * hd ((j 1).val / 128) p.D t ((j 1).val % 128)))

theorem car_q0 (p : Pair) (i n : ℕ) : (p.car i n).2.2.1 = up2 (hd 0 (p.fQ i n)) :=
  up2_congr fun r _ c hc => by
    unfold Pair.fQ
    have e1 : (128 * 0 + c) / 128 = 0 := by omega
    have e2 : (128 * 0 + c) % 128 = c := by omega
    show _ = cQ (hd ((128 * 0 + c) / 128) p.Q) (hd ((128 * 0 + c) / 128) p.K) (hd ((128 * 0 + c) / 128) p.V) (hd ((128 * 0 + c) / 128) p.D) (p.T ((128 * 0 + c) / 128)) i n r ((128 * 0 + c) % 128)
    rw [e1, e2]

theorem car_q1 (p : Pair) (i n : ℕ) : (p.car i n).2.2.2.2.2 = up2 (hd 1 (p.fQ i n)) :=
  up2_congr fun r _ c hc => by
    unfold Pair.fQ
    have e1 : (128 * 1 + c) / 128 = 1 := by omega
    have e2 : (128 * 1 + c) % 128 = c := by omega
    show _ = cQ (hd ((128 * 1 + c) / 128) p.Q) (hd ((128 * 1 + c) / 128) p.K) (hd ((128 * 1 + c) / 128) p.V) (hd ((128 * 1 + c) / 128) p.D) (p.T ((128 * 1 + c) / 128)) i n r ((128 * 1 + c) % 128)
    rw [e1, e2]

/-- Two blocks on the diagonal: the keys' buffer moves on by one query block. -/
theorem diagK (v : View sig .tc .vmem S4224x256 .f32) (G : v.ty.Contents (Elt Ideal)) (L : List (View.Piece (Elt Ideal) S4224x256 .f32)) {off0 off1 : Fin 2 → ℕ} {inb0 : ∀ j, off0 j + S384x128.size j ≤ S4224x256.size j} {inb1 : ∀ j, off1 j + S384x128.size j ≤ S4224x256.size j}
    {v3 : Vec Ideal S256x128 .bf16} {v4 : Vec Ideal S128x128 .bf16} {q k w d q' k' w' d' : Hb Ideal} {t t' : Col Ideal} {c c' : Carry Ideal} {p : Pair} {I : ℕ}
    (o0 : off0 = ![384 * I, 0]) (o1 : off1 = ![384 * I, 128])
    (hv3 : v3 = (up2 tri3 : S256x128.Idx → EReal)) (hv4 : v4 = (up2 tri4 : S128x128.Idx → EReal))
    (hq : q = up2 (blk I (hd 0 p.Q))) (hk : k = up2 (blk I (hd 0 p.K))) (hw : w = up2 (blk I (hd 0 p.V))) (hd' : d = up2 (blk I (hd 0 p.D))) (ht : t = up2 (tb (p.T 0) I))
    (hq' : q' = up2 (blk I (hd 1 p.Q))) (hk' : k' = up2 (blk I (hd 1 p.K))) (hw' : w' = up2 (blk I (hd 1 p.V))) (hd'' : d' = up2 (blk I (hd 1 p.D))) (ht' : t' = up2 (tb (p.T 1) I))
    (hc : c = p.car I I) (hc' : c' = p.car I I)
    (hG : v.read (Elt Ideal) (v.writes (Elt Ideal) G L) = up2 (buf p.fK I I I)) :
    v.read (Elt Ideal) (v.writes (Elt Ideal) G (⟨Rect.unit off1 ![384, 128] inb1, hDk dmask v3 v4 q' k' w' d' t' c'.2.2.2.1 c'.2.2.2.2.1 (v.readAt (Elt Ideal) (Rect.unit (s := S4224x256) off1 S384x128.size inb1).toLoadRect
        (v.writes (Elt Ideal) G (⟨Rect.unit off0 ![384, 128] inb0, hDk dmask v3 v4 q k w d t c.1 c.2.1 (v.readAt (Elt Ideal) (Rect.unit (s := S4224x256) off0 S384x128.size inb0).toLoadRect (v.writes (Elt Ideal) G L))⟩ :: L)))⟩
      :: ⟨Rect.unit off0 ![384, 128] inb0, hDk dmask v3 v4 q k w d t c.1 c.2.1 (v.readAt (Elt Ideal) (Rect.unit (s := S4224x256) off0 S384x128.size inb0).toLoadRect (v.writes (Elt Ideal) G L))⟩ :: L)) = up2 (p.fK (I + 1)) := by
  have hM : ∀ r < 384, ∀ c < 384, (c < r ↔ 384 * I + c < 384 * I + r) := fun r _ c _ => by omega
  have a0 := wr0 v G L p.fK I I o0 inb0 I hG _ (dk0 masks_dmask hM hv3 hv4 hc hq hk hw hd' ht (rd0 v _ p.fK I I o0 inb0 I hG))
  exact (wr1 v G _ p.fK I I o1 inb1 (I + 1) a0 _ (dk1 masks_dmask hM hv3 hv4 hc' hq' hk' hw' hd'' ht' (rd1 v _ p.fK I I o1 inb1 (I + 1) a0))).trans (buf_endK p I)

/-- Two blocks on the diagonal: the values' buffer moves on by one query block. -/
theorem diagV (v : View sig .tc .vmem S4224x256 .f32) (G : v.ty.Contents (Elt Ideal)) (L : List (View.Piece (Elt Ideal) S4224x256 .f32)) {off0 off1 : Fin 2 → ℕ} {inb0 : ∀ j, off0 j + S384x128.size j ≤ S4224x256.size j} {inb1 : ∀ j, off1 j + S384x128.size j ≤ S4224x256.size j}
    {v3 : Vec Ideal S256x128 .bf16} {q k d q' k' d' : Hb Ideal} {t t' : Col Ideal} {c c' : Carry Ideal} {p : Pair} {I : ℕ}
    (o0 : off0 = ![384 * I, 0]) (o1 : off1 = ![384 * I, 128])
    (hv3 : v3 = (up2 tri3 : S256x128.Idx → EReal))
    (hq : q = up2 (blk I (hd 0 p.Q))) (hk : k = up2 (blk I (hd 0 p.K))) (hd' : d = up2 (blk I (hd 0 p.D))) (ht : t = up2 (tb (p.T 0) I))
    (hq' : q' = up2 (blk I (hd 1 p.Q))) (hk' : k' = up2 (blk I (hd 1 p.K))) (hd'' : d' = up2 (blk I (hd 1 p.D))) (ht' : t' = up2 (tb (p.T 1) I))
    (hc : c = p.car I I) (hc' : c' = p.car I I)
    (hG : v.read (Elt Ideal) (v.writes (Elt Ideal) G L) = up2 (buf p.fV I I I)) :
    v.read (Elt Ideal) (v.writes (Elt Ideal) G (⟨Rect.unit off1 ![384, 128] inb1, hDv dmask v3 q' k' d' t' c'.2.2.2.1 (v.readAt (Elt Ideal) (Rect.unit (s := S4224x256) off1 S384x128.size inb1).toLoadRect
        (v.writes (Elt Ideal) G (⟨Rect.unit off0 ![384, 128] inb0, hDv dmask v3 q k d t c.1 (v.readAt (Elt Ideal) (Rect.unit (s := S4224x256) off0 S384x128.size inb0).toLoadRect (v.writes (Elt Ideal) G L))⟩ :: L)))⟩
      :: ⟨Rect.unit off0 ![384, 128] inb0, hDv dmask v3 q k d t c.1 (v.readAt (Elt Ideal) (Rect.unit (s := S4224x256) off0 S384x128.size inb0).toLoadRect (v.writes (Elt Ideal) G L))⟩ :: L)) = up2 (p.fV (I + 1)) := by
  have hM : ∀ r < 384, ∀ c < 384, (c < r ↔ 384 * I + c < 384 * I + r) := fun r _ c _ => by omega
  have a0 := wr0 v G L p.fV I I o0 inb0 I hG _ (dv0 masks_dmask hM hv3 hc hq hk hd' ht (rd0 v _ p.fV I I o0 inb0 I hG))
  exact (wr1 v G _ p.fV I I o1 inb1 (I + 1) a0 _ (dv1 masks_dmask hM hv3 hc' hq' hk' hd'' ht' (rd1 v _ p.fV I I o1 inb1 (I + 1) a0))).trans (buf_endV p I)

section
variable (c : Dev nD) (i : grid0.Coords) (arg2 : Memref sig .tc .vmem S384x256 .bf16) (harg2 : arg2.IsWhole) (arg3 : Memref sig .tc .vmem S4224x256 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S2x384x1 .f32) (harg6 : arg6.IsWhole) (arg7 : Memref sig .tc .vmem S256x128 .bf16) (harg7 : arg7.IsWhole) (arg8 : Memref sig .tc .vmem S128x128 .bf16) (harg8 : arg8.IsWhole) (arg9 : Memref sig .tc .vmem S384x256 .bf16) (harg9 : arg9.IsWhole) (arg10 : Memref sig .tc .vmem S4224x256 .f32) (harg10 : arg10.IsWhole) (arg11 : Memref sig .tc .vmem S4224x256 .f32) (harg11 : arg11.IsWhole)
    (x0 : Vec Ideal S384x256 .bf16) (x1 : Vec Ideal S4224x256 .bf16) (x2 : Vec Ideal S4224x256 .bf16) (x3 : Vec Ideal S384x256 .bf16) (x4 : Vec Ideal S2x384x1 .f32) (x5 : Vec Ideal S256x128 .bf16) (x6 : Vec Ideal S128x128 .bf16)
    (G10 : BufTy.Contents (Elt Ideal) arg10.view.ty) (G11 : BufTy.Contents (Elt Ideal) arg11.view.ty) (H10 : BufTy.Contents (Elt Ideal) arg10.view.ty) (H11 : BufTy.Contents (Elt Ideal) arg11.view.ty) (v18 : BitVec 32)

/-- The second loop, of no trip, changes nothing. -/
theorem stB_eq : stB (F := Ideal) c i arg2 harg2 arg3 harg3 arg4 harg4 arg5 harg5 arg6 harg6 arg7 harg7 arg8 harg8 arg9 harg9 arg10 harg10 arg11 harg11 x0 x1 x2 x3 x4 x5 x6 G10 G11 H10 H11 v18 =
    ((stA (F := Ideal) c i arg2 harg2 arg3 harg3 arg4 harg4 arg5 harg5 arg6 harg6 arg7 harg7 arg8 harg8 arg9 harg9 arg10 harg10 arg11 harg11 x0 x1 x2 x3 x4 x5 x6 G10 G11 (Scf.trips (k0_t1_loop i).lb (k0_t1_loop i).ub (k0_t1_loop i).st)).1, [], []) := by
  have h : Scf.trips (k0_t2_loop i).lb (k0_t2_loop i).ub (k0_t2_loop i).st = 0 := trips2 i
  unfold stB
  rw [h]
  rfl

variable (p : Pair)
/-- The blocks the body is given at query block `i 1`. -/
structure Ins : Prop where
  h0 : x0 = up2 (blk (i 1).val p.Q)
  h1 : x1 = up2 p.K
  h2 : x2 = up2 p.V
  h3 : x3 = up2 (blk (i 1).val p.D)
  h4 : x4 = fun j : S2x384x1.Idx => ((p.T (j 0).val (384 * (i 1).val + (j 1).val) : ℝ) : EReal)
  h5 : x5 = up2 tri3
  h6 : x6 = up2 tri4

variable (hi : Ins i x0 x1 x2 x3 x4 x5 x6 p)
include hi
theorem ops : Ops i arg2 arg3 arg4 arg5 arg6 (harg2.unread x0) (harg3.unread x1) (harg4.unread x2) (harg5.unread x3) (harg6.unread x4) p :=
  ⟨(harg2.read_unread x0).trans hi.h0, (harg3.read_unread x1).trans hi.h1, (harg4.read_unread x2).trans hi.h2, (harg5.read_unread x3).trans hi.h3, (harg6.read_unread x4).trans hi.h4⟩
theorem ldV3_up : ldV3 (F := Ideal) arg7 harg7 x5 = (up2 tri3 : S256x128.Idx → EReal) := by
  unfold ldV3
  exact (View.readAt_full _ _ _).trans ((harg7.read_unread x5).trans hi.h5)
theorem ldV4_up : ldV4 (F := Ideal) arg8 harg8 x6 = (up2 tri4 : S128x128.Idx → EReal) := by
  unfold ldV4
  exact (View.readAt_full _ _ _).trans ((harg8.read_unread x6).trans hi.h6)

/-- The state after the loop. -/
theorem stA_up (hG10 : arg10.view.read (Elt Ideal) G10 = up2 (p.fK (i 1).val)) (hG11 : arg11.view.read (Elt Ideal) G11 = up2 (p.fV (i 1).val)) :
    (stA (F := Ideal) c i arg2 harg2 arg3 harg3 arg4 harg4 arg5 harg5 arg6 harg6 arg7 harg7 arg8 harg8 arg9 harg9 arg10 harg10 arg11 harg11 x0 x1 x2 x3 x4 x5 x6 G10 G11 (Scf.trips (k0_t1_loop i).lb (k0_t1_loop i).ub (k0_t1_loop i).st)).1 = p.car (i 1).val (i 1).val ∧
    arg10.view.read (Elt Ideal) (arg10.view.writes (Elt Ideal) G10 (stA (F := Ideal) c i arg2 harg2 arg3 harg3 arg4 harg4 arg5 harg5 arg6 harg6 arg7 harg7 arg8 harg8 arg9 harg9 arg10 harg10 arg11 harg11 x0 x1 x2 x3 x4 x5 x6 G10 G11 (Scf.trips (k0_t1_loop i).lb (k0_t1_loop i).ub (k0_t1_loop i).st)).2.1) = up2 (buf p.fK (i 1).val (i 1).val (i 1).val) ∧
    arg11.view.read (Elt Ideal) (arg11.view.writes (Elt Ideal) G11 (stA (F := Ideal) c i arg2 harg2 arg3 harg3 arg4 harg4 arg5 harg5 arg6 harg6 arg7 harg7 arg8 harg8 arg9 harg9 arg10 harg10 arg11 harg11 x0 x1 x2 x3 x4 x5 x6 G10 G11 (Scf.trips (k0_t1_loop i).lb (k0_t1_loop i).ub (k0_t1_loop i).st)).2.2) = up2 (buf p.fV (i 1).val (i 1).val (i 1).val) := by
  have h := loop_up Variants.none c none i arg2 harg2 arg3 harg3 arg4 harg4 arg5 harg5 arg6 harg6 arg7 harg7 arg8 harg8 arg9 harg9 arg10 harg10 arg11 harg11 (ldV3 arg7 harg7 x5) (ldV4 arg8 harg8 x6)
    (harg2.unread x0) (harg3.unread x1) (harg4.unread x2) (harg5.unread x3) (harg6.unread x4) G10 G11 p (ops i arg2 harg2 arg3 harg3 arg4 harg4 arg5 harg5 arg6 harg6 x0 x1 x2 x3 x4 x5 x6 p hi)
    (ldV3_up i arg7 harg7 x0 x1 x2 x3 x4 x5 x6 p hi) (ldV4_up i arg8 harg8 x0 x1 x2 x3 x4 x5 x6 p hi) (hG10.trans (buf_start _ _).symm) (hG11.trans (buf_start _ _).symm) (k0_t1_loop i).trips le_rfl
  have e : (k0_t1_loop i).trips = (i 1).val := trips1 i
  refine ⟨h.1.trans ?_, h.2.1.trans ?_, h.2.2.trans ?_⟩ <;> rw [e]
end

section
variable (c : Dev nD) (i : grid0.Coords) (arg2 : Memref sig .tc .vmem S384x256 .bf16) (harg2 : arg2.IsWhole) (arg3 : Memref sig .tc .vmem S4224x256 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S2x384x1 .f32) (harg6 : arg6.IsWhole) (arg7 : Memref sig .tc .vmem S256x128 .bf16) (harg7 : arg7.IsWhole) (arg8 : Memref sig .tc .vmem S128x128 .bf16) (harg8 : arg8.IsWhole) (arg9 : Memref sig .tc .vmem S384x256 .bf16) (harg9 : arg9.IsWhole) (arg10 : Memref sig .tc .vmem S4224x256 .f32) (harg10 : arg10.IsWhole) (arg11 : Memref sig .tc .vmem S4224x256 .f32) (harg11 : arg11.IsWhole) (hc0 : cond0_0 i)
    (x0 : Vec Ideal S384x256 .bf16) (x1 : Vec Ideal S4224x256 .bf16) (x2 : Vec Ideal S4224x256 .bf16) (x3 : Vec Ideal S384x256 .bf16) (x4 : Vec Ideal S2x384x1 .f32) (x5 : Vec Ideal S256x128 .bf16) (x6 : Vec Ideal S128x128 .bf16)
variable (p : Pair) (hi : Ins i x0 x1 x2 x3 x4 x5 x6 p) (hI : (i 1).val = 0)
include hi hI in
/-- What the body leaves of output 8. -/
theorem out_A8 : out0_A_8 (F := Ideal) c i arg2 harg2 arg3 harg3 arg4 harg4 arg5 harg5 arg6 harg6 arg7 harg7 arg8 harg8 arg9 harg9 arg10 harg10 arg11 harg11 hc0 x0 x1 x2 x3 x4 x5 x6 = up2 (p.fK ((i 1).val + 1)) := by
  unfold out0_A_8
  refine (View.read_writes_junk_eq_canon _ _).trans ((View.read_writes_junk_eq_canon arg10.view _).symm.trans ?_)
  rw [body_dkA]
  have hs := stA_up c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S4224x256) ![0, 0] S4224x256.size inb_S4224x256_S4224x256_0_0, k0_pay123 (F := Ideal)⟩]) (arg11.view.writes (Elt Ideal) arg11.view.junk [⟨Rect.unit (s := S4224x256) ![0, 0] S4224x256.size inb_S4224x256_S4224x256_0_0, k0_pay124 (F := Ideal)⟩]) p hi
    ((View.read_writes_full _ _ _ _ _).trans ((zero_K p).symm.trans (congrArg (fun n => (up2 (p.fK n) : S4224x256.Idx → EReal)) hI.symm))) ((View.read_writes_full _ _ _ _ _).trans ((zero_V p).symm.trans (congrArg (fun n => (up2 (p.fV n) : S4224x256.Idx → EReal)) hI.symm)))
  have ho := ops i arg2 harg2 arg3 harg3 arg4 harg4 arg5 harg5 arg6 harg6 x0 x1 x2 x3 x4 x5 x6 p hi
  have hv3 := ldV3_up i arg7 harg7 x0 x1 x2 x3 x4 x5 x6 p hi
  have hv4 := ldV4_up i arg8 harg8 x0 x1 x2 x3 x4 x5 x6 p hi
  have hM : ∀ r < 384, ∀ c < 384, (c < r ↔ 384 * (i 1).val + c < 384 * (i 1).val + r) := fun r _ c _ => by omega
  have o5 := k0_off5_eq i
  have o6 := k0_off6_eq i
  have K0 := ldK_up i arg2 arg3 arg4 arg5 arg6 _ _ _ _ _ p ho (i 1).val 0 o5 (k0_off5_inb i)
  have K1 := ldK_up i arg2 arg3 arg4 arg5 arg6 _ _ _ _ _ p ho (i 1).val 1 o6 (k0_off6_inb i)
  have V0 := ldV_up i arg2 arg3 arg4 arg5 arg6 _ _ _ _ _ p ho (i 1).val 0 o5 (k0_off5_inb i)
  have V1 := ldV_up i arg2 arg3 arg4 arg5 arg6 _ _ _ _ _ p ho (i 1).val 1 o6 (k0_off6_inb i)
  have Q0 := ldQ0_up i arg2 arg3 arg4 arg5 arg6 _ _ _ _ _ p ho
  have Q1 := ldQ1_up i arg2 arg3 arg4 arg5 arg6 _ _ _ _ _ p ho
  have D0 := ldD0_up i arg2 arg3 arg4 arg5 arg6 _ _ _ _ _ p ho
  have D1 := ldD1_up i arg2 arg3 arg4 arg5 arg6 _ _ _ _ _ p ho
  have T0 := ldT0_up i arg2 arg3 arg4 arg5 arg6 _ _ _ _ _ p ho
  have T1 := ldT1_up i arg2 arg3 arg4 arg5 arg6 _ _ _ _ _ p ho
  have hc := fun H10 H11 v18 => (congrArg Prod.fst (stB_eq c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S4224x256) ![0, 0] S4224x256.size inb_S4224x256_S4224x256_0_0, k0_pay123 (F := Ideal)⟩]) (arg11.view.writes (Elt Ideal) arg11.view.junk [⟨Rect.unit (s := S4224x256) ![0, 0] S4224x256.size inb_S4224x256_S4224x256_0_0, k0_pay124 (F := Ideal)⟩]) H10 H11 v18)).trans hs.1
  have hA : arg10.view.read (Elt Ideal) (arg10.view.writes (Elt Ideal) arg10.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S4224x256) ![0, 0] S4224x256.size inb_S4224x256_S4224x256_0_0, k0_pay123 (F := Ideal)⟩]) (arg11.view.writes (Elt Ideal) arg11.view.junk [⟨Rect.unit (s := S4224x256) ![0, 0] S4224x256.size inb_S4224x256_S4224x256_0_0, k0_pay124 (F := Ideal)⟩]) (Scf.trips (k0_t1_loop i).lb (k0_t1_loop i).ub (k0_t1_loop i).st)).2.1 ++ [⟨Rect.unit (s := S4224x256) ![0, 0] S4224x256.size inb_S4224x256_S4224x256_0_0, k0_pay123 (F := Ideal)⟩])) = up2 (buf p.fK (i 1).val (i 1).val (i 1).val) := by
    rw [View.writes_append]
    exact hs.2.1
  have h0 := fun H10 H11 v18 => (congrArg (fun s : Carry Ideal × List (View.Piece (Elt Ideal) S4224x256 .f32) × List (View.Piece (Elt Ideal) S4224x256 .f32) => arg10.view.read (Elt Ideal) (arg10.view.writes (Elt Ideal) arg10.view.junk (s.2.1 ++ ((stA c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S4224x256) ![0, 0] S4224x256.size inb_S4224x256_S4224x256_0_0, k0_pay123 (F := Ideal)⟩]) (arg11.view.writes (Elt Ideal) arg11.view.junk [⟨Rect.unit (s := S4224x256) ![0, 0] S4224x256.size inb_S4224x256_S4224x256_0_0, k0_pay124 (F := Ideal)⟩]) (Scf.trips (k0_t1_loop i).lb (k0_t1_loop i).ub (k0_t1_loop i).st)).2.1 ++ [⟨Rect.unit (s := S4224x256) ![0, 0] S4224x256.size inb_S4224x256_S4224x256_0_0, k0_pay123 (F := Ideal)⟩])))) (stB_eq c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S4224x256) ![0, 0] S4224x256.size inb_S4224x256_S4224x256_0_0, k0_pay123 (F := Ideal)⟩]) (arg11.view.writes (Elt Ideal) arg11.view.junk [⟨Rect.unit (s := S4224x256) ![0, 0] S4224x256.size inb_S4224x256_S4224x256_0_0, k0_pay124 (F := Ideal)⟩]) H10 H11 v18)).trans hA
  exact diagK _ _ _ o5 o6 hv3 hv4 Q0 K0 V0 D0 T0 Q1 K1 V1 D1 T1 (by exact hc _ _ _) (by exact hc _ _ _) (by exact h0 _ _ _)

include hi hI in
/-- What the body leaves of output 9. -/
theorem out_A9 : out0_A_9 (F := Ideal) c i arg2 harg2 arg3 harg3 arg4 harg4 arg5 harg5 arg6 harg6 arg7 harg7 arg8 harg8 arg9 harg9 arg10 harg10 arg11 harg11 hc0 x0 x1 x2 x3 x4 x5 x6 = up2 (p.fV ((i 1).val + 1)) := by
  unfold out0_A_9
  refine (View.read_writes_junk_eq_canon _ _).trans ((View.read_writes_junk_eq_canon arg11.view _).symm.trans ?_)
  rw [body_dvA]
  have hs := stA_up c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S4224x256) ![0, 0] S4224x256.size inb_S4224x256_S4224x256_0_0, k0_pay123 (F := Ideal)⟩]) (arg11.view.writes (Elt Ideal) arg11.view.junk [⟨Rect.unit (s := S4224x256) ![0, 0] S4224x256.size inb_S4224x256_S4224x256_0_0, k0_pay124 (F := Ideal)⟩]) p hi
    ((View.read_writes_full _ _ _ _ _).trans ((zero_K p).symm.trans (congrArg (fun n => (up2 (p.fK n) : S4224x256.Idx → EReal)) hI.symm))) ((View.read_writes_full _ _ _ _ _).trans ((zero_V p).symm.trans (congrArg (fun n => (up2 (p.fV n) : S4224x256.Idx → EReal)) hI.symm)))
  have ho := ops i arg2 harg2 arg3 harg3 arg4 harg4 arg5 harg5 arg6 harg6 x0 x1 x2 x3 x4 x5 x6 p hi
  have hv3 := ldV3_up i arg7 harg7 x0 x1 x2 x3 x4 x5 x6 p hi
  have hv4 := ldV4_up i arg8 harg8 x0 x1 x2 x3 x4 x5 x6 p hi
  have hM : ∀ r < 384, ∀ c < 384, (c < r ↔ 384 * (i 1).val + c < 384 * (i 1).val + r) := fun r _ c _ => by omega
  have o5 := k0_off5_eq i
  have o6 := k0_off6_eq i
  have K0 := ldK_up i arg2 arg3 arg4 arg5 arg6 _ _ _ _ _ p ho (i 1).val 0 o5 (k0_off5_inb i)
  have K1 := ldK_up i arg2 arg3 arg4 arg5 arg6 _ _ _ _ _ p ho (i 1).val 1 o6 (k0_off6_inb i)
  have V0 := ldV_up i arg2 arg3 arg4 arg5 arg6 _ _ _ _ _ p ho (i 1).val 0 o5 (k0_off5_inb i)
  have V1 := ldV_up i arg2 arg3 arg4 arg5 arg6 _ _ _ _ _ p ho (i 1).val 1 o6 (k0_off6_inb i)
  have Q0 := ldQ0_up i arg2 arg3 arg4 arg5 arg6 _ _ _ _ _ p ho
  have Q1 := ldQ1_up i arg2 arg3 arg4 arg5 arg6 _ _ _ _ _ p ho
  have D0 := ldD0_up i arg2 arg3 arg4 arg5 arg6 _ _ _ _ _ p ho
  have D1 := ldD1_up i arg2 arg3 arg4 arg5 arg6 _ _ _ _ _ p ho
  have T0 := ldT0_up i arg2 arg3 arg4 arg5 arg6 _ _ _ _ _ p ho
  have T1 := ldT1_up i arg2 arg3 arg4 arg5 arg6 _ _ _ _ _ p ho
  have hc := fun H10 H11 v18 => (congrArg Prod.fst (stB_eq c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S4224x256) ![0, 0] S4224x256.size inb_S4224x256_S4224x256_0_0, k0_pay123 (F := Ideal)⟩]) (arg11.view.writes (Elt Ideal) arg11.view.junk [⟨Rect.unit (s := S4224x256) ![0, 0] S4224x256.size inb_S4224x256_S4224x256_0_0, k0_pay124 (F := Ideal)⟩]) H10 H11 v18)).trans hs.1
  have hA : arg11.view.read (Elt Ideal) (arg11.view.writes (Elt Ideal) arg11.view.junk ((stA c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S4224x256) ![0, 0] S4224x256.size inb_S4224x256_S4224x256_0_0, k0_pay123 (F := Ideal)⟩]) (arg11.view.writes (Elt Ideal) arg11.view.junk [⟨Rect.unit (s := S4224x256) ![0, 0] S4224x256.size inb_S4224x256_S4224x256_0_0, k0_pay124 (F := Ideal)⟩]) (Scf.trips (k0_t1_loop i).lb (k0_t1_loop i).ub (k0_t1_loop i).st)).2.2 ++ [⟨Rect.unit (s := S4224x256) ![0, 0] S4224x256.size inb_S4224x256_S4224x256_0_0, k0_pay124 (F := Ideal)⟩])) = up2 (buf p.fV (i 1).val (i 1).val (i 1).val) := by
    rw [View.writes_append]
    exact hs.2.2
  have h0 := fun H10 H11 v18 => (congrArg (fun s : Carry Ideal × List (View.Piece (Elt Ideal) S4224x256 .f32) × List (View.Piece (Elt Ideal) S4224x256 .f32) => arg11.view.read (Elt Ideal) (arg11.view.writes (Elt Ideal) arg11.view.junk (s.2.2 ++ ((stA c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S4224x256) ![0, 0] S4224x256.size inb_S4224x256_S4224x256_0_0, k0_pay123 (F := Ideal)⟩]) (arg11.view.writes (Elt Ideal) arg11.view.junk [⟨Rect.unit (s := S4224x256) ![0, 0] S4224x256.size inb_S4224x256_S4224x256_0_0, k0_pay124 (F := Ideal)⟩]) (Scf.trips (k0_t1_loop i).lb (k0_t1_loop i).ub (k0_t1_loop i).st)).2.2 ++ [⟨Rect.unit (s := S4224x256) ![0, 0] S4224x256.size inb_S4224x256_S4224x256_0_0, k0_pay124 (F := Ideal)⟩])))) (stB_eq c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S4224x256) ![0, 0] S4224x256.size inb_S4224x256_S4224x256_0_0, k0_pay123 (F := Ideal)⟩]) (arg11.view.writes (Elt Ideal) arg11.view.junk [⟨Rect.unit (s := S4224x256) ![0, 0] S4224x256.size inb_S4224x256_S4224x256_0_0, k0_pay124 (F := Ideal)⟩]) H10 H11 v18)).trans hA
  exact diagV _ _ _ o5 o6 hv3 Q0 K0 D0 T0 Q1 K1 D1 T1 (by exact hc _ _ _) (by exact hc _ _ _) (by exact h0 _ _ _)

include hi hI in
/-- What the body leaves of output 7. -/
theorem out_A7 : out0_A_7 (F := Ideal) c i arg2 harg2 arg3 harg3 arg4 harg4 arg5 harg5 arg6 harg6 arg7 harg7 arg8 harg8 arg9 harg9 arg10 harg10 arg11 harg11 hc0 x0 x1 x2 x3 x4 x5 x6 = up2 (p.fQ (i 1).val ((i 1).val + 1)) := by
  unfold out0_A_7
  rw [body_dqA]
  have hs := stA_up c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S4224x256) ![0, 0] S4224x256.size inb_S4224x256_S4224x256_0_0, k0_pay123 (F := Ideal)⟩]) (arg11.view.writes (Elt Ideal) arg11.view.junk [⟨Rect.unit (s := S4224x256) ![0, 0] S4224x256.size inb_S4224x256_S4224x256_0_0, k0_pay124 (F := Ideal)⟩]) p hi
    ((View.read_writes_full _ _ _ _ _).trans ((zero_K p).symm.trans (congrArg (fun n => (up2 (p.fK n) : S4224x256.Idx → EReal)) hI.symm))) ((View.read_writes_full _ _ _ _ _).trans ((zero_V p).symm.trans (congrArg (fun n => (up2 (p.fV n) : S4224x256.Idx → EReal)) hI.symm)))
  have ho := ops i arg2 harg2 arg3 harg3 arg4 harg4 arg5 harg5 arg6 harg6 x0 x1 x2 x3 x4 x5 x6 p hi
  have hv3 := ldV3_up i arg7 harg7 x0 x1 x2 x3 x4 x5 x6 p hi
  have hv4 := ldV4_up i arg8 harg8 x0 x1 x2 x3 x4 x5 x6 p hi
  have hM : ∀ r < 384, ∀ c < 384, (c < r ↔ 384 * (i 1).val + c < 384 * (i 1).val + r) := fun r _ c _ => by omega
  have o5 := k0_off5_eq i
  have o6 := k0_off6_eq i
  have K0 := ldK_up i arg2 arg3 arg4 arg5 arg6 _ _ _ _ _ p ho (i 1).val 0 o5 (k0_off5_inb i)
  have K1 := ldK_up i arg2 arg3 arg4 arg5 arg6 _ _ _ _ _ p ho (i 1).val 1 o6 (k0_off6_inb i)
  have V0 := ldV_up i arg2 arg3 arg4 arg5 arg6 _ _ _ _ _ p ho (i 1).val 0 o5 (k0_off5_inb i)
  have V1 := ldV_up i arg2 arg3 arg4 arg5 arg6 _ _ _ _ _ p ho (i 1).val 1 o6 (k0_off6_inb i)
  have Q0 := ldQ0_up i arg2 arg3 arg4 arg5 arg6 _ _ _ _ _ p ho
  have Q1 := ldQ1_up i arg2 arg3 arg4 arg5 arg6 _ _ _ _ _ p ho
  have D0 := ldD0_up i arg2 arg3 arg4 arg5 arg6 _ _ _ _ _ p ho
  have D1 := ldD1_up i arg2 arg3 arg4 arg5 arg6 _ _ _ _ _ p ho
  have T0 := ldT0_up i arg2 arg3 arg4 arg5 arg6 _ _ _ _ _ p ho
  have T1 := ldT1_up i arg2 arg3 arg4 arg5 arg6 _ _ _ _ _ p ho
  have hc := fun H10 H11 v18 => (congrArg Prod.fst (stB_eq c i arg2 harg2 arg3 harg3 arg4 harg4 arg5 harg5 arg6 harg6 arg7 harg7 arg8 harg8 arg9 harg9 arg10 harg10 arg11 harg11 x0 x1 x2 x3 x4 x5 x6 (arg10.view.writes (Elt Ideal) arg10.view.junk [⟨Rect.unit (s := S4224x256) ![0, 0] S4224x256.size inb_S4224x256_S4224x256_0_0, k0_pay123 (F := Ideal)⟩]) (arg11.view.writes (Elt Ideal) arg11.view.junk [⟨Rect.unit (s := S4224x256) ![0, 0] S4224x256.size inb_S4224x256_S4224x256_0_0, k0_pay124 (F := Ideal)⟩]) H10 H11 v18)).trans hs.1
  exact two_up _ _ _ _ _ _ _ ((dq0 masks_dmask hM hv3 hv4 (by exact hc _ _ _) Q0 K0 V0 D0 T0).trans (car_q0 p _ _)) ((dq1 masks_dmask hM hv3 hv4 (by exact hc _ _ _) Q1 K1 V1 D1 T1).trans (car_q1 p _ _))
end

section
variable (c : Dev nD) (i : grid0.Coords) (arg2 : Memref sig .tc .vmem S384x256 .bf16) (harg2 : arg2.IsWhole) (arg3 : Memref sig .tc .vmem S4224x256 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S2x384x1 .f32) (harg6 : arg6.IsWhole) (arg7 : Memref sig .tc .vmem S256x128 .bf16) (harg7 : arg7.IsWhole) (arg8 : Memref sig .tc .vmem S128x128 .bf16) (harg8 : arg8.IsWhole) (arg9 : Memref sig .tc .vmem S384x256 .bf16) (harg9 : arg9.IsWhole) (arg10 : Memref sig .tc .vmem S4224x256 .f32) (harg10 : arg10.IsWhole) (arg11 : Memref sig .tc .vmem S4224x256 .f32) (harg11 : arg11.IsWhole) (hc0 : ¬cond0_0 i)
    (x0 : Vec Ideal S384x256 .bf16) (x1 : Vec Ideal S4224x256 .bf16) (x2 : Vec Ideal S4224x256 .bf16) (x3 : Vec Ideal S384x256 .bf16) (x4 : Vec Ideal S2x384x1 .f32) (x5 : Vec Ideal S256x128 .bf16) (x6 : Vec Ideal S128x128 .bf16) (xo8 : Vec Ideal S4224x256 .f32) (xo9 : Vec Ideal S4224x256 .f32)
variable (p : Pair) (hi : Ins i x0 x1 x2 x3 x4 x5 x6 p) (h8 : xo8 = up2 (p.fK (i 1).val)) (h9 : xo9 = up2 (p.fV (i 1).val))
include hi h8 h9 in
/-- What the body leaves of output 8. -/
theorem out_B8 : out0_B_8 (F := Ideal) c i arg2 harg2 arg3 harg3 arg4 harg4 arg5 harg5 arg6 harg6 arg7 harg7 arg8 harg8 arg9 harg9 arg10 harg10 arg11 harg11 hc0 x0 x1 x2 x3 x4 x5 x6 xo8 xo9 = up2 (p.fK ((i 1).val + 1)) := by
  unfold out0_B_8
  rw [body_dkB]
  have hs := stA_up c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) p hi
    ((harg10.read_unread xo8).trans h8) ((harg11.read_unread xo9).trans h9)
  have ho := ops i arg2 harg2 arg3 harg3 arg4 harg4 arg5 harg5 arg6 harg6 x0 x1 x2 x3 x4 x5 x6 p hi
  have hv3 := ldV3_up i arg7 harg7 x0 x1 x2 x3 x4 x5 x6 p hi
  have hv4 := ldV4_up i arg8 harg8 x0 x1 x2 x3 x4 x5 x6 p hi
  have hM : ∀ r < 384, ∀ c < 384, (c < r ↔ 384 * (i 1).val + c < 384 * (i 1).val + r) := fun r _ c _ => by omega
  have o5 := k0_off5_eq i
  have o6 := k0_off6_eq i
  have K0 := ldK_up i arg2 arg3 arg4 arg5 arg6 _ _ _ _ _ p ho (i 1).val 0 o5 (k0_off5_inb i)
  have K1 := ldK_up i arg2 arg3 arg4 arg5 arg6 _ _ _ _ _ p ho (i 1).val 1 o6 (k0_off6_inb i)
  have V0 := ldV_up i arg2 arg3 arg4 arg5 arg6 _ _ _ _ _ p ho (i 1).val 0 o5 (k0_off5_inb i)
  have V1 := ldV_up i arg2 arg3 arg4 arg5 arg6 _ _ _ _ _ p ho (i 1).val 1 o6 (k0_off6_inb i)
  have Q0 := ldQ0_up i arg2 arg3 arg4 arg5 arg6 _ _ _ _ _ p ho
  have Q1 := ldQ1_up i arg2 arg3 arg4 arg5 arg6 _ _ _ _ _ p ho
  have D0 := ldD0_up i arg2 arg3 arg4 arg5 arg6 _ _ _ _ _ p ho
  have D1 := ldD1_up i arg2 arg3 arg4 arg5 arg6 _ _ _ _ _ p ho
  have T0 := ldT0_up i arg2 arg3 arg4 arg5 arg6 _ _ _ _ _ p ho
  have T1 := ldT1_up i arg2 arg3 arg4 arg5 arg6 _ _ _ _ _ p ho
  have hc := fun H10 H11 v18 => (congrArg Prod.fst (stB_eq c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) H10 H11 v18)).trans hs.1
  have h0 := fun H10 H11 v18 => (congrArg (fun s : Carry Ideal × List (View.Piece (Elt Ideal) S4224x256 .f32) × List (View.Piece (Elt Ideal) S4224x256 .f32) => arg10.view.read (Elt Ideal) (arg10.view.writes (Elt Ideal) (harg10.unread xo8) (s.2.1 ++ (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.1))) (stB_eq c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) H10 H11 v18)).trans hs.2.1
  exact diagK _ _ _ o5 o6 hv3 hv4 Q0 K0 V0 D0 T0 Q1 K1 V1 D1 T1 (by exact hc _ _ _) (by exact hc _ _ _) (by exact h0 _ _ _)

include hi h8 h9 in
/-- What the body leaves of output 9. -/
theorem out_B9 : out0_B_9 (F := Ideal) c i arg2 harg2 arg3 harg3 arg4 harg4 arg5 harg5 arg6 harg6 arg7 harg7 arg8 harg8 arg9 harg9 arg10 harg10 arg11 harg11 hc0 x0 x1 x2 x3 x4 x5 x6 xo8 xo9 = up2 (p.fV ((i 1).val + 1)) := by
  unfold out0_B_9
  rw [body_dvB]
  have hs := stA_up c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) p hi
    ((harg10.read_unread xo8).trans h8) ((harg11.read_unread xo9).trans h9)
  have ho := ops i arg2 harg2 arg3 harg3 arg4 harg4 arg5 harg5 arg6 harg6 x0 x1 x2 x3 x4 x5 x6 p hi
  have hv3 := ldV3_up i arg7 harg7 x0 x1 x2 x3 x4 x5 x6 p hi
  have hv4 := ldV4_up i arg8 harg8 x0 x1 x2 x3 x4 x5 x6 p hi
  have hM : ∀ r < 384, ∀ c < 384, (c < r ↔ 384 * (i 1).val + c < 384 * (i 1).val + r) := fun r _ c _ => by omega
  have o5 := k0_off5_eq i
  have o6 := k0_off6_eq i
  have K0 := ldK_up i arg2 arg3 arg4 arg5 arg6 _ _ _ _ _ p ho (i 1).val 0 o5 (k0_off5_inb i)
  have K1 := ldK_up i arg2 arg3 arg4 arg5 arg6 _ _ _ _ _ p ho (i 1).val 1 o6 (k0_off6_inb i)
  have V0 := ldV_up i arg2 arg3 arg4 arg5 arg6 _ _ _ _ _ p ho (i 1).val 0 o5 (k0_off5_inb i)
  have V1 := ldV_up i arg2 arg3 arg4 arg5 arg6 _ _ _ _ _ p ho (i 1).val 1 o6 (k0_off6_inb i)
  have Q0 := ldQ0_up i arg2 arg3 arg4 arg5 arg6 _ _ _ _ _ p ho
  have Q1 := ldQ1_up i arg2 arg3 arg4 arg5 arg6 _ _ _ _ _ p ho
  have D0 := ldD0_up i arg2 arg3 arg4 arg5 arg6 _ _ _ _ _ p ho
  have D1 := ldD1_up i arg2 arg3 arg4 arg5 arg6 _ _ _ _ _ p ho
  have T0 := ldT0_up i arg2 arg3 arg4 arg5 arg6 _ _ _ _ _ p ho
  have T1 := ldT1_up i arg2 arg3 arg4 arg5 arg6 _ _ _ _ _ p ho
  have hc := fun H10 H11 v18 => (congrArg Prod.fst (stB_eq c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) H10 H11 v18)).trans hs.1
  have h0 := fun H10 H11 v18 => (congrArg (fun s : Carry Ideal × List (View.Piece (Elt Ideal) S4224x256 .f32) × List (View.Piece (Elt Ideal) S4224x256 .f32) => arg11.view.read (Elt Ideal) (arg11.view.writes (Elt Ideal) (harg11.unread xo9) (s.2.2 ++ (stA c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) (Scf.trips (k0_t1_loop i).lb (k0_t1_loop i).ub (k0_t1_loop i).st)).2.2))) (stB_eq c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) H10 H11 v18)).trans hs.2.2
  exact diagV _ _ _ o5 o6 hv3 Q0 K0 D0 T0 Q1 K1 D1 T1 (by exact hc _ _ _) (by exact hc _ _ _) (by exact h0 _ _ _)

include hi h8 h9 in
/-- What the body leaves of output 7. -/
theorem out_B7 : out0_B_7 (F := Ideal) c i arg2 harg2 arg3 harg3 arg4 harg4 arg5 harg5 arg6 harg6 arg7 harg7 arg8 harg8 arg9 harg9 arg10 harg10 arg11 harg11 hc0 x0 x1 x2 x3 x4 x5 x6 xo8 xo9 = up2 (p.fQ (i 1).val ((i 1).val + 1)) := by
  unfold out0_B_7
  rw [body_dqB]
  have hs := stA_up c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) p hi
    ((harg10.read_unread xo8).trans h8) ((harg11.read_unread xo9).trans h9)
  have ho := ops i arg2 harg2 arg3 harg3 arg4 harg4 arg5 harg5 arg6 harg6 x0 x1 x2 x3 x4 x5 x6 p hi
  have hv3 := ldV3_up i arg7 harg7 x0 x1 x2 x3 x4 x5 x6 p hi
  have hv4 := ldV4_up i arg8 harg8 x0 x1 x2 x3 x4 x5 x6 p hi
  have hM : ∀ r < 384, ∀ c < 384, (c < r ↔ 384 * (i 1).val + c < 384 * (i 1).val + r) := fun r _ c _ => by omega
  have o5 := k0_off5_eq i
  have o6 := k0_off6_eq i
  have K0 := ldK_up i arg2 arg3 arg4 arg5 arg6 _ _ _ _ _ p ho (i 1).val 0 o5 (k0_off5_inb i)
  have K1 := ldK_up i arg2 arg3 arg4 arg5 arg6 _ _ _ _ _ p ho (i 1).val 1 o6 (k0_off6_inb i)
  have V0 := ldV_up i arg2 arg3 arg4 arg5 arg6 _ _ _ _ _ p ho (i 1).val 0 o5 (k0_off5_inb i)
  have V1 := ldV_up i arg2 arg3 arg4 arg5 arg6 _ _ _ _ _ p ho (i 1).val 1 o6 (k0_off6_inb i)
  have Q0 := ldQ0_up i arg2 arg3 arg4 arg5 arg6 _ _ _ _ _ p ho
  have Q1 := ldQ1_up i arg2 arg3 arg4 arg5 arg6 _ _ _ _ _ p ho
  have D0 := ldD0_up i arg2 arg3 arg4 arg5 arg6 _ _ _ _ _ p ho
  have D1 := ldD1_up i arg2 arg3 arg4 arg5 arg6 _ _ _ _ _ p ho
  have T0 := ldT0_up i arg2 arg3 arg4 arg5 arg6 _ _ _ _ _ p ho
  have T1 := ldT1_up i arg2 arg3 arg4 arg5 arg6 _ _ _ _ _ p ho
  have hc := fun H10 H11 v18 => (congrArg Prod.fst (stB_eq c i arg2 harg2 arg3 harg3 arg4 harg4 arg5 harg5 arg6 harg6 arg7 harg7 arg8 harg8 arg9 harg9 arg10 harg10 arg11 harg11 x0 x1 x2 x3 x4 x5 x6 (harg10.unread xo8) (harg11.unread xo9) H10 H11 v18)).trans hs.1
  exact two_up _ _ _ _ _ _ _ ((dq0 masks_dmask hM hv3 hv4 (by exact hc _ _ _) Q0 K0 V0 D0 T0).trans (car_q0 p _ _)) ((dq1 masks_dmask hM hv3 hv4 (by exact hc _ _ _) Q1 K1 V1 D1 T1).trans (car_q1 p _ _))
end

end Cert.Stick
-- ==== Proof.Table1.lean ====
module

public import proofs.«01_k».proof.KernelIdeal

/-! Rows of the two printed triangular tables, read entry by entry. -/

@[expose] public section

set_option maxRecDepth 16384

namespace Cert.Stick

open Cert.KernelIdeal

/-- Rows 0 to 15 of table 0. -/
theorem tab0_0 : ∀ k : Fin 16, ∀ c : Fin 128, lit0 ⟨128 * (16 * 0 + k.val) + c.val, by omega⟩ = if (16 * 0 + k.val) % 128 ≤ c.val then 0x3F80#16 else 0x0000#16 := by
  decide +kernel

/-- Rows 96 to 111 of table 0. -/
theorem tab0_6 : ∀ k : Fin 16, ∀ c : Fin 128, lit0 ⟨128 * (16 * 6 + k.val) + c.val, by omega⟩ = if (16 * 6 + k.val) % 128 ≤ c.val then 0x3F80#16 else 0x0000#16 := by
  decide +kernel

/-- Rows 192 to 207 of table 0. -/
theorem tab0_12 : ∀ k : Fin 16, ∀ c : Fin 128, lit0 ⟨128 * (16 * 12 + k.val) + c.val, by omega⟩ = if (16 * 12 + k.val) % 128 ≤ c.val then 0x3F80#16 else 0x0000#16 := by
  decide +kernel

/-- Rows 32 to 47 of table 1. -/
theorem tab1_2 : ∀ k : Fin 16, ∀ c : Fin 128, lit1 ⟨128 * (16 * 2 + k.val) + c.val, by omega⟩ = if 16 * 2 + k.val < c.val then 0x3F80#16 else 0x0000#16 := by
  decide +kernel

end Cert.Stick
-- ==== Proof.Table2.lean ====
module

public import proofs.«01_k».proof.KernelIdeal

/-! Rows of the two printed triangular tables, read entry by entry. -/

@[expose] public section

set_option maxRecDepth 16384

namespace Cert.Stick

open Cert.KernelIdeal

/-- Rows 16 to 31 of table 0. -/
theorem tab0_1 : ∀ k : Fin 16, ∀ c : Fin 128, lit0 ⟨128 * (16 * 1 + k.val) + c.val, by omega⟩ = if (16 * 1 + k.val) % 128 ≤ c.val then 0x3F80#16 else 0x0000#16 := by
  decide +kernel

/-- Rows 112 to 127 of table 0. -/
theorem tab0_7 : ∀ k : Fin 16, ∀ c : Fin 128, lit0 ⟨128 * (16 * 7 + k.val) + c.val, by omega⟩ = if (16 * 7 + k.val) % 128 ≤ c.val then 0x3F80#16 else 0x0000#16 := by
  decide +kernel

/-- Rows 208 to 223 of table 0. -/
theorem tab0_13 : ∀ k : Fin 16, ∀ c : Fin 128, lit0 ⟨128 * (16 * 13 + k.val) + c.val, by omega⟩ = if (16 * 13 + k.val) % 128 ≤ c.val then 0x3F80#16 else 0x0000#16 := by
  decide +kernel

/-- Rows 48 to 63 of table 1. -/
theorem tab1_3 : ∀ k : Fin 16, ∀ c : Fin 128, lit1 ⟨128 * (16 * 3 + k.val) + c.val, by omega⟩ = if 16 * 3 + k.val < c.val then 0x3F80#16 else 0x0000#16 := by
  decide +kernel

end Cert.Stick
-- ==== Proof.Table3.lean ====
module

public import proofs.«01_k».proof.KernelIdeal

/-! Rows of the two printed triangular tables, read entry by entry. -/

@[expose] public section

set_option maxRecDepth 16384

namespace Cert.Stick

open Cert.KernelIdeal

/-- Rows 32 to 47 of table 0. -/
theorem tab0_2 : ∀ k : Fin 16, ∀ c : Fin 128, lit0 ⟨128 * (16 * 2 + k.val) + c.val, by omega⟩ = if (16 * 2 + k.val) % 128 ≤ c.val then 0x3F80#16 else 0x0000#16 := by
  decide +kernel

/-- Rows 128 to 143 of table 0. -/
theorem tab0_8 : ∀ k : Fin 16, ∀ c : Fin 128, lit0 ⟨128 * (16 * 8 + k.val) + c.val, by omega⟩ = if (16 * 8 + k.val) % 128 ≤ c.val then 0x3F80#16 else 0x0000#16 := by
  decide +kernel

/-- Rows 224 to 239 of table 0. -/
theorem tab0_14 : ∀ k : Fin 16, ∀ c : Fin 128, lit0 ⟨128 * (16 * 14 + k.val) + c.val, by omega⟩ = if (16 * 14 + k.val) % 128 ≤ c.val then 0x3F80#16 else 0x0000#16 := by
  decide +kernel

/-- Rows 64 to 79 of table 1. -/
theorem tab1_4 : ∀ k : Fin 16, ∀ c : Fin 128, lit1 ⟨128 * (16 * 4 + k.val) + c.val, by omega⟩ = if 16 * 4 + k.val < c.val then 0x3F80#16 else 0x0000#16 := by
  decide +kernel

end Cert.Stick
-- ==== Proof.Table4.lean ====
module

public import proofs.«01_k».proof.KernelIdeal

/-! Rows of the two printed triangular tables, read entry by entry. -/

@[expose] public section

set_option maxRecDepth 16384

namespace Cert.Stick

open Cert.KernelIdeal

/-- Rows 48 to 63 of table 0. -/
theorem tab0_3 : ∀ k : Fin 16, ∀ c : Fin 128, lit0 ⟨128 * (16 * 3 + k.val) + c.val, by omega⟩ = if (16 * 3 + k.val) % 128 ≤ c.val then 0x3F80#16 else 0x0000#16 := by
  decide +kernel

/-- Rows 144 to 159 of table 0. -/
theorem tab0_9 : ∀ k : Fin 16, ∀ c : Fin 128, lit0 ⟨128 * (16 * 9 + k.val) + c.val, by omega⟩ = if (16 * 9 + k.val) % 128 ≤ c.val then 0x3F80#16 else 0x0000#16 := by
  decide +kernel

/-- Rows 240 to 255 of table 0. -/
theorem tab0_15 : ∀ k : Fin 16, ∀ c : Fin 128, lit0 ⟨128 * (16 * 15 + k.val) + c.val, by omega⟩ = if (16 * 15 + k.val) % 128 ≤ c.val then 0x3F80#16 else 0x0000#16 := by
  decide +kernel

/-- Rows 80 to 95 of table 1. -/
theorem tab1_5 : ∀ k : Fin 16, ∀ c : Fin 128, lit1 ⟨128 * (16 * 5 + k.val) + c.val, by omega⟩ = if 16 * 5 + k.val < c.val then 0x3F80#16 else 0x0000#16 := by
  decide +kernel

end Cert.Stick
-- ==== Proof.Table5.lean ====
module

public import proofs.«01_k».proof.KernelIdeal

/-! Rows of the two printed triangular tables, read entry by entry. -/

@[expose] public section

set_option maxRecDepth 16384

namespace Cert.Stick

open Cert.KernelIdeal

/-- Rows 64 to 79 of table 0. -/
theorem tab0_4 : ∀ k : Fin 16, ∀ c : Fin 128, lit0 ⟨128 * (16 * 4 + k.val) + c.val, by omega⟩ = if (16 * 4 + k.val) % 128 ≤ c.val then 0x3F80#16 else 0x0000#16 := by
  decide +kernel

/-- Rows 160 to 175 of table 0. -/
theorem tab0_10 : ∀ k : Fin 16, ∀ c : Fin 128, lit0 ⟨128 * (16 * 10 + k.val) + c.val, by omega⟩ = if (16 * 10 + k.val) % 128 ≤ c.val then 0x3F80#16 else 0x0000#16 := by
  decide +kernel

/-- Rows 0 to 15 of table 1. -/
theorem tab1_0 : ∀ k : Fin 16, ∀ c : Fin 128, lit1 ⟨128 * (16 * 0 + k.val) + c.val, by omega⟩ = if 16 * 0 + k.val < c.val then 0x3F80#16 else 0x0000#16 := by
  decide +kernel

/-- Rows 96 to 111 of table 1. -/
theorem tab1_6 : ∀ k : Fin 16, ∀ c : Fin 128, lit1 ⟨128 * (16 * 6 + k.val) + c.val, by omega⟩ = if 16 * 6 + k.val < c.val then 0x3F80#16 else 0x0000#16 := by
  decide +kernel

end Cert.Stick
-- ==== Proof.Table6.lean ====
module

public import proofs.«01_k».proof.KernelIdeal

/-! Rows of the two printed triangular tables, read entry by entry. -/

@[expose] public section

set_option maxRecDepth 16384

namespace Cert.Stick

open Cert.KernelIdeal

/-- Rows 80 to 95 of table 0. -/
theorem tab0_5 : ∀ k : Fin 16, ∀ c : Fin 128, lit0 ⟨128 * (16 * 5 + k.val) + c.val, by omega⟩ = if (16 * 5 + k.val) % 128 ≤ c.val then 0x3F80#16 else 0x0000#16 := by
  decide +kernel

/-- Rows 176 to 191 of table 0. -/
theorem tab0_11 : ∀ k : Fin 16, ∀ c : Fin 128, lit0 ⟨128 * (16 * 11 + k.val) + c.val, by omega⟩ = if (16 * 11 + k.val) % 128 ≤ c.val then 0x3F80#16 else 0x0000#16 := by
  decide +kernel

/-- Rows 16 to 31 of table 1. -/
theorem tab1_1 : ∀ k : Fin 16, ∀ c : Fin 128, lit1 ⟨128 * (16 * 1 + k.val) + c.val, by omega⟩ = if 16 * 1 + k.val < c.val then 0x3F80#16 else 0x0000#16 := by
  decide +kernel

/-- Rows 112 to 127 of table 1. -/
theorem tab1_7 : ∀ k : Fin 16, ∀ c : Fin 128, lit1 ⟨128 * (16 * 7 + k.val) + c.val, by omega⟩ = if 16 * 7 + k.val < c.val then 0x3F80#16 else 0x0000#16 := by
  decide +kernel

end Cert.Stick
-- ==== Proof.Entry.lean ====
module

public import proofs.«01_k».proof.Proof.Prefix
public import proofs.«01_k».proof.Proof.Out
public import proofs.«01_k».proof.Proof.Table1
public import proofs.«01_k».proof.Proof.Table2
public import proofs.«01_k».proof.Proof.Table3
public import proofs.«01_k».proof.Proof.Table4
public import proofs.«01_k».proof.Proof.Table5
public import proofs.«01_k».proof.Proof.Table6
public import Idealize.ShloMosaic.Lib.Pipeline.ValueKit

/-! What each grid point reads of real arguments: the blocks of one pair of heads. -/

@[expose] public section

set_option maxRecDepth 16384

noncomputable section

namespace Cert.Stick

open Idealize.ShloMosaic Idealize.ShloMosaic.TcCoe Cert.KernelIdeal Cert.KernelIdeal.Gen

set_option maxHeartbeats 2000000 in
/-- The whole first table. -/
theorem tab0_all (k c : ℕ) (hk : k < 256) (hc : c < 128) (h : 128 * k + c < 32768) :
    lit0 ⟨128 * k + c, h⟩ = if k % 128 ≤ c then 0x3F80#16 else 0x0000#16 := by
  have hr : k % 16 < 16 := Nat.mod_lt _ (by norm_num)
  have ha : k / 16 < 16 := by omega
  have e : 16 * (k / 16) + k % 16 = k := Nat.div_add_mod k 16
  have key : ∀ a < 16, ∀ h', lit0 ⟨128 * (16 * a + k % 16) + c, h'⟩ = if (16 * a + k % 16) % 128 ≤ c then 0x3F80#16 else 0x0000#16 := by
    intro a ha h'
    rcases (by omega : a = 0 ∨ a = 1 ∨ a = 2 ∨ a = 3 ∨ a = 4 ∨ a = 5 ∨ a = 6 ∨ a = 7 ∨ a = 8 ∨ a = 9 ∨ a = 10 ∨ a = 11 ∨ a = 12 ∨ a = 13 ∨ a = 14 ∨ a = 15) with rfl | rfl | rfl | rfl | rfl | rfl | rfl | rfl | rfl | rfl | rfl | rfl | rfl | rfl | rfl | rfl
    · exact tab0_0 ⟨k % 16, hr⟩ ⟨c, hc⟩
    · exact tab0_1 ⟨k % 16, hr⟩ ⟨c, hc⟩
    · exact tab0_2 ⟨k % 16, hr⟩ ⟨c, hc⟩
    · exact tab0_3 ⟨k % 16, hr⟩ ⟨c, hc⟩
    · exact tab0_4 ⟨k % 16, hr⟩ ⟨c, hc⟩
    · exact tab0_5 ⟨k % 16, hr⟩ ⟨c, hc⟩
    · exact tab0_6 ⟨k % 16, hr⟩ ⟨c, hc⟩
    · exact tab0_7 ⟨k % 16, hr⟩ ⟨c, hc⟩
    · exact tab0_8 ⟨k % 16, hr⟩ ⟨c, hc⟩
    · exact tab0_9 ⟨k % 16, hr⟩ ⟨c, hc⟩
    · exact tab0_10 ⟨k % 16, hr⟩ ⟨c, hc⟩
    · exact tab0_11 ⟨k % 16, hr⟩ ⟨c, hc⟩
    · exact tab0_12 ⟨k % 16, hr⟩ ⟨c, hc⟩
    · exact tab0_13 ⟨k % 16, hr⟩ ⟨c, hc⟩
    · exact tab0_14 ⟨k % 16, hr⟩ ⟨c, hc⟩
    · exact tab0_15 ⟨k % 16, hr⟩ ⟨c, hc⟩
  have := key (k / 16) ha
  rw [e] at this
  exact this h

set_option maxHeartbeats 2000000 in
/-- The whole second table. -/
theorem tab1_all (k c : ℕ) (hk : k < 128) (hc : c < 128) (h : 128 * k + c < 16384) :
    lit1 ⟨128 * k + c, h⟩ = if k < c then 0x3F80#16 else 0x0000#16 := by
  have hr : k % 16 < 16 := Nat.mod_lt _ (by norm_num)
  have ha : k / 16 < 8 := by omega
  have e : 16 * (k / 16) + k % 16 = k := Nat.div_add_mod k 16
  have key : ∀ a < 8, ∀ h', lit1 ⟨128 * (16 * a + k % 16) + c, h'⟩ = if 16 * a + k % 16 < c then 0x3F80#16 else 0x0000#16 := by
    intro a ha h'
    rcases (by omega : a = 0 ∨ a = 1 ∨ a = 2 ∨ a = 3 ∨ a = 4 ∨ a = 5 ∨ a = 6 ∨ a = 7) with rfl | rfl | rfl | rfl | rfl | rfl | rfl | rfl
    · exact tab1_0 ⟨k % 16, hr⟩ ⟨c, hc⟩
    · exact tab1_1 ⟨k % 16, hr⟩ ⟨c, hc⟩
    · exact tab1_2 ⟨k % 16, hr⟩ ⟨c, hc⟩
    · exact tab1_3 ⟨k % 16, hr⟩ ⟨c, hc⟩
    · exact tab1_4 ⟨k % 16, hr⟩ ⟨c, hc⟩
    · exact tab1_5 ⟨k % 16, hr⟩ ⟨c, hc⟩
    · exact tab1_6 ⟨k % 16, hr⟩ ⟨c, hc⟩
    · exact tab1_7 ⟨k % 16, hr⟩ ⟨c, hc⟩
  have := key (k / 16) ha
  rw [e] at this
  exact this h

/-- The words of one and zero. -/
theorem one_bits : Ideal.ofBits .bf16 0x3F80#16 = ((1 : ℝ) : EReal) := by
  unfold Ideal.ofBits Ideal.ieee
  simp
  rw [← EReal.coe_mul]
  norm_num
theorem zero_bits : Ideal.ofBits .bf16 0x0000#16 = ((0 : ℝ) : EReal) := by
  unfold Ideal.ofBits Ideal.ieee
  simp

section
variable (m : (ℓ : Loc nD τ sig) → Buf (Elt Ideal) ℓ) (c : Dev nD)

theorem V_tri3 : V m c main_cst = (up2 tri3 : S256x128.Idx → EReal) := by
  rw [V_cst]
  funext j
  have e : S256x128.rowMajor j = ⟨128 * (j 0).val + (j 1).val, by have h0 := (j 0).isLt; have h1 := (j 1).isLt; simp at h0 h1; show _ < 32768; omega⟩ := by
    apply Fin.ext
    rw [Shape.rowMajor_val_two]
    show (j 0).val * 128 + _ = _
    rw [mul_comm]
  show Ideal.ofBits .bf16 (lit0 (S256x128.rowMajor j)) = ((if _ then _ else _ : ℝ) : EReal)
  rw [e, tab0_all _ _ (j 0).isLt (j 1).isLt (by have h0 : (j 0).val < 256 := (j 0).isLt; have h1 : (j 1).val < 128 := (j 1).isLt; omega)]
  split_ifs
  · exact one_bits
  · exact zero_bits

theorem V_tri4 : V m c main_cst_0 = (up2 tri4 : S128x128.Idx → EReal) := by
  rw [V_cst0]
  funext j
  have e : S128x128.rowMajor j = ⟨128 * (j 0).val + (j 1).val, by have h0 := (j 0).isLt; have h1 := (j 1).isLt; simp at h0 h1; show _ < 16384; omega⟩ := by
    apply Fin.ext
    rw [Shape.rowMajor_val_two]
    show (j 0).val * 128 + _ = _
    rw [mul_comm]
  show Ideal.ofBits .bf16 (lit1 (S128x128.rowMajor j)) = ((if _ then _ else _ : ℝ) : EReal)
  rw [e, tab1_all _ _ (j 0).isLt (j 1).isLt (by have h0 : (j 0).val < 128 := (j 0).isLt; have h1 : (j 1).val < 128 := (j 1).isLt; omega)]
  split_ifs
  · exact one_bits
  · exact zero_bits

/-- Heads `2 h` and `2 h + 1`. -/
def pair (PR DR : ℕ → ℕ → ℝ) (h : ℕ) : Pair where
  Q t c := PR t (4096 + (256 * h + c))
  K t c := PR t (6144 + (256 * h + c))
  V t c := PR t (8192 + (256 * h + c))
  D t c := DR t (256 * h + c)
  T e t := tot PR (2 * h + e) t

/-- The block numbers of the windows at a grid point. -/
theorem idxs : ∀ t : Fin cfg0.N, (grid0.coords t 0).val = t.val / 11 ∧ (grid0.coords t 1).val = t.val % 11 :=
  (by decide +kernel : ∀ t : Fin grid0.N, (grid0.coords t 0).val = t.val / 11 ∧ (grid0.coords t 1).val = t.val % 11)
theorem idx_0 : ∀ t : Fin cfg0.N, (cfg0.win 0).index t 0 = t.val % 11 ∧ (cfg0.win 0).index t 1 = 16 + t.val / 11 :=
  (by decide +kernel : ∀ t : Fin grid0.N, win0_0.index t 0 = t.val % 11 ∧ win0_0.index t 1 = 16 + t.val / 11)
theorem idx_1 : ∀ t : Fin cfg0.N, (cfg0.win 1).index t 0 = 0 ∧ (cfg0.win 1).index t 1 = 24 + t.val / 11 :=
  (by decide +kernel : ∀ t : Fin grid0.N, win0_1.index t 0 = 0 ∧ win0_1.index t 1 = 24 + t.val / 11)
theorem idx_2 : ∀ t : Fin cfg0.N, (cfg0.win 2).index t 0 = 0 ∧ (cfg0.win 2).index t 1 = 32 + t.val / 11 :=
  (by decide +kernel : ∀ t : Fin grid0.N, win0_2.index t 0 = 0 ∧ win0_2.index t 1 = 32 + t.val / 11)
theorem idx_3 : ∀ t : Fin cfg0.N, (cfg0.win 3).index t 0 = t.val % 11 ∧ (cfg0.win 3).index t 1 = t.val / 11 :=
  (by decide +kernel : ∀ t : Fin grid0.N, win0_3.index t 0 = t.val % 11 ∧ win0_3.index t 1 = t.val / 11)
theorem idx_4 : ∀ t : Fin cfg0.N, (cfg0.win 4).index t 0 = t.val / 11 ∧ (cfg0.win 4).index t 1 = t.val % 11 ∧ (cfg0.win 4).index t 2 = 0 :=
  (by decide +kernel : ∀ t : Fin grid0.N, win0_4.index t 0 = t.val / 11 ∧ win0_4.index t 1 = t.val % 11 ∧ win0_4.index t 2 = 0)
theorem idx_5 : ∀ t : Fin cfg0.N, (cfg0.win 5).index t 0 = 0 ∧ (cfg0.win 5).index t 1 = 0 :=
  (by decide +kernel : ∀ t : Fin grid0.N, win0_5.index t 0 = 0 ∧ win0_5.index t 1 = 0)
theorem idx_6 : ∀ t : Fin cfg0.N, (cfg0.win 6).index t 0 = 0 ∧ (cfg0.win 6).index t 1 = 0 :=
  (by decide +kernel : ∀ t : Fin grid0.N, win0_6.index t 0 = 0 ∧ win0_6.index t 1 = 0)

variable (PR DR : ℕ → ℕ → ℝ)
  (h0 : m ((c.tc : Thread nD τ).loc main_arg0) = (up2 PR : S4224x12288.Idx → EReal))
  (h1 : m ((c.tc : Thread nD τ).loc main_arg1) = (up2 DR : S4224x2048.Idx → EReal))
include h0 h1

set_option maxHeartbeats 2000000 in
/-- What a grid point reads. -/
theorem ins (t : Fin cfg0.N) : Ins (grid0.coords t) (iblk m c 0 t) (iblk m c 1 t) (iblk m c 2 t) (iblk m c 3 t) (iblk m c 4 t) (iblk m c 5 t) (iblk m c 6 t) (pair PR DR (t.val / 11)) := by
  obtain ⟨_, e1⟩ := idxs t
  refine ⟨?_, ?_, ?_, ?_, ?_, ?_, ?_⟩
  · have e := idx_0 t
    have hv : V m c main_arg0 = (up2 PR : S4224x12288.Idx → EReal) := (V_main_arg0 m c).trans h0
    funext y
    unfold iblk
    show V m c main_arg0 (((cfg0.win 0).blk t).view.emb y) = _
    rw [hv]
    show ((PR (((cfg0.win 0).blk t).view.emb y 0).val (((cfg0.win 0).blk t).view.emb y 1).val : ℝ) : EReal) = ((PR (384 * (grid0.coords t 1).val + (y 0).val) (4096 + (256 * (t.val / 11) + (y 1).val)) : ℝ) : EReal)
    blk_simp [e, e1]
    congr 2 <;> omega
  · have e := idx_1 t
    have hv : V m c main_arg0 = (up2 PR : S4224x12288.Idx → EReal) := (V_main_arg0 m c).trans h0
    funext y
    unfold iblk
    show V m c main_arg0 (((cfg0.win 1).blk t).view.emb y) = _
    rw [hv]
    show ((PR (((cfg0.win 1).blk t).view.emb y 0).val (((cfg0.win 1).blk t).view.emb y 1).val : ℝ) : EReal) = ((PR ((y 0).val) (6144 + (256 * (t.val / 11) + (y 1).val)) : ℝ) : EReal)
    blk_simp [e, e1]
    congr 2 <;> omega
  · have e := idx_2 t
    have hv : V m c main_arg0 = (up2 PR : S4224x12288.Idx → EReal) := (V_main_arg0 m c).trans h0
    funext y
    unfold iblk
    show V m c main_arg0 (((cfg0.win 2).blk t).view.emb y) = _
    rw [hv]
    show ((PR (((cfg0.win 2).blk t).view.emb y 0).val (((cfg0.win 2).blk t).view.emb y 1).val : ℝ) : EReal) = ((PR ((y 0).val) (8192 + (256 * (t.val / 11) + (y 1).val)) : ℝ) : EReal)
    blk_simp [e, e1]
    congr 2 <;> omega
  · have e := idx_3 t
    have hv : V m c main_arg1 = (up2 DR : S4224x2048.Idx → EReal) := (V_main_arg1 m c).trans h1
    funext y
    unfold iblk
    show V m c main_arg1 (((cfg0.win 3).blk t).view.emb y) = _
    rw [hv]
    show ((DR (((cfg0.win 3).blk t).view.emb y 0).val (((cfg0.win 3).blk t).view.emb y 1).val : ℝ) : EReal) = ((DR (384 * (grid0.coords t 1).val + (y 0).val) (256 * (t.val / 11) + (y 1).val) : ℝ) : EReal)
    blk_simp [e, e1]
    congr 2 <;> omega
  · have e := idx_4 t
    have hv : V m c main_v18 = (up3 fun h t _ => tot PR h t : S16x4224x1.Idx → EReal) := V_tot_up m c PR h0
    funext y
    unfold iblk
    show V m c main_v18 (((cfg0.win 4).blk t).view.emb y) = _
    rw [hv]
    show ((tot PR (((cfg0.win 4).blk t).view.emb y 0).val (((cfg0.win 4).blk t).view.emb y 1).val : ℝ) : EReal) = ((tot PR (2 * (t.val / 11) + (y 0).val) (384 * (grid0.coords t 1).val + (y 1).val) : ℝ) : EReal)
    blk_simp [e, e1]
    congr 2 <;> omega
  · have e := idx_5 t
    have hv : V m c main_cst = (up2 tri3 : S256x128.Idx → EReal) := V_tri3 m c
    funext y
    unfold iblk
    show V m c main_cst (((cfg0.win 5).blk t).view.emb y) = _
    rw [hv]
    show ((tri3 (((cfg0.win 5).blk t).view.emb y 0).val (((cfg0.win 5).blk t).view.emb y 1).val : ℝ) : EReal) = ((tri3 (y 0).val (y 1).val : ℝ) : EReal)
    blk_simp [e, e1]
  · have e := idx_6 t
    have hv : V m c main_cst_0 = (up2 tri4 : S128x128.Idx → EReal) := V_tri4 m c
    funext y
    unfold iblk
    show V m c main_cst_0 (((cfg0.win 6).blk t).view.emb y) = _
    rw [hv]
    show ((tri4 (((cfg0.win 6).blk t).view.emb y 0).val (((cfg0.win 6).blk t).view.emb y 1).val : ℝ) : EReal) = ((tri4 (y 0).val (y 1).val : ℝ) : EReal)
    blk_simp [e, e1]
end

end Cert.Stick
-- ==== Proof.Grid.lean ====
module

public import proofs.«01_k».proof.Proof.Entry

/-! What the kernel leaves in its three results, for real arguments. -/

@[expose] public section

set_option maxRecDepth 16384

noncomputable section

namespace Cert.Stick

open Idealize.ShloMosaic Idealize.ShloMosaic.TcCoe Cert.KernelIdeal Cert.KernelIdeal.Gen

section
/-- The output windows' block indices. -/
theorem idx_7 : ∀ t : Fin cfg0.N, (cfg0.win 7).index t 0 = t.val % 11 ∧ (cfg0.win 7).index t 1 = t.val / 11 :=
  (by decide +kernel : ∀ t : Fin grid0.N, win0_7.index t 0 = t.val % 11 ∧ win0_7.index t 1 = t.val / 11)
theorem idx_8 : ∀ t : Fin cfg0.N, (cfg0.win 8).index t 0 = 0 ∧ (cfg0.win 8).index t 1 = t.val / 11 :=
  (by decide +kernel : ∀ t : Fin grid0.N, win0_8.index t 0 = 0 ∧ win0_8.index t 1 = t.val / 11)
theorem idx_9 : ∀ t : Fin cfg0.N, (cfg0.win 9).index t 0 = 0 ∧ (cfg0.win 9).index t 1 = t.val / 11 :=
  (by decide +kernel : ∀ t : Fin grid0.N, win0_9.index t 0 = 0 ∧ win0_9.index t 1 = t.val / 11)

variable (m : (ℓ : Loc nD τ sig) → Buf (Elt Ideal) ℓ) (c : Dev nD) (PR DR : ℕ → ℕ → ℝ)
  (h0 : m ((c.tc : Thread nD τ).loc main_arg0) = (up2 PR : S4224x12288.Idx → EReal))
  (h1 : m ((c.tc : Thread nD τ).loc main_arg1) = (up2 DR : S4224x2048.Idx → EReal))
include h0 h1

theorem outs_A (t : Fin cfg0.N) (hz : t.val % 11 = 0) : outsAt0 m c t.val t.isLt =
    (up2 ((pair PR DR (t.val / 11)).fQ (grid0.coords t 1).val ((grid0.coords t 1).val + 1)), up2 ((pair PR DR (t.val / 11)).fK ((grid0.coords t 1).val + 1)), up2 ((pair PR DR (t.val / 11)).fV ((grid0.coords t 1).val + 1))) := by
  have hi := ins m c PR DR h0 h1 t
  have z : (grid0.coords t 1).val = 0 := (idxs t).2.trans hz
  rw [outsAt0_A m c t hz]
  rw [out_A7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr hz) (iblk m c 0 t) (iblk m c 1 t) (iblk m c 2 t) (iblk m c 3 t) (iblk m c 4 t) (iblk m c 5 t) (iblk m c 6 t) (pair PR DR (t.val / 11)) hi z, out_A8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr hz) (iblk m c 0 t) (iblk m c 1 t) (iblk m c 2 t) (iblk m c 3 t) (iblk m c 4 t) (iblk m c 5 t) (iblk m c 6 t) (pair PR DR (t.val / 11)) hi z, out_A9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr hz) (iblk m c 0 t) (iblk m c 1 t) (iblk m c 2 t) (iblk m c 3 t) (iblk m c 4 t) (iblk m c 5 t) (iblk m c 6 t) (pair PR DR (t.val / 11)) hi z]

theorem outs_B (t : Fin cfg0.N) (hz : ¬t.val % 11 = 0)
    (h8 : (outsAt0 m c (t.val - 1) (Nat.lt_of_le_of_lt (Nat.sub_le _ _) t.isLt)).2.1 = up2 ((pair PR DR (t.val / 11)).fK (grid0.coords t 1).val))
    (h9 : (outsAt0 m c (t.val - 1) (Nat.lt_of_le_of_lt (Nat.sub_le _ _) t.isLt)).2.2 = up2 ((pair PR DR (t.val / 11)).fV (grid0.coords t 1).val)) : outsAt0 m c t.val t.isLt =
    (up2 ((pair PR DR (t.val / 11)).fQ (grid0.coords t 1).val ((grid0.coords t 1).val + 1)), up2 ((pair PR DR (t.val / 11)).fK ((grid0.coords t 1).val + 1)), up2 ((pair PR DR (t.val / 11)).fV ((grid0.coords t 1).val + 1))) := by
  have hi := ins m c PR DR h0 h1 t
  rw [outsAt0_B m c t hz]
  rw [out_B7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => hz ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 (pair PR DR (t.val / 11)) hi h8 h9, out_B8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => hz ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 (pair PR DR (t.val / 11)) hi h8 h9, out_B9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => hz ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 (pair PR DR (t.val / 11)) hi h8 h9]

/-- The three blocks after each grid point. -/
theorem outs (n : ℕ) (hn : n < cfg0.N) : outsAt0 m c n hn =
    (up2 ((pair PR DR (n / 11)).fQ (n % 11) (n % 11 + 1)), up2 ((pair PR DR (n / 11)).fK (n % 11 + 1)), up2 ((pair PR DR (n / 11)).fV (n % 11 + 1))) := by
  induction n with
  | zero =>
    refine (outs_A m c PR DR h0 h1 ⟨0, hn⟩ rfl).trans ?_
    rw [(idxs ⟨0, hn⟩).2]
  | succ n ih =>
    have ih := ih (Nat.lt_of_succ_lt hn)
    by_cases hz : (n + 1) % 11 = 0
    · refine (outs_A m c PR DR h0 h1 ⟨n + 1, hn⟩ hz).trans ?_
      rw [(idxs ⟨n + 1, hn⟩).2]
    · have ed : n / 11 = (n + 1) / 11 := by omega
      have em : n % 11 + 1 = (n + 1) % 11 := by omega
      rw [ed, em] at ih
      refine (outs_B m c PR DR h0 h1 ⟨n + 1, hn⟩ hz ?_ ?_).trans ?_
      · rw [(idxs ⟨n + 1, hn⟩).2]; exact congrArg (fun q => q.2.1) ih
      · rw [(idxs ⟨n + 1, hn⟩).2]; exact congrArg (fun q => q.2.2) ih
      · rw [(idxs ⟨n + 1, hn⟩).2]

/-- The array of the queries' cotangent. -/
theorem arr_q : (dats m 0 c).arrAt 7 cfg0.N = (up2 fun t x => (pair PR DR (x / 256)).fQ (t / 384) (t / 384 + 1) (t % 384) (x % 256) : S4224x2048.Idx → EReal) := by
  refine (dats m 0 c).arrAt_eq_of_covers 7 _ (by decide +kernel) fun t hf y => ?_
  have e0 := (idx_7 t).1
  have e1 := (idx_7 t).2
  have hy1 : (y 1).val < 256 := (y 1).isLt
  have hy0 : (y 0).val < 384 := (y 0).isLt
  blk_simp
  rw [after0_7, outs m c PR DR h0 h1]
  have a0 : (((win0_7.blk t).view.emb y) 0).val = (t.val % 11) * 384 + (y 0).val := by blk_simp [e0, e1]
  have a1 : (((win0_7.blk t).view.emb y) 1).val = (t.val / 11) * 256 + (y 1).val := by blk_simp [e0, e1]
  refine Eq.trans (b := (((pair PR DR (t.val / 11)).fQ (t.val % 11) (t.val % 11 + 1) (y 0).val (y 1).val : ℝ) : EReal)) rfl (Eq.trans (b := (((pair PR DR ((((win0_7.blk t).view.emb y) 1).val / 256)).fQ ((((win0_7.blk t).view.emb y) 0).val / 384) ((((win0_7.blk t).view.emb y) 0).val / 384 + 1) ((((win0_7.blk t).view.emb y) 0).val % 384) ((((win0_7.blk t).view.emb y) 1).val % 256) : ℝ) : EReal)) (congrArg _ ?_) rfl)
  rw [a0, a1]
  rw [show (t.val % 11 * 384 + (y 0).val) / 384 = t.val % 11 by omega, show (t.val % 11 * 384 + (y 0).val) % 384 = (y 0).val by omega,
    show (t.val / 11 * 256 + (y 1).val) / 256 = t.val / 11 by omega, show (t.val / 11 * 256 + (y 1).val) % 256 = (y 1).val by omega]

/-- The array of the keys' cotangent. -/
theorem arr_k : (dats m 0 c).arrAt 8 cfg0.N = (up2 fun s x => (pair PR DR (x / 256)).fK 11 s (x % 256) : S4224x2048.Idx → EReal) := by
  refine (dats m 0 c).arrAt_eq_of_covers 8 _ (by decide +kernel) fun t hf y => ?_
  have e0 := (idx_8 t).1
  have e1 := (idx_8 t).2
  have hy1 : (y 1).val < 256 := (y 1).isLt
  have hm := (flush0_8 t).mp hf
  blk_simp
  rw [after0_8, outs m c PR DR h0 h1]
  have a0 : (((win0_8.blk t).view.emb y) 0).val = (y 0).val := by blk_simp [e0, e1]
  have a1 : (((win0_8.blk t).view.emb y) 1).val = (t.val / 11) * 256 + (y 1).val := by blk_simp [e0, e1]
  refine Eq.trans (b := (((pair PR DR (t.val / 11)).fK (t.val % 11 + 1) (y 0).val (y 1).val : ℝ) : EReal)) rfl (Eq.trans (b := (((pair PR DR ((((win0_8.blk t).view.emb y) 1).val / 256)).fK 11 (((win0_8.blk t).view.emb y) 0).val ((((win0_8.blk t).view.emb y) 1).val % 256) : ℝ) : EReal)) (congrArg _ ?_) rfl)
  rw [a0, a1]
  rw [show t.val % 11 + 1 = 11 by omega,
    show (t.val / 11 * 256 + (y 1).val) / 256 = t.val / 11 by omega, show (t.val / 11 * 256 + (y 1).val) % 256 = (y 1).val by omega]

/-- The array of the values' cotangent. -/
theorem arr_v : (dats m 0 c).arrAt 9 cfg0.N = (up2 fun s x => (pair PR DR (x / 256)).fV 11 s (x % 256) : S4224x2048.Idx → EReal) := by
  refine (dats m 0 c).arrAt_eq_of_covers 9 _ (by decide +kernel) fun t hf y => ?_
  have e0 := (idx_9 t).1
  have e1 := (idx_9 t).2
  have hy1 : (y 1).val < 256 := (y 1).isLt
  have hm := (flush0_9 t).mp hf
  blk_simp
  rw [after0_9, outs m c PR DR h0 h1]
  have a0 : (((win0_9.blk t).view.emb y) 0).val = (y 0).val := by blk_simp [e0, e1]
  have a1 : (((win0_9.blk t).view.emb y) 1).val = (t.val / 11) * 256 + (y 1).val := by blk_simp [e0, e1]
  refine Eq.trans (b := (((pair PR DR (t.val / 11)).fV (t.val % 11 + 1) (y 0).val (y 1).val : ℝ) : EReal)) rfl (Eq.trans (b := (((pair PR DR ((((win0_9.blk t).view.emb y) 1).val / 256)).fV 11 (((win0_9.blk t).view.emb y) 0).val ((((win0_9.blk t).view.emb y) 1).val % 256) : ℝ) : EReal)) (congrArg _ ?_) rfl)
  rw [a0, a1]
  rw [show t.val % 11 + 1 = 11 by omega,
    show (t.val / 11 * 256 + (y 1).val) / 256 = t.val / 11 by omega, show (t.val / 11 * 256 + (y 1).val) % 256 = (y 1).val by omega]

end

end Cert.Stick
-- ==== Proof.Same.lean ====
module

public import proofs.«01_k».proof.Proof.Grid
public import proofs.«01_k».proof.Proof.Ref

/-! The kernel's three results are the reference's, for real arguments. -/

@[expose] public section

set_option maxRecDepth 16384

noncomputable section

namespace Cert.Stick

open Idealize.ShloMosaic Idealize.ShloMosaic.TcCoe

variable (PR DR : ℕ → ℕ → ℝ) (h e : ℕ)

/-- Each head of a pair is the head of the whole. -/
theorem hd_Q : hd e (pair PR DR h).Q = col 4096 PR (2 * h + e) := by
  funext t d; exact congrArg (PR t) (by omega)
theorem hd_K : hd e (pair PR DR h).K = col 6144 PR (2 * h + e) := by
  funext t d; exact congrArg (PR t) (by omega)
theorem hd_V : hd e (pair PR DR h).V = col 8192 PR (2 * h + e) := by
  funext t d; exact congrArg (PR t) (by omega)
theorem hd_D : hd e (pair PR DR h).D = hd (2 * h + e) DR := by
  funext t d; exact congrArg (DR t) (by omega)

/-- Of a query's keys only the earlier ones have a cotangent. -/
theorem cs_dz (t : ℕ) (ht : t < 4224) (f : ℕ → ℝ) (g : ℕ) :
    cs (fun s => wDz PR DR g t s * f s) 4224 = cs (fun s => wDz PR DR g t s * f s) (384 * (t / 384 + 1)) := by
  have hs : 4224 = 384 * (t / 384 + 1) + (4224 - 384 * (t / 384 + 1)) := by omega
  rw [hs, cs_add]
  refine (congrArg _ ?_).trans (add_zero _)
  refine Finset.sum_eq_zero fun k _ => ?_
  have hn : ¬ 384 * (t / 384 + 1) + k < t := by omega
  show gDz _ _ _ _ _ _ _ * _ = 0
  unfold gDz
  rw [if_neg hn, zero_mul]

theorem same_q (t x : ℕ) (ht : t < 4224) : (pair PR DR (x / 256)).fQ (t / 384) (t / 384 + 1) (t % 384) (x % 256)
    = cs (fun s => wDz PR DR (x / 128) t s * col 6144 PR (x / 128) s (x % 128)) 4224 := by
  rw [cs_dz PR DR t ht]
  unfold Pair.fQ cQ
  rw [hd_Q, hd_K, hd_V, hd_D, show 2 * (x / 256) + x % 256 / 128 = x / 128 by omega, show x % 256 % 128 = x % 128 by omega,
    show 384 * (t / 384) + t % 384 = t by omega]
  show cs (fun s => gDz _ _ _ _ (tot PR (2 * (x / 256) + x % 256 / 128)) t s * _) _ = _
  rw [show 2 * (x / 256) + x % 256 / 128 = x / 128 by omega]; rfl

theorem same_k (s x : ℕ) : (pair PR DR (x / 256)).fK 11 s (x % 256)
    = cs (fun t => wDz PR DR (x / 128) t s * col 4096 PR (x / 128) t (x % 128)) 4224 := by
  unfold Pair.fK cK
  rw [hd_Q, hd_K, hd_V, hd_D, show 2 * (x / 256) + x % 256 / 128 = x / 128 by omega, show x % 256 % 128 = x % 128 by omega]
  show cs (fun t => gDz _ _ _ _ (tot PR (2 * (x / 256) + x % 256 / 128)) t s * _) _ = _
  rw [show 2 * (x / 256) + x % 256 / 128 = x / 128 by omega]; rfl

theorem same_v (s x : ℕ) : (pair PR DR (x / 256)).fV 11 s (x % 256)
    = cs (fun t => wA PR (x / 128) t s * hd (x / 128) DR t (x % 128)) 4224 := by
  unfold Pair.fV cV
  rw [hd_Q, hd_K, hd_D, show 2 * (x / 256) + x % 256 / 128 = x / 128 by omega, show x % 256 % 128 = x % 128 by omega]
  show cs (fun t => gA _ _ (tot PR (2 * (x / 256) + x % 256 / 128)) t s * _) _ = _
  rw [show 2 * (x / 256) + x % 256 / 128 = x / 128 by omega]; rfl

section
open Cert.KernelIdeal Cert.KernelIdeal.Gen
variable (m : (ℓ : Loc nD τ sig) → Buf (Elt Ideal) ℓ) (c : Dev nD)
  (h0 : m ((c.tc : Thread nD τ).loc main_arg0) = (up2 PR : S4224x12288.Idx → EReal))
  (h1 : m ((c.tc : Thread nD τ).loc main_arg1) = (up2 DR : S4224x2048.Idx → EReal))
include h0 h1

/-- The queries' cotangent is the reference's. -/
theorem fin_q : (dats m 0 c).arrAt 7 cfg0.N = (qDq (up2 PR) (up2 DR) : S4224x2048.Idx → EReal) := by
  rw [arr_q m c PR DR h0 h1, qDq_up]
  funext j; exact congrArg _ (same_q PR DR _ _ (j 0).isLt)
/-- The keys' cotangent is the reference's. -/
theorem fin_k : (dats m 0 c).arrAt 8 cfg0.N = (qDk (up2 PR) (up2 DR) : S4224x2048.Idx → EReal) := by
  rw [arr_k m c PR DR h0 h1, qDk_up]
  funext j; exact congrArg _ (same_k PR DR _ _)
/-- The values' cotangent is the reference's. -/
theorem fin_v : (dats m 0 c).arrAt 9 cfg0.N = (qDv (up2 PR) (up2 DR) : S4224x2048.Idx → EReal) := by
  rw [arr_v m c PR DR h0 h1, qDv_up]
  funext j; exact congrArg _ (same_v PR DR _ _)

end

end Cert.Stick

end
-- ==== Proof.Mm.lean ====
module

public import Idealize.ShloMosaic.Lib.Pointwise
public import Idealize.ShloMosaic.Lib.IdealHost

/-! Matrices of extended reals written over natural-number indices, and sums of products over ranges. -/

@[expose] public section

noncomputable section

namespace Cert.Mm

open Idealize.ShloMosaic

/-- The matrix whose entry at `(i, j)` is `X i j`. -/
def e2 {a b : ℕ} (X : ℕ → ℕ → EReal) : (⟨2, ![a, b]⟩ : Shape).Idx → EReal := fun j => X (j 0).val (j 1).val

theorem e2_ix2 {a b : ℕ} (X : ℕ → ℕ → EReal) (i : Fin a) (j : Fin b) : e2 X (ix2 i j) = X i.val j.val := rfl

/-- The two block numbers of a window. -/
abbrev is2 (f : Fin 2 → ℕ) (i j : ℕ) : Prop := f 0 = i ∧ f 1 = j

/-- Every matrix is of this form. -/
theorem exists_e2 {a b : ℕ} (x : (⟨2, ![a, b]⟩ : Shape).Idx → EReal) : ∃ X, x = e2 X := by
  refine ⟨fun i j => if h : i < a ∧ j < b then x (ix2 ⟨i, h.1⟩ ⟨j, h.2⟩) else 0, funext fun j => ?_⟩
  have h : (j 0).val < a ∧ (j 1).val < b := ⟨(j 0).isLt, (j 1).isLt⟩
  refine Eq.trans ?_ (dif_pos h).symm
  exact congrArg x (funext fun q => by fin_cases q <;> rfl)

/-- A sum over the indices below `n` of two functions' products is one over the range. -/
theorem sum_fin (n : ℕ) (f g : ℕ → EReal) : (∑ k : Fin n, f k.val * g k.val) = ∑ k ∈ Finset.range n, f k * g k :=
  Fin.sum_univ_eq_sum_range (fun k => f k * g k) n

/-- One block more of a sum over ranges. -/
theorem sum_block (b q : ℕ) (f g : ℕ → EReal) :
    (∑ k ∈ Finset.range (q * b), f k * g k) + ∑ k ∈ Finset.range b, f (q * b + k) * g (q * b + k) = ∑ k ∈ Finset.range ((q + 1) * b), f k * g k := by
  rw [Nat.add_mul, Nat.one_mul, Finset.sum_range_add]

end Cert.Mm
-- ==== Proof.Dwn.lean ====
module

public import proofs.«01_k».proof.Proof.Mm
public import proofs.«01_k».proof.Proof.Gen.DwnIdeal.Value
public import proofs.«01_k».proof.Proof.Gen.RefDwnIdeal.Run
public import Idealize.ShloMosaic.Lib.Pipeline.ValueKit
public import Idealize.ShloMosaic.Lib.VecWindow

/-! The gradient of the in-projection's weight: the kernel's result and the reference's result are the
    same sums of products over the rows. -/

@[expose] public section

set_option maxRecDepth 16384

noncomputable section

namespace Cert.MmDwn

open Idealize.ShloMosaic Idealize.ShloMosaic.TcCoe Cert.Mm Cert.DwnIdeal Cert.DwnIdeal.Gen

/-- The block a grid point leaves, over the blocks it reads. -/
theorem out_eq (c : Dev nD) (i : grid0.Coords) (arg3 : Memref sig .tc .vmem S4224x1024 .bf16) (harg3 : arg3.IsWhole) (arg4 : Memref sig .tc .vmem S4224x512 .bf16) (harg4 : arg4.IsWhole)
    (arg5 : Memref sig .tc .vmem S1024x512 .bf16) (harg5 : arg5.IsWhole) (arg6 : Memref sig .tc .vmem S1024x512 .f32) (harg6 : arg6.IsWhole) (hc0 : cond0_0 i) (hc1 : cond0_1 i)
    (x0 : Vec Ideal S4224x1024 .bf16) (x1 : Vec Ideal S4224x512 .bf16) :
    out0_A_2 c i arg3 harg3 arg4 harg4 arg5 harg5 arg6 harg6 hc0 hc1 x0 x1 = k0_pay3 (k0_pay2 k0_pay1 x0 x1) := by
  unfold out0_A_2 kernelRun0_A
  refine (View.read_writes_full _ _ _ _ _).trans ?_
  unfold kernelRun0_A.sl.v14 kernelRun0_A.sl.HS0_2 kernelRun0_A.sl.v3 kernelRun0_A.sl.HS0_1
  rw [View.readCov_full, View.readCov_full, View.readAt_full, View.readAt_full, harg3.read_unread, harg4.read_unread]

/-- That block's entries: sums over the rows. -/
theorem pay_eq (X Y : ℕ → ℕ → EReal) :
    k0_pay3 (F := Ideal) (k0_pay2 (F := Ideal) (k0_pay1 (F := Ideal)) (e2 X : S4224x1024.Idx → EReal) (e2 Y : S4224x512.Idx → EReal))
      = (e2 fun i j => ∑ k ∈ Finset.range 4224, X k i * Y k j : S1024x512.Idx → EReal) := by
  unfold k0_pay3 k0_pay2 k0_pay1
  funext j; idx_vars j; pointwise; simp only [e2_ix2]
  rw [sum_fin 4224 (fun k => X k j0.val) (fun k => Y k j1.val)]

/-- The windows' block indices. -/
theorem idx_0 : ∀ t : Fin cfg0.N, is2 ((cfg0.win 0).index t) 0 (t.val / 8) := (by decide +kernel : ∀ t : Fin grid0.N, is2 (win0_0.index t) 0 (t.val / 8))
theorem idx_1 : ∀ t : Fin cfg0.N, is2 ((cfg0.win 1).index t) 0 (t.val % 8) := (by decide +kernel : ∀ t : Fin grid0.N, is2 (win0_1.index t) 0 (t.val % 8))
theorem idx_2 : ∀ t : Fin cfg0.N, is2 ((cfg0.win 2).index t) (t.val / 8) (t.val % 8) := (by decide +kernel : ∀ t : Fin grid0.N, is2 (win0_2.index t) (t.val / 8) (t.val % 8))

variable (m : (ℓ : Loc nD τ sig) → Buf (Elt Ideal) ℓ) (c : Dev nD) (P U : ℕ → ℕ → EReal)
  (h0 : m ((c.tc : Thread nD τ).loc main_arg0) = (e2 P : S4224x12288.Idx → EReal))
  (h1 : m ((c.tc : Thread nD τ).loc main_arg1) = (e2 U : S4224x4096.Idx → EReal))
include h0 h1

theorem blk_0 (t : Fin cfg0.N) : iblk m c 0 t = (e2 fun k i => P k (t.val / 8 * 1024 + i) : S4224x1024.Idx → EReal) := by
  obtain ⟨e0, e1⟩ := idx_0 t
  funext y
  refine Eq.trans (b := m ((c.tc : Thread nD τ).loc main_arg0) (((cfg0.win 0).blk t).view.emb y)) rfl ?_
  rw [h0]
  exact congrArg₂ P (by blk_simp [e0, e1]) (by blk_simp [e0, e1])

theorem blk_1 (t : Fin cfg0.N) : iblk m c 1 t = (e2 fun k j => U k (t.val % 8 * 512 + j) : S4224x512.Idx → EReal) := by
  obtain ⟨e0, e1⟩ := idx_1 t
  funext y
  refine Eq.trans (b := m ((c.tc : Thread nD τ).loc main_arg1) (((cfg0.win 1).blk t).view.emb y)) rfl ?_
  rw [h1]
  exact congrArg₂ U (by blk_simp [e0, e1]) (by blk_simp [e0, e1])

/-- The output block after each grid point. -/
theorem outs (t : Fin cfg0.N) : outsAt0 m c t
    = (e2 fun i j => ∑ k ∈ Finset.range 4224, P k (t.val / 8 * 1024 + i) * U k (t.val % 8 * 512 + j) : S1024x512.Idx → EReal) := by
  unfold outsAt0
  rw [out_eq c (grid0.coords t) (ms0_0 t) (hs0_0 t) (ms0_1 t) (hs0_1 t) (ms0_2 t) (hs0_2 t) scM0_0 (Memref.isWhole_whole _) (hcond0_0 t) (hcond0_1 t) (iblk m c 0 t) (iblk m c 1 t),
    blk_0 m c P U h0 h1, blk_1 m c P U h0 h1, pay_eq]

/-- The kernel's result. -/
theorem arr : (dats m 0 c).arrAt 2 cfg0.N = (e2 fun i j => ∑ k ∈ Finset.range 4224, P k i * U k j : S12288x4096.Idx → EReal) := by
  refine (dats m 0 c).arrAt_eq_of_covers 2 _ (by decide +kernel) fun t hf y => ?_
  obtain ⟨e0, e1⟩ := idx_2 t
  blk_simp
  rw [after0_2, outs m c P U h0 h1]
  have a0 : (((win0_2.blk t).view.emb y) 0).val = t.val / 8 * 1024 + (y 0).val := by blk_simp [e0, e1]
  have a1 : (((win0_2.blk t).view.emb y) 1).val = t.val % 8 * 512 + (y 1).val := by blk_simp [e0, e1]
  refine Eq.trans (b := ∑ k ∈ Finset.range 4224, P k (t.val / 8 * 1024 + (y 0).val) * U k (t.val % 8 * 512 + (y 1).val)) rfl ?_
  rw [← a0, ← a1]
  rfl

end Cert.MmDwn

namespace Cert.MmDwn

open Idealize.ShloMosaic Idealize.ShloMosaic.TcCoe Cert.Mm Cert.RefDwnIdeal Cert.RefDwnIdeal.Gen

/-- The reference's result. -/
theorem ref_eq (P U : ℕ → ℕ → EReal) :
    truncf (F := Ideal) .bf16 (transpose S12288x4096 [1, 0] (transpose S4096x12288 [1, 0] (Host.dotGeneral dot_S4224x12288_S4224x4096_S12288x4096_0_0_1_1_n_n none (extf (F := Ideal) (φ := .bf16) .f32 (e2 P : S4224x12288.Idx → EReal) bitsLt_bf16_f32) (extf (F := Ideal) (φ := .bf16) .f32 (e2 U : S4224x4096.Idx → EReal) bitsLt_bf16_f32)) transposes_S12288x4096_S4096x12288_1_0) transposes_S4096x12288_S12288x4096_1_0) bitsLt_bf16_f32
      = (e2 fun i j => ∑ k ∈ Finset.range 4224, P k i * U k j : S12288x4096.Idx → EReal) := by
  funext j; idx_vars j; pointwise; simp only [e2_ix2]
  exact sum_fin 4224 (fun k => P k j0.val) (fun k => U k j1.val)

end Cert.MmDwn
-- ==== Proof.Du.lean ====
module

public import proofs.«01_k».proof.Proof.Mm
public import proofs.«01_k».proof.Proof.Gen.DuIdeal.Value
public import proofs.«01_k».proof.Proof.Gen.RefDuIdeal.Run
public import Idealize.ShloMosaic.Lib.Pipeline.ValueKit
public import Idealize.ShloMosaic.Lib.VecWindow

/-! The gradient of the normalised hidden states: the kernel adds its sums of products up over six blocks
    of columns, and its result and the reference's are the same sums over all columns. -/

@[expose] public section

set_option maxRecDepth 16384

noncomputable section

namespace Cert.MmDu

open Idealize.ShloMosaic Idealize.ShloMosaic.TcCoe Cert.Mm Cert.DuIdeal Cert.DuIdeal.Gen

section
variable (c : Dev nD) (i : grid0.Coords) (arg3 : Memref sig .tc .vmem S1056x2048 .bf16) (harg3 : arg3.IsWhole) (arg4 : Memref sig .tc .vmem S2048x1024 .bf16) (harg4 : arg4.IsWhole)
    (arg5 : Memref sig .tc .vmem S1056x1024 .bf16) (harg5 : arg5.IsWhole) (arg6 : Memref sig .tc .vmem S1056x1024 .f32) (harg6 : arg6.IsWhole)
    (x0 : Vec Ideal S1056x2048 .bf16) (x1 : Vec Ideal S2048x1024 .bf16) (xs : Vec Ideal S1056x1024 .f32)

/-- The accumulator after the first point of a block. -/
theorem acc_A (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0 kernelRun0_A
  refine (View.read_writes_full _ _ _ _ _).trans ?_
  unfold kernelRun0_A.sl.v3 kernelRun0_A.sl.HS0_1
  rw [View.readCov_full, View.readAt_full, View.readAt_full, harg3.read_unread, harg4.read_unread]

/-- The accumulator after a middle point. -/
theorem acc_B (hc0 : ¬cond0_0 i) (hc1 : ¬cond0_1 i) :
    sout0_B_0 c i arg3 harg3 arg4 harg4 arg5 harg5 arg6 harg6 hc0 hc1 x0 x1 xs = k0_pay2 xs x0 x1 := by
  unfold sout0_B_0 kernelRun0_B
  refine (View.read_writes_full _ _ _ _ _).trans ?_
  rw [View.readAt_full, View.readAt_full, View.readAt_full, harg3.read_unread, harg4.read_unread, harg6.read_unread]

/-- The accumulator after the last point. -/
theorem acc_C (hc0 : ¬cond0_0 i) (hc1 : cond0_1 i) :
    sout0_C_0 c i arg3 harg3 arg4 harg4 arg5 harg5 arg6 harg6 hc0 hc1 x0 x1 xs = k0_pay2 xs x0 x1 := by
  unfold sout0_C_0 kernelRun0_C
  refine (View.read_writes_full _ _ _ _ _).trans ?_
  rw [View.readAt_full, View.readAt_full, View.readAt_full, harg3.read_unread, harg4.read_unread, harg6.read_unread]

/-- The block the last point stores. -/
theorem out_C (hc0 : ¬cond0_0 i) (hc1 : cond0_1 i) :
    out0_C_2 c i arg3 harg3 arg4 harg4 arg5 harg5 arg6 harg6 hc0 hc1 x0 x1 xs = k0_pay3 (k0_pay2 xs x0 x1) := by
  unfold out0_C_2 kernelRun0_C
  refine (View.read_writes_full _ _ _ _ _).trans ?_
  unfold kernelRun0_C.sl.v14 kernelRun0_C.sl.HS0_1
  rw [View.readCov_full, View.readAt_full, View.readAt_full, View.readAt_full, harg3.read_unread, harg4.read_unread, harg6.read_unread]
end

/-- The cleared accumulator. -/
theorem pay1_eq : k0_pay1 (F := Ideal) = (e2 fun _ _ => 0 : S1056x1024.Idx → EReal) := by
  unfold k0_pay1
  funext j; idx_vars j; pointwise; simp only [e2_ix2]

/-- One step of the accumulator. -/
theorem pay2_eq (A X Y : ℕ → ℕ → EReal) :
    k0_pay2 (F := Ideal) (e2 A : S1056x1024.Idx → EReal) (e2 X : S1056x2048.Idx → EReal) (e2 Y : S2048x1024.Idx → EReal)
      = (e2 fun i j => A i j + ∑ k ∈ Finset.range 2048, X i k * Y k j : S1056x1024.Idx → EReal) := by
  unfold k0_pay2
  funext j; idx_vars j; pointwise; simp only [e2_ix2]
  rw [sum_fin 2048 (fun k => X j0.val k) (fun k => Y k j1.val)]

theorem pay3_eq (A : ℕ → ℕ → EReal) : k0_pay3 (F := Ideal) (e2 A : S1056x1024.Idx → EReal) = (e2 A : S1056x1024.Idx → EReal) := rfl

/-- The windows' block indices. -/
theorem idx_0 : ∀ t : Fin cfg0.N, is2 ((cfg0.win 0).index t) (t.val / 24) (t.val % 6) := (by decide +kernel : ∀ t : Fin grid0.N, is2 (win0_0.index t) (t.val / 24) (t.val % 6))
theorem idx_1 : ∀ t : Fin cfg0.N, is2 ((cfg0.win 1).index t) (t.val % 6) (t.val / 6 % 4) := (by decide +kernel : ∀ t : Fin grid0.N, is2 (win0_1.index t) (t.val % 6) (t.val / 6 % 4))
theorem idx_2 : ∀ t : Fin cfg0.N, is2 ((cfg0.win 2).index t) (t.val / 24) (t.val / 6 % 4) := (by decide +kernel : ∀ t : Fin grid0.N, is2 (win0_2.index t) (t.val / 24) (t.val / 6 % 4))

variable (m : (ℓ : Loc nD τ sig) → Buf (Elt Ideal) ℓ) (c : Dev nD) (P W : ℕ → ℕ → EReal)

/-- The sum over the first `q` blocks of columns, at the output block of point `n`. -/
def part (n q : ℕ) (i j : ℕ) : EReal := ∑ k ∈ Finset.range (q * 2048), P (n / 24 * 1056 + i) k * W k (n / 6 % 4 * 1024 + j)

theorem part_zero (n i j : ℕ) : part P W n 0 i j = 0 := by simp [part]

theorem part_succ (n q i j : ℕ) :
    part P W n q i j + ∑ k ∈ Finset.range 2048, P (n / 24 * 1056 + i) (q * 2048 + k) * W (q * 2048 + k) (n / 6 % 4 * 1024 + j) = part P W n (q + 1) i j :=
  sum_block 2048 q (fun k => P (n / 24 * 1056 + i) k) (fun k => W k (n / 6 % 4 * 1024 + j))

variable
  (h0 : m ((c.tc : Thread nD τ).loc main_arg0) = (e2 P : S4224x12288.Idx → EReal))
  (h1 : m ((c.tc : Thread nD τ).loc main_arg1) = (e2 W : S12288x4096.Idx → EReal))
include h0 h1

theorem blk_0 (t : Fin cfg0.N) : iblk m c 0 t = (e2 fun i k => P (t.val / 24 * 1056 + i) (t.val % 6 * 2048 + k) : S1056x2048.Idx → EReal) := by
  obtain ⟨e0, e1⟩ := idx_0 t
  funext y
  refine Eq.trans (b := m ((c.tc : Thread nD τ).loc main_arg0) (((cfg0.win 0).blk t).view.emb y)) rfl ?_
  rw [h0]
  exact congrArg₂ P (by blk_simp [e0, e1]) (by blk_simp [e0, e1])

theorem blk_1 (t : Fin cfg0.N) : iblk m c 1 t = (e2 fun k j => W (t.val % 6 * 2048 + k) (t.val / 6 % 4 * 1024 + j) : S2048x1024.Idx → EReal) := by
  obtain ⟨e0, e1⟩ := idx_1 t
  funext y
  refine Eq.trans (b := m ((c.tc : Thread nD τ).loc main_arg1) (((cfg0.win 1).blk t).view.emb y)) rfl ?_
  rw [h1]
  exact congrArg₂ W (by blk_simp [e0, e1]) (by blk_simp [e0, e1])

/-- One step at point `t`, from the sum over the blocks before. -/
theorem step (t : Fin cfg0.N) (xs : Vec Ideal S1056x1024 .f32) (hs : xs = (e2 (part P W t.val (t.val % 6)) : S1056x1024.Idx → EReal)) :
    k0_pay2 xs (iblk m c 0 t) (iblk m c 1 t) = (e2 (part P W t.val (t.val % 6 + 1)) : S1056x1024.Idx → EReal) := by
  rw [hs, blk_0 m c P W h0 h1, blk_1 m c P W h0 h1, pay2_eq]
  exact congrArg e2 (funext fun i => funext fun j => part_succ P W t.val (t.val % 6) i j)

/-- The accumulator after each grid point. -/
theorem acc (n : ℕ) (hn : n < cfg0.N) : (outsAt0 m c n hn).2 = (e2 (part P W n (n % 6 + 1)) : S1056x1024.Idx → EReal) := by
  have first : ∀ t : Fin cfg0.N, t.val % 6 = 0 → (outsAt0 m c t.val t.isLt).2 = (e2 (part P W t.val (t.val % 6 + 1)) : S1056x1024.Idx → EReal) := by
    intro t hz
    have hl : ¬t.val % 6 = 5 := by omega
    rw [outsAt0_A m c t hz hl]
    rw [acc_A c (grid0.coords t) (ms0_0 t) (hs0_0 t) (ms0_1 t) (hs0_1 t) (ms0_2 t) (hs0_2 t) scM0_0 (Memref.isWhole_whole _) (iblk m c 0 t) (iblk m c 1 t) ((hcond0_0 t).mpr hz) (fun h => hl ((hcond0_1 t).mp h))]
    refine step m c P W h0 h1 t _ ?_
    rw [pay1_eq, hz]
    exact congrArg e2 (funext fun i => funext fun j => (part_zero P W t.val i j).symm)
  have later : ∀ t : Fin cfg0.N, ¬t.val % 6 = 0 → (outsAt0 m c (t.val - 1) (Nat.lt_of_le_of_lt (Nat.sub_le _ _) t.isLt)).2 = (e2 (part P W t.val (t.val % 6)) : S1056x1024.Idx → EReal) →
      (outsAt0 m c t.val t.isLt).2 = (e2 (part P W t.val (t.val % 6 + 1)) : S1056x1024.Idx → EReal) := by
    intro t hz hs
    by_cases hl : t.val % 6 = 5
    · rw [outsAt0_C m c t hz hl]
      rw [acc_C c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => hz ((hcond0_0 t).mp h)) ((hcond0_1 t).mpr hl)]
      exact step m c P W h0 h1 t _ hs
    · rw [outsAt0_B m c t hz hl]
      rw [acc_B c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => hz ((hcond0_0 t).mp h)) (fun h => hl ((hcond0_1 t).mp h))]
      exact step m c P W h0 h1 t _ hs
  induction n with
  | zero => exact first ⟨0, hn⟩ rfl
  | succ n ih =>
    by_cases hz : (n + 1) % 6 = 0
    · exact first ⟨n + 1, hn⟩ hz
    · refine later ⟨n + 1, hn⟩ hz ((ih (Nat.lt_of_succ_lt hn)).trans ?_)
      refine congrArg e2 (funext fun i => funext fun j => ?_)
      unfold part
      rw [show n % 6 + 1 = (n + 1) % 6 by omega, show n / 24 = (n + 1) / 24 by omega, show n / 6 % 4 = (n + 1) / 6 % 4 by omega]

/-- The block stored at the last point of each block. -/
theorem outs (t : Fin cfg0.N) (hl : t.val % 6 = 5) : (outsAt0 m c t.val t.isLt).1 = (e2 (part P W t.val 6) : S1056x1024.Idx → EReal) := by
  have hz : ¬t.val % 6 = 0 := by omega
  have ha := acc m c P W h0 h1 t.val t.isLt
  rw [hl] at ha
  rw [outsAt0_C m c t hz hl] at ha ⊢
  rw [acc_C c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => hz ((hcond0_0 t).mp h)) ((hcond0_1 t).mpr hl)] at ha
  rw [out_C c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => hz ((hcond0_0 t).mp h)) ((hcond0_1 t).mpr hl)]
  dsimp only at ha ⊢
  rw [ha, pay3_eq]

/-- The kernel's result. -/
theorem arr : (dats m 0 c).arrAt 2 cfg0.N = (e2 fun i j => ∑ k ∈ Finset.range 12288, P i k * W k j : S4224x4096.Idx → EReal) := by
  refine (dats m 0 c).arrAt_eq_of_covers 2 _ (by decide +kernel) fun t hf y => ?_
  obtain ⟨e0, e1⟩ := idx_2 t
  have hl := (flush0_2 t).mp hf
  blk_simp
  rw [after0_2, outs m c P W h0 h1 t hl]
  have a0 : (((win0_2.blk t).view.emb y) 0).val = t.val / 24 * 1056 + (y 0).val := by blk_simp [e0, e1]
  have a1 : (((win0_2.blk t).view.emb y) 1).val = t.val / 6 % 4 * 1024 + (y 1).val := by blk_simp [e0, e1]
  refine Eq.trans (b := ∑ k ∈ Finset.range 12288, P (t.val / 24 * 1056 + (y 0).val) k * W k (t.val / 6 % 4 * 1024 + (y 1).val)) rfl ?_
  rw [← a0, ← a1]
  rfl

end Cert.MmDu

namespace Cert.MmDu

open Idealize.ShloMosaic Idealize.ShloMosaic.TcCoe Cert.Mm Cert.RefDuIdeal Cert.RefDuIdeal.Gen

/-- The reference's result. -/
theorem ref_eq (P W : ℕ → ℕ → EReal) :
    truncf (F := Ideal) .bf16 (Host.dotGeneral dot_S4224x12288_S4096x12288_S4224x4096_1_1_0_0_n_n none (extf (F := Ideal) (φ := .bf16) .f32 (e2 P : S4224x12288.Idx → EReal) bitsLt_bf16_f32) (transpose S4096x12288 [1, 0] (extf (F := Ideal) (φ := .bf16) .f32 (e2 W : S12288x4096.Idx → EReal) bitsLt_bf16_f32) transposes_S12288x4096_S4096x12288_1_0)) bitsLt_bf16_f32
      = (e2 fun i j => ∑ k ∈ Finset.range 12288, P i k * W k j : S4224x4096.Idx → EReal) := by
  funext j; idx_vars j; pointwise; simp only [e2_ix2]
  exact sum_fin 12288 (fun k => P j0.val k) (fun k => W k j1.val)

end Cert.MmDu
-- ==== Proof.Dy.lean ====
module

public import proofs.«01_k».proof.Proof.Mm
public import proofs.«01_k».proof.Proof.Gen.DyIdeal.Value
public import proofs.«01_k».proof.Proof.Gen.RefDyIdeal.Run
public import Idealize.ShloMosaic.Lib.Pipeline.ValueKit
public import Idealize.ShloMosaic.Lib.VecWindow

/-! The cotangent of the gated heads' outputs: the kernel adds its sums of products up over two blocks
    of columns, and its result and the reference's are the same sums over all columns. -/

@[expose] public section

set_option maxRecDepth 16384

noncomputable section

namespace Cert.MmDy

open Idealize.ShloMosaic Idealize.ShloMosaic.TcCoe Cert.Mm Cert.DyIdeal Cert.DyIdeal.Gen

section
variable (c : Dev nD) (i : grid0.Coords) (arg3 : Memref sig .tc .vmem S1056x2048 .f32) (harg3 : arg3.IsWhole) (arg4 : Memref sig .tc .vmem S1024x2048 .bf16) (harg4 : arg4.IsWhole)
    (arg5 : Memref sig .tc .vmem S1056x1024 .bf16) (harg5 : arg5.IsWhole) (arg6 : Memref sig .tc .vmem S1056x1024 .f32) (harg6 : arg6.IsWhole)
    (x0 : Vec Ideal S1056x2048 .f32) (x1 : Vec Ideal S1024x2048 .bf16) (xs : Vec Ideal S1056x1024 .f32)

/-- The accumulator after the first point of a block. -/
theorem acc_A (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0 kernelRun0_A
  refine (View.read_writes_full _ _ _ _ _).trans ?_
  unfold kernelRun0_A.sl.v3 kernelRun0_A.sl.HS0_1
  rw [View.readCov_full, View.readAt_full, View.readAt_full, harg3.read_unread, harg4.read_unread]

/-- The accumulator after the last point. -/
theorem acc_B (hc0 : ¬cond0_0 i) (hc1 : cond0_1 i) :
    sout0_B_0 c i arg3 harg3 arg4 harg4 arg5 harg5 arg6 harg6 hc0 hc1 x0 x1 xs = k0_pay2 xs x0 x1 := by
  unfold sout0_B_0 kernelRun0_B
  refine (View.read_writes_full _ _ _ _ _).trans ?_
  rw [View.readAt_full, View.readAt_full, View.readAt_full, harg3.read_unread, harg4.read_unread, harg6.read_unread]

/-- The block the last point stores. -/
theorem out_B (hc0 : ¬cond0_0 i) (hc1 : cond0_1 i) :
    out0_B_2 c i arg3 harg3 arg4 harg4 arg5 harg5 arg6 harg6 hc0 hc1 x0 x1 xs = k0_pay3 (k0_pay2 xs x0 x1) := by
  unfold out0_B_2 kernelRun0_B
  refine (View.read_writes_full _ _ _ _ _).trans ?_
  unfold kernelRun0_B.sl.v15 kernelRun0_B.sl.HS0_1
  rw [View.readCov_full, View.readAt_full, View.readAt_full, View.readAt_full, harg3.read_unread, harg4.read_unread, harg6.read_unread]
end

/-- The cleared accumulator. -/
theorem pay1_eq : k0_pay1 (F := Ideal) = (e2 fun _ _ => 0 : S1056x1024.Idx → EReal) := by
  unfold k0_pay1
  funext j; idx_vars j; pointwise; simp only [e2_ix2]

/-- One step of the accumulator. -/
theorem pay2_eq (A X Y : ℕ → ℕ → EReal) :
    k0_pay2 (F := Ideal) (e2 A : S1056x1024.Idx → EReal) (e2 X : S1056x2048.Idx → EReal) (e2 Y : S1024x2048.Idx → EReal)
      = (e2 fun i j => A i j + ∑ k ∈ Finset.range 2048, X i k * Y j k : S1056x1024.Idx → EReal) := by
  unfold k0_pay2
  funext j; idx_vars j; pointwise; simp only [e2_ix2]
  rw [sum_fin 2048 (fun k => X j0.val k) (fun k => Y j1.val k)]

theorem pay3_eq (A : ℕ → ℕ → EReal) : k0_pay3 (F := Ideal) (e2 A : S1056x1024.Idx → EReal) = (e2 A : S1056x1024.Idx → EReal) := rfl

/-- The windows' block indices. -/
theorem idx_0 : ∀ t : Fin cfg0.N, is2 ((cfg0.win 0).index t) (t.val / 8) (t.val % 2) := (by decide +kernel : ∀ t : Fin grid0.N, is2 (win0_0.index t) (t.val / 8) (t.val % 2))
theorem idx_1 : ∀ t : Fin cfg0.N, is2 ((cfg0.win 1).index t) (t.val / 2 % 4) (t.val % 2) := (by decide +kernel : ∀ t : Fin grid0.N, is2 (win0_1.index t) (t.val / 2 % 4) (t.val % 2))
theorem idx_2 : ∀ t : Fin cfg0.N, is2 ((cfg0.win 2).index t) (t.val / 8) (t.val / 2 % 4) := (by decide +kernel : ∀ t : Fin grid0.N, is2 (win0_2.index t) (t.val / 8) (t.val / 2 % 4))

variable (m : (ℓ : Loc nD τ sig) → Buf (Elt Ideal) ℓ) (c : Dev nD) (P W : ℕ → ℕ → EReal)

/-- The sum over the first `q` blocks of columns, at the output block of point `n`. -/
def part (n q : ℕ) (i j : ℕ) : EReal := ∑ k ∈ Finset.range (q * 2048), P (n / 8 * 1056 + i) k * W (n / 2 % 4 * 1024 + j) k

theorem part_zero (n i j : ℕ) : part P W n 0 i j = 0 := by simp [part]

theorem part_succ (n q i j : ℕ) :
    part P W n q i j + ∑ k ∈ Finset.range 2048, P (n / 8 * 1056 + i) (q * 2048 + k) * W (n / 2 % 4 * 1024 + j) (q * 2048 + k) = part P W n (q + 1) i j :=
  sum_block 2048 q (fun k => P (n / 8 * 1056 + i) k) (fun k => W (n / 2 % 4 * 1024 + j) k)

variable
  (h0 : m ((c.tc : Thread nD τ).loc main_arg0) = (e2 P : S4224x4096.Idx → EReal))
  (h1 : m ((c.tc : Thread nD τ).loc main_arg1) = (e2 W : S4096x4096.Idx → EReal))
include h0 h1

theorem blk_0 (t : Fin cfg0.N) : iblk m c 0 t = (e2 fun i k => P (t.val / 8 * 1056 + i) (t.val % 2 * 2048 + k) : S1056x2048.Idx → EReal) := by
  obtain ⟨e0, e1⟩ := idx_0 t
  funext y
  refine Eq.trans (b := m ((c.tc : Thread nD τ).loc main_arg0) (((cfg0.win 0).blk t).view.emb y)) rfl ?_
  rw [h0]
  exact congrArg₂ P (by blk_simp [e0, e1]) (by blk_simp [e0, e1])

theorem blk_1 (t : Fin cfg0.N) : iblk m c 1 t = (e2 fun j k => W (t.val / 2 % 4 * 1024 + j) (t.val % 2 * 2048 + k) : S1024x2048.Idx → EReal) := by
  obtain ⟨e0, e1⟩ := idx_1 t
  funext y
  refine Eq.trans (b := m ((c.tc : Thread nD τ).loc main_arg1) (((cfg0.win 1).blk t).view.emb y)) rfl ?_
  rw [h1]
  exact congrArg₂ W (by blk_simp [e0, e1]) (by blk_simp [e0, e1])

/-- One step at point `t`, from the sum over the blocks before. -/
theorem step (t : Fin cfg0.N) (xs : Vec Ideal S1056x1024 .f32) (hs : xs = (e2 (part P W t.val (t.val % 2)) : S1056x1024.Idx → EReal)) :
    k0_pay2 xs (iblk m c 0 t) (iblk m c 1 t) = (e2 (part P W t.val (t.val % 2 + 1)) : S1056x1024.Idx → EReal) := by
  rw [hs, blk_0 m c P W h0 h1, blk_1 m c P W h0 h1, pay2_eq]
  exact congrArg e2 (funext fun i => funext fun j => part_succ P W t.val (t.val % 2) i j)

/-- The accumulator after each grid point. -/
theorem acc (n : ℕ) (hn : n < cfg0.N) : (outsAt0 m c n hn).2 = (e2 (part P W n (n % 2 + 1)) : S1056x1024.Idx → EReal) := by
  have first : ∀ t : Fin cfg0.N, t.val % 2 = 0 → (outsAt0 m c t.val t.isLt).2 = (e2 (part P W t.val (t.val % 2 + 1)) : S1056x1024.Idx → EReal) := by
    intro t hz
    have hl : ¬t.val % 2 = 1 := by omega
    rw [outsAt0_A m c t hz hl]
    rw [acc_A c (grid0.coords t) (ms0_0 t) (hs0_0 t) (ms0_1 t) (hs0_1 t) (ms0_2 t) (hs0_2 t) scM0_0 (Memref.isWhole_whole _) (iblk m c 0 t) (iblk m c 1 t) ((hcond0_0 t).mpr hz) (fun h => hl ((hcond0_1 t).mp h))]
    refine step m c P W h0 h1 t _ ?_
    rw [pay1_eq, hz]
    exact congrArg e2 (funext fun i => funext fun j => (part_zero P W t.val i j).symm)
  have later : ∀ t : Fin cfg0.N, ¬t.val % 2 = 0 → (outsAt0 m c (t.val - 1) (Nat.lt_of_le_of_lt (Nat.sub_le _ _) t.isLt)).2 = (e2 (part P W t.val (t.val % 2)) : S1056x1024.Idx → EReal) →
      (outsAt0 m c t.val t.isLt).2 = (e2 (part P W t.val (t.val % 2 + 1)) : S1056x1024.Idx → EReal) := by
    intro t hz hs
    have hl : t.val % 2 = 1 := by omega
    rw [outsAt0_B m c t hz hl]
    rw [acc_B c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => hz ((hcond0_0 t).mp h)) ((hcond0_1 t).mpr hl)]
    exact step m c P W h0 h1 t _ hs
  induction n with
  | zero => exact first ⟨0, hn⟩ rfl
  | succ n ih =>
    by_cases hz : (n + 1) % 2 = 0
    · exact first ⟨n + 1, hn⟩ hz
    · refine later ⟨n + 1, hn⟩ hz ((ih (Nat.lt_of_succ_lt hn)).trans ?_)
      refine congrArg e2 (funext fun i => funext fun j => ?_)
      unfold part
      rw [show n % 2 + 1 = (n + 1) % 2 by omega, show n / 8 = (n + 1) / 8 by omega, show n / 2 % 4 = (n + 1) / 2 % 4 by omega]

/-- The block stored at the last point of each block. -/
theorem outs (t : Fin cfg0.N) (hl : t.val % 2 = 1) : (outsAt0 m c t.val t.isLt).1 = (e2 (part P W t.val 2) : S1056x1024.Idx → EReal) := by
  have hz : ¬t.val % 2 = 0 := by omega
  have ha := acc m c P W h0 h1 t.val t.isLt
  rw [hl] at ha
  rw [outsAt0_B m c t hz hl] at ha ⊢
  rw [acc_B c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => hz ((hcond0_0 t).mp h)) ((hcond0_1 t).mpr hl)] at ha
  rw [out_B c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => hz ((hcond0_0 t).mp h)) ((hcond0_1 t).mpr hl)]
  dsimp only at ha ⊢
  rw [ha, pay3_eq]

/-- The kernel's result. -/
theorem arr : (dats m 0 c).arrAt 2 cfg0.N = (e2 fun i j => ∑ k ∈ Finset.range 4096, P i k * W j k : S4224x4096.Idx → EReal) := by
  refine (dats m 0 c).arrAt_eq_of_covers 2 _ (by decide +kernel) fun t hf y => ?_
  obtain ⟨e0, e1⟩ := idx_2 t
  have hl := (flush0_2 t).mp hf
  blk_simp
  rw [after0_2, outs m c P W h0 h1 t hl]
  have a0 : (((win0_2.blk t).view.emb y) 0).val = t.val / 8 * 1056 + (y 0).val := by blk_simp [e0, e1]
  have a1 : (((win0_2.blk t).view.emb y) 1).val = t.val / 2 % 4 * 1024 + (y 1).val := by blk_simp [e0, e1]
  refine Eq.trans (b := ∑ k ∈ Finset.range 4096, P (t.val / 8 * 1056 + (y 0).val) k * W (t.val / 2 % 4 * 1024 + (y 1).val) k) rfl ?_
  rw [← a0, ← a1]
  rfl

end Cert.MmDy

namespace Cert.MmDy

open Idealize.ShloMosaic Idealize.ShloMosaic.TcCoe Cert.Mm Cert.RefDyIdeal Cert.RefDyIdeal.Gen

/-- The reference's result. -/
theorem ref_eq (P W : ℕ → ℕ → EReal) :
    truncf (F := Ideal) (φ := .f32) .bf16 (Host.dotGeneral (F := Ideal) (φ₁ := .f32) (φ₂ := .f32) dot_S4224x4096_S4096x4096_S4224x4096_1_1_0_0_n_n none (e2 P : S4224x4096.Idx → EReal) (extf (F := Ideal) (φ := .bf16) .f32 (e2 W : S4096x4096.Idx → EReal) bitsLt_bf16_f32)) bitsLt_bf16_f32
      = (e2 fun i j => ∑ k ∈ Finset.range 4096, P i k * W j k : S4224x4096.Idx → EReal) := by
  funext j; idx_vars j; pointwise; simp only [e2_ix2]
  exact sum_fin 4096 (fun k => P j0.val k) (fun k => W j1.val k)

end Cert.MmDy
-- ==== Proof.Dwo.lean ====
module

public import proofs.«01_k».proof.Proof.Mm
public import proofs.«01_k».proof.Proof.Gen.DwoIdeal.Value
public import proofs.«01_k».proof.Proof.Gen.RefDwoIdeal.Run
public import Idealize.ShloMosaic.Lib.Pipeline.ValueKit
public import Idealize.ShloMosaic.Lib.VecWindow

/-! The gradient of the out-projection's weight. -/

@[expose] public section

set_option maxRecDepth 16384

noncomputable section

namespace Cert.MmDwo

open Idealize.ShloMosaic Idealize.ShloMosaic.TcCoe Cert.Mm Cert.DwoIdeal Cert.DwoIdeal.Gen

/-- The block a grid point leaves, over the blocks it reads. -/
theorem out_eq (c : Dev nD) (i : grid0.Coords) (arg3 : Memref sig .tc .vmem S4224x1024 .bf16) (harg3 : arg3.IsWhole) (arg4 : Memref sig .tc .vmem S4224x512 .f32) (harg4 : arg4.IsWhole) (arg5 : Memref sig .tc .vmem S1024x512 .bf16) (harg5 : arg5.IsWhole) (arg6 : Memref sig .tc .vmem S1024x512 .f32) (harg6 : arg6.IsWhole)
    (hc0 : cond0_0 i) (hc1 : cond0_1 i)
    (x0 : Vec Ideal S4224x1024 .bf16) (x1 : Vec Ideal S4224x512 .f32) :
    out0_A_2 c i arg3 harg3 arg4 harg4 arg5 harg5 arg6 harg6 hc0 hc1 x0 x1 = k0_pay3 (k0_pay2 k0_pay1 x0 x1) := by
  unfold out0_A_2 kernelRun0_A
  refine (View.read_writes_full _ _ _ _ _).trans ?_
  unfold kernelRun0_A.sl.v15 kernelRun0_A.sl.HS0_2 kernelRun0_A.sl.v3 kernelRun0_A.sl.HS0_1
  rw [View.readCov_full, View.readCov_full, View.readAt_full, View.readAt_full, harg3.read_unread, harg4.read_unread]

/-- That block's entries: sums of products. -/
theorem pay_eq (X Y : ℕ → ℕ → EReal) :
    k0_pay3 (F := Ideal) (k0_pay2 (F := Ideal) (k0_pay1 (F := Ideal)) (e2 X : S4224x1024.Idx → EReal) (e2 Y : S4224x512.Idx → EReal))
      = (e2 fun i j => (∑ k ∈ Finset.range 4224, X k i * Y k j) : S1024x512.Idx → EReal) := by
  unfold k0_pay3 k0_pay2 k0_pay1
  funext j; idx_vars j; pointwise; simp only [e2_ix2]
  rw [sum_fin 4224 (fun k => X k j0.val) (fun k => Y k j1.val)]

/-- The windows' block indices. -/
theorem idx_0 : ∀ t : Fin cfg0.N, is2 ((cfg0.win 0).index t) 0 (t.val / 8) := (by decide +kernel : ∀ t : Fin grid0.N, is2 (win0_0.index t) 0 (t.val / 8))
theorem idx_1 : ∀ t : Fin cfg0.N, is2 ((cfg0.win 1).index t) 0 (t.val % 8) := (by decide +kernel : ∀ t : Fin grid0.N, is2 (win0_1.index t) 0 (t.val % 8))
theorem idx_2 : ∀ t : Fin cfg0.N, is2 ((cfg0.win 2).index t) (t.val / 8) (t.val % 8) := (by decide +kernel : ∀ t : Fin grid0.N, is2 (win0_2.index t) (t.val / 8) (t.val % 8))

variable (m : (ℓ : Loc nD τ sig) → Buf (Elt Ideal) ℓ) (c : Dev nD) (P Q : ℕ → ℕ → EReal)
  (h0 : m ((c.tc : Thread nD τ).loc main_arg0) = (e2 P : S4224x4096.Idx → EReal))
  (h1 : m ((c.tc : Thread nD τ).loc main_arg1) = (e2 Q : S4224x4096.Idx → EReal))
include h0 h1

theorem blk_0 (t : Fin cfg0.N) : iblk m c 0 t = (e2 fun i j => P i (t.val / 8 * 1024 + j) : S4224x1024.Idx → EReal) := by
  obtain ⟨e0, e1⟩ := idx_0 t
  funext y
  refine Eq.trans (b := m ((c.tc : Thread nD τ).loc main_arg0) (((cfg0.win 0).blk t).view.emb y)) rfl ?_
  rw [h0]
  exact congrArg₂ P (by blk_simp [e0, e1]) (by blk_simp [e0, e1])

theorem blk_1 (t : Fin cfg0.N) : iblk m c 1 t = (e2 fun i j => Q i (t.val % 8 * 512 + j) : S4224x512.Idx → EReal) := by
  obtain ⟨e0, e1⟩ := idx_1 t
  funext y
  refine Eq.trans (b := m ((c.tc : Thread nD τ).loc main_arg1) (((cfg0.win 1).blk t).view.emb y)) rfl ?_
  rw [h1]
  exact congrArg₂ Q (by blk_simp [e0, e1]) (by blk_simp [e0, e1])

/-- The output block after each grid point. -/
theorem outs (t : Fin cfg0.N) : outsAt0 m c t
    = (e2 fun i j => (∑ k ∈ Finset.range 4224, P k (t.val / 8 * 1024 + i) * Q k (t.val % 8 * 512 + j)) : S1024x512.Idx → EReal) := by
  unfold outsAt0
  rw [out_eq c (grid0.coords t) (ms0_0 t) (hs0_0 t) (ms0_1 t) (hs0_1 t) (ms0_2 t) (hs0_2 t) scM0_0 (Memref.isWhole_whole _) (hcond0_0 t) (hcond0_1 t) (iblk m c 0 t) (iblk m c 1 t),
    blk_0 m c P Q h0 h1, blk_1 m c P Q h0 h1, pay_eq]

/-- The kernel's result. -/
theorem arr : (dats m 0 c).arrAt 2 cfg0.N = (e2 fun i j => (∑ k ∈ Finset.range 4224, P k i * Q k j) : S4096x4096.Idx → EReal) := by
  refine (dats m 0 c).arrAt_eq_of_covers 2 _ (by decide +kernel) fun t hf y => ?_
  obtain ⟨e0, e1⟩ := idx_2 t
  blk_simp
  rw [after0_2, outs m c P Q h0 h1]
  have a0 : (((win0_2.blk t).view.emb y) 0).val = t.val / 8 * 1024 + (y 0).val := by blk_simp [e0, e1]
  have a1 : (((win0_2.blk t).view.emb y) 1).val = t.val % 8 * 512 + (y 1).val := by blk_simp [e0, e1]
  refine Eq.trans (b := (∑ k ∈ Finset.range 4224, P k (t.val / 8 * 1024 + (y 0).val) * Q k (t.val % 8 * 512 + (y 1).val))) rfl ?_
  rw [← a0, ← a1]
  rfl

end Cert.MmDwo

namespace Cert.MmDwo

open Idealize.ShloMosaic Idealize.ShloMosaic.TcCoe Cert.Mm Cert.RefDwoIdeal Cert.RefDwoIdeal.Gen

/-- The reference's result. -/
theorem ref_eq (P Q : ℕ → ℕ → EReal) :
    truncf (F := Ideal) (φ := .f32) .bf16 (transpose S4096x4096 [1, 0] (Host.dotGeneral (F := Ideal) (φ₁ := .f32) (φ₂ := .f32) dot_S4224x4096_S4224x4096_S4096x4096_0_0_1_1_n_n none (e2 Q : S4224x4096.Idx → EReal) (extf (F := Ideal) (φ := .bf16) .f32 (e2 P : S4224x4096.Idx → EReal) bitsLt_bf16_f32)) transposes_S4096x4096_S4096x4096_1_0) bitsLt_bf16_f32
      = (e2 fun i j => (∑ k ∈ Finset.range 4224, P k i * Q k j) : S4096x4096.Idx → EReal) := by
  funext j; idx_vars j; pointwise; simp only [e2_ix2]
  exact (sum_fin 4224 (fun k => Q k j1.val) (fun k => P k j0.val)).trans (Finset.sum_congr rfl fun k _ => mul_comm _ _)

end Cert.MmDwo
-- ==== Proof.Dcq.lean ====
module

public import proofs.«01_k».proof.Proof.Mm
public import proofs.«01_k».proof.Proof.Gen.DcqIdeal.Value
public import proofs.«01_k».proof.Proof.Gen.RefDcqIdeal.Run
public import Idealize.ShloMosaic.Lib.Pipeline.ValueKit
public import Idealize.ShloMosaic.Lib.VecWindow

/-! The cotangent of the normed query compression. -/

@[expose] public section

set_option maxRecDepth 16384

noncomputable section

namespace Cert.MmDcq

open Idealize.ShloMosaic Idealize.ShloMosaic.TcCoe Cert.Mm Cert.DcqIdeal Cert.DcqIdeal.Gen

/-- The block a grid point leaves, over the blocks it reads. -/
theorem out_eq (c : Dev nD) (i : grid0.Coords) (arg3 : Memref sig .tc .vmem S1056x4096 .bf16) (harg3 : arg3.IsWhole) (arg4 : Memref sig .tc .vmem S512x4096 .bf16) (harg4 : arg4.IsWhole) (arg5 : Memref sig .tc .vmem S1056x512 .bf16) (harg5 : arg5.IsWhole) (arg6 : Memref sig .tc .vmem S1056x512 .f32) (harg6 : arg6.IsWhole)
    (hc0 : cond0_0 i) (hc1 : cond0_1 i)
    (x0 : Vec Ideal S1056x4096 .bf16) (x1 : Vec Ideal S512x4096 .bf16) :
    out0_A_2 c i arg3 harg3 arg4 harg4 arg5 harg5 arg6 harg6 hc0 hc1 x0 x1 = k0_pay3 (k0_pay2 k0_pay1 x0 x1) := by
  unfold out0_A_2 kernelRun0_A
  refine (View.read_writes_full _ _ _ _ _).trans ?_
  unfold kernelRun0_A.sl.v14 kernelRun0_A.sl.HS0_2 kernelRun0_A.sl.v3 kernelRun0_A.sl.HS0_1
  rw [View.readCov_full, View.readCov_full, View.readAt_full, View.readAt_full, harg3.read_unread, harg4.read_unread]

/-- That block's entries: sums of products. -/
theorem pay_eq (X Y : ℕ → ℕ → EReal) :
    k0_pay3 (F := Ideal) (k0_pay2 (F := Ideal) (k0_pay1 (F := Ideal)) (e2 X : S1056x4096.Idx → EReal) (e2 Y : S512x4096.Idx → EReal))
      = (e2 fun i j => (∑ k ∈ Finset.range 4096, X i k * Y j k) : S1056x512.Idx → EReal) := by
  unfold k0_pay3 k0_pay2 k0_pay1
  funext j; idx_vars j; pointwise; simp only [e2_ix2]
  rw [sum_fin 4096 (fun k => X j0.val k) (fun k => Y j1.val k)]

/-- The windows' block indices. -/
theorem idx_0 : ∀ t : Fin cfg0.N, is2 ((cfg0.win 0).index t) (t.val / 2) 0 := (by decide +kernel : ∀ t : Fin grid0.N, is2 (win0_0.index t) (t.val / 2) 0)
theorem idx_1 : ∀ t : Fin cfg0.N, is2 ((cfg0.win 1).index t) (t.val % 2) 0 := (by decide +kernel : ∀ t : Fin grid0.N, is2 (win0_1.index t) (t.val % 2) 0)
theorem idx_2 : ∀ t : Fin cfg0.N, is2 ((cfg0.win 2).index t) (t.val / 2) (t.val % 2) := (by decide +kernel : ∀ t : Fin grid0.N, is2 (win0_2.index t) (t.val / 2) (t.val % 2))

variable (m : (ℓ : Loc nD τ sig) → Buf (Elt Ideal) ℓ) (c : Dev nD) (P Q : ℕ → ℕ → EReal)
  (h0 : m ((c.tc : Thread nD τ).loc main_arg0) = (e2 P : S4224x4096.Idx → EReal))
  (h1 : m ((c.tc : Thread nD τ).loc main_arg1) = (e2 Q : S1024x4096.Idx → EReal))
include h0 h1

theorem blk_0 (t : Fin cfg0.N) : iblk m c 0 t = (e2 fun i j => P (t.val / 2 * 1056 + i) j : S1056x4096.Idx → EReal) := by
  obtain ⟨e0, e1⟩ := idx_0 t
  funext y
  refine Eq.trans (b := m ((c.tc : Thread nD τ).loc main_arg0) (((cfg0.win 0).blk t).view.emb y)) rfl ?_
  rw [h0]
  exact congrArg₂ P (by blk_simp [e0, e1]) (by blk_simp [e0, e1])

theorem blk_1 (t : Fin cfg0.N) : iblk m c 1 t = (e2 fun i j => Q (t.val % 2 * 512 + i) j : S512x4096.Idx → EReal) := by
  obtain ⟨e0, e1⟩ := idx_1 t
  funext y
  refine Eq.trans (b := m ((c.tc : Thread nD τ).loc main_arg1) (((cfg0.win 1).blk t).view.emb y)) rfl ?_
  rw [h1]
  exact congrArg₂ Q (by blk_simp [e0, e1]) (by blk_simp [e0, e1])

/-- The output block after each grid point. -/
theorem outs (t : Fin cfg0.N) : outsAt0 m c t
    = (e2 fun i j => (∑ k ∈ Finset.range 4096, P (t.val / 2 * 1056 + i) k * Q (t.val % 2 * 512 + j) k) : S1056x512.Idx → EReal) := by
  unfold outsAt0
  rw [out_eq c (grid0.coords t) (ms0_0 t) (hs0_0 t) (ms0_1 t) (hs0_1 t) (ms0_2 t) (hs0_2 t) scM0_0 (Memref.isWhole_whole _) (hcond0_0 t) (hcond0_1 t) (iblk m c 0 t) (iblk m c 1 t),
    blk_0 m c P Q h0 h1, blk_1 m c P Q h0 h1, pay_eq]

/-- The kernel's result. -/
theorem arr : (dats m 0 c).arrAt 2 cfg0.N = (e2 fun i j => (∑ k ∈ Finset.range 4096, P i k * Q j k) : S4224x1024.Idx → EReal) := by
  refine (dats m 0 c).arrAt_eq_of_covers 2 _ (by decide +kernel) fun t hf y => ?_
  obtain ⟨e0, e1⟩ := idx_2 t
  blk_simp
  rw [after0_2, outs m c P Q h0 h1]
  have a0 : (((win0_2.blk t).view.emb y) 0).val = t.val / 2 * 1056 + (y 0).val := by blk_simp [e0, e1]
  have a1 : (((win0_2.blk t).view.emb y) 1).val = t.val % 2 * 512 + (y 1).val := by blk_simp [e0, e1]
  refine Eq.trans (b := (∑ k ∈ Finset.range 4096, P (t.val / 2 * 1056 + (y 0).val) k * Q (t.val % 2 * 512 + (y 1).val) k)) rfl ?_
  rw [← a0, ← a1]
  rfl

end Cert.MmDcq

namespace Cert.MmDcq

open Idealize.ShloMosaic Idealize.ShloMosaic.TcCoe Cert.Mm Cert.RefDcqIdeal Cert.RefDcqIdeal.Gen

/-- The reference's result. -/
theorem ref_eq (P Q : ℕ → ℕ → EReal) :
    truncf (F := Ideal) (φ := .f32) .bf16 (Host.dotGeneral (F := Ideal) (φ₁ := .f32) (φ₂ := .f32) dot_S4224x4096_S1024x4096_S4224x1024_1_1_0_0_n_n none (extf (F := Ideal) (φ := .bf16) .f32 (e2 P : S4224x4096.Idx → EReal) bitsLt_bf16_f32) (extf (F := Ideal) (φ := .bf16) .f32 (e2 Q : S1024x4096.Idx → EReal) bitsLt_bf16_f32)) bitsLt_bf16_f32
      = (e2 fun i j => (∑ k ∈ Finset.range 4096, P i k * Q j k) : S4224x1024.Idx → EReal) := by
  funext j; idx_vars j; pointwise; simp only [e2_ix2]
  exact sum_fin 4096 (fun k => P j0.val k) (fun k => Q j1.val k)

end Cert.MmDcq
-- ==== Proof.Dwuq.lean ====
module

public import proofs.«01_k».proof.Proof.Mm
public import proofs.«01_k».proof.Proof.Gen.DwuqIdeal.Value
public import proofs.«01_k».proof.Proof.Gen.RefDwuqIdeal.Run
public import Idealize.ShloMosaic.Lib.Pipeline.ValueKit
public import Idealize.ShloMosaic.Lib.VecWindow

/-! The gradient of the query up-projection's weight. -/

@[expose] public section

set_option maxRecDepth 16384

noncomputable section

namespace Cert.MmDwuq

open Idealize.ShloMosaic Idealize.ShloMosaic.TcCoe Cert.Mm Cert.DwuqIdeal Cert.DwuqIdeal.Gen

/-- The block a grid point leaves, over the blocks it reads. -/
theorem out_eq (c : Dev nD) (i : grid0.Coords) (arg3 : Memref sig .tc .vmem S4224x1024 .bf16) (harg3 : arg3.IsWhole) (arg4 : Memref sig .tc .vmem S4224x512 .bf16) (harg4 : arg4.IsWhole) (arg5 : Memref sig .tc .vmem S1024x512 .bf16) (harg5 : arg5.IsWhole) (arg6 : Memref sig .tc .vmem S1024x512 .f32) (harg6 : arg6.IsWhole)
    (hc0 : cond0_0 i) (hc1 : cond0_1 i)
    (x0 : Vec Ideal S4224x1024 .bf16) (x1 : Vec Ideal S4224x512 .bf16) :
    out0_A_2 c i arg3 harg3 arg4 harg4 arg5 harg5 arg6 harg6 hc0 hc1 x0 x1 = k0_pay3 (k0_pay2 k0_pay1 x0 x1) := by
  unfold out0_A_2 kernelRun0_A
  refine (View.read_writes_full _ _ _ _ _).trans ?_
  unfold kernelRun0_A.sl.v14 kernelRun0_A.sl.HS0_2 kernelRun0_A.sl.v3 kernelRun0_A.sl.HS0_1
  rw [View.readCov_full, View.readCov_full, View.readAt_full, View.readAt_full, harg3.read_unread, harg4.read_unread]

/-- That block's entries: sums of products. -/
theorem pay_eq (X Y : ℕ → ℕ → EReal) :
    k0_pay3 (F := Ideal) (k0_pay2 (F := Ideal) (k0_pay1 (F := Ideal)) (e2 X : S4224x1024.Idx → EReal) (e2 Y : S4224x512.Idx → EReal))
      = (e2 fun i j => (∑ k ∈ Finset.range 4224, X k i * Y k j) : S1024x512.Idx → EReal) := by
  unfold k0_pay3 k0_pay2 k0_pay1
  funext j; idx_vars j; pointwise; simp only [e2_ix2]
  rw [sum_fin 4224 (fun k => X k j0.val) (fun k => Y k j1.val)]

/-- The windows' block indices. -/
theorem idx_0 : ∀ t : Fin cfg0.N, is2 ((cfg0.win 0).index t) 0 (t.val / 8) := (by decide +kernel : ∀ t : Fin grid0.N, is2 (win0_0.index t) 0 (t.val / 8))
theorem idx_1 : ∀ t : Fin cfg0.N, is2 ((cfg0.win 1).index t) 0 (t.val % 8) := (by decide +kernel : ∀ t : Fin grid0.N, is2 (win0_1.index t) 0 (t.val % 8))
theorem idx_2 : ∀ t : Fin cfg0.N, is2 ((cfg0.win 2).index t) (t.val / 8) (t.val % 8) := (by decide +kernel : ∀ t : Fin grid0.N, is2 (win0_2.index t) (t.val / 8) (t.val % 8))

variable (m : (ℓ : Loc nD τ sig) → Buf (Elt Ideal) ℓ) (c : Dev nD) (P Q : ℕ → ℕ → EReal)
  (h0 : m ((c.tc : Thread nD τ).loc main_arg0) = (e2 P : S4224x1024.Idx → EReal))
  (h1 : m ((c.tc : Thread nD τ).loc main_arg1) = (e2 Q : S4224x4096.Idx → EReal))
include h0 h1

theorem blk_0 (t : Fin cfg0.N) : iblk m c 0 t = (e2 fun i j => P i (t.val / 8 * 1024 + j) : S4224x1024.Idx → EReal) := by
  obtain ⟨e0, e1⟩ := idx_0 t
  funext y
  refine Eq.trans (b := m ((c.tc : Thread nD τ).loc main_arg0) (((cfg0.win 0).blk t).view.emb y)) rfl ?_
  rw [h0]
  exact congrArg₂ P (by blk_simp [e0, e1]) (by blk_simp [e0, e1])

theorem blk_1 (t : Fin cfg0.N) : iblk m c 1 t = (e2 fun i j => Q i (t.val % 8 * 512 + j) : S4224x512.Idx → EReal) := by
  obtain ⟨e0, e1⟩ := idx_1 t
  funext y
  refine Eq.trans (b := m ((c.tc : Thread nD τ).loc main_arg1) (((cfg0.win 1).blk t).view.emb y)) rfl ?_
  rw [h1]
  exact congrArg₂ Q (by blk_simp [e0, e1]) (by blk_simp [e0, e1])

/-- The output block after each grid point. -/
theorem outs (t : Fin cfg0.N) : outsAt0 m c t
    = (e2 fun i j => (∑ k ∈ Finset.range 4224, P k (t.val / 8 * 1024 + i) * Q k (t.val % 8 * 512 + j)) : S1024x512.Idx → EReal) := by
  unfold outsAt0
  rw [out_eq c (grid0.coords t) (ms0_0 t) (hs0_0 t) (ms0_1 t) (hs0_1 t) (ms0_2 t) (hs0_2 t) scM0_0 (Memref.isWhole_whole _) (hcond0_0 t) (hcond0_1 t) (iblk m c 0 t) (iblk m c 1 t),
    blk_0 m c P Q h0 h1, blk_1 m c P Q h0 h1, pay_eq]

/-- The kernel's result. -/
theorem arr : (dats m 0 c).arrAt 2 cfg0.N = (e2 fun i j => (∑ k ∈ Finset.range 4224, P k i * Q k j) : S1024x4096.Idx → EReal) := by
  refine (dats m 0 c).arrAt_eq_of_covers 2 _ (by decide +kernel) fun t hf y => ?_
  obtain ⟨e0, e1⟩ := idx_2 t
  blk_simp
  rw [after0_2, outs m c P Q h0 h1]
  have a0 : (((win0_2.blk t).view.emb y) 0).val = t.val / 8 * 1024 + (y 0).val := by blk_simp [e0, e1]
  have a1 : (((win0_2.blk t).view.emb y) 1).val = t.val % 8 * 512 + (y 1).val := by blk_simp [e0, e1]
  refine Eq.trans (b := (∑ k ∈ Finset.range 4224, P k (t.val / 8 * 1024 + (y 0).val) * Q k (t.val % 8 * 512 + (y 1).val))) rfl ?_
  rw [← a0, ← a1]
  rfl

end Cert.MmDwuq

namespace Cert.MmDwuq

open Idealize.ShloMosaic Idealize.ShloMosaic.TcCoe Cert.Mm Cert.RefDwuqIdeal Cert.RefDwuqIdeal.Gen

/-- The reference's result. -/
theorem ref_eq (P Q : ℕ → ℕ → EReal) :
    truncf (F := Ideal) (φ := .f32) .bf16 (transpose S1024x4096 [1, 0] (Host.dotGeneral (F := Ideal) (φ₁ := .f32) (φ₂ := .f32) dot_S4224x4096_S4224x1024_S4096x1024_0_0_1_1_n_n none (extf (F := Ideal) (φ := .bf16) .f32 (e2 Q : S4224x4096.Idx → EReal) bitsLt_bf16_f32) (extf (F := Ideal) (φ := .bf16) .f32 (e2 P : S4224x1024.Idx → EReal) bitsLt_bf16_f32)) transposes_S4096x1024_S1024x4096_1_0) bitsLt_bf16_f32
      = (e2 fun i j => (∑ k ∈ Finset.range 4224, P k i * Q k j) : S1024x4096.Idx → EReal) := by
  funext j; idx_vars j; pointwise; simp only [e2_ix2]
  exact (sum_fin 4224 (fun k => Q k j1.val) (fun k => P k j0.val)).trans (Finset.sum_congr rfl fun k _ => mul_comm _ _)

end Cert.MmDwuq
-- ==== Proof.Dckv.lean ====
module

public import proofs.«01_k».proof.Proof.Mm
public import proofs.«01_k».proof.Proof.Gen.DckvIdeal.Value
public import proofs.«01_k».proof.Proof.Gen.RefDckvIdeal.Run
public import Idealize.ShloMosaic.Lib.Pipeline.ValueKit
public import Idealize.ShloMosaic.Lib.VecWindow

/-! The cotangent of the normed joint compression of keys and values. -/

@[expose] public section

set_option maxRecDepth 16384

noncomputable section

namespace Cert.MmDckv

open Idealize.ShloMosaic Idealize.ShloMosaic.TcCoe Cert.Mm Cert.DckvIdeal Cert.DckvIdeal.Gen

/-- The block a grid point leaves, over the blocks it reads. -/
theorem out_eq (c : Dev nD) (i : grid0.Coords) (arg3 : Memref sig .tc .vmem S1056x4096 .bf16) (harg3 : arg3.IsWhole) (arg4 : Memref sig .tc .vmem S512x4096 .bf16) (harg4 : arg4.IsWhole) (arg5 : Memref sig .tc .vmem S1056x512 .bf16) (harg5 : arg5.IsWhole) (arg6 : Memref sig .tc .vmem S1056x512 .f32) (harg6 : arg6.IsWhole)
    (hc0 : cond0_0 i) (hc1 : cond0_1 i)
    (x0 : Vec Ideal S1056x4096 .bf16) (x1 : Vec Ideal S512x4096 .bf16) :
    out0_A_2 c i arg3 harg3 arg4 harg4 arg5 harg5 arg6 harg6 hc0 hc1 x0 x1 = k0_pay3 (k0_pay2 k0_pay1 x0 x1) := by
  unfold out0_A_2 kernelRun0_A
  refine (View.read_writes_full _ _ _ _ _).trans ?_
  unfold kernelRun0_A.sl.v14 kernelRun0_A.sl.HS0_2 kernelRun0_A.sl.v3 kernelRun0_A.sl.HS0_1
  rw [View.readCov_full, View.readCov_full, View.readAt_full, View.readAt_full, harg3.read_unread, harg4.read_unread]

/-- That block's entries: sums of products. -/
theorem pay_eq (X Y : ℕ → ℕ → EReal) :
    k0_pay3 (F := Ideal) (k0_pay2 (F := Ideal) (k0_pay1 (F := Ideal)) (e2 X : S1056x4096.Idx → EReal) (e2 Y : S512x4096.Idx → EReal))
      = (e2 fun i j => (∑ k ∈ Finset.range 4096, X i k * Y j k) : S1056x512.Idx → EReal) := by
  unfold k0_pay3 k0_pay2 k0_pay1
  funext j; idx_vars j; pointwise; simp only [e2_ix2]
  rw [sum_fin 4096 (fun k => X j0.val k) (fun k => Y j1.val k)]

/-- The windows' block indices. -/
theorem idx_0 : ∀ t : Fin cfg0.N, is2 ((cfg0.win 0).index t) (t.val / 1) 0 := (by decide +kernel : ∀ t : Fin grid0.N, is2 (win0_0.index t) (t.val / 1) 0)
theorem idx_1 : ∀ t : Fin cfg0.N, is2 ((cfg0.win 1).index t) (t.val % 1) 0 := (by decide +kernel : ∀ t : Fin grid0.N, is2 (win0_1.index t) (t.val % 1) 0)
theorem idx_2 : ∀ t : Fin cfg0.N, is2 ((cfg0.win 2).index t) (t.val / 1) (t.val % 1) := (by decide +kernel : ∀ t : Fin grid0.N, is2 (win0_2.index t) (t.val / 1) (t.val % 1))

variable (m : (ℓ : Loc nD τ sig) → Buf (Elt Ideal) ℓ) (c : Dev nD) (P Q : ℕ → ℕ → EReal)
  (h0 : m ((c.tc : Thread nD τ).loc main_arg0) = (e2 P : S4224x4096.Idx → EReal))
  (h1 : m ((c.tc : Thread nD τ).loc main_arg1) = (e2 Q : S512x4096.Idx → EReal))
include h0 h1

theorem blk_0 (t : Fin cfg0.N) : iblk m c 0 t = (e2 fun i j => P (t.val / 1 * 1056 + i) j : S1056x4096.Idx → EReal) := by
  obtain ⟨e0, e1⟩ := idx_0 t
  funext y
  refine Eq.trans (b := m ((c.tc : Thread nD τ).loc main_arg0) (((cfg0.win 0).blk t).view.emb y)) rfl ?_
  rw [h0]
  exact congrArg₂ P (by blk_simp [e0, e1]) (by blk_simp [e0, e1])

theorem blk_1 (t : Fin cfg0.N) : iblk m c 1 t = (e2 fun i j => Q (t.val % 1 * 512 + i) j : S512x4096.Idx → EReal) := by
  obtain ⟨e0, e1⟩ := idx_1 t
  funext y
  refine Eq.trans (b := m ((c.tc : Thread nD τ).loc main_arg1) (((cfg0.win 1).blk t).view.emb y)) rfl ?_
  rw [h1]
  exact congrArg₂ Q (by blk_simp [e0, e1]) (by blk_simp [e0, e1])

/-- The output block after each grid point. -/
theorem outs (t : Fin cfg0.N) : outsAt0 m c t
    = (e2 fun i j => (∑ k ∈ Finset.range 4096, P (t.val / 1 * 1056 + i) k * Q (t.val % 1 * 512 + j) k) : S1056x512.Idx → EReal) := by
  unfold outsAt0
  rw [out_eq c (grid0.coords t) (ms0_0 t) (hs0_0 t) (ms0_1 t) (hs0_1 t) (ms0_2 t) (hs0_2 t) scM0_0 (Memref.isWhole_whole _) (hcond0_0 t) (hcond0_1 t) (iblk m c 0 t) (iblk m c 1 t),
    blk_0 m c P Q h0 h1, blk_1 m c P Q h0 h1, pay_eq]

/-- The kernel's result. -/
theorem arr : (dats m 0 c).arrAt 2 cfg0.N = (e2 fun i j => (∑ k ∈ Finset.range 4096, P i k * Q j k) : S4224x512.Idx → EReal) := by
  refine (dats m 0 c).arrAt_eq_of_covers 2 _ (by decide +kernel) fun t hf y => ?_
  obtain ⟨e0, e1⟩ := idx_2 t
  blk_simp
  rw [after0_2, outs m c P Q h0 h1]
  have a0 : (((win0_2.blk t).view.emb y) 0).val = t.val / 1 * 1056 + (y 0).val := by blk_simp [e0, e1]
  have a1 : (((win0_2.blk t).view.emb y) 1).val = t.val % 1 * 512 + (y 1).val := by blk_simp [e0, e1]
  refine Eq.trans (b := (∑ k ∈ Finset.range 4096, P (t.val / 1 * 1056 + (y 0).val) k * Q (t.val % 1 * 512 + (y 1).val) k)) rfl ?_
  rw [← a0, ← a1]
  rfl

end Cert.MmDckv

namespace Cert.MmDckv

open Idealize.ShloMosaic Idealize.ShloMosaic.TcCoe Cert.Mm Cert.RefDckvIdeal Cert.RefDckvIdeal.Gen

/-- The reference's result. -/
theorem ref_eq (P Q : ℕ → ℕ → EReal) :
    truncf (F := Ideal) (φ := .f32) .bf16 (Host.dotGeneral (F := Ideal) (φ₁ := .f32) (φ₂ := .f32) dot_S4224x4096_S512x4096_S4224x512_1_1_0_0_n_n none (extf (F := Ideal) (φ := .bf16) .f32 (e2 P : S4224x4096.Idx → EReal) bitsLt_bf16_f32) (extf (F := Ideal) (φ := .bf16) .f32 (e2 Q : S512x4096.Idx → EReal) bitsLt_bf16_f32)) bitsLt_bf16_f32
      = (e2 fun i j => (∑ k ∈ Finset.range 4096, P i k * Q j k) : S4224x512.Idx → EReal) := by
  funext j; idx_vars j; pointwise; simp only [e2_ix2]
  exact sum_fin 4096 (fun k => P j0.val k) (fun k => Q j1.val k)

end Cert.MmDckv
-- ==== Proof.Dwukv.lean ====
module

public import proofs.«01_k».proof.Proof.Mm
public import proofs.«01_k».proof.Proof.Gen.DwukvIdeal.Value
public import proofs.«01_k».proof.Proof.Gen.RefDwukvIdeal.Run
public import Idealize.ShloMosaic.Lib.Pipeline.ValueKit
public import Idealize.ShloMosaic.Lib.VecWindow

/-! The gradient of the key and value up-projection's weight. -/

@[expose] public section

set_option maxRecDepth 16384

noncomputable section

namespace Cert.MmDwukv

open Idealize.ShloMosaic Idealize.ShloMosaic.TcCoe Cert.Mm Cert.DwukvIdeal Cert.DwukvIdeal.Gen

/-- The block a grid point leaves, over the blocks it reads. -/
theorem out_eq (c : Dev nD) (i : grid0.Coords) (arg3 : Memref sig .tc .vmem S4224x512 .bf16) (harg3 : arg3.IsWhole) (arg4 : Memref sig .tc .vmem S4224x512 .bf16) (harg4 : arg4.IsWhole) (arg5 : Memref sig .tc .vmem S512x512 .bf16) (harg5 : arg5.IsWhole) (arg6 : Memref sig .tc .vmem S512x512 .f32) (harg6 : arg6.IsWhole)
    (hc0 : cond0_0 i) (hc1 : cond0_1 i)
    (x0 : Vec Ideal S4224x512 .bf16) (x1 : Vec Ideal S4224x512 .bf16) :
    out0_A_2 c i arg3 harg3 arg4 harg4 arg5 harg5 arg6 harg6 hc0 hc1 x0 x1 = k0_pay3 (k0_pay2 k0_pay1 x0 x1) := by
  unfold out0_A_2 kernelRun0_A
  refine (View.read_writes_full _ _ _ _ _).trans ?_
  unfold kernelRun0_A.sl.v14 kernelRun0_A.sl.HS0_2 kernelRun0_A.sl.v3 kernelRun0_A.sl.HS0_1
  rw [View.readCov_full, View.readCov_full, View.readAt_full, View.readAt_full, harg3.read_unread, harg4.read_unread]

/-- That block's entries: sums of products. -/
theorem pay_eq (X Y : ℕ → ℕ → EReal) :
    k0_pay3 (F := Ideal) (k0_pay2 (F := Ideal) (k0_pay1 (F := Ideal)) (e2 X : S4224x512.Idx → EReal) (e2 Y : S4224x512.Idx → EReal))
      = (e2 fun i j => (∑ k ∈ Finset.range 4224, X k i * Y k j) : S512x512.Idx → EReal) := by
  unfold k0_pay3 k0_pay2 k0_pay1
  funext j; idx_vars j; pointwise; simp only [e2_ix2]
  rw [sum_fin 4224 (fun k => X k j0.val) (fun k => Y k j1.val)]

/-- The windows' block indices. -/
theorem idx_0 : ∀ t : Fin cfg0.N, is2 ((cfg0.win 0).index t) 0 (t.val / 8) := (by decide +kernel : ∀ t : Fin grid0.N, is2 (win0_0.index t) 0 (t.val / 8))
theorem idx_1 : ∀ t : Fin cfg0.N, is2 ((cfg0.win 1).index t) 0 (t.val % 8) := (by decide +kernel : ∀ t : Fin grid0.N, is2 (win0_1.index t) 0 (t.val % 8))
theorem idx_2 : ∀ t : Fin cfg0.N, is2 ((cfg0.win 2).index t) (t.val / 8) (t.val % 8) := (by decide +kernel : ∀ t : Fin grid0.N, is2 (win0_2.index t) (t.val / 8) (t.val % 8))

variable (m : (ℓ : Loc nD τ sig) → Buf (Elt Ideal) ℓ) (c : Dev nD) (P Q : ℕ → ℕ → EReal)
  (h0 : m ((c.tc : Thread nD τ).loc main_arg0) = (e2 P : S4224x512.Idx → EReal))
  (h1 : m ((c.tc : Thread nD τ).loc main_arg1) = (e2 Q : S4224x4096.Idx → EReal))
include h0 h1

theorem blk_0 (t : Fin cfg0.N) : iblk m c 0 t = (e2 fun i j => P i (t.val / 8 * 512 + j) : S4224x512.Idx → EReal) := by
  obtain ⟨e0, e1⟩ := idx_0 t
  funext y
  refine Eq.trans (b := m ((c.tc : Thread nD τ).loc main_arg0) (((cfg0.win 0).blk t).view.emb y)) rfl ?_
  rw [h0]
  exact congrArg₂ P (by blk_simp [e0, e1]) (by blk_simp [e0, e1])

theorem blk_1 (t : Fin cfg0.N) : iblk m c 1 t = (e2 fun i j => Q i (t.val % 8 * 512 + j) : S4224x512.Idx → EReal) := by
  obtain ⟨e0, e1⟩ := idx_1 t
  funext y
  refine Eq.trans (b := m ((c.tc : Thread nD τ).loc main_arg1) (((cfg0.win 1).blk t).view.emb y)) rfl ?_
  rw [h1]
  exact congrArg₂ Q (by blk_simp [e0, e1]) (by blk_simp [e0, e1])

/-- The output block after each grid point. -/
theorem outs (t : Fin cfg0.N) : outsAt0 m c t
    = (e2 fun i j => (∑ k ∈ Finset.range 4224, P k (t.val / 8 * 512 + i) * Q k (t.val % 8 * 512 + j)) : S512x512.Idx → EReal) := by
  unfold outsAt0
  rw [out_eq c (grid0.coords t) (ms0_0 t) (hs0_0 t) (ms0_1 t) (hs0_1 t) (ms0_2 t) (hs0_2 t) scM0_0 (Memref.isWhole_whole _) (hcond0_0 t) (hcond0_1 t) (iblk m c 0 t) (iblk m c 1 t),
    blk_0 m c P Q h0 h1, blk_1 m c P Q h0 h1, pay_eq]

/-- The kernel's result. -/
theorem arr : (dats m 0 c).arrAt 2 cfg0.N = (e2 fun i j => (∑ k ∈ Finset.range 4224, P k i * Q k j) : S512x4096.Idx → EReal) := by
  refine (dats m 0 c).arrAt_eq_of_covers 2 _ (by decide +kernel) fun t hf y => ?_
  obtain ⟨e0, e1⟩ := idx_2 t
  blk_simp
  rw [after0_2, outs m c P Q h0 h1]
  have a0 : (((win0_2.blk t).view.emb y) 0).val = t.val / 8 * 512 + (y 0).val := by blk_simp [e0, e1]
  have a1 : (((win0_2.blk t).view.emb y) 1).val = t.val % 8 * 512 + (y 1).val := by blk_simp [e0, e1]
  refine Eq.trans (b := (∑ k ∈ Finset.range 4224, P k (t.val / 8 * 512 + (y 0).val) * Q k (t.val % 8 * 512 + (y 1).val))) rfl ?_
  rw [← a0, ← a1]
  rfl

end Cert.MmDwukv

namespace Cert.MmDwukv

open Idealize.ShloMosaic Idealize.ShloMosaic.TcCoe Cert.Mm Cert.RefDwukvIdeal Cert.RefDwukvIdeal.Gen

/-- The reference's result. -/
theorem ref_eq (P Q : ℕ → ℕ → EReal) :
    truncf (F := Ideal) (φ := .f32) .bf16 (transpose S512x4096 [1, 0] (Host.dotGeneral (F := Ideal) (φ₁ := .f32) (φ₂ := .f32) dot_S4224x4096_S4224x512_S4096x512_0_0_1_1_n_n none (extf (F := Ideal) (φ := .bf16) .f32 (e2 Q : S4224x4096.Idx → EReal) bitsLt_bf16_f32) (extf (F := Ideal) (φ := .bf16) .f32 (e2 P : S4224x512.Idx → EReal) bitsLt_bf16_f32)) transposes_S4096x512_S512x4096_1_0) bitsLt_bf16_f32
      = (e2 fun i j => (∑ k ∈ Finset.range 4224, P k i * Q k j) : S512x4096.Idx → EReal) := by
  funext j; idx_vars j; pointwise; simp only [e2_ix2]
  exact (sum_fin 4224 (fun k => Q k j1.val) (fun k => P k j0.val)).trans (Finset.sum_congr rfl fun k _ => mul_comm _ _)

end Cert.MmDwukv
-- ==== Proof.Proj.lean ====
module

public import proofs.«01_k».proof.Proof.Mm
public import proofs.«01_k».proof.Proof.Gen.ProjIdeal.Value
public import proofs.«01_k».proof.Proof.Gen.RefProjIdeal.Run
public import Idealize.ShloMosaic.Lib.Pipeline.ValueKit
public import Idealize.ShloMosaic.Lib.VecWindow

/-! The combined in-projection. -/

@[expose] public section

set_option maxRecDepth 16384

noncomputable section

namespace Cert.MmProj

open Idealize.ShloMosaic Idealize.ShloMosaic.TcCoe Cert.Mm Cert.ProjIdeal Cert.ProjIdeal.Gen

/-- The block a grid point leaves, over the blocks it reads. -/
theorem out_eq (c : Dev nD) (i : grid0.Coords) (arg3 : Memref sig .tc .vmem S1056x4096 .bf16) (harg3 : arg3.IsWhole) (arg4 : Memref sig .tc .vmem S512x4096 .bf16) (harg4 : arg4.IsWhole) (arg5 : Memref sig .tc .vmem S1056x512 .bf16) (harg5 : arg5.IsWhole) (arg6 : Memref sig .tc .vmem S1056x512 .f32) (harg6 : arg6.IsWhole)
    (hc0 : cond0_0 i) (hc1 : cond0_1 i)
    (x0 : Vec Ideal S1056x4096 .bf16) (x1 : Vec Ideal S512x4096 .bf16) :
    out0_A_2 c i arg3 harg3 arg4 harg4 arg5 harg5 arg6 harg6 hc0 hc1 x0 x1 = k0_pay3 (k0_pay2 k0_pay1 x0 x1) := by
  unfold out0_A_2 kernelRun0_A
  refine (View.read_writes_full _ _ _ _ _).trans ?_
  unfold kernelRun0_A.sl.v14 kernelRun0_A.sl.HS0_2 kernelRun0_A.sl.v3 kernelRun0_A.sl.HS0_1
  rw [View.readCov_full, View.readCov_full, View.readAt_full, View.readAt_full, harg3.read_unread, harg4.read_unread]

/-- That block's entries: sums of products. -/
theorem pay_eq (X Y : ℕ → ℕ → EReal) :
    k0_pay3 (F := Ideal) (k0_pay2 (F := Ideal) (k0_pay1 (F := Ideal)) (e2 X : S1056x4096.Idx → EReal) (e2 Y : S512x4096.Idx → EReal))
      = (e2 fun i j => (∑ k ∈ Finset.range 4096, X i k * Y j k) : S1056x512.Idx → EReal) := by
  unfold k0_pay3 k0_pay2 k0_pay1
  funext j; idx_vars j; pointwise; simp only [e2_ix2]
  rw [sum_fin 4096 (fun k => X j0.val k) (fun k => Y j1.val k)]

/-- The windows' block indices. -/
theorem idx_0 : ∀ t : Fin cfg0.N, is2 ((cfg0.win 0).index t) (t.val / 24) 0 := (by decide +kernel : ∀ t : Fin grid0.N, is2 (win0_0.index t) (t.val / 24) 0)
theorem idx_1 : ∀ t : Fin cfg0.N, is2 ((cfg0.win 1).index t) (t.val % 24) 0 := (by decide +kernel : ∀ t : Fin grid0.N, is2 (win0_1.index t) (t.val % 24) 0)
theorem idx_2 : ∀ t : Fin cfg0.N, is2 ((cfg0.win 2).index t) (t.val / 24) (t.val % 24) := (by decide +kernel : ∀ t : Fin grid0.N, is2 (win0_2.index t) (t.val / 24) (t.val % 24))

variable (m : (ℓ : Loc nD τ sig) → Buf (Elt Ideal) ℓ) (c : Dev nD) (P Q : ℕ → ℕ → EReal)
  (h0 : m ((c.tc : Thread nD τ).loc main_arg0) = (e2 P : S4224x4096.Idx → EReal))
  (h1 : m ((c.tc : Thread nD τ).loc main_arg1) = (e2 Q : S12288x4096.Idx → EReal))
include h0 h1

theorem blk_0 (t : Fin cfg0.N) : iblk m c 0 t = (e2 fun i j => P (t.val / 24 * 1056 + i) j : S1056x4096.Idx → EReal) := by
  obtain ⟨e0, e1⟩ := idx_0 t
  funext y
  refine Eq.trans (b := m ((c.tc : Thread nD τ).loc main_arg0) (((cfg0.win 0).blk t).view.emb y)) rfl ?_
  rw [h0]
  exact congrArg₂ P (by blk_simp [e0, e1]) (by blk_simp [e0, e1])

theorem blk_1 (t : Fin cfg0.N) : iblk m c 1 t = (e2 fun i j => Q (t.val % 24 * 512 + i) j : S512x4096.Idx → EReal) := by
  obtain ⟨e0, e1⟩ := idx_1 t
  funext y
  refine Eq.trans (b := m ((c.tc : Thread nD τ).loc main_arg1) (((cfg0.win 1).blk t).view.emb y)) rfl ?_
  rw [h1]
  exact congrArg₂ Q (by blk_simp [e0, e1]) (by blk_simp [e0, e1])

/-- The output block after each grid point. -/
theorem outs (t : Fin cfg0.N) : outsAt0 m c t
    = (e2 fun i j => (∑ k ∈ Finset.range 4096, P (t.val / 24 * 1056 + i) k * Q (t.val % 24 * 512 + j) k) : S1056x512.Idx → EReal) := by
  unfold outsAt0
  rw [out_eq c (grid0.coords t) (ms0_0 t) (hs0_0 t) (ms0_1 t) (hs0_1 t) (ms0_2 t) (hs0_2 t) scM0_0 (Memref.isWhole_whole _) (hcond0_0 t) (hcond0_1 t) (iblk m c 0 t) (iblk m c 1 t),
    blk_0 m c P Q h0 h1, blk_1 m c P Q h0 h1, pay_eq]

/-- The kernel's result. -/
theorem arr : (dats m 0 c).arrAt 2 cfg0.N = (e2 fun i j => (∑ k ∈ Finset.range 4096, P i k * Q j k) : S4224x12288.Idx → EReal) := by
  refine (dats m 0 c).arrAt_eq_of_covers 2 _ (by decide +kernel) fun t hf y => ?_
  obtain ⟨e0, e1⟩ := idx_2 t
  blk_simp
  rw [after0_2, outs m c P Q h0 h1]
  have a0 : (((win0_2.blk t).view.emb y) 0).val = t.val / 24 * 1056 + (y 0).val := by blk_simp [e0, e1]
  have a1 : (((win0_2.blk t).view.emb y) 1).val = t.val % 24 * 512 + (y 1).val := by blk_simp [e0, e1]
  refine Eq.trans (b := (∑ k ∈ Finset.range 4096, P (t.val / 24 * 1056 + (y 0).val) k * Q (t.val % 24 * 512 + (y 1).val) k)) rfl ?_
  rw [← a0, ← a1]
  rfl

end Cert.MmProj

namespace Cert.MmProj

open Idealize.ShloMosaic Idealize.ShloMosaic.TcCoe Cert.Mm Cert.RefProjIdeal Cert.RefProjIdeal.Gen

/-- The reference's result. -/
theorem ref_eq (P Q : ℕ → ℕ → EReal) :
    truncf (F := Ideal) (φ := .f32) .bf16 (Host.dotGeneral (F := Ideal) (φ₁ := .f32) (φ₂ := .f32) dot_S4224x4096_S4096x12288_S4224x12288_1_0_0_1_n_n none (extf (F := Ideal) (φ := .bf16) .f32 (e2 P : S4224x4096.Idx → EReal) bitsLt_bf16_f32) (transpose S4096x12288 [1, 0] (extf (F := Ideal) (φ := .bf16) .f32 (e2 Q : S12288x4096.Idx → EReal) bitsLt_bf16_f32) transposes_S12288x4096_S4096x12288_1_0)) bitsLt_bf16_f32
      = (e2 fun i j => (∑ k ∈ Finset.range 4096, P i k * Q j k) : S4224x12288.Idx → EReal) := by
  funext j; idx_vars j; pointwise; simp only [e2_ix2]
  exact sum_fin 4096 (fun k => P j0.val k) (fun k => Q j1.val k)

end Cert.MmProj
-- ==== Proof.UpQ.lean ====
module

public import proofs.«01_k».proof.Proof.Mm
public import proofs.«01_k».proof.Proof.Gen.UpQIdeal.Value
public import proofs.«01_k».proof.Proof.Gen.RefUpQIdeal.Run
public import Idealize.ShloMosaic.Lib.Pipeline.ValueKit
public import Idealize.ShloMosaic.Lib.VecWindow

/-! The query up-projection. -/

@[expose] public section

set_option maxRecDepth 16384

noncomputable section

namespace Cert.MmUpQ

open Idealize.ShloMosaic Idealize.ShloMosaic.TcCoe Cert.Mm Cert.UpQIdeal Cert.UpQIdeal.Gen

/-- The block a grid point leaves, over the blocks it reads. -/
theorem out_eq (c : Dev nD) (i : grid0.Coords) (arg3 : Memref sig .tc .vmem S1056x1024 .bf16) (harg3 : arg3.IsWhole) (arg4 : Memref sig .tc .vmem S1024x1024 .bf16) (harg4 : arg4.IsWhole) (arg5 : Memref sig .tc .vmem S1056x1024 .f32) (harg5 : arg5.IsWhole) (arg6 : Memref sig .tc .vmem S1056x1024 .f32) (harg6 : arg6.IsWhole)
    (hc0 : cond0_0 i) (hc1 : cond0_1 i)
    (x0 : Vec Ideal S1056x1024 .bf16) (x1 : Vec Ideal S1024x1024 .bf16) :
    out0_A_2 c i arg3 harg3 arg4 harg4 arg5 harg5 arg6 harg6 hc0 hc1 x0 x1 = k0_pay2 k0_pay1 x0 x1 := by
  unfold out0_A_2 kernelRun0_A
  refine (View.read_writes_full _ _ _ _ _).trans ?_
  unfold kernelRun0_A.sl.v14 kernelRun0_A.sl.HS0_2 kernelRun0_A.sl.v3 kernelRun0_A.sl.HS0_1
  rw [View.readCov_full, View.readCov_full, View.readAt_full, View.readAt_full, harg3.read_unread, harg4.read_unread]

/-- That block's entries: sums of products. -/
theorem pay_eq (X Y : ℕ → ℕ → EReal) :
    k0_pay2 (F := Ideal) (k0_pay1 (F := Ideal)) (e2 X : S1056x1024.Idx → EReal) (e2 Y : S1024x1024.Idx → EReal)
      = (e2 fun i j => (∑ k ∈ Finset.range 1024, X i k * Y k j) : S1056x1024.Idx → EReal) := by
  unfold k0_pay2 k0_pay1
  funext j; idx_vars j; pointwise; simp only [e2_ix2]
  rw [sum_fin 1024 (fun k => X j0.val k) (fun k => Y k j1.val)]

/-- The windows' block indices. -/
theorem idx_0 : ∀ t : Fin cfg0.N, is2 ((cfg0.win 0).index t) (t.val / 4) 0 := (by decide +kernel : ∀ t : Fin grid0.N, is2 (win0_0.index t) (t.val / 4) 0)
theorem idx_1 : ∀ t : Fin cfg0.N, is2 ((cfg0.win 1).index t) 0 (t.val % 4) := (by decide +kernel : ∀ t : Fin grid0.N, is2 (win0_1.index t) 0 (t.val % 4))
theorem idx_2 : ∀ t : Fin cfg0.N, is2 ((cfg0.win 2).index t) (t.val / 4) (t.val % 4) := (by decide +kernel : ∀ t : Fin grid0.N, is2 (win0_2.index t) (t.val / 4) (t.val % 4))

variable (m : (ℓ : Loc nD τ sig) → Buf (Elt Ideal) ℓ) (c : Dev nD) (P Q : ℕ → ℕ → EReal)
  (h0 : m ((c.tc : Thread nD τ).loc main_arg0) = (e2 P : S4224x1024.Idx → EReal))
  (h1 : m ((c.tc : Thread nD τ).loc main_arg1) = (e2 Q : S1024x4096.Idx → EReal))
include h0 h1

theorem blk_0 (t : Fin cfg0.N) : iblk m c 0 t = (e2 fun i j => P (t.val / 4 * 1056 + i) j : S1056x1024.Idx → EReal) := by
  obtain ⟨e0, e1⟩ := idx_0 t
  funext y
  refine Eq.trans (b := m ((c.tc : Thread nD τ).loc main_arg0) (((cfg0.win 0).blk t).view.emb y)) rfl ?_
  rw [h0]
  exact congrArg₂ P (by blk_simp [e0, e1]) (by blk_simp [e0, e1])

theorem blk_1 (t : Fin cfg0.N) : iblk m c 1 t = (e2 fun i j => Q i (t.val % 4 * 1024 + j) : S1024x1024.Idx → EReal) := by
  obtain ⟨e0, e1⟩ := idx_1 t
  funext y
  refine Eq.trans (b := m ((c.tc : Thread nD τ).loc main_arg1) (((cfg0.win 1).blk t).view.emb y)) rfl ?_
  rw [h1]
  exact congrArg₂ Q (by blk_simp [e0, e1]) (by blk_simp [e0, e1])

/-- The output block after each grid point. -/
theorem outs (t : Fin cfg0.N) : outsAt0 m c t
    = (e2 fun i j => (∑ k ∈ Finset.range 1024, P (t.val / 4 * 1056 + i) k * Q k (t.val % 4 * 1024 + j)) : S1056x1024.Idx → EReal) := by
  unfold outsAt0
  rw [out_eq c (grid0.coords t) (ms0_0 t) (hs0_0 t) (ms0_1 t) (hs0_1 t) (ms0_2 t) (hs0_2 t) scM0_0 (Memref.isWhole_whole _) (hcond0_0 t) (hcond0_1 t) (iblk m c 0 t) (iblk m c 1 t),
    blk_0 m c P Q h0 h1, blk_1 m c P Q h0 h1, pay_eq]

/-- The kernel's result. -/
theorem arr : (dats m 0 c).arrAt 2 cfg0.N = (e2 fun i j => (∑ k ∈ Finset.range 1024, P i k * Q k j) : S4224x4096.Idx → EReal) := by
  refine (dats m 0 c).arrAt_eq_of_covers 2 _ (by decide +kernel) fun t hf y => ?_
  obtain ⟨e0, e1⟩ := idx_2 t
  blk_simp
  rw [after0_2, outs m c P Q h0 h1]
  have a0 : (((win0_2.blk t).view.emb y) 0).val = t.val / 4 * 1056 + (y 0).val := by blk_simp [e0, e1]
  have a1 : (((win0_2.blk t).view.emb y) 1).val = t.val % 4 * 1024 + (y 1).val := by blk_simp [e0, e1]
  refine Eq.trans (b := (∑ k ∈ Finset.range 1024, P (t.val / 4 * 1056 + (y 0).val) k * Q k (t.val % 4 * 1024 + (y 1).val))) rfl ?_
  rw [← a0, ← a1]
  rfl

end Cert.MmUpQ

namespace Cert.MmUpQ

open Idealize.ShloMosaic Idealize.ShloMosaic.TcCoe Cert.Mm Cert.RefUpQIdeal Cert.RefUpQIdeal.Gen

/-- The reference's result. -/
theorem ref_eq (P Q : ℕ → ℕ → EReal) :
    Host.dotGeneral (F := Ideal) (φ₁ := .f32) (φ₂ := .f32) dot_S4224x1024_S1024x4096_S4224x4096_1_0_0_1_n_n none (extf (F := Ideal) (φ := .bf16) .f32 (e2 P : S4224x1024.Idx → EReal) bitsLt_bf16_f32) (extf (F := Ideal) (φ := .bf16) .f32 (e2 Q : S1024x4096.Idx → EReal) bitsLt_bf16_f32)
      = (e2 fun i j => (∑ k ∈ Finset.range 1024, P i k * Q k j) : S4224x4096.Idx → EReal) := by
  funext j; idx_vars j; pointwise; simp only [e2_ix2]
  exact sum_fin 1024 (fun k => P j0.val k) (fun k => Q k j1.val)

end Cert.MmUpQ
-- ==== Proof.UpKv.lean ====
module

public import proofs.«01_k».proof.Proof.Mm
public import proofs.«01_k».proof.Proof.Gen.UpKvIdeal.Value
public import proofs.«01_k».proof.Proof.Gen.RefUpKvIdeal.Run
public import Idealize.ShloMosaic.Lib.Pipeline.ValueKit
public import Idealize.ShloMosaic.Lib.VecWindow

/-! The up-projection of keys and values. -/

@[expose] public section

set_option maxRecDepth 16384

noncomputable section

namespace Cert.MmUpKv

open Idealize.ShloMosaic Idealize.ShloMosaic.TcCoe Cert.Mm Cert.UpKvIdeal Cert.UpKvIdeal.Gen

/-- The block a grid point leaves, over the blocks it reads. -/
theorem out_eq (c : Dev nD) (i : grid0.Coords) (arg3 : Memref sig .tc .vmem S1056x512 .bf16) (harg3 : arg3.IsWhole) (arg4 : Memref sig .tc .vmem S512x1024 .bf16) (harg4 : arg4.IsWhole) (arg5 : Memref sig .tc .vmem S1056x1024 .bf16) (harg5 : arg5.IsWhole) (arg6 : Memref sig .tc .vmem S1056x1024 .f32) (harg6 : arg6.IsWhole)
    (hc0 : cond0_0 i) (hc1 : cond0_1 i)
    (x0 : Vec Ideal S1056x512 .bf16) (x1 : Vec Ideal S512x1024 .bf16) :
    out0_A_2 c i arg3 harg3 arg4 harg4 arg5 harg5 arg6 harg6 hc0 hc1 x0 x1 = k0_pay3 (k0_pay2 k0_pay1 x0 x1) := by
  unfold out0_A_2 kernelRun0_A
  refine (View.read_writes_full _ _ _ _ _).trans ?_
  unfold kernelRun0_A.sl.v14 kernelRun0_A.sl.HS0_2 kernelRun0_A.sl.v3 kernelRun0_A.sl.HS0_1
  rw [View.readCov_full, View.readCov_full, View.readAt_full, View.readAt_full, harg3.read_unread, harg4.read_unread]

/-- That block's entries: sums of products. -/
theorem pay_eq (X Y : ℕ → ℕ → EReal) :
    k0_pay3 (F := Ideal) (k0_pay2 (F := Ideal) (k0_pay1 (F := Ideal)) (e2 X : S1056x512.Idx → EReal) (e2 Y : S512x1024.Idx → EReal))
      = (e2 fun i j => (∑ k ∈ Finset.range 512, X i k * Y k j) : S1056x1024.Idx → EReal) := by
  unfold k0_pay3 k0_pay2 k0_pay1
  funext j; idx_vars j; pointwise; simp only [e2_ix2]
  rw [sum_fin 512 (fun k => X j0.val k) (fun k => Y k j1.val)]

/-- The windows' block indices. -/
theorem idx_0 : ∀ t : Fin cfg0.N, is2 ((cfg0.win 0).index t) (t.val / 4) 0 := (by decide +kernel : ∀ t : Fin grid0.N, is2 (win0_0.index t) (t.val / 4) 0)
theorem idx_1 : ∀ t : Fin cfg0.N, is2 ((cfg0.win 1).index t) 0 (t.val % 4) := (by decide +kernel : ∀ t : Fin grid0.N, is2 (win0_1.index t) 0 (t.val % 4))
theorem idx_2 : ∀ t : Fin cfg0.N, is2 ((cfg0.win 2).index t) (t.val / 4) (t.val % 4) := (by decide +kernel : ∀ t : Fin grid0.N, is2 (win0_2.index t) (t.val / 4) (t.val % 4))

variable (m : (ℓ : Loc nD τ sig) → Buf (Elt Ideal) ℓ) (c : Dev nD) (P Q : ℕ → ℕ → EReal)
  (h0 : m ((c.tc : Thread nD τ).loc main_arg0) = (e2 P : S4224x512.Idx → EReal))
  (h1 : m ((c.tc : Thread nD τ).loc main_arg1) = (e2 Q : S512x4096.Idx → EReal))
include h0 h1

theorem blk_0 (t : Fin cfg0.N) : iblk m c 0 t = (e2 fun i j => P (t.val / 4 * 1056 + i) j : S1056x512.Idx → EReal) := by
  obtain ⟨e0, e1⟩ := idx_0 t
  funext y
  refine Eq.trans (b := m ((c.tc : Thread nD τ).loc main_arg0) (((cfg0.win 0).blk t).view.emb y)) rfl ?_
  rw [h0]
  exact congrArg₂ P (by blk_simp [e0, e1]) (by blk_simp [e0, e1])

theorem blk_1 (t : Fin cfg0.N) : iblk m c 1 t = (e2 fun i j => Q i (t.val % 4 * 1024 + j) : S512x1024.Idx → EReal) := by
  obtain ⟨e0, e1⟩ := idx_1 t
  funext y
  refine Eq.trans (b := m ((c.tc : Thread nD τ).loc main_arg1) (((cfg0.win 1).blk t).view.emb y)) rfl ?_
  rw [h1]
  exact congrArg₂ Q (by blk_simp [e0, e1]) (by blk_simp [e0, e1])

/-- The output block after each grid point. -/
theorem outs (t : Fin cfg0.N) : outsAt0 m c t
    = (e2 fun i j => (∑ k ∈ Finset.range 512, P (t.val / 4 * 1056 + i) k * Q k (t.val % 4 * 1024 + j)) : S1056x1024.Idx → EReal) := by
  unfold outsAt0
  rw [out_eq c (grid0.coords t) (ms0_0 t) (hs0_0 t) (ms0_1 t) (hs0_1 t) (ms0_2 t) (hs0_2 t) scM0_0 (Memref.isWhole_whole _) (hcond0_0 t) (hcond0_1 t) (iblk m c 0 t) (iblk m c 1 t),
    blk_0 m c P Q h0 h1, blk_1 m c P Q h0 h1, pay_eq]

/-- The kernel's result. -/
theorem arr : (dats m 0 c).arrAt 2 cfg0.N = (e2 fun i j => (∑ k ∈ Finset.range 512, P i k * Q k j) : S4224x4096.Idx → EReal) := by
  refine (dats m 0 c).arrAt_eq_of_covers 2 _ (by decide +kernel) fun t hf y => ?_
  obtain ⟨e0, e1⟩ := idx_2 t
  blk_simp
  rw [after0_2, outs m c P Q h0 h1]
  have a0 : (((win0_2.blk t).view.emb y) 0).val = t.val / 4 * 1056 + (y 0).val := by blk_simp [e0, e1]
  have a1 : (((win0_2.blk t).view.emb y) 1).val = t.val % 4 * 1024 + (y 1).val := by blk_simp [e0, e1]
  refine Eq.trans (b := (∑ k ∈ Finset.range 512, P (t.val / 4 * 1056 + (y 0).val) k * Q k (t.val % 4 * 1024 + (y 1).val))) rfl ?_
  rw [← a0, ← a1]
  rfl

end Cert.MmUpKv

namespace Cert.MmUpKv

open Idealize.ShloMosaic Idealize.ShloMosaic.TcCoe Cert.Mm Cert.RefUpKvIdeal Cert.RefUpKvIdeal.Gen

/-- The reference's result. -/
theorem ref_eq (P Q : ℕ → ℕ → EReal) :
    truncf (F := Ideal) (φ := .f32) .bf16 (Host.dotGeneral (F := Ideal) (φ₁ := .f32) (φ₂ := .f32) dot_S4224x512_S512x4096_S4224x4096_1_0_0_1_n_n none (extf (F := Ideal) (φ := .bf16) .f32 (e2 P : S4224x512.Idx → EReal) bitsLt_bf16_f32) (extf (F := Ideal) (φ := .bf16) .f32 (e2 Q : S512x4096.Idx → EReal) bitsLt_bf16_f32)) bitsLt_bf16_f32
      = (e2 fun i j => (∑ k ∈ Finset.range 512, P i k * Q k j) : S4224x4096.Idx → EReal) := by
  funext j; idx_vars j; pointwise; simp only [e2_ix2]
  exact sum_fin 512 (fun k => P j0.val k) (fun k => Q k j1.val)

end Cert.MmUpKv
-- ==== Proof.OutProj.lean ====
module

public import proofs.«01_k».proof.Proof.Mm
public import proofs.«01_k».proof.Proof.Gen.OutProjIdeal.Value
public import proofs.«01_k».proof.Proof.Gen.RefOutProjIdeal.Run
public import Idealize.ShloMosaic.Lib.Pipeline.ValueKit
public import Idealize.ShloMosaic.Lib.VecWindow

/-! The out-projection, added to the layer's input. -/

@[expose] public section

set_option maxRecDepth 16384

noncomputable section

namespace Cert.MmOutProj

open Idealize.ShloMosaic Idealize.ShloMosaic.TcCoe Cert.Mm Cert.OutProjIdeal Cert.OutProjIdeal.Gen

/-- The block a grid point leaves, over the blocks it reads. -/
theorem out_eq (c : Dev nD) (i : grid0.Coords) (arg3 : Memref sig .tc .vmem S1056x4096 .bf16) (harg3 : arg3.IsWhole) (arg4 : Memref sig .tc .vmem S4096x512 .bf16) (harg4 : arg4.IsWhole) (arg5 : Memref sig .tc .vmem S1056x512 .f32) (harg5 : arg5.IsWhole) (arg6 : Memref sig .tc .vmem S1056x512 .f32) (harg6 : arg6.IsWhole) (arg7 : Memref sig .tc .vmem S1056x512 .f32) (harg7 : arg7.IsWhole)
    (hc0 : cond0_0 i) (hc1 : cond0_1 i)
    (x0 : Vec Ideal S1056x4096 .bf16) (x1 : Vec Ideal S4096x512 .bf16) (x2 : Vec Ideal S1056x512 .f32) :
    out0_A_3 c i arg3 harg3 arg4 harg4 arg5 harg5 arg6 harg6 arg7 harg7 hc0 hc1 x0 x1 x2 = k0_pay3 (k0_pay2 k0_pay1 x0 x1) x2 := by
  unfold out0_A_3 kernelRun0_A
  refine (View.read_writes_full _ _ _ _ _).trans ?_
  unfold kernelRun0_A.sl.v14 kernelRun0_A.sl.HS0_2 kernelRun0_A.sl.v3 kernelRun0_A.sl.HS0_1
  rw [View.readCov_full, View.readCov_full, View.readAt_full, View.readAt_full, harg3.read_unread, harg4.read_unread, View.readAt_full, harg5.read_unread]

/-- That block's entries: sums of products. -/
theorem pay_eq (X Y : ℕ → ℕ → EReal) (Z : ℕ → ℕ → EReal) :
    k0_pay3 (F := Ideal) (k0_pay2 (F := Ideal) (k0_pay1 (F := Ideal)) (e2 X : S1056x4096.Idx → EReal) (e2 Y : S4096x512.Idx → EReal)) (e2 Z : S1056x512.Idx → EReal)
      = (e2 fun i j => (∑ k ∈ Finset.range 4096, X i k * Y k j) + Z i j : S1056x512.Idx → EReal) := by
  unfold k0_pay3 k0_pay2 k0_pay1
  funext j; idx_vars j; pointwise; simp only [e2_ix2]
  rw [sum_fin 4096 (fun k => X j0.val k) (fun k => Y k j1.val)]

/-- The windows' block indices. -/
theorem idx_0 : ∀ t : Fin cfg0.N, is2 ((cfg0.win 0).index t) (t.val / 8) 0 := (by decide +kernel : ∀ t : Fin grid0.N, is2 (win0_0.index t) (t.val / 8) 0)
theorem idx_1 : ∀ t : Fin cfg0.N, is2 ((cfg0.win 1).index t) 0 (t.val % 8) := (by decide +kernel : ∀ t : Fin grid0.N, is2 (win0_1.index t) 0 (t.val % 8))
theorem idx_2 : ∀ t : Fin cfg0.N, is2 ((cfg0.win 2).index t) (t.val / 8) (t.val % 8) := (by decide +kernel : ∀ t : Fin grid0.N, is2 (win0_2.index t) (t.val / 8) (t.val % 8))
theorem idx_3 : ∀ t : Fin cfg0.N, is2 ((cfg0.win 3).index t) (t.val / 8) (t.val % 8) := (by decide +kernel : ∀ t : Fin grid0.N, is2 (win0_3.index t) (t.val / 8) (t.val % 8))

variable (m : (ℓ : Loc nD τ sig) → Buf (Elt Ideal) ℓ) (c : Dev nD) (P Q Z : ℕ → ℕ → EReal)
  (h0 : m ((c.tc : Thread nD τ).loc main_arg0) = (e2 P : S4224x4096.Idx → EReal))
  (h1 : m ((c.tc : Thread nD τ).loc main_arg1) = (e2 Q : S4096x4096.Idx → EReal))
  (h2 : m ((c.tc : Thread nD τ).loc main_arg2) = (e2 Z : S4224x4096.Idx → EReal))
include h0 h1 h2

theorem blk_0 (t : Fin cfg0.N) : iblk m c 0 t = (e2 fun i j => P (t.val / 8 * 1056 + i) j : S1056x4096.Idx → EReal) := by
  obtain ⟨e0, e1⟩ := idx_0 t
  funext y
  refine Eq.trans (b := m ((c.tc : Thread nD τ).loc main_arg0) (((cfg0.win 0).blk t).view.emb y)) rfl ?_
  rw [h0]
  exact congrArg₂ P (by blk_simp [e0, e1]) (by blk_simp [e0, e1])

theorem blk_1 (t : Fin cfg0.N) : iblk m c 1 t = (e2 fun i j => Q i (t.val % 8 * 512 + j) : S4096x512.Idx → EReal) := by
  obtain ⟨e0, e1⟩ := idx_1 t
  funext y
  refine Eq.trans (b := m ((c.tc : Thread nD τ).loc main_arg1) (((cfg0.win 1).blk t).view.emb y)) rfl ?_
  rw [h1]
  exact congrArg₂ Q (by blk_simp [e0, e1]) (by blk_simp [e0, e1])

theorem blk_2 (t : Fin cfg0.N) : iblk m c 2 t = (e2 fun i j => Z (t.val / 8 * 1056 + i) (t.val % 8 * 512 + j) : S1056x512.Idx → EReal) := by
  obtain ⟨e0, e1⟩ := idx_2 t
  funext y
  refine Eq.trans (b := m ((c.tc : Thread nD τ).loc main_arg2) (((cfg0.win 2).blk t).view.emb y)) rfl ?_
  rw [h2]
  exact congrArg₂ Z (by blk_simp [e0, e1]) (by blk_simp [e0, e1])

/-- The output block after each grid point. -/
theorem outs (t : Fin cfg0.N) : outsAt0 m c t
    = (e2 fun i j => (∑ k ∈ Finset.range 4096, P (t.val / 8 * 1056 + i) k * Q k (t.val % 8 * 512 + j)) + Z (t.val / 8 * 1056 + i) (t.val % 8 * 512 + j) : S1056x512.Idx → EReal) := by
  unfold outsAt0
  rw [out_eq c (grid0.coords t) (ms0_0 t) (hs0_0 t) (ms0_1 t) (hs0_1 t) (ms0_2 t) (hs0_2 t) (ms0_3 t) (hs0_3 t) scM0_0 (Memref.isWhole_whole _) (hcond0_0 t) (hcond0_1 t) (iblk m c 0 t) (iblk m c 1 t) (iblk m c 2 t),
    blk_0 m c P Q Z h0 h1 h2, blk_1 m c P Q Z h0 h1 h2, blk_2 m c P Q Z h0 h1 h2, pay_eq]

/-- The kernel's result. -/
theorem arr : (dats m 0 c).arrAt 3 cfg0.N = (e2 fun i j => (∑ k ∈ Finset.range 4096, P i k * Q k j) + Z i j : S4224x4096.Idx → EReal) := by
  refine (dats m 0 c).arrAt_eq_of_covers 3 _ (by decide +kernel) fun t hf y => ?_
  obtain ⟨e0, e1⟩ := idx_3 t
  blk_simp
  rw [after0_3, outs m c P Q Z h0 h1 h2]
  have a0 : (((win0_3.blk t).view.emb y) 0).val = t.val / 8 * 1056 + (y 0).val := by blk_simp [e0, e1]
  have a1 : (((win0_3.blk t).view.emb y) 1).val = t.val % 8 * 512 + (y 1).val := by blk_simp [e0, e1]
  refine Eq.trans (b := (∑ k ∈ Finset.range 4096, P (t.val / 8 * 1056 + (y 0).val) k * Q k (t.val % 8 * 512 + (y 1).val)) + Z (t.val / 8 * 1056 + (y 0).val) (t.val % 8 * 512 + (y 1).val)) rfl ?_
  rw [← a0, ← a1]
  rfl

end Cert.MmOutProj

namespace Cert.MmOutProj

open Idealize.ShloMosaic Idealize.ShloMosaic.TcCoe Cert.Mm Cert.RefOutProjIdeal Cert.RefOutProjIdeal.Gen

/-- The reference's result. -/
theorem ref_eq (P Q Z : ℕ → ℕ → EReal) :
    addf (e2 Z : S4224x4096.Idx → EReal) (Host.dotGeneral (F := Ideal) (φ₁ := .f32) (φ₂ := .f32) dot_S4224x4096_S4096x4096_S4224x4096_1_0_0_1_n_n none (extf (F := Ideal) (φ := .bf16) .f32 (e2 P : S4224x4096.Idx → EReal) bitsLt_bf16_f32) (extf (F := Ideal) (φ := .bf16) .f32 (e2 Q : S4096x4096.Idx → EReal) bitsLt_bf16_f32))
      = (e2 fun i j => (∑ k ∈ Finset.range 4096, P i k * Q k j) + Z i j : S4224x4096.Idx → EReal) := by
  funext j; idx_vars j; pointwise; simp only [e2_ix2]
  rw [sum_fin 4096 (fun k => P j0.val k) (fun k => Q k j1.val), add_comm]

end Cert.MmOutProj
-- ==== Proof.MlaPre.lean ====
module

public import proofs.«01_k».proof.Defs
public import proofs.«01_k».proof.Proof.Pre

/-! The precondition of the softmax attention's gradient: every entry of the arguments is a real number. -/

@[expose] public section

set_option maxRecDepth 16384

noncomputable section

namespace Cert.Mla

open Idealize.ShloMosaic Idealize.ShloMosaic.TcCoe Cert.Pre_finite_mla Cert.Stick

instance : Subsingleton (Shape.Idx S_) := ⟨fun a b => funext fun i => i.elim0⟩

/-- The arguments are real under the precondition. -/
theorem reals [Cert.Pre_finite_mla.Facts] (X Y Z : S4224x4096.Idx → EReal) (W : S4224x2048.Idx → EReal)
    (h : fn (F := Ideal) X Y Z W = fun _ => 1#1) : (∃ A, X = up2 A) ∧ (∃ A, Y = up2 A) ∧ (∃ A, Z = up2 A) ∧ ∃ A, W = up2 A := by
  have h := congrFun h (fun i => i.elim0)
  obtain ⟨h, hw⟩ := bits_and _ _ h
  obtain ⟨h, hz⟩ := bits_and _ _ h
  obtain ⟨hx, hy⟩ := bits_and _ _ h
  exact ⟨up_of_real X fun i => real_of_abs _ (Host.reduce_andi_all _ _ _ _ _ hx i),
    up_of_real Y fun i => real_of_abs _ (Host.reduce_andi_all _ _ _ _ _ hy i),
    up_of_real Z fun i => real_of_abs _ (Host.reduce_andi_all _ _ _ _ _ hz i),
    up_of_real W fun i => real_of_abs _ (Host.reduce_andi_all _ _ _ _ _ hw i)⟩

end Cert.Mla

end
-- ==== Proof.MlaBlock.lean ====
module

public import proofs.«01_k».proof.Proof.Gen.MlaBwdIdeal.Frame

/-! One block of the backward pass of the causal softmax attention, for one head: the query rows of one
row block against the key rows of one block. Every definition is the text of the kernel's body over
the values it loads; `msk` is the identity below the diagonal and the causal mask on it. -/

@[expose] public section

set_option maxRecDepth 16384

noncomputable section

namespace Cert.Mla

open Idealize.ShloMosaic Cert.MlaBwdIdeal Cert.MlaBwdIdeal.Gen
variable {F : FTy → Type} [FloatOps F]

/-- A block of `384 × 384` scores. -/
abbrev Sq (F : FTy → Type) := FVec F S384x384 .f32
/-- `384` rows of one head's values. -/
abbrev Hd (F : FTy → Type) := FVec F S384x128 .f32
/-- `384` rows of one head's values, in the narrow format. -/
abbrev Hb (F : FTy → Type) := FVec F S384x128 .bf16
/-- `384` rows of one head's queries or keys. -/
abbrev Wd (F : FTy → Type) := FVec F S384x256 .f32
/-- `384` rows of one head's queries or keys, in the narrow format. -/
abbrev Wb (F : FTy → Type) := FVec F S384x256 .bf16
/-- One number per query row. -/
abbrev Col (F : FTy → Type) := FVec F S384x1 .f32

/-- The attention weights of the block: the exponential of the scaled scores less the row's logarithm of the sum. -/
def bP (msk : Sq F → Sq F) (q k : Wb F) (l : Col F) : Sq F :=
  msk (exp (subf (mulf (matmul dot_S384x256_S384x256_S384x384_1_1_0_0_n_n none q k (constant S384x384 .f32 0x00000000#32))
    (broadcast S384x384 (Scalar.ofBits .f32 0x3D93CD3A#32))) (broadcastTo S384x384 l broadcasts_S384x1_S384x384)))

/-- The row sum of the output times its cotangent. -/
def bDelta (d o : Hb F) : Col F :=
  shapeCast S384x1 (multiReduction .add [1] S384 (mulf (extf .f32 d bitsLt_bf16_f32)
    (extf .f32 (shapeCast S384x128 o shapeCasts_S384x128_S384x128) bitsLt_bf16_f32)) 0x00000000#32 reduces_S384x128_S384 (.inl rfl) rfl) shapeCasts_S384_S384x1

/-- The cotangent of the scores before the scale. -/
def bDs (p : Sq F) (v d : Hb F) (e : Col F) : FVec F S384x384 .bf16 :=
  truncf .bf16 (mulf (mulf p (subf (matmul dot_S384x128_S384x128_S384x384_1_1_0_0_n_n none d v (constant S384x384 .f32 0x00000000#32))
    (broadcastTo S384x384 e broadcasts_S384x1_S384x384))) (broadcast S384x384 (Scalar.ofBits .f32 0x3D93CD3A#32))) bitsLt_bf16_f32

section Head
variable (msk : Sq F → Sq F) (q k : Wb F) (v d : Hb F) (l e : Col F)

/-- What the block adds to the queries' cotangent. -/
def hDq (dq : Wd F) : Wd F :=
  addf dq (matmul dot_S384x384_S384x256_S384x256_1_0_0_1_n_n none (bDs (bP msk q k l) v d e) k (constant S384x256 .f32 0x00000000#32))
/-- What the block leaves in the keys' cotangent. -/
def hDk (old : Vec F S384x256 .f32) : Wd F :=
  addf (shapeCast S384x256 old shapeCasts_S384x256_S384x256)
    (matmul dot_S384x384_S384x256_S384x256_0_0_1_1_n_n none (bDs (bP msk q k l) v d e) q (constant S384x256 .f32 0x00000000#32))
/-- What the block leaves in the values' cotangent. -/
def hDv (old : Vec F S384x128 .f32) : Hd F :=
  addf (shapeCast S384x128 old shapeCasts_S384x128_S384x128)
    (matmul dot_S384x384_S384x128_S384x128_0_0_1_1_n_n none (truncf .bf16 (bP msk q k l) bitsLt_bf16_f32) d (constant S384x128 .f32 0x00000000#32))
end Head

/-- The logarithms of the row sums of one head, as loaded. -/
def colOf (x : Vec F S1x384x1 .f32) : Col F := shapeCast S384x1 x shapeCasts_S1x384x1_S384x1

end Cert.Mla
-- ==== Proof.MlaTrip.lean ====
module

public import proofs.«01_k».proof.Proof.MlaBlock
public import Idealize.ShloMosaic.Lib.VecWindow

/-! One trip of the loop over the earlier key blocks, as the block functions of what it loads. -/

@[expose] public section

set_option maxRecDepth 16384

noncomputable section

namespace Cert.Mla

open Idealize.ShloMosaic Cert.MlaBwdIdeal Cert.MlaBwdIdeal.Gen
variable {F : FTy → Type} [FloatOps F]

/-- The carried values: the queries' cotangents of the two heads. -/
abbrev Carry (F : FTy → Type) := FVec F S384x256 .f32 × FVec F S384x256 .f32

section
variable (𝒱 : Variants) (c : Dev nD) (bd : Option 𝒱.V) (i : grid0.Coords) (arg2 : Memref sig .tc .vmem S384x512 .bf16) (harg2 : arg2.IsWhole) (arg3 : Memref sig .tc .vmem S4224x512 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S2x384x1 .f32) (harg7 : arg7.IsWhole) (arg8 : Memref sig .tc .vmem S384x512 .bf16) (harg8 : arg8.IsWhole) (arg9 : Memref sig .tc .vmem S4224x512 .f32) (harg9 : arg9.IsWhole) (arg10 : Memref sig .tc .vmem S4224x256 .f32) (harg10 : arg10.IsWhole) (v6 : Vec F S384x128 .bf16) (v8 : Vec F S384x128 .bf16) (v14 : Vec F S384x128 .bf16) (v16 : Vec F S384x128 .bf16) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg7 : BufTy.Contents (Elt F) arg7.view.ty) (k : Fin (k0_t1_loop i).trips)
variable (acc : Carry F) (f9 : BufTy.Contents (Elt F) arg9.view.ty) (f10 : BufTy.Contents (Elt F) arg10.view.ty)

/-- The queries of a head. -/
abbrev ldQ0 : Wb F := View.readAt (Elt F) arg2.view (Rect.unit (s := S384x512) ![0, 0] S384x256.size inb_S384x512_S384x256_0_0).toLoadRect X_arg2
abbrev ldQ1 : Wb F := View.readAt (Elt F) arg2.view (Rect.unit (s := S384x512) ![0, 256] S384x256.size inb_S384x512_S384x256_0_256).toLoadRect X_arg2
/-- Two heads' rows side by side: one head's. -/
abbrev ldH0 (arg : Memref sig .tc .vmem S384x256 .bf16) (X : BufTy.Contents (Elt F) arg.view.ty) : Hb F := View.readAt (Elt F) arg.view (Rect.unit (s := S384x256) ![0, 0] S384x128.size inb_S384x256_S384x128_0_0).toLoadRect X
abbrev ldH1 (arg : Memref sig .tc .vmem S384x256 .bf16) (X : BufTy.Contents (Elt F) arg.view.ty) : Hb F := View.readAt (Elt F) arg.view (Rect.unit (s := S384x256) ![0, 128] S384x128.size inb_S384x256_S384x128_0_128).toLoadRect X
/-- The logarithms of the row sums of a head. -/
abbrev ldT0 : Col F := colOf (View.readAt (Elt F) arg7.view (Rect.unit (s := S2x384x1) ![0, 0, 0] S1x384x1.size inb_S2x384x1_S1x384x1_0_0_0).toLoadRect X_arg7)
abbrev ldT1 : Col F := colOf (View.readAt (Elt F) arg7.view (Rect.unit (s := S2x384x1) ![1, 0, 0] S1x384x1.size inb_S2x384x1_S1x384x1_1_0_0).toLoadRect X_arg7)
/-- The trip's keys of a head. -/
abbrev ldK0 : Wb F := View.readAt (Elt F) arg3.view (Rect.unit (s := S4224x512) (k0_off1 i k) S384x256.size (k0_off1_inb i k)).toLoadRect X_arg3
abbrev ldK1 : Wb F := View.readAt (Elt F) arg3.view (Rect.unit (s := S4224x512) (k0_off3 i k) S384x256.size (k0_off3_inb i k)).toLoadRect X_arg3
/-- The trip's values of a head. -/
abbrev ldV0 : Hb F := View.readAt (Elt F) arg4.view (Rect.unit (s := S4224x256) (k0_off2 i k) S384x128.size (k0_off2_inb i k)).toLoadRect X_arg4
abbrev ldV1 : Hb F := View.readAt (Elt F) arg4.view (Rect.unit (s := S4224x256) (k0_off4 i k) S384x128.size (k0_off4_inb i k)).toLoadRect X_arg4

/-- What a trip hands on. -/
theorem trip_carry : (trip_k0_t1 (F := F) 𝒱 c bd i arg2 harg2 arg3 harg3 arg4 harg4 arg5 harg5 arg6 harg6 arg7 harg7 arg8 harg8 arg9 harg9 arg10 harg10 v6 v8 v14 v16 X_arg2 X_arg3 X_arg4 X_arg6 X_arg7 k).1 acc f9 f10 =
    (hDq id (ldQ0 arg2 X_arg2) (ldK0 i arg3 X_arg3 k) (ldV0 i arg4 X_arg4 k) (ldH0 arg6 X_arg6) (ldT0 arg7 X_arg7) (bDelta v6 v8) acc.1,
     hDq id (ldQ1 arg2 X_arg2) (ldK1 i arg3 X_arg3 k) (ldV1 i arg4 X_arg4 k) (ldH1 arg6 X_arg6) (ldT1 arg7 X_arg7) (bDelta v14 v16) acc.2) := by
  unfold trip_k0_t1
  rfl

/-- What a trip stores in the keys' cotangent. -/
theorem trip_dk : (trip_k0_t1 (F := F) 𝒱 c bd i arg2 harg2 arg3 harg3 arg4 harg4 arg5 harg5 arg6 harg6 arg7 harg7 arg8 harg8 arg9 harg9 arg10 harg10 v6 v8 v14 v16 X_arg2 X_arg3 X_arg4 X_arg6 X_arg7 k).2.1 acc f9 f10 =
    ([⟨Rect.unit (s := S4224x512) (k0_off3 i k) ![384, 256] (k0_off3_inb i k),
       hDk (F := F) id (ldQ1 arg2 X_arg2) (ldK1 i arg3 X_arg3 k) (ldV1 i arg4 X_arg4 k) (ldH1 arg6 X_arg6) (ldT1 arg7 X_arg7) (bDelta v14 v16)
        (View.readAt (Elt F) arg9.view (Rect.unit (s := S4224x512) (k0_off3 i k) S384x256.size (k0_off3_inb i k)).toLoadRect f9)⟩,
     ⟨Rect.unit (s := S4224x512) (k0_off1 i k) ![384, 256] (k0_off1_inb i k),
       hDk (F := F) id (ldQ0 arg2 X_arg2) (ldK0 i arg3 X_arg3 k) (ldV0 i arg4 X_arg4 k) (ldH0 arg6 X_arg6) (ldT0 arg7 X_arg7) (bDelta v6 v8)
        (View.readAt (Elt F) arg9.view (Rect.unit (s := S4224x512) (k0_off1 i k) S384x256.size (k0_off1_inb i k)).toLoadRect f9)⟩] : List (View.Piece (Elt F) S4224x512 .f32)) := by
  unfold trip_k0_t1
  rfl

/-- What a trip stores in the values' cotangent. -/
theorem trip_dv : (trip_k0_t1 (F := F) 𝒱 c bd i arg2 harg2 arg3 harg3 arg4 harg4 arg5 harg5 arg6 harg6 arg7 harg7 arg8 harg8 arg9 harg9 arg10 harg10 v6 v8 v14 v16 X_arg2 X_arg3 X_arg4 X_arg6 X_arg7 k).2.2.1 acc f9 f10 =
    ([⟨Rect.unit (s := S4224x256) (k0_off4 i k) ![384, 128] (k0_off4_inb i k),
       hDv (F := F) id (ldQ1 arg2 X_arg2) (ldK1 i arg3 X_arg3 k) (ldH1 arg6 X_arg6) (ldT1 arg7 X_arg7)
        (View.readAt (Elt F) arg10.view (Rect.unit (s := S4224x256) (k0_off4 i k) S384x128.size (k0_off4_inb i k)).toLoadRect f10)⟩,
     ⟨Rect.unit (s := S4224x256) (k0_off2 i k) ![384, 128] (k0_off2_inb i k),
       hDv (F := F) id (ldQ0 arg2 X_arg2) (ldK0 i arg3 X_arg3 k) (ldH0 arg6 X_arg6) (ldT0 arg7 X_arg7)
        (View.readAt (Elt F) arg10.view (Rect.unit (s := S4224x256) (k0_off2 i k) S384x128.size (k0_off2_inb i k)).toLoadRect f10)⟩] : List (View.Piece (Elt F) S4224x256 .f32)) := by
  unfold trip_k0_t1
  rfl
end

end Cert.Mla
-- ==== Proof.MlaBody.lean ====
module

public import proofs.«01_k».proof.Proof.MlaTrip

/-! What the body stores at one grid point, as the block functions of the blocks it is given: the
state after the loop over the earlier key blocks, then the block on the diagonal. -/

@[expose] public section

set_option maxRecDepth 16384

noncomputable section

namespace Cert.Mla

open Idealize.ShloMosaic Cert.MlaBwdIdeal Cert.MlaBwdIdeal.Gen
variable {F : FTy → Type} [FloatOps F]

/-- The carried values before the first trip. -/
def init0 : Carry F := (k0_pay26, k0_pay27)

/-- The causal mask of the block on the diagonal. -/
def dmask : Sq F → Sq F := fun x => select k0_pay23 x (broadcast S384x384 (Scalar.ofBits .f32 0x00000000#32))

section
variable (c : Dev nD) (i : grid0.Coords) (arg2 : Memref sig .tc .vmem S384x512 .bf16) (harg2 : arg2.IsWhole) (arg3 : Memref sig .tc .vmem S4224x512 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S2x384x1 .f32) (harg7 : arg7.IsWhole) (arg8 : Memref sig .tc .vmem S384x512 .bf16) (harg8 : arg8.IsWhole) (arg9 : Memref sig .tc .vmem S4224x512 .f32) (harg9 : arg9.IsWhole) (arg10 : Memref sig .tc .vmem S4224x256 .f32) (harg10 : arg10.IsWhole)
    (x0 : Vec F S384x512 .bf16) (x1 : Vec F S4224x512 .bf16) (x2 : Vec F S4224x256 .bf16) (x3 : Vec F S384x256 .bf16) (x4 : Vec F S384x256 .bf16) (x5 : Vec F S2x384x1 .f32)
    (G9 : BufTy.Contents (Elt F) arg9.view.ty) (G10 : BufTy.Contents (Elt F) arg10.view.ty) (H9 : BufTy.Contents (Elt F) arg9.view.ty) (H10 : BufTy.Contents (Elt F) arg10.view.ty) (v28 : BitVec 32)

/-- The state after `n` earlier key blocks. -/
abbrev stA (n : ℕ) : Carry F × List (View.Piece (Elt F) S4224x512 .f32) × List (View.Piece (Elt F) S4224x256 .f32) :=
  st_k0_t1 (F := F) Variants.none c none i arg2 harg2 arg3 harg3 arg4 harg4 arg5 harg5 arg6 harg6 arg7 harg7 arg8 harg8 arg9 harg9 arg10 harg10 (ldH0 arg6 (harg6.unread x4)) (ldH0 arg5 (harg5.unread x3)) (ldH1 arg6 (harg6.unread x4)) (ldH1 arg5 (harg5.unread x3))
    (harg2.unread x0) (harg3.unread x1) (harg4.unread x2) (harg6.unread x4) (harg7.unread x5) G9 G10 init0 n

/-- The state after the loop. -/
abbrev stB : Carry F × List (View.Piece (Elt F) S4224x512 .f32) × List (View.Piece (Elt F) S4224x256 .f32) :=
  st_k0_t2 (F := F) Variants.none c none i arg2 harg2 arg3 harg3 arg4 harg4 arg5 harg5 arg6 harg6 arg7 harg7 arg8 harg8 arg9 harg9 arg10 harg10 (ldH0 arg6 (harg6.unread x4)) (ldH0 arg5 (harg5.unread x3)) (ldH1 arg6 (harg6.unread x4)) (ldH1 arg5 (harg5.unread x3))
    v28
    (harg2.unread x0) (harg3.unread x1) (harg4.unread x2) (harg6.unread x4) (harg7.unread x5)
    H9 H10
    (stA c i arg2 harg2 arg3 harg3 arg4 harg4 arg5 harg5 arg6 harg6 arg7 harg7 arg8 harg8 arg9 harg9 arg10 harg10 x0 x1 x2 x3 x4 x5 G9 G10 (Scf.trips (k0_t1_loop i).lb (k0_t1_loop i).ub (k0_t1_loop i).st)).1 (Scf.trips (k0_t2_loop i).lb (k0_t2_loop i).ub (k0_t2_loop i).st)
end

section
variable (c : Dev nD) (i : grid0.Coords) (arg2 : Memref sig .tc .vmem S384x512 .bf16) (harg2 : arg2.IsWhole) (arg3 : Memref sig .tc .vmem S4224x512 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S2x384x1 .f32) (harg7 : arg7.IsWhole) (arg8 : Memref sig .tc .vmem S384x512 .bf16) (harg8 : arg8.IsWhole) (arg9 : Memref sig .tc .vmem S4224x512 .f32) (harg9 : arg9.IsWhole) (arg10 : Memref sig .tc .vmem S4224x256 .f32) (harg10 : arg10.IsWhole) (hc0 : cond0_0 i)
    (x0 : Vec F S384x512 .bf16) (x1 : Vec F S4224x512 .bf16) (x2 : Vec F S4224x256 .bf16) (x3 : Vec F S384x256 .bf16) (x4 : Vec F S384x256 .bf16) (x5 : Vec F S2x384x1 .f32)

/-- The keys' stores of case A up to the first head's block on the diagonal. -/
abbrev preDkA : List (View.Piece (Elt F) S4224x512 .f32) :=
  (⟨Rect.unit (s := S4224x512) (k0_off9 i) ![384, 256] (k0_off9_inb i), hDk (F := F) dmask (ldQ0 arg2 (harg2.unread x0)) (View.readAt (Elt F) arg3.view (Rect.unit (s := S4224x512) (k0_off9 i) S384x256.size (k0_off9_inb i)).toLoadRect (harg3.unread x1)) (View.readAt (Elt F) arg4.view (Rect.unit (s := S4224x256) (k0_off10 i) S384x128.size (k0_off10_inb i)).toLoadRect (harg4.unread x2)) (ldH0 arg6 (harg6.unread x4)) (ldT0 arg7 (harg7.unread x5)) (bDelta (ldH0 arg6 (harg6.unread x4)) (ldH0 arg5 (harg5.unread x3)))
    (View.readAt (Elt F) arg9.view (Rect.unit (s := S4224x512) (k0_off9 i) S384x256.size (k0_off9_inb i)).toLoadRect
      (arg9.view.writes (Elt F) arg9.view.junk ((stB c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (arg9.view.writes (Elt F) arg9.view.junk ((stA c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (Scf.trips (k0_t1_loop i).lb (k0_t1_loop i).ub (k0_t1_loop i).st)).2.1 ++ [(⟨Rect.unit (s := S4224x512) ![0, 0] S4224x512.size inb_S4224x512_S4224x512_0_0, k0_pay21⟩ : View.Piece (Elt F) S4224x512 .f32)])) (arg10.view.writes (Elt F) arg10.view.junk ((stA c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (Scf.trips (k0_t1_loop i).lb (k0_t1_loop i).ub (k0_t1_loop i).st)).2.2 ++ [(⟨Rect.unit (s := S4224x256) ![0, 0] S4224x256.size inb_S4224x256_S4224x256_0_0, k0_pay22⟩ : View.Piece (Elt F) S4224x256 .f32)])) (kernelRun0_A.sl.v28 i)).2.1 ++ ((stA c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (Scf.trips (k0_t1_loop i).lb (k0_t1_loop i).ub (k0_t1_loop i).st)).2.1 ++ [(⟨Rect.unit (s := S4224x512) ![0, 0] S4224x512.size inb_S4224x512_S4224x512_0_0, k0_pay21⟩ : View.Piece (Elt F) S4224x512 .f32)]))))⟩ : View.Piece (Elt F) S4224x512 .f32) :: ((stB c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (arg9.view.writes (Elt F) arg9.view.junk ((stA c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (Scf.trips (k0_t1_loop i).lb (k0_t1_loop i).ub (k0_t1_loop i).st)).2.1 ++ [(⟨Rect.unit (s := S4224x512) ![0, 0] S4224x512.size inb_S4224x512_S4224x512_0_0, k0_pay21⟩ : View.Piece (Elt F) S4224x512 .f32)])) (arg10.view.writes (Elt F) arg10.view.junk ((stA c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (Scf.trips (k0_t1_loop i).lb (k0_t1_loop i).ub (k0_t1_loop i).st)).2.2 ++ [(⟨Rect.unit (s := S4224x256) ![0, 0] S4224x256.size inb_S4224x256_S4224x256_0_0, k0_pay22⟩ : View.Piece (Elt F) S4224x256 .f32)])) (kernelRun0_A.sl.v28 i)).2.1 ++ ((stA c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (Scf.trips (k0_t1_loop i).lb (k0_t1_loop i).ub (k0_t1_loop i).st)).2.1 ++ [(⟨Rect.unit (s := S4224x512) ![0, 0] S4224x512.size inb_S4224x512_S4224x512_0_0, k0_pay21⟩ : View.Piece (Elt F) S4224x512 .f32)]))

/-- The values' stores of case A up to the first head's block on the diagonal. -/
abbrev preDvA : List (View.Piece (Elt F) S4224x256 .f32) :=
  (⟨Rect.unit (s := S4224x256) (k0_off10 i) ![384, 128] (k0_off10_inb i), hDv (F := F) dmask (ldQ0 arg2 (harg2.unread x0)) (View.readAt (Elt F) arg3.view (Rect.unit (s := S4224x512) (k0_off9 i) S384x256.size (k0_off9_inb i)).toLoadRect (harg3.unread x1)) (ldH0 arg6 (harg6.unread x4)) (ldT0 arg7 (harg7.unread x5))
    (View.readAt (Elt F) arg10.view (Rect.unit (s := S4224x256) (k0_off10 i) S384x128.size (k0_off10_inb i)).toLoadRect
      (arg10.view.writes (Elt F) arg10.view.junk ((stB c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (arg9.view.writes (Elt F) arg9.view.junk ((stA c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (Scf.trips (k0_t1_loop i).lb (k0_t1_loop i).ub (k0_t1_loop i).st)).2.1 ++ [(⟨Rect.unit (s := S4224x512) ![0, 0] S4224x512.size inb_S4224x512_S4224x512_0_0, k0_pay21⟩ : View.Piece (Elt F) S4224x512 .f32)])) (arg10.view.writes (Elt F) arg10.view.junk ((stA c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (Scf.trips (k0_t1_loop i).lb (k0_t1_loop i).ub (k0_t1_loop i).st)).2.2 ++ [(⟨Rect.unit (s := S4224x256) ![0, 0] S4224x256.size inb_S4224x256_S4224x256_0_0, k0_pay22⟩ : View.Piece (Elt F) S4224x256 .f32)])) (kernelRun0_A.sl.v28 i)).2.2 ++ ((stA c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (Scf.trips (k0_t1_loop i).lb (k0_t1_loop i).ub (k0_t1_loop i).st)).2.2 ++ [(⟨Rect.unit (s := S4224x256) ![0, 0] S4224x256.size inb_S4224x256_S4224x256_0_0, k0_pay22⟩ : View.Piece (Elt F) S4224x256 .f32)]))))⟩ : View.Piece (Elt F) S4224x256 .f32) :: ((stB c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (arg9.view.writes (Elt F) arg9.view.junk ((stA c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (Scf.trips (k0_t1_loop i).lb (k0_t1_loop i).ub (k0_t1_loop i).st)).2.1 ++ [(⟨Rect.unit (s := S4224x512) ![0, 0] S4224x512.size inb_S4224x512_S4224x512_0_0, k0_pay21⟩ : View.Piece (Elt F) S4224x512 .f32)])) (arg10.view.writes (Elt F) arg10.view.junk ((stA c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (Scf.trips (k0_t1_loop i).lb (k0_t1_loop i).ub (k0_t1_loop i).st)).2.2 ++ [(⟨Rect.unit (s := S4224x256) ![0, 0] S4224x256.size inb_S4224x256_S4224x256_0_0, k0_pay22⟩ : View.Piece (Elt F) S4224x256 .f32)])) (kernelRun0_A.sl.v28 i)).2.2 ++ ((stA c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (Scf.trips (k0_t1_loop i).lb (k0_t1_loop i).ub (k0_t1_loop i).st)).2.2 ++ [(⟨Rect.unit (s := S4224x256) ![0, 0] S4224x256.size inb_S4224x256_S4224x256_0_0, k0_pay22⟩ : View.Piece (Elt F) S4224x256 .f32)]))

/-- The keys' stores of case A. -/
theorem body_dkA : (kernelRun0_A (F := F) c i arg2 harg2 arg3 harg3 arg4 harg4 arg5 harg5 arg6 harg6 arg7 harg7 arg8 harg8 arg9 harg9 arg10 harg10 hc0 x0 x1 x2 x3 x4 x5).2.1 =
    (⟨Rect.unit (s := S4224x512) (k0_off11 i) ![384, 256] (k0_off11_inb i), hDk (F := F) dmask (ldQ1 arg2 (harg2.unread x0)) (View.readAt (Elt F) arg3.view (Rect.unit (s := S4224x512) (k0_off11 i) S384x256.size (k0_off11_inb i)).toLoadRect (harg3.unread x1)) (View.readAt (Elt F) arg4.view (Rect.unit (s := S4224x256) (k0_off12 i) S384x128.size (k0_off12_inb i)).toLoadRect (harg4.unread x2)) (ldH1 arg6 (harg6.unread x4)) (ldT1 arg7 (harg7.unread x5)) (bDelta (ldH1 arg6 (harg6.unread x4)) (ldH1 arg5 (harg5.unread x3)))
    (View.readAt (Elt F) arg9.view (Rect.unit (s := S4224x512) (k0_off11 i) S384x256.size (k0_off11_inb i)).toLoadRect
      (arg9.view.writes (Elt F) arg9.view.junk (preDkA c i arg2 harg2 arg3 harg3 arg4 harg4 arg5 harg5 arg6 harg6 arg7 harg7 arg8 harg8 arg9 harg9 arg10 harg10 x0 x1 x2 x3 x4 x5)))⟩ : View.Piece (Elt F) S4224x512 .f32) :: (preDkA c i arg2 harg2 arg3 harg3 arg4 harg4 arg5 harg5 arg6 harg6 arg7 harg7 arg8 harg8 arg9 harg9 arg10 harg10 x0 x1 x2 x3 x4 x5) := by
  unfold kernelRun0_A
  rfl

/-- The values' stores of case A. -/
theorem body_dvA : (kernelRun0_A (F := F) c i arg2 harg2 arg3 harg3 arg4 harg4 arg5 harg5 arg6 harg6 arg7 harg7 arg8 harg8 arg9 harg9 arg10 harg10 hc0 x0 x1 x2 x3 x4 x5).2.2.1 =
    (⟨Rect.unit (s := S4224x256) (k0_off12 i) ![384, 128] (k0_off12_inb i), hDv (F := F) dmask (ldQ1 arg2 (harg2.unread x0)) (View.readAt (Elt F) arg3.view (Rect.unit (s := S4224x512) (k0_off11 i) S384x256.size (k0_off11_inb i)).toLoadRect (harg3.unread x1)) (ldH1 arg6 (harg6.unread x4)) (ldT1 arg7 (harg7.unread x5))
    (View.readAt (Elt F) arg10.view (Rect.unit (s := S4224x256) (k0_off12 i) S384x128.size (k0_off12_inb i)).toLoadRect
      (arg10.view.writes (Elt F) arg10.view.junk (preDvA c i arg2 harg2 arg3 harg3 arg4 harg4 arg5 harg5 arg6 harg6 arg7 harg7 arg8 harg8 arg9 harg9 arg10 harg10 x0 x1 x2 x3 x4 x5)))⟩ : View.Piece (Elt F) S4224x256 .f32) :: (preDvA c i arg2 harg2 arg3 harg3 arg4 harg4 arg5 harg5 arg6 harg6 arg7 harg7 arg8 harg8 arg9 harg9 arg10 harg10 x0 x1 x2 x3 x4 x5) := by
  unfold kernelRun0_A
  rfl

/-- The queries' stores of case A. -/
theorem body_dqA : (kernelRun0_A (F := F) c i arg2 harg2 arg3 harg3 arg4 harg4 arg5 harg5 arg6 harg6 arg7 harg7 arg8 harg8 arg9 harg9 arg10 harg10 hc0 x0 x1 x2 x3 x4 x5).1 =
    ([⟨Rect.unit (s := S384x512) ![0, 256] ![384, 256] inb_S384x512_S384x256_0_256,
        truncf .bf16 (hDq (F := F) dmask (ldQ1 arg2 (harg2.unread x0)) (View.readAt (Elt F) arg3.view (Rect.unit (s := S4224x512) (k0_off11 i) S384x256.size (k0_off11_inb i)).toLoadRect (harg3.unread x1)) (View.readAt (Elt F) arg4.view (Rect.unit (s := S4224x256) (k0_off12 i) S384x128.size (k0_off12_inb i)).toLoadRect (harg4.unread x2)) (ldH1 arg6 (harg6.unread x4)) (ldT1 arg7 (harg7.unread x5)) (bDelta (ldH1 arg6 (harg6.unread x4)) (ldH1 arg5 (harg5.unread x3))) (stB c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (arg9.view.writes (Elt F) arg9.view.junk ((stA c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (Scf.trips (k0_t1_loop i).lb (k0_t1_loop i).ub (k0_t1_loop i).st)).2.1 ++ [(⟨Rect.unit (s := S4224x512) ![0, 0] S4224x512.size inb_S4224x512_S4224x512_0_0, k0_pay21⟩ : View.Piece (Elt F) S4224x512 .f32)])) (arg10.view.writes (Elt F) arg10.view.junk ((stA c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (Scf.trips (k0_t1_loop i).lb (k0_t1_loop i).ub (k0_t1_loop i).st)).2.2 ++ [(⟨Rect.unit (s := S4224x256) ![0, 0] S4224x256.size inb_S4224x256_S4224x256_0_0, k0_pay22⟩ : View.Piece (Elt F) S4224x256 .f32)])) (kernelRun0_A.sl.v28 i)).1.2) bitsLt_bf16_f32⟩,
      ⟨Rect.unit (s := S384x512) ![0, 0] ![384, 256] inb_S384x512_S384x256_0_0,
        truncf .bf16 (hDq (F := F) dmask (ldQ0 arg2 (harg2.unread x0)) (View.readAt (Elt F) arg3.view (Rect.unit (s := S4224x512) (k0_off9 i) S384x256.size (k0_off9_inb i)).toLoadRect (harg3.unread x1)) (View.readAt (Elt F) arg4.view (Rect.unit (s := S4224x256) (k0_off10 i) S384x128.size (k0_off10_inb i)).toLoadRect (harg4.unread x2)) (ldH0 arg6 (harg6.unread x4)) (ldT0 arg7 (harg7.unread x5)) (bDelta (ldH0 arg6 (harg6.unread x4)) (ldH0 arg5 (harg5.unread x3))) (stB c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (arg9.view.writes (Elt F) arg9.view.junk ((stA c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (Scf.trips (k0_t1_loop i).lb (k0_t1_loop i).ub (k0_t1_loop i).st)).2.1 ++ [(⟨Rect.unit (s := S4224x512) ![0, 0] S4224x512.size inb_S4224x512_S4224x512_0_0, k0_pay21⟩ : View.Piece (Elt F) S4224x512 .f32)])) (arg10.view.writes (Elt F) arg10.view.junk ((stA c i arg2 harg2 arg3 harg3 arg4 harg4 arg5 harg5 arg6 harg6 arg7 harg7 arg8 harg8 arg9 harg9 arg10 harg10 x0 x1 x2 x3 x4 x5 (arg9.view.writes (Elt F) arg9.view.junk [⟨Rect.unit (s := S4224x512) ![0, 0] S4224x512.size inb_S4224x512_S4224x512_0_0, k0_pay21⟩]) (arg10.view.writes (Elt F) arg10.view.junk [⟨Rect.unit (s := S4224x256) ![0, 0] S4224x256.size inb_S4224x256_S4224x256_0_0, k0_pay22⟩]) (Scf.trips (k0_t1_loop i).lb (k0_t1_loop i).ub (k0_t1_loop i).st)).2.2 ++ [(⟨Rect.unit (s := S4224x256) ![0, 0] S4224x256.size inb_S4224x256_S4224x256_0_0, k0_pay22⟩ : View.Piece (Elt F) S4224x256 .f32)])) (kernelRun0_A.sl.v28 i)).1.1) bitsLt_bf16_f32⟩] : List (View.Piece (Elt F) S384x512 .bf16)) := by
  unfold kernelRun0_A
  rfl
end
section
variable (c : Dev nD) (i : grid0.Coords) (arg2 : Memref sig .tc .vmem S384x512 .bf16) (harg2 : arg2.IsWhole) (arg3 : Memref sig .tc .vmem S4224x512 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S2x384x1 .f32) (harg7 : arg7.IsWhole) (arg8 : Memref sig .tc .vmem S384x512 .bf16) (harg8 : arg8.IsWhole) (arg9 : Memref sig .tc .vmem S4224x512 .f32) (harg9 : arg9.IsWhole) (arg10 : Memref sig .tc .vmem S4224x256 .f32) (harg10 : arg10.IsWhole) (hc0 : ¬cond0_0 i)
    (x0 : Vec F S384x512 .bf16) (x1 : Vec F S4224x512 .bf16) (x2 : Vec F S4224x256 .bf16) (x3 : Vec F S384x256 .bf16) (x4 : Vec F S384x256 .bf16) (x5 : Vec F S2x384x1 .f32) (xo7 : Vec F S4224x512 .f32) (xo8 : Vec F S4224x256 .f32)

/-- The keys' stores of case B up to the first head's block on the diagonal. -/
abbrev preDkB : List (View.Piece (Elt F) S4224x512 .f32) :=
  (⟨Rect.unit (s := S4224x512) (k0_off9 i) ![384, 256] (k0_off9_inb i), hDk (F := F) dmask (ldQ0 arg2 (harg2.unread x0)) (View.readAt (Elt F) arg3.view (Rect.unit (s := S4224x512) (k0_off9 i) S384x256.size (k0_off9_inb i)).toLoadRect (harg3.unread x1)) (View.readAt (Elt F) arg4.view (Rect.unit (s := S4224x256) (k0_off10 i) S384x128.size (k0_off10_inb i)).toLoadRect (harg4.unread x2)) (ldH0 arg6 (harg6.unread x4)) (ldT0 arg7 (harg7.unread x5)) (bDelta (ldH0 arg6 (harg6.unread x4)) (ldH0 arg5 (harg5.unread x3)))
    (View.readAt (Elt F) arg9.view (Rect.unit (s := S4224x512) (k0_off9 i) S384x256.size (k0_off9_inb i)).toLoadRect
      (arg9.view.writes (Elt F) (harg9.unread xo7) ((stB c i arg2 harg2 arg3 harg3 arg4 harg4 arg5 harg5 arg6 harg6 arg7 harg7 arg8 harg8 arg9 harg9 arg10 harg10 x0 x1 x2 x3 x4 x5 (harg9.unread xo7) (harg10.unread xo8) (arg9.view.writes (Elt F) (harg9.unread xo7) (stA c i arg2 harg2 arg3 harg3 arg4 harg4 arg5 harg5 arg6 harg6 arg7 harg7 arg8 harg8 arg9 harg9 arg10 harg10 x0 x1 x2 x3 x4 x5 (harg9.unread xo7) (harg10.unread xo8) (Scf.trips (k0_t1_loop i).lb (k0_t1_loop i).ub (k0_t1_loop i).st)).2.1) (arg10.view.writes (Elt F) (harg10.unread xo8) (stA c i arg2 harg2 arg3 harg3 arg4 harg4 arg5 harg5 arg6 harg6 arg7 harg7 arg8 harg8 arg9 harg9 arg10 harg10 x0 x1 x2 x3 x4 x5 (harg9.unread xo7) (harg10.unread xo8) (Scf.trips (k0_t1_loop i).lb (k0_t1_loop i).ub (k0_t1_loop i).st)).2.2) (kernelRun0_B.sl.v28 i)).2.1 ++ (stA c i arg2 harg2 arg3 harg3 arg4 harg4 arg5 harg5 arg6 harg6 arg7 harg7 arg8 harg8 arg9 harg9 arg10 harg10 x0 x1 x2 x3 x4 x5 (harg9.unread xo7) (harg10.unread xo8) (Scf.trips (k0_t1_loop i).lb (k0_t1_loop i).ub (k0_t1_loop i).st)).2.1)))⟩ : View.Piece (Elt F) S4224x512 .f32) :: ((stB c i arg2 harg2 arg3 harg3 arg4 harg4 arg5 harg5 arg6 harg6 arg7 harg7 arg8 harg8 arg9 harg9 arg10 harg10 x0 x1 x2 x3 x4 x5 (harg9.unread xo7) (harg10.unread xo8) (arg9.view.writes (Elt F) (harg9.unread xo7) (stA c i arg2 harg2 arg3 harg3 arg4 harg4 arg5 harg5 arg6 harg6 arg7 harg7 arg8 harg8 arg9 harg9 arg10 harg10 x0 x1 x2 x3 x4 x5 (harg9.unread xo7) (harg10.unread xo8) (Scf.trips (k0_t1_loop i).lb (k0_t1_loop i).ub (k0_t1_loop i).st)).2.1) (arg10.view.writes (Elt F) (harg10.unread xo8) (stA c i arg2 harg2 arg3 harg3 arg4 harg4 arg5 harg5 arg6 harg6 arg7 harg7 arg8 harg8 arg9 harg9 arg10 harg10 x0 x1 x2 x3 x4 x5 (harg9.unread xo7) (harg10.unread xo8) (Scf.trips (k0_t1_loop i).lb (k0_t1_loop i).ub (k0_t1_loop i).st)).2.2) (kernelRun0_B.sl.v28 i)).2.1 ++ (stA c i arg2 harg2 arg3 harg3 arg4 harg4 arg5 harg5 arg6 harg6 arg7 harg7 arg8 harg8 arg9 harg9 arg10 harg10 x0 x1 x2 x3 x4 x5 (harg9.unread xo7) (harg10.unread xo8) (Scf.trips (k0_t1_loop i).lb (k0_t1_loop i).ub (k0_t1_loop i).st)).2.1)

/-- The values' stores of case B up to the first head's block on the diagonal. -/
abbrev preDvB : List (View.Piece (Elt F) S4224x256 .f32) :=
  (⟨Rect.unit (s := S4224x256) (k0_off10 i) ![384, 128] (k0_off10_inb i), hDv (F := F) dmask (ldQ0 arg2 (harg2.unread x0)) (View.readAt (Elt F) arg3.view (Rect.unit (s := S4224x512) (k0_off9 i) S384x256.size (k0_off9_inb i)).toLoadRect (harg3.unread x1)) (ldH0 arg6 (harg6.unread x4)) (ldT0 arg7 (harg7.unread x5))
    (View.readAt (Elt F) arg10.view (Rect.unit (s := S4224x256) (k0_off10 i) S384x128.size (k0_off10_inb i)).toLoadRect
      (arg10.view.writes (Elt F) (harg10.unread xo8) ((stB c i arg2 harg2 arg3 harg3 arg4 harg4 arg5 harg5 arg6 harg6 arg7 harg7 arg8 harg8 arg9 harg9 arg10 harg10 x0 x1 x2 x3 x4 x5 (harg9.unread xo7) (harg10.unread xo8) (arg9.view.writes (Elt F) (harg9.unread xo7) (stA c i arg2 harg2 arg3 harg3 arg4 harg4 arg5 harg5 arg6 harg6 arg7 harg7 arg8 harg8 arg9 harg9 arg10 harg10 x0 x1 x2 x3 x4 x5 (harg9.unread xo7) (harg10.unread xo8) (Scf.trips (k0_t1_loop i).lb (k0_t1_loop i).ub (k0_t1_loop i).st)).2.1) (arg10.view.writes (Elt F) (harg10.unread xo8) (stA c i arg2 harg2 arg3 harg3 arg4 harg4 arg5 harg5 arg6 harg6 arg7 harg7 arg8 harg8 arg9 harg9 arg10 harg10 x0 x1 x2 x3 x4 x5 (harg9.unread xo7) (harg10.unread xo8) (Scf.trips (k0_t1_loop i).lb (k0_t1_loop i).ub (k0_t1_loop i).st)).2.2) (kernelRun0_B.sl.v28 i)).2.2 ++ (stA c i arg2 harg2 arg3 harg3 arg4 harg4 arg5 harg5 arg6 harg6 arg7 harg7 arg8 harg8 arg9 harg9 arg10 harg10 x0 x1 x2 x3 x4 x5 (harg9.unread xo7) (harg10.unread xo8) (Scf.trips (k0_t1_loop i).lb (k0_t1_loop i).ub (k0_t1_loop i).st)).2.2)))⟩ : View.Piece (Elt F) S4224x256 .f32) :: ((stB c i arg2 harg2 arg3 harg3 arg4 harg4 arg5 harg5 arg6 harg6 arg7 harg7 arg8 harg8 arg9 harg9 arg10 harg10 x0 x1 x2 x3 x4 x5 (harg9.unread xo7) (harg10.unread xo8) (arg9.view.writes (Elt F) (harg9.unread xo7) (stA c i arg2 harg2 arg3 harg3 arg4 harg4 arg5 harg5 arg6 harg6 arg7 harg7 arg8 harg8 arg9 harg9 arg10 harg10 x0 x1 x2 x3 x4 x5 (harg9.unread xo7) (harg10.unread xo8) (Scf.trips (k0_t1_loop i).lb (k0_t1_loop i).ub (k0_t1_loop i).st)).2.1) (arg10.view.writes (Elt F) (harg10.unread xo8) (stA c i arg2 harg2 arg3 harg3 arg4 harg4 arg5 harg5 arg6 harg6 arg7 harg7 arg8 harg8 arg9 harg9 arg10 harg10 x0 x1 x2 x3 x4 x5 (harg9.unread xo7) (harg10.unread xo8) (Scf.trips (k0_t1_loop i).lb (k0_t1_loop i).ub (k0_t1_loop i).st)).2.2) (kernelRun0_B.sl.v28 i)).2.2 ++ (stA c i arg2 harg2 arg3 harg3 arg4 harg4 arg5 harg5 arg6 harg6 arg7 harg7 arg8 harg8 arg9 harg9 arg10 harg10 x0 x1 x2 x3 x4 x5 (harg9.unread xo7) (harg10.unread xo8) (Scf.trips (k0_t1_loop i).lb (k0_t1_loop i).ub (k0_t1_loop i).st)).2.2)

/-- The keys' stores of case B. -/
theorem body_dkB : (kernelRun0_B (F := F) c i arg2 harg2 arg3 harg3 arg4 harg4 arg5 harg5 arg6 harg6 arg7 harg7 arg8 harg8 arg9 harg9 arg10 harg10 hc0 x0 x1 x2 x3 x4 x5 xo7 xo8).2.1 =
    (⟨Rect.unit (s := S4224x512) (k0_off11 i) ![384, 256] (k0_off11_inb i), hDk (F := F) dmask (ldQ1 arg2 (harg2.unread x0)) (View.readAt (Elt F) arg3.view (Rect.unit (s := S4224x512) (k0_off11 i) S384x256.size (k0_off11_inb i)).toLoadRect (harg3.unread x1)) (View.readAt (Elt F) arg4.view (Rect.unit (s := S4224x256) (k0_off12 i) S384x128.size (k0_off12_inb i)).toLoadRect (harg4.unread x2)) (ldH1 arg6 (harg6.unread x4)) (ldT1 arg7 (harg7.unread x5)) (bDelta (ldH1 arg6 (harg6.unread x4)) (ldH1 arg5 (harg5.unread x3)))
    (View.readAt (Elt F) arg9.view (Rect.unit (s := S4224x512) (k0_off11 i) S384x256.size (k0_off11_inb i)).toLoadRect
      (arg9.view.writes (Elt F) (harg9.unread xo7) (preDkB c i arg2 harg2 arg3 harg3 arg4 harg4 arg5 harg5 arg6 harg6 arg7 harg7 arg8 harg8 arg9 harg9 arg10 harg10 x0 x1 x2 x3 x4 x5 xo7 xo8)))⟩ : View.Piece (Elt F) S4224x512 .f32) :: (preDkB c i arg2 harg2 arg3 harg3 arg4 harg4 arg5 harg5 arg6 harg6 arg7 harg7 arg8 harg8 arg9 harg9 arg10 harg10 x0 x1 x2 x3 x4 x5 xo7 xo8) := by
  unfold kernelRun0_B
  rfl

/-- The values' stores of case B. -/
theorem body_dvB : (kernelRun0_B (F := F) c i arg2 harg2 arg3 harg3 arg4 harg4 arg5 harg5 arg6 harg6 arg7 harg7 arg8 harg8 arg9 harg9 arg10 harg10 hc0 x0 x1 x2 x3 x4 x5 xo7 xo8).2.2.1 =
    (⟨Rect.unit (s := S4224x256) (k0_off12 i) ![384, 128] (k0_off12_inb i), hDv (F := F) dmask (ldQ1 arg2 (harg2.unread x0)) (View.readAt (Elt F) arg3.view (Rect.unit (s := S4224x512) (k0_off11 i) S384x256.size (k0_off11_inb i)).toLoadRect (harg3.unread x1)) (ldH1 arg6 (harg6.unread x4)) (ldT1 arg7 (harg7.unread x5))
    (View.readAt (Elt F) arg10.view (Rect.unit (s := S4224x256) (k0_off12 i) S384x128.size (k0_off12_inb i)).toLoadRect
      (arg10.view.writes (Elt F) (harg10.unread xo8) (preDvB c i arg2 harg2 arg3 harg3 arg4 harg4 arg5 harg5 arg6 harg6 arg7 harg7 arg8 harg8 arg9 harg9 arg10 harg10 x0 x1 x2 x3 x4 x5 xo7 xo8)))⟩ : View.Piece (Elt F) S4224x256 .f32) :: (preDvB c i arg2 harg2 arg3 harg3 arg4 harg4 arg5 harg5 arg6 harg6 arg7 harg7 arg8 harg8 arg9 harg9 arg10 harg10 x0 x1 x2 x3 x4 x5 xo7 xo8) := by
  unfold kernelRun0_B
  rfl

/-- The queries' stores of case B. -/
theorem body_dqB : (kernelRun0_B (F := F) c i arg2 harg2 arg3 harg3 arg4 harg4 arg5 harg5 arg6 harg6 arg7 harg7 arg8 harg8 arg9 harg9 arg10 harg10 hc0 x0 x1 x2 x3 x4 x5 xo7 xo8).1 =
    ([⟨Rect.unit (s := S384x512) ![0, 256] ![384, 256] inb_S384x512_S384x256_0_256,
        truncf .bf16 (hDq (F := F) dmask (ldQ1 arg2 (harg2.unread x0)) (View.readAt (Elt F) arg3.view (Rect.unit (s := S4224x512) (k0_off11 i) S384x256.size (k0_off11_inb i)).toLoadRect (harg3.unread x1)) (View.readAt (Elt F) arg4.view (Rect.unit (s := S4224x256) (k0_off12 i) S384x128.size (k0_off12_inb i)).toLoadRect (harg4.unread x2)) (ldH1 arg6 (harg6.unread x4)) (ldT1 arg7 (harg7.unread x5)) (bDelta (ldH1 arg6 (harg6.unread x4)) (ldH1 arg5 (harg5.unread x3))) (stB c i arg2 harg2 arg3 harg3 arg4 harg4 arg5 harg5 arg6 harg6 arg7 harg7 arg8 harg8 arg9 harg9 arg10 harg10 x0 x1 x2 x3 x4 x5 (harg9.unread xo7) (harg10.unread xo8) (arg9.view.writes (Elt F) (harg9.unread xo7) (stA c i arg2 harg2 arg3 harg3 arg4 harg4 arg5 harg5 arg6 harg6 arg7 harg7 arg8 harg8 arg9 harg9 arg10 harg10 x0 x1 x2 x3 x4 x5 (harg9.unread xo7) (harg10.unread xo8) (Scf.trips (k0_t1_loop i).lb (k0_t1_loop i).ub (k0_t1_loop i).st)).2.1) (arg10.view.writes (Elt F) (harg10.unread xo8) (stA c i arg2 harg2 arg3 harg3 arg4 harg4 arg5 harg5 arg6 harg6 arg7 harg7 arg8 harg8 arg9 harg9 arg10 harg10 x0 x1 x2 x3 x4 x5 (harg9.unread xo7) (harg10.unread xo8) (Scf.trips (k0_t1_loop i).lb (k0_t1_loop i).ub (k0_t1_loop i).st)).2.2) (kernelRun0_B.sl.v28 i)).1.2) bitsLt_bf16_f32⟩,
      ⟨Rect.unit (s := S384x512) ![0, 0] ![384, 256] inb_S384x512_S384x256_0_0,
        truncf .bf16 (hDq (F := F) dmask (ldQ0 arg2 (harg2.unread x0)) (View.readAt (Elt F) arg3.view (Rect.unit (s := S4224x512) (k0_off9 i) S384x256.size (k0_off9_inb i)).toLoadRect (harg3.unread x1)) (View.readAt (Elt F) arg4.view (Rect.unit (s := S4224x256) (k0_off10 i) S384x128.size (k0_off10_inb i)).toLoadRect (harg4.unread x2)) (ldH0 arg6 (harg6.unread x4)) (ldT0 arg7 (harg7.unread x5)) (bDelta (ldH0 arg6 (harg6.unread x4)) (ldH0 arg5 (harg5.unread x3))) (stB c i arg2 harg2 arg3 harg3 arg4 harg4 arg5 harg5 arg6 harg6 arg7 harg7 arg8 harg8 arg9 harg9 arg10 harg10 x0 x1 x2 x3 x4 x5 (harg9.unread xo7) (harg10.unread xo8) (arg9.view.writes (Elt F) (harg9.unread xo7) (stA c i arg2 harg2 arg3 harg3 arg4 harg4 arg5 harg5 arg6 harg6 arg7 harg7 arg8 harg8 arg9 harg9 arg10 harg10 x0 x1 x2 x3 x4 x5 (harg9.unread xo7) (harg10.unread xo8) (Scf.trips (k0_t1_loop i).lb (k0_t1_loop i).ub (k0_t1_loop i).st)).2.1) (arg10.view.writes (Elt F) (harg10.unread xo8) (stA c i arg2 harg2 arg3 harg3 arg4 harg4 arg5 harg5 arg6 harg6 arg7 harg7 arg8 harg8 arg9 harg9 arg10 harg10 x0 x1 x2 x3 x4 x5 (harg9.unread xo7) (harg10.unread xo8) (Scf.trips (k0_t1_loop i).lb (k0_t1_loop i).ub (k0_t1_loop i).st)).2.2) (kernelRun0_B.sl.v28 i)).1.1) bitsLt_bf16_f32⟩] : List (View.Piece (Elt F) S384x512 .bf16)) := by
  unfold kernelRun0_B
  rfl
end

end Cert.Mla
-- ==== Proof.MlaReal.lean ====
module

public import proofs.«01_k».proof.Proof.Store
public import proofs.«01_k».proof.Proof.MlaBody

/-! The block functions of the softmax attention on arrays of real numbers, in closed form. -/

@[expose] public section

set_option maxRecDepth 16384

noncomputable section

namespace Cert.Mla

open Idealize.ShloMosaic Cert.MlaBwdIdeal Cert.MlaBwdIdeal.Gen Cert.Stick

/-- The scale of the scores. -/
def msc : ℝ := (Ideal.ofBits .f32 0x3D93CD3A#32).toReal

/-- The scale is a real number. -/
theorem msc_eq : Ideal.ofBits .f32 0x3D93CD3A#32 = (msc : EReal) := by
  have h : ∃ r : ℝ, Ideal.ofBits .f32 0x3D93CD3A#32 = (r : EReal) := by
    unfold Ideal.ofBits Ideal.ieee
    exact ⟨_, by simp; rfl⟩
  obtain ⟨r, h⟩ := h
  unfold msc
  rw [h, EReal.toReal_coe]

/-- A mask keeps the entries it names and puts zero in the others. -/
def Masks (msk : Sq Ideal → Sq Ideal) (M : ℕ → ℕ → Prop) [∀ r c, Decidable (M r c)] : Prop :=
  ∀ X : ℕ → ℕ → ℝ, msk (up2 X) = up2 fun r c => if M r c then X r c else 0

/-- The mask that keeps everything. -/
theorem masks_id : Masks id fun _ _ => True := fun X => by
  simp only [id, if_true]

/-- Small numbers compare as words as they compare as numbers. -/
theorem sle_ofNat {a b : ℕ} (ha : a < 2 ^ 31) (hb : b < 2 ^ 31) : IntOp.cmpi .sle (BitVec.ofNat 32 a) (BitVec.ofNat 32 b) = 1#1 ↔ a ≤ b := by
  have ha' : (BitVec.ofNat 32 a).toNat = a := by rw [BitVec.toNat_ofNat, Nat.mod_eq_of_lt (by omega)]
  have hb' : (BitVec.ofNat 32 b).toNat = b := by rw [BitVec.toNat_ofNat, Nat.mod_eq_of_lt (by omega)]
  rw [IntOp.cmpi_sle, BitVec.toInt_eq_toNat_of_lt (by omega), BitVec.toInt_eq_toNat_of_lt (by omega), ha', hb']
  omega

/-- The mask of the diagonal block keeps the columns up to the row's own. -/
theorem masks_dmask : Masks (dmask (F := Ideal)) fun r c => c ≤ r := by
  intro X
  unfold dmask k0_pay23
  funext j; idx_vars j; pointwise; simp only [up2_ix2]
  have h := sle_ofNat (a := j1.val) (b := j0.val) (by omega) (by omega)
  show (if _ = 1#1 then _ else _) = _
  by_cases hc : j1.val ≤ j0.val
  · rw [if_pos (h.mpr hc), if_pos hc]
  · rw [if_neg (fun e => hc (h.mp e)), if_neg hc]; rfl

/-- The row sums of the outputs times their cotangents. -/
theorem bDelta_up (D O : ℕ → ℕ → ℝ) : bDelta (F := Ideal) (up2 D) (up2 O) = up2 fun r _ => ∑ d ∈ Finset.range 128, D r d * O r d := by
  unfold bDelta
  rw [shapeCast_self]
  funext j; idx_vars j; pointwise; simp only [up2_ix2]
  rw [sum_coe_mul 128 (fun d => D j0.val d) (fun d => O j0.val d)]

/-- The cotangents of the scores. -/
theorem bDs_up (P V D E : ℕ → ℕ → ℝ) : bDs (F := Ideal) (up2 P) (up2 V) (up2 D) (up2 E) =
    up2 fun r c => P r c * ((∑ d ∈ Finset.range 128, D r d * V c d) - E r 0) * msc := by
  unfold bDs
  funext j; idx_vars j; pointwise; simp only [up2_ix2]
  rw [sum_coe_mul 128 (fun d => D j0.val d) (fun d => V j1.val d), msc_eq]
  show _ * (_ - ((E j0.val 0 : ℝ) : EReal)) * _ = _
  rw [← EReal.coe_sub, ← EReal.coe_mul, ← EReal.coe_mul]

section Heads
variable {msk : Sq Ideal → Sq Ideal} {M : ℕ → ℕ → Prop} [∀ r c, Decidable (M r c)] (hm : Masks msk M)
variable (M) (Q K V D L E X : ℕ → ℕ → ℝ)

/-- The weights. -/
def rP (r c : ℕ) : ℝ := if M r c then Real.exp ((∑ d ∈ Finset.range 256, Q r d * K c d) * msc - L r 0) else 0
/-- The cotangents of the scores. -/
def rDs (r c : ℕ) : ℝ := rP M Q K L r c * ((∑ d ∈ Finset.range 128, D r d * V c d) - E r 0) * msc

include hm
variable {M}
theorem bP_up : bP (F := Ideal) msk (up2 Q) (up2 K) (up2 L) = up2 (rP M Q K L) := by
  unfold bP
  rw [show (up2 (rP M Q K L) : Sq Ideal) = _ from (hm fun r c => Real.exp ((∑ d ∈ Finset.range 256, Q r d * K c d) * msc - L r 0)).symm]
  refine congrArg msk ?_
  funext j; idx_vars j; pointwise; simp only [up2_ix2]
  rw [sum_coe_mul 256 (fun d => Q j0.val d) (fun d => K j1.val d), msc_eq]
  show Ideal.exp (_ - ((L j0.val 0 : ℝ) : EReal)) = _
  rw [← EReal.coe_mul, ← EReal.coe_sub, Ideal.exp_coe]

theorem hDq_up : hDq (F := Ideal) msk (up2 Q) (up2 K) (up2 V) (up2 D) (up2 L) (up2 E) (up2 X) =
    up2 fun r c => X r c + ∑ k ∈ Finset.range 384, rDs M Q K V D L E r k * K k c := by
  unfold hDq
  rw [bP_up hm, bDs_up]
  funext j; idx_vars j; pointwise; simp only [up2_ix2]
  rw [sum_coe_mul 384 (fun k => rP M Q K L j0.val k * ((∑ d ∈ Finset.range 128, D j0.val d * V k d) - E j0.val 0) * msc) (fun k => K k j1.val), ← EReal.coe_add]
  rfl
theorem hDk_up : hDk (F := Ideal) msk (up2 Q) (up2 K) (up2 V) (up2 D) (up2 L) (up2 E) (up2 X) =
    up2 fun r c => X r c + ∑ k ∈ Finset.range 384, rDs M Q K V D L E k r * Q k c := by
  unfold hDk
  rw [bP_up hm, bDs_up, shapeCast_self]
  funext j; idx_vars j; pointwise; simp only [up2_ix2]
  rw [sum_coe_mul 384 (fun k => rP M Q K L k j0.val * ((∑ d ∈ Finset.range 128, D k d * V j0.val d) - E k 0) * msc) (fun k => Q k j1.val), ← EReal.coe_add]
  rfl
theorem hDv_up : hDv (F := Ideal) msk (up2 Q) (up2 K) (up2 D) (up2 L) (up2 X) =
    up2 fun r c => X r c + ∑ k ∈ Finset.range 384, rP M Q K L k r * D k c := by
  unfold hDv
  rw [bP_up hm, shapeCast_self]
  funext j; idx_vars j; pointwise; simp only [up2_ix2]
  rw [sum_coe_mul 384 (fun k => rP M Q K L k j0.val) (fun k => D k j1.val), ← EReal.coe_add]
end Heads

end Cert.Mla
-- ==== Proof.MlaModel.lean ====
module

public import proofs.«01_k».proof.Proof.MlaReal

/-! The softmax attention's gradient of one head over whole sequences of real numbers, and what one block
of 384 queries and 384 keys contributes to it. -/

@[expose] public section

set_option maxRecDepth 16384

noncomputable section

namespace Cert.Mla

open Cert.Stick

section
variable (Q K V D O : ℕ → ℕ → ℝ) (L : ℕ → ℝ)

/-- The attention weight of a key up to the query's own. -/
def gP (t s : ℕ) : ℝ := if s ≤ t then Real.exp ((∑ d ∈ Finset.range 256, Q t d * K s d) * msc - L t) else 0
/-- The row sum of the output times its cotangent. -/
def gE (t : ℕ) : ℝ := ∑ d ∈ Finset.range 128, D t d * O t d
/-- The cotangent of the score. -/
def gDs (t s : ℕ) : ℝ := gP Q K L t s * ((∑ d ∈ Finset.range 128, D t d * V s d) - gE D O t) * msc

/-- The queries' cotangent before key block `k`. -/
def cQ (i k : ℕ) (r d : ℕ) : ℝ := cs (fun s => gDs Q K V D O L (384 * i + r) s * K s d) (384 * k)
/-- The keys' cotangent before query block `i`. -/
def cK (i : ℕ) (s d : ℕ) : ℝ := cs (fun t => gDs Q K V D O L t s * Q t d) (384 * i)
/-- The values' cotangent before query block `i`. -/
def cV (i : ℕ) (s d : ℕ) : ℝ := cs (fun t => gP Q K L t s * D t d) (384 * i)

/-- A column of row sums of a query block. -/
def eb (i : ℕ) (r : ℕ) (_ : ℕ) : ℝ := gE D O (384 * i + r)

variable (M : ℕ → ℕ → Prop) [∀ r c, Decidable (M r c)] (i k : ℕ) (hM : ∀ r < 384, ∀ c < 384, (M r c ↔ 384 * k + c ≤ 384 * i + r))

include hM
theorem rP_blk (r : ℕ) (hr : r < 384) (c : ℕ) (hc : c < 384) :
    rP M (blk i Q) (blk k K) (tb L i) r c = gP Q K L (384 * i + r) (384 * k + c) := by
  unfold rP gP
  exact if_congr (hM r hr c hc) rfl rfl

theorem rDs_blk (r : ℕ) (hr : r < 384) (c : ℕ) (hc : c < 384) :
    rDs M (blk i Q) (blk k K) (blk k V) (blk i D) (tb L i) (eb D O i) r c = gDs Q K V D O L (384 * i + r) (384 * k + c) := by
  unfold rDs gDs
  rw [rP_blk Q K L M i k hM r hr c hc]
  rfl
end

section
variable {msk : Sq Idealize.ShloMosaic.Ideal → Sq Idealize.ShloMosaic.Ideal} {M : ℕ → ℕ → Prop} [∀ r c, Decidable (M r c)] (hm : Masks msk M)
variable (Q K V D O : ℕ → ℕ → ℝ) (L : ℕ → ℝ)
variable (i k : ℕ) (hM : ∀ r < 384, ∀ c < 384, (M r c ↔ 384 * k + c ≤ 384 * i + r))

include hm hM
/-- The queries' cotangent after a block. -/
theorem hDq_blk : hDq (F := Idealize.ShloMosaic.Ideal) msk (up2 (blk i Q)) (up2 (blk k K)) (up2 (blk k V)) (up2 (blk i D)) (up2 (tb L i)) (up2 (eb D O i))
    (up2 (cQ Q K V D O L i k)) = up2 (cQ Q K V D O L i (k + 1)) := by
  rw [hDq_up hm]
  refine up2_congr fun r hr d _ => ?_
  unfold cQ
  rw [Nat.mul_succ, cs_add]
  congr 1
  refine Finset.sum_congr rfl fun c hc => ?_
  rw [rDs_blk Q K V D O L M i k hM r hr c (Finset.mem_range.mp hc)]
  rfl

/-- The keys' cotangent after a block. -/
theorem hDk_blk : hDk (F := Idealize.ShloMosaic.Ideal) msk (up2 (blk i Q)) (up2 (blk k K)) (up2 (blk k V)) (up2 (blk i D)) (up2 (tb L i)) (up2 (eb D O i))
    (up2 (blk k (cK Q K V D O L i))) = up2 (blk k (cK Q K V D O L (i + 1))) := by
  rw [hDk_up hm]
  refine up2_congr fun c hc d _ => ?_
  unfold blk cK
  rw [Nat.mul_succ, cs_add]
  congr 1
  refine Finset.sum_congr rfl fun r hr => ?_
  exact congrArg (· * _) (rDs_blk Q K V D O L M i k hM r (Finset.mem_range.mp hr) c hc)

/-- The values' cotangent after a block. -/
theorem hDv_blk : hDv (F := Idealize.ShloMosaic.Ideal) msk (up2 (blk i Q)) (up2 (blk k K)) (up2 (blk i D)) (up2 (tb L i))
    (up2 (blk k (cV Q K D L i))) = up2 (blk k (cV Q K D L (i + 1))) := by
  rw [hDv_up hm]
  refine up2_congr fun c hc d _ => ?_
  unfold blk cV
  rw [Nat.mul_succ, cs_add]
  congr 1
  refine Finset.sum_congr rfl fun r hr => ?_
  exact congrArg (· * _) (rP_blk Q K L M i k hM r (Finset.mem_range.mp hr) c hc)
end

/-- Later queries than the block's last leave a key's cotangent alone. -/
theorem cK_late (Q K V D O : ℕ → ℕ → ℝ) (L : ℕ → ℝ) (i s d : ℕ) (h : 384 * (i + 1) ≤ s) : cK Q K V D O L i s d = cK Q K V D O L (i + 1) s d := by
  unfold cK
  rw [Nat.mul_succ, cs_add]
  refine (add_eq_left.mpr ?_).symm
  refine Finset.sum_eq_zero fun r hr => ?_
  have := Finset.mem_range.mp hr
  unfold gDs gP
  rw [if_neg (by omega), zero_mul, zero_mul, zero_mul]

/-- Later queries than the block's last leave a value's cotangent alone. -/
theorem cV_late (Q K D : ℕ → ℕ → ℝ) (L : ℕ → ℝ) (i s d : ℕ) (h : 384 * (i + 1) ≤ s) : cV Q K D L i s d = cV Q K D L (i + 1) s d := by
  unfold cV
  rw [Nat.mul_succ, cs_add]
  refine (add_eq_left.mpr ?_).symm
  refine Finset.sum_eq_zero fun r hr => ?_
  have := Finset.mem_range.mp hr
  unfold gP
  rw [if_neg (by omega), zero_mul]

end Cert.Mla
-- ==== Proof.MlaStore.lean ====
module

public import proofs.«01_k».proof.Proof.MlaModel

/-! Loads and stores of blocks of real numbers: a load reads the block's rows and columns, and the two
stores of a trip, one per head, move the rows of one key block of an accumulated cotangent on. -/

@[expose] public section

set_option maxRecDepth 16384

noncomputable section

namespace Cert.Mla

open Idealize.ShloMosaic Cert.MlaBwdIdeal Cert.MlaBwdIdeal.Gen Cert.Stick

/-- Two neighbouring heads: their queries, keys, values, cotangents and outputs side by side, and the logarithms of their row sums. -/
structure Pair where
  Q : ℕ → ℕ → ℝ
  K : ℕ → ℕ → ℝ
  V : ℕ → ℕ → ℝ
  D : ℕ → ℕ → ℝ
  O : ℕ → ℕ → ℝ
  T : ℕ → ℕ → ℝ

/-- One head's columns, of heads `w` wide. -/
def hw (w e : ℕ) (X : ℕ → ℕ → ℝ) (t d : ℕ) : ℝ := X t (w * e + d)

/-- An accumulated cotangent of heads `w` wide, whose first `n0` key blocks in the first head and `n1` in the second have seen query block `I`. -/
def buf (w : ℕ) (f : ℕ → ℕ → ℕ → ℝ) (I n0 n1 s c : ℕ) : ℝ := if s < 384 * (if c < w then n0 else n1) then f (I + 1) s c else f I s c

section
variable (f : ℕ → ℕ → ℕ → ℝ) (I n : ℕ)

theorem win_buf0w (n1 : ℕ) (inb : ∀ j, (![384 * n, 0] : Fin 2 → ℕ) j + (![384, 256] : Fin 2 → ℕ) j ≤ S4224x512.size j) :
    VecWindow.window (s := S4224x512) (up2 (buf 256 f I n n1)) ![384 * n, 0] ![384, 256] inb = (up2 (blk n (hw 256 0 (f I))) : S384x256.Idx → EReal) := by
  refine window_up _ _ _ _ _ rfl inb fun r _ c hc => ?_
  unfold buf blk hw
  rw [if_pos (by omega : 0 + c < 256), if_neg (by omega)]

theorem win_buf1w (n0 : ℕ) (inb : ∀ j, (![384 * n, 256] : Fin 2 → ℕ) j + (![384, 256] : Fin 2 → ℕ) j ≤ S4224x512.size j) :
    VecWindow.window (s := S4224x512) (up2 (buf 256 f I n0 n)) ![384 * n, 256] ![384, 256] inb = (up2 (blk n (hw 256 1 (f I))) : S384x256.Idx → EReal) := by
  refine window_up _ _ _ _ _ rfl inb fun r _ c hc => ?_
  unfold buf blk hw
  rw [if_neg (by omega : ¬256 + c < 256), if_neg (by omega)]

theorem put_buf0w (n1 : ℕ) : VecWindow.put (s := S4224x512) (up2 (buf 256 f I n n1)) ![384 * n, 0] ![384, 256] (up2 (blk n (hw 256 0 (f (I + 1)))) : S384x256.Idx → EReal) = up2 (buf 256 f I (n + 1) n1) := by
  refine put_up _ _ _ _ _ (fun r _ c _ => ?_) fun r _ c _ h => ?_
  · unfold buf blk hw
    rw [if_pos (by omega : 0 + c < 256), if_pos (by omega)]
  · unfold buf
    split <;> split <;> first | rfl | (split <;> first | rfl | omega)

theorem put_buf1w (n0 : ℕ) : VecWindow.put (s := S4224x512) (up2 (buf 256 f I n0 n)) ![384 * n, 256] ![384, 256] (up2 (blk n (hw 256 1 (f (I + 1)))) : S384x256.Idx → EReal) = up2 (buf 256 f I n0 (n + 1)) := by
  refine put_up _ _ _ _ _ (fun r _ c _ => ?_) fun r _ c _ h => ?_
  · unfold buf blk hw
    rw [if_neg (by omega : ¬256 + c < 256), if_pos (by omega)]
  · unfold buf
    split <;> split <;> first | rfl | (split <;> first | rfl | omega)
end

section
variable (v : View sig .tc .vmem S4224x512 .f32) (G : v.ty.Contents (Elt Ideal)) (L : List (View.Piece (Elt Ideal) S4224x512 .f32)) (f : ℕ → ℕ → ℕ → ℝ) (I n : ℕ)
variable {off0 off1 : Fin 2 → ℕ} (h0 : off0 = ![384 * n, 0]) (h1 : off1 = ![384 * n, 256])
  (inb0 : ∀ j, off0 j + (![384, 256] : Fin 2 → ℕ) j ≤ S4224x512.size j) (inb1 : ∀ j, off1 j + (![384, 256] : Fin 2 → ℕ) j ≤ S4224x512.size j)

include h0 in
/-- The first head's load. -/
theorem rd0w (n1 : ℕ) (hG : v.read (Elt Ideal) G = up2 (buf 256 f I n n1)) :
    v.readAt (Elt Ideal) (Rect.unit off0 ![384, 256] inb0).toLoadRect G = (up2 (blk n (hw 256 0 (f I))) : S384x256.Idx → EReal) := by
  subst h0
  rw [View.readAt_unit v G inb0 rfl inb0, hG]
  exact win_buf0w f I n n1 inb0

include h1 in
/-- The second head's load. -/
theorem rd1w (n0 : ℕ) (hG : v.read (Elt Ideal) G = up2 (buf 256 f I n0 n)) :
    v.readAt (Elt Ideal) (Rect.unit off1 ![384, 256] inb1).toLoadRect G = (up2 (blk n (hw 256 1 (f I))) : S384x256.Idx → EReal) := by
  subst h1
  rw [View.readAt_unit v G inb1 rfl inb1, hG]
  exact win_buf1w f I n n0 inb1

include h0 in
/-- The first head's store. -/
theorem wr0w (n1 : ℕ) (hG : v.read (Elt Ideal) (v.writes (Elt Ideal) G L) = up2 (buf 256 f I n n1)) (w : S384x256.Idx → EReal) (hw' : w = up2 (blk n (hw 256 0 (f (I + 1))))) :
    v.read (Elt Ideal) (v.writes (Elt Ideal) G (⟨Rect.unit off0 ![384, 256] inb0, w⟩ :: L)) = up2 (buf 256 f I (n + 1) n1) := by
  subst hw'
  rw [View.read_writes_cons_put v G inb0 _ L h0, hG]
  exact put_buf0w f I n n1

include h1 in
/-- The second head's store. -/
theorem wr1w (n0 : ℕ) (hG : v.read (Elt Ideal) (v.writes (Elt Ideal) G L) = up2 (buf 256 f I n0 n)) (w : S384x256.Idx → EReal) (hw' : w = up2 (blk n (hw 256 1 (f (I + 1))))) :
    v.read (Elt Ideal) (v.writes (Elt Ideal) G (⟨Rect.unit off1 ![384, 256] inb1, w⟩ :: L)) = up2 (buf 256 f I n0 (n + 1)) := by
  subst hw'
  rw [View.read_writes_cons_put v G inb1 _ L h1, hG]
  exact put_buf1w f I n n0
end

section
variable (f : ℕ → ℕ → ℕ → ℝ) (I n : ℕ)

theorem win_buf0n (n1 : ℕ) (inb : ∀ j, (![384 * n, 0] : Fin 2 → ℕ) j + (![384, 128] : Fin 2 → ℕ) j ≤ S4224x256.size j) :
    VecWindow.window (s := S4224x256) (up2 (buf 128 f I n n1)) ![384 * n, 0] ![384, 128] inb = (up2 (blk n (hw 128 0 (f I))) : S384x128.Idx → EReal) := by
  refine window_up _ _ _ _ _ rfl inb fun r _ c hc => ?_
  unfold buf blk hw
  rw [if_pos (by omega : 0 + c < 128), if_neg (by omega)]

theorem win_buf1n (n0 : ℕ) (inb : ∀ j, (![384 * n, 128] : Fin 2 → ℕ) j + (![384, 128] : Fin 2 → ℕ) j ≤ S4224x256.size j) :
    VecWindow.window (s := S4224x256) (up2 (buf 128 f I n0 n)) ![384 * n, 128] ![384, 128] inb = (up2 (blk n (hw 128 1 (f I))) : S384x128.Idx → EReal) := by
  refine window_up _ _ _ _ _ rfl inb fun r _ c hc => ?_
  unfold buf blk hw
  rw [if_neg (by omega : ¬128 + c < 128), if_neg (by omega)]

theorem put_buf0n (n1 : ℕ) : VecWindow.put (s := S4224x256) (up2 (buf 128 f I n n1)) ![384 * n, 0] ![384, 128] (up2 (blk n (hw 128 0 (f (I + 1)))) : S384x128.Idx → EReal) = up2 (buf 128 f I (n + 1) n1) := by
  refine put_up _ _ _ _ _ (fun r _ c _ => ?_) fun r _ c _ h => ?_
  · unfold buf blk hw
    rw [if_pos (by omega : 0 + c < 128), if_pos (by omega)]
  · unfold buf
    split <;> split <;> first | rfl | (split <;> first | rfl | omega)

theorem put_buf1n (n0 : ℕ) : VecWindow.put (s := S4224x256) (up2 (buf 128 f I n0 n)) ![384 * n, 128] ![384, 128] (up2 (blk n (hw 128 1 (f (I + 1)))) : S384x128.Idx → EReal) = up2 (buf 128 f I n0 (n + 1)) := by
  refine put_up _ _ _ _ _ (fun r _ c _ => ?_) fun r _ c _ h => ?_
  · unfold buf blk hw
    rw [if_neg (by omega : ¬128 + c < 128), if_pos (by omega)]
  · unfold buf
    split <;> split <;> first | rfl | (split <;> first | rfl | omega)
end

section
variable (v : View sig .tc .vmem S4224x256 .f32) (G : v.ty.Contents (Elt Ideal)) (L : List (View.Piece (Elt Ideal) S4224x256 .f32)) (f : ℕ → ℕ → ℕ → ℝ) (I n : ℕ)
variable {off0 off1 : Fin 2 → ℕ} (h0 : off0 = ![384 * n, 0]) (h1 : off1 = ![384 * n, 128])
  (inb0 : ∀ j, off0 j + (![384, 128] : Fin 2 → ℕ) j ≤ S4224x256.size j) (inb1 : ∀ j, off1 j + (![384, 128] : Fin 2 → ℕ) j ≤ S4224x256.size j)

include h0 in
/-- The first head's load. -/
theorem rd0n (n1 : ℕ) (hG : v.read (Elt Ideal) G = up2 (buf 128 f I n n1)) :
    v.readAt (Elt Ideal) (Rect.unit off0 ![384, 128] inb0).toLoadRect G = (up2 (blk n (hw 128 0 (f I))) : S384x128.Idx → EReal) := by
  subst h0
  rw [View.readAt_unit v G inb0 rfl inb0, hG]
  exact win_buf0n f I n n1 inb0

include h1 in
/-- The second head's load. -/
theorem rd1n (n0 : ℕ) (hG : v.read (Elt Ideal) G = up2 (buf 128 f I n0 n)) :
    v.readAt (Elt Ideal) (Rect.unit off1 ![384, 128] inb1).toLoadRect G = (up2 (blk n (hw 128 1 (f I))) : S384x128.Idx → EReal) := by
  subst h1
  rw [View.readAt_unit v G inb1 rfl inb1, hG]
  exact win_buf1n f I n n0 inb1

include h0 in
/-- The first head's store. -/
theorem wr0n (n1 : ℕ) (hG : v.read (Elt Ideal) (v.writes (Elt Ideal) G L) = up2 (buf 128 f I n n1)) (w : S384x128.Idx → EReal) (hw' : w = up2 (blk n (hw 128 0 (f (I + 1))))) :
    v.read (Elt Ideal) (v.writes (Elt Ideal) G (⟨Rect.unit off0 ![384, 128] inb0, w⟩ :: L)) = up2 (buf 128 f I (n + 1) n1) := by
  subst hw'
  rw [View.read_writes_cons_put v G inb0 _ L h0, hG]
  exact put_buf0n f I n n1

include h1 in
/-- The second head's store. -/
theorem wr1n (n0 : ℕ) (hG : v.read (Elt Ideal) (v.writes (Elt Ideal) G L) = up2 (buf 128 f I n0 n)) (w : S384x128.Idx → EReal) (hw' : w = up2 (blk n (hw 128 1 (f (I + 1))))) :
    v.read (Elt Ideal) (v.writes (Elt Ideal) G (⟨Rect.unit off1 ![384, 128] inb1, w⟩ :: L)) = up2 (buf 128 f I n0 (n + 1)) := by
  subst hw'
  rw [View.read_writes_cons_put v G inb1 _ L h1, hG]
  exact put_buf1n f I n n0
end

end Cert.Mla
-- ==== Proof.MlaRef.lean ====
module

public import proofs.«01_k».proof.Proof.Host3
public import proofs.«01_k».proof.Proof.MlaStore
public import proofs.«01_k».proof.Proof.Gen.RefMlaBwdIdeal.Run

/-! What the reference of the softmax attention's gradient computes of real arguments, in closed form. -/

@[expose] public section

set_option maxRecDepth 16384

noncomputable section

namespace Cert.Mla

open Idealize.ShloMosaic Cert.RefMlaBwdIdeal Cert.RefMlaBwdIdeal.Gen Cert.Stick

/-- Arrays over heads, queries and keys. -/
local notation "H3" => FVec Ideal S16x4224x4224 FTy.f32
/-- Arrays over heads and queries, with a unit axis. -/
local notation "H1" => FVec Ideal S16x4224x1 FTy.f32

/-- The array of zeros. -/
def qO : H3 := broadcastInDim S16x4224x4224 ![] bcast_S_S16x4224x4224 (constant S_ .f32 0x00000000#32)
/-- The array of the scale. -/
def qS : H3 := broadcastInDim S16x4224x4224 ![] bcast_S_S16x4224x4224 (constant S_ .f32 0x3D93CD3A#32)
/-- The array of negative infinities. -/
def qN : H3 := broadcastInDim S16x4224x4224 ![] bcast_S_S16x4224x4224 (id (constant S_ .f32 0xFF800000#32))
/-- The mask of the keys up to the query's own. -/
def qM : IVec S16x4224x4224 1 :=
  broadcastInDim S16x4224x4224 ![1, 2] bcast_S4224x4224_S16x4224x4224_1_2 (cmpi .sle (broadcastInDim S4224x4224 ![0, 1] bcast_S1x4224_S4224x4224_0_1 (broadcastInDim S1x4224 ![1] bcast_S4224_S1x4224_1 (iotaInDim S4224 32 0)))
    (broadcastInDim S4224x4224 ![0, 1] bcast_S4224x1_S4224x4224_0_1 (broadcastInDim S4224x1 ![0] bcast_S4224_S4224x1_0 (iotaInDim S4224 32 0))))
/-- The two halves of every head's columns. -/
def qA (A : FVec Ideal S4224x4096 .bf16) : FVec Ideal S4224x16x128 .f32 :=
  extractStridedSlice S4224x16x128 ![0, 0, 0] (shapeCast S4224x16x256 (extf .f32 A bitsLt_bf16_f32) shapeCasts_S4224x4096_S4224x16x256) slices_S4224x16x256_S4224x16x128_0_0_0
def qB (A : FVec Ideal S4224x4096 .bf16) : FVec Ideal S4224x16x128 .f32 :=
  extractStridedSlice S4224x16x128 ![0, 0, 128] (shapeCast S4224x16x256 (extf .f32 A bitsLt_bf16_f32) shapeCasts_S4224x4096_S4224x16x256) slices_S4224x16x256_S4224x16x128_0_0_128
/-- The values of all heads. -/
def qV (A : FVec Ideal S4224x4096 .bf16) : FVec Ideal S4224x16x128 .f32 :=
  shapeCast S4224x16x128 (extractStridedSlice S4224x2048 ![0, 2048] (extf .f32 A bitsLt_bf16_f32) slices_S4224x4096_S4224x2048_0_2048) shapeCasts_S4224x2048_S4224x16x128
/-- The cotangents of all heads. -/
def qD (B : FVec Ideal S4224x2048 .bf16) : FVec Ideal S16x128x4224 .f32 :=
  transpose S16x128x4224 [1, 2, 0] (shapeCast S4224x16x128 (extf .f32 B bitsLt_bf16_f32) shapeCasts_S4224x2048_S4224x16x128) transposes_S4224x16x128_S16x128x4224_1_2_0
/-- The masked scores. -/
def qX (Q K : FVec Ideal S4224x4096 .bf16) : H3 :=
  select qM (mulf (addf (Host.dotGeneral dot_S4224x16x128_S4224x16x128_S16x4224x4224_2_2_0_0_1_1 none (qA Q) (qA K)) (Host.dotGeneral dot_S4224x16x128_S4224x16x128_S16x4224x4224_2_2_0_0_1_1 none (qB Q) (qB K))) qS) qN
/-- Their maxima over the keys. -/
def qR (x : H3) : FVec Ideal S16x4224 .f32 := Host.reduce FloatOps.maximumf x (constant S_ .f32 0xFF800000#32) reducesTo_S16x4224x4224_S16x4224_d2 h_S_
/-- One number for each head and query. -/
def q1 (r : FVec Ideal S16x4224 .f32) : H1 := broadcastInDim S16x4224x1 ![0, 1] bcast_S16x4224_S16x4224x1_0_1 r
/-- The same for every key. -/
def q3 (r : H1) : H3 := broadcastInDim S16x4224x4224 ![0, 1, 2] bcast_S16x4224x1_S16x4224x4224_0_1_2 r
/-- The maxima, not below negative infinity. -/
def qRm (x : H3) : FVec Ideal S16x4224 .f32 := maximumf (broadcastInDim S16x4224 ![] bcast_S_S16x4224 (constant S_ .f32 0xFF800000#32)) (qR x)
/-- The exponentials. -/
def qE (x : H3) (r : FVec Ideal S16x4224 .f32) : H3 := Host.exp (subf x (q3 (q1 r)))
/-- A sum over the keys. -/
def qSum (x : H3) : FVec Ideal S16x4224 .f32 := Host.reduceAdd x (constant S_ .f32 0x00000000#32) reducesTo_S16x4224x4224_S16x4224_d2 h_S_
/-- The attention weights. -/
def qP (e : H3) : H3 := Host.divf e (q3 (q1 (qSum e)))
/-- The weights' cotangents. -/
def qG (V : FVec Ideal S4224x4096 .bf16) (B : FVec Ideal S4224x2048 .bf16) : H3 :=
  Host.dotGeneral (φ₁ := .f32) (φ₂ := .f32) dot_S16x128x4224_S4224x16x128_S16x4224x4224_1_2_2_0_0_1 none (qD B) (qV V)
/-- The cotangents of the scores before masking. -/
def qW (e g : H3) : H3 :=
  mulf (addf (Host.divf g (q3 (q1 (qSum e)))) (broadcastInDim S16x4224x4224 ![0, 1] bcast_S16x4224_S16x4224x4224_0_1
    (Host.reduceAdd (Host.negf (shapeCast S16x4224x1 (qSum (mulf (mulf g (q3 (Host.divf (broadcastInDim S16x4224x1 ![] bcast_S_S16x4224x1 (constant S_ .f32 0x3F800000#32)) (mulf (q1 (qSum e)) (q1 (qSum e)))))) e)) shapeCasts_S16x4224_S16x4224x1))
      (constant S_ .f32 0x00000000#32) reducesTo_S16x4224x1_S16x4224_d2 h_S_))) e
/-- The cotangents of the scores. -/
def qF (Q K V : FVec Ideal S4224x4096 .bf16) (B : FVec Ideal S4224x2048 .bf16) : H3 :=
  mulf (select qM (qW (qE (qX Q K) (qRm (qX Q K))) (qG V B)) qO) qS
/-- The three results. -/
def qDv (Q K : FVec Ideal S4224x4096 .bf16) (B : FVec Ideal S4224x2048 .bf16) : FVec Ideal S4224x2048 .f32 :=
  shapeCast S4224x2048 (transpose S4224x16x128 [2, 0, 1] (Host.dotGeneral dot_S16x128x4224_S16x4224x4224_S16x128x4224_2_1_1_2_0_0 none (qD B) (qP (qE (qX Q K) (qRm (qX Q K))))) transposes_S16x128x4224_S4224x16x128_2_0_1) shapeCasts_S4224x16x128_S4224x2048
/-- Two halves put side by side again. -/
def qJ (a b : FVec Ideal S16x4224x128 .f32) : FVec Ideal S4224x4096 .f32 :=
  shapeCast S4224x4096 (concatenate S4224x16x256 2 [⟨S4224x16x128, transpose S4224x16x128 [1, 0, 2] a transposes_S16x4224x128_S4224x16x128_1_0_2⟩, ⟨S4224x16x128, transpose S4224x16x128 [1, 0, 2] b transposes_S16x4224x128_S4224x16x128_1_0_2⟩] concatenates_S4224x16x128_S4224x16x128_S4224x16x256_d2) shapeCasts_S4224x16x256_S4224x4096
def qDk (Q K V : FVec Ideal S4224x4096 .bf16) (B : FVec Ideal S4224x2048 .bf16) : FVec Ideal S4224x4096 .f32 :=
  qJ (Host.dotGeneral (φ₁ := .f32) (φ₂ := .f32) dot_S16x4224x4224_S4224x16x128_S16x4224x128_1_0_2_2_0_1 none (qF Q K V B) (qA Q))
    (Host.dotGeneral (φ₁ := .f32) (φ₂ := .f32) dot_S16x4224x4224_S4224x16x128_S16x4224x128_1_0_2_2_0_1 none (qF Q K V B) (qB Q))
def qDq (Q K V : FVec Ideal S4224x4096 .bf16) (B : FVec Ideal S4224x2048 .bf16) : FVec Ideal S4224x4096 .bf16 :=
  truncf .bf16 (qJ (Host.dotGeneral (φ₁ := .f32) (φ₂ := .f32) dot_S16x4224x4224_S4224x16x128_S16x4224x128_2_0_1_2_0_1 none (qF Q K V B) (qA K))
    (Host.dotGeneral (φ₁ := .f32) (φ₂ := .f32) dot_S16x4224x4224_S4224x16x128_S16x4224x128_2_0_1_2_0_1 none (qF Q K V B) (qB K))) bitsLt_bf16_f32

section
variable (m : (ℓ : Loc nD τ sig) → Buf (Elt Ideal) ℓ) (c : Dev nD)
/-- What the reference returns, by the names above. -/
theorem res_dv : Cert.RefMlaBwdIdeal.Value.res_out2 (F := Ideal) m c = qDv (m ((c.tc : Thread nD τ).loc main_arg0)) (m ((c.tc : Thread nD τ).loc main_arg1)) (m ((c.tc : Thread nD τ).loc main_arg3)) := rfl
theorem res_dk : Cert.RefMlaBwdIdeal.Value.res_out1 (F := Ideal) m c = qDk (m ((c.tc : Thread nD τ).loc main_arg0)) (m ((c.tc : Thread nD τ).loc main_arg1)) (m ((c.tc : Thread nD τ).loc main_arg2)) (m ((c.tc : Thread nD τ).loc main_arg3)) := rfl
theorem res_dq : Cert.RefMlaBwdIdeal.Value.res_out0 (F := Ideal) m c = qDq (m ((c.tc : Thread nD τ).loc main_arg0)) (m ((c.tc : Thread nD τ).loc main_arg1)) (m ((c.tc : Thread nD τ).loc main_arg2)) (m ((c.tc : Thread nD τ).loc main_arg3)) := rfl
end

end Cert.Mla
-- ==== Proof.MlaSoft.lean ====
module

public import proofs.«01_k».proof.Proof.MlaRef

/-! The reference's steps on real numbers: the masked scores, the softmax over the keys, its output, and the
gradient through it. -/

@[expose] public section

set_option maxRecDepth 16384

noncomputable section

namespace Cert.Mla

open Idealize.ShloMosaic Cert.RefMlaBwdIdeal Cert.RefMlaBwdIdeal.Gen Cert.Stick

/-- One head's columns of the values. -/
def vh (h : ℕ) (V : ℕ → ℕ → ℝ) (s d : ℕ) : ℝ := V s (2048 + (128 * h + d))

section
variable (X Y : ℕ → ℕ → ℕ → ℝ) (R : ℕ → ℕ → ℝ)

theorem r_extf {a b : ℕ} (X : ℕ → ℕ → ℝ) (h) : extf (F := Ideal) (φ := .bf16) .f32 (up2 X : (⟨2, ![a, b]⟩ : Shape).Idx → EReal) h = up2 X := rfl
theorem r_truncf {a b : ℕ} (X : ℕ → ℕ → ℝ) (h) : truncf (F := Ideal) (φ := .f32) .bf16 (up2 X : (⟨2, ![a, b]⟩ : Shape).Idx → EReal) h = up2 X := rfl
theorem qO_up : qO = up3 fun _ _ _ => 0 := by
  funext j; exact Ideal.ofBits_zero_f32
theorem qS_up : qS = up3 fun _ _ _ => msc := by
  funext j; exact msc_eq
theorem ninf_bits : Ideal.ofBits .f32 0xFF800000#32 = ⊥ := by
  unfold Ideal.ofBits Ideal.ieee
  simp

theorem qM_iff (j : S16x4224x4224.Idx) : qM j = 1#1 ↔ (j 2).val ≤ (j 1).val :=
  sle_ofNat (a := (j 2).val) (b := (j 1).val) (by have := (j 2).isLt; simp at this; omega) (by have := (j 1).isLt; simp at this; omega)

/-- The masked scores: negative infinity past the query. -/
def mk (S : ℕ → ℕ → ℕ → ℝ) : S16x4224x4224.Idx → EReal :=
  fun j => if (j 2).val ≤ (j 1).val then ((S (j 0).val (j 1).val (j 2).val : ℝ) : EReal) else ⊥

theorem qM_mk : select qM (up3 X) qN = mk X := by
  funext j
  show (if qM j = 1#1 then up3 X j else Ideal.ofBits .f32 0xFF800000#32) = if _ then _ else ⊥
  rw [ninf_bits]
  exact if_congr (qM_iff j) rfl rfl
theorem qM_sel : select qM (up3 X) (up3 Y) = (up3 fun x y z => if z ≤ y then X x y z else Y x y z : S16x4224x4224.Idx → EReal) :=
  h_sel X Y _ (fun y z => z ≤ y) qM_iff

theorem qA_up (P : ℕ → ℕ → ℝ) : qA (up2 P) = up3 fun t e d => hw 256 e P t d := by
  unfold qA; rw [r_extf]
  funext j; idx_vars j; pointwise; simp only [up3_ix3]
  rw [up2_ix2]; unfold hw; rw [mul_comm 256]
theorem qB_up (P : ℕ → ℕ → ℝ) : qB (up2 P) = up3 fun t e d => hw 256 e P t (128 + d) := by
  unfold qB; rw [r_extf]
  funext j; idx_vars j; pointwise; simp only [up3_ix3]
  rw [up2_ix2]; unfold hw; rw [mul_comm 256]
theorem qV_up (P : ℕ → ℕ → ℝ) : qV (up2 P) = up3 fun t e d => vh e P t d := by
  unfold qV; rw [r_extf]
  funext j; idx_vars j; pointwise; simp only [up3_ix3]
  rw [up2_ix2]; unfold vh; rw [mul_comm 128]
theorem qD_up (P : ℕ → ℕ → ℝ) : qD (up2 P) = up3 fun e d t => hw 128 e P t d := by
  unfold qD; rw [r_extf]
  funext j; idx_vars j; pointwise; simp only [up3_ix3]
  rw [up2_ix2]; unfold hw; rw [mul_comm 128]

theorem r_unheads (h') : shapeCast S4224x2048 (up3 X : S4224x16x128.Idx → EReal) h' = up2 fun t c => X t (c / 128) (c % 128) := by
  funext j; idx_vars j; pointwise; rfl
theorem r_t201 (h) : transpose S4224x16x128 [2, 0, 1] (up3 X : S16x128x4224.Idx → EReal) h = up3 fun t e d => X e d t := by
  funext j; idx_vars j; pointwise; simp only [up3_ix3]
theorem r_t102 (h) : transpose S4224x16x128 [1, 0, 2] (up3 X : S16x4224x128.Idx → EReal) h = up3 fun t e d => X e t d := by
  funext j; idx_vars j; pointwise; simp only [up3_ix3]

theorem r_dot_qk :
    Host.dotGeneral (F := Ideal) (φ₁ := .f32) (φ₂ := .f32) dot_S4224x16x128_S4224x16x128_S16x4224x4224_2_2_0_0_1_1 none (up3 X) (up3 Y)
      = up3 fun h t s => ∑ d ∈ Finset.range 128, X t h d * Y s h d := by
  funext j; idx_vars j; pointwise; simp only [up3_ix3]
  rw [sum_coe_mul 128 (fun d => X j1.val j0.val d) (fun d => Y j2.val j0.val d)]
theorem r_dot_vp :
    Host.dotGeneral (F := Ideal) (φ₁ := .f32) (φ₂ := .f32) dot_S4224x16x128_S16x4224x4224_S16x128x4224_0_2_2_1_1_0 none (up3 X) (up3 Y)
      = up3 fun h d t => ∑ s ∈ Finset.range 4224, X s h d * Y h t s := by
  funext j; idx_vars j; pointwise; simp only [up3_ix3]
  rw [sum_coe_mul 4224 (fun s => X s j0.val j1.val) (fun s => Y j0.val j2.val s)]
theorem r_dot_dv :
    Host.dotGeneral (F := Ideal) (φ₁ := .f32) (φ₂ := .f32) dot_S16x128x4224_S4224x16x128_S16x4224x4224_1_2_2_0_0_1 none (up3 X) (up3 Y)
      = up3 fun h t s => ∑ d ∈ Finset.range 128, X h d t * Y s h d := by
  funext j; idx_vars j; pointwise; simp only [up3_ix3]
  rw [sum_coe_mul 128 (fun d => X j0.val d j1.val) (fun d => Y j2.val j0.val d)]
theorem r_dot_da :
    Host.dotGeneral (F := Ideal) (φ₁ := .f32) (φ₂ := .f32) dot_S16x128x4224_S16x4224x4224_S16x128x4224_2_1_1_2_0_0 none (up3 X) (up3 Y)
      = up3 fun h d s => ∑ t ∈ Finset.range 4224, X h d t * Y h t s := by
  funext j; idx_vars j; pointwise; simp only [up3_ix3]
  rw [sum_coe_mul 4224 (fun t => X j0.val j1.val t) (fun t => Y j0.val t j2.val)]
theorem r_dot_zq :
    Host.dotGeneral (F := Ideal) (φ₁ := .f32) (φ₂ := .f32) dot_S16x4224x4224_S4224x16x128_S16x4224x128_1_0_2_2_0_1 none (up3 X) (up3 Y)
      = up3 fun h s d => ∑ t ∈ Finset.range 4224, X h t s * Y t h d := by
  funext j; idx_vars j; pointwise; simp only [up3_ix3]
  rw [sum_coe_mul 4224 (fun t => X j0.val t j1.val) (fun t => Y t j0.val j2.val)]
theorem r_dot_zk :
    Host.dotGeneral (F := Ideal) (φ₁ := .f32) (φ₂ := .f32) dot_S16x4224x4224_S4224x16x128_S16x4224x128_2_0_1_2_0_1 none (up3 X) (up3 Y)
      = up3 fun h t d => ∑ s ∈ Finset.range 4224, X h t s * Y s h d := by
  funext j; idx_vars j; pointwise; simp only [up3_ix3]
  rw [sum_coe_mul 4224 (fun s => X j0.val j1.val s) (fun s => Y s j0.val j2.val)]

/-- The two halves side by side. -/
theorem qJ_up : qJ (up3 X) (up3 Y) = up2 fun t c => if c % 256 < 128 then X (c / 256) t (c % 256) else Y (c / 256) t (c % 256 - 128) := by
  unfold qJ
  rw [r_t102, r_t102]
  funext j; idx_vars j; pointwise
  rw [up2_ix2]
  split_ifs <;> rfl

theorem q1_up : q1 (up2 R) = up3 fun h t _ => R h t := by
  unfold q1; funext j; idx_vars j; pointwise; rfl
theorem q3_up : q3 (up3 X) = up3 fun h t _ => X h t 0 := by
  unfold q3; funext j; idx_vars j; pointwise; rfl
theorem qb_up (h) : broadcastInDim S16x4224x4224 ![0, 1] h (up2 R : S16x4224.Idx → EReal) = up3 fun h t _ => R h t := by
  funext j; idx_vars j; pointwise; rfl
theorem q1c_up (h) : shapeCast S16x4224x1 (up2 R : S16x4224.Idx → EReal) h = up3 fun h t _ => R h t := by
  funext j; idx_vars j; pointwise; rfl
theorem qSum_up : qSum (up3 X) = up2 fun h t => cs (X h t) 4224 := by
  unfold qSum
  funext j; idx_vars j; pointwise; simp only [up3_ix3, up2_ix2]
  unfold cs
  rw [Finset.sum_range, coe_sum]
theorem qSum1_up : Host.reduceAdd (F := Ideal) (φ := .f32) (up3 X : S16x4224x1.Idx → EReal) (constant (F := Ideal) S_ .f32 0x00000000#32) reducesTo_S16x4224x1_S16x4224_d2 h_S_ = (up2 fun h t => X h t 0 : S16x4224.Idx → EReal) := by
  funext j; idx_vars j; pointwise; simp only [up3_ix3, up2_ix2]
  rw [Fin.sum_univ_one]
  rfl
theorem one_up (h) : broadcastInDim S16x4224x1 ![] h (constant (F := Ideal) S_ .f32 0x3F800000#32) = up3 fun _ _ _ => 1 := by
  funext j; exact Ideal.ofBits_one_f32.trans EReal.coe_one.symm
theorem h_divf {a b c : ℕ} (hY : ∀ x < a, ∀ y < b, ∀ z < c, Y x y z ≠ 0) :
    Host.divf (F := Ideal) (φ := .f32) (up3 X : (⟨3, ![a, b, c]⟩ : Shape).Idx → EReal) (up3 Y) = up3 fun x y z => X x y z / Y x y z := by
  funext j
  have h := hY _ (j 0).isLt _ (j 1).isLt _ (j 2).isLt
  show Ideal.div ((X (j 0).val (j 1).val (j 2).val : ℝ) : EReal) ((Y (j 0).val (j 1).val (j 2).val : ℝ) : EReal) = ((_ / _ : ℝ) : EReal)
  unfold Ideal.div
  rw [if_neg (by exact_mod_cast h), ← EReal.coe_inv, ← EReal.coe_mul, div_eq_mul_inv]
end

section
variable (S : ℕ → ℕ → ℕ → ℝ)

/-- A query's greatest score. -/
def rMax (h t : ℕ) : ℝ :=
  ((Finset.univ : Finset (Fin 4224)).fold max ⊥ fun k => if k.val ≤ t then ((S h t k.val : ℝ) : EReal) else ⊥).toReal

theorem rMax_coe (h t : ℕ) (ht : t < 4224) :
    ((Finset.univ : Finset (Fin 4224)).fold max ⊥ fun k => if k.val ≤ t then ((S h t k.val : ℝ) : EReal) else ⊥) = ((rMax S h t : ℝ) : EReal) := by
  refine (EReal.coe_toReal ?_ ?_).symm
  · refine ((Finset.fold_max_lt _).mpr ⟨bot_lt_top, fun k _ => ?_⟩).ne
    split_ifs
    · exact EReal.coe_lt_top _
    · exact bot_lt_top
  · refine (lt_of_lt_of_le (EReal.bot_lt_coe (S h t t)) ((Finset.le_fold_max _).mpr (Or.inr ⟨⟨t, ht⟩, Finset.mem_univ _, ?_⟩))).ne'
    rw [if_pos le_rfl]

theorem qR_up : qR (mk S) = up2 (rMax S) := by
  unfold qR
  funext j; idx_vars j; pointwise
  rw [up2_ix2, ninf_bits]
  exact rMax_coe S j0.val j1.val j1.isLt

theorem qRm_up : qRm (mk S) = up2 (rMax S) := by
  unfold qRm
  rw [qR_up]
  funext j
  show max (Ideal.ofBits .f32 0xFF800000#32) (up2 (rMax S) j) = _
  rw [ninf_bits]
  exact max_eq_right bot_le

/-- The exponentials, their sum over the keys, and its logarithm with the greatest score. -/
def rE (h t s : ℕ) : ℝ := if s ≤ t then Real.exp (S h t s - rMax S h t) else 0
def rZ (h t : ℕ) : ℝ := cs (rE S h t) 4224
def rL (h t : ℕ) : ℝ := rMax S h t + Real.log (rZ S h t)

theorem qE_up : qE (mk S) (up2 (rMax S)) = up3 (rE S) := by
  unfold qE
  rw [q1_up, q3_up]
  funext j
  show Ideal.exp ((if _ then _ else ⊥) - ((rMax S (j 0).val (j 1).val : ℝ) : EReal)) = ((if _ then _ else _ : ℝ) : EReal)
  split_ifs
  · rw [← EReal.coe_sub, Ideal.exp_coe]
  · rw [EReal.bot_sub, Ideal.exp_bot, EReal.coe_zero]

theorem rZ_pos (h t : ℕ) (ht : t < 4224) : 0 < rZ S h t := by
  refine Finset.sum_pos' (fun s _ => ?_) ⟨t, Finset.mem_range.mpr ht, ?_⟩
  · unfold rE; split_ifs
    · exact (Real.exp_pos _).le
    · exact le_rfl
  · unfold rE; rw [if_pos le_rfl]; exact Real.exp_pos _

theorem qZ_up : qSum (up3 (rE S)) = up2 (rZ S) := qSum_up _

theorem qP_up : qP (up3 (rE S)) = up3 fun h t s => rE S h t s / rZ S h t := by
  unfold qP
  rw [qZ_up, q1_up, q3_up, h_divf _ _ fun x _ y hy z _ => (rZ_pos S x y hy).ne']

theorem qW_up (G : ℕ → ℕ → ℕ → ℝ) : qW (up3 (rE S)) (up3 G)
    = up3 fun h t s => (G h t s / rZ S h t + -cs (fun s => G h t s * (1 / (rZ S h t * rZ S h t)) * rE S h t s) 4224) * rE S h t s := by
  unfold qW
  rw [qZ_up, q1_up, q3_up, h_mulf, one_up, h_divf _ _ fun x _ y hy z _ => (mul_pos (rZ_pos S x y hy) (rZ_pos S x y hy)).ne', q3_up, h_mulf, h_mulf, qSum_up, q1c_up,
    h_negf, qSum1_up, qb_up, h_divf _ _ fun x _ y hy z _ => (rZ_pos S x y hy).ne', h_addf, h_mulf]
end

section
variable (Q K V D : ℕ → ℕ → ℝ)

/-- The scores of all heads. -/
def rS (h t s : ℕ) : ℝ := (∑ d ∈ Finset.range 256, hw 256 h Q t d * hw 256 h K s d) * msc

theorem qX_up : qX (up2 Q) (up2 K) = mk (rS Q K) := by
  unfold qX
  rw [qA_up, qA_up, qB_up, qB_up, r_dot_qk, r_dot_qk, h_addf, qS_up, h_mulf, qM_mk]
  refine congrArg mk ?_
  funext h t s
  unfold rS
  rw [Finset.sum_range_add _ 128 128]

/-- The attention weights. -/
def wP (h t s : ℕ) : ℝ := gP (hw 256 h Q) (hw 256 h K) (rL (rS Q K) h) t s
/-- The attention's output. -/
def oh (h t d : ℕ) : ℝ := ∑ s ∈ Finset.range 4224, vh h V s d * wP Q K h t s
/-- The scores' cotangents. -/
def wD (h t s : ℕ) : ℝ := gDs (hw 256 h Q) (hw 256 h K) (vh h V) (hw 128 h D) (oh Q K V h) (rL (rS Q K) h) t s

theorem wP_eq (h t s : ℕ) (ht : t < 4224) : rE (rS Q K) h t s / rZ (rS Q K) h t = wP Q K h t s := by
  unfold wP gP rE
  split_ifs
  · unfold rL
    rw [← sub_sub, Real.exp_sub _ (Real.log _), Real.exp_log (rZ_pos _ h t ht)]
    rfl
  · exact zero_div _

theorem qPX_up : qP (qE (qX (up2 Q) (up2 K)) (qRm (qX (up2 Q) (up2 K)))) = up3 (wP Q K) := by
  rw [qX_up, qRm_up, qE_up, qP_up]
  exact up3_congr fun h _ t ht s _ => wP_eq Q K h t s ht

theorem qG_up : qG (up2 V) (up2 D) = up3 fun h t s => ∑ d ∈ Finset.range 128, hw 128 h D t d * vh h V s d := by
  unfold qG
  rw [qD_up, qV_up, r_dot_dv]

/-- The output times its cotangent is the weights times theirs. -/
theorem gE_eq (h t : ℕ) : gE (hw 128 h D) (oh Q K V h) t = cs (fun s => (∑ d ∈ Finset.range 128, hw 128 h D t d * vh h V s d) * wP Q K h t s) 4224 := by
  unfold gE oh cs
  simp only [Finset.mul_sum, Finset.sum_mul]
  rw [Finset.sum_comm]
  exact Finset.sum_congr rfl fun s _ => Finset.sum_congr rfl fun d _ => (mul_assoc _ _ _).symm

theorem qF_up : qF (up2 Q) (up2 K) (up2 V) (up2 D) = up3 (wD Q K V D) := by
  unfold qF
  rw [qX_up, qRm_up, qE_up, qG_up, qW_up, qO_up, qM_sel, qS_up, h_mulf]
  refine up3_congr fun h _ t ht s _ => ?_
  have hz := (rZ_pos (rS Q K) h t ht).ne'
  have hp : ∀ s, rE (rS Q K) h t s = rZ (rS Q K) h t * wP Q K h t s := fun s => by
    rw [← wP_eq Q K h t s ht, mul_div_cancel₀ _ hz]
  have he : cs (fun s => (∑ d ∈ Finset.range 128, hw 128 h D t d * vh h V s d) * (1 / (rZ (rS Q K) h t * rZ (rS Q K) h t)) * rE (rS Q K) h t s) 4224
      = gE (hw 128 h D) (oh Q K V h) t / rZ (rS Q K) h t := by
    rw [gE_eq]
    unfold cs
    rw [Finset.sum_div]
    refine Finset.sum_congr rfl fun s _ => ?_
    show _ * (1 / _) * rE (rS Q K) h t s = _
    rw [hp s]
    field_simp
  rw [he, hp s]
  unfold wD gDs
  by_cases hs : s ≤ t
  · rw [if_pos hs]
    unfold wP
    field_simp
    ring
  · rw [if_neg hs]
    unfold gP
    rw [if_neg hs]
    ring

/-- The reference's results on reals. -/
theorem qDv_up : qDv (up2 Q) (up2 K) (up2 D) = up2 fun s c => cs (fun t => wP Q K (c / 128) t s * hw 128 (c / 128) D t (c % 128)) 4224 := by
  unfold qDv
  rw [qPX_up, qD_up, r_dot_da, r_t201, r_unheads]
  refine up2_congr fun s _ c _ => ?_
  unfold cs
  exact Finset.sum_congr rfl fun t _ => mul_comm _ _
theorem qDk_up : qDk (up2 Q) (up2 K) (up2 V) (up2 D) = up2 fun s c => cs (fun t => wD Q K V D (c / 256) t s * hw 256 (c / 256) Q t (c % 256)) 4224 := by
  unfold qDk
  rw [qF_up, qA_up, qB_up, r_dot_zq, r_dot_zq, qJ_up]
  refine up2_congr fun s _ c _ => ?_
  split_ifs with hc
  · rfl
  · rw [show 128 + (c % 256 - 128) = c % 256 by omega]; rfl
theorem qDq_up : qDq (up2 Q) (up2 K) (up2 V) (up2 D) = up2 fun t c => cs (fun s => wD Q K V D (c / 256) t s * hw 256 (c / 256) K s (c % 256)) 4224 := by
  unfold qDq
  rw [qF_up, qA_up, qB_up, r_dot_zk, r_dot_zk, qJ_up]
  refine (r_truncf _ _).trans (up2_congr fun t _ c _ => ?_)
  split_ifs with hc
  · rfl
  · rw [show 128 + (c % 256 - 128) = c % 256 by omega]; rfl

/-- The output and the logarithms of the sums, as a forward pass saves them. -/
def qOut (Q K V : FVec Ideal S4224x4096 .bf16) : FVec Ideal S4224x2048 .bf16 :=
  truncf .bf16 (shapeCast S4224x2048 (transpose S4224x16x128 [2, 0, 1] (Host.dotGeneral dot_S4224x16x128_S16x4224x4224_S16x128x4224_0_2_2_1_1_0 none (qV V) (qP (qE (qX Q K) (qRm (qX Q K))))) transposes_S16x128x4224_S4224x16x128_2_0_1) shapeCasts_S4224x16x128_S4224x2048) bitsLt_bf16_f32
def qLse (Q K : FVec Ideal S4224x4096 .bf16) : FVec Ideal S16x4224x1 .f32 :=
  addf (q1 (qR (qX Q K))) (Host.log (q1 (qSum (qE (qX Q K) (qR (qX Q K))))))

theorem qOut_up : qOut (up2 Q) (up2 K) (up2 V) = up2 fun t c => oh Q K V (c / 128) t (c % 128) := by
  unfold qOut
  rw [qPX_up, qV_up, r_dot_vp, r_t201, r_unheads]
  rfl
theorem qLse_up : qLse (up2 Q) (up2 K) = up3 fun h t _ => rL (rS Q K) h t := by
  unfold qLse
  rw [qX_up, qR_up, qE_up, qZ_up, q1_up, q1_up]
  funext j
  show ((rMax (rS Q K) (j 0).val (j 1).val : ℝ) : EReal) + Ideal.log ((rZ (rS Q K) (j 0).val (j 1).val : ℝ) : EReal) = _
  rw [log_coe_pos (rZ_pos _ _ _ (j 1).isLt), ← EReal.coe_add]
  rfl
end

end Cert.Mla
-- ==== Proof.MlaLoop.lean ====
module

public import proofs.«01_k».proof.Proof.MlaStore

/-! The loop over the earlier key blocks on real numbers, by induction on the trips. -/

@[expose] public section

set_option maxRecDepth 16384

noncomputable section

namespace Cert.Mla

open Idealize.ShloMosaic Cert.MlaBwdIdeal Cert.MlaBwdIdeal.Gen Cert.Stick

namespace Pair
variable (p : Pair)
/-- The keys' cotangent of both heads before query block `i`. -/
def fK (i s c : ℕ) : ℝ := cK (hw 256 (c / 256) p.Q) (hw 256 (c / 256) p.K) (hw 128 (c / 256) p.V) (hw 128 (c / 256) p.D) (hw 128 (c / 256) p.O) (p.T (c / 256)) i s (c % 256)
/-- The values' cotangent of both heads before query block `i`. -/
def fV (i s c : ℕ) : ℝ := cV (hw 256 (c / 128) p.Q) (hw 256 (c / 128) p.K) (hw 128 (c / 128) p.D) (p.T (c / 128)) i s (c % 128)
/-- The queries' cotangent of both heads in block `i` before key block `n`. -/
def fQ (i n r c : ℕ) : ℝ := cQ (hw 256 (c / 256) p.Q) (hw 256 (c / 256) p.K) (hw 128 (c / 256) p.V) (hw 128 (c / 256) p.D) (hw 128 (c / 256) p.O) (p.T (c / 256)) i n r (c % 256)

/-- The carried values in block `i` before key block `n`. -/
def car (i n : ℕ) : Carry Ideal := (up2 (cQ (hw 256 0 p.Q) (hw 256 0 p.K) (hw 128 0 p.V) (hw 128 0 p.D) (hw 128 0 p.O) (p.T 0) i n), up2 (cQ (hw 256 1 p.Q) (hw 256 1 p.K) (hw 128 1 p.V) (hw 128 1 p.D) (hw 128 1 p.O) (p.T 1) i n))
end Pair

theorem fK0 (p : Pair) (n i : ℕ) : (up2 (blk n (hw 256 0 (p.fK i))) : S384x256.Idx → EReal) = up2 (blk n (cK (hw 256 0 p.Q) (hw 256 0 p.K) (hw 128 0 p.V) (hw 128 0 p.D) (hw 128 0 p.O) (p.T 0) i)) :=
  up2_congr fun r _ c hc => by
    unfold blk hw Pair.fK
    rw [show (256 * 0 + c) / 256 = 0 by omega, show (256 * 0 + c) % 256 = c by omega]
    rfl
theorem fK1 (p : Pair) (n i : ℕ) : (up2 (blk n (hw 256 1 (p.fK i))) : S384x256.Idx → EReal) = up2 (blk n (cK (hw 256 1 p.Q) (hw 256 1 p.K) (hw 128 1 p.V) (hw 128 1 p.D) (hw 128 1 p.O) (p.T 1) i)) :=
  up2_congr fun r _ c hc => by
    unfold blk hw Pair.fK
    rw [show (256 * 1 + c) / 256 = 1 by omega, show (256 * 1 + c) % 256 = c by omega]
    rfl
theorem fV0 (p : Pair) (n i : ℕ) : (up2 (blk n (hw 128 0 (p.fV i))) : S384x128.Idx → EReal) = up2 (blk n (cV (hw 256 0 p.Q) (hw 256 0 p.K) (hw 128 0 p.D) (p.T 0) i)) :=
  up2_congr fun r _ c hc => by
    unfold blk hw Pair.fV
    rw [show (128 * 0 + c) / 128 = 0 by omega, show (128 * 0 + c) % 128 = c by omega]
    rfl
theorem fV1 (p : Pair) (n i : ℕ) : (up2 (blk n (hw 128 1 (p.fV i))) : S384x128.Idx → EReal) = up2 (blk n (cV (hw 256 1 p.Q) (hw 256 1 p.K) (hw 128 1 p.D) (p.T 1) i)) :=
  up2_congr fun r _ c hc => by
    unfold blk hw Pair.fV
    rw [show (128 * 1 + c) / 128 = 1 by omega, show (128 * 1 + c) % 128 = c by omega]
    rfl

/-- The loop makes as many trips as there are earlier blocks. -/
theorem trips1 (i : grid0.Coords) : (k0_t1_loop i).trips = (i 1).val := by
  have h_c0 : Affine.IsInt 0#32 (0) := Affine.ofNat _ (by omega)
  have r_i1 : (i 1).val < 11 := (i 1).isLt
  have h_arg1 : Affine.IsInt (BitVec.ofNat 32 (i 1).val) (((i 1).val : Int)) := Affine.ofNat _ (by omega)
  have h_v14 : Affine.IsInt _ (((i 1).val : Int)) := Affine.subi h_arg1 h_c0 (by omega)
  have h_c1 : Affine.IsInt 1#32 (1) := Affine.ofNat _ (by omega)
  have h_v16 : Affine.IsInt _ (((i 1).val : Int)) := Affine.divsi h_v14 h_c1 (by omega)
  have h_v17 : Affine.IsInt _ (((i 1).val : Int)) := Affine.muli h_v16 h_c1 (by omega)
  have h_v18 : Affine.IsInt _ (((i 1).val : Int)) := Affine.addi h_c0 h_v17 (by omega)
  exact Affine.trips_eq h_c0 h_v18 h_c1 _ (by omega)

/-- The second loop makes no trip. -/
theorem trips2 (i : grid0.Coords) : (k0_t2_loop i).trips = 0 := Nat.le_zero.mp (k0_t2_abs i).2.1

/-- The carried values before the first trip are zero. -/
theorem init0_up (p : Pair) (i : ℕ) : init0 (F := Ideal) = p.car i 0 := by
  have h : ∀ {a b : ℕ} (X : ℕ → ℕ → ℝ) (_ : ∀ r c, X r c = 0),
      (broadcast ⟨2, ![a, b]⟩ (Scalar.ofBits (F := Ideal) .f32 0x00000000#32) : (⟨2, ![a, b]⟩ : Shape).Idx → EReal) = up2 X := by
    intro a b X hX
    funext j
    show Ideal.ofBits .f32 0x00000000#32 = _
    rw [Ideal.ofBits_zero_f32]
    unfold up2
    rw [hX]; rfl
  unfold init0 Pair.car k0_pay26 k0_pay27
  refine Prod.ext (h _ fun _ _ => ?_) (h _ fun _ _ => ?_)
  all_goals
    unfold cQ
    exact cs_zero _

section
variable {msk : Sq Ideal → Sq Ideal} {M : ℕ → ℕ → Prop} [∀ r c, Decidable (M r c)] (hm : Masks msk M)
variable {p : Pair} {i n : ℕ} (hM : ∀ r < 384, ∀ c < 384, (M r c ↔ 384 * n + c ≤ 384 * i + r))
variable {q k q' k' : Wb Ideal} {v d v' d' : Hb Ideal} {t t' e e' : Col Ideal} {c : Carry Ideal} {old : Wd Ideal} {olv : Hd Ideal} (hc : c = p.car i n)
variable (hq : q = up2 (blk i (hw 256 0 p.Q))) (hk : k = up2 (blk n (hw 256 0 p.K))) (hv : v = up2 (blk n (hw 128 0 p.V))) (hd' : d = up2 (blk i (hw 128 0 p.D))) (ht : t = up2 (tb (p.T 0) i)) (he : e = up2 (eb (hw 128 0 p.D) (hw 128 0 p.O) i))
variable (hq' : q' = up2 (blk i (hw 256 1 p.Q))) (hk' : k' = up2 (blk n (hw 256 1 p.K))) (hv' : v' = up2 (blk n (hw 128 1 p.V))) (hd'' : d' = up2 (blk i (hw 128 1 p.D))) (ht' : t' = up2 (tb (p.T 1) i)) (he' : e' = up2 (eb (hw 128 1 p.D) (hw 128 1 p.O) i))

include hm hM hq hk hv hd' ht he in
/-- One block's keys' cotangent, first head. -/
theorem dk0 (ho : old = up2 (blk n (hw 256 0 (p.fK i)))) : hDk msk q k v d t e old = up2 (blk n (hw 256 0 (p.fK (i + 1)))) := by
  subst hq hk hv hd' ht he ho
  rw [fK0, fK0]
  exact hDk_blk hm _ _ _ _ _ _ _ _ hM

include hm hM hq hk hd' ht in
/-- One block's values' cotangent, first head. -/
theorem dv0 (ho : olv = up2 (blk n (hw 128 0 (p.fV i)))) : hDv msk q k d t olv = up2 (blk n (hw 128 0 (p.fV (i + 1)))) := by
  subst hq hk hd' ht ho
  rw [fV0, fV0]
  exact hDv_blk hm _ _ _ _ _ _ hM

include hm hM hq' hk' hv' hd'' ht' he' in
/-- One block's keys' cotangent, second head. -/
theorem dk1 (ho : old = up2 (blk n (hw 256 1 (p.fK i)))) : hDk msk q' k' v' d' t' e' old = up2 (blk n (hw 256 1 (p.fK (i + 1)))) := by
  subst hq' hk' hv' hd'' ht' he' ho
  rw [fK1, fK1]
  exact hDk_blk hm _ _ _ _ _ _ _ _ hM

include hm hM hq' hk' hd'' ht' in
/-- One block's values' cotangent, second head. -/
theorem dv1 (ho : olv = up2 (blk n (hw 128 1 (p.fV i)))) : hDv msk q' k' d' t' olv = up2 (blk n (hw 128 1 (p.fV (i + 1)))) := by
  subst hq' hk' hd'' ht' ho
  rw [fV1, fV1]
  exact hDv_blk hm _ _ _ _ _ _ hM

include hm hM hc hq hk hv hd' ht he in
/-- One block's queries' cotangent, first head. -/
theorem dq0 : hDq msk q k v d t e c.1 = (p.car i (n + 1)).1 := by
  subst hc hq hk hv hd' ht he
  exact hDq_blk hm _ _ _ _ _ _ _ _ hM

include hm hM hc hq' hk' hv' hd'' ht' he' in
/-- One block's queries' cotangent, second head. -/
theorem dq1 : hDq msk q' k' v' d' t' e' c.2 = (p.car i (n + 1)).2 := by
  subst hc hq' hk' hv' hd'' ht' he'
  exact hDq_blk hm _ _ _ _ _ _ _ _ hM
end

section
variable (𝒱 : Variants) (c : Dev nD) (bd : Option 𝒱.V) (i : grid0.Coords) (arg2 : Memref sig .tc .vmem S384x512 .bf16) (harg2 : arg2.IsWhole) (arg3 : Memref sig .tc .vmem S4224x512 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S2x384x1 .f32) (harg7 : arg7.IsWhole) (arg8 : Memref sig .tc .vmem S384x512 .bf16) (harg8 : arg8.IsWhole) (arg9 : Memref sig .tc .vmem S4224x512 .f32) (harg9 : arg9.IsWhole) (arg10 : Memref sig .tc .vmem S4224x256 .f32) (harg10 : arg10.IsWhole) (v6 : Vec Ideal S384x128 .bf16) (v8 : Vec Ideal S384x128 .bf16) (v14 : Vec Ideal S384x128 .bf16) (v16 : Vec Ideal S384x128 .bf16) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg7 : BufTy.Contents (Elt Ideal) arg7.view.ty) (G_arg9 : BufTy.Contents (Elt Ideal) arg9.view.ty) (G_arg10 : BufTy.Contents (Elt Ideal) arg10.view.ty)
variable (p : Pair)
/-- What the body finds in its operands at query block `(i 1)`. -/
structure Ops : Prop where
  h2 : arg2.view.read (Elt Ideal) X_arg2 = up2 (blk (i 1).val p.Q)
  h3 : arg3.view.read (Elt Ideal) X_arg3 = up2 p.K
  h4 : arg4.view.read (Elt Ideal) X_arg4 = up2 p.V
  h6 : arg6.view.read (Elt Ideal) X_arg6 = up2 (blk (i 1).val p.D)
  h7 : arg7.view.read (Elt Ideal) X_arg7 = fun j : S2x384x1.Idx => ((p.T (j 0).val (384 * (i 1).val + (j 1).val) : ℝ) : EReal)
end

/-- One head's rows of a block. -/
theorem ldH0_up (arg : Memref sig .tc .vmem S384x256 .bf16) (X : BufTy.Contents (Elt Ideal) arg.view.ty) (I : ℕ) (D : ℕ → ℕ → ℝ)
    (h : arg.view.read (Elt Ideal) X = up2 (blk I D)) : ldH0 (F := Ideal) arg X = up2 (blk I (hw 128 0 D)) := by
  unfold ldH0
  rw [View.readAt_unit _ _ _ rfl inb_S384x256_S384x128_0_0, h]
  exact window_up _ _ _ _ _ rfl _ fun r _ c _ => by unfold blk hw; congr 1 <;> omega
theorem ldH1_up (arg : Memref sig .tc .vmem S384x256 .bf16) (X : BufTy.Contents (Elt Ideal) arg.view.ty) (I : ℕ) (D : ℕ → ℕ → ℝ)
    (h : arg.view.read (Elt Ideal) X = up2 (blk I D)) : ldH1 (F := Ideal) arg X = up2 (blk I (hw 128 1 D)) := by
  unfold ldH1
  rw [View.readAt_unit _ _ _ rfl inb_S384x256_S384x128_0_128, h]
  exact window_up _ _ _ _ _ rfl _ fun r _ c _ => by unfold blk hw; congr 1 <;> omega

section
variable (𝒱 : Variants) (c : Dev nD) (bd : Option 𝒱.V) (i : grid0.Coords) (arg2 : Memref sig .tc .vmem S384x512 .bf16) (harg2 : arg2.IsWhole) (arg3 : Memref sig .tc .vmem S4224x512 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S2x384x1 .f32) (harg7 : arg7.IsWhole) (arg8 : Memref sig .tc .vmem S384x512 .bf16) (harg8 : arg8.IsWhole) (arg9 : Memref sig .tc .vmem S4224x512 .f32) (harg9 : arg9.IsWhole) (arg10 : Memref sig .tc .vmem S4224x256 .f32) (harg10 : arg10.IsWhole) (v6 : Vec Ideal S384x128 .bf16) (v8 : Vec Ideal S384x128 .bf16) (v14 : Vec Ideal S384x128 .bf16) (v16 : Vec Ideal S384x128 .bf16) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg7 : BufTy.Contents (Elt Ideal) arg7.view.ty) (G_arg9 : BufTy.Contents (Elt Ideal) arg9.view.ty) (G_arg10 : BufTy.Contents (Elt Ideal) arg10.view.ty)
variable (p : Pair) (ho : Ops i arg2 arg3 arg4 arg6 arg7 X_arg2 X_arg3 X_arg4 X_arg6 X_arg7 p)
include ho

theorem ldQ0_up : ldQ0 (F := Ideal) arg2 X_arg2 = up2 (blk (i 1).val (hw 256 0 p.Q)) := by
  unfold ldQ0
  rw [View.readAt_unit _ _ _ rfl inb_S384x512_S384x256_0_0, ho.h2]
  exact window_up _ _ _ _ _ rfl _ fun r _ c _ => by unfold blk hw; congr 1 <;> omega
theorem ldQ1_up : ldQ1 (F := Ideal) arg2 X_arg2 = up2 (blk (i 1).val (hw 256 1 p.Q)) := by
  unfold ldQ1
  rw [View.readAt_unit _ _ _ rfl inb_S384x512_S384x256_0_256, ho.h2]
  exact window_up _ _ _ _ _ rfl _ fun r _ c _ => by unfold blk hw; congr 1 <;> omega
theorem ldT0_up : ldT0 (F := Ideal) arg7 X_arg7 = up2 (tb (p.T 0) (i 1).val) := by
  unfold ldT0 colOf
  rw [View.readAt_unit _ _ _ rfl inb_S2x384x1_S1x384x1_0_0_0, ho.h7]
  funext j; idx_vars j; pointwise
  refine congrArg Real.toEReal ?_
  show p.T 0 (384 * (i 1).val + (0 + 1 * j0.val)) = p.T 0 (384 * (i 1).val + j0.val)
  rw [Nat.zero_add, Nat.one_mul]
theorem ldT1_up : ldT1 (F := Ideal) arg7 X_arg7 = up2 (tb (p.T 1) (i 1).val) := by
  unfold ldT1 colOf
  rw [View.readAt_unit _ _ _ rfl inb_S2x384x1_S1x384x1_1_0_0, ho.h7]
  funext j; idx_vars j; pointwise
  refine congrArg Real.toEReal ?_
  show p.T 1 (384 * (i 1).val + (0 + 1 * j0.val)) = p.T 1 (384 * (i 1).val + j0.val)
  rw [Nat.zero_add, Nat.one_mul]

section
variable {off : Fin 2 → ℕ} (n : ℕ)
theorem ldK_up (e : ℕ) (he : off = ![384 * n, 256 * e]) (inb : ∀ j, off j + (![384, 256] : Fin 2 → ℕ) j ≤ S4224x512.size j) :
    View.readAt (Elt Ideal) arg3.view (Rect.unit (s := S4224x512) off ![384, 256] inb).toLoadRect X_arg3 = (up2 (blk n (hw 256 e p.K)) : S384x256.Idx → EReal) := by
  subst he
  rw [View.readAt_unit _ _ _ rfl inb, ho.h3]
  exact window_up _ _ _ _ _ rfl _ fun r _ c _ => rfl
theorem ldV_up (e : ℕ) (he : off = ![384 * n, 128 * e]) (inb : ∀ j, off j + (![384, 128] : Fin 2 → ℕ) j ≤ S4224x256.size j) :
    View.readAt (Elt Ideal) arg4.view (Rect.unit (s := S4224x256) off ![384, 128] inb).toLoadRect X_arg4 = (up2 (blk n (hw 128 e p.V)) : S384x128.Idx → EReal) := by
  subst he
  rw [View.readAt_unit _ _ _ rfl inb, ho.h4]
  exact window_up _ _ _ _ _ rfl _ fun r _ c _ => rfl
end

/-- The state after `n` trips: the carried values, and the accumulated cotangents moved on in the first `n` key blocks. -/
theorem loop_up (hE0 : bDelta (F := Ideal) v6 v8 = up2 (eb (hw 128 0 p.D) (hw 128 0 p.O) (i 1).val)) (hE1 : bDelta (F := Ideal) v14 v16 = up2 (eb (hw 128 1 p.D) (hw 128 1 p.O) (i 1).val))
    (hG9 : arg9.view.read (Elt Ideal) G_arg9 = up2 (buf 256 p.fK (i 1).val 0 0)) (hG10 : arg10.view.read (Elt Ideal) G_arg10 = up2 (buf 128 p.fV (i 1).val 0 0))
    (n : ℕ) (hn : n ≤ (k0_t1_loop i).trips) :
    (st_k0_t1 (F := Ideal) 𝒱 c bd i arg2 harg2 arg3 harg3 arg4 harg4 arg5 harg5 arg6 harg6 arg7 harg7 arg8 harg8 arg9 harg9 arg10 harg10 v6 v8 v14 v16 X_arg2 X_arg3 X_arg4 X_arg6 X_arg7 G_arg9 G_arg10 init0 n).1 = p.car (i 1).val n ∧
    arg9.view.read (Elt Ideal) (arg9.view.writes (Elt Ideal) G_arg9 (st_k0_t1 (F := Ideal) 𝒱 c bd i arg2 harg2 arg3 harg3 arg4 harg4 arg5 harg5 arg6 harg6 arg7 harg7 arg8 harg8 arg9 harg9 arg10 harg10 v6 v8 v14 v16 X_arg2 X_arg3 X_arg4 X_arg6 X_arg7 G_arg9 G_arg10 init0 n).2.1) = up2 (buf 256 p.fK (i 1).val n n) ∧
    arg10.view.read (Elt Ideal) (arg10.view.writes (Elt Ideal) G_arg10 (st_k0_t1 (F := Ideal) 𝒱 c bd i arg2 harg2 arg3 harg3 arg4 harg4 arg5 harg5 arg6 harg6 arg7 harg7 arg8 harg8 arg9 harg9 arg10 harg10 v6 v8 v14 v16 X_arg2 X_arg3 X_arg4 X_arg6 X_arg7 G_arg9 G_arg10 init0 n).2.2) = up2 (buf 128 p.fV (i 1).val n n) := by
  induction n with
  | zero => exact ⟨init0_up p _, hG9, hG10⟩
  | succ n ih =>
    have hk : n < (k0_t1_loop i).trips := hn
    have hlt : n < (i 1).val := trips1 i ▸ hk
    have hM : ∀ r < 384, ∀ c < 384, (True ↔ 384 * n + c ≤ 384 * (i 1).val + r) := fun r _ c hc => ⟨fun _ => by omega, fun _ => trivial⟩
    obtain ⟨ih1, ih2, ih3⟩ := ih (le_of_lt hk)
    have hs := st_k0_t1_succ (F := Ideal) 𝒱 c bd i arg2 harg2 arg3 harg3 arg4 harg4 arg5 harg5 arg6 harg6 arg7 harg7 arg8 harg8 arg9 harg9 arg10 harg10 v6 v8 v14 v16 X_arg2 X_arg3 X_arg4 X_arg6 X_arg7 G_arg9 G_arg10 init0 ⟨n, hk⟩
    rw [show n + 1 = (⟨n, hk⟩ : Fin _).val + 1 from rfl, hs]
    have o1 := k0_off1_eq i ⟨n, hk⟩
    have o2 := k0_off2_eq i ⟨n, hk⟩
    have o3 := k0_off3_eq i ⟨n, hk⟩
    have o4 := k0_off4_eq i ⟨n, hk⟩
    have K0 := ldK_up i arg2 arg3 arg4 arg6 arg7 X_arg2 X_arg3 X_arg4 X_arg6 X_arg7 p ho n 0 o1 (k0_off1_inb i ⟨n, hk⟩)
    have K1 := ldK_up i arg2 arg3 arg4 arg6 arg7 X_arg2 X_arg3 X_arg4 X_arg6 X_arg7 p ho n 1 o3 (k0_off3_inb i ⟨n, hk⟩)
    have V0 := ldV_up i arg2 arg3 arg4 arg6 arg7 X_arg2 X_arg3 X_arg4 X_arg6 X_arg7 p ho n 0 o2 (k0_off2_inb i ⟨n, hk⟩)
    have V1 := ldV_up i arg2 arg3 arg4 arg6 arg7 X_arg2 X_arg3 X_arg4 X_arg6 X_arg7 p ho n 1 o4 (k0_off4_inb i ⟨n, hk⟩)
    have Q0 := ldQ0_up i arg2 arg3 arg4 arg6 arg7 X_arg2 X_arg3 X_arg4 X_arg6 X_arg7 p ho
    have Q1 := ldQ1_up i arg2 arg3 arg4 arg6 arg7 X_arg2 X_arg3 X_arg4 X_arg6 X_arg7 p ho
    have D0 := ldH0_up arg6 X_arg6 _ _ ho.h6
    have D1 := ldH1_up arg6 X_arg6 _ _ ho.h6
    have T0 := ldT0_up i arg2 arg3 arg4 arg6 arg7 X_arg2 X_arg3 X_arg4 X_arg6 X_arg7 p ho
    have T1 := ldT1_up i arg2 arg3 arg4 arg6 arg7 X_arg2 X_arg3 X_arg4 X_arg6 X_arg7 p ho
    refine ⟨?_, ?_, ?_⟩
    · refine (trip_carry 𝒱 c bd i arg2 harg2 arg3 harg3 arg4 harg4 arg5 harg5 arg6 harg6 arg7 harg7 arg8 harg8 arg9 harg9 arg10 harg10 v6 v8 v14 v16 X_arg2 X_arg3 X_arg4 X_arg6 X_arg7 ⟨n, hk⟩ _ _ _).trans ?_
      exact Prod.ext (dq0 masks_id hM ih1 Q0 K0 V0 D0 T0 hE0) (dq1 masks_id hM ih1 Q1 K1 V1 D1 T1 hE1)
    · refine (congrArg (fun L => arg9.view.read (Elt Ideal) (arg9.view.writes (Elt Ideal) G_arg9 (L ++ _))) (trip_dk 𝒱 c bd i arg2 harg2 arg3 harg3 arg4 harg4 arg5 harg5 arg6 harg6 arg7 harg7 arg8 harg8 arg9 harg9 arg10 harg10 v6 v8 v14 v16 X_arg2 X_arg3 X_arg4 X_arg6 X_arg7 ⟨n, hk⟩ _ _ _)).trans ?_
      exact wr1w _ _ _ _ _ _ o3 _ _ (wr0w _ _ _ _ _ _ o1 _ _ ih2 _
        (dk0 masks_id hM Q0 K0 V0 D0 T0 hE0 (rd0w _ _ _ _ _ o1 _ _ ih2))) _
        (dk1 masks_id hM Q1 K1 V1 D1 T1 hE1 (rd1w _ _ _ _ _ o3 _ _ ih2))
    · refine (congrArg (fun L => arg10.view.read (Elt Ideal) (arg10.view.writes (Elt Ideal) G_arg10 (L ++ _))) (trip_dv 𝒱 c bd i arg2 harg2 arg3 harg3 arg4 harg4 arg5 harg5 arg6 harg6 arg7 harg7 arg8 harg8 arg9 harg9 arg10 harg10 v6 v8 v14 v16 X_arg2 X_arg3 X_arg4 X_arg6 X_arg7 ⟨n, hk⟩ _ _ _)).trans ?_
      exact wr1n _ _ _ _ _ _ o4 _ _ (wr0n _ _ _ _ _ _ o2 _ _ ih3 _
        (dv0 masks_id hM Q0 K0 D0 T0 (rd0n _ _ _ _ _ o2 _ _ ih3))) _
        (dv1 masks_id hM Q1 K1 D1 T1 (rd1n _ _ _ _ _ o4 _ _ ih3))
end

end Cert.Mla
-- ==== Proof.MlaOut.lean ====
module

public import proofs.«01_k».proof.Proof.MlaLoop
public import Idealize.ShloMosaic.Lib.Pipeline.FrameBody

/-! What the body leaves at one grid point, on real numbers: the accumulated cotangents of the keys and
values of two heads moved on by one query block, and the block's queries' cotangent. -/

@[expose] public section

set_option maxRecDepth 16384
set_option maxHeartbeats 1000000

noncomputable section

namespace Cert.Mla

open Idealize.ShloMosaic Cert.MlaBwdIdeal Cert.MlaBwdIdeal.Gen Cert.Stick

/-- Two stores side by side fill a block of two heads. -/
theorem two_upw (v : View sig .tc .vmem S384x512 .bf16) (G : v.ty.Contents (Elt Ideal)) (f : ℕ → ℕ → ℝ) (w0 w1 : S384x256.Idx → EReal)
    (inb0 : ∀ j, (![0, 0] : Fin 2 → ℕ) j + (![384, 256] : Fin 2 → ℕ) j ≤ S384x512.size j) (inb1 : ∀ j, (![0, 256] : Fin 2 → ℕ) j + (![384, 256] : Fin 2 → ℕ) j ≤ S384x512.size j)
    (h0 : w0 = up2 (hw 256 0 f)) (h1 : w1 = up2 (hw 256 1 f)) :
    v.read (Elt Ideal) (v.writes (Elt Ideal) G [⟨Rect.unit ![0, 256] ![384, 256] inb1, w1⟩, ⟨Rect.unit ![0, 0] ![384, 256] inb0, w0⟩]) = up2 f := by
  subst h0 h1
  rw [View.read_writes_cons_put v G inb1 _ _ rfl, View.read_writes_cons_put v G inb0 _ _ rfl]
  funext j
  have b0 : (j 0).val < 384 := (j 0).isLt
  have b1 : (j 1).val < 512 := (j 1).isLt
  unfold VecWindow.put
  split
  · rename_i h
    have e1 : 256 ≤ (j 1).val ∧ (j 1).val < 256 + 256 := h 1
    refine congrArg Real.toEReal ?_
    show f ((j 0).val - 0) (256 * 1 + ((j 1).val - 256)) = f (j 0).val (j 1).val
    congr 1; omega
  · rename_i h
    have e1 : (j 1).val < 256 := by
      by_contra hh
      exact h fun a => by
        match a with
        | 0 => exact ⟨Nat.zero_le _, by show (j 0).val < 0 + 384; omega⟩
        | 1 => exact ⟨by show 256 ≤ (j 1).val; omega, by show (j 1).val < 256 + 256; omega⟩
    rw [dif_pos fun a => by
        match a with
        | 0 => exact ⟨Nat.zero_le _, by show (j 0).val < 0 + 384; omega⟩
        | 1 => exact ⟨Nat.zero_le _, by show (j 1).val < 0 + 256; omega⟩]
    refine congrArg Real.toEReal ?_
    show f ((j 0).val - 0) (256 * 0 + ((j 1).val - 0)) = f (j 0).val (j 1).val
    congr 1; omega

theorem buf_startK (f : ℕ → ℕ → ℕ → ℝ) (I : ℕ) : (up2 (buf 256 f I 0 0) : S4224x512.Idx → EReal) = up2 (f I) :=
  up2_congr fun s _ c _ => by unfold buf; rw [if_neg]; split <;> omega
theorem buf_startV (f : ℕ → ℕ → ℕ → ℝ) (I : ℕ) : (up2 (buf 128 f I 0 0) : S4224x256.Idx → EReal) = up2 (f I) :=
  up2_congr fun s _ c _ => by unfold buf; rw [if_neg]; split <;> omega

theorem buf_endK (p : Pair) (I : ℕ) : (up2 (buf 256 p.fK I (I + 1) (I + 1)) : S4224x512.Idx → EReal) = up2 (p.fK (I + 1)) :=
  up2_congr fun s _ c _ => by
    unfold buf
    rw [ite_self]
    split
    · rfl
    · exact cK_late _ _ _ _ _ _ _ _ _ (by omega)

theorem buf_endV (p : Pair) (I : ℕ) : (up2 (buf 128 p.fV I (I + 1) (I + 1)) : S4224x256.Idx → EReal) = up2 (p.fV (I + 1)) :=
  up2_congr fun s _ c _ => by
    unfold buf
    rw [ite_self]
    split
    · rfl
    · exact cV_late _ _ _ _ _ _ _ (by omega)

theorem zero_K (p : Pair) : (up2 (p.fK 0) : S4224x512.Idx → EReal) = k0_pay21 (F := Ideal) := by
  funext j
  show _ = Ideal.ofBits .f32 0x00000000#32
  rw [Ideal.ofBits_zero_f32]
  exact congrArg Real.toEReal (cs_zero (fun t => gDs (hw 256 ((j 1).val / 256) p.Q) (hw 256 ((j 1).val / 256) p.K) (hw 128 ((j 1).val / 256) p.V) (hw 128 ((j 1).val / 256) p.D) (hw 128 ((j 1).val / 256) p.O) (p.T ((j 1).val / 256)) t (j 0).val * hw 256 ((j 1).val / 256) p.Q t ((j 1).val % 256)))

theorem zero_V (p : Pair) : (up2 (p.fV 0) : S4224x256.Idx → EReal) = k0_pay22 (F := Ideal) := by
  funext j
  show _ = Ideal.ofBits .f32 0x00000000#32
  rw [Ideal.ofBits_zero_f32]
  exact congrArg Real.toEReal (cs_zero (fun t => gP (hw 256 ((j 1).val / 128) p.Q) (hw 256 ((j 1).val / 128) p.K) (p.T ((j 1).val / 128)) t (j 0).val * hw 128 ((j 1).val / 128) p.D t ((j 1).val % 128)))

theorem car_q0 (p : Pair) (i n : ℕ) : (p.car i n).1 = up2 (hw 256 0 (p.fQ i n)) :=
  up2_congr fun r _ c hc => by
    unfold hw Pair.fQ
    rw [show (256 * 0 + c) / 256 = 0 by omega, show (256 * 0 + c) % 256 = c by omega]
    rfl
theorem car_q1 (p : Pair) (i n : ℕ) : (p.car i n).2 = up2 (hw 256 1 (p.fQ i n)) :=
  up2_congr fun r _ c hc => by
    unfold hw Pair.fQ
    rw [show (256 * 1 + c) / 256 = 1 by omega, show (256 * 1 + c) % 256 = c by omega]
    rfl

/-- Two blocks on the diagonal: the keys' buffer moves on by one query block. -/
theorem diagK (v : View sig .tc .vmem S4224x512 .f32) (G : v.ty.Contents (Elt Ideal)) (L : List (View.Piece (Elt Ideal) S4224x512 .f32)) {off0 off1 : Fin 2 → ℕ} {inb0 : ∀ j, off0 j + S384x256.size j ≤ S4224x512.size j} {inb1 : ∀ j, off1 j + S384x256.size j ≤ S4224x512.size j}
    {q k q' k' : Wb Ideal} {w d w' d' : Hb Ideal} {t t' e e' : Col Ideal} {p : Pair} {I : ℕ}
    (o0 : off0 = ![384 * I, 0]) (o1 : off1 = ![384 * I, 256])
    (hq : q = up2 (blk I (hw 256 0 p.Q))) (hk : k = up2 (blk I (hw 256 0 p.K))) (hwv : w = up2 (blk I (hw 128 0 p.V))) (hd' : d = up2 (blk I (hw 128 0 p.D))) (ht : t = up2 (tb (p.T 0) I)) (he : e = up2 (eb (hw 128 0 p.D) (hw 128 0 p.O) I))
    (hq' : q' = up2 (blk I (hw 256 1 p.Q))) (hk' : k' = up2 (blk I (hw 256 1 p.K))) (hwv' : w' = up2 (blk I (hw 128 1 p.V))) (hd'' : d' = up2 (blk I (hw 128 1 p.D))) (ht' : t' = up2 (tb (p.T 1) I)) (he' : e' = up2 (eb (hw 128 1 p.D) (hw 128 1 p.O) I))
    (hG : v.read (Elt Ideal) (v.writes (Elt Ideal) G L) = up2 (buf 256 p.fK I I I)) :
    v.read (Elt Ideal) (v.writes (Elt Ideal) G (⟨Rect.unit off1 ![384, 256] inb1, hDk dmask q' k' w' d' t' e' (v.readAt (Elt Ideal) (Rect.unit (s := S4224x512) off1 S384x256.size inb1).toLoadRect
        (v.writes (Elt Ideal) G (⟨Rect.unit off0 ![384, 256] inb0, hDk dmask q k w d t e (v.readAt (Elt Ideal) (Rect.unit (s := S4224x512) off0 S384x256.size inb0).toLoadRect (v.writes (Elt Ideal) G L))⟩ :: L)))⟩
      :: ⟨Rect.unit off0 ![384, 256] inb0, hDk dmask q k w d t e (v.readAt (Elt Ideal) (Rect.unit (s := S4224x512) off0 S384x256.size inb0).toLoadRect (v.writes (Elt Ideal) G L))⟩ :: L)) = up2 (p.fK (I + 1)) := by
  have hM : ∀ r < 384, ∀ c < 384, (c ≤ r ↔ 384 * I + c ≤ 384 * I + r) := fun r _ c _ => by omega
  have a0 := wr0w v G L p.fK I I o0 inb0 I hG _ (dk0 masks_dmask hM hq hk hwv hd' ht he (rd0w v _ p.fK I I o0 inb0 I hG))
  exact (wr1w v G _ p.fK I I o1 inb1 (I + 1) a0 _ (dk1 masks_dmask hM hq' hk' hwv' hd'' ht' he' (rd1w v _ p.fK I I o1 inb1 (I + 1) a0))).trans (buf_endK p I)

/-- Two blocks on the diagonal: the values' buffer moves on by one query block. -/
theorem diagV (v : View sig .tc .vmem S4224x256 .f32) (G : v.ty.Contents (Elt Ideal)) (L : List (View.Piece (Elt Ideal) S4224x256 .f32)) {off0 off1 : Fin 2 → ℕ} {inb0 : ∀ j, off0 j + S384x128.size j ≤ S4224x256.size j} {inb1 : ∀ j, off1 j + S384x128.size j ≤ S4224x256.size j}
    {q k q' k' : Wb Ideal} {w d w' d' : Hb Ideal} {t t' e e' : Col Ideal} {p : Pair} {I : ℕ}
    (o0 : off0 = ![384 * I, 0]) (o1 : off1 = ![384 * I, 128])
    (hq : q = up2 (blk I (hw 256 0 p.Q))) (hk : k = up2 (blk I (hw 256 0 p.K))) (hwv : w = up2 (blk I (hw 128 0 p.V))) (hd' : d = up2 (blk I (hw 128 0 p.D))) (ht : t = up2 (tb (p.T 0) I)) (he : e = up2 (eb (hw 128 0 p.D) (hw 128 0 p.O) I))
    (hq' : q' = up2 (blk I (hw 256 1 p.Q))) (hk' : k' = up2 (blk I (hw 256 1 p.K))) (hwv' : w' = up2 (blk I (hw 128 1 p.V))) (hd'' : d' = up2 (blk I (hw 128 1 p.D))) (ht' : t' = up2 (tb (p.T 1) I)) (he' : e' = up2 (eb (hw 128 1 p.D) (hw 128 1 p.O) I))
    (hG : v.read (Elt Ideal) (v.writes (Elt Ideal) G L) = up2 (buf 128 p.fV I I I)) :
    v.read (Elt Ideal) (v.writes (Elt Ideal) G (⟨Rect.unit off1 ![384, 128] inb1, hDv dmask q' k' d' t' (v.readAt (Elt Ideal) (Rect.unit (s := S4224x256) off1 S384x128.size inb1).toLoadRect
        (v.writes (Elt Ideal) G (⟨Rect.unit off0 ![384, 128] inb0, hDv dmask q k d t (v.readAt (Elt Ideal) (Rect.unit (s := S4224x256) off0 S384x128.size inb0).toLoadRect (v.writes (Elt Ideal) G L))⟩ :: L)))⟩
      :: ⟨Rect.unit off0 ![384, 128] inb0, hDv dmask q k d t (v.readAt (Elt Ideal) (Rect.unit (s := S4224x256) off0 S384x128.size inb0).toLoadRect (v.writes (Elt Ideal) G L))⟩ :: L)) = up2 (p.fV (I + 1)) := by
  have hM : ∀ r < 384, ∀ c < 384, (c ≤ r ↔ 384 * I + c ≤ 384 * I + r) := fun r _ c _ => by omega
  have a0 := wr0n v G L p.fV I I o0 inb0 I hG _ (dv0 masks_dmask hM hq hk hd' ht (rd0n v _ p.fV I I o0 inb0 I hG))
  exact (wr1n v G _ p.fV I I o1 inb1 (I + 1) a0 _ (dv1 masks_dmask hM hq' hk' hd'' ht' (rd1n v _ p.fV I I o1 inb1 (I + 1) a0))).trans (buf_endV p I)

section
variable (c : Dev nD) (i : grid0.Coords) (arg2 : Memref sig .tc .vmem S384x512 .bf16) (harg2 : arg2.IsWhole) (arg3 : Memref sig .tc .vmem S4224x512 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S2x384x1 .f32) (harg7 : arg7.IsWhole) (arg8 : Memref sig .tc .vmem S384x512 .bf16) (harg8 : arg8.IsWhole) (arg9 : Memref sig .tc .vmem S4224x512 .f32) (harg9 : arg9.IsWhole) (arg10 : Memref sig .tc .vmem S4224x256 .f32) (harg10 : arg10.IsWhole)
    (x0 : Vec Ideal S384x512 .bf16) (x1 : Vec Ideal S4224x512 .bf16) (x2 : Vec Ideal S4224x256 .bf16) (x3 : Vec Ideal S384x256 .bf16) (x4 : Vec Ideal S384x256 .bf16) (x5 : Vec Ideal S2x384x1 .f32)
    (G9 : BufTy.Contents (Elt Ideal) arg9.view.ty) (G10 : BufTy.Contents (Elt Ideal) arg10.view.ty) (H9 : BufTy.Contents (Elt Ideal) arg9.view.ty) (H10 : BufTy.Contents (Elt Ideal) arg10.view.ty) (v28 : BitVec 32)

/-- The second loop, of no trip, changes nothing. -/
theorem stB_eq : stB (F := Ideal) c i arg2 harg2 arg3 harg3 arg4 harg4 arg5 harg5 arg6 harg6 arg7 harg7 arg8 harg8 arg9 harg9 arg10 harg10 x0 x1 x2 x3 x4 x5 G9 G10 H9 H10 v28 =
    ((stA (F := Ideal) c i arg2 harg2 arg3 harg3 arg4 harg4 arg5 harg5 arg6 harg6 arg7 harg7 arg8 harg8 arg9 harg9 arg10 harg10 x0 x1 x2 x3 x4 x5 G9 G10 (Scf.trips (k0_t1_loop i).lb (k0_t1_loop i).ub (k0_t1_loop i).st)).1, [], []) := by
  have h : Scf.trips (k0_t2_loop i).lb (k0_t2_loop i).ub (k0_t2_loop i).st = 0 := trips2 i
  unfold stB
  rw [h]
  rfl

variable (p : Pair)
/-- The blocks the body is given at query block `i 1`. -/
structure Ins : Prop where
  h0 : x0 = up2 (blk (i 1).val p.Q)
  h1 : x1 = up2 p.K
  h2 : x2 = up2 p.V
  h3 : x3 = up2 (blk (i 1).val p.O)
  h4 : x4 = up2 (blk (i 1).val p.D)
  h5 : x5 = fun j : S2x384x1.Idx => ((p.T (j 0).val (384 * (i 1).val + (j 1).val) : ℝ) : EReal)

variable (hi : Ins i x0 x1 x2 x3 x4 x5 p)
include hi
theorem ops : Ops i arg2 arg3 arg4 arg6 arg7 (harg2.unread x0) (harg3.unread x1) (harg4.unread x2) (harg6.unread x4) (harg7.unread x5) p :=
  ⟨(harg2.read_unread x0).trans hi.h0, (harg3.read_unread x1).trans hi.h1, (harg4.read_unread x2).trans hi.h2, (harg6.read_unread x4).trans hi.h4, (harg7.read_unread x5).trans hi.h5⟩
theorem e0_up : bDelta (F := Ideal) (ldH0 arg6 (harg6.unread x4)) (ldH0 arg5 (harg5.unread x3)) = up2 (eb (hw 128 0 p.D) (hw 128 0 p.O) (i 1).val) := by
  rw [ldH0_up arg6 _ _ _ ((harg6.read_unread x4).trans hi.h4), ldH0_up arg5 _ _ _ ((harg5.read_unread x3).trans hi.h3), bDelta_up]
  rfl
theorem e1_up : bDelta (F := Ideal) (ldH1 arg6 (harg6.unread x4)) (ldH1 arg5 (harg5.unread x3)) = up2 (eb (hw 128 1 p.D) (hw 128 1 p.O) (i 1).val) := by
  rw [ldH1_up arg6 _ _ _ ((harg6.read_unread x4).trans hi.h4), ldH1_up arg5 _ _ _ ((harg5.read_unread x3).trans hi.h3), bDelta_up]
  rfl

/-- The state after the loop. -/
theorem stA_up (hG9 : arg9.view.read (Elt Ideal) G9 = up2 (p.fK (i 1).val)) (hG10 : arg10.view.read (Elt Ideal) G10 = up2 (p.fV (i 1).val)) :
    (stA (F := Ideal) c i arg2 harg2 arg3 harg3 arg4 harg4 arg5 harg5 arg6 harg6 arg7 harg7 arg8 harg8 arg9 harg9 arg10 harg10 x0 x1 x2 x3 x4 x5 G9 G10 (Scf.trips (k0_t1_loop i).lb (k0_t1_loop i).ub (k0_t1_loop i).st)).1 = p.car (i 1).val (i 1).val ∧
    arg9.view.read (Elt Ideal) (arg9.view.writes (Elt Ideal) G9 (stA (F := Ideal) c i arg2 harg2 arg3 harg3 arg4 harg4 arg5 harg5 arg6 harg6 arg7 harg7 arg8 harg8 arg9 harg9 arg10 harg10 x0 x1 x2 x3 x4 x5 G9 G10 (Scf.trips (k0_t1_loop i).lb (k0_t1_loop i).ub (k0_t1_loop i).st)).2.1) = up2 (buf 256 p.fK (i 1).val (i 1).val (i 1).val) ∧
    arg10.view.read (Elt Ideal) (arg10.view.writes (Elt Ideal) G10 (stA (F := Ideal) c i arg2 harg2 arg3 harg3 arg4 harg4 arg5 harg5 arg6 harg6 arg7 harg7 arg8 harg8 arg9 harg9 arg10 harg10 x0 x1 x2 x3 x4 x5 G9 G10 (Scf.trips (k0_t1_loop i).lb (k0_t1_loop i).ub (k0_t1_loop i).st)).2.2) = up2 (buf 128 p.fV (i 1).val (i 1).val (i 1).val) := by
  have h := loop_up Variants.none c none i arg2 harg2 arg3 harg3 arg4 harg4 arg5 harg5 arg6 harg6 arg7 harg7 arg8 harg8 arg9 harg9 arg10 harg10 _ _ _ _
    (harg2.unread x0) (harg3.unread x1) (harg4.unread x2) (harg6.unread x4) (harg7.unread x5) G9 G10 p (ops i arg2 harg2 arg3 harg3 arg4 harg4 arg6 harg6 arg7 harg7 x0 x1 x2 x3 x4 x5 p hi)
    (e0_up i arg5 harg5 arg6 harg6 x0 x1 x2 x3 x4 x5 p hi) (e1_up i arg5 harg5 arg6 harg6 x0 x1 x2 x3 x4 x5 p hi) (hG9.trans (buf_startK _ _).symm) (hG10.trans (buf_startV _ _).symm) (k0_t1_loop i).trips le_rfl
  have e : (k0_t1_loop i).trips = (i 1).val := trips1 i
  refine ⟨h.1.trans ?_, h.2.1.trans ?_, h.2.2.trans ?_⟩ <;> rw [e]
end

section
variable (c : Dev nD) (i : grid0.Coords) (arg2 : Memref sig .tc .vmem S384x512 .bf16) (harg2 : arg2.IsWhole) (arg3 : Memref sig .tc .vmem S4224x512 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S2x384x1 .f32) (harg7 : arg7.IsWhole) (arg8 : Memref sig .tc .vmem S384x512 .bf16) (harg8 : arg8.IsWhole) (arg9 : Memref sig .tc .vmem S4224x512 .f32) (harg9 : arg9.IsWhole) (arg10 : Memref sig .tc .vmem S4224x256 .f32) (harg10 : arg10.IsWhole) (hc0 : cond0_0 i)
    (x0 : Vec Ideal S384x512 .bf16) (x1 : Vec Ideal S4224x512 .bf16) (x2 : Vec Ideal S4224x256 .bf16) (x3 : Vec Ideal S384x256 .bf16) (x4 : Vec Ideal S384x256 .bf16) (x5 : Vec Ideal S2x384x1 .f32)
variable (p : Pair) (hi : Ins i x0 x1 x2 x3 x4 x5 p) (hI : (i 1).val = 0)
include hi hI in
/-- What the body leaves of output 7. -/
theorem out_A7 : out0_A_7 (F := Ideal) c i arg2 harg2 arg3 harg3 arg4 harg4 arg5 harg5 arg6 harg6 arg7 harg7 arg8 harg8 arg9 harg9 arg10 harg10 hc0 x0 x1 x2 x3 x4 x5 = up2 (p.fK ((i 1).val + 1)) := by
  unfold out0_A_7
  refine (View.read_writes_junk_eq_canon _ _).trans ((View.read_writes_junk_eq_canon arg9.view _).symm.trans ?_)
  rw [body_dkA]
  have hs := stA_up c i arg2 harg2 arg3 harg3 arg4 harg4 arg5 harg5 arg6 harg6 arg7 harg7 arg8 harg8 arg9 harg9 arg10 harg10 x0 x1 x2 x3 x4 x5 (arg9.view.writes (Elt Ideal) arg9.view.junk [⟨Rect.unit (s := S4224x512) ![0, 0] S4224x512.size inb_S4224x512_S4224x512_0_0, k0_pay21 (F := Ideal)⟩]) (arg10.view.writes (Elt Ideal) arg10.view.junk [⟨Rect.unit (s := S4224x256) ![0, 0] S4224x256.size inb_S4224x256_S4224x256_0_0, k0_pay22 (F := Ideal)⟩]) p hi
    ((View.read_writes_full _ _ _ _ _).trans ((zero_K p).symm.trans (congrArg (fun n => (up2 (p.fK n) : S4224x512.Idx → EReal)) hI.symm))) ((View.read_writes_full _ _ _ _ _).trans ((zero_V p).symm.trans (congrArg (fun n => (up2 (p.fV n) : S4224x256.Idx → EReal)) hI.symm)))
  have ho := ops i arg2 harg2 arg3 harg3 arg4 harg4 arg6 harg6 arg7 harg7 x0 x1 x2 x3 x4 x5 p hi
  have hM : ∀ r < 384, ∀ c < 384, (c ≤ r ↔ 384 * (i 1).val + c ≤ 384 * (i 1).val + r) := fun r _ c _ => by omega
  have o9 := k0_off9_eq i
  have o10 := k0_off10_eq i
  have o11 := k0_off11_eq i
  have o12 := k0_off12_eq i
  have K0 := ldK_up i arg2 arg3 arg4 arg6 arg7 _ _ _ _ _ p ho (i 1).val 0 o9 (k0_off9_inb i)
  have K1 := ldK_up i arg2 arg3 arg4 arg6 arg7 _ _ _ _ _ p ho (i 1).val 1 o11 (k0_off11_inb i)
  have V0 := ldV_up i arg2 arg3 arg4 arg6 arg7 _ _ _ _ _ p ho (i 1).val 0 o10 (k0_off10_inb i)
  have V1 := ldV_up i arg2 arg3 arg4 arg6 arg7 _ _ _ _ _ p ho (i 1).val 1 o12 (k0_off12_inb i)
  have Q0 := ldQ0_up i arg2 arg3 arg4 arg6 arg7 _ _ _ _ _ p ho
  have Q1 := ldQ1_up i arg2 arg3 arg4 arg6 arg7 _ _ _ _ _ p ho
  have D0 := ldH0_up arg6 _ _ _ ho.h6
  have D1 := ldH1_up arg6 _ _ _ ho.h6
  have T0 := ldT0_up i arg2 arg3 arg4 arg6 arg7 _ _ _ _ _ p ho
  have T1 := ldT1_up i arg2 arg3 arg4 arg6 arg7 _ _ _ _ _ p ho
  have E0 := e0_up i arg5 harg5 arg6 harg6 x0 x1 x2 x3 x4 x5 p hi
  have E1 := e1_up i arg5 harg5 arg6 harg6 x0 x1 x2 x3 x4 x5 p hi
  have hc := fun H9 H10 v28 => (congrArg Prod.fst (stB_eq c i arg2 harg2 arg3 harg3 arg4 harg4 arg5 harg5 arg6 harg6 arg7 harg7 arg8 harg8 arg9 harg9 arg10 harg10 x0 x1 x2 x3 x4 x5 (arg9.view.writes (Elt Ideal) arg9.view.junk [⟨Rect.unit (s := S4224x512) ![0, 0] S4224x512.size inb_S4224x512_S4224x512_0_0, k0_pay21 (F := Ideal)⟩]) (arg10.view.writes (Elt Ideal) arg10.view.junk [⟨Rect.unit (s := S4224x256) ![0, 0] S4224x256.size inb_S4224x256_S4224x256_0_0, k0_pay22 (F := Ideal)⟩]) H9 H10 v28)).trans hs.1
  have hA : arg9.view.read (Elt Ideal) (arg9.view.writes (Elt Ideal) arg9.view.junk ((stA c i arg2 harg2 arg3 harg3 arg4 harg4 arg5 harg5 arg6 harg6 arg7 harg7 arg8 harg8 arg9 harg9 arg10 harg10 x0 x1 x2 x3 x4 x5 (arg9.view.writes (Elt Ideal) arg9.view.junk [⟨Rect.unit (s := S4224x512) ![0, 0] S4224x512.size inb_S4224x512_S4224x512_0_0, k0_pay21 (F := Ideal)⟩]) (arg10.view.writes (Elt Ideal) arg10.view.junk [⟨Rect.unit (s := S4224x256) ![0, 0] S4224x256.size inb_S4224x256_S4224x256_0_0, k0_pay22 (F := Ideal)⟩]) (Scf.trips (k0_t1_loop i).lb (k0_t1_loop i).ub (k0_t1_loop i).st)).2.1 ++ [⟨Rect.unit (s := S4224x512) ![0, 0] S4224x512.size inb_S4224x512_S4224x512_0_0, k0_pay21 (F := Ideal)⟩])) = up2 (buf 256 p.fK (i 1).val (i 1).val (i 1).val) := by
    rw [View.writes_append]
    exact hs.2.1
  have h0 := fun H9 H10 v28 => (congrArg (fun s : Carry Ideal × List (View.Piece (Elt Ideal) S4224x512 .f32) × List (View.Piece (Elt Ideal) S4224x256 .f32) => arg9.view.read (Elt Ideal) (arg9.view.writes (Elt Ideal) arg9.view.junk (s.2.1 ++ ((stA c i arg2 harg2 arg3 harg3 arg4 harg4 arg5 harg5 arg6 harg6 arg7 harg7 arg8 harg8 arg9 harg9 arg10 harg10 x0 x1 x2 x3 x4 x5 (arg9.view.writes (Elt Ideal) arg9.view.junk [⟨Rect.unit (s := S4224x512) ![0, 0] S4224x512.size inb_S4224x512_S4224x512_0_0, k0_pay21 (F := Ideal)⟩]) (arg10.view.writes (Elt Ideal) arg10.view.junk [⟨Rect.unit (s := S4224x256) ![0, 0] S4224x256.size inb_S4224x256_S4224x256_0_0, k0_pay22 (F := Ideal)⟩]) (Scf.trips (k0_t1_loop i).lb (k0_t1_loop i).ub (k0_t1_loop i).st)).2.1 ++ [⟨Rect.unit (s := S4224x512) ![0, 0] S4224x512.size inb_S4224x512_S4224x512_0_0, k0_pay21 (F := Ideal)⟩])))) (stB_eq c i arg2 harg2 arg3 harg3 arg4 harg4 arg5 harg5 arg6 harg6 arg7 harg7 arg8 harg8 arg9 harg9 arg10 harg10 x0 x1 x2 x3 x4 x5 (arg9.view.writes (Elt Ideal) arg9.view.junk [⟨Rect.unit (s := S4224x512) ![0, 0] S4224x512.size inb_S4224x512_S4224x512_0_0, k0_pay21 (F := Ideal)⟩]) (arg10.view.writes (Elt Ideal) arg10.view.junk [⟨Rect.unit (s := S4224x256) ![0, 0] S4224x256.size inb_S4224x256_S4224x256_0_0, k0_pay22 (F := Ideal)⟩]) H9 H10 v28)).trans hA
  exact diagK _ _ _ o9 o11 Q0 K0 V0 D0 T0 E0 Q1 K1 V1 D1 T1 E1 (by exact h0 _ _ _)

include hi hI in
/-- What the body leaves of output 8. -/
theorem out_A8 : out0_A_8 (F := Ideal) c i arg2 harg2 arg3 harg3 arg4 harg4 arg5 harg5 arg6 harg6 arg7 harg7 arg8 harg8 arg9 harg9 arg10 harg10 hc0 x0 x1 x2 x3 x4 x5 = up2 (p.fV ((i 1).val + 1)) := by
  unfold out0_A_8
  refine (View.read_writes_junk_eq_canon _ _).trans ((View.read_writes_junk_eq_canon arg10.view _).symm.trans ?_)
  rw [body_dvA]
  have hs := stA_up c i arg2 harg2 arg3 harg3 arg4 harg4 arg5 harg5 arg6 harg6 arg7 harg7 arg8 harg8 arg9 harg9 arg10 harg10 x0 x1 x2 x3 x4 x5 (arg9.view.writes (Elt Ideal) arg9.view.junk [⟨Rect.unit (s := S4224x512) ![0, 0] S4224x512.size inb_S4224x512_S4224x512_0_0, k0_pay21 (F := Ideal)⟩]) (arg10.view.writes (Elt Ideal) arg10.view.junk [⟨Rect.unit (s := S4224x256) ![0, 0] S4224x256.size inb_S4224x256_S4224x256_0_0, k0_pay22 (F := Ideal)⟩]) p hi
    ((View.read_writes_full _ _ _ _ _).trans ((zero_K p).symm.trans (congrArg (fun n => (up2 (p.fK n) : S4224x512.Idx → EReal)) hI.symm))) ((View.read_writes_full _ _ _ _ _).trans ((zero_V p).symm.trans (congrArg (fun n => (up2 (p.fV n) : S4224x256.Idx → EReal)) hI.symm)))
  have ho := ops i arg2 harg2 arg3 harg3 arg4 harg4 arg6 harg6 arg7 harg7 x0 x1 x2 x3 x4 x5 p hi
  have hM : ∀ r < 384, ∀ c < 384, (c ≤ r ↔ 384 * (i 1).val + c ≤ 384 * (i 1).val + r) := fun r _ c _ => by omega
  have o9 := k0_off9_eq i
  have o10 := k0_off10_eq i
  have o11 := k0_off11_eq i
  have o12 := k0_off12_eq i
  have K0 := ldK_up i arg2 arg3 arg4 arg6 arg7 _ _ _ _ _ p ho (i 1).val 0 o9 (k0_off9_inb i)
  have K1 := ldK_up i arg2 arg3 arg4 arg6 arg7 _ _ _ _ _ p ho (i 1).val 1 o11 (k0_off11_inb i)
  have V0 := ldV_up i arg2 arg3 arg4 arg6 arg7 _ _ _ _ _ p ho (i 1).val 0 o10 (k0_off10_inb i)
  have V1 := ldV_up i arg2 arg3 arg4 arg6 arg7 _ _ _ _ _ p ho (i 1).val 1 o12 (k0_off12_inb i)
  have Q0 := ldQ0_up i arg2 arg3 arg4 arg6 arg7 _ _ _ _ _ p ho
  have Q1 := ldQ1_up i arg2 arg3 arg4 arg6 arg7 _ _ _ _ _ p ho
  have D0 := ldH0_up arg6 _ _ _ ho.h6
  have D1 := ldH1_up arg6 _ _ _ ho.h6
  have T0 := ldT0_up i arg2 arg3 arg4 arg6 arg7 _ _ _ _ _ p ho
  have T1 := ldT1_up i arg2 arg3 arg4 arg6 arg7 _ _ _ _ _ p ho
  have E0 := e0_up i arg5 harg5 arg6 harg6 x0 x1 x2 x3 x4 x5 p hi
  have E1 := e1_up i arg5 harg5 arg6 harg6 x0 x1 x2 x3 x4 x5 p hi
  have hc := fun H9 H10 v28 => (congrArg Prod.fst (stB_eq c i arg2 harg2 arg3 harg3 arg4 harg4 arg5 harg5 arg6 harg6 arg7 harg7 arg8 harg8 arg9 harg9 arg10 harg10 x0 x1 x2 x3 x4 x5 (arg9.view.writes (Elt Ideal) arg9.view.junk [⟨Rect.unit (s := S4224x512) ![0, 0] S4224x512.size inb_S4224x512_S4224x512_0_0, k0_pay21 (F := Ideal)⟩]) (arg10.view.writes (Elt Ideal) arg10.view.junk [⟨Rect.unit (s := S4224x256) ![0, 0] S4224x256.size inb_S4224x256_S4224x256_0_0, k0_pay22 (F := Ideal)⟩]) H9 H10 v28)).trans hs.1
  have hA : arg10.view.read (Elt Ideal) (arg10.view.writes (Elt Ideal) arg10.view.junk ((stA c i arg2 harg2 arg3 harg3 arg4 harg4 arg5 harg5 arg6 harg6 arg7 harg7 arg8 harg8 arg9 harg9 arg10 harg10 x0 x1 x2 x3 x4 x5 (arg9.view.writes (Elt Ideal) arg9.view.junk [⟨Rect.unit (s := S4224x512) ![0, 0] S4224x512.size inb_S4224x512_S4224x512_0_0, k0_pay21 (F := Ideal)⟩]) (arg10.view.writes (Elt Ideal) arg10.view.junk [⟨Rect.unit (s := S4224x256) ![0, 0] S4224x256.size inb_S4224x256_S4224x256_0_0, k0_pay22 (F := Ideal)⟩]) (Scf.trips (k0_t1_loop i).lb (k0_t1_loop i).ub (k0_t1_loop i).st)).2.2 ++ [⟨Rect.unit (s := S4224x256) ![0, 0] S4224x256.size inb_S4224x256_S4224x256_0_0, k0_pay22 (F := Ideal)⟩])) = up2 (buf 128 p.fV (i 1).val (i 1).val (i 1).val) := by
    rw [View.writes_append]
    exact hs.2.2
  have h0 := fun H9 H10 v28 => (congrArg (fun s : Carry Ideal × List (View.Piece (Elt Ideal) S4224x512 .f32) × List (View.Piece (Elt Ideal) S4224x256 .f32) => arg10.view.read (Elt Ideal) (arg10.view.writes (Elt Ideal) arg10.view.junk (s.2.2 ++ ((stA c i arg2 harg2 arg3 harg3 arg4 harg4 arg5 harg5 arg6 harg6 arg7 harg7 arg8 harg8 arg9 harg9 arg10 harg10 x0 x1 x2 x3 x4 x5 (arg9.view.writes (Elt Ideal) arg9.view.junk [⟨Rect.unit (s := S4224x512) ![0, 0] S4224x512.size inb_S4224x512_S4224x512_0_0, k0_pay21 (F := Ideal)⟩]) (arg10.view.writes (Elt Ideal) arg10.view.junk [⟨Rect.unit (s := S4224x256) ![0, 0] S4224x256.size inb_S4224x256_S4224x256_0_0, k0_pay22 (F := Ideal)⟩]) (Scf.trips (k0_t1_loop i).lb (k0_t1_loop i).ub (k0_t1_loop i).st)).2.2 ++ [⟨Rect.unit (s := S4224x256) ![0, 0] S4224x256.size inb_S4224x256_S4224x256_0_0, k0_pay22 (F := Ideal)⟩])))) (stB_eq c i arg2 harg2 arg3 harg3 arg4 harg4 arg5 harg5 arg6 harg6 arg7 harg7 arg8 harg8 arg9 harg9 arg10 harg10 x0 x1 x2 x3 x4 x5 (arg9.view.writes (Elt Ideal) arg9.view.junk [⟨Rect.unit (s := S4224x512) ![0, 0] S4224x512.size inb_S4224x512_S4224x512_0_0, k0_pay21 (F := Ideal)⟩]) (arg10.view.writes (Elt Ideal) arg10.view.junk [⟨Rect.unit (s := S4224x256) ![0, 0] S4224x256.size inb_S4224x256_S4224x256_0_0, k0_pay22 (F := Ideal)⟩]) H9 H10 v28)).trans hA
  exact diagV _ _ _ o10 o12 Q0 K0 V0 D0 T0 E0 Q1 K1 V1 D1 T1 E1 (by exact h0 _ _ _)

include hi hI in
/-- What the body leaves of output 6. -/
theorem out_A6 : out0_A_6 (F := Ideal) c i arg2 harg2 arg3 harg3 arg4 harg4 arg5 harg5 arg6 harg6 arg7 harg7 arg8 harg8 arg9 harg9 arg10 harg10 hc0 x0 x1 x2 x3 x4 x5 = up2 (p.fQ (i 1).val ((i 1).val + 1)) := by
  unfold out0_A_6
  rw [body_dqA]
  have hs := stA_up c i arg2 harg2 arg3 harg3 arg4 harg4 arg5 harg5 arg6 harg6 arg7 harg7 arg8 harg8 arg9 harg9 arg10 harg10 x0 x1 x2 x3 x4 x5 (arg9.view.writes (Elt Ideal) arg9.view.junk [⟨Rect.unit (s := S4224x512) ![0, 0] S4224x512.size inb_S4224x512_S4224x512_0_0, k0_pay21 (F := Ideal)⟩]) (arg10.view.writes (Elt Ideal) arg10.view.junk [⟨Rect.unit (s := S4224x256) ![0, 0] S4224x256.size inb_S4224x256_S4224x256_0_0, k0_pay22 (F := Ideal)⟩]) p hi
    ((View.read_writes_full _ _ _ _ _).trans ((zero_K p).symm.trans (congrArg (fun n => (up2 (p.fK n) : S4224x512.Idx → EReal)) hI.symm))) ((View.read_writes_full _ _ _ _ _).trans ((zero_V p).symm.trans (congrArg (fun n => (up2 (p.fV n) : S4224x256.Idx → EReal)) hI.symm)))
  have ho := ops i arg2 harg2 arg3 harg3 arg4 harg4 arg6 harg6 arg7 harg7 x0 x1 x2 x3 x4 x5 p hi
  have hM : ∀ r < 384, ∀ c < 384, (c ≤ r ↔ 384 * (i 1).val + c ≤ 384 * (i 1).val + r) := fun r _ c _ => by omega
  have o9 := k0_off9_eq i
  have o10 := k0_off10_eq i
  have o11 := k0_off11_eq i
  have o12 := k0_off12_eq i
  have K0 := ldK_up i arg2 arg3 arg4 arg6 arg7 _ _ _ _ _ p ho (i 1).val 0 o9 (k0_off9_inb i)
  have K1 := ldK_up i arg2 arg3 arg4 arg6 arg7 _ _ _ _ _ p ho (i 1).val 1 o11 (k0_off11_inb i)
  have V0 := ldV_up i arg2 arg3 arg4 arg6 arg7 _ _ _ _ _ p ho (i 1).val 0 o10 (k0_off10_inb i)
  have V1 := ldV_up i arg2 arg3 arg4 arg6 arg7 _ _ _ _ _ p ho (i 1).val 1 o12 (k0_off12_inb i)
  have Q0 := ldQ0_up i arg2 arg3 arg4 arg6 arg7 _ _ _ _ _ p ho
  have Q1 := ldQ1_up i arg2 arg3 arg4 arg6 arg7 _ _ _ _ _ p ho
  have D0 := ldH0_up arg6 _ _ _ ho.h6
  have D1 := ldH1_up arg6 _ _ _ ho.h6
  have T0 := ldT0_up i arg2 arg3 arg4 arg6 arg7 _ _ _ _ _ p ho
  have T1 := ldT1_up i arg2 arg3 arg4 arg6 arg7 _ _ _ _ _ p ho
  have E0 := e0_up i arg5 harg5 arg6 harg6 x0 x1 x2 x3 x4 x5 p hi
  have E1 := e1_up i arg5 harg5 arg6 harg6 x0 x1 x2 x3 x4 x5 p hi
  have hc := fun H9 H10 v28 => (congrArg Prod.fst (stB_eq c i arg2 harg2 arg3 harg3 arg4 harg4 arg5 harg5 arg6 harg6 arg7 harg7 arg8 harg8 arg9 harg9 arg10 harg10 x0 x1 x2 x3 x4 x5 (arg9.view.writes (Elt Ideal) arg9.view.junk [⟨Rect.unit (s := S4224x512) ![0, 0] S4224x512.size inb_S4224x512_S4224x512_0_0, k0_pay21 (F := Ideal)⟩]) (arg10.view.writes (Elt Ideal) arg10.view.junk [⟨Rect.unit (s := S4224x256) ![0, 0] S4224x256.size inb_S4224x256_S4224x256_0_0, k0_pay22 (F := Ideal)⟩]) H9 H10 v28)).trans hs.1
  exact two_upw _ _ _ _ _ _ _ ((dq0 masks_dmask hM (by exact hc _ _ _) Q0 K0 V0 D0 T0 E0).trans (car_q0 p _ _)) ((dq1 masks_dmask hM (by exact hc _ _ _) Q1 K1 V1 D1 T1 E1).trans (car_q1 p _ _))
end

section
variable (c : Dev nD) (i : grid0.Coords) (arg2 : Memref sig .tc .vmem S384x512 .bf16) (harg2 : arg2.IsWhole) (arg3 : Memref sig .tc .vmem S4224x512 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S2x384x1 .f32) (harg7 : arg7.IsWhole) (arg8 : Memref sig .tc .vmem S384x512 .bf16) (harg8 : arg8.IsWhole) (arg9 : Memref sig .tc .vmem S4224x512 .f32) (harg9 : arg9.IsWhole) (arg10 : Memref sig .tc .vmem S4224x256 .f32) (harg10 : arg10.IsWhole) (hc0 : ¬cond0_0 i)
    (x0 : Vec Ideal S384x512 .bf16) (x1 : Vec Ideal S4224x512 .bf16) (x2 : Vec Ideal S4224x256 .bf16) (x3 : Vec Ideal S384x256 .bf16) (x4 : Vec Ideal S384x256 .bf16) (x5 : Vec Ideal S2x384x1 .f32) (xo7 : Vec Ideal S4224x512 .f32) (xo8 : Vec Ideal S4224x256 .f32)
variable (p : Pair) (hi : Ins i x0 x1 x2 x3 x4 x5 p) (h7 : xo7 = up2 (p.fK (i 1).val)) (h8 : xo8 = up2 (p.fV (i 1).val))
include hi h7 h8 in
/-- What the body leaves of output 7. -/
theorem out_B7 : out0_B_7 (F := Ideal) c i arg2 harg2 arg3 harg3 arg4 harg4 arg5 harg5 arg6 harg6 arg7 harg7 arg8 harg8 arg9 harg9 arg10 harg10 hc0 x0 x1 x2 x3 x4 x5 xo7 xo8 = up2 (p.fK ((i 1).val + 1)) := by
  unfold out0_B_7
  rw [body_dkB]
  have hs := stA_up c i arg2 harg2 arg3 harg3 arg4 harg4 arg5 harg5 arg6 harg6 arg7 harg7 arg8 harg8 arg9 harg9 arg10 harg10 x0 x1 x2 x3 x4 x5 (harg9.unread xo7) (harg10.unread xo8) p hi
    ((harg9.read_unread xo7).trans h7) ((harg10.read_unread xo8).trans h8)
  have ho := ops i arg2 harg2 arg3 harg3 arg4 harg4 arg6 harg6 arg7 harg7 x0 x1 x2 x3 x4 x5 p hi
  have hM : ∀ r < 384, ∀ c < 384, (c ≤ r ↔ 384 * (i 1).val + c ≤ 384 * (i 1).val + r) := fun r _ c _ => by omega
  have o9 := k0_off9_eq i
  have o10 := k0_off10_eq i
  have o11 := k0_off11_eq i
  have o12 := k0_off12_eq i
  have K0 := ldK_up i arg2 arg3 arg4 arg6 arg7 _ _ _ _ _ p ho (i 1).val 0 o9 (k0_off9_inb i)
  have K1 := ldK_up i arg2 arg3 arg4 arg6 arg7 _ _ _ _ _ p ho (i 1).val 1 o11 (k0_off11_inb i)
  have V0 := ldV_up i arg2 arg3 arg4 arg6 arg7 _ _ _ _ _ p ho (i 1).val 0 o10 (k0_off10_inb i)
  have V1 := ldV_up i arg2 arg3 arg4 arg6 arg7 _ _ _ _ _ p ho (i 1).val 1 o12 (k0_off12_inb i)
  have Q0 := ldQ0_up i arg2 arg3 arg4 arg6 arg7 _ _ _ _ _ p ho
  have Q1 := ldQ1_up i arg2 arg3 arg4 arg6 arg7 _ _ _ _ _ p ho
  have D0 := ldH0_up arg6 _ _ _ ho.h6
  have D1 := ldH1_up arg6 _ _ _ ho.h6
  have T0 := ldT0_up i arg2 arg3 arg4 arg6 arg7 _ _ _ _ _ p ho
  have T1 := ldT1_up i arg2 arg3 arg4 arg6 arg7 _ _ _ _ _ p ho
  have E0 := e0_up i arg5 harg5 arg6 harg6 x0 x1 x2 x3 x4 x5 p hi
  have E1 := e1_up i arg5 harg5 arg6 harg6 x0 x1 x2 x3 x4 x5 p hi
  have hc := fun H9 H10 v28 => (congrArg Prod.fst (stB_eq c i arg2 harg2 arg3 harg3 arg4 harg4 arg5 harg5 arg6 harg6 arg7 harg7 arg8 harg8 arg9 harg9 arg10 harg10 x0 x1 x2 x3 x4 x5 (harg9.unread xo7) (harg10.unread xo8) H9 H10 v28)).trans hs.1
  have h0 := fun H9 H10 v28 => (congrArg (fun s : Carry Ideal × List (View.Piece (Elt Ideal) S4224x512 .f32) × List (View.Piece (Elt Ideal) S4224x256 .f32) => arg9.view.read (Elt Ideal) (arg9.view.writes (Elt Ideal) (harg9.unread xo7) (s.2.1 ++ (stA c i arg2 harg2 arg3 harg3 arg4 harg4 arg5 harg5 arg6 harg6 arg7 harg7 arg8 harg8 arg9 harg9 arg10 harg10 x0 x1 x2 x3 x4 x5 (harg9.unread xo7) (harg10.unread xo8) (Scf.trips (k0_t1_loop i).lb (k0_t1_loop i).ub (k0_t1_loop i).st)).2.1))) (stB_eq c i arg2 harg2 arg3 harg3 arg4 harg4 arg5 harg5 arg6 harg6 arg7 harg7 arg8 harg8 arg9 harg9 arg10 harg10 x0 x1 x2 x3 x4 x5 (harg9.unread xo7) (harg10.unread xo8) H9 H10 v28)).trans hs.2.1
  exact diagK _ _ _ o9 o11 Q0 K0 V0 D0 T0 E0 Q1 K1 V1 D1 T1 E1 (by exact h0 _ _ _)

include hi h7 h8 in
/-- What the body leaves of output 8. -/
theorem out_B8 : out0_B_8 (F := Ideal) c i arg2 harg2 arg3 harg3 arg4 harg4 arg5 harg5 arg6 harg6 arg7 harg7 arg8 harg8 arg9 harg9 arg10 harg10 hc0 x0 x1 x2 x3 x4 x5 xo7 xo8 = up2 (p.fV ((i 1).val + 1)) := by
  unfold out0_B_8
  rw [body_dvB]
  have hs := stA_up c i arg2 harg2 arg3 harg3 arg4 harg4 arg5 harg5 arg6 harg6 arg7 harg7 arg8 harg8 arg9 harg9 arg10 harg10 x0 x1 x2 x3 x4 x5 (harg9.unread xo7) (harg10.unread xo8) p hi
    ((harg9.read_unread xo7).trans h7) ((harg10.read_unread xo8).trans h8)
  have ho := ops i arg2 harg2 arg3 harg3 arg4 harg4 arg6 harg6 arg7 harg7 x0 x1 x2 x3 x4 x5 p hi
  have hM : ∀ r < 384, ∀ c < 384, (c ≤ r ↔ 384 * (i 1).val + c ≤ 384 * (i 1).val + r) := fun r _ c _ => by omega
  have o9 := k0_off9_eq i
  have o10 := k0_off10_eq i
  have o11 := k0_off11_eq i
  have o12 := k0_off12_eq i
  have K0 := ldK_up i arg2 arg3 arg4 arg6 arg7 _ _ _ _ _ p ho (i 1).val 0 o9 (k0_off9_inb i)
  have K1 := ldK_up i arg2 arg3 arg4 arg6 arg7 _ _ _ _ _ p ho (i 1).val 1 o11 (k0_off11_inb i)
  have V0 := ldV_up i arg2 arg3 arg4 arg6 arg7 _ _ _ _ _ p ho (i 1).val 0 o10 (k0_off10_inb i)
  have V1 := ldV_up i arg2 arg3 arg4 arg6 arg7 _ _ _ _ _ p ho (i 1).val 1 o12 (k0_off12_inb i)
  have Q0 := ldQ0_up i arg2 arg3 arg4 arg6 arg7 _ _ _ _ _ p ho
  have Q1 := ldQ1_up i arg2 arg3 arg4 arg6 arg7 _ _ _ _ _ p ho
  have D0 := ldH0_up arg6 _ _ _ ho.h6
  have D1 := ldH1_up arg6 _ _ _ ho.h6
  have T0 := ldT0_up i arg2 arg3 arg4 arg6 arg7 _ _ _ _ _ p ho
  have T1 := ldT1_up i arg2 arg3 arg4 arg6 arg7 _ _ _ _ _ p ho
  have E0 := e0_up i arg5 harg5 arg6 harg6 x0 x1 x2 x3 x4 x5 p hi
  have E1 := e1_up i arg5 harg5 arg6 harg6 x0 x1 x2 x3 x4 x5 p hi
  have hc := fun H9 H10 v28 => (congrArg Prod.fst (stB_eq c i arg2 harg2 arg3 harg3 arg4 harg4 arg5 harg5 arg6 harg6 arg7 harg7 arg8 harg8 arg9 harg9 arg10 harg10 x0 x1 x2 x3 x4 x5 (harg9.unread xo7) (harg10.unread xo8) H9 H10 v28)).trans hs.1
  have h0 := fun H9 H10 v28 => (congrArg (fun s : Carry Ideal × List (View.Piece (Elt Ideal) S4224x512 .f32) × List (View.Piece (Elt Ideal) S4224x256 .f32) => arg10.view.read (Elt Ideal) (arg10.view.writes (Elt Ideal) (harg10.unread xo8) (s.2.2 ++ (stA c i arg2 harg2 arg3 harg3 arg4 harg4 arg5 harg5 arg6 harg6 arg7 harg7 arg8 harg8 arg9 harg9 arg10 harg10 x0 x1 x2 x3 x4 x5 (harg9.unread xo7) (harg10.unread xo8) (Scf.trips (k0_t1_loop i).lb (k0_t1_loop i).ub (k0_t1_loop i).st)).2.2))) (stB_eq c i arg2 harg2 arg3 harg3 arg4 harg4 arg5 harg5 arg6 harg6 arg7 harg7 arg8 harg8 arg9 harg9 arg10 harg10 x0 x1 x2 x3 x4 x5 (harg9.unread xo7) (harg10.unread xo8) H9 H10 v28)).trans hs.2.2
  exact diagV _ _ _ o10 o12 Q0 K0 V0 D0 T0 E0 Q1 K1 V1 D1 T1 E1 (by exact h0 _ _ _)

include hi h7 h8 in
/-- What the body leaves of output 6. -/
theorem out_B6 : out0_B_6 (F := Ideal) c i arg2 harg2 arg3 harg3 arg4 harg4 arg5 harg5 arg6 harg6 arg7 harg7 arg8 harg8 arg9 harg9 arg10 harg10 hc0 x0 x1 x2 x3 x4 x5 xo7 xo8 = up2 (p.fQ (i 1).val ((i 1).val + 1)) := by
  unfold out0_B_6
  rw [body_dqB]
  have hs := stA_up c i arg2 harg2 arg3 harg3 arg4 harg4 arg5 harg5 arg6 harg6 arg7 harg7 arg8 harg8 arg9 harg9 arg10 harg10 x0 x1 x2 x3 x4 x5 (harg9.unread xo7) (harg10.unread xo8) p hi
    ((harg9.read_unread xo7).trans h7) ((harg10.read_unread xo8).trans h8)
  have ho := ops i arg2 harg2 arg3 harg3 arg4 harg4 arg6 harg6 arg7 harg7 x0 x1 x2 x3 x4 x5 p hi
  have hM : ∀ r < 384, ∀ c < 384, (c ≤ r ↔ 384 * (i 1).val + c ≤ 384 * (i 1).val + r) := fun r _ c _ => by omega
  have o9 := k0_off9_eq i
  have o10 := k0_off10_eq i
  have o11 := k0_off11_eq i
  have o12 := k0_off12_eq i
  have K0 := ldK_up i arg2 arg3 arg4 arg6 arg7 _ _ _ _ _ p ho (i 1).val 0 o9 (k0_off9_inb i)
  have K1 := ldK_up i arg2 arg3 arg4 arg6 arg7 _ _ _ _ _ p ho (i 1).val 1 o11 (k0_off11_inb i)
  have V0 := ldV_up i arg2 arg3 arg4 arg6 arg7 _ _ _ _ _ p ho (i 1).val 0 o10 (k0_off10_inb i)
  have V1 := ldV_up i arg2 arg3 arg4 arg6 arg7 _ _ _ _ _ p ho (i 1).val 1 o12 (k0_off12_inb i)
  have Q0 := ldQ0_up i arg2 arg3 arg4 arg6 arg7 _ _ _ _ _ p ho
  have Q1 := ldQ1_up i arg2 arg3 arg4 arg6 arg7 _ _ _ _ _ p ho
  have D0 := ldH0_up arg6 _ _ _ ho.h6
  have D1 := ldH1_up arg6 _ _ _ ho.h6
  have T0 := ldT0_up i arg2 arg3 arg4 arg6 arg7 _ _ _ _ _ p ho
  have T1 := ldT1_up i arg2 arg3 arg4 arg6 arg7 _ _ _ _ _ p ho
  have E0 := e0_up i arg5 harg5 arg6 harg6 x0 x1 x2 x3 x4 x5 p hi
  have E1 := e1_up i arg5 harg5 arg6 harg6 x0 x1 x2 x3 x4 x5 p hi
  have hc := fun H9 H10 v28 => (congrArg Prod.fst (stB_eq c i arg2 harg2 arg3 harg3 arg4 harg4 arg5 harg5 arg6 harg6 arg7 harg7 arg8 harg8 arg9 harg9 arg10 harg10 x0 x1 x2 x3 x4 x5 (harg9.unread xo7) (harg10.unread xo8) H9 H10 v28)).trans hs.1
  exact two_upw _ _ _ _ _ _ _ ((dq0 masks_dmask hM (by exact hc _ _ _) Q0 K0 V0 D0 T0 E0).trans (car_q0 p _ _)) ((dq1 masks_dmask hM (by exact hc _ _ _) Q1 K1 V1 D1 T1 E1).trans (car_q1 p _ _))
end

end Cert.Mla
-- ==== Proof.MlaHost.lean ====
module

public import proofs.«01_k».proof.Proof.MlaSoft
public import proofs.«01_k».proof.Proof.MlaOut
public import proofs.«01_k».proof.Proof.Gen.MlaBwdIdeal.Value
public import Idealize.ShloMosaic.Lib.Claim
public import Idealize.ShloMosaic.Lib.Pipeline.ValueKit

/-! The output and the sums' logarithms of the softmax attention, which the host code computes before the call,
and the block numbers of the call's windows. -/

@[expose] public section

set_option maxRecDepth 16384

noncomputable section

namespace Cert.Mla

open Idealize.ShloMosaic Idealize.ShloMosaic.TcCoe Cert.MlaBwdIdeal Cert.MlaBwdIdeal.Gen Cert.Stick

section
variable (m : (ℓ : Loc nD τ sig) → Buf (Elt Ideal) ℓ) (c : Dev nD)

set_option maxHeartbeats 4000000 in
/-- The output, as the host code computes it. -/
theorem V_out : V m c main_v37 = qOut (m ((c.tc : Thread nD τ).loc main_arg0)) (m ((c.tc : Thread nD τ).loc main_arg1)) (m ((c.tc : Thread nD τ).loc main_arg2)) := by
  show StableHlo.after _ _ _ = _
  simp only [V, hostOps0, hostOps0_1, hostOps0_2, hostOps0_3, hostOps0_4, List.flatten_cons, List.flatten_nil, List.append_nil, List.cons_append, List.nil_append]
  entry_read
  rfl

set_option maxHeartbeats 4000000 in
/-- The logarithms of the sums, as the host code computes them. -/
theorem V_lse : V m c main_v58 = qLse (m ((c.tc : Thread nD τ).loc main_arg0)) (m ((c.tc : Thread nD τ).loc main_arg1)) := by
  show StableHlo.after _ _ _ = _
  simp only [V, hostOps0, hostOps0_1, hostOps0_2, hostOps0_3, hostOps0_4, List.flatten_cons, List.flatten_nil, List.append_nil, List.cons_append, List.nil_append]
  entry_read
  rfl

/-- Heads `2 h` and `2 h + 1`. -/
def pair (QR KR VR DR : ℕ → ℕ → ℝ) (h : ℕ) : Pair where
  Q t c := QR t (512 * h + c)
  K t c := KR t (512 * h + c)
  V t c := VR t (2048 + (256 * h + c))
  D t c := DR t (256 * h + c)
  O t c := oh QR KR VR ((256 * h + c) / 128) t ((256 * h + c) % 128)
  T e t := rL (rS QR KR) (2 * h + e) t

/-- The block numbers of the windows at a grid point. -/
theorem idxs : ∀ t : Fin cfg0.N, (grid0.coords t 0).val = t.val / 11 ∧ (grid0.coords t 1).val = t.val % 11 :=
  (by decide +kernel : ∀ t : Fin grid0.N, (grid0.coords t 0).val = t.val / 11 ∧ (grid0.coords t 1).val = t.val % 11)
theorem idx_0 : ∀ t : Fin cfg0.N, (cfg0.win 0).index t 0 = t.val % 11 ∧ (cfg0.win 0).index t 1 = t.val / 11 :=
  (by decide +kernel : ∀ t : Fin grid0.N, win0_0.index t 0 = t.val % 11 ∧ win0_0.index t 1 = t.val / 11)
theorem idx_1 : ∀ t : Fin cfg0.N, (cfg0.win 1).index t 0 = 0 ∧ (cfg0.win 1).index t 1 = t.val / 11 :=
  (by decide +kernel : ∀ t : Fin grid0.N, win0_1.index t 0 = 0 ∧ win0_1.index t 1 = t.val / 11)
theorem idx_2 : ∀ t : Fin cfg0.N, (cfg0.win 2).index t 0 = 0 ∧ (cfg0.win 2).index t 1 = 8 + t.val / 11 :=
  (by decide +kernel : ∀ t : Fin grid0.N, win0_2.index t 0 = 0 ∧ win0_2.index t 1 = 8 + t.val / 11)
theorem idx_3 : ∀ t : Fin cfg0.N, (cfg0.win 3).index t 0 = t.val % 11 ∧ (cfg0.win 3).index t 1 = t.val / 11 :=
  (by decide +kernel : ∀ t : Fin grid0.N, win0_3.index t 0 = t.val % 11 ∧ win0_3.index t 1 = t.val / 11)
theorem idx_4 : ∀ t : Fin cfg0.N, (cfg0.win 4).index t 0 = t.val % 11 ∧ (cfg0.win 4).index t 1 = t.val / 11 :=
  (by decide +kernel : ∀ t : Fin grid0.N, win0_4.index t 0 = t.val % 11 ∧ win0_4.index t 1 = t.val / 11)
theorem idx_5 : ∀ t : Fin cfg0.N, (cfg0.win 5).index t 0 = t.val / 11 ∧ (cfg0.win 5).index t 1 = t.val % 11 ∧ (cfg0.win 5).index t 2 = 0 :=
  (by decide +kernel : ∀ t : Fin grid0.N, win0_5.index t 0 = t.val / 11 ∧ win0_5.index t 1 = t.val % 11 ∧ win0_5.index t 2 = 0)

end

end Cert.Mla

end
-- ==== Proof.MlaEntry.lean ====
module

public import proofs.«01_k».proof.Proof.MlaHost

/-! What each grid point of the softmax attention's gradient reads of real arguments: the blocks of one pair
of heads, with the output and the sums' logarithms that the host code computes before the call. -/

@[expose] public section

set_option maxRecDepth 16384

noncomputable section

namespace Cert.Mla

open Idealize.ShloMosaic Idealize.ShloMosaic.TcCoe Cert.MlaBwdIdeal Cert.MlaBwdIdeal.Gen Cert.Stick

/-! The block of each window, of an array of real numbers. -/

section
variable (f : ℕ → ℕ → ℝ) (t : Fin cfg0.N)

theorem rd_0 : (fun y => (up2 f : S4224x4096.Idx → EReal) (((cfg0.win 0).blk t).view.emb y)) = (up2 (blk (t.val % 11) fun r c => f r (512 * (t.val / 11) + c)) : S384x512.Idx → EReal) := by
  have e := idx_0 t
  funext y
  show ((f (((cfg0.win 0).blk t).view.emb y 0).val (((cfg0.win 0).blk t).view.emb y 1).val : ℝ) : EReal) = ((f (384 * (t.val % 11) + (y 0).val) (512 * (t.val / 11) + (y 1).val) : ℝ) : EReal)
  blk_simp [e]
  congr 2 <;> omega

theorem rd_1 : (fun y => (up2 f : S4224x4096.Idx → EReal) (((cfg0.win 1).blk t).view.emb y)) = (up2 (fun r c => f r (512 * (t.val / 11) + c)) : S4224x512.Idx → EReal) := by
  have e := idx_1 t
  funext y
  show ((f (((cfg0.win 1).blk t).view.emb y 0).val (((cfg0.win 1).blk t).view.emb y 1).val : ℝ) : EReal) = ((f ((y 0).val) (512 * (t.val / 11) + (y 1).val) : ℝ) : EReal)
  blk_simp [e]
  congr 2 <;> omega

theorem rd_2 : (fun y => (up2 f : S4224x4096.Idx → EReal) (((cfg0.win 2).blk t).view.emb y)) = (up2 (fun r c => f r (2048 + (256 * (t.val / 11) + c))) : S4224x256.Idx → EReal) := by
  have e := idx_2 t
  funext y
  show ((f (((cfg0.win 2).blk t).view.emb y 0).val (((cfg0.win 2).blk t).view.emb y 1).val : ℝ) : EReal) = ((f ((y 0).val) (2048 + (256 * (t.val / 11) + (y 1).val)) : ℝ) : EReal)
  blk_simp [e]
  congr 2 <;> omega

theorem rd_3 : (fun y => (up2 f : S4224x2048.Idx → EReal) (((cfg0.win 3).blk t).view.emb y)) = (up2 (blk (t.val % 11) fun r c => f r (256 * (t.val / 11) + c)) : S384x256.Idx → EReal) := by
  have e := idx_3 t
  funext y
  show ((f (((cfg0.win 3).blk t).view.emb y 0).val (((cfg0.win 3).blk t).view.emb y 1).val : ℝ) : EReal) = ((f (384 * (t.val % 11) + (y 0).val) (256 * (t.val / 11) + (y 1).val) : ℝ) : EReal)
  blk_simp [e]
  congr 2 <;> omega

theorem rd_4 : (fun y => (up2 f : S4224x2048.Idx → EReal) (((cfg0.win 4).blk t).view.emb y)) = (up2 (blk (t.val % 11) fun r c => f r (256 * (t.val / 11) + c)) : S384x256.Idx → EReal) := by
  have e := idx_4 t
  funext y
  show ((f (((cfg0.win 4).blk t).view.emb y 0).val (((cfg0.win 4).blk t).view.emb y 1).val : ℝ) : EReal) = ((f (384 * (t.val % 11) + (y 0).val) (256 * (t.val / 11) + (y 1).val) : ℝ) : EReal)
  blk_simp [e]
  congr 2 <;> omega

theorem rd_5 : (fun y => (up3 fun h r _ => f h r : S16x4224x1.Idx → EReal) (((cfg0.win 5).blk t).view.emb y)) = (fun j : S2x384x1.Idx => ((f (2 * (t.val / 11) + (j 0).val) (384 * (t.val % 11) + (j 1).val) : ℝ) : EReal)) := by
  have e := idx_5 t
  funext y
  show ((f (((cfg0.win 5).blk t).view.emb y 0).val (((cfg0.win 5).blk t).view.emb y 1).val : ℝ) : EReal) = ((f (2 * (t.val / 11) + (y 0).val) (384 * (t.val % 11) + (y 1).val) : ℝ) : EReal)
  blk_simp [e]
  congr 2 <;> omega
end

/-! The block of each window, of the arrays at the call. -/

section
variable (m : (ℓ : Loc nD τ sig) → Buf (Elt Ideal) ℓ) (c : Dev nD) (t : Fin cfg0.N)

theorem read_0 (W : (r : Ref sig .tc) → Buf (Elt Ideal) ((c.tc : Thread nD τ).loc r)) : ((cfg0.win 0).blk t).view.read (Elt Ideal) (W (Pipeline.arrRef spec0 0)) = fun y => (W main_arg0 : S4224x4096.Idx → EReal) (((cfg0.win 0).blk t).view.emb y) := rfl

theorem iblk_0 (A : S4224x4096.Idx → EReal) (h : V m c main_arg0 = A) : iblk m c 0 t = fun y => A (((cfg0.win 0).blk t).view.emb y) := by
  unfold iblk
  rw [read_0 c t (V m c), h]

theorem read_1 (W : (r : Ref sig .tc) → Buf (Elt Ideal) ((c.tc : Thread nD τ).loc r)) : ((cfg0.win 1).blk t).view.read (Elt Ideal) (W (Pipeline.arrRef spec0 1)) = fun y => (W main_arg1 : S4224x4096.Idx → EReal) (((cfg0.win 1).blk t).view.emb y) := rfl

theorem iblk_1 (A : S4224x4096.Idx → EReal) (h : V m c main_arg1 = A) : iblk m c 1 t = fun y => A (((cfg0.win 1).blk t).view.emb y) := by
  unfold iblk
  rw [read_1 c t (V m c), h]

theorem read_2 (W : (r : Ref sig .tc) → Buf (Elt Ideal) ((c.tc : Thread nD τ).loc r)) : ((cfg0.win 2).blk t).view.read (Elt Ideal) (W (Pipeline.arrRef spec0 2)) = fun y => (W main_arg2 : S4224x4096.Idx → EReal) (((cfg0.win 2).blk t).view.emb y) := rfl

theorem iblk_2 (A : S4224x4096.Idx → EReal) (h : V m c main_arg2 = A) : iblk m c 2 t = fun y => A (((cfg0.win 2).blk t).view.emb y) := by
  unfold iblk
  rw [read_2 c t (V m c), h]

theorem read_3 (W : (r : Ref sig .tc) → Buf (Elt Ideal) ((c.tc : Thread nD τ).loc r)) : ((cfg0.win 3).blk t).view.read (Elt Ideal) (W (Pipeline.arrRef spec0 3)) = fun y => (W main_v37 : S4224x2048.Idx → EReal) (((cfg0.win 3).blk t).view.emb y) := rfl

theorem iblk_3 (A : S4224x2048.Idx → EReal) (h : V m c main_v37 = A) : iblk m c 3 t = fun y => A (((cfg0.win 3).blk t).view.emb y) := by
  unfold iblk
  rw [read_3 c t (V m c), h]

theorem read_4 (W : (r : Ref sig .tc) → Buf (Elt Ideal) ((c.tc : Thread nD τ).loc r)) : ((cfg0.win 4).blk t).view.read (Elt Ideal) (W (Pipeline.arrRef spec0 4)) = fun y => (W main_arg3 : S4224x2048.Idx → EReal) (((cfg0.win 4).blk t).view.emb y) := rfl

theorem iblk_4 (A : S4224x2048.Idx → EReal) (h : V m c main_arg3 = A) : iblk m c 4 t = fun y => A (((cfg0.win 4).blk t).view.emb y) := by
  unfold iblk
  rw [read_4 c t (V m c), h]

theorem read_5 (W : (r : Ref sig .tc) → Buf (Elt Ideal) ((c.tc : Thread nD τ).loc r)) : ((cfg0.win 5).blk t).view.read (Elt Ideal) (W (Pipeline.arrRef spec0 5)) = fun y => (W main_v58 : S16x4224x1.Idx → EReal) (((cfg0.win 5).blk t).view.emb y) := rfl

theorem iblk_5 (A : S16x4224x1.Idx → EReal) (h : V m c main_v58 = A) : iblk m c 5 t = fun y => A (((cfg0.win 5).blk t).view.emb y) := by
  unfold iblk
  rw [read_5 c t (V m c), h]

variable (QR KR VR DR : ℕ → ℕ → ℝ)
  (h0 : m ((c.tc : Thread nD τ).loc main_arg0) = (up2 QR : S4224x4096.Idx → EReal))
  (h1 : m ((c.tc : Thread nD τ).loc main_arg1) = (up2 KR : S4224x4096.Idx → EReal))
  (h2 : m ((c.tc : Thread nD τ).loc main_arg2) = (up2 VR : S4224x4096.Idx → EReal))
  (h3 : m ((c.tc : Thread nD τ).loc main_arg3) = (up2 DR : S4224x2048.Idx → EReal))
include h0 h1 h2 h3

/-- What a grid point reads. -/
theorem ins : Ins (grid0.coords t) (iblk m c 0 t) (iblk m c 1 t) (iblk m c 2 t) (iblk m c 3 t) (iblk m c 4 t) (iblk m c 5 t) (pair QR KR VR DR (t.val / 11)) := by
  obtain ⟨_, e1⟩ := idxs t
  have g3 : V m c main_v37 = (up2 fun t c => oh QR KR VR (c / 128) t (c % 128) : S4224x2048.Idx → EReal) := by
    rw [V_out, h0, h1, h2]; exact qOut_up QR KR VR
  have g5 : V m c main_v58 = (up3 fun h t _ => rL (rS QR KR) h t : S16x4224x1.Idx → EReal) := by
    rw [V_lse, h0, h1]; exact qLse_up QR KR
  refine ⟨?_, ?_, ?_, ?_, ?_, ?_⟩
  · rw [iblk_0 m c t _ ((V_main_arg0 m c).trans h0), rd_0, e1]; rfl
  · rw [iblk_1 m c t _ ((V_main_arg1 m c).trans h1), rd_1]; rfl
  · rw [iblk_2 m c t _ ((V_main_arg2 m c).trans h2), rd_2]; rfl
  · rw [iblk_3 m c t _ g3, rd_3, e1]; rfl
  · rw [iblk_4 m c t _ ((V_main_arg3 m c).trans h3), rd_4, e1]; rfl
  · rw [iblk_5 m c t _ g5, rd_5, e1]; rfl
end

end Cert.Mla

end
-- ==== Proof.MlaGrid.lean ====
module

public import proofs.«01_k».proof.Proof.MlaEntry

/-! What the softmax attention's gradient leaves in its three results, for real arguments. -/

@[expose] public section

set_option maxRecDepth 16384

noncomputable section

namespace Cert.Mla

open Idealize.ShloMosaic Idealize.ShloMosaic.TcCoe Cert.MlaBwdIdeal Cert.MlaBwdIdeal.Gen Cert.Stick

section
/-- The output windows' block indices. -/
theorem idx_6 : ∀ t : Fin cfg0.N, (cfg0.win 6).index t 0 = t.val % 11 ∧ (cfg0.win 6).index t 1 = t.val / 11 :=
  (by decide +kernel : ∀ t : Fin grid0.N, win0_6.index t 0 = t.val % 11 ∧ win0_6.index t 1 = t.val / 11)
theorem idx_7 : ∀ t : Fin cfg0.N, (cfg0.win 7).index t 0 = 0 ∧ (cfg0.win 7).index t 1 = t.val / 11 :=
  (by decide +kernel : ∀ t : Fin grid0.N, win0_7.index t 0 = 0 ∧ win0_7.index t 1 = t.val / 11)
theorem idx_8 : ∀ t : Fin cfg0.N, (cfg0.win 8).index t 0 = 0 ∧ (cfg0.win 8).index t 1 = t.val / 11 :=
  (by decide +kernel : ∀ t : Fin grid0.N, win0_8.index t 0 = 0 ∧ win0_8.index t 1 = t.val / 11)

variable (m : (ℓ : Loc nD τ sig) → Buf (Elt Ideal) ℓ) (c : Dev nD) (QR KR VR DR : ℕ → ℕ → ℝ)
  (h0 : m ((c.tc : Thread nD τ).loc main_arg0) = (up2 QR : S4224x4096.Idx → EReal))
  (h1 : m ((c.tc : Thread nD τ).loc main_arg1) = (up2 KR : S4224x4096.Idx → EReal))
  (h2 : m ((c.tc : Thread nD τ).loc main_arg2) = (up2 VR : S4224x4096.Idx → EReal))
  (h3 : m ((c.tc : Thread nD τ).loc main_arg3) = (up2 DR : S4224x2048.Idx → EReal))
include h0 h1 h2 h3

/-- The three blocks after the first point of a pair of heads. -/
theorem outs_A (t : Fin cfg0.N) (hz : t.val % 11 = 0) : outsAt0 m c t.val t.isLt =
    (up2 ((pair QR KR VR DR (t.val / 11)).fQ (grid0.coords t 1).val ((grid0.coords t 1).val + 1)), up2 ((pair QR KR VR DR (t.val / 11)).fK ((grid0.coords t 1).val + 1)), up2 ((pair QR KR VR DR (t.val / 11)).fV ((grid0.coords t 1).val + 1))) := by
  have hi := ins m c t QR KR VR DR h0 h1 h2 h3
  have z : (grid0.coords t 1).val = 0 := (idxs t).2.trans hz
  rw [outsAt0_A m c t hz]
  rw [out_A6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr hz) (iblk m c 0 t) (iblk m c 1 t) (iblk m c 2 t) (iblk m c 3 t) (iblk m c 4 t) (iblk m c 5 t) (pair QR KR VR DR (t.val / 11)) hi z, out_A7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr hz) (iblk m c 0 t) (iblk m c 1 t) (iblk m c 2 t) (iblk m c 3 t) (iblk m c 4 t) (iblk m c 5 t) (pair QR KR VR DR (t.val / 11)) hi z, out_A8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr hz) (iblk m c 0 t) (iblk m c 1 t) (iblk m c 2 t) (iblk m c 3 t) (iblk m c 4 t) (iblk m c 5 t) (pair QR KR VR DR (t.val / 11)) hi z]

/-- The three blocks after a later point. -/
theorem outs_B (t : Fin cfg0.N) (hz : ¬t.val % 11 = 0)
    (h7 : (outsAt0 m c (t.val - 1) (Nat.lt_of_le_of_lt (Nat.sub_le _ _) t.isLt)).2.1 = up2 ((pair QR KR VR DR (t.val / 11)).fK (grid0.coords t 1).val))
    (h8 : (outsAt0 m c (t.val - 1) (Nat.lt_of_le_of_lt (Nat.sub_le _ _) t.isLt)).2.2 = up2 ((pair QR KR VR DR (t.val / 11)).fV (grid0.coords t 1).val)) : outsAt0 m c t.val t.isLt =
    (up2 ((pair QR KR VR DR (t.val / 11)).fQ (grid0.coords t 1).val ((grid0.coords t 1).val + 1)), up2 ((pair QR KR VR DR (t.val / 11)).fK ((grid0.coords t 1).val + 1)), up2 ((pair QR KR VR DR (t.val / 11)).fV ((grid0.coords t 1).val + 1))) := by
  have hi := ins m c t QR KR VR DR h0 h1 h2 h3
  rw [outsAt0_B m c t hz]
  rw [out_B6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => hz ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2 (pair QR KR VR DR (t.val / 11)) hi h7 h8, out_B7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => hz ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2 (pair QR KR VR DR (t.val / 11)) hi h7 h8, out_B8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => hz ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2 (pair QR KR VR DR (t.val / 11)) hi h7 h8]

/-- The three blocks after each grid point. -/
theorem outs (n : ℕ) (hn : n < cfg0.N) : outsAt0 m c n hn =
    (up2 ((pair QR KR VR DR (n / 11)).fQ (n % 11) (n % 11 + 1)), up2 ((pair QR KR VR DR (n / 11)).fK (n % 11 + 1)), up2 ((pair QR KR VR DR (n / 11)).fV (n % 11 + 1))) := by
  induction n with
  | zero =>
    refine (outs_A m c QR KR VR DR h0 h1 h2 h3 ⟨0, hn⟩ rfl).trans ?_
    rw [(idxs ⟨0, hn⟩).2]
  | succ n ih =>
    have ih := ih (Nat.lt_of_succ_lt hn)
    by_cases hz : (n + 1) % 11 = 0
    · refine (outs_A m c QR KR VR DR h0 h1 h2 h3 ⟨n + 1, hn⟩ hz).trans ?_
      rw [(idxs ⟨n + 1, hn⟩).2]
    · have ed : n / 11 = (n + 1) / 11 := by omega
      have em : n % 11 + 1 = (n + 1) % 11 := by omega
      rw [ed, em] at ih
      refine (outs_B m c QR KR VR DR h0 h1 h2 h3 ⟨n + 1, hn⟩ hz ?_ ?_).trans ?_
      · rw [(idxs ⟨n + 1, hn⟩).2]; exact congrArg (fun q => q.2.1) ih
      · rw [(idxs ⟨n + 1, hn⟩).2]; exact congrArg (fun q => q.2.2) ih
      · rw [(idxs ⟨n + 1, hn⟩).2]

/-- The array of the queries' cotangent. -/
theorem arr_q : (dats m 0 c).arrAt 6 cfg0.N = (up2 fun t x => (pair QR KR VR DR (x / 512)).fQ (t / 384) (t / 384 + 1) (t % 384) (x % 512) : S4224x4096.Idx → EReal) := by
  refine (dats m 0 c).arrAt_eq_of_covers 6 _ (by decide +kernel) fun t hf y => ?_
  have e0 := (idx_6 t).1
  have e1 := (idx_6 t).2
  have hy1 : (y 1).val < 512 := (y 1).isLt
  have hy0 : (y 0).val < 384 := (y 0).isLt
  blk_simp
  rw [after0_6, outs m c QR KR VR DR h0 h1 h2 h3]
  have a0 : (((win0_6.blk t).view.emb y) 0).val = (t.val % 11) * 384 + (y 0).val := by blk_simp [e0, e1]
  have a1 : (((win0_6.blk t).view.emb y) 1).val = (t.val / 11) * 512 + (y 1).val := by blk_simp [e0, e1]
  refine Eq.trans (b := (((pair QR KR VR DR (t.val / 11)).fQ (t.val % 11) (t.val % 11 + 1) (y 0).val (y 1).val : ℝ) : EReal)) rfl (Eq.trans (b := (((pair QR KR VR DR ((((win0_6.blk t).view.emb y) 1).val / 512)).fQ ((((win0_6.blk t).view.emb y) 0).val / 384) ((((win0_6.blk t).view.emb y) 0).val / 384 + 1) ((((win0_6.blk t).view.emb y) 0).val % 384) ((((win0_6.blk t).view.emb y) 1).val % 512) : ℝ) : EReal)) (congrArg _ ?_) rfl)
  rw [a0, a1]
  rw [show (t.val % 11 * 384 + (y 0).val) / 384 = t.val % 11 by omega, show (t.val % 11 * 384 + (y 0).val) % 384 = (y 0).val by omega,
    show (t.val / 11 * 512 + (y 1).val) / 512 = t.val / 11 by omega, show (t.val / 11 * 512 + (y 1).val) % 512 = (y 1).val by omega]

/-- The array of the keys' cotangent. -/
theorem arr_k : (dats m 0 c).arrAt 7 cfg0.N = (up2 fun s x => (pair QR KR VR DR (x / 512)).fK 11 s (x % 512) : S4224x4096.Idx → EReal) := by
  refine (dats m 0 c).arrAt_eq_of_covers 7 _ (by decide +kernel) fun t hf y => ?_
  have e0 := (idx_7 t).1
  have e1 := (idx_7 t).2
  have hy1 : (y 1).val < 512 := (y 1).isLt
  have hm := (flush0_7 t).mp hf
  blk_simp
  rw [after0_7, outs m c QR KR VR DR h0 h1 h2 h3]
  have a0 : (((win0_7.blk t).view.emb y) 0).val = (y 0).val := by blk_simp [e0, e1]
  have a1 : (((win0_7.blk t).view.emb y) 1).val = (t.val / 11) * 512 + (y 1).val := by blk_simp [e0, e1]
  refine Eq.trans (b := (((pair QR KR VR DR (t.val / 11)).fK (t.val % 11 + 1) (y 0).val (y 1).val : ℝ) : EReal)) rfl (Eq.trans (b := (((pair QR KR VR DR ((((win0_7.blk t).view.emb y) 1).val / 512)).fK 11 (((win0_7.blk t).view.emb y) 0).val ((((win0_7.blk t).view.emb y) 1).val % 512) : ℝ) : EReal)) (congrArg _ ?_) rfl)
  rw [a0, a1]
  rw [show t.val % 11 + 1 = 11 by omega,
    show (t.val / 11 * 512 + (y 1).val) / 512 = t.val / 11 by omega, show (t.val / 11 * 512 + (y 1).val) % 512 = (y 1).val by omega]

/-- The array of the values' cotangent. -/
theorem arr_v : (dats m 0 c).arrAt 8 cfg0.N = (up2 fun s x => (pair QR KR VR DR (x / 256)).fV 11 s (x % 256) : S4224x2048.Idx → EReal) := by
  refine (dats m 0 c).arrAt_eq_of_covers 8 _ (by decide +kernel) fun t hf y => ?_
  have e0 := (idx_8 t).1
  have e1 := (idx_8 t).2
  have hy1 : (y 1).val < 256 := (y 1).isLt
  have hm := (flush0_8 t).mp hf
  blk_simp
  rw [after0_8, outs m c QR KR VR DR h0 h1 h2 h3]
  have a0 : (((win0_8.blk t).view.emb y) 0).val = (y 0).val := by blk_simp [e0, e1]
  have a1 : (((win0_8.blk t).view.emb y) 1).val = (t.val / 11) * 256 + (y 1).val := by blk_simp [e0, e1]
  refine Eq.trans (b := (((pair QR KR VR DR (t.val / 11)).fV (t.val % 11 + 1) (y 0).val (y 1).val : ℝ) : EReal)) rfl (Eq.trans (b := (((pair QR KR VR DR ((((win0_8.blk t).view.emb y) 1).val / 256)).fV 11 (((win0_8.blk t).view.emb y) 0).val ((((win0_8.blk t).view.emb y) 1).val % 256) : ℝ) : EReal)) (congrArg _ ?_) rfl)
  rw [a0, a1]
  rw [show t.val % 11 + 1 = 11 by omega,
    show (t.val / 11 * 256 + (y 1).val) / 256 = t.val / 11 by omega, show (t.val / 11 * 256 + (y 1).val) % 256 = (y 1).val by omega]

end

end Cert.Mla

end
-- ==== Proof.MlaSame.lean ====
module

public import proofs.«01_k».proof.Proof.MlaGrid

/-! The three results of the softmax attention's gradient are the reference's, for real arguments. -/

@[expose] public section

set_option maxRecDepth 16384

noncomputable section

namespace Cert.Mla

open Idealize.ShloMosaic Idealize.ShloMosaic.TcCoe Cert.Stick

/-- The cotangent of a score depends on the outputs' own columns only. -/
theorem gDs_out (Q K V D O O' : ℕ → ℕ → ℝ) (L : ℕ → ℝ) (h : ∀ t d, d < 128 → O t d = O' t d) : gDs Q K V D O L = gDs Q K V D O' L := by
  have e : gE D O = gE D O' := by
    funext t
    exact Finset.sum_congr rfl fun d hd => by rw [h t d (Finset.mem_range.mp hd)]
  funext t s
  unfold gDs
  rw [e]

variable (QR KR VR DR : ℕ → ℕ → ℝ) (h e : ℕ)

/-- Each head of a pair is the head of the whole. -/
theorem hd_Q : hw 256 e (pair QR KR VR DR h).Q = hw 256 (2 * h + e) QR := by
  funext t d; exact congrArg (QR t) (by omega)
theorem hd_K : hw 256 e (pair QR KR VR DR h).K = hw 256 (2 * h + e) KR := by
  funext t d; exact congrArg (KR t) (by omega)
theorem hd_V : hw 128 e (pair QR KR VR DR h).V = vh (2 * h + e) VR := by
  funext t d; exact congrArg (VR t) (by omega)
theorem hd_D : hw 128 e (pair QR KR VR DR h).D = hw 128 (2 * h + e) DR := by
  funext t d; exact congrArg (DR t) (by omega)
theorem hd_O (t d : ℕ) (hd : d < 128) : hw 128 e (pair QR KR VR DR h).O t d = oh QR KR VR (2 * h + e) t d := by
  show oh QR KR VR ((256 * h + (128 * e + d)) / 128) t ((256 * h + (128 * e + d)) % 128) = _
  rw [show (256 * h + (128 * e + d)) / 128 = 2 * h + e by omega, show (256 * h + (128 * e + d)) % 128 = d by omega]
theorem hd_T : (pair QR KR VR DR h).T e = rL (rS QR KR) (2 * h + e) := rfl

/-- The cotangent of a head's scores. -/
theorem hd_Ds : gDs (hw 256 e (pair QR KR VR DR h).Q) (hw 256 e (pair QR KR VR DR h).K) (hw 128 e (pair QR KR VR DR h).V) (hw 128 e (pair QR KR VR DR h).D) (hw 128 e (pair QR KR VR DR h).O) ((pair QR KR VR DR h).T e)
    = wD QR KR VR DR (2 * h + e) := by
  rw [gDs_out _ _ _ _ _ _ _ (fun t d hd => hd_O QR KR VR DR h e t d hd), hd_Q, hd_K, hd_V, hd_D, hd_T]
  rfl

/-- Only a query's own and earlier keys have a cotangent. -/
theorem cs_ds (t : ℕ) (ht : t < 4224) (f : ℕ → ℝ) (g : ℕ) :
    cs (fun s => wD QR KR VR DR g t s * f s) 4224 = cs (fun s => wD QR KR VR DR g t s * f s) (384 * (t / 384 + 1)) := by
  have hs : 4224 = 384 * (t / 384 + 1) + (4224 - 384 * (t / 384 + 1)) := by omega
  rw [hs, cs_add]
  refine (congrArg _ ?_).trans (add_zero _)
  refine Finset.sum_eq_zero fun k _ => ?_
  have hn : ¬ 384 * (t / 384 + 1) + k ≤ t := by omega
  show gDs _ _ _ _ _ _ _ _ * _ = 0
  unfold gDs gP
  rw [if_neg hn, zero_mul, zero_mul, zero_mul]

theorem same_q (t x : ℕ) (ht : t < 4224) : (pair QR KR VR DR (x / 512)).fQ (t / 384) (t / 384 + 1) (t % 384) (x % 512)
    = cs (fun s => wD QR KR VR DR (x / 256) t s * hw 256 (x / 256) KR s (x % 256)) 4224 := by
  rw [cs_ds QR KR VR DR t ht]
  unfold Pair.fQ cQ
  rw [hd_Ds, hd_K, show 2 * (x / 512) + x % 512 / 256 = x / 256 by omega, show x % 512 % 256 = x % 256 by omega,
    show 384 * (t / 384) + t % 384 = t by omega]

theorem same_k (s x : ℕ) : (pair QR KR VR DR (x / 512)).fK 11 s (x % 512)
    = cs (fun t => wD QR KR VR DR (x / 256) t s * hw 256 (x / 256) QR t (x % 256)) 4224 := by
  unfold Pair.fK cK
  rw [hd_Ds, hd_Q, show 2 * (x / 512) + x % 512 / 256 = x / 256 by omega, show x % 512 % 256 = x % 256 by omega]

theorem same_v (s x : ℕ) : (pair QR KR VR DR (x / 256)).fV 11 s (x % 256)
    = cs (fun t => wP QR KR (x / 128) t s * hw 128 (x / 128) DR t (x % 128)) 4224 := by
  unfold Pair.fV cV
  rw [hd_Q, hd_K, hd_D, hd_T, show 2 * (x / 256) + x % 256 / 128 = x / 128 by omega, show x % 256 % 128 = x % 128 by omega]
  rfl

section
open Cert.MlaBwdIdeal Cert.MlaBwdIdeal.Gen
variable (m : (ℓ : Loc nD τ sig) → Buf (Elt Ideal) ℓ) (c : Dev nD)
  (h0 : m ((c.tc : Thread nD τ).loc main_arg0) = (up2 QR : S4224x4096.Idx → EReal))
  (h1 : m ((c.tc : Thread nD τ).loc main_arg1) = (up2 KR : S4224x4096.Idx → EReal))
  (h2 : m ((c.tc : Thread nD τ).loc main_arg2) = (up2 VR : S4224x4096.Idx → EReal))
  (h3 : m ((c.tc : Thread nD τ).loc main_arg3) = (up2 DR : S4224x2048.Idx → EReal))
include h0 h1 h2 h3

/-- The queries' cotangent is the reference's. -/
theorem fin_q : (dats m 0 c).arrAt 6 cfg0.N = (qDq (up2 QR) (up2 KR) (up2 VR) (up2 DR) : S4224x4096.Idx → EReal) := by
  rw [arr_q m c QR KR VR DR h0 h1 h2 h3, qDq_up]
  funext j; exact congrArg _ (same_q QR KR VR DR _ _ (j 0).isLt)
/-- The keys' cotangent is the reference's. -/
theorem fin_k : (dats m 0 c).arrAt 7 cfg0.N = (qDk (up2 QR) (up2 KR) (up2 VR) (up2 DR) : S4224x4096.Idx → EReal) := by
  rw [arr_k m c QR KR VR DR h0 h1 h2 h3, qDk_up]
  funext j; exact congrArg _ (same_k QR KR VR DR _ _)
/-- The values' cotangent is the reference's. -/
theorem fin_v : (dats m 0 c).arrAt 8 cfg0.N = (qDv (up2 QR) (up2 KR) (up2 DR) : S4224x2048.Idx → EReal) := by
  rw [arr_v m c QR KR VR DR h0 h1 h2 h3, qDv_up]
  funext j; exact congrArg _ (same_v QR KR VR DR _ _)

end

end Cert.Mla

end
-- ==== Proof.Sums.lean ====
module

public import proofs.«01_k».proof.Proof.Gen.SumAIdeal.Value
public import proofs.«01_k».proof.Proof.Gen.SumBIdeal.Value
public import proofs.«01_k».proof.Proof.Gen.RefSumAIdeal.Run
public import proofs.«01_k».proof.Proof.Gen.RefSumBIdeal.Run
public import Idealize.ShloMosaic.Lib.Pipeline.ValueKit
public import Idealize.ShloMosaic.Lib.IdealHost

/-! The sums over the devices: adding eight packed arrays up in order is summing along the first axis. -/

@[expose] public section

set_option maxRecDepth 16384

noncomputable section

namespace Cert

open Idealize.ShloMosaic Idealize.ShloMosaic.TcCoe

/-- The kernel's sum of eight rows, added up in order, is the reference's sum along the first axis. -/
theorem sum_SumA (a : FVec Ideal SumAIdeal.S8x40x1024 .f32) :
    SumAIdeal.Value.G1 (F := Ideal) a = Host.reduceAdd a (constant RefSumAIdeal.S_ .f32 0x00000000#32) RefSumAIdeal.Gen.reducesTo_S8x40x1024_S40x1024_d0 RefSumAIdeal.Gen.h_S_ := by
  unfold SumAIdeal.Value.G1 SumAIdeal.Gen.k0_pay1
  funext j
  idx_vars j
  pointwise
  simp only [Fin.sum_univ_eight]

/-- The kernel's sum of eight rows, added up in order, is the reference's sum along the first axis. -/
theorem sum_SumB (a : FVec Ideal SumBIdeal.S8x72x1024 .f32) :
    SumBIdeal.Value.G1 (F := Ideal) a = Host.reduceAdd a (constant RefSumBIdeal.S_ .f32 0x00000000#32) RefSumBIdeal.Gen.reducesTo_S8x72x1024_S72x1024_d0 RefSumBIdeal.Gen.h_S_ := by
  unfold SumBIdeal.Value.G1 SumBIdeal.Gen.k0_pay1
  funext j
  idx_vars j
  pointwise
  simp only [Fin.sum_univ_eight]

end Cert
-- ==== Proof.AdamEl.lean ====
module

public import proofs.«01_k».proof.Proof.Mm
public import Idealize.ShloMosaic.Lib.Pointwise
public import Idealize.ShloMosaic.Lib.IdealHost
public import Idealize.ShloMosaic.Lib.VecWindow

/-! One element of an optimiser step, over the extended reals, and arrays of extended reals written
over natural-number indices. -/

@[expose] public section

noncomputable section

namespace Cert.Opt

open Idealize.ShloMosaic

/-- The array whose entry at `(k, i, j)` is `X k i j`. -/
def f3 {a b c : ℕ} (X : ℕ → ℕ → ℕ → EReal) : (⟨3, ![a, b, c]⟩ : Shape).Idx → EReal := fun j => X (j 0).val (j 1).val (j 2).val

theorem f3_ix3 {a b c : ℕ} (X : ℕ → ℕ → ℕ → EReal) (k : Fin a) (i : Fin b) (j : Fin c) : f3 X (ix3 k i j) = X k.val i.val j.val := rfl

/-- The block of one layer whose entry at `(0, i, j)` is `X i j`. -/
abbrev row {a b : ℕ} (X : ℕ → ℕ → EReal) : (⟨3, ![1, a, b]⟩ : Shape).Idx → EReal := f3 fun _ i j => X i j

/-- An entry by the values of its index. -/
theorem f3_at {a b c : ℕ} (X : ℕ → ℕ → ℕ → EReal) (e : (⟨3, ![a, b, c]⟩ : Shape).Idx) {k i j : ℕ}
    (h0 : (e 0).val = k) (h1 : (e 1).val = i) (h2 : (e 2).val = j) : f3 X e = X k i j := by
  subst h0 h1 h2
  rfl

/-- The three block numbers of a window. -/
abbrev is3 (f : Fin 3 → ℕ) (k i j : ℕ) : Prop := f 0 = k ∧ f 1 = i ∧ f 2 = j

/-- Every array of three axes is of this form. -/
theorem exists_f3 {a b c : ℕ} (x : (⟨3, ![a, b, c]⟩ : Shape).Idx → EReal) : ∃ X, x = f3 X := by
  refine ⟨fun k i j => if h : k < a ∧ i < b ∧ j < c then x (ix3 ⟨k, h.1⟩ ⟨i, h.2.1⟩ ⟨j, h.2.2⟩) else 0, funext fun j => ?_⟩
  have h : (j 0).val < a ∧ (j 1).val < b ∧ (j 2).val < c := ⟨(j 0).isLt, (j 1).isLt, (j 2).isLt⟩
  refine Eq.trans ?_ (dif_pos h).symm
  exact congrArg x (funext fun q => by fin_cases q <;> rfl)

/-- An array's entries over natural-number indices. -/
def nat3 {a b c : ℕ} (x : (⟨3, ![a, b, c]⟩ : Shape).Idx → EReal) : ℕ → ℕ → ℕ → EReal := (exists_f3 x).choose

theorem nat3_eq {a b c : ℕ} (x : (⟨3, ![a, b, c]⟩ : Shape).Idx → EReal) : x = f3 (nat3 x) := (exists_f3 x).choose_spec

/-- One row of blocks of an array: the load of block `k` along the first axis. -/
theorem window_f3 {a b c k : ℕ} (X : ℕ → ℕ → ℕ → EReal)
    (inb : ∀ q, (![k, 0, 0] : Fin 3 → ℕ) q + (![1, b, c] : Fin 3 → ℕ) q ≤ (⟨3, ![a, b, c]⟩ : Shape).size q) :
    VecWindow.window (s := ⟨3, ![a, b, c]⟩) (f3 X) ![k, 0, 0] ![1, b, c] inb = (f3 fun _ i j => X k i j : (⟨3, ![1, b, c]⟩ : Shape).Idx → EReal) := by
  funext j
  have h0 : (j 0).val = 0 := Nat.lt_one_iff.mp (j 0).isLt
  show X (k + 1 * (j 0).val) (0 + 1 * (j 1).val) (0 + 1 * (j 2).val) = X k (j 1).val (j 2).val
  rw [h0, Nat.mul_zero, Nat.add_zero, Nat.zero_add, Nat.zero_add, one_mul, one_mul]

/-- The gradient: the sum of the devices' pieces. -/
def gr (P : ℕ → ℕ → ℕ → EReal) (i j : ℕ) : EReal := P 0 i j + P 1 i j + P 2 i j + P 3 i j + P 4 i j + P 5 i j + P 6 i j + P 7 i j

/-- The sum over the eight devices is the sum of the pieces in order. -/
theorem sum_gr (P : ℕ → ℕ → ℕ → EReal) (i j : ℕ) : (∑ k : Fin 8, P k.val i j) = gr P i j := Fin.sum_univ_eight _

/-- The new first moment. -/
def mo (g m : EReal) : EReal := Ideal.ofBits .f32 0x3F666666#32 * m + Ideal.ofBits .f32 0x3DCCCCCD#32 * g

/-- The new second moment. -/
def ve (g v : EReal) : EReal := Ideal.ofBits .f32 0x3F7FBE77#32 * v + Ideal.ofBits .f32 0x3A83126F#32 * (g * g)

/-- The step. -/
def de (g w m v : EReal) : EReal :=
  Ideal.ofBits .f32 0xBA83126F#32 * (Ideal.div (Ideal.div (mo g m) (Ideal.ofBits .f32 0x3F26BD02#32))
    (Ideal.sqrt (Ideal.div (ve g v) (Ideal.ofBits .f32 0x3C231ACC#32)) + Ideal.ofBits .f32 0x322BCC77#32) + Ideal.ofBits .f32 0x3C23D70A#32 * w)

/-- The first layer's entries from `X`, the other layers' from `B`. -/
def lay (X : ℕ → ℕ → EReal) (B : ℕ → ℕ → ℕ → EReal) (k i j : ℕ) : EReal := if k < 1 then X i j else B k i j

/-- Behind the first layer the entries are `B`'s. -/
theorem lay_rest {a b c : ℕ} (X : ℕ → ℕ → EReal) (B : ℕ → ℕ → ℕ → EReal) (e : (⟨3, ![a, b, c]⟩ : Shape).Idx) (h : ¬(e 0).val < 1) :
    f3 B e = f3 (lay X B) e := (if_neg h).symm

end Cert.Opt
-- ==== Proof.RefStack.lean ====
module

public import proofs.«01_k».proof.Proof.AdamEl

/-! The reference's optimiser step of the first layer of a stack of four, for matrices of any size: the sum of the devices'
pieces, the two moments and the step, each with the other layers laid behind it. -/

@[expose] public section

noncomputable section

namespace Cert.Opt.Ref

open Idealize.ShloMosaic Idealize.ShloMosaic.TcCoe Cert.Mm Cert.Opt

variable {R C : ℕ}

/-- The shape of a number. -/
abbrev S0 : Shape := ⟨0, ![]⟩
/-- The shape of a matrix. -/
abbrev S2 (a b : ℕ) : Shape := ⟨2, ![a, b]⟩
/-- The shape of a stack of matrices. -/
abbrev S3 (a b c : ℕ) : Shape := ⟨3, ![a, b, c]⟩

variable (hR : R ≠ 1) (hC : C ≠ 1)
  (h0 : S0.BroadcastsInDim (S2 R C) (![] : Fin 0 → Fin (S2 R C).rank))
  (h1 : (S2 R C).BroadcastsInDim (S3 1 R C) (![1, 2] : Fin 2 → Fin (S3 1 R C).rank))
  (ht : (S3 4 R C).Slices ![1, 0, 0] (S3 3 R C)) (hk : Shape.Concatenates [S3 1 R C, S3 3 R C] (S3 4 R C) 0)
  (hr : (S3 8 R C).ReducesTo [0] (S2 R C)) (hz : 0 < S0.numel) (hf : FTy.bits .bf16 < FTy.bits .f32)
  (P W M V B : ℕ → ℕ → ℕ → EReal) (X G H N : ℕ → ℕ → EReal)
  (p : FVec Ideal (S3 8 R C) .bf16) (b : FVec Ideal (S3 4 R C) .f32)

theorem ex2 {a b : ℕ} (j : (S2 a b).Idx) : ∃ (k : Fin a) (i : Fin b), j = ix2 k i :=
  ⟨j 0, j 1, funext fun q => by fin_cases q <;> rfl⟩

theorem ex3 {a b c : ℕ} (j : (S3 a b c).Idx) : ∃ (k : Fin a) (i : Fin b) (l : Fin c), j = ix3 k i l :=
  ⟨j 0, j 1, j 2, funext fun q => by fin_cases q <;> rfl⟩

include hR hC in
/-- A matrix laid before the last three layers of a stack. -/
theorem stack_eq : concatenate (S3 4 R C) 0 [⟨S3 1 R C, broadcastInDim (S3 1 R C) ![1, 2] h1 (e2 X : (S2 R C).Idx → EReal)⟩,
    ⟨S3 3 R C, extractStridedSlice (S3 3 R C) ![1, 0, 0] (f3 B : (S3 4 R C).Idx → EReal) ht⟩] hk = (f3 (lay X B) : (S3 4 R C).Idx → EReal) := by
  funext j
  obtain ⟨k, i, l, rfl⟩ := ex3 j
  pointwise
  show _ = lay X B k.val i.val l.val
  unfold lay
  split
  · unfold e2
    refine congrArg₂ X ?_ ?_
    · show (dite (R = 1) _ _ : Fin R).val = i.val
      exact congrArg Fin.val (dif_neg hR)
    · show (dite (C = 1) _ _ : Fin C).val = l.val
      exact congrArg Fin.val (dif_neg hC)
  · show B (1 + (k.val - 1)) (0 + i.val) (0 + l.val) = _
    rw [Nat.zero_add, Nat.zero_add]
    refine congrArg (fun k => B k _ _) ?_
    omega

/-- The sum of the devices' pieces. -/
abbrev sum (p : FVec Ideal (S3 8 R C) .bf16) : FVec Ideal (S2 R C) .f32 :=
  Host.reduceAdd (extf .f32 p hf) (constant S0 .f32 0x00000000#32) hr hz

theorem sum_eq : sum hr hz hf (f3 P) = e2 (gr P) := by
  funext j
  obtain ⟨i, l, rfl⟩ := ex2 j
  pointwise
  exact sum_gr P _ _

/-- A number in every entry. -/
abbrev num (z : BitVec 32) : FVec Ideal (S2 R C) .f32 := broadcastInDim (S2 R C) ![] h0 (constant S0 .f32 z)

/-- A matrix before the last layers of a stack. -/
abbrev stack (x : FVec Ideal (S2 R C) .f32) (b : FVec Ideal (S3 4 R C) .f32) : FVec Ideal (S3 4 R C) .f32 :=
  concatenate (S3 4 R C) 0 [⟨S3 1 R C, broadcastInDim (S3 1 R C) ![1, 2] h1 x⟩, ⟨S3 3 R C, extractStridedSlice (S3 3 R C) ![1, 0, 0] b ht⟩] hk

/-- The new first moment. -/
abbrev mom (g m : FVec Ideal (S2 R C) .f32) : FVec Ideal (S2 R C) .f32 :=
  addf (mulf (num h0 0x3F666666#32) m) (mulf (num h0 0x3DCCCCCD#32) g)

/-- The new second moment. -/
abbrev vel (g v : FVec Ideal (S2 R C) .f32) : FVec Ideal (S2 R C) .f32 :=
  addf (mulf (num h0 0x3F7FBE77#32) v) (mulf (num h0 0x3A83126F#32) (mulf g g))

/-- The step. -/
abbrev step (g w m v : FVec Ideal (S2 R C) .f32) : FVec Ideal (S2 R C) .f32 :=
  mulf (num h0 0xBA83126F#32) (addf (Host.divf (Host.divf (mom h0 g m) (num h0 0x3F26BD02#32))
    (addf (Host.sqrt (Host.divf (vel h0 g v) (num h0 0x3C231ACC#32))) (num h0 0x322BCC77#32))) (mulf (num h0 0x3C23D70A#32) w))

theorem mom_eq : mom h0 (e2 X) (e2 G) = e2 fun i j => mo (X i j) (G i j) := by
  funext j
  obtain ⟨i, l, rfl⟩ := ex2 j
  pointwise
  rfl

theorem vel_eq : vel h0 (e2 X) (e2 G) = e2 fun i j => ve (X i j) (G i j) := by
  funext j
  obtain ⟨i, l, rfl⟩ := ex2 j
  pointwise
  rfl

theorem step_eq : step h0 (e2 X) (e2 N) (e2 G) (e2 H) = e2 fun i j => de (X i j) (N i j) (G i j) (H i j) := by
  funext j
  obtain ⟨i, l, rfl⟩ := ex2 j
  pointwise
  rfl

/-! The reference's four stacks. -/

variable (x y z : FVec Ideal (S2 R C) .f32) (hp : p = f3 P) (hb : b = f3 B) (hx : x = e2 (W 0)) (hy : y = e2 (M 0)) (hv : z = e2 (V 0))
include hR hC hp hb

theorem ref_g : stack h1 ht hk (sum hr hz hf p) b = f3 (lay (gr P) B) := by
  rw [hp, hb, sum_eq]; exact stack_eq hR hC h1 ht hk _ _

include hx hy hv in
theorem ref_d : stack h1 ht hk (step h0 (sum hr hz hf p) x y z) b
    = f3 (lay (fun i j => de (gr P i j) (W 0 i j) (M 0 i j) (V 0 i j)) B) := by
  rw [hp, hb, hx, hy, hv, sum_eq, step_eq]; exact stack_eq hR hC h1 ht hk _ _

include hy in
theorem ref_m : stack h1 ht hk (mom h0 (sum hr hz hf p) y) b = f3 (lay (fun i j => mo (gr P i j) (M 0 i j)) B) := by
  rw [hp, hb, hy, sum_eq, mom_eq]; exact stack_eq hR hC h1 ht hk _ _

include hv in
theorem ref_v : stack h1 ht hk (vel h0 (sum hr hz hf p) z) b = f3 (lay (fun i j => ve (gr P i j) (V 0 i j)) B) := by
  rw [hp, hb, hv, sum_eq, vel_eq]; exact stack_eq hR hC h1 ht hk _ _

end Cert.Opt.Ref
-- ==== Proof.AdamOVal.lean ====
module

public import proofs.«01_k».proof.Proof.RefStack
public import proofs.«01_k».proof.Proof.Gen.AdamOIdeal.Value
public import proofs.«01_k».proof.Proof.Gen.RefAdamOIdeal.Run
public import Idealize.ShloMosaic.Lib.Pipeline.ValueKit
public import Idealize.ShloMosaic.Lib.VecWindow

/-! The optimiser step of one layer of the output weights in the stack of four: the kernel adds the devices' pieces up in
order and writes the gradient, the step and the two moments over the first layer of the four result stacks; the
reference's four arrays are in `RefStack`. -/

@[expose] public section

set_option maxRecDepth 16384

noncomputable section

namespace Cert.Opt.AdamO

open Idealize.ShloMosaic Idealize.ShloMosaic.TcCoe Cert.Mm Cert.Opt

section kernel
open Cert.AdamOIdeal Cert.AdamOIdeal.Gen

variable (P W M V B : ℕ → ℕ → ℕ → EReal) (G : ℕ → ℕ → EReal)

/-! The kernel's values on arrays written over natural-number indices. -/

theorem pay3_eq : k0_pay3 (F := Ideal) (row (P 0)) (row (P 1))
    (row (P 2)) (row (P 3)) (row (P 4))
    (row (P 5)) (row (P 6)) (row (P 7))
      = (e2 (gr P)) := by
  unfold k0_pay3
  funext j; idx_vars j; pointwise; simp only [row, f3_ix3, e2_ix2, gr]

theorem pay4_eq : k0_pay4 (F := Ideal) (e2 G) = row G := by
  unfold k0_pay4
  funext j; idx_vars j; pointwise; simp only [row, f3_ix3, e2_ix2]

theorem pay1_eq : k0_pay1 (F := Ideal) (k0_pay5 (e2 G) (row (M 0)))
    = row (fun i j => mo (G i j) (M 0 i j)) := by
  unfold k0_pay1 k0_pay5
  funext j; idx_vars j; pointwise; simp only [row, f3_ix3, e2_ix2, mo]

theorem pay2_eq : k0_pay2 (F := Ideal) (k0_pay6 (e2 G) (row (V 0)))
    = row (fun i j => ve (G i j) (V 0 i j)) := by
  unfold k0_pay2 k0_pay6
  funext j; idx_vars j; pointwise; simp only [row, f3_ix3, e2_ix2, ve]

theorem pay7_eq : k0_pay7 (F := Ideal) (e2 G) (row (W 0))
      (row (M 0)) (row (V 0))
    = row (fun i j => de (G i j) (W 0 i j) (M 0 i j) (V 0 i j)) := by
  unfold k0_pay7 k0_pay5 k0_pay6
  funext j; idx_vars j; pointwise; simp only [row, f3_ix3, e2_ix2, de, mo, ve]

/-! The windows' block numbers and the rows and columns of an element of a block. -/

/-- The first row of a grid point's block. -/
def ro (n : ℕ) : ℕ := n * 64
/-- The first column of a grid point's block. -/
def co (n : ℕ) : ℕ := 0 * n

/-- The rows of `X` that a grid point sees. -/
def at' (n : ℕ) (X : ℕ → ℕ → ℕ → EReal) (k i j : ℕ) : EReal := X k (ro n + i) (co n + j)

theorem idx_0 : ∀ t : Fin cfg0.N, is3 ((cfg0.win 0).index t) 0 t.val 0 :=
  (by decide +kernel : ∀ t : Fin grid0.N, is3 (win0_0.index t) 0 t.val 0)
theorem idx_1 : ∀ t : Fin cfg0.N, is3 ((cfg0.win 1).index t) 0 t.val 0 :=
  (by decide +kernel : ∀ t : Fin grid0.N, is3 (win0_1.index t) 0 t.val 0)
theorem idx_2 : ∀ t : Fin cfg0.N, is3 ((cfg0.win 2).index t) 0 t.val 0 :=
  (by decide +kernel : ∀ t : Fin grid0.N, is3 (win0_2.index t) 0 t.val 0)
theorem idx_3 : ∀ t : Fin cfg0.N, is3 ((cfg0.win 3).index t) 0 t.val 0 :=
  (by decide +kernel : ∀ t : Fin grid0.N, is3 (win0_3.index t) 0 t.val 0)
theorem idx_4 : ∀ t : Fin cfg0.N, is3 ((cfg0.win 4).index t) 0 t.val 0 :=
  (by decide +kernel : ∀ t : Fin grid0.N, is3 (win0_4.index t) 0 t.val 0)
theorem idx_5 : ∀ t : Fin cfg0.N, is3 ((cfg0.win 5).index t) 0 t.val 0 :=
  (by decide +kernel : ∀ t : Fin grid0.N, is3 (win0_5.index t) 0 t.val 0)
theorem idx_6 : ∀ t : Fin cfg0.N, is3 ((cfg0.win 6).index t) 0 t.val 0 :=
  (by decide +kernel : ∀ t : Fin grid0.N, is3 (win0_6.index t) 0 t.val 0)
theorem idx_7 : ∀ t : Fin cfg0.N, is3 ((cfg0.win 7).index t) 0 t.val 0 :=
  (by decide +kernel : ∀ t : Fin grid0.N, is3 (win0_7.index t) 0 t.val 0)

variable (m : (ℓ : Loc nD τ sig) → Buf (Elt Ideal) ℓ) (c : Dev nD)

theorem emb_0 (X : ℕ → ℕ → ℕ → EReal) (t : Fin cfg0.N) (y : S8x64x4096.Idx) :
    (f3 X : S8x512x4096.Idx → EReal) (((cfg0.win 0).blk t).view.emb y) = at' t.val X (y 0).val (y 1).val (y 2).val := by
  obtain ⟨e0, e1, e2⟩ := idx_0 t
  refine f3_at X _ ?_ ?_ ?_ <;> blk_simp [e0, e1, e2, ro, co]

theorem emb_1 (X : ℕ → ℕ → ℕ → EReal) (t : Fin cfg0.N) (y : S1x64x4096.Idx) :
    (f3 X : S4x512x4096.Idx → EReal) (((cfg0.win 1).blk t).view.emb y) = at' t.val X 0 (y 1).val (y 2).val := by
  obtain ⟨e0, e1, e2⟩ := idx_1 t
  refine f3_at X _ ?_ ?_ ?_ <;> blk_simp [e0, e1, e2, ro, co]

theorem emb_2 (X : ℕ → ℕ → ℕ → EReal) (t : Fin cfg0.N) (y : S1x64x4096.Idx) :
    (f3 X : S4x512x4096.Idx → EReal) (((cfg0.win 2).blk t).view.emb y) = at' t.val X 0 (y 1).val (y 2).val := by
  obtain ⟨e0, e1, e2⟩ := idx_2 t
  refine f3_at X _ ?_ ?_ ?_ <;> blk_simp [e0, e1, e2, ro, co]

theorem emb_3 (X : ℕ → ℕ → ℕ → EReal) (t : Fin cfg0.N) (y : S1x64x4096.Idx) :
    (f3 X : S4x512x4096.Idx → EReal) (((cfg0.win 3).blk t).view.emb y) = at' t.val X 0 (y 1).val (y 2).val := by
  obtain ⟨e0, e1, e2⟩ := idx_3 t
  refine f3_at X _ ?_ ?_ ?_ <;> blk_simp [e0, e1, e2, ro, co]

theorem emb_4 (X : ℕ → ℕ → ℕ → EReal) (t : Fin cfg0.N) (y : S1x64x4096.Idx) :
    (f3 X : S4x512x4096.Idx → EReal) (((cfg0.win 4).blk t).view.emb y) = at' t.val X 0 (y 1).val (y 2).val := by
  obtain ⟨e0, e1, e2⟩ := idx_4 t
  refine f3_at X _ ?_ ?_ ?_ <;> blk_simp [e0, e1, e2, ro, co]

theorem emb_5 (X : ℕ → ℕ → ℕ → EReal) (t : Fin cfg0.N) (y : S1x64x4096.Idx) :
    (f3 X : S4x512x4096.Idx → EReal) (((cfg0.win 5).blk t).view.emb y) = at' t.val X 0 (y 1).val (y 2).val := by
  obtain ⟨e0, e1, e2⟩ := idx_5 t
  refine f3_at X _ ?_ ?_ ?_ <;> blk_simp [e0, e1, e2, ro, co]

theorem emb_6 (X : ℕ → ℕ → ℕ → EReal) (t : Fin cfg0.N) (y : S1x64x4096.Idx) :
    (f3 X : S4x512x4096.Idx → EReal) (((cfg0.win 6).blk t).view.emb y) = at' t.val X 0 (y 1).val (y 2).val := by
  obtain ⟨e0, e1, e2⟩ := idx_6 t
  refine f3_at X _ ?_ ?_ ?_ <;> blk_simp [e0, e1, e2, ro, co]

theorem emb_7 (X : ℕ → ℕ → ℕ → EReal) (t : Fin cfg0.N) (y : S1x64x4096.Idx) :
    (f3 X : S4x512x4096.Idx → EReal) (((cfg0.win 7).blk t).view.emb y) = at' t.val X 0 (y 1).val (y 2).val := by
  obtain ⟨e0, e1, e2⟩ := idx_7 t
  refine f3_at X _ ?_ ?_ ?_ <;> blk_simp [e0, e1, e2, ro, co]

/-! The result arrays are entered with copies of the other layers' arguments. -/

set_option maxHeartbeats 1000000 in
theorem ent_4 : Gen.V m c main_v0_0 = m ((c.tc : Thread nD τ).loc main_arg4) := by
  show StableHlo.after _ _ _ = _
  simp only [Gen.V, hostOps0, List.flatten_cons, List.flatten_nil, List.append_nil, List.cons_append, List.nil_append]
  entry_read
  rfl

set_option maxHeartbeats 1000000 in
theorem ent_5 : Gen.V m c main_v0_1 = m ((c.tc : Thread nD τ).loc main_arg5) := by
  show StableHlo.after _ _ _ = _
  simp only [Gen.V, hostOps0, List.flatten_cons, List.flatten_nil, List.append_nil, List.cons_append, List.nil_append]
  entry_read
  rfl

set_option maxHeartbeats 1000000 in
theorem ent_6 : Gen.V m c main_v0_2 = m ((c.tc : Thread nD τ).loc main_arg6) := by
  show StableHlo.after _ _ _ = _
  simp only [Gen.V, hostOps0, List.flatten_cons, List.flatten_nil, List.append_nil, List.cons_append, List.nil_append]
  entry_read
  rfl

set_option maxHeartbeats 1000000 in
theorem ent_7 : Gen.V m c main_v0_3 = m ((c.tc : Thread nD τ).loc main_arg7) := by
  show StableHlo.after _ _ _ = _
  simp only [Gen.V, hostOps0, List.flatten_cons, List.flatten_nil, List.append_nil, List.cons_append, List.nil_append]
  entry_read
  rfl

/-! The blocks of the arguments. -/

section
variable
  (h0 : m ((c.tc : Thread nD τ).loc main_arg0) = (f3 P : S8x512x4096.Idx → EReal))
  (h1 : m ((c.tc : Thread nD τ).loc main_arg1) = (f3 W : S4x512x4096.Idx → EReal))
  (h2 : m ((c.tc : Thread nD τ).loc main_arg2) = (f3 M : S4x512x4096.Idx → EReal))
  (h3 : m ((c.tc : Thread nD τ).loc main_arg3) = (f3 V : S4x512x4096.Idx → EReal))

include h0 in
theorem blk_0 (t : Fin cfg0.N) : iblk m c 0 t = f3 (at' t.val P) := by
  funext y
  unfold iblk
  refine Eq.trans (b := Gen.V m c main_arg0 (((cfg0.win 0).blk t).view.emb y)) rfl ?_
  rw [V_main_arg0, h0]
  exact emb_0 P t y

include h1 in
theorem blk_1 (t : Fin cfg0.N) : iblk m c 1 t = row (at' t.val W 0) := by
  funext y
  unfold iblk
  refine Eq.trans (b := Gen.V m c main_arg1 (((cfg0.win 1).blk t).view.emb y)) rfl ?_
  rw [V_main_arg1, h1]
  exact emb_1 W t y

include h2 in
theorem blk_2 (t : Fin cfg0.N) : iblk m c 2 t = row (at' t.val M 0) := by
  funext y
  unfold iblk
  refine Eq.trans (b := Gen.V m c main_arg2 (((cfg0.win 2).blk t).view.emb y)) rfl ?_
  rw [V_main_arg2, h2]
  exact emb_2 M t y

include h3 in
theorem blk_3 (t : Fin cfg0.N) : iblk m c 3 t = row (at' t.val V 0) := by
  funext y
  unfold iblk
  refine Eq.trans (b := Gen.V m c main_arg3 (((cfg0.win 3).blk t).view.emb y)) rfl ?_
  rw [V_main_arg3, h3]
  exact emb_3 V t y

include h0 in
/-- The sum of the pieces at a grid point. -/
theorem sum_eq (t : Fin cfg0.N) : kernelRun0_A.sl.r c (ms0_0 t) (hs0_0 t) (iblk m c 0 t) = (e2 (gr (at' t.val P))) := by
  unfold kernelRun0_A.sl.r
  rw [blk_0 P m c h0]
  refine Eq.trans ?_ (pay3_eq (at' t.val P))
  congr 1 <;> · rw [View.readAt_unit _ _ _ rfl (by decide), (hs0_0 t).read_unread]; exact window_f3 _ _

/-! What a grid point leaves in the four results' blocks. -/

include h0 in
theorem out_g (t : Fin cfg0.N) : (outsAt0 m c t).1 = row (gr (at' t.val P)) := by
  unfold outsAt0
  dsimp only
  unfold out0_A_4 kernelRun0_A
  rw [View.read_writes_full, sum_eq P m c h0]
  exact pay4_eq _

include h0 h1 h2 h3 in
theorem out_d (t : Fin cfg0.N) : (outsAt0 m c t).2.1
    = row (fun i j => de (gr (at' t.val P) i j) (at' t.val W 0 i j) (at' t.val M 0 i j) (at' t.val V 0 i j)) := by
  unfold outsAt0
  dsimp only
  unfold out0_A_5 kernelRun0_A
  rw [View.read_writes_full, sum_eq P m c h0, View.readAt_full, View.readAt_full, View.readAt_full, (hs0_1 t).read_unread, (hs0_2 t).read_unread, (hs0_3 t).read_unread,
    blk_1 W m c h1, blk_2 M m c h2, blk_3 V m c h3]
  exact pay7_eq (at' t.val W) (at' t.val M) (at' t.val V) _

include h0 h2 in
theorem out_m (t : Fin cfg0.N) : (outsAt0 m c t).2.2.1
    = row (fun i j => mo (gr (at' t.val P) i j) (at' t.val M 0 i j)) := by
  unfold outsAt0
  dsimp only
  unfold out0_A_6 kernelRun0_A
  rw [View.read_writes_full]
  unfold kernelRun0_A.sl.r_1
  rw [sum_eq P m c h0, View.readAt_full, (hs0_2 t).read_unread, blk_2 M m c h2]
  exact pay1_eq (at' t.val M) _

include h0 h3 in
theorem out_v (t : Fin cfg0.N) : (outsAt0 m c t).2.2.2
    = row (fun i j => ve (gr (at' t.val P) i j) (at' t.val V 0 i j)) := by
  unfold outsAt0
  dsimp only
  unfold out0_A_7 kernelRun0_A
  rw [View.read_writes_full]
  unfold kernelRun0_A.sl.r_2
  rw [sum_eq P m c h0, View.readAt_full, (hs0_3 t).read_unread, blk_3 V m c h3]
  exact pay2_eq (at' t.val V) _

/-! The four result arrays. -/

include h0 in
theorem arr_g (hb : m ((c.tc : Thread nD τ).loc main_arg4) = (f3 B : S4x512x4096.Idx → EReal)) :
    (dats m 0 c).arrAt 4 cfg0.N = (f3 (lay (fun i j => gr P i j) B) : S4x512x4096.Idx → EReal) := by
  refine (dats m 0 c).arrAt_eq_of_coversWhere_of_agree 4 _ (fun β => β (0 : Fin 3) < 1) (by decide +kernel) (fun t hf y => ?_) (fun j hj => ?_)
  · rw [after0_4, out_g P m c h0]
    exact (emb_4 (lay (fun i j => gr P i j) B) t y).symm
  · rw [A_eq]
    refine ((congrFun (ent_4 m c) j).trans (congrFun hb j)).trans (lay_rest _ _ j fun h => ?_)
    blk_simp [Pipeline.Window.cell_apply] at hj
    omega

include h0 h1 h2 h3 in
theorem arr_d (hb : m ((c.tc : Thread nD τ).loc main_arg5) = (f3 B : S4x512x4096.Idx → EReal)) :
    (dats m 0 c).arrAt 5 cfg0.N = (f3 (lay (fun i j => de (gr P i j) (W 0 i j) (M 0 i j) (V 0 i j)) B) : S4x512x4096.Idx → EReal) := by
  refine (dats m 0 c).arrAt_eq_of_coversWhere_of_agree 5 _ (fun β => β (0 : Fin 3) < 1) (by decide +kernel) (fun t hf y => ?_) (fun j hj => ?_)
  · rw [after0_5, out_d P W M V m c h0 h1 h2 h3]
    exact (emb_5 (lay (fun i j => de (gr P i j) (W 0 i j) (M 0 i j) (V 0 i j)) B) t y).symm
  · rw [A_eq]
    refine ((congrFun (ent_5 m c) j).trans (congrFun hb j)).trans (lay_rest _ _ j fun h => ?_)
    blk_simp [Pipeline.Window.cell_apply] at hj
    omega

include h0 h2 in
theorem arr_m (hb : m ((c.tc : Thread nD τ).loc main_arg6) = (f3 B : S4x512x4096.Idx → EReal)) :
    (dats m 0 c).arrAt 6 cfg0.N = (f3 (lay (fun i j => mo (gr P i j) (M 0 i j)) B) : S4x512x4096.Idx → EReal) := by
  refine (dats m 0 c).arrAt_eq_of_coversWhere_of_agree 6 _ (fun β => β (0 : Fin 3) < 1) (by decide +kernel) (fun t hf y => ?_) (fun j hj => ?_)
  · rw [after0_6, out_m P M m c h0 h2]
    exact (emb_6 (lay (fun i j => mo (gr P i j) (M 0 i j)) B) t y).symm
  · rw [A_eq]
    refine ((congrFun (ent_6 m c) j).trans (congrFun hb j)).trans (lay_rest _ _ j fun h => ?_)
    blk_simp [Pipeline.Window.cell_apply] at hj
    omega

include h0 h3 in
theorem arr_v (hb : m ((c.tc : Thread nD τ).loc main_arg7) = (f3 B : S4x512x4096.Idx → EReal)) :
    (dats m 0 c).arrAt 7 cfg0.N = (f3 (lay (fun i j => ve (gr P i j) (V 0 i j)) B) : S4x512x4096.Idx → EReal) := by
  refine (dats m 0 c).arrAt_eq_of_coversWhere_of_agree 7 _ (fun β => β (0 : Fin 3) < 1) (by decide +kernel) (fun t hf y => ?_) (fun j hj => ?_)
  · rw [after0_7, out_v P V m c h0 h3]
    exact (emb_7 (lay (fun i j => ve (gr P i j) (V 0 i j)) B) t y).symm
  · rw [A_eq]
    refine ((congrFun (ent_7 m c) j).trans (congrFun hb j)).trans (lay_rest _ _ j fun h => ?_)
    blk_simp [Pipeline.Window.cell_apply] at hj
    omega

end
end kernel

/-- The first layer of a stack, as the reference takes it. -/
theorem first_eq (x : FVec Ideal Cert.RefAdamOIdeal.S4x512x4096 .f32) (X : ℕ → ℕ → ℕ → EReal) (hx : x = f3 X) :
    shapeCast Cert.RefAdamOIdeal.S512x4096 (extractStridedSlice Cert.RefAdamOIdeal.S1x512x4096 ![0, 0, 0] x Cert.RefAdamOIdeal.Gen.slices_S4x512x4096_S1x512x4096_0_0_0)
      Cert.RefAdamOIdeal.Gen.shapeCasts_S1x512x4096_S512x4096 = e2 (X 0) := by
  subst hx
  funext j
  idx_vars j
  pointwise
  rfl

end Cert.Opt.AdamO
-- ==== Proof.AdamInVal.lean ====
module

public import proofs.«01_k».proof.Proof.RefStack
public import proofs.«01_k».proof.Proof.Gen.AdamInIdeal.Value
public import proofs.«01_k».proof.Proof.Gen.RefAdamInIdeal.Run
public import Idealize.ShloMosaic.Lib.Pipeline.ValueKit
public import Idealize.ShloMosaic.Lib.VecWindow

/-! The optimiser step of one layer of the transposed input weights in the stack of four: the kernel adds the devices' pieces up in
order and writes the gradient, the step and the two moments over the first layer of the four result stacks; the
reference's four arrays are in `RefStack`. -/

@[expose] public section

set_option maxRecDepth 16384

noncomputable section

namespace Cert.Opt.AdamIn

open Idealize.ShloMosaic Idealize.ShloMosaic.TcCoe Cert.Mm Cert.Opt

section kernel
open Cert.AdamInIdeal Cert.AdamInIdeal.Gen

variable (P W M V B : ℕ → ℕ → ℕ → EReal) (G : ℕ → ℕ → EReal)

/-! The kernel's values on arrays written over natural-number indices. -/

theorem pay3_eq : k0_pay3 (F := Ideal) (row (P 0)) (row (P 1))
    (row (P 2)) (row (P 3)) (row (P 4))
    (row (P 5)) (row (P 6)) (row (P 7))
      = (e2 (gr P)) := by
  unfold k0_pay3
  funext j; idx_vars j; pointwise; simp only [row, f3_ix3, e2_ix2, gr]

theorem pay4_eq : k0_pay4 (F := Ideal) (e2 G) = row G := by
  unfold k0_pay4
  funext j; idx_vars j; pointwise; simp only [row, f3_ix3, e2_ix2]

theorem pay1_eq : k0_pay1 (F := Ideal) (k0_pay5 (e2 G) (row (M 0)))
    = row (fun i j => mo (G i j) (M 0 i j)) := by
  unfold k0_pay1 k0_pay5
  funext j; idx_vars j; pointwise; simp only [row, f3_ix3, e2_ix2, mo]

theorem pay2_eq : k0_pay2 (F := Ideal) (k0_pay6 (e2 G) (row (V 0)))
    = row (fun i j => ve (G i j) (V 0 i j)) := by
  unfold k0_pay2 k0_pay6
  funext j; idx_vars j; pointwise; simp only [row, f3_ix3, e2_ix2, ve]

theorem pay7_eq : k0_pay7 (F := Ideal) (e2 G) (row (W 0))
      (row (M 0)) (row (V 0))
    = row (fun i j => de (G i j) (W 0 i j) (M 0 i j) (V 0 i j)) := by
  unfold k0_pay7 k0_pay5 k0_pay6
  funext j; idx_vars j; pointwise; simp only [row, f3_ix3, e2_ix2, de, mo, ve]

/-! The windows' block numbers and the rows and columns of an element of a block. -/

/-- The first row of a grid point's block. -/
def ro (n : ℕ) : ℕ := 0 * n
/-- The first column of a grid point's block. -/
def co (n : ℕ) : ℕ := n * 256

/-- The rows of `X` that a grid point sees. -/
def at' (n : ℕ) (X : ℕ → ℕ → ℕ → EReal) (k i j : ℕ) : EReal := X k (ro n + i) (co n + j)

theorem idx_0 : ∀ t : Fin cfg0.N, is3 ((cfg0.win 0).index t) 0 0 t.val :=
  (by decide +kernel : ∀ t : Fin grid0.N, is3 (win0_0.index t) 0 0 t.val)
theorem idx_1 : ∀ t : Fin cfg0.N, is3 ((cfg0.win 1).index t) 0 0 t.val :=
  (by decide +kernel : ∀ t : Fin grid0.N, is3 (win0_1.index t) 0 0 t.val)
theorem idx_2 : ∀ t : Fin cfg0.N, is3 ((cfg0.win 2).index t) 0 0 t.val :=
  (by decide +kernel : ∀ t : Fin grid0.N, is3 (win0_2.index t) 0 0 t.val)
theorem idx_3 : ∀ t : Fin cfg0.N, is3 ((cfg0.win 3).index t) 0 0 t.val :=
  (by decide +kernel : ∀ t : Fin grid0.N, is3 (win0_3.index t) 0 0 t.val)
theorem idx_4 : ∀ t : Fin cfg0.N, is3 ((cfg0.win 4).index t) 0 0 t.val :=
  (by decide +kernel : ∀ t : Fin grid0.N, is3 (win0_4.index t) 0 0 t.val)
theorem idx_5 : ∀ t : Fin cfg0.N, is3 ((cfg0.win 5).index t) 0 0 t.val :=
  (by decide +kernel : ∀ t : Fin grid0.N, is3 (win0_5.index t) 0 0 t.val)
theorem idx_6 : ∀ t : Fin cfg0.N, is3 ((cfg0.win 6).index t) 0 0 t.val :=
  (by decide +kernel : ∀ t : Fin grid0.N, is3 (win0_6.index t) 0 0 t.val)
theorem idx_7 : ∀ t : Fin cfg0.N, is3 ((cfg0.win 7).index t) 0 0 t.val :=
  (by decide +kernel : ∀ t : Fin grid0.N, is3 (win0_7.index t) 0 0 t.val)

variable (m : (ℓ : Loc nD τ sig) → Buf (Elt Ideal) ℓ) (c : Dev nD)

theorem emb_0 (X : ℕ → ℕ → ℕ → EReal) (t : Fin cfg0.N) (y : S8x1480x256.Idx) :
    (f3 X : S8x1480x4096.Idx → EReal) (((cfg0.win 0).blk t).view.emb y) = at' t.val X (y 0).val (y 1).val (y 2).val := by
  obtain ⟨e0, e1, e2⟩ := idx_0 t
  refine f3_at X _ ?_ ?_ ?_ <;> blk_simp [e0, e1, e2, ro, co]

theorem emb_1 (X : ℕ → ℕ → ℕ → EReal) (t : Fin cfg0.N) (y : S1x1480x256.Idx) :
    (f3 X : S4x1480x4096.Idx → EReal) (((cfg0.win 1).blk t).view.emb y) = at' t.val X 0 (y 1).val (y 2).val := by
  obtain ⟨e0, e1, e2⟩ := idx_1 t
  refine f3_at X _ ?_ ?_ ?_ <;> blk_simp [e0, e1, e2, ro, co]

theorem emb_2 (X : ℕ → ℕ → ℕ → EReal) (t : Fin cfg0.N) (y : S1x1480x256.Idx) :
    (f3 X : S4x1480x4096.Idx → EReal) (((cfg0.win 2).blk t).view.emb y) = at' t.val X 0 (y 1).val (y 2).val := by
  obtain ⟨e0, e1, e2⟩ := idx_2 t
  refine f3_at X _ ?_ ?_ ?_ <;> blk_simp [e0, e1, e2, ro, co]

theorem emb_3 (X : ℕ → ℕ → ℕ → EReal) (t : Fin cfg0.N) (y : S1x1480x256.Idx) :
    (f3 X : S4x1480x4096.Idx → EReal) (((cfg0.win 3).blk t).view.emb y) = at' t.val X 0 (y 1).val (y 2).val := by
  obtain ⟨e0, e1, e2⟩ := idx_3 t
  refine f3_at X _ ?_ ?_ ?_ <;> blk_simp [e0, e1, e2, ro, co]

theorem emb_4 (X : ℕ → ℕ → ℕ → EReal) (t : Fin cfg0.N) (y : S1x1480x256.Idx) :
    (f3 X : S4x1480x4096.Idx → EReal) (((cfg0.win 4).blk t).view.emb y) = at' t.val X 0 (y 1).val (y 2).val := by
  obtain ⟨e0, e1, e2⟩ := idx_4 t
  refine f3_at X _ ?_ ?_ ?_ <;> blk_simp [e0, e1, e2, ro, co]

theorem emb_5 (X : ℕ → ℕ → ℕ → EReal) (t : Fin cfg0.N) (y : S1x1480x256.Idx) :
    (f3 X : S4x1480x4096.Idx → EReal) (((cfg0.win 5).blk t).view.emb y) = at' t.val X 0 (y 1).val (y 2).val := by
  obtain ⟨e0, e1, e2⟩ := idx_5 t
  refine f3_at X _ ?_ ?_ ?_ <;> blk_simp [e0, e1, e2, ro, co]

theorem emb_6 (X : ℕ → ℕ → ℕ → EReal) (t : Fin cfg0.N) (y : S1x1480x256.Idx) :
    (f3 X : S4x1480x4096.Idx → EReal) (((cfg0.win 6).blk t).view.emb y) = at' t.val X 0 (y 1).val (y 2).val := by
  obtain ⟨e0, e1, e2⟩ := idx_6 t
  refine f3_at X _ ?_ ?_ ?_ <;> blk_simp [e0, e1, e2, ro, co]

theorem emb_7 (X : ℕ → ℕ → ℕ → EReal) (t : Fin cfg0.N) (y : S1x1480x256.Idx) :
    (f3 X : S4x1480x4096.Idx → EReal) (((cfg0.win 7).blk t).view.emb y) = at' t.val X 0 (y 1).val (y 2).val := by
  obtain ⟨e0, e1, e2⟩ := idx_7 t
  refine f3_at X _ ?_ ?_ ?_ <;> blk_simp [e0, e1, e2, ro, co]

/-! The result arrays are entered with copies of the other layers' arguments. -/

set_option maxHeartbeats 1000000 in
theorem ent_4 : Gen.V m c main_v0_0 = m ((c.tc : Thread nD τ).loc main_arg4) := by
  show StableHlo.after _ _ _ = _
  simp only [Gen.V, hostOps0, List.flatten_cons, List.flatten_nil, List.append_nil, List.cons_append, List.nil_append]
  entry_read
  rfl

set_option maxHeartbeats 1000000 in
theorem ent_5 : Gen.V m c main_v0_1 = m ((c.tc : Thread nD τ).loc main_arg5) := by
  show StableHlo.after _ _ _ = _
  simp only [Gen.V, hostOps0, List.flatten_cons, List.flatten_nil, List.append_nil, List.cons_append, List.nil_append]
  entry_read
  rfl

set_option maxHeartbeats 1000000 in
theorem ent_6 : Gen.V m c main_v0_2 = m ((c.tc : Thread nD τ).loc main_arg6) := by
  show StableHlo.after _ _ _ = _
  simp only [Gen.V, hostOps0, List.flatten_cons, List.flatten_nil, List.append_nil, List.cons_append, List.nil_append]
  entry_read
  rfl

set_option maxHeartbeats 1000000 in
theorem ent_7 : Gen.V m c main_v0_3 = m ((c.tc : Thread nD τ).loc main_arg7) := by
  show StableHlo.after _ _ _ = _
  simp only [Gen.V, hostOps0, List.flatten_cons, List.flatten_nil, List.append_nil, List.cons_append, List.nil_append]
  entry_read
  rfl

/-! The blocks of the arguments. -/

section
variable
  (h0 : m ((c.tc : Thread nD τ).loc main_arg0) = (f3 P : S8x1480x4096.Idx → EReal))
  (h1 : m ((c.tc : Thread nD τ).loc main_arg1) = (f3 W : S4x1480x4096.Idx → EReal))
  (h2 : m ((c.tc : Thread nD τ).loc main_arg2) = (f3 M : S4x1480x4096.Idx → EReal))
  (h3 : m ((c.tc : Thread nD τ).loc main_arg3) = (f3 V : S4x1480x4096.Idx → EReal))

include h0 in
theorem blk_0 (t : Fin cfg0.N) : iblk m c 0 t = f3 (at' t.val P) := by
  funext y
  unfold iblk
  refine Eq.trans (b := Gen.V m c main_arg0 (((cfg0.win 0).blk t).view.emb y)) rfl ?_
  rw [V_main_arg0, h0]
  exact emb_0 P t y

include h1 in
theorem blk_1 (t : Fin cfg0.N) : iblk m c 1 t = row (at' t.val W 0) := by
  funext y
  unfold iblk
  refine Eq.trans (b := Gen.V m c main_arg1 (((cfg0.win 1).blk t).view.emb y)) rfl ?_
  rw [V_main_arg1, h1]
  exact emb_1 W t y

include h2 in
theorem blk_2 (t : Fin cfg0.N) : iblk m c 2 t = row (at' t.val M 0) := by
  funext y
  unfold iblk
  refine Eq.trans (b := Gen.V m c main_arg2 (((cfg0.win 2).blk t).view.emb y)) rfl ?_
  rw [V_main_arg2, h2]
  exact emb_2 M t y

include h3 in
theorem blk_3 (t : Fin cfg0.N) : iblk m c 3 t = row (at' t.val V 0) := by
  funext y
  unfold iblk
  refine Eq.trans (b := Gen.V m c main_arg3 (((cfg0.win 3).blk t).view.emb y)) rfl ?_
  rw [V_main_arg3, h3]
  exact emb_3 V t y

include h0 in
/-- The sum of the pieces at a grid point. -/
theorem sum_eq (t : Fin cfg0.N) : kernelRun0_A.sl.r c (ms0_0 t) (hs0_0 t) (iblk m c 0 t) = (e2 (gr (at' t.val P))) := by
  unfold kernelRun0_A.sl.r
  rw [blk_0 P m c h0]
  refine Eq.trans ?_ (pay3_eq (at' t.val P))
  congr 1 <;> · rw [View.readAt_unit _ _ _ rfl (by decide), (hs0_0 t).read_unread]; exact window_f3 _ _

/-! What a grid point leaves in the four results' blocks. -/

include h0 in
theorem out_g (t : Fin cfg0.N) : (outsAt0 m c t).1 = row (gr (at' t.val P)) := by
  unfold outsAt0
  dsimp only
  unfold out0_A_4 kernelRun0_A
  rw [View.read_writes_full, sum_eq P m c h0]
  exact pay4_eq _

include h0 h1 h2 h3 in
theorem out_d (t : Fin cfg0.N) : (outsAt0 m c t).2.1
    = row (fun i j => de (gr (at' t.val P) i j) (at' t.val W 0 i j) (at' t.val M 0 i j) (at' t.val V 0 i j)) := by
  unfold outsAt0
  dsimp only
  unfold out0_A_5 kernelRun0_A
  rw [View.read_writes_full, sum_eq P m c h0, View.readAt_full, View.readAt_full, View.readAt_full, (hs0_1 t).read_unread, (hs0_2 t).read_unread, (hs0_3 t).read_unread,
    blk_1 W m c h1, blk_2 M m c h2, blk_3 V m c h3]
  exact pay7_eq (at' t.val W) (at' t.val M) (at' t.val V) _

include h0 h2 in
theorem out_m (t : Fin cfg0.N) : (outsAt0 m c t).2.2.1
    = row (fun i j => mo (gr (at' t.val P) i j) (at' t.val M 0 i j)) := by
  unfold outsAt0
  dsimp only
  unfold out0_A_6 kernelRun0_A
  rw [View.read_writes_full]
  unfold kernelRun0_A.sl.r_1
  rw [sum_eq P m c h0, View.readAt_full, (hs0_2 t).read_unread, blk_2 M m c h2]
  exact pay1_eq (at' t.val M) _

include h0 h3 in
theorem out_v (t : Fin cfg0.N) : (outsAt0 m c t).2.2.2
    = row (fun i j => ve (gr (at' t.val P) i j) (at' t.val V 0 i j)) := by
  unfold outsAt0
  dsimp only
  unfold out0_A_7 kernelRun0_A
  rw [View.read_writes_full]
  unfold kernelRun0_A.sl.r_2
  rw [sum_eq P m c h0, View.readAt_full, (hs0_3 t).read_unread, blk_3 V m c h3]
  exact pay2_eq (at' t.val V) _

/-! The four result arrays. -/

include h0 in
theorem arr_g (hb : m ((c.tc : Thread nD τ).loc main_arg4) = (f3 B : S4x1480x4096.Idx → EReal)) :
    (dats m 0 c).arrAt 4 cfg0.N = (f3 (lay (fun i j => gr P i j) B) : S4x1480x4096.Idx → EReal) := by
  refine (dats m 0 c).arrAt_eq_of_coversWhere_of_agree 4 _ (fun β => β (0 : Fin 3) < 1) (by decide +kernel) (fun t hf y => ?_) (fun j hj => ?_)
  · rw [after0_4, out_g P m c h0]
    exact (emb_4 (lay (fun i j => gr P i j) B) t y).symm
  · rw [A_eq]
    refine ((congrFun (ent_4 m c) j).trans (congrFun hb j)).trans (lay_rest _ _ j fun h => ?_)
    blk_simp [Pipeline.Window.cell_apply] at hj
    omega

include h0 h1 h2 h3 in
theorem arr_d (hb : m ((c.tc : Thread nD τ).loc main_arg5) = (f3 B : S4x1480x4096.Idx → EReal)) :
    (dats m 0 c).arrAt 5 cfg0.N = (f3 (lay (fun i j => de (gr P i j) (W 0 i j) (M 0 i j) (V 0 i j)) B) : S4x1480x4096.Idx → EReal) := by
  refine (dats m 0 c).arrAt_eq_of_coversWhere_of_agree 5 _ (fun β => β (0 : Fin 3) < 1) (by decide +kernel) (fun t hf y => ?_) (fun j hj => ?_)
  · rw [after0_5, out_d P W M V m c h0 h1 h2 h3]
    exact (emb_5 (lay (fun i j => de (gr P i j) (W 0 i j) (M 0 i j) (V 0 i j)) B) t y).symm
  · rw [A_eq]
    refine ((congrFun (ent_5 m c) j).trans (congrFun hb j)).trans (lay_rest _ _ j fun h => ?_)
    blk_simp [Pipeline.Window.cell_apply] at hj
    omega

include h0 h2 in
theorem arr_m (hb : m ((c.tc : Thread nD τ).loc main_arg6) = (f3 B : S4x1480x4096.Idx → EReal)) :
    (dats m 0 c).arrAt 6 cfg0.N = (f3 (lay (fun i j => mo (gr P i j) (M 0 i j)) B) : S4x1480x4096.Idx → EReal) := by
  refine (dats m 0 c).arrAt_eq_of_coversWhere_of_agree 6 _ (fun β => β (0 : Fin 3) < 1) (by decide +kernel) (fun t hf y => ?_) (fun j hj => ?_)
  · rw [after0_6, out_m P M m c h0 h2]
    exact (emb_6 (lay (fun i j => mo (gr P i j) (M 0 i j)) B) t y).symm
  · rw [A_eq]
    refine ((congrFun (ent_6 m c) j).trans (congrFun hb j)).trans (lay_rest _ _ j fun h => ?_)
    blk_simp [Pipeline.Window.cell_apply] at hj
    omega

include h0 h3 in
theorem arr_v (hb : m ((c.tc : Thread nD τ).loc main_arg7) = (f3 B : S4x1480x4096.Idx → EReal)) :
    (dats m 0 c).arrAt 7 cfg0.N = (f3 (lay (fun i j => ve (gr P i j) (V 0 i j)) B) : S4x1480x4096.Idx → EReal) := by
  refine (dats m 0 c).arrAt_eq_of_coversWhere_of_agree 7 _ (fun β => β (0 : Fin 3) < 1) (by decide +kernel) (fun t hf y => ?_) (fun j hj => ?_)
  · rw [after0_7, out_v P V m c h0 h3]
    exact (emb_7 (lay (fun i j => ve (gr P i j) (V 0 i j)) B) t y).symm
  · rw [A_eq]
    refine ((congrFun (ent_7 m c) j).trans (congrFun hb j)).trans (lay_rest _ _ j fun h => ?_)
    blk_simp [Pipeline.Window.cell_apply] at hj
    omega

end
end kernel

/-- The first layer of a stack, as the reference takes it. -/
theorem first_eq (x : FVec Ideal Cert.RefAdamInIdeal.S4x1480x4096 .f32) (X : ℕ → ℕ → ℕ → EReal) (hx : x = f3 X) :
    shapeCast Cert.RefAdamInIdeal.S1480x4096 (extractStridedSlice Cert.RefAdamInIdeal.S1x1480x4096 ![0, 0, 0] x Cert.RefAdamInIdeal.Gen.slices_S4x1480x4096_S1x1480x4096_0_0_0)
      Cert.RefAdamInIdeal.Gen.shapeCasts_S1x1480x4096_S1480x4096 = e2 (X 0) := by
  subst hx
  funext j
  idx_vars j
  pointwise
  rfl

end Cert.Opt.AdamIn
-- ==== Proof.AdamUqVal.lean ====
module

public import proofs.«01_k».proof.Proof.RefStack
public import proofs.«01_k».proof.Proof.Gen.AdamUqIdeal.Value
public import proofs.«01_k».proof.Proof.Gen.RefAdamUqIdeal.Run
public import Idealize.ShloMosaic.Lib.Pipeline.ValueKit
public import Idealize.ShloMosaic.Lib.VecWindow

/-! The optimiser step of one layer of the queries' up-projection in the stack of four: the kernel adds the devices' pieces up in
order and writes the gradient, the step and the two moments over the first layer of the four result stacks; the
reference's four arrays are in `RefStack`. -/

@[expose] public section

set_option maxRecDepth 16384

noncomputable section

namespace Cert.Opt.AdamUq

open Idealize.ShloMosaic Idealize.ShloMosaic.TcCoe Cert.Mm Cert.Opt

section kernel
open Cert.AdamUqIdeal Cert.AdamUqIdeal.Gen

variable (P W M V B : ℕ → ℕ → ℕ → EReal) (G : ℕ → ℕ → EReal)

/-! The kernel's values on arrays written over natural-number indices. -/

theorem pay3_eq : k0_pay3 (F := Ideal) (row (P 0)) (row (P 1))
    (row (P 2)) (row (P 3)) (row (P 4))
    (row (P 5)) (row (P 6)) (row (P 7))
      = (e2 (gr P)) := by
  unfold k0_pay3
  funext j; idx_vars j; pointwise; simp only [row, f3_ix3, e2_ix2, gr]

theorem pay4_eq : k0_pay4 (F := Ideal) (e2 G) = row G := by
  unfold k0_pay4
  funext j; idx_vars j; pointwise; simp only [row, f3_ix3, e2_ix2]

theorem pay1_eq : k0_pay1 (F := Ideal) (k0_pay5 (e2 G) (row (M 0)))
    = row (fun i j => mo (G i j) (M 0 i j)) := by
  unfold k0_pay1 k0_pay5
  funext j; idx_vars j; pointwise; simp only [row, f3_ix3, e2_ix2, mo]

theorem pay2_eq : k0_pay2 (F := Ideal) (k0_pay6 (e2 G) (row (V 0)))
    = row (fun i j => ve (G i j) (V 0 i j)) := by
  unfold k0_pay2 k0_pay6
  funext j; idx_vars j; pointwise; simp only [row, f3_ix3, e2_ix2, ve]

theorem pay7_eq : k0_pay7 (F := Ideal) (e2 G) (row (W 0))
      (row (M 0)) (row (V 0))
    = row (fun i j => de (G i j) (W 0 i j) (M 0 i j) (V 0 i j)) := by
  unfold k0_pay7 k0_pay5 k0_pay6
  funext j; idx_vars j; pointwise; simp only [row, f3_ix3, e2_ix2, de, mo, ve]

/-! The windows' block numbers and the rows and columns of an element of a block. -/

/-- The first row of a grid point's block. -/
def ro (n : ℕ) : ℕ := n * 512
/-- The first column of a grid point's block. -/
def co (n : ℕ) : ℕ := 0 * n

/-- The rows of `X` that a grid point sees. -/
def at' (n : ℕ) (X : ℕ → ℕ → ℕ → EReal) (k i j : ℕ) : EReal := X k (ro n + i) (co n + j)

theorem idx_0 : ∀ t : Fin cfg0.N, is3 ((cfg0.win 0).index t) 0 t.val 0 :=
  (by decide +kernel : ∀ t : Fin grid0.N, is3 (win0_0.index t) 0 t.val 0)
theorem idx_1 : ∀ t : Fin cfg0.N, is3 ((cfg0.win 1).index t) 0 t.val 0 :=
  (by decide +kernel : ∀ t : Fin grid0.N, is3 (win0_1.index t) 0 t.val 0)
theorem idx_2 : ∀ t : Fin cfg0.N, is3 ((cfg0.win 2).index t) 0 t.val 0 :=
  (by decide +kernel : ∀ t : Fin grid0.N, is3 (win0_2.index t) 0 t.val 0)
theorem idx_3 : ∀ t : Fin cfg0.N, is3 ((cfg0.win 3).index t) 0 t.val 0 :=
  (by decide +kernel : ∀ t : Fin grid0.N, is3 (win0_3.index t) 0 t.val 0)
theorem idx_4 : ∀ t : Fin cfg0.N, is3 ((cfg0.win 4).index t) 0 t.val 0 :=
  (by decide +kernel : ∀ t : Fin grid0.N, is3 (win0_4.index t) 0 t.val 0)
theorem idx_5 : ∀ t : Fin cfg0.N, is3 ((cfg0.win 5).index t) 0 t.val 0 :=
  (by decide +kernel : ∀ t : Fin grid0.N, is3 (win0_5.index t) 0 t.val 0)
theorem idx_6 : ∀ t : Fin cfg0.N, is3 ((cfg0.win 6).index t) 0 t.val 0 :=
  (by decide +kernel : ∀ t : Fin grid0.N, is3 (win0_6.index t) 0 t.val 0)
theorem idx_7 : ∀ t : Fin cfg0.N, is3 ((cfg0.win 7).index t) 0 t.val 0 :=
  (by decide +kernel : ∀ t : Fin grid0.N, is3 (win0_7.index t) 0 t.val 0)

variable (m : (ℓ : Loc nD τ sig) → Buf (Elt Ideal) ℓ) (c : Dev nD)

theorem emb_0 (X : ℕ → ℕ → ℕ → EReal) (t : Fin cfg0.N) (y : S8x512x384.Idx) :
    (f3 X : S8x1024x384.Idx → EReal) (((cfg0.win 0).blk t).view.emb y) = at' t.val X (y 0).val (y 1).val (y 2).val := by
  obtain ⟨e0, e1, e2⟩ := idx_0 t
  refine f3_at X _ ?_ ?_ ?_ <;> blk_simp [e0, e1, e2, ro, co]

theorem emb_1 (X : ℕ → ℕ → ℕ → EReal) (t : Fin cfg0.N) (y : S1x512x384.Idx) :
    (f3 X : S4x1024x384.Idx → EReal) (((cfg0.win 1).blk t).view.emb y) = at' t.val X 0 (y 1).val (y 2).val := by
  obtain ⟨e0, e1, e2⟩ := idx_1 t
  refine f3_at X _ ?_ ?_ ?_ <;> blk_simp [e0, e1, e2, ro, co]

theorem emb_2 (X : ℕ → ℕ → ℕ → EReal) (t : Fin cfg0.N) (y : S1x512x384.Idx) :
    (f3 X : S4x1024x384.Idx → EReal) (((cfg0.win 2).blk t).view.emb y) = at' t.val X 0 (y 1).val (y 2).val := by
  obtain ⟨e0, e1, e2⟩ := idx_2 t
  refine f3_at X _ ?_ ?_ ?_ <;> blk_simp [e0, e1, e2, ro, co]

theorem emb_3 (X : ℕ → ℕ → ℕ → EReal) (t : Fin cfg0.N) (y : S1x512x384.Idx) :
    (f3 X : S4x1024x384.Idx → EReal) (((cfg0.win 3).blk t).view.emb y) = at' t.val X 0 (y 1).val (y 2).val := by
  obtain ⟨e0, e1, e2⟩ := idx_3 t
  refine f3_at X _ ?_ ?_ ?_ <;> blk_simp [e0, e1, e2, ro, co]

theorem emb_4 (X : ℕ → ℕ → ℕ → EReal) (t : Fin cfg0.N) (y : S1x512x384.Idx) :
    (f3 X : S4x1024x384.Idx → EReal) (((cfg0.win 4).blk t).view.emb y) = at' t.val X 0 (y 1).val (y 2).val := by
  obtain ⟨e0, e1, e2⟩ := idx_4 t
  refine f3_at X _ ?_ ?_ ?_ <;> blk_simp [e0, e1, e2, ro, co]

theorem emb_5 (X : ℕ → ℕ → ℕ → EReal) (t : Fin cfg0.N) (y : S1x512x384.Idx) :
    (f3 X : S4x1024x384.Idx → EReal) (((cfg0.win 5).blk t).view.emb y) = at' t.val X 0 (y 1).val (y 2).val := by
  obtain ⟨e0, e1, e2⟩ := idx_5 t
  refine f3_at X _ ?_ ?_ ?_ <;> blk_simp [e0, e1, e2, ro, co]

theorem emb_6 (X : ℕ → ℕ → ℕ → EReal) (t : Fin cfg0.N) (y : S1x512x384.Idx) :
    (f3 X : S4x1024x384.Idx → EReal) (((cfg0.win 6).blk t).view.emb y) = at' t.val X 0 (y 1).val (y 2).val := by
  obtain ⟨e0, e1, e2⟩ := idx_6 t
  refine f3_at X _ ?_ ?_ ?_ <;> blk_simp [e0, e1, e2, ro, co]

theorem emb_7 (X : ℕ → ℕ → ℕ → EReal) (t : Fin cfg0.N) (y : S1x512x384.Idx) :
    (f3 X : S4x1024x384.Idx → EReal) (((cfg0.win 7).blk t).view.emb y) = at' t.val X 0 (y 1).val (y 2).val := by
  obtain ⟨e0, e1, e2⟩ := idx_7 t
  refine f3_at X _ ?_ ?_ ?_ <;> blk_simp [e0, e1, e2, ro, co]

/-! The result arrays are entered with copies of the other layers' arguments. -/

set_option maxHeartbeats 1000000 in
theorem ent_4 : Gen.V m c main_v0_0 = m ((c.tc : Thread nD τ).loc main_arg4) := by
  show StableHlo.after _ _ _ = _
  simp only [Gen.V, hostOps0, List.flatten_cons, List.flatten_nil, List.append_nil, List.cons_append, List.nil_append]
  entry_read
  rfl

set_option maxHeartbeats 1000000 in
theorem ent_5 : Gen.V m c main_v0_1 = m ((c.tc : Thread nD τ).loc main_arg5) := by
  show StableHlo.after _ _ _ = _
  simp only [Gen.V, hostOps0, List.flatten_cons, List.flatten_nil, List.append_nil, List.cons_append, List.nil_append]
  entry_read
  rfl

set_option maxHeartbeats 1000000 in
theorem ent_6 : Gen.V m c main_v0_2 = m ((c.tc : Thread nD τ).loc main_arg6) := by
  show StableHlo.after _ _ _ = _
  simp only [Gen.V, hostOps0, List.flatten_cons, List.flatten_nil, List.append_nil, List.cons_append, List.nil_append]
  entry_read
  rfl

set_option maxHeartbeats 1000000 in
theorem ent_7 : Gen.V m c main_v0_3 = m ((c.tc : Thread nD τ).loc main_arg7) := by
  show StableHlo.after _ _ _ = _
  simp only [Gen.V, hostOps0, List.flatten_cons, List.flatten_nil, List.append_nil, List.cons_append, List.nil_append]
  entry_read
  rfl

/-! The blocks of the arguments. -/

section
variable
  (h0 : m ((c.tc : Thread nD τ).loc main_arg0) = (f3 P : S8x1024x384.Idx → EReal))
  (h1 : m ((c.tc : Thread nD τ).loc main_arg1) = (f3 W : S4x1024x384.Idx → EReal))
  (h2 : m ((c.tc : Thread nD τ).loc main_arg2) = (f3 M : S4x1024x384.Idx → EReal))
  (h3 : m ((c.tc : Thread nD τ).loc main_arg3) = (f3 V : S4x1024x384.Idx → EReal))

include h0 in
theorem blk_0 (t : Fin cfg0.N) : iblk m c 0 t = f3 (at' t.val P) := by
  funext y
  unfold iblk
  refine Eq.trans (b := Gen.V m c main_arg0 (((cfg0.win 0).blk t).view.emb y)) rfl ?_
  rw [V_main_arg0, h0]
  exact emb_0 P t y

include h1 in
theorem blk_1 (t : Fin cfg0.N) : iblk m c 1 t = row (at' t.val W 0) := by
  funext y
  unfold iblk
  refine Eq.trans (b := Gen.V m c main_arg1 (((cfg0.win 1).blk t).view.emb y)) rfl ?_
  rw [V_main_arg1, h1]
  exact emb_1 W t y

include h2 in
theorem blk_2 (t : Fin cfg0.N) : iblk m c 2 t = row (at' t.val M 0) := by
  funext y
  unfold iblk
  refine Eq.trans (b := Gen.V m c main_arg2 (((cfg0.win 2).blk t).view.emb y)) rfl ?_
  rw [V_main_arg2, h2]
  exact emb_2 M t y

include h3 in
theorem blk_3 (t : Fin cfg0.N) : iblk m c 3 t = row (at' t.val V 0) := by
  funext y
  unfold iblk
  refine Eq.trans (b := Gen.V m c main_arg3 (((cfg0.win 3).blk t).view.emb y)) rfl ?_
  rw [V_main_arg3, h3]
  exact emb_3 V t y

include h0 in
/-- The sum of the pieces at a grid point. -/
theorem sum_eq (t : Fin cfg0.N) : kernelRun0_A.sl.r c (ms0_0 t) (hs0_0 t) (iblk m c 0 t) = (e2 (gr (at' t.val P))) := by
  unfold kernelRun0_A.sl.r
  rw [blk_0 P m c h0]
  refine Eq.trans ?_ (pay3_eq (at' t.val P))
  congr 1 <;> · rw [View.readAt_unit _ _ _ rfl (by decide), (hs0_0 t).read_unread]; exact window_f3 _ _

/-! What a grid point leaves in the four results' blocks. -/

include h0 in
theorem out_g (t : Fin cfg0.N) : (outsAt0 m c t).1 = row (gr (at' t.val P)) := by
  unfold outsAt0
  dsimp only
  unfold out0_A_4 kernelRun0_A
  rw [View.read_writes_full, sum_eq P m c h0]
  exact pay4_eq _

include h0 h1 h2 h3 in
theorem out_d (t : Fin cfg0.N) : (outsAt0 m c t).2.1
    = row (fun i j => de (gr (at' t.val P) i j) (at' t.val W 0 i j) (at' t.val M 0 i j) (at' t.val V 0 i j)) := by
  unfold outsAt0
  dsimp only
  unfold out0_A_5 kernelRun0_A
  rw [View.read_writes_full, sum_eq P m c h0, View.readAt_full, View.readAt_full, View.readAt_full, (hs0_1 t).read_unread, (hs0_2 t).read_unread, (hs0_3 t).read_unread,
    blk_1 W m c h1, blk_2 M m c h2, blk_3 V m c h3]
  exact pay7_eq (at' t.val W) (at' t.val M) (at' t.val V) _

include h0 h2 in
theorem out_m (t : Fin cfg0.N) : (outsAt0 m c t).2.2.1
    = row (fun i j => mo (gr (at' t.val P) i j) (at' t.val M 0 i j)) := by
  unfold outsAt0
  dsimp only
  unfold out0_A_6 kernelRun0_A
  rw [View.read_writes_full]
  unfold kernelRun0_A.sl.r_1
  rw [sum_eq P m c h0, View.readAt_full, (hs0_2 t).read_unread, blk_2 M m c h2]
  exact pay1_eq (at' t.val M) _

include h0 h3 in
theorem out_v (t : Fin cfg0.N) : (outsAt0 m c t).2.2.2
    = row (fun i j => ve (gr (at' t.val P) i j) (at' t.val V 0 i j)) := by
  unfold outsAt0
  dsimp only
  unfold out0_A_7 kernelRun0_A
  rw [View.read_writes_full]
  unfold kernelRun0_A.sl.r_2
  rw [sum_eq P m c h0, View.readAt_full, (hs0_3 t).read_unread, blk_3 V m c h3]
  exact pay2_eq (at' t.val V) _

/-! The four result arrays. -/

include h0 in
theorem arr_g (hb : m ((c.tc : Thread nD τ).loc main_arg4) = (f3 B : S4x1024x384.Idx → EReal)) :
    (dats m 0 c).arrAt 4 cfg0.N = (f3 (lay (fun i j => gr P i j) B) : S4x1024x384.Idx → EReal) := by
  refine (dats m 0 c).arrAt_eq_of_coversWhere_of_agree 4 _ (fun β => β (0 : Fin 3) < 1) (by decide +kernel) (fun t hf y => ?_) (fun j hj => ?_)
  · rw [after0_4, out_g P m c h0]
    exact (emb_4 (lay (fun i j => gr P i j) B) t y).symm
  · rw [A_eq]
    refine ((congrFun (ent_4 m c) j).trans (congrFun hb j)).trans (lay_rest _ _ j fun h => ?_)
    blk_simp [Pipeline.Window.cell_apply] at hj
    omega

include h0 h1 h2 h3 in
theorem arr_d (hb : m ((c.tc : Thread nD τ).loc main_arg5) = (f3 B : S4x1024x384.Idx → EReal)) :
    (dats m 0 c).arrAt 5 cfg0.N = (f3 (lay (fun i j => de (gr P i j) (W 0 i j) (M 0 i j) (V 0 i j)) B) : S4x1024x384.Idx → EReal) := by
  refine (dats m 0 c).arrAt_eq_of_coversWhere_of_agree 5 _ (fun β => β (0 : Fin 3) < 1) (by decide +kernel) (fun t hf y => ?_) (fun j hj => ?_)
  · rw [after0_5, out_d P W M V m c h0 h1 h2 h3]
    exact (emb_5 (lay (fun i j => de (gr P i j) (W 0 i j) (M 0 i j) (V 0 i j)) B) t y).symm
  · rw [A_eq]
    refine ((congrFun (ent_5 m c) j).trans (congrFun hb j)).trans (lay_rest _ _ j fun h => ?_)
    blk_simp [Pipeline.Window.cell_apply] at hj
    omega

include h0 h2 in
theorem arr_m (hb : m ((c.tc : Thread nD τ).loc main_arg6) = (f3 B : S4x1024x384.Idx → EReal)) :
    (dats m 0 c).arrAt 6 cfg0.N = (f3 (lay (fun i j => mo (gr P i j) (M 0 i j)) B) : S4x1024x384.Idx → EReal) := by
  refine (dats m 0 c).arrAt_eq_of_coversWhere_of_agree 6 _ (fun β => β (0 : Fin 3) < 1) (by decide +kernel) (fun t hf y => ?_) (fun j hj => ?_)
  · rw [after0_6, out_m P M m c h0 h2]
    exact (emb_6 (lay (fun i j => mo (gr P i j) (M 0 i j)) B) t y).symm
  · rw [A_eq]
    refine ((congrFun (ent_6 m c) j).trans (congrFun hb j)).trans (lay_rest _ _ j fun h => ?_)
    blk_simp [Pipeline.Window.cell_apply] at hj
    omega

include h0 h3 in
theorem arr_v (hb : m ((c.tc : Thread nD τ).loc main_arg7) = (f3 B : S4x1024x384.Idx → EReal)) :
    (dats m 0 c).arrAt 7 cfg0.N = (f3 (lay (fun i j => ve (gr P i j) (V 0 i j)) B) : S4x1024x384.Idx → EReal) := by
  refine (dats m 0 c).arrAt_eq_of_coversWhere_of_agree 7 _ (fun β => β (0 : Fin 3) < 1) (by decide +kernel) (fun t hf y => ?_) (fun j hj => ?_)
  · rw [after0_7, out_v P V m c h0 h3]
    exact (emb_7 (lay (fun i j => ve (gr P i j) (V 0 i j)) B) t y).symm
  · rw [A_eq]
    refine ((congrFun (ent_7 m c) j).trans (congrFun hb j)).trans (lay_rest _ _ j fun h => ?_)
    blk_simp [Pipeline.Window.cell_apply] at hj
    omega

end
end kernel

/-- The first layer of a stack, as the reference takes it. -/
theorem first_eq (x : FVec Ideal Cert.RefAdamUqIdeal.S4x1024x384 .f32) (X : ℕ → ℕ → ℕ → EReal) (hx : x = f3 X) :
    shapeCast Cert.RefAdamUqIdeal.S1024x384 (extractStridedSlice Cert.RefAdamUqIdeal.S1x1024x384 ![0, 0, 0] x Cert.RefAdamUqIdeal.Gen.slices_S4x1024x384_S1x1024x384_0_0_0)
      Cert.RefAdamUqIdeal.Gen.shapeCasts_S1x1024x384_S1024x384 = e2 (X 0) := by
  subst hx
  funext j
  idx_vars j
  pointwise
  rfl

end Cert.Opt.AdamUq
-- ==== Proof.AdamUkvVal.lean ====
module

public import proofs.«01_k».proof.Proof.RefStack
public import proofs.«01_k».proof.Proof.Gen.AdamUkvIdeal.Value
public import proofs.«01_k».proof.Proof.Gen.RefAdamUkvIdeal.Run
public import Idealize.ShloMosaic.Lib.Pipeline.ValueKit
public import Idealize.ShloMosaic.Lib.VecWindow

/-! The optimiser step of one layer of the keys' and values' up-projection in the stack of four: the kernel adds the devices' pieces up in
order and writes the gradient, the step and the two moments over the first layer of the four result stacks; the
reference's four arrays are in `RefStack`. -/

@[expose] public section

set_option maxRecDepth 16384

noncomputable section

namespace Cert.Opt.AdamUkv

open Idealize.ShloMosaic Idealize.ShloMosaic.TcCoe Cert.Mm Cert.Opt

section kernel
open Cert.AdamUkvIdeal Cert.AdamUkvIdeal.Gen

variable (P W M V B : ℕ → ℕ → ℕ → EReal) (G : ℕ → ℕ → EReal)

/-! The kernel's values on arrays written over natural-number indices. -/

theorem pay3_eq : k0_pay3 (F := Ideal) (row (P 0)) (row (P 1))
    (row (P 2)) (row (P 3)) (row (P 4))
    (row (P 5)) (row (P 6)) (row (P 7))
      = (e2 (gr P)) := by
  unfold k0_pay3
  funext j; idx_vars j; pointwise; simp only [row, f3_ix3, e2_ix2, gr]

theorem pay4_eq : k0_pay4 (F := Ideal) (e2 G) = row G := by
  unfold k0_pay4
  funext j; idx_vars j; pointwise; simp only [row, f3_ix3, e2_ix2]

theorem pay1_eq : k0_pay1 (F := Ideal) (k0_pay5 (e2 G) (row (M 0)))
    = row (fun i j => mo (G i j) (M 0 i j)) := by
  unfold k0_pay1 k0_pay5
  funext j; idx_vars j; pointwise; simp only [row, f3_ix3, e2_ix2, mo]

theorem pay2_eq : k0_pay2 (F := Ideal) (k0_pay6 (e2 G) (row (V 0)))
    = row (fun i j => ve (G i j) (V 0 i j)) := by
  unfold k0_pay2 k0_pay6
  funext j; idx_vars j; pointwise; simp only [row, f3_ix3, e2_ix2, ve]

theorem pay7_eq : k0_pay7 (F := Ideal) (e2 G) (row (W 0))
      (row (M 0)) (row (V 0))
    = row (fun i j => de (G i j) (W 0 i j) (M 0 i j) (V 0 i j)) := by
  unfold k0_pay7 k0_pay5 k0_pay6
  funext j; idx_vars j; pointwise; simp only [row, f3_ix3, e2_ix2, de, mo, ve]

/-! The windows' block numbers and the rows and columns of an element of a block. -/

/-- The first row of a grid point's block. -/
def ro (n : ℕ) : ℕ := 0 * n
/-- The first column of a grid point's block. -/
def co (n : ℕ) : ℕ := 0 * n

/-- The rows of `X` that a grid point sees. -/
def at' (n : ℕ) (X : ℕ → ℕ → ℕ → EReal) (k i j : ℕ) : EReal := X k (ro n + i) (co n + j)

theorem idx_0 : ∀ t : Fin cfg0.N, is3 ((cfg0.win 0).index t) 0 0 0 :=
  (by decide +kernel : ∀ t : Fin grid0.N, is3 (win0_0.index t) 0 0 0)
theorem idx_1 : ∀ t : Fin cfg0.N, is3 ((cfg0.win 1).index t) 0 0 0 :=
  (by decide +kernel : ∀ t : Fin grid0.N, is3 (win0_1.index t) 0 0 0)
theorem idx_2 : ∀ t : Fin cfg0.N, is3 ((cfg0.win 2).index t) 0 0 0 :=
  (by decide +kernel : ∀ t : Fin grid0.N, is3 (win0_2.index t) 0 0 0)
theorem idx_3 : ∀ t : Fin cfg0.N, is3 ((cfg0.win 3).index t) 0 0 0 :=
  (by decide +kernel : ∀ t : Fin grid0.N, is3 (win0_3.index t) 0 0 0)
theorem idx_4 : ∀ t : Fin cfg0.N, is3 ((cfg0.win 4).index t) 0 0 0 :=
  (by decide +kernel : ∀ t : Fin grid0.N, is3 (win0_4.index t) 0 0 0)
theorem idx_5 : ∀ t : Fin cfg0.N, is3 ((cfg0.win 5).index t) 0 0 0 :=
  (by decide +kernel : ∀ t : Fin grid0.N, is3 (win0_5.index t) 0 0 0)
theorem idx_6 : ∀ t : Fin cfg0.N, is3 ((cfg0.win 6).index t) 0 0 0 :=
  (by decide +kernel : ∀ t : Fin grid0.N, is3 (win0_6.index t) 0 0 0)
theorem idx_7 : ∀ t : Fin cfg0.N, is3 ((cfg0.win 7).index t) 0 0 0 :=
  (by decide +kernel : ∀ t : Fin grid0.N, is3 (win0_7.index t) 0 0 0)

variable (m : (ℓ : Loc nD τ sig) → Buf (Elt Ideal) ℓ) (c : Dev nD)

theorem emb_0 (X : ℕ → ℕ → ℕ → EReal) (t : Fin cfg0.N) (y : S8x512x512.Idx) :
    (f3 X : S8x512x512.Idx → EReal) (((cfg0.win 0).blk t).view.emb y) = at' t.val X (y 0).val (y 1).val (y 2).val := by
  obtain ⟨e0, e1, e2⟩ := idx_0 t
  refine f3_at X _ ?_ ?_ ?_ <;> blk_simp [e0, e1, e2, ro, co]

theorem emb_1 (X : ℕ → ℕ → ℕ → EReal) (t : Fin cfg0.N) (y : S1x512x512.Idx) :
    (f3 X : S4x512x512.Idx → EReal) (((cfg0.win 1).blk t).view.emb y) = at' t.val X 0 (y 1).val (y 2).val := by
  obtain ⟨e0, e1, e2⟩ := idx_1 t
  refine f3_at X _ ?_ ?_ ?_ <;> blk_simp [e0, e1, e2, ro, co]

theorem emb_2 (X : ℕ → ℕ → ℕ → EReal) (t : Fin cfg0.N) (y : S1x512x512.Idx) :
    (f3 X : S4x512x512.Idx → EReal) (((cfg0.win 2).blk t).view.emb y) = at' t.val X 0 (y 1).val (y 2).val := by
  obtain ⟨e0, e1, e2⟩ := idx_2 t
  refine f3_at X _ ?_ ?_ ?_ <;> blk_simp [e0, e1, e2, ro, co]

theorem emb_3 (X : ℕ → ℕ → ℕ → EReal) (t : Fin cfg0.N) (y : S1x512x512.Idx) :
    (f3 X : S4x512x512.Idx → EReal) (((cfg0.win 3).blk t).view.emb y) = at' t.val X 0 (y 1).val (y 2).val := by
  obtain ⟨e0, e1, e2⟩ := idx_3 t
  refine f3_at X _ ?_ ?_ ?_ <;> blk_simp [e0, e1, e2, ro, co]

theorem emb_4 (X : ℕ → ℕ → ℕ → EReal) (t : Fin cfg0.N) (y : S1x512x512.Idx) :
    (f3 X : S4x512x512.Idx → EReal) (((cfg0.win 4).blk t).view.emb y) = at' t.val X 0 (y 1).val (y 2).val := by
  obtain ⟨e0, e1, e2⟩ := idx_4 t
  refine f3_at X _ ?_ ?_ ?_ <;> blk_simp [e0, e1, e2, ro, co]

theorem emb_5 (X : ℕ → ℕ → ℕ → EReal) (t : Fin cfg0.N) (y : S1x512x512.Idx) :
    (f3 X : S4x512x512.Idx → EReal) (((cfg0.win 5).blk t).view.emb y) = at' t.val X 0 (y 1).val (y 2).val := by
  obtain ⟨e0, e1, e2⟩ := idx_5 t
  refine f3_at X _ ?_ ?_ ?_ <;> blk_simp [e0, e1, e2, ro, co]

theorem emb_6 (X : ℕ → ℕ → ℕ → EReal) (t : Fin cfg0.N) (y : S1x512x512.Idx) :
    (f3 X : S4x512x512.Idx → EReal) (((cfg0.win 6).blk t).view.emb y) = at' t.val X 0 (y 1).val (y 2).val := by
  obtain ⟨e0, e1, e2⟩ := idx_6 t
  refine f3_at X _ ?_ ?_ ?_ <;> blk_simp [e0, e1, e2, ro, co]

theorem emb_7 (X : ℕ → ℕ → ℕ → EReal) (t : Fin cfg0.N) (y : S1x512x512.Idx) :
    (f3 X : S4x512x512.Idx → EReal) (((cfg0.win 7).blk t).view.emb y) = at' t.val X 0 (y 1).val (y 2).val := by
  obtain ⟨e0, e1, e2⟩ := idx_7 t
  refine f3_at X _ ?_ ?_ ?_ <;> blk_simp [e0, e1, e2, ro, co]

/-! The result arrays are entered with copies of the other layers' arguments. -/

set_option maxHeartbeats 1000000 in
theorem ent_4 : Gen.V m c main_v0_0 = m ((c.tc : Thread nD τ).loc main_arg4) := by
  show StableHlo.after _ _ _ = _
  simp only [Gen.V, hostOps0, List.flatten_cons, List.flatten_nil, List.append_nil, List.cons_append, List.nil_append]
  entry_read
  rfl

set_option maxHeartbeats 1000000 in
theorem ent_5 : Gen.V m c main_v0_1 = m ((c.tc : Thread nD τ).loc main_arg5) := by
  show StableHlo.after _ _ _ = _
  simp only [Gen.V, hostOps0, List.flatten_cons, List.flatten_nil, List.append_nil, List.cons_append, List.nil_append]
  entry_read
  rfl

set_option maxHeartbeats 1000000 in
theorem ent_6 : Gen.V m c main_v0_2 = m ((c.tc : Thread nD τ).loc main_arg6) := by
  show StableHlo.after _ _ _ = _
  simp only [Gen.V, hostOps0, List.flatten_cons, List.flatten_nil, List.append_nil, List.cons_append, List.nil_append]
  entry_read
  rfl

set_option maxHeartbeats 1000000 in
theorem ent_7 : Gen.V m c main_v0_3 = m ((c.tc : Thread nD τ).loc main_arg7) := by
  show StableHlo.after _ _ _ = _
  simp only [Gen.V, hostOps0, List.flatten_cons, List.flatten_nil, List.append_nil, List.cons_append, List.nil_append]
  entry_read
  rfl

/-! The blocks of the arguments. -/

section
variable
  (h0 : m ((c.tc : Thread nD τ).loc main_arg0) = (f3 P : S8x512x512.Idx → EReal))
  (h1 : m ((c.tc : Thread nD τ).loc main_arg1) = (f3 W : S4x512x512.Idx → EReal))
  (h2 : m ((c.tc : Thread nD τ).loc main_arg2) = (f3 M : S4x512x512.Idx → EReal))
  (h3 : m ((c.tc : Thread nD τ).loc main_arg3) = (f3 V : S4x512x512.Idx → EReal))

include h0 in
theorem blk_0 (t : Fin cfg0.N) : iblk m c 0 t = f3 (at' t.val P) := by
  funext y
  unfold iblk
  refine Eq.trans (b := Gen.V m c main_arg0 (((cfg0.win 0).blk t).view.emb y)) rfl ?_
  rw [V_main_arg0, h0]
  exact emb_0 P t y

include h1 in
theorem blk_1 (t : Fin cfg0.N) : iblk m c 1 t = row (at' t.val W 0) := by
  funext y
  unfold iblk
  refine Eq.trans (b := Gen.V m c main_arg1 (((cfg0.win 1).blk t).view.emb y)) rfl ?_
  rw [V_main_arg1, h1]
  exact emb_1 W t y

include h2 in
theorem blk_2 (t : Fin cfg0.N) : iblk m c 2 t = row (at' t.val M 0) := by
  funext y
  unfold iblk
  refine Eq.trans (b := Gen.V m c main_arg2 (((cfg0.win 2).blk t).view.emb y)) rfl ?_
  rw [V_main_arg2, h2]
  exact emb_2 M t y

include h3 in
theorem blk_3 (t : Fin cfg0.N) : iblk m c 3 t = row (at' t.val V 0) := by
  funext y
  unfold iblk
  refine Eq.trans (b := Gen.V m c main_arg3 (((cfg0.win 3).blk t).view.emb y)) rfl ?_
  rw [V_main_arg3, h3]
  exact emb_3 V t y

include h0 in
/-- The sum of the pieces at a grid point. -/
theorem sum_eq (t : Fin cfg0.N) : kernelRun0_A.sl.r c (ms0_0 t) (hs0_0 t) (iblk m c 0 t) = (e2 (gr (at' t.val P))) := by
  unfold kernelRun0_A.sl.r
  rw [blk_0 P m c h0]
  refine Eq.trans ?_ (pay3_eq (at' t.val P))
  congr 1 <;> · rw [View.readAt_unit _ _ _ rfl (by decide), (hs0_0 t).read_unread]; exact window_f3 _ _

/-! What a grid point leaves in the four results' blocks. -/

include h0 in
theorem out_g (t : Fin cfg0.N) : (outsAt0 m c t).1 = row (gr (at' t.val P)) := by
  unfold outsAt0
  dsimp only
  unfold out0_A_4 kernelRun0_A
  rw [View.read_writes_full, sum_eq P m c h0]
  exact pay4_eq _

include h0 h1 h2 h3 in
theorem out_d (t : Fin cfg0.N) : (outsAt0 m c t).2.1
    = row (fun i j => de (gr (at' t.val P) i j) (at' t.val W 0 i j) (at' t.val M 0 i j) (at' t.val V 0 i j)) := by
  unfold outsAt0
  dsimp only
  unfold out0_A_5 kernelRun0_A
  rw [View.read_writes_full, sum_eq P m c h0, View.readAt_full, View.readAt_full, View.readAt_full, (hs0_1 t).read_unread, (hs0_2 t).read_unread, (hs0_3 t).read_unread,
    blk_1 W m c h1, blk_2 M m c h2, blk_3 V m c h3]
  exact pay7_eq (at' t.val W) (at' t.val M) (at' t.val V) _

include h0 h2 in
theorem out_m (t : Fin cfg0.N) : (outsAt0 m c t).2.2.1
    = row (fun i j => mo (gr (at' t.val P) i j) (at' t.val M 0 i j)) := by
  unfold outsAt0
  dsimp only
  unfold out0_A_6 kernelRun0_A
  rw [View.read_writes_full]
  unfold kernelRun0_A.sl.r_1
  rw [sum_eq P m c h0, View.readAt_full, (hs0_2 t).read_unread, blk_2 M m c h2]
  exact pay1_eq (at' t.val M) _

include h0 h3 in
theorem out_v (t : Fin cfg0.N) : (outsAt0 m c t).2.2.2
    = row (fun i j => ve (gr (at' t.val P) i j) (at' t.val V 0 i j)) := by
  unfold outsAt0
  dsimp only
  unfold out0_A_7 kernelRun0_A
  rw [View.read_writes_full]
  unfold kernelRun0_A.sl.r_2
  rw [sum_eq P m c h0, View.readAt_full, (hs0_3 t).read_unread, blk_3 V m c h3]
  exact pay2_eq (at' t.val V) _

/-! The four result arrays. -/

include h0 in
theorem arr_g (hb : m ((c.tc : Thread nD τ).loc main_arg4) = (f3 B : S4x512x512.Idx → EReal)) :
    (dats m 0 c).arrAt 4 cfg0.N = (f3 (lay (fun i j => gr P i j) B) : S4x512x512.Idx → EReal) := by
  refine (dats m 0 c).arrAt_eq_of_coversWhere_of_agree 4 _ (fun β => β (0 : Fin 3) < 1) (by decide +kernel) (fun t hf y => ?_) (fun j hj => ?_)
  · rw [after0_4, out_g P m c h0]
    exact (emb_4 (lay (fun i j => gr P i j) B) t y).symm
  · rw [A_eq]
    refine ((congrFun (ent_4 m c) j).trans (congrFun hb j)).trans (lay_rest _ _ j fun h => ?_)
    blk_simp [Pipeline.Window.cell_apply] at hj
    omega

include h0 h1 h2 h3 in
theorem arr_d (hb : m ((c.tc : Thread nD τ).loc main_arg5) = (f3 B : S4x512x512.Idx → EReal)) :
    (dats m 0 c).arrAt 5 cfg0.N = (f3 (lay (fun i j => de (gr P i j) (W 0 i j) (M 0 i j) (V 0 i j)) B) : S4x512x512.Idx → EReal) := by
  refine (dats m 0 c).arrAt_eq_of_coversWhere_of_agree 5 _ (fun β => β (0 : Fin 3) < 1) (by decide +kernel) (fun t hf y => ?_) (fun j hj => ?_)
  · rw [after0_5, out_d P W M V m c h0 h1 h2 h3]
    exact (emb_5 (lay (fun i j => de (gr P i j) (W 0 i j) (M 0 i j) (V 0 i j)) B) t y).symm
  · rw [A_eq]
    refine ((congrFun (ent_5 m c) j).trans (congrFun hb j)).trans (lay_rest _ _ j fun h => ?_)
    blk_simp [Pipeline.Window.cell_apply] at hj
    omega

include h0 h2 in
theorem arr_m (hb : m ((c.tc : Thread nD τ).loc main_arg6) = (f3 B : S4x512x512.Idx → EReal)) :
    (dats m 0 c).arrAt 6 cfg0.N = (f3 (lay (fun i j => mo (gr P i j) (M 0 i j)) B) : S4x512x512.Idx → EReal) := by
  refine (dats m 0 c).arrAt_eq_of_coversWhere_of_agree 6 _ (fun β => β (0 : Fin 3) < 1) (by decide +kernel) (fun t hf y => ?_) (fun j hj => ?_)
  · rw [after0_6, out_m P M m c h0 h2]
    exact (emb_6 (lay (fun i j => mo (gr P i j) (M 0 i j)) B) t y).symm
  · rw [A_eq]
    refine ((congrFun (ent_6 m c) j).trans (congrFun hb j)).trans (lay_rest _ _ j fun h => ?_)
    blk_simp [Pipeline.Window.cell_apply] at hj
    omega

include h0 h3 in
theorem arr_v (hb : m ((c.tc : Thread nD τ).loc main_arg7) = (f3 B : S4x512x512.Idx → EReal)) :
    (dats m 0 c).arrAt 7 cfg0.N = (f3 (lay (fun i j => ve (gr P i j) (V 0 i j)) B) : S4x512x512.Idx → EReal) := by
  refine (dats m 0 c).arrAt_eq_of_coversWhere_of_agree 7 _ (fun β => β (0 : Fin 3) < 1) (by decide +kernel) (fun t hf y => ?_) (fun j hj => ?_)
  · rw [after0_7, out_v P V m c h0 h3]
    exact (emb_7 (lay (fun i j => ve (gr P i j) (V 0 i j)) B) t y).symm
  · rw [A_eq]
    refine ((congrFun (ent_7 m c) j).trans (congrFun hb j)).trans (lay_rest _ _ j fun h => ?_)
    blk_simp [Pipeline.Window.cell_apply] at hj
    omega

end
end kernel

/-- The first layer of a stack, as the reference takes it. -/
theorem first_eq (x : FVec Ideal Cert.RefAdamUkvIdeal.S4x512x512 .f32) (X : ℕ → ℕ → ℕ → EReal) (hx : x = f3 X) :
    shapeCast Cert.RefAdamUkvIdeal.S512x512 (extractStridedSlice Cert.RefAdamUkvIdeal.S1x512x512 ![0, 0, 0] x Cert.RefAdamUkvIdeal.Gen.slices_S4x512x512_S1x512x512_0_0_0)
      Cert.RefAdamUkvIdeal.Gen.shapeCasts_S1x512x512_S512x512 = e2 (X 0) := by
  subst hx
  funext j
  idx_vars j
  pointwise
  rfl

end Cert.Opt.AdamUkv
-- ==== Proof.lean ====
module

public import proofs.«01_k».proof.Defs
public import proofs.«01_k».proof.Proof.Gen.MlaBwd.Frame
public import proofs.«01_k».proof.Proof.Gen.MlaBwdIdeal.Frame
public import proofs.«01_k».proof.Proof.Gen.MlaBwdIdeal.Value
public import proofs.«01_k».proof.Proof.Gen.RefMlaBwdIdeal.Run
public import proofs.«01_k».proof.Proof.Gen.Pre_finite_mla
public import proofs.«01_k».proof.Proof.Gen.AdamMeta.Frame
public import proofs.«01_k».proof.Proof.Gen.AdamMetaIdeal.Frame
public import proofs.«01_k».proof.Proof.Gen.AdamMetaIdeal.Value
public import proofs.«01_k».proof.Proof.Gen.RefAdamMetaIdeal.Run
public import proofs.«01_k».proof.Proof.Gen.AdamSmall.Frame
public import proofs.«01_k».proof.Proof.Gen.AdamSmallIdeal.Frame
public import proofs.«01_k».proof.Proof.Gen.AdamSmallIdeal.Value
public import proofs.«01_k».proof.Proof.Gen.RefAdamSmallIdeal.Run
public import proofs.«01_k».proof.Proof.Gen.SumA.Frame
public import proofs.«01_k».proof.Proof.Gen.SumAIdeal.Frame
public import proofs.«01_k».proof.Proof.Gen.SumAIdeal.Value
public import proofs.«01_k».proof.Proof.Gen.RefSumAIdeal.Run
public import proofs.«01_k».proof.Proof.Gen.SumB.Frame
public import proofs.«01_k».proof.Proof.Gen.SumBIdeal.Frame
public import proofs.«01_k».proof.Proof.Gen.SumBIdeal.Value
public import proofs.«01_k».proof.Proof.Gen.RefSumBIdeal.Run
public import proofs.«01_k».proof.Proof.Gen.AdamO.Frame
public import proofs.«01_k».proof.Proof.Gen.AdamOIdeal.Frame
public import proofs.«01_k».proof.Proof.Gen.AdamOIdeal.Value
public import proofs.«01_k».proof.Proof.Gen.RefAdamOIdeal.Run
public import proofs.«01_k».proof.Proof.Gen.AdamIn.Frame
public import proofs.«01_k».proof.Proof.Gen.AdamInIdeal.Frame
public import proofs.«01_k».proof.Proof.Gen.AdamInIdeal.Value
public import proofs.«01_k».proof.Proof.Gen.RefAdamInIdeal.Run
public import proofs.«01_k».proof.Proof.Gen.AdamUq.Frame
public import proofs.«01_k».proof.Proof.Gen.AdamUqIdeal.Frame
public import proofs.«01_k».proof.Proof.Gen.AdamUqIdeal.Value
public import proofs.«01_k».proof.Proof.Gen.RefAdamUqIdeal.Run
public import proofs.«01_k».proof.Proof.Gen.AdamUkv.Frame
public import proofs.«01_k».proof.Proof.Gen.AdamUkvIdeal.Frame
public import proofs.«01_k».proof.Proof.Gen.AdamUkvIdeal.Value
public import proofs.«01_k».proof.Proof.Gen.RefAdamUkvIdeal.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Dwn
public import proofs.«01_k».proof.Proof.Gen.Dwn.Skeleton
public import proofs.«01_k».proof.Proof.Gen.Dwn.Launch
public import proofs.«01_k».proof.Proof.Gen.Dwn.Points
public import proofs.«01_k».proof.Proof.Gen.Dwn.Frame
public import proofs.«01_k».proof.Proof.Gen.DwnIdeal
public import proofs.«01_k».proof.Proof.Gen.DwnIdeal.Skeleton
public import proofs.«01_k».proof.Proof.Gen.DwnIdeal.Launch
public import proofs.«01_k».proof.Proof.Gen.DwnIdeal.Points
public import proofs.«01_k».proof.Proof.Gen.DwnIdeal.Frame
public import proofs.«01_k».proof.Proof.Gen.DwnIdeal.Value
public import proofs.«01_k».proof.Proof.Gen.RefDwnIdeal
public import proofs.«01_k».proof.Proof.Gen.RefDwnIdeal.Run
public import proofs.«01_k».proof.Proof.Gen.Du
public import proofs.«01_k».proof.Proof.Gen.Du.Skeleton
public import proofs.«01_k».proof.Proof.Gen.Du.Launch
public import proofs.«01_k».proof.Proof.Gen.Du.Points
public import proofs.«01_k».proof.Proof.Gen.Du.Frame
public import proofs.«01_k».proof.Proof.Gen.DuIdeal
public import proofs.«01_k».proof.Proof.Gen.DuIdeal.Skeleton
public import proofs.«01_k».proof.Proof.Gen.DuIdeal.Launch
public import proofs.«01_k».proof.Proof.Gen.DuIdeal.Points
public import proofs.«01_k».proof.Proof.Gen.DuIdeal.Frame
public import proofs.«01_k».proof.Proof.Gen.DuIdeal.Value
public import proofs.«01_k».proof.Proof.Gen.RefDuIdeal
public import proofs.«01_k».proof.Proof.Gen.RefDuIdeal.Run
public import proofs.«01_k».proof.Proof.Gen.Dy
public import proofs.«01_k».proof.Proof.Gen.Dy.Skeleton
public import proofs.«01_k».proof.Proof.Gen.Dy.Launch
public import proofs.«01_k».proof.Proof.Gen.Dy.Points
public import proofs.«01_k».proof.Proof.Gen.Dy.Frame
public import proofs.«01_k».proof.Proof.Gen.DyIdeal
public import proofs.«01_k».proof.Proof.Gen.DyIdeal.Skeleton
public import proofs.«01_k».proof.Proof.Gen.DyIdeal.Launch
public import proofs.«01_k».proof.Proof.Gen.DyIdeal.Points
public import proofs.«01_k».proof.Proof.Gen.DyIdeal.Frame
public import proofs.«01_k».proof.Proof.Gen.DyIdeal.Value
public import proofs.«01_k».proof.Proof.Gen.RefDyIdeal
public import proofs.«01_k».proof.Proof.Gen.RefDyIdeal.Run
public import proofs.«01_k».proof.Proof.Gen.Dwo
public import proofs.«01_k».proof.Proof.Gen.Dwo.Skeleton
public import proofs.«01_k».proof.Proof.Gen.Dwo.Launch
public import proofs.«01_k».proof.Proof.Gen.Dwo.Points
public import proofs.«01_k».proof.Proof.Gen.Dwo.Frame
public import proofs.«01_k».proof.Proof.Gen.DwoIdeal
public import proofs.«01_k».proof.Proof.Gen.DwoIdeal.Skeleton
public import proofs.«01_k».proof.Proof.Gen.DwoIdeal.Launch
public import proofs.«01_k».proof.Proof.Gen.DwoIdeal.Points
public import proofs.«01_k».proof.Proof.Gen.DwoIdeal.Frame
public import proofs.«01_k».proof.Proof.Gen.DwoIdeal.Value
public import proofs.«01_k».proof.Proof.Gen.RefDwoIdeal
public import proofs.«01_k».proof.Proof.Gen.RefDwoIdeal.Run
public import proofs.«01_k».proof.Proof.Gen.Dcq
public import proofs.«01_k».proof.Proof.Gen.Dcq.Skeleton
public import proofs.«01_k».proof.Proof.Gen.Dcq.Launch
public import proofs.«01_k».proof.Proof.Gen.Dcq.Points
public import proofs.«01_k».proof.Proof.Gen.Dcq.Frame
public import proofs.«01_k».proof.Proof.Gen.DcqIdeal
public import proofs.«01_k».proof.Proof.Gen.DcqIdeal.Skeleton
public import proofs.«01_k».proof.Proof.Gen.DcqIdeal.Launch
public import proofs.«01_k».proof.Proof.Gen.DcqIdeal.Points
public import proofs.«01_k».proof.Proof.Gen.DcqIdeal.Frame
public import proofs.«01_k».proof.Proof.Gen.DcqIdeal.Value
public import proofs.«01_k».proof.Proof.Gen.RefDcqIdeal
public import proofs.«01_k».proof.Proof.Gen.RefDcqIdeal.Run
public import proofs.«01_k».proof.Proof.Gen.Dwuq
public import proofs.«01_k».proof.Proof.Gen.Dwuq.Skeleton
public import proofs.«01_k».proof.Proof.Gen.Dwuq.Launch
public import proofs.«01_k».proof.Proof.Gen.Dwuq.Points
public import proofs.«01_k».proof.Proof.Gen.Dwuq.Frame
public import proofs.«01_k».proof.Proof.Gen.DwuqIdeal
public import proofs.«01_k».proof.Proof.Gen.DwuqIdeal.Skeleton
public import proofs.«01_k».proof.Proof.Gen.DwuqIdeal.Launch
public import proofs.«01_k».proof.Proof.Gen.DwuqIdeal.Points
public import proofs.«01_k».proof.Proof.Gen.DwuqIdeal.Frame
public import proofs.«01_k».proof.Proof.Gen.DwuqIdeal.Value
public import proofs.«01_k».proof.Proof.Gen.RefDwuqIdeal
public import proofs.«01_k».proof.Proof.Gen.RefDwuqIdeal.Run
public import proofs.«01_k».proof.Proof.Gen.Dckv
public import proofs.«01_k».proof.Proof.Gen.Dckv.Skeleton
public import proofs.«01_k».proof.Proof.Gen.Dckv.Launch
public import proofs.«01_k».proof.Proof.Gen.Dckv.Points
public import proofs.«01_k».proof.Proof.Gen.Dckv.Frame
public import proofs.«01_k».proof.Proof.Gen.DckvIdeal
public import proofs.«01_k».proof.Proof.Gen.DckvIdeal.Skeleton
public import proofs.«01_k».proof.Proof.Gen.DckvIdeal.Launch
public import proofs.«01_k».proof.Proof.Gen.DckvIdeal.Points
public import proofs.«01_k».proof.Proof.Gen.DckvIdeal.Frame
public import proofs.«01_k».proof.Proof.Gen.DckvIdeal.Value
public import proofs.«01_k».proof.Proof.Gen.RefDckvIdeal
public import proofs.«01_k».proof.Proof.Gen.RefDckvIdeal.Run
public import proofs.«01_k».proof.Proof.Gen.Dwukv
public import proofs.«01_k».proof.Proof.Gen.Dwukv.Skeleton
public import proofs.«01_k».proof.Proof.Gen.Dwukv.Launch
public import proofs.«01_k».proof.Proof.Gen.Dwukv.Points
public import proofs.«01_k».proof.Proof.Gen.Dwukv.Frame
public import proofs.«01_k».proof.Proof.Gen.DwukvIdeal
public import proofs.«01_k».proof.Proof.Gen.DwukvIdeal.Skeleton
public import proofs.«01_k».proof.Proof.Gen.DwukvIdeal.Launch
public import proofs.«01_k».proof.Proof.Gen.DwukvIdeal.Points
public import proofs.«01_k».proof.Proof.Gen.DwukvIdeal.Frame
public import proofs.«01_k».proof.Proof.Gen.DwukvIdeal.Value
public import proofs.«01_k».proof.Proof.Gen.RefDwukvIdeal
public import proofs.«01_k».proof.Proof.Gen.RefDwukvIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.RefProjIdeal
public import proofs.«01_k».proof.Proof.Gen.RefProjIdeal.Run
public import proofs.«01_k».proof.Proof.Gen.UpQ
public import proofs.«01_k».proof.Proof.Gen.UpQ.Skeleton
public import proofs.«01_k».proof.Proof.Gen.UpQ.Launch
public import proofs.«01_k».proof.Proof.Gen.UpQ.Points
public import proofs.«01_k».proof.Proof.Gen.UpQ.Frame
public import proofs.«01_k».proof.Proof.Gen.UpQIdeal
public import proofs.«01_k».proof.Proof.Gen.UpQIdeal.Skeleton
public import proofs.«01_k».proof.Proof.Gen.UpQIdeal.Launch
public import proofs.«01_k».proof.Proof.Gen.UpQIdeal.Points
public import proofs.«01_k».proof.Proof.Gen.UpQIdeal.Frame
public import proofs.«01_k».proof.Proof.Gen.UpQIdeal.Value
public import proofs.«01_k».proof.Proof.Gen.RefUpQIdeal
public import proofs.«01_k».proof.Proof.Gen.RefUpQIdeal.Run
public import proofs.«01_k».proof.Proof.Gen.UpKv
public import proofs.«01_k».proof.Proof.Gen.UpKv.Skeleton
public import proofs.«01_k».proof.Proof.Gen.UpKv.Launch
public import proofs.«01_k».proof.Proof.Gen.UpKv.Points
public import proofs.«01_k».proof.Proof.Gen.UpKv.Frame
public import proofs.«01_k».proof.Proof.Gen.UpKvIdeal
public import proofs.«01_k».proof.Proof.Gen.UpKvIdeal.Skeleton
public import proofs.«01_k».proof.Proof.Gen.UpKvIdeal.Launch
public import proofs.«01_k».proof.Proof.Gen.UpKvIdeal.Points
public import proofs.«01_k».proof.Proof.Gen.UpKvIdeal.Frame
public import proofs.«01_k».proof.Proof.Gen.UpKvIdeal.Value
public import proofs.«01_k».proof.Proof.Gen.RefUpKvIdeal
public import proofs.«01_k».proof.Proof.Gen.RefUpKvIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.RefOutProjIdeal
public import proofs.«01_k».proof.Proof.Gen.RefOutProjIdeal.Run
public import proofs.«01_k».proof.Proof.Pre
public import proofs.«01_k».proof.Proof.Same
public import proofs.«01_k».proof.Proof.Dwn
public import proofs.«01_k».proof.Proof.Du
public import proofs.«01_k».proof.Proof.Dy
public import proofs.«01_k».proof.Proof.Dwo
public import proofs.«01_k».proof.Proof.Dcq
public import proofs.«01_k».proof.Proof.Dwuq
public import proofs.«01_k».proof.Proof.Dckv
public import proofs.«01_k».proof.Proof.Dwukv
public import proofs.«01_k».proof.Proof.Proj
public import proofs.«01_k».proof.Proof.UpQ
public import proofs.«01_k».proof.Proof.UpKv
public import proofs.«01_k».proof.Proof.OutProj
public import proofs.«01_k».proof.Proof.MlaPre
public import proofs.«01_k».proof.Proof.MlaSame
public import Idealize.ShloMosaic.Adequacy
public import Idealize.ShloMosaic.Init
public import proofs.«01_k».proof.Proof.Sums
public import proofs.«01_k».proof.Proof.AdamOVal
public import proofs.«01_k».proof.Proof.AdamInVal
public import proofs.«01_k».proof.Proof.AdamUqVal
public import proofs.«01_k».proof.Proof.AdamUkvVal

@[expose] public section

noncomputable section

namespace Cert.Proof

open Idealize.ShloMosaic Idealize.ShloMosaic.TcCoe Idealize.SL.Sem Cert.Stick

/-- The reference runs to its end and leaves its arguments as they were. -/
theorem frame_r (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1))
      ∧ r.2.sem = fun _ => 0) :=
  (θ_run _ _ _).mono (fun r h => ⟨fun c => (h c).2.2.2, sem_eq_zero_of_no_sems (by decide) r.2⟩) (ReferenceIdeal.Value.run m g)

/-- Under the precondition the kernel's three results are the reference's. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  have hr := fun c => @reals Cert.Pre_finite.Gen.facts _ _ (hp c)
  refine ⟨fun c => (KernelIdeal.Gen.dats m 0 c).arrAt 7 KernelIdeal.cfg0.N, fun c => (KernelIdeal.Gen.dats m 0 c).arrAt 8 KernelIdeal.cfg0.N,
    fun c => (KernelIdeal.Gen.dats m 0 c).arrAt 9 KernelIdeal.cfg0.N, Cert.KernelIdeal.Value.run_blocks m g, ?_⟩
  refine (θ_run _ _ _).mono (fun r h c => ?_) (Cert.ReferenceIdeal.Value.run m' g')
  obtain ⟨⟨PR, h0⟩, DR, h1⟩ := hr c
  obtain ⟨r0, r1, r2, r3, r4⟩ := h c
  have a0 := (ha c).1.trans h0
  have a1 := (ha c).2.trans h1
  have e0 : ReferenceIdeal.Value.res_out0 m' c = qDq (up2 PR) (up2 DR) := (res_dq m' c).trans (congr (congrArg qDq a0) a1)
  have e1 : ReferenceIdeal.Value.res_out1 m' c = qDk (up2 PR) (up2 DR) := (res_dk m' c).trans (congr (congrArg qDk a0) a1)
  have e2 : ReferenceIdeal.Value.res_out2 m' c = qDv (up2 PR) (up2 DR) := (res_dv m' c).trans (congr (congrArg qDv a0) a1)
  exact ⟨r0.trans (e0.trans (fin_q PR DR m c h0 h1).symm), r1.trans (e1.trans (fin_k PR DR m c h0 h1).symm),
    r2.trans (e2.trans (fin_v PR DR m c h0 h1).symm), r3, r4⟩

/-- The reference `RefDwn` runs to its end and leaves its arguments as they were. -/
theorem frame_Dwn : Cert.quiescent_RefDwnIdeal (hRefDwnIdeal := Cert.RefDwnIdeal.Gen.facts) :=
  fun m g _ => (θ_run _ _ _).mono (fun r h => ⟨fun c => (h c).2, sem_eq_zero_of_no_sems (by decide) r.2⟩) (RefDwnIdeal.Value.run m g)

/-- The kernel's gradient of the in-projection's weight is the reference's. -/
theorem value_Dwn : Cert.algebraic_DwnIdeal_RefDwnIdeal (hDwnIdeal := Cert.DwnIdeal.Gen.facts) (hRefDwnIdeal := Cert.RefDwnIdeal.Gen.facts) := by
  intro m g m' g' _ ha
  refine ⟨fun c => (DwnIdeal.Gen.dats m 0 c).arrAt 2 DwnIdeal.cfg0.N, Cert.DwnIdeal.Value.run_blocks m g, ?_⟩
  refine (θ_run _ _ _).mono (fun r h c => ?_) (Cert.RefDwnIdeal.Value.run m' g')
  obtain ⟨r0, r1, r2⟩ := h c
  obtain ⟨A, h0⟩ := Mm.exists_e2 (m ((c.tc : Thread DwnIdeal.nD DwnIdeal.τ).loc DwnIdeal.main_arg0))
  obtain ⟨B, h1⟩ := Mm.exists_e2 (m ((c.tc : Thread DwnIdeal.nD DwnIdeal.τ).loc DwnIdeal.main_arg1))
  rw [(ha c).1.trans h0, (ha c).2.trans h1] at r0
  exact ⟨r0.trans ((MmDwn.ref_eq A B).trans (MmDwn.arr m c A B h0 h1).symm), r1, r2⟩

/-- The reference `RefDu` runs to its end and leaves its arguments as they were. -/
theorem frame_Du : Cert.quiescent_RefDuIdeal (hRefDuIdeal := Cert.RefDuIdeal.Gen.facts) :=
  fun m g _ => (θ_run _ _ _).mono (fun r h => ⟨fun c => (h c).2, sem_eq_zero_of_no_sems (by decide) r.2⟩) (RefDuIdeal.Value.run m g)

/-- The kernel's cotangent of the normed rows is the reference's. -/
theorem value_Du : Cert.algebraic_DuIdeal_RefDuIdeal (hDuIdeal := Cert.DuIdeal.Gen.facts) (hRefDuIdeal := Cert.RefDuIdeal.Gen.facts) := by
  intro m g m' g' _ ha
  refine ⟨fun c => (DuIdeal.Gen.dats m 0 c).arrAt 2 DuIdeal.cfg0.N, Cert.DuIdeal.Value.run_blocks m g, ?_⟩
  refine (θ_run _ _ _).mono (fun r h c => ?_) (Cert.RefDuIdeal.Value.run m' g')
  obtain ⟨r0, r1, r2⟩ := h c
  obtain ⟨A, h0⟩ := Mm.exists_e2 (m ((c.tc : Thread DuIdeal.nD DuIdeal.τ).loc DuIdeal.main_arg0))
  obtain ⟨B, h1⟩ := Mm.exists_e2 (m ((c.tc : Thread DuIdeal.nD DuIdeal.τ).loc DuIdeal.main_arg1))
  rw [(ha c).1.trans h0, (ha c).2.trans h1] at r0
  exact ⟨r0.trans ((MmDu.ref_eq A B).trans (MmDu.arr m c A B h0 h1).symm), r1, r2⟩

/-- The reference `RefDy` runs to its end and leaves its arguments as they were. -/
theorem frame_Dy : Cert.quiescent_RefDyIdeal (hRefDyIdeal := Cert.RefDyIdeal.Gen.facts) :=
  fun m g _ => (θ_run _ _ _).mono (fun r h => ⟨fun c => (h c).2, sem_eq_zero_of_no_sems (by decide) r.2⟩) (RefDyIdeal.Value.run m g)

/-- The kernel's cotangent of the gated heads' outputs is the reference's. -/
theorem value_Dy : Cert.algebraic_DyIdeal_RefDyIdeal (hDyIdeal := Cert.DyIdeal.Gen.facts) (hRefDyIdeal := Cert.RefDyIdeal.Gen.facts) := by
  intro m g m' g' _ ha
  refine ⟨fun c => (DyIdeal.Gen.dats m 0 c).arrAt 2 DyIdeal.cfg0.N, Cert.DyIdeal.Value.run_blocks m g, ?_⟩
  refine (θ_run _ _ _).mono (fun r h c => ?_) (Cert.RefDyIdeal.Value.run m' g')
  obtain ⟨r0, r1, r2⟩ := h c
  obtain ⟨A, h0⟩ := Mm.exists_e2 (m ((c.tc : Thread DyIdeal.nD DyIdeal.τ).loc DyIdeal.main_arg0))
  obtain ⟨B, h1⟩ := Mm.exists_e2 (m ((c.tc : Thread DyIdeal.nD DyIdeal.τ).loc DyIdeal.main_arg1))
  rw [(ha c).1.trans h0, (ha c).2.trans h1] at r0
  exact ⟨r0.trans ((MmDy.ref_eq A B).trans (MmDy.arr m c A B h0 h1).symm), r1, r2⟩

/-- The reference `RefDwo` runs to its end and leaves its arguments as they were. -/
theorem frame_Dwo : Cert.quiescent_RefDwoIdeal (hRefDwoIdeal := Cert.RefDwoIdeal.Gen.facts) :=
  fun m g _ => (θ_run _ _ _).mono (fun r h => ⟨fun c => (h c).2, sem_eq_zero_of_no_sems (by decide) r.2⟩) (RefDwoIdeal.Value.run m g)

/-- The kernel's gradient of the out-projection's weight is the reference's. -/
theorem value_Dwo : Cert.algebraic_DwoIdeal_RefDwoIdeal (hDwoIdeal := Cert.DwoIdeal.Gen.facts) (hRefDwoIdeal := Cert.RefDwoIdeal.Gen.facts) := by
  intro m g m' g' _ ha
  refine ⟨fun c => (DwoIdeal.Gen.dats m 0 c).arrAt 2 DwoIdeal.cfg0.N, Cert.DwoIdeal.Value.run_blocks m g, ?_⟩
  refine (θ_run _ _ _).mono (fun r h c => ?_) (Cert.RefDwoIdeal.Value.run m' g')
  obtain ⟨r0, r1, r2⟩ := h c
  obtain ⟨A, h0⟩ := Mm.exists_e2 (m ((c.tc : Thread DwoIdeal.nD DwoIdeal.τ).loc DwoIdeal.main_arg0))
  obtain ⟨B, h1⟩ := Mm.exists_e2 (m ((c.tc : Thread DwoIdeal.nD DwoIdeal.τ).loc DwoIdeal.main_arg1))
  rw [(ha c).1.trans h0, (ha c).2.trans h1] at r0
  exact ⟨r0.trans ((MmDwo.ref_eq A B).trans (MmDwo.arr m c A B h0 h1).symm), r1, r2⟩

/-- The reference `RefDcq` runs to its end and leaves its arguments as they were. -/
theorem frame_Dcq : Cert.quiescent_RefDcqIdeal (hRefDcqIdeal := Cert.RefDcqIdeal.Gen.facts) :=
  fun m g _ => (θ_run _ _ _).mono (fun r h => ⟨fun c => (h c).2, sem_eq_zero_of_no_sems (by decide) r.2⟩) (RefDcqIdeal.Value.run m g)

/-- The kernel's cotangent of the normed query compression is the reference's. -/
theorem value_Dcq : Cert.algebraic_DcqIdeal_RefDcqIdeal (hDcqIdeal := Cert.DcqIdeal.Gen.facts) (hRefDcqIdeal := Cert.RefDcqIdeal.Gen.facts) := by
  intro m g m' g' _ ha
  refine ⟨fun c => (DcqIdeal.Gen.dats m 0 c).arrAt 2 DcqIdeal.cfg0.N, Cert.DcqIdeal.Value.run_blocks m g, ?_⟩
  refine (θ_run _ _ _).mono (fun r h c => ?_) (Cert.RefDcqIdeal.Value.run m' g')
  obtain ⟨r0, r1, r2⟩ := h c
  obtain ⟨A, h0⟩ := Mm.exists_e2 (m ((c.tc : Thread DcqIdeal.nD DcqIdeal.τ).loc DcqIdeal.main_arg0))
  obtain ⟨B, h1⟩ := Mm.exists_e2 (m ((c.tc : Thread DcqIdeal.nD DcqIdeal.τ).loc DcqIdeal.main_arg1))
  rw [(ha c).1.trans h0, (ha c).2.trans h1] at r0
  exact ⟨r0.trans ((MmDcq.ref_eq A B).trans (MmDcq.arr m c A B h0 h1).symm), r1, r2⟩

/-- The reference `RefDwuq` runs to its end and leaves its arguments as they were. -/
theorem frame_Dwuq : Cert.quiescent_RefDwuqIdeal (hRefDwuqIdeal := Cert.RefDwuqIdeal.Gen.facts) :=
  fun m g _ => (θ_run _ _ _).mono (fun r h => ⟨fun c => (h c).2, sem_eq_zero_of_no_sems (by decide) r.2⟩) (RefDwuqIdeal.Value.run m g)

/-- The kernel's gradient of the query up-projection's weight is the reference's. -/
theorem value_Dwuq : Cert.algebraic_DwuqIdeal_RefDwuqIdeal (hDwuqIdeal := Cert.DwuqIdeal.Gen.facts) (hRefDwuqIdeal := Cert.RefDwuqIdeal.Gen.facts) := by
  intro m g m' g' _ ha
  refine ⟨fun c => (DwuqIdeal.Gen.dats m 0 c).arrAt 2 DwuqIdeal.cfg0.N, Cert.DwuqIdeal.Value.run_blocks m g, ?_⟩
  refine (θ_run _ _ _).mono (fun r h c => ?_) (Cert.RefDwuqIdeal.Value.run m' g')
  obtain ⟨r0, r1, r2⟩ := h c
  obtain ⟨A, h0⟩ := Mm.exists_e2 (m ((c.tc : Thread DwuqIdeal.nD DwuqIdeal.τ).loc DwuqIdeal.main_arg0))
  obtain ⟨B, h1⟩ := Mm.exists_e2 (m ((c.tc : Thread DwuqIdeal.nD DwuqIdeal.τ).loc DwuqIdeal.main_arg1))
  rw [(ha c).1.trans h0, (ha c).2.trans h1] at r0
  exact ⟨r0.trans ((MmDwuq.ref_eq A B).trans (MmDwuq.arr m c A B h0 h1).symm), r1, r2⟩

/-- The reference `RefDckv` runs to its end and leaves its arguments as they were. -/
theorem frame_Dckv : Cert.quiescent_RefDckvIdeal (hRefDckvIdeal := Cert.RefDckvIdeal.Gen.facts) :=
  fun m g _ => (θ_run _ _ _).mono (fun r h => ⟨fun c => (h c).2, sem_eq_zero_of_no_sems (by decide) r.2⟩) (RefDckvIdeal.Value.run m g)

/-- The kernel's cotangent of the normed joint compression is the reference's. -/
theorem value_Dckv : Cert.algebraic_DckvIdeal_RefDckvIdeal (hDckvIdeal := Cert.DckvIdeal.Gen.facts) (hRefDckvIdeal := Cert.RefDckvIdeal.Gen.facts) := by
  intro m g m' g' _ ha
  refine ⟨fun c => (DckvIdeal.Gen.dats m 0 c).arrAt 2 DckvIdeal.cfg0.N, Cert.DckvIdeal.Value.run_blocks m g, ?_⟩
  refine (θ_run _ _ _).mono (fun r h c => ?_) (Cert.RefDckvIdeal.Value.run m' g')
  obtain ⟨r0, r1, r2⟩ := h c
  obtain ⟨A, h0⟩ := Mm.exists_e2 (m ((c.tc : Thread DckvIdeal.nD DckvIdeal.τ).loc DckvIdeal.main_arg0))
  obtain ⟨B, h1⟩ := Mm.exists_e2 (m ((c.tc : Thread DckvIdeal.nD DckvIdeal.τ).loc DckvIdeal.main_arg1))
  rw [(ha c).1.trans h0, (ha c).2.trans h1] at r0
  exact ⟨r0.trans ((MmDckv.ref_eq A B).trans (MmDckv.arr m c A B h0 h1).symm), r1, r2⟩

/-- The reference `RefDwukv` runs to its end and leaves its arguments as they were. -/
theorem frame_Dwukv : Cert.quiescent_RefDwukvIdeal (hRefDwukvIdeal := Cert.RefDwukvIdeal.Gen.facts) :=
  fun m g _ => (θ_run _ _ _).mono (fun r h => ⟨fun c => (h c).2, sem_eq_zero_of_no_sems (by decide) r.2⟩) (RefDwukvIdeal.Value.run m g)

/-- The kernel's gradient of the key and value up-projection's weight is the reference's. -/
theorem value_Dwukv : Cert.algebraic_DwukvIdeal_RefDwukvIdeal (hDwukvIdeal := Cert.DwukvIdeal.Gen.facts) (hRefDwukvIdeal := Cert.RefDwukvIdeal.Gen.facts) := by
  intro m g m' g' _ ha
  refine ⟨fun c => (DwukvIdeal.Gen.dats m 0 c).arrAt 2 DwukvIdeal.cfg0.N, Cert.DwukvIdeal.Value.run_blocks m g, ?_⟩
  refine (θ_run _ _ _).mono (fun r h c => ?_) (Cert.RefDwukvIdeal.Value.run m' g')
  obtain ⟨r0, r1, r2⟩ := h c
  obtain ⟨A, h0⟩ := Mm.exists_e2 (m ((c.tc : Thread DwukvIdeal.nD DwukvIdeal.τ).loc DwukvIdeal.main_arg0))
  obtain ⟨B, h1⟩ := Mm.exists_e2 (m ((c.tc : Thread DwukvIdeal.nD DwukvIdeal.τ).loc DwukvIdeal.main_arg1))
  rw [(ha c).1.trans h0, (ha c).2.trans h1] at r0
  exact ⟨r0.trans ((MmDwukv.ref_eq A B).trans (MmDwukv.arr m c A B h0 h1).symm), r1, r2⟩

/-- The reference `RefProj` runs to its end and leaves its arguments as they were. -/
theorem frame_Proj : Cert.quiescent_RefProjIdeal (hRefProjIdeal := Cert.RefProjIdeal.Gen.facts) :=
  fun m g _ => (θ_run _ _ _).mono (fun r h => ⟨fun c => (h c).2, sem_eq_zero_of_no_sems (by decide) r.2⟩) (RefProjIdeal.Value.run m g)

/-- The kernel's in-projection is the reference's. -/
theorem value_Proj : Cert.algebraic_ProjIdeal_RefProjIdeal (hProjIdeal := Cert.ProjIdeal.Gen.facts) (hRefProjIdeal := Cert.RefProjIdeal.Gen.facts) := by
  intro m g m' g' _ ha
  refine ⟨fun c => (ProjIdeal.Gen.dats m 0 c).arrAt 2 ProjIdeal.cfg0.N, Cert.ProjIdeal.Value.run_blocks m g, ?_⟩
  refine (θ_run _ _ _).mono (fun r h c => ?_) (Cert.RefProjIdeal.Value.run m' g')
  obtain ⟨r0, r1, r2⟩ := h c
  obtain ⟨A, h0⟩ := Mm.exists_e2 (m ((c.tc : Thread ProjIdeal.nD ProjIdeal.τ).loc ProjIdeal.main_arg0))
  obtain ⟨B, h1⟩ := Mm.exists_e2 (m ((c.tc : Thread ProjIdeal.nD ProjIdeal.τ).loc ProjIdeal.main_arg1))
  rw [(ha c).1.trans h0, (ha c).2.trans h1] at r0
  exact ⟨r0.trans ((MmProj.ref_eq A B).trans (MmProj.arr m c A B h0 h1).symm), r1, r2⟩

/-- The reference `RefUpQ` runs to its end and leaves its arguments as they were. -/
theorem frame_UpQ : Cert.quiescent_RefUpQIdeal (hRefUpQIdeal := Cert.RefUpQIdeal.Gen.facts) :=
  fun m g _ => (θ_run _ _ _).mono (fun r h => ⟨fun c => (h c).2, sem_eq_zero_of_no_sems (by decide) r.2⟩) (RefUpQIdeal.Value.run m g)

/-- The kernel's query up-projection is the reference's. -/
theorem value_UpQ : Cert.algebraic_UpQIdeal_RefUpQIdeal (hUpQIdeal := Cert.UpQIdeal.Gen.facts) (hRefUpQIdeal := Cert.RefUpQIdeal.Gen.facts) := by
  intro m g m' g' _ ha
  refine ⟨fun c => (UpQIdeal.Gen.dats m 0 c).arrAt 2 UpQIdeal.cfg0.N, Cert.UpQIdeal.Value.run_blocks m g, ?_⟩
  refine (θ_run _ _ _).mono (fun r h c => ?_) (Cert.RefUpQIdeal.Value.run m' g')
  obtain ⟨r0, r1, r2⟩ := h c
  obtain ⟨A, h0⟩ := Mm.exists_e2 (m ((c.tc : Thread UpQIdeal.nD UpQIdeal.τ).loc UpQIdeal.main_arg0))
  obtain ⟨B, h1⟩ := Mm.exists_e2 (m ((c.tc : Thread UpQIdeal.nD UpQIdeal.τ).loc UpQIdeal.main_arg1))
  rw [(ha c).1.trans h0, (ha c).2.trans h1] at r0
  exact ⟨r0.trans ((MmUpQ.ref_eq A B).trans (MmUpQ.arr m c A B h0 h1).symm), r1, r2⟩

/-- The reference `RefUpKv` runs to its end and leaves its arguments as they were. -/
theorem frame_UpKv : Cert.quiescent_RefUpKvIdeal (hRefUpKvIdeal := Cert.RefUpKvIdeal.Gen.facts) :=
  fun m g _ => (θ_run _ _ _).mono (fun r h => ⟨fun c => (h c).2, sem_eq_zero_of_no_sems (by decide) r.2⟩) (RefUpKvIdeal.Value.run m g)

/-- The kernel's up-projection of keys and values is the reference's. -/
theorem value_UpKv : Cert.algebraic_UpKvIdeal_RefUpKvIdeal (hUpKvIdeal := Cert.UpKvIdeal.Gen.facts) (hRefUpKvIdeal := Cert.RefUpKvIdeal.Gen.facts) := by
  intro m g m' g' _ ha
  refine ⟨fun c => (UpKvIdeal.Gen.dats m 0 c).arrAt 2 UpKvIdeal.cfg0.N, Cert.UpKvIdeal.Value.run_blocks m g, ?_⟩
  refine (θ_run _ _ _).mono (fun r h c => ?_) (Cert.RefUpKvIdeal.Value.run m' g')
  obtain ⟨r0, r1, r2⟩ := h c
  obtain ⟨A, h0⟩ := Mm.exists_e2 (m ((c.tc : Thread UpKvIdeal.nD UpKvIdeal.τ).loc UpKvIdeal.main_arg0))
  obtain ⟨B, h1⟩ := Mm.exists_e2 (m ((c.tc : Thread UpKvIdeal.nD UpKvIdeal.τ).loc UpKvIdeal.main_arg1))
  rw [(ha c).1.trans h0, (ha c).2.trans h1] at r0
  exact ⟨r0.trans ((MmUpKv.ref_eq A B).trans (MmUpKv.arr m c A B h0 h1).symm), r1, r2⟩

/-- The reference `RefOutProj` runs to its end and leaves its arguments as they were. -/
theorem frame_OutProj : Cert.quiescent_RefOutProjIdeal (hRefOutProjIdeal := Cert.RefOutProjIdeal.Gen.facts) :=
  fun m g _ => (θ_run _ _ _).mono (fun r h => ⟨fun c => (h c).2, sem_eq_zero_of_no_sems (by decide) r.2⟩) (RefOutProjIdeal.Value.run m g)

/-- The kernel's out-projection with the layer's input added is the reference's. -/
theorem value_OutProj : Cert.algebraic_OutProjIdeal_RefOutProjIdeal (hOutProjIdeal := Cert.OutProjIdeal.Gen.facts) (hRefOutProjIdeal := Cert.RefOutProjIdeal.Gen.facts) := by
  intro m g m' g' _ ha
  refine ⟨fun c => (OutProjIdeal.Gen.dats m 0 c).arrAt 3 OutProjIdeal.cfg0.N, Cert.OutProjIdeal.Value.run_blocks m g, ?_⟩
  refine (θ_run _ _ _).mono (fun r h c => ?_) (Cert.RefOutProjIdeal.Value.run m' g')
  obtain ⟨r0, r1, r2, r3⟩ := h c
  obtain ⟨A, h0⟩ := Mm.exists_e2 (m ((c.tc : Thread OutProjIdeal.nD OutProjIdeal.τ).loc OutProjIdeal.main_arg0))
  obtain ⟨B, h1⟩ := Mm.exists_e2 (m ((c.tc : Thread OutProjIdeal.nD OutProjIdeal.τ).loc OutProjIdeal.main_arg1))
  obtain ⟨C, h2⟩ := Mm.exists_e2 (m ((c.tc : Thread OutProjIdeal.nD OutProjIdeal.τ).loc OutProjIdeal.main_arg2))
  rw [(ha c).1.trans h0, (ha c).2.1.trans h1, (ha c).2.2.trans h2] at r0
  exact ⟨r0.trans ((MmOutProj.ref_eq A B C).trans (MmOutProj.arr m c A B C h0 h1 h2).symm), r1, r2, r3⟩

/-- The reference `RefMlaBwd` runs to its end and leaves its arguments as they were. -/
theorem frame_m (m : (ℓ : Loc RefMlaBwdIdeal.nD RefMlaBwdIdeal.τ RefMlaBwdIdeal.sig) → Buf (Elt Ideal) ℓ) (g : Dev RefMlaBwdIdeal.nD → PrngReg) :
    θ_run (RefMlaBwdIdeal.defs (F := Ideal)) (onTc (τ := RefMlaBwdIdeal.τ) (RefMlaBwdIdeal.main (F := Ideal))) ⟨m, fun _ => 0, g⟩ (fun r => (∀ c : Dev RefMlaBwdIdeal.nD,
      r.2.mem ((c.tc : Thread RefMlaBwdIdeal.nD RefMlaBwdIdeal.τ).loc RefMlaBwdIdeal.main_arg0) = m ((c.tc : Thread RefMlaBwdIdeal.nD RefMlaBwdIdeal.τ).loc RefMlaBwdIdeal.main_arg0)
      ∧ r.2.mem ((c.tc : Thread RefMlaBwdIdeal.nD RefMlaBwdIdeal.τ).loc RefMlaBwdIdeal.main_arg1) = m ((c.tc : Thread RefMlaBwdIdeal.nD RefMlaBwdIdeal.τ).loc RefMlaBwdIdeal.main_arg1)
      ∧ r.2.mem ((c.tc : Thread RefMlaBwdIdeal.nD RefMlaBwdIdeal.τ).loc RefMlaBwdIdeal.main_arg2) = m ((c.tc : Thread RefMlaBwdIdeal.nD RefMlaBwdIdeal.τ).loc RefMlaBwdIdeal.main_arg2)
      ∧ r.2.mem ((c.tc : Thread RefMlaBwdIdeal.nD RefMlaBwdIdeal.τ).loc RefMlaBwdIdeal.main_arg3) = m ((c.tc : Thread RefMlaBwdIdeal.nD RefMlaBwdIdeal.τ).loc RefMlaBwdIdeal.main_arg3))
      ∧ r.2.sem = fun _ => 0) :=
  (θ_run _ _ _).mono (fun r h => ⟨fun c => (h c).2.2.2, sem_eq_zero_of_no_sems (by decide) r.2⟩) (RefMlaBwdIdeal.Value.run m g)

theorem frame_AdamMeta : Cert.quiescent_RefAdamMetaIdeal (hRefAdamMetaIdeal := Cert.RefAdamMetaIdeal.Gen.facts) :=
  fun m g _ => (θ_run _ _ _).mono (fun r h => ⟨fun c => (h c).2.2.2, sem_eq_zero_of_no_sems (by decide) r.2⟩) (RefAdamMetaIdeal.Value.run m g)

theorem frame_AdamSmall : Cert.quiescent_RefAdamSmallIdeal (hRefAdamSmallIdeal := Cert.RefAdamSmallIdeal.Gen.facts) :=
  fun m g _ => (θ_run _ _ _).mono (fun r h => ⟨fun c => (h c).2.2.2, sem_eq_zero_of_no_sems (by decide) r.2⟩) (RefAdamSmallIdeal.Value.run m g)

theorem frame_SumA : Cert.quiescent_RefSumAIdeal (hRefSumAIdeal := Cert.RefSumAIdeal.Gen.facts) :=
  fun m g _ => (θ_run _ _ _).mono (fun r h => ⟨fun c => (h c).2, sem_eq_zero_of_no_sems (by decide) r.2⟩) (RefSumAIdeal.Value.run m g)

theorem frame_SumB : Cert.quiescent_RefSumBIdeal (hRefSumBIdeal := Cert.RefSumBIdeal.Gen.facts) :=
  fun m g _ => (θ_run _ _ _).mono (fun r h => ⟨fun c => (h c).2, sem_eq_zero_of_no_sems (by decide) r.2⟩) (RefSumBIdeal.Value.run m g)

theorem frame_AdamO : Cert.quiescent_RefAdamOIdeal (hRefAdamOIdeal := Cert.RefAdamOIdeal.Gen.facts) :=
  fun m g _ => (θ_run _ _ _).mono (fun r h => ⟨fun c => (h c).2.2.2.2, sem_eq_zero_of_no_sems (by decide) r.2⟩) (RefAdamOIdeal.Value.run m g)

theorem frame_AdamIn : Cert.quiescent_RefAdamInIdeal (hRefAdamInIdeal := Cert.RefAdamInIdeal.Gen.facts) :=
  fun m g _ => (θ_run _ _ _).mono (fun r h => ⟨fun c => (h c).2.2.2.2, sem_eq_zero_of_no_sems (by decide) r.2⟩) (RefAdamInIdeal.Value.run m g)

theorem frame_AdamUq : Cert.quiescent_RefAdamUqIdeal (hRefAdamUqIdeal := Cert.RefAdamUqIdeal.Gen.facts) :=
  fun m g _ => (θ_run _ _ _).mono (fun r h => ⟨fun c => (h c).2.2.2.2, sem_eq_zero_of_no_sems (by decide) r.2⟩) (RefAdamUqIdeal.Value.run m g)

theorem frame_AdamUkv : Cert.quiescent_RefAdamUkvIdeal (hRefAdamUkvIdeal := Cert.RefAdamUkvIdeal.Gen.facts) :=
  fun m g _ => (θ_run _ _ _).mono (fun r h => ⟨fun c => (h c).2.2.2.2, sem_eq_zero_of_no_sems (by decide) r.2⟩) (RefAdamUkvIdeal.Value.run m g)

/-- The optimiser step of the meta tokens: the step and the two moments are the reference's. -/
theorem value_AdamMeta : Cert.algebraic_AdamMetaIdeal_RefAdamMetaIdeal (hAdamMetaIdeal := Cert.AdamMetaIdeal.Gen.facts) (hRefAdamMetaIdeal := Cert.RefAdamMetaIdeal.Gen.facts) := by
  intro m g m' g' _ ha
  refine ⟨_, _, _, Cert.AdamMetaIdeal.Value.run m g, ?_⟩
  refine (θ_run _ _ _).mono (fun r h c => ?_) (Cert.RefAdamMetaIdeal.Value.run m' g')
  obtain ⟨r0, r1, r2, k⟩ := h c
  obtain ⟨a0, a1, a2, a3⟩ := ha c
  refine ⟨r0.trans ?_, r1.trans ?_, r2.trans ?_, k⟩
  · rw [a0, a1, a2, a3]; rfl
  · rw [a0, a2]; rfl
  · rw [a0, a3]; rfl

/-- The optimiser step of the small weights: the step and the two moments are the reference's. -/
theorem value_AdamSmall : Cert.algebraic_AdamSmallIdeal_RefAdamSmallIdeal (hAdamSmallIdeal := Cert.AdamSmallIdeal.Gen.facts) (hRefAdamSmallIdeal := Cert.RefAdamSmallIdeal.Gen.facts) := by
  intro m g m' g' _ ha
  refine ⟨_, _, _, Cert.AdamSmallIdeal.Value.run m g, ?_⟩
  refine (θ_run _ _ _).mono (fun r h c => ?_) (Cert.RefAdamSmallIdeal.Value.run m' g')
  obtain ⟨r0, r1, r2, k⟩ := h c
  obtain ⟨a0, a1, a2, a3⟩ := ha c
  refine ⟨r0.trans ?_, r1.trans ?_, r2.trans ?_, k⟩
  · rw [a0, a1, a2, a3]; rfl
  · rw [a0, a2]; rfl
  · rw [a0, a3]; rfl

/-- The sum of the devices' packed rows: the reference's sum along the first axis. -/
theorem value_SumA : Cert.algebraic_SumAIdeal_RefSumAIdeal (hSumAIdeal := Cert.SumAIdeal.Gen.facts) (hRefSumAIdeal := Cert.RefSumAIdeal.Gen.facts) := by
  intro m g m' g' _ ha
  refine ⟨_, Cert.SumAIdeal.Value.run m g, ?_⟩
  refine (θ_run _ _ _).mono (fun r h c => ?_) (Cert.RefSumAIdeal.Value.run m' g')
  obtain ⟨r0, k⟩ := h c
  refine ⟨r0.trans ?_, k⟩
  rw [ha c]
  exact (Cert.sum_SumA _).symm

/-- The sum of the devices' packed rows: the reference's sum along the first axis. -/
theorem value_SumB : Cert.algebraic_SumBIdeal_RefSumBIdeal (hSumBIdeal := Cert.SumBIdeal.Gen.facts) (hRefSumBIdeal := Cert.RefSumBIdeal.Gen.facts) := by
  intro m g m' g' _ ha
  refine ⟨_, Cert.SumBIdeal.Value.run m g, ?_⟩
  refine (θ_run _ _ _).mono (fun r h c => ?_) (Cert.RefSumBIdeal.Value.run m' g')
  obtain ⟨r0, k⟩ := h c
  refine ⟨r0.trans ?_, k⟩
  rw [ha c]
  exact (Cert.sum_SumB _).symm

/-- The optimiser step of the first layer of the output weights: the stacks of the gradient, the step and the two moments are the
    reference's. -/
theorem value_AdamO : Cert.algebraic_AdamOIdeal_RefAdamOIdeal (hAdamOIdeal := Cert.AdamOIdeal.Gen.facts) (hRefAdamOIdeal := Cert.RefAdamOIdeal.Gen.facts) := by
  intro m g m' g' _ ha
  refine ⟨fun c => (AdamOIdeal.Gen.dats m 0 c).arrAt 4 AdamOIdeal.cfg0.N, fun c => (AdamOIdeal.Gen.dats m 0 c).arrAt 5 AdamOIdeal.cfg0.N,
    fun c => (AdamOIdeal.Gen.dats m 0 c).arrAt 6 AdamOIdeal.cfg0.N, fun c => (AdamOIdeal.Gen.dats m 0 c).arrAt 7 AdamOIdeal.cfg0.N, Cert.AdamOIdeal.Value.run_blocks m g, ?_⟩
  refine (θ_run _ _ _).mono (fun r h c => ?_) (Cert.RefAdamOIdeal.Value.run m' g')
  obtain ⟨r0, r1, r2, r3, k⟩ := h c
  obtain ⟨a0, a1, a2, a3, a4, a5, a6, a7⟩ := ha c
  refine ⟨r0.trans ?_, r1.trans ?_, r2.trans ?_, r3.trans ?_, k⟩
  · exact (Opt.Ref.ref_g (by decide) (by decide) _ _ _ _ _ _ _ _ _ _ (a0.trans (Opt.nat3_eq _)) (a4.trans (Opt.nat3_eq _))).trans (Opt.AdamO.arr_g _ _ m c (Opt.nat3_eq _) (Opt.nat3_eq _)).symm
  · exact (Opt.Ref.ref_d (by decide) (by decide) _ _ _ _ _ _ _ _ _ _ _ _ _ _ _ _ _ (a0.trans (Opt.nat3_eq _)) (a5.trans (Opt.nat3_eq _)) (Opt.AdamO.first_eq _ _ (a1.trans (Opt.nat3_eq _))) (Opt.AdamO.first_eq _ _ (a2.trans (Opt.nat3_eq _))) (Opt.AdamO.first_eq _ _ (a3.trans (Opt.nat3_eq _)))).trans (Opt.AdamO.arr_d _ _ _ _ _ m c (Opt.nat3_eq _) (Opt.nat3_eq _) (Opt.nat3_eq _) (Opt.nat3_eq _) (Opt.nat3_eq _)).symm
  · exact (Opt.Ref.ref_m (by decide) (by decide) _ _ _ _ _ _ _ _ _ _ _ _ _ (a0.trans (Opt.nat3_eq _)) (a6.trans (Opt.nat3_eq _)) (Opt.AdamO.first_eq _ _ (a2.trans (Opt.nat3_eq _)))).trans (Opt.AdamO.arr_m _ _ _ m c (Opt.nat3_eq _) (Opt.nat3_eq _) (Opt.nat3_eq _)).symm
  · exact (Opt.Ref.ref_v (by decide) (by decide) _ _ _ _ _ _ _ _ _ _ _ _ _ (a0.trans (Opt.nat3_eq _)) (a7.trans (Opt.nat3_eq _)) (Opt.AdamO.first_eq _ _ (a3.trans (Opt.nat3_eq _)))).trans (Opt.AdamO.arr_v _ _ _ m c (Opt.nat3_eq _) (Opt.nat3_eq _) (Opt.nat3_eq _)).symm

/-- The optimiser step of the first layer of the transposed input weights: the stacks of the gradient, the step and the two moments are the
    reference's. -/
theorem value_AdamIn : Cert.algebraic_AdamInIdeal_RefAdamInIdeal (hAdamInIdeal := Cert.AdamInIdeal.Gen.facts) (hRefAdamInIdeal := Cert.RefAdamInIdeal.Gen.facts) := by
  intro m g m' g' _ ha
  refine ⟨fun c => (AdamInIdeal.Gen.dats m 0 c).arrAt 4 AdamInIdeal.cfg0.N, fun c => (AdamInIdeal.Gen.dats m 0 c).arrAt 5 AdamInIdeal.cfg0.N,
    fun c => (AdamInIdeal.Gen.dats m 0 c).arrAt 6 AdamInIdeal.cfg0.N, fun c => (AdamInIdeal.Gen.dats m 0 c).arrAt 7 AdamInIdeal.cfg0.N, Cert.AdamInIdeal.Value.run_blocks m g, ?_⟩
  refine (θ_run _ _ _).mono (fun r h c => ?_) (Cert.RefAdamInIdeal.Value.run m' g')
  obtain ⟨r0, r1, r2, r3, k⟩ := h c
  obtain ⟨a0, a1, a2, a3, a4, a5, a6, a7⟩ := ha c
  refine ⟨r0.trans ?_, r1.trans ?_, r2.trans ?_, r3.trans ?_, k⟩
  · exact (Opt.Ref.ref_g (by decide) (by decide) _ _ _ _ _ _ _ _ _ _ (a0.trans (Opt.nat3_eq _)) (a4.trans (Opt.nat3_eq _))).trans (Opt.AdamIn.arr_g _ _ m c (Opt.nat3_eq _) (Opt.nat3_eq _)).symm
  · exact (Opt.Ref.ref_d (by decide) (by decide) _ _ _ _ _ _ _ _ _ _ _ _ _ _ _ _ _ (a0.trans (Opt.nat3_eq _)) (a5.trans (Opt.nat3_eq _)) (Opt.AdamIn.first_eq _ _ (a1.trans (Opt.nat3_eq _))) (Opt.AdamIn.first_eq _ _ (a2.trans (Opt.nat3_eq _))) (Opt.AdamIn.first_eq _ _ (a3.trans (Opt.nat3_eq _)))).trans (Opt.AdamIn.arr_d _ _ _ _ _ m c (Opt.nat3_eq _) (Opt.nat3_eq _) (Opt.nat3_eq _) (Opt.nat3_eq _) (Opt.nat3_eq _)).symm
  · exact (Opt.Ref.ref_m (by decide) (by decide) _ _ _ _ _ _ _ _ _ _ _ _ _ (a0.trans (Opt.nat3_eq _)) (a6.trans (Opt.nat3_eq _)) (Opt.AdamIn.first_eq _ _ (a2.trans (Opt.nat3_eq _)))).trans (Opt.AdamIn.arr_m _ _ _ m c (Opt.nat3_eq _) (Opt.nat3_eq _) (Opt.nat3_eq _)).symm
  · exact (Opt.Ref.ref_v (by decide) (by decide) _ _ _ _ _ _ _ _ _ _ _ _ _ (a0.trans (Opt.nat3_eq _)) (a7.trans (Opt.nat3_eq _)) (Opt.AdamIn.first_eq _ _ (a3.trans (Opt.nat3_eq _)))).trans (Opt.AdamIn.arr_v _ _ _ m c (Opt.nat3_eq _) (Opt.nat3_eq _) (Opt.nat3_eq _)).symm

/-- The optimiser step of the first layer of the queries' up-projection: the stacks of the gradient, the step and the two moments are the
    reference's. -/
theorem value_AdamUq : Cert.algebraic_AdamUqIdeal_RefAdamUqIdeal (hAdamUqIdeal := Cert.AdamUqIdeal.Gen.facts) (hRefAdamUqIdeal := Cert.RefAdamUqIdeal.Gen.facts) := by
  intro m g m' g' _ ha
  refine ⟨fun c => (AdamUqIdeal.Gen.dats m 0 c).arrAt 4 AdamUqIdeal.cfg0.N, fun c => (AdamUqIdeal.Gen.dats m 0 c).arrAt 5 AdamUqIdeal.cfg0.N,
    fun c => (AdamUqIdeal.Gen.dats m 0 c).arrAt 6 AdamUqIdeal.cfg0.N, fun c => (AdamUqIdeal.Gen.dats m 0 c).arrAt 7 AdamUqIdeal.cfg0.N, Cert.AdamUqIdeal.Value.run_blocks m g, ?_⟩
  refine (θ_run _ _ _).mono (fun r h c => ?_) (Cert.RefAdamUqIdeal.Value.run m' g')
  obtain ⟨r0, r1, r2, r3, k⟩ := h c
  obtain ⟨a0, a1, a2, a3, a4, a5, a6, a7⟩ := ha c
  refine ⟨r0.trans ?_, r1.trans ?_, r2.trans ?_, r3.trans ?_, k⟩
  · exact (Opt.Ref.ref_g (by decide) (by decide) _ _ _ _ _ _ _ _ _ _ (a0.trans (Opt.nat3_eq _)) (a4.trans (Opt.nat3_eq _))).trans (Opt.AdamUq.arr_g _ _ m c (Opt.nat3_eq _) (Opt.nat3_eq _)).symm
  · exact (Opt.Ref.ref_d (by decide) (by decide) _ _ _ _ _ _ _ _ _ _ _ _ _ _ _ _ _ (a0.trans (Opt.nat3_eq _)) (a5.trans (Opt.nat3_eq _)) (Opt.AdamUq.first_eq _ _ (a1.trans (Opt.nat3_eq _))) (Opt.AdamUq.first_eq _ _ (a2.trans (Opt.nat3_eq _))) (Opt.AdamUq.first_eq _ _ (a3.trans (Opt.nat3_eq _)))).trans (Opt.AdamUq.arr_d _ _ _ _ _ m c (Opt.nat3_eq _) (Opt.nat3_eq _) (Opt.nat3_eq _) (Opt.nat3_eq _) (Opt.nat3_eq _)).symm
  · exact (Opt.Ref.ref_m (by decide) (by decide) _ _ _ _ _ _ _ _ _ _ _ _ _ (a0.trans (Opt.nat3_eq _)) (a6.trans (Opt.nat3_eq _)) (Opt.AdamUq.first_eq _ _ (a2.trans (Opt.nat3_eq _)))).trans (Opt.AdamUq.arr_m _ _ _ m c (Opt.nat3_eq _) (Opt.nat3_eq _) (Opt.nat3_eq _)).symm
  · exact (Opt.Ref.ref_v (by decide) (by decide) _ _ _ _ _ _ _ _ _ _ _ _ _ (a0.trans (Opt.nat3_eq _)) (a7.trans (Opt.nat3_eq _)) (Opt.AdamUq.first_eq _ _ (a3.trans (Opt.nat3_eq _)))).trans (Opt.AdamUq.arr_v _ _ _ m c (Opt.nat3_eq _) (Opt.nat3_eq _) (Opt.nat3_eq _)).symm

/-- The optimiser step of the first layer of the keys' and values' up-projection: the stacks of the gradient, the step and the two moments are the
    reference's. -/
theorem value_AdamUkv : Cert.algebraic_AdamUkvIdeal_RefAdamUkvIdeal (hAdamUkvIdeal := Cert.AdamUkvIdeal.Gen.facts) (hRefAdamUkvIdeal := Cert.RefAdamUkvIdeal.Gen.facts) := by
  intro m g m' g' _ ha
  refine ⟨fun c => (AdamUkvIdeal.Gen.dats m 0 c).arrAt 4 AdamUkvIdeal.cfg0.N, fun c => (AdamUkvIdeal.Gen.dats m 0 c).arrAt 5 AdamUkvIdeal.cfg0.N,
    fun c => (AdamUkvIdeal.Gen.dats m 0 c).arrAt 6 AdamUkvIdeal.cfg0.N, fun c => (AdamUkvIdeal.Gen.dats m 0 c).arrAt 7 AdamUkvIdeal.cfg0.N, Cert.AdamUkvIdeal.Value.run_blocks m g, ?_⟩
  refine (θ_run _ _ _).mono (fun r h c => ?_) (Cert.RefAdamUkvIdeal.Value.run m' g')
  obtain ⟨r0, r1, r2, r3, k⟩ := h c
  obtain ⟨a0, a1, a2, a3, a4, a5, a6, a7⟩ := ha c
  refine ⟨r0.trans ?_, r1.trans ?_, r2.trans ?_, r3.trans ?_, k⟩
  · exact (Opt.Ref.ref_g (by decide) (by decide) _ _ _ _ _ _ _ _ _ _ (a0.trans (Opt.nat3_eq _)) (a4.trans (Opt.nat3_eq _))).trans (Opt.AdamUkv.arr_g _ _ m c (Opt.nat3_eq _) (Opt.nat3_eq _)).symm
  · exact (Opt.Ref.ref_d (by decide) (by decide) _ _ _ _ _ _ _ _ _ _ _ _ _ _ _ _ _ (a0.trans (Opt.nat3_eq _)) (a5.trans (Opt.nat3_eq _)) (Opt.AdamUkv.first_eq _ _ (a1.trans (Opt.nat3_eq _))) (Opt.AdamUkv.first_eq _ _ (a2.trans (Opt.nat3_eq _))) (Opt.AdamUkv.first_eq _ _ (a3.trans (Opt.nat3_eq _)))).trans (Opt.AdamUkv.arr_d _ _ _ _ _ m c (Opt.nat3_eq _) (Opt.nat3_eq _) (Opt.nat3_eq _) (Opt.nat3_eq _) (Opt.nat3_eq _)).symm
  · exact (Opt.Ref.ref_m (by decide) (by decide) _ _ _ _ _ _ _ _ _ _ _ _ _ (a0.trans (Opt.nat3_eq _)) (a6.trans (Opt.nat3_eq _)) (Opt.AdamUkv.first_eq _ _ (a2.trans (Opt.nat3_eq _)))).trans (Opt.AdamUkv.arr_m _ _ _ m c (Opt.nat3_eq _) (Opt.nat3_eq _) (Opt.nat3_eq _)).symm
  · exact (Opt.Ref.ref_v (by decide) (by decide) _ _ _ _ _ _ _ _ _ _ _ _ _ (a0.trans (Opt.nat3_eq _)) (a7.trans (Opt.nat3_eq _)) (Opt.AdamUkv.first_eq _ _ (a3.trans (Opt.nat3_eq _)))).trans (Opt.AdamUkv.arr_v _ _ _ m c (Opt.nat3_eq _) (Opt.nat3_eq _) (Opt.nat3_eq _)).symm

/-- Under the precondition the three results of the softmax attention's gradient are the reference's. -/
theorem value_MlaBwd : Cert.algebraic_MlaBwdIdeal_RefMlaBwdIdeal_pre_finite_mla (hMlaBwdIdeal := Cert.MlaBwdIdeal.Gen.facts)
    (hRefMlaBwdIdeal := Cert.RefMlaBwdIdeal.Gen.facts) (hPre_finite_mla := Cert.Pre_finite_mla.Gen.facts) := by
  intro m g m' g' hp ha
  have hr := fun c => @Cert.Mla.reals Cert.Pre_finite_mla.Gen.facts _ _ _ _ (hp c)
  refine ⟨fun c => (MlaBwdIdeal.Gen.dats m 0 c).arrAt 6 MlaBwdIdeal.cfg0.N, fun c => (MlaBwdIdeal.Gen.dats m 0 c).arrAt 7 MlaBwdIdeal.cfg0.N,
    fun c => (MlaBwdIdeal.Gen.dats m 0 c).arrAt 8 MlaBwdIdeal.cfg0.N, Cert.MlaBwdIdeal.Value.run_blocks m g, ?_⟩
  refine (θ_run _ _ _).mono (fun r h c => ?_) (Cert.RefMlaBwdIdeal.Value.run m' g')
  obtain ⟨⟨QR, h0⟩, ⟨KR, h1⟩, ⟨VR, h2⟩, DR, h3⟩ := hr c
  obtain ⟨r0, r1, r2, r3⟩ := h c
  have a0 := (ha c).1.trans h0
  have a1 := (ha c).2.1.trans h1
  have a2 := (ha c).2.2.1.trans h2
  have a3 := (ha c).2.2.2.trans h3
  have e0 : RefMlaBwdIdeal.Value.res_out0 m' c = Cert.Mla.qDq (up2 QR) (up2 KR) (up2 VR) (up2 DR) :=
    (Cert.Mla.res_dq m' c).trans (congr (congr (congr (congrArg Cert.Mla.qDq a0) a1) a2) a3)
  have e1 : RefMlaBwdIdeal.Value.res_out1 m' c = Cert.Mla.qDk (up2 QR) (up2 KR) (up2 VR) (up2 DR) :=
    (Cert.Mla.res_dk m' c).trans (congr (congr (congr (congrArg Cert.Mla.qDk a0) a1) a2) a3)
  have e2 : RefMlaBwdIdeal.Value.res_out2 m' c = Cert.Mla.qDv (up2 QR) (up2 KR) (up2 DR) :=
    (Cert.Mla.res_dv m' c).trans (congr (congr (congrArg Cert.Mla.qDv a0) a1) a3)
  exact ⟨r0.trans (e0.trans (Cert.Mla.fin_q QR KR VR DR m c h0 h1 h2 h3).symm), r1.trans (e1.trans (Cert.Mla.fin_k QR KR VR DR m c h0 h1 h2 h3).symm),
    r2.trans (e2.trans (Cert.Mla.fin_v QR KR VR DR m c h0 h1 h2 h3).symm), r3⟩

theorem claim : Cert.Claim := ⟨Cert.Kernel.Gen.facts, Cert.KernelIdeal.Gen.facts, Cert.ReferenceIdeal.Gen.facts,
  Cert.Dwn.Gen.facts, Cert.DwnIdeal.Gen.facts, Cert.RefDwnIdeal.Gen.facts,
  Cert.Du.Gen.facts, Cert.DuIdeal.Gen.facts, Cert.RefDuIdeal.Gen.facts,
  Cert.Dy.Gen.facts, Cert.DyIdeal.Gen.facts, Cert.RefDyIdeal.Gen.facts,
  Cert.Dwo.Gen.facts, Cert.DwoIdeal.Gen.facts, Cert.RefDwoIdeal.Gen.facts,
  Cert.Dcq.Gen.facts, Cert.DcqIdeal.Gen.facts, Cert.RefDcqIdeal.Gen.facts,
  Cert.Dwuq.Gen.facts, Cert.DwuqIdeal.Gen.facts, Cert.RefDwuqIdeal.Gen.facts,
  Cert.Dckv.Gen.facts, Cert.DckvIdeal.Gen.facts, Cert.RefDckvIdeal.Gen.facts,
  Cert.Dwukv.Gen.facts, Cert.DwukvIdeal.Gen.facts, Cert.RefDwukvIdeal.Gen.facts,
  Cert.Proj.Gen.facts, Cert.ProjIdeal.Gen.facts, Cert.RefProjIdeal.Gen.facts,
  Cert.UpQ.Gen.facts, Cert.UpQIdeal.Gen.facts, Cert.RefUpQIdeal.Gen.facts,
  Cert.UpKv.Gen.facts, Cert.UpKvIdeal.Gen.facts, Cert.RefUpKvIdeal.Gen.facts,
  Cert.OutProj.Gen.facts, Cert.OutProjIdeal.Gen.facts, Cert.RefOutProjIdeal.Gen.facts,
  Cert.MlaBwd.Gen.facts, Cert.MlaBwdIdeal.Gen.facts, Cert.RefMlaBwdIdeal.Gen.facts,
  Cert.AdamMeta.Gen.facts, Cert.AdamMetaIdeal.Gen.facts, Cert.RefAdamMetaIdeal.Gen.facts, Cert.AdamSmall.Gen.facts, Cert.AdamSmallIdeal.Gen.facts, Cert.RefAdamSmallIdeal.Gen.facts, Cert.SumA.Gen.facts, Cert.SumAIdeal.Gen.facts, Cert.RefSumAIdeal.Gen.facts, Cert.SumB.Gen.facts, Cert.SumBIdeal.Gen.facts, Cert.RefSumBIdeal.Gen.facts, Cert.AdamO.Gen.facts, Cert.AdamOIdeal.Gen.facts, Cert.RefAdamOIdeal.Gen.facts, Cert.AdamIn.Gen.facts, Cert.AdamInIdeal.Gen.facts, Cert.RefAdamInIdeal.Gen.facts, Cert.AdamUq.Gen.facts, Cert.AdamUqIdeal.Gen.facts, Cert.RefAdamUqIdeal.Gen.facts, Cert.AdamUkv.Gen.facts, Cert.AdamUkvIdeal.Gen.facts, Cert.RefAdamUkvIdeal.Gen.facts, Cert.Pre_finite.Gen.facts, Cert.Pre_finite_mla.Gen.facts,
  fun m ρ _ => Cert.Kernel.Gen.frame m ρ, fun m ρ _ => Cert.KernelIdeal.Gen.frame m ρ, fun m ρ _ => Cert.KernelIdeal.Gen.frame m ρ,
  fun m ρ _ => frame_r m ρ, fun m ρ _ => frame_r m ρ,
  fun m ρ _ => Cert.Dwn.Gen.frame m ρ, fun m ρ _ => Cert.DwnIdeal.Gen.frame m ρ, frame_Dwn,
  fun m ρ _ => Cert.Du.Gen.frame m ρ, fun m ρ _ => Cert.DuIdeal.Gen.frame m ρ, frame_Du,
  fun m ρ _ => Cert.Dy.Gen.frame m ρ, fun m ρ _ => Cert.DyIdeal.Gen.frame m ρ, frame_Dy,
  fun m ρ _ => Cert.Dwo.Gen.frame m ρ, fun m ρ _ => Cert.DwoIdeal.Gen.frame m ρ, frame_Dwo,
  fun m ρ _ => Cert.Dcq.Gen.frame m ρ, fun m ρ _ => Cert.DcqIdeal.Gen.frame m ρ, frame_Dcq,
  fun m ρ _ => Cert.Dwuq.Gen.frame m ρ, fun m ρ _ => Cert.DwuqIdeal.Gen.frame m ρ, frame_Dwuq,
  fun m ρ _ => Cert.Dckv.Gen.frame m ρ, fun m ρ _ => Cert.DckvIdeal.Gen.frame m ρ, frame_Dckv,
  fun m ρ _ => Cert.Dwukv.Gen.frame m ρ, fun m ρ _ => Cert.DwukvIdeal.Gen.frame m ρ, frame_Dwukv,
  fun m ρ _ => Cert.Proj.Gen.frame m ρ, fun m ρ _ => Cert.ProjIdeal.Gen.frame m ρ, frame_Proj,
  fun m ρ _ => Cert.UpQ.Gen.frame m ρ, fun m ρ _ => Cert.UpQIdeal.Gen.frame m ρ, frame_UpQ,
  fun m ρ _ => Cert.UpKv.Gen.frame m ρ, fun m ρ _ => Cert.UpKvIdeal.Gen.frame m ρ, frame_UpKv,
  fun m ρ _ => Cert.OutProj.Gen.frame m ρ, fun m ρ _ => Cert.OutProjIdeal.Gen.frame m ρ, frame_OutProj,
  fun m ρ _ => Cert.MlaBwd.Gen.frame m ρ, fun m ρ _ => Cert.MlaBwdIdeal.Gen.frame m ρ, fun m ρ _ => Cert.MlaBwdIdeal.Gen.frame m ρ,
  fun m ρ _ => frame_m m ρ, fun m ρ _ => frame_m m ρ,
  fun m ρ _ => Cert.AdamMeta.Gen.frame m ρ, fun m ρ _ => Cert.AdamMetaIdeal.Gen.frame m ρ, frame_AdamMeta,
  fun m ρ _ => Cert.AdamSmall.Gen.frame m ρ, fun m ρ _ => Cert.AdamSmallIdeal.Gen.frame m ρ, frame_AdamSmall,
  fun m ρ _ => Cert.SumA.Gen.frame m ρ, fun m ρ _ => Cert.SumAIdeal.Gen.frame m ρ, frame_SumA,
  fun m ρ _ => Cert.SumB.Gen.frame m ρ, fun m ρ _ => Cert.SumBIdeal.Gen.frame m ρ, frame_SumB,
  fun m ρ _ => Cert.AdamO.Gen.frame m ρ, fun m ρ _ => Cert.AdamOIdeal.Gen.frame m ρ, frame_AdamO,
  fun m ρ _ => Cert.AdamIn.Gen.frame m ρ, fun m ρ _ => Cert.AdamInIdeal.Gen.frame m ρ, frame_AdamIn,
  fun m ρ _ => Cert.AdamUq.Gen.frame m ρ, fun m ρ _ => Cert.AdamUqIdeal.Gen.frame m ρ, frame_AdamUq,
  fun m ρ _ => Cert.AdamUkv.Gen.frame m ρ, fun m ρ _ => Cert.AdamUkvIdeal.Gen.frame m ρ, frame_AdamUkv,
  trivial, value, trivial, value_Dwn, trivial, value_Du,
  trivial, value_Dy, trivial, value_Dwo, trivial, value_Dcq, trivial, value_Dwuq, trivial, value_Dckv, trivial, value_Dwukv, trivial, value_Proj, trivial, value_UpQ, trivial, value_UpKv, trivial, value_OutProj, trivial, value_MlaBwd, trivial, value_AdamMeta, trivial, value_AdamSmall, trivial, value_SumA, trivial, value_SumB, trivial, value_AdamO, trivial, value_AdamIn, trivial, value_AdamUq, trivial, value_AdamUkv⟩

end Cert.Proof

end
